-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite [hPre_finite : Cert.Pre_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite [hPre_finite : Cert.Pre_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Kernel2Ideal_pre_finite [hKernel2Ideal : Cert.Kernel2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Reference2Ideal_pre_finite [hReference2Ideal : Cert.Reference2Ideal.Facts] [hPre_finite : Cert.Pre_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)) (v2 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite [hKernel2Ideal : Cert.Kernel2Ideal.Facts] [hReference2Ideal : Cert.Reference2Ideal.Facts] [hPre_finite : Cert.Pre_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v46)) (v1 : (c : Dev Cert.Kernel2Ideal.nD) → Buf (Elt Ideal) ((c.tc : Thread Cert.Kernel2Ideal.nD Cert.Kernel2Ideal.τ).loc Cert.Kernel2Ideal.main_v50)) (v2 : (c : Dev Cert.Kernel2Ideal.nD) → Buf (Elt Ideal) ((c.tc : Thread Cert.Kernel2Ideal.nD Cert.Kernel2Ideal.τ).loc Cert.Kernel2Ideal.main_v51)) (v3 : (c : Dev Cert.Kernel2Ideal.nD) → Buf (Elt Ideal) ((c.tc : Thread Cert.Kernel2Ideal.nD Cert.Kernel2Ideal.τ).loc Cert.Kernel2Ideal.main_v53)) (v4 : (c : Dev Cert.Kernel2Ideal.nD) → Buf (Elt Ideal) ((c.tc : Thread Cert.Kernel2Ideal.nD Cert.Kernel2Ideal.τ).loc Cert.Kernel2Ideal.main_v57)) (v5 : (c : Dev Cert.Kernel2Ideal.nD) → Buf (Elt Ideal) ((c.tc : Thread Cert.Kernel2Ideal.nD Cert.Kernel2Ideal.τ).loc Cert.Kernel2Ideal.main_v61)) (v6 : (c : Dev Cert.Kernel2Ideal.nD) → Buf (Elt Ideal) ((c.tc : Thread Cert.Kernel2Ideal.nD Cert.Kernel2Ideal.τ).loc Cert.Kernel2Ideal.main_v66)) (v7 : (c : Dev Cert.Kernel2Ideal.nD) → Buf (Elt Ideal) ((c.tc : Thread Cert.Kernel2Ideal.nD Cert.Kernel2Ideal.τ).loc Cert.Kernel2Ideal.main_v68)) (v8 : (c : Dev Cert.Kernel2Ideal.nD) → Buf (Elt Ideal) ((c.tc : Thread Cert.Kernel2Ideal.nD Cert.Kernel2Ideal.τ).loc Cert.Kernel2Ideal.main_v69)) (v9 : (c : Dev Cert.Kernel2Ideal.nD) → Buf (Elt Ideal) ((c.tc : Thread Cert.Kernel2Ideal.nD Cert.Kernel2Ideal.τ).loc Cert.Kernel2Ideal.main_v70)) (v10 : (c : Dev Cert.Kernel2Ideal.nD) → Buf (Elt Ideal) ((c.tc : Thread Cert.Kernel2Ideal.nD Cert.Kernel2Ideal.τ).loc Cert.Kernel2Ideal.main_v71)) (v11 : (c : Dev Cert.Kernel2Ideal.nD) → Buf (Elt Ideal) ((c.tc : Thread Cert.Kernel2Ideal.nD Cert.Kernel2Ideal.τ).loc Cert.Kernel2Ideal.main_v73)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v46) = v0 c
          ∧ r.2.mem ((c.tc : Thread Cert.Kernel2Ideal.nD Cert.Kernel2Ideal.τ).loc Cert.Kernel2Ideal.main_v50) = v1 c
          ∧ r.2.mem ((c.tc : Thread Cert.Kernel2Ideal.nD Cert.Kernel2Ideal.τ).loc Cert.Kernel2Ideal.main_v51) = v2 c
          ∧ r.2.mem ((c.tc : Thread Cert.Kernel2Ideal.nD Cert.Kernel2Ideal.τ).loc Cert.Kernel2Ideal.main_v53) = v3 c
          ∧ r.2.mem ((c.tc : Thread Cert.Kernel2Ideal.nD Cert.Kernel2Ideal.τ).loc Cert.Kernel2Ideal.main_v57) = v4 c
          ∧ r.2.mem ((c.tc : Thread Cert.Kernel2Ideal.nD Cert.Kernel2Ideal.τ).loc Cert.Kernel2Ideal.main_v61) = v5 c
          ∧ r.2.mem ((c.tc : Thread Cert.Kernel2Ideal.nD Cert.Kernel2Ideal.τ).loc Cert.Kernel2Ideal.main_v66) = v6 c
          ∧ r.2.mem ((c.tc : Thread Cert.Kernel2Ideal.nD Cert.Kernel2Ideal.τ).loc Cert.Kernel2Ideal.main_v68) = v7 c
          ∧ r.2.mem ((c.tc : Thread Cert.Kernel2Ideal.nD Cert.Kernel2Ideal.τ).loc Cert.Kernel2Ideal.main_v69) = v8 c
          ∧ r.2.mem ((c.tc : Thread Cert.Kernel2Ideal.nD Cert.Kernel2Ideal.τ).loc Cert.Kernel2Ideal.main_v70) = v9 c
          ∧ r.2.mem ((c.tc : Thread Cert.Kernel2Ideal.nD Cert.Kernel2Ideal.τ).loc Cert.Kernel2Ideal.main_v71) = v10 c
          ∧ r.2.mem ((c.tc : Thread Cert.Kernel2Ideal.nD Cert.Kernel2Ideal.τ).loc Cert.Kernel2Ideal.main_v73) = v11 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v170) = v0 c
          ∧ r.2.mem ((c.tc : Thread Cert.Reference2Ideal.nD Cert.Reference2Ideal.τ).loc Cert.Reference2Ideal.main_v199) = v1 c
          ∧ r.2.mem ((c.tc : Thread Cert.Reference2Ideal.nD Cert.Reference2Ideal.τ).loc Cert.Reference2Ideal.main_v229) = v2 c
          ∧ r.2.mem ((c.tc : Thread Cert.Reference2Ideal.nD Cert.Reference2Ideal.τ).loc Cert.Reference2Ideal.main_v184) = v3 c
          ∧ r.2.mem ((c.tc : Thread Cert.Reference2Ideal.nD Cert.Reference2Ideal.τ).loc Cert.Reference2Ideal.main_v171) = v4 c
          ∧ r.2.mem ((c.tc : Thread Cert.Reference2Ideal.nD Cert.Reference2Ideal.τ).loc Cert.Reference2Ideal.main_v291) = v5 c
          ∧ r.2.mem ((c.tc : Thread Cert.Reference2Ideal.nD Cert.Reference2Ideal.τ).loc Cert.Reference2Ideal.main_v290) = v6 c
          ∧ r.2.mem ((c.tc : Thread Cert.Reference2Ideal.nD Cert.Reference2Ideal.τ).loc Cert.Reference2Ideal.main_v286) = v7 c
          ∧ r.2.mem ((c.tc : Thread Cert.Reference2Ideal.nD Cert.Reference2Ideal.τ).loc Cert.Reference2Ideal.main_v275) = v8 c
          ∧ r.2.mem ((c.tc : Thread Cert.Reference2Ideal.nD Cert.Reference2Ideal.τ).loc Cert.Reference2Ideal.main_v271) = v9 c
          ∧ r.2.mem ((c.tc : Thread Cert.Reference2Ideal.nD Cert.Reference2Ideal.τ).loc Cert.Reference2Ideal.main_v270) = v10 c
          ∧ r.2.mem ((c.tc : Thread Cert.Reference2Ideal.nD Cert.Reference2Ideal.τ).loc Cert.Reference2Ideal.main_v223) = v11 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v147)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v147) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v147) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite (hKernel2Ideal := hKernel2Ideal) (hPre_finite := hPre_finite)
    ∧ quiescent_Reference2Ideal (hReference2Ideal := hReference2Ideal)
    ∧ quiescent_Reference2Ideal_pre_finite (hReference2Ideal := hReference2Ideal) (hPre_finite := hPre_finite)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite (hKernel2Ideal := hKernel2Ideal) (hReference2Ideal := hReference2Ideal) (hPre_finite := hPre_finite)
    ∧ preserves_Kernel3_Kernel3Ideal
    ∧ algebraic_Kernel3Ideal_Reference3Ideal (hKernel3Ideal := hKernel3Ideal) (hReference3Ideal := hReference3Ideal)
-- ==== Pre_finite.lean ====
abbrev S1x4096x1024 : Shape := ⟨3, ![1, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x31x1024 : Shape := ⟨3, ![1, 31, 1024]⟩
abbrev S1x1024x1024 : Shape := ⟨3, ![1, 1024, 1024]⟩
abbrev S1x3x1024 : Shape := ⟨3, ![1, 3, 1024]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  reducesTo_S1x4096x1024_S_d0_1_2 : S1x4096x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1x1024x9216 : S_.BroadcastsInDim S1x1024x9216 (![] : Fin 0 → Fin S1x1024x9216.rank)
  reducesTo_S1x1024x9216_S_d0_1_2 : S1x1024x9216.ReducesTo [0, 1, 2] S_
  bcast_S_S1x31x1024 : S_.BroadcastsInDim S1x31x1024 (![] : Fin 0 → Fin S1x31x1024.rank)
  reducesTo_S1x31x1024_S_d0_1_2 : S1x31x1024.ReducesTo [0, 1, 2] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1x3x1024 : S_.BroadcastsInDim S1x3x1024 (![] : Fin 0 → Fin S1x3x1024.rank)
  reducesTo_S1x3x1024_S_d0_1_2 : S1x3x1024.ReducesTo [0, 1, 2] S_
  bcast_S_S1024 : S_.BroadcastsInDim S1024 (![] : Fin 0 → Fin S1024.rank)
  reducesTo_S1024_S_d0 : S1024.ReducesTo [0] S_

variable [Facts]

def fn_part4 {F : FTy → Type} [FloatOps F] (main_v31 : IVec S_ 1) (main_v35 : IVec S_ 1) (main_v39 : IVec S_ 1) (main_v43 : IVec S_ 1) (main_v47 : IVec S_ 1) (main_v51 : IVec S_ 1) (main_v55 : IVec S_ 1) (main_v59 : IVec S_ 1) (main_v65 : IVec S_ 1) : IVec S_ 1 :=
  let main_v66 : IVec S_ 1 := andi main_v65 main_v31
  let main_v67 : IVec S_ 1 := andi main_v66 main_v35
  let main_v68 : IVec S_ 1 := andi main_v67 main_v39
  let main_v69 : IVec S_ 1 := andi main_v68 main_v43
  let main_v70 : IVec S_ 1 := andi main_v69 main_v47
  let main_v71 : IVec S_ 1 := andi main_v70 main_v51
  let main_v72 : IVec S_ 1 := andi main_v71 main_v55
  let main_v73 : IVec S_ 1 := andi main_v72 main_v59
  main_v73

def fn_part3 {F : FTy → Type} [FloatOps F] (main_arg12 : FVec F S1x1024x1024 .f32) (main_arg13 : FVec F S1024 .f32) (main_arg14 : FVec F S1x4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v47 : IVec S_ 1) : IVec S_ 1 :=
  let main_v48 : FVec F S1x1024x1024 .f32 := Host.absf main_arg12
  let main_cst_22 : FVec F S_ .f32 := constant S_ .f32 0x7F800000#32
  let main_v49 : FVec F S1x1024x1024 .f32 := broadcastInDim S1x1024x1024 ![] bcast_S_S1x1024x1024 main_cst_22
  let main_v50 : IVec S1x1024x1024 1 := cmpf .olt main_v48 main_v49
  let main_c_23 : IVec S_ 1 := constantI S_ 1 1#1
  let main_v51 : IVec S_ 1 := (fun x v => Host.reduce IntOp.andi x v reducesTo_S1x1024x1024_S_d0_1_2 h_S_) main_v50 main_c_23
  let main_v52 : FVec F S1024 .f32 := Host.absf main_arg13
  let main_cst_24 : FVec F S_ .f32 := constant S_ .f32 0x7F800000#32
  let main_v53 : FVec F S1024 .f32 := broadcastInDim S1024 ![] bcast_S_S1024 main_cst_24
  let main_v54 : IVec S1024 1 := cmpf .olt main_v52 main_v53
  let main_c_25 : IVec S_ 1 := constantI S_ 1 1#1
  let main_v55 : IVec S_ 1 := (fun x v => Host.reduce IntOp.andi x v reducesTo_S1024_S_d0 h_S_) main_v54 main_c_25
  let main_v56 : FVec F S1x4096x1024 .f32 := Host.absf main_arg14
  let main_cst_26 : FVec F S_ .f32 := constant S_ .f32 0x7F800000#32
  let main_v57 : FVec F S1x4096x1024 .f32 := broadcastInDim S1x4096x1024 ![] bcast_S_S1x4096x1024 main_cst_26
  let main_v58 : IVec S1x4096x1024 1 := cmpf .olt main_v56 main_v57
  let main_c_27 : IVec S_ 1 := constantI S_ 1 1#1
  let main_v59 : IVec S_ 1 := (fun x v => Host.reduce IntOp.andi x v reducesTo_S1x4096x1024_S_d0_1_2 h_S_) main_v58 main_c_27
  let main_v60 : IVec S_ 1 := andi main_v3 main_v7
  let main_v61 : IVec S_ 1 := andi main_v60 main_v11
  let main_v62 : IVec S_ 1 := andi main_v61 main_v15
  let main_v63 : IVec S_ 1 := andi main_v62 main_v19
  let main_v64 : IVec S_ 1 := andi main_v63 main_v23
  let main_v65 : IVec S_ 1 := andi main_v64 main_v27
  fn_part4 (F := F) main_v31 main_v35 main_v39 main_v43 main_v47 main_v51 main_v55 main_v59 main_v65

def fn_part2 {F : FTy → Type} [FloatOps F] (main_arg8 : FVec F S1x1024x1024 .f32) (main_arg9 : FVec F S1x1024 .f32) (main_arg10 : FVec F S1x3x1024 .f32) (main_arg11 : FVec F S1x1024x1024 .f32) (main_arg12 : FVec F S1x1024x1024 .f32) (main_arg13 : FVec F S1024 .f32) (main_arg14 : FVec F S1x4096x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S1x1024x1024 .f32 := Host.absf main_arg8
  let main_cst_14 : FVec F S_ .f32 := constant S_ .f32 0x7F800000#32
  let main_v33 : FVec F S1x1024x1024 .f32 := broadcastInDim S1x1024x1024 ![] bcast_S_S1x1024x1024 main_cst_14
  let main_v34 : IVec S1x1024x1024 1 := cmpf .olt main_v32 main_v33
  let main_c_15 : IVec S_ 1 := constantI S_ 1 1#1
  let main_v35 : IVec S_ 1 := (fun x v => Host.reduce IntOp.andi x v reducesTo_S1x1024x1024_S_d0_1_2 h_S_) main_v34 main_c_15
  let main_v36 : FVec F S1x1024 .f32 := Host.absf main_arg9
  let main_cst_16 : FVec F S_ .f32 := constant S_ .f32 0x7F800000#32
  let main_v37 : FVec F S1x1024 .f32 := broadcastInDim S1x1024 ![] bcast_S_S1x1024 main_cst_16
  let main_v38 : IVec S1x1024 1 := cmpf .olt main_v36 main_v37
  let main_c_17 : IVec S_ 1 := constantI S_ 1 1#1
  let main_v39 : IVec S_ 1 := (fun x v => Host.reduce IntOp.andi x v reducesTo_S1x1024_S_d0_1 h_S_) main_v38 main_c_17
  let main_v40 : FVec F S1x3x1024 .f32 := Host.absf main_arg10
  let main_cst_18 : FVec F S_ .f32 := constant S_ .f32 0x7F800000#32
  let main_v41 : FVec F S1x3x1024 .f32 := broadcastInDim S1x3x1024 ![] bcast_S_S1x3x1024 main_cst_18
  let main_v42 : IVec S1x3x1024 1 := cmpf .olt main_v40 main_v41
  let main_c_19 : IVec S_ 1 := constantI S_ 1 1#1
  let main_v43 : IVec S_ 1 := (fun x v => Host.reduce IntOp.andi x v reducesTo_S1x3x1024_S_d0_1_2 h_S_) main_v42 main_c_19
  let main_v44 : FVec F S1x1024x1024 .f32 := Host.absf main_arg11
  let main_cst_20 : FVec F S_ .f32 := constant S_ .f32 0x7F800000#32
  let main_v45 : FVec F S1x1024x1024 .f32 := broadcastInDim S1x1024x1024 ![] bcast_S_S1x1024x1024 main_cst_20
  let main_v46 : IVec S1x1024x1024 1 := cmpf .olt main_v44 main_v45
  let main_c_21 : IVec S_ 1 := constantI S_ 1 1#1
  let main_v47 : IVec S_ 1 := (fun x v => Host.reduce IntOp.andi x v reducesTo_S1x1024x1024_S_d0_1_2 h_S_) main_v46 main_c_21
  fn_part3 (F := F) main_arg12 main_arg13 main_arg14 main_v3 main_v7 main_v11 main_v15 main_v19 main_v23 main_v27 main_v31 main_v35 main_v39 main_v43 main_v47

def fn_part1 {F : FTy → Type} [FloatOps F] (main_arg4 : FVec F S1x31x1024 .f32) (main_arg5 : FVec F S1x1024 .f32) (main_arg6 : FVec F S1x1024 .f32) (main_arg7 : FVec F S1x1024 .f32) (main_arg8 : FVec F S1x1024x1024 .f32) (main_arg9 : FVec F S1x1024 .f32) (main_arg10 : FVec F S1x3x1024 .f32) (main_arg11 : FVec F S1x1024x1024 .f32) (main_arg12 : FVec F S1x1024x1024 .f32) (main_arg13 : FVec F S1024 .f32) (main_arg14 : FVec F S1x4096x1024 .f32) (main_v3 : IVec S_ 1) (main_v7 : IVec S_ 1) (main_v11 : IVec S_ 1) (main_v15 : IVec S_ 1) : IVec S_ 1 :=
  let main_v16 : FVec F S1x31x1024 .f32 := Host.absf main_arg4
  let main_cst_6 : FVec F S_ .f32 := constant S_ .f32 0x7F800000#32
  let main_v17 : FVec F S1x31x1024 .f32 := broadcastInDim S1x31x1024 ![] bcast_S_S1x31x1024 main_cst_6
  let main_v18 : IVec S1x31x1024 1 := cmpf .olt main_v16 main_v17
  let main_c_7 : IVec S_ 1 := constantI S_ 1 1#1
  let main_v19 : IVec S_ 1 := (fun x v => Host.reduce IntOp.andi x v reducesTo_S1x31x1024_S_d0_1_2 h_S_) main_v18 main_c_7
  let main_v20 : FVec F S1x1024 .f32 := Host.absf main_arg5
  let main_cst_8 : FVec F S_ .f32 := constant S_ .f32 0x7F800000#32
  let main_v21 : FVec F S1x1024 .f32 := broadcastInDim S1x1024 ![] bcast_S_S1x1024 main_cst_8
  let main_v22 : IVec S1x1024 1 := cmpf .olt main_v20 main_v21
  let main_c_9 : IVec S_ 1 := constantI S_ 1 1#1
  let main_v23 : IVec S_ 1 := (fun x v => Host.reduce IntOp.andi x v reducesTo_S1x1024_S_d0_1 h_S_) main_v22 main_c_9
  let main_v24 : FVec F S1x1024 .f32 := Host.absf main_arg6
  let main_cst_10 : FVec F S_ .f32 := constant S_ .f32 0x7F800000#32
  let main_v25 : FVec F S1x1024 .f32 := broadcastInDim S1x1024 ![] bcast_S_S1x1024 main_cst_10
  let main_v26 : IVec S1x1024 1 := cmpf .olt main_v24 main_v25
  let main_c_11 : IVec S_ 1 := constantI S_ 1 1#1
  let main_v27 : IVec S_ 1 := (fun x v => Host.reduce IntOp.andi x v reducesTo_S1x1024_S_d0_1 h_S_) main_v26 main_c_11
  let main_v28 : FVec F S1x1024 .f32 := Host.absf main_arg7
  let main_cst_12 : FVec F S_ .f32 := constant S_ .f32 0x7F800000#32
  let main_v29 : FVec F S1x1024 .f32 := broadcastInDim S1x1024 ![] bcast_S_S1x1024 main_cst_12
  let main_v30 : IVec S1x1024 1 := cmpf .olt main_v28 main_v29
  let main_c_13 : IVec S_ 1 := constantI S_ 1 1#1
  let main_v31 : IVec S_ 1 := (fun x v => Host.reduce IntOp.andi x v reducesTo_S1x1024_S_d0_1 h_S_) main_v30 main_c_13
  fn_part2 (F := F) main_arg8 main_arg9 main_arg10 main_arg11 main_arg12 main_arg13 main_arg14 main_v3 main_v7 main_v11 main_v15 main_v19 main_v23 main_v27 main_v31

def fn {F : FTy → Type} [FloatOps F] (main_arg0 : FVec F S1x4096x1024 .f32) (main_arg1 : FVec F S16x1024 .f32) (main_arg2 : FVec F S1x1024 .f32) (main_arg3 : FVec F S1x1024x9216 .f32) (main_arg4 : FVec F S1x31x1024 .f32) (main_arg5 : FVec F S1x1024 .f32) (main_arg6 : FVec F S1x1024 .f32) (main_arg7 : FVec F S1x1024 .f32) (main_arg8 : FVec F S1x1024x1024 .f32) (main_arg9 : FVec F S1x1024 .f32) (main_arg10 : FVec F S1x3x1024 .f32) (main_arg11 : FVec F S1x1024x1024 .f32) (main_arg12 : FVec F S1x1024x1024 .f32) (main_arg13 : FVec F S1024 .f32) (main_arg14 : FVec F S1x4096x1024 .f32) : IVec S_ 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_c : IVec S_ 1 := constantI S_ 1 1#1
  let main_v3 : IVec S_ 1 := (fun x v => Host.reduce IntOp.andi x v reducesTo_S1x4096x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1x1024x9216 .f32 := Host.absf main_arg3
  let main_cst_4 : FVec F S_ .f32 := constant S_ .f32 0x7F800000#32
  let main_v13 : FVec F S1x1024x9216 .f32 := broadcastInDim S1x1024x9216 ![] bcast_S_S1x1024x9216 main_cst_4
  let main_v14 : IVec S1x1024x9216 1 := cmpf .olt main_v12 main_v13
  let main_c_5 : IVec S_ 1 := constantI S_ 1 1#1
  let main_v15 : IVec S_ 1 := (fun x v => Host.reduce IntOp.andi x v reducesTo_S1x1024x9216_S_d0_1_2 h_S_) main_v14 main_c_5
  fn_part1 (F := F) main_arg4 main_arg5 main_arg6 main_arg7 main_arg8 main_arg9 main_arg10 main_arg11 main_arg12 main_arg13 main_arg14 main_v3 main_v7 main_v11 main_v15
-- ==== Kernel.lean ====
abbrev S1x4096x1024 : Shape := ⟨3, ![1, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x4112x9216 : Shape := ⟨3, ![1, 4112, 9216]⟩
abbrev S1x4112x1024 : Shape := ⟨3, ![1, 4112, 1024]⟩
abbrev S4096x1024 : Shape := ⟨2, ![4096, 1024]⟩
abbrev S_ : Shape := ⟨0, ![]⟩
abbrev S112x1024 : Shape := ⟨2, ![112, 1024]⟩
abbrev S128x1024 : Shape := ⟨2, ![128, 1024]⟩
abbrev S1024x9216 : Shape := ⟨2, ![1024, 9216]⟩
abbrev S1024x8x1152 : Shape := ⟨3, ![1024, 8, 1152]⟩
abbrev S8x1024x1152 : Shape := ⟨3, ![8, 1024, 1152]⟩
abbrev S1x4096x9216 : Shape := ⟨3, ![1, 4096, 9216]⟩
abbrev S4096x9216 : Shape := ⟨2, ![4096, 9216]⟩
abbrev S112x9216 : Shape := ⟨2, ![112, 9216]⟩
abbrev S1x16x9216 : Shape := ⟨3, ![1, 16, 9216]⟩
abbrev S16x9216 : Shape := ⟨2, ![16, 9216]⟩
abbrev S4224x9216 : Shape := ⟨2, ![4224, 9216]⟩
abbrev S1x16x1024 : Shape := ⟨3, ![1, 16, 1024]⟩
abbrev S4224x1024 : Shape := ⟨2, ![4224, 1024]⟩
abbrev S8x128 : Shape := ⟨2, ![8, 128]⟩
abbrev S24x1024 : Shape := ⟨2, ![24, 1024]⟩
abbrev S512x9216 : Shape := ⟨2, ![512, 9216]⟩
abbrev S512x1024 : Shape := ⟨2, ![512, 1024]⟩
abbrev S128x9216 : Shape := ⟨2, ![128, 9216]⟩
abbrev S512x1152 : Shape := ⟨2, ![512, 1152]⟩
abbrev S1x1024x1152 : Shape := ⟨3, ![1, 1024, 1152]⟩
abbrev S1024x1152 : Shape := ⟨2, ![1024, 1152]⟩
abbrev S512x128 : Shape := ⟨2, ![512, 128]⟩
abbrev S512 : Shape := ⟨1, ![512]⟩
abbrev S512x1 : Shape := ⟨2, ![512, 1]⟩
abbrev S1024 : Shape := ⟨1, ![1024]⟩
abbrev S128x1152 : Shape := ⟨2, ![128, 1152]⟩
abbrev S128x128 : Shape := ⟨2, ![128, 128]⟩
abbrev S128 : Shape := ⟨1, ![128]⟩
abbrev S128x1 : Shape := ⟨2, ![128, 1]⟩

abbrev nBuf : Space → Nat
  | .hbm => 36
  | .vmem => 15
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S1x1024x9216, .f32⟩
  | .hbm, ⟨4, _⟩ => ⟨S1x4112x9216, .f32⟩
  | .hbm, ⟨5, _⟩ => ⟨S1x4112x1024, .f32⟩
  | .hbm, ⟨6, _⟩ => ⟨S4096x1024, .f32⟩
  | .hbm, ⟨7, _⟩ => ⟨S_, .f32⟩
  | .hbm, ⟨8, _⟩ => ⟨S112x1024, .f32⟩
  | .hbm, ⟨9, _⟩ => ⟨S128x1024, .f32⟩
  | .hbm, ⟨10, _⟩ => ⟨S1024x9216, .f32⟩
  | .hbm, ⟨11, _⟩ => ⟨S1024x9216, .bf16⟩
  | .hbm, ⟨12, _⟩ => ⟨S1024x8x1152, .bf16⟩
  | .hbm, ⟨13, _⟩ => ⟨S8x1024x1152, .bf16⟩
  | .hbm, ⟨14, _⟩ => ⟨S1x4096x9216, .f32⟩
  | .hbm, ⟨15, _⟩ => ⟨S4096x9216, .f32⟩
  | .hbm, ⟨16, _⟩ => ⟨S_, .f32⟩
  | .hbm, ⟨17, _⟩ => ⟨S112x9216, .f32⟩
  | .hbm, ⟨18, _⟩ => ⟨S1x16x9216, .f32⟩
  | .hbm, ⟨19, _⟩ => ⟨S16x9216, .f32⟩
  | .hbm, ⟨20, _⟩ => ⟨S4224x9216, .f32⟩
  | .hbm, ⟨21, _⟩ => ⟨S4224x9216, .bf16⟩
  | .hbm, ⟨22, _⟩ => ⟨S1x4096x1024, .f32⟩
  | .hbm, ⟨23, _⟩ => ⟨S4096x1024, .f32⟩
  | .hbm, ⟨24, _⟩ => ⟨S_, .f32⟩
  | .hbm, ⟨25, _⟩ => ⟨S112x1024, .f32⟩
  | .hbm, ⟨26, _⟩ => ⟨S1x16x1024, .f32⟩
  | .hbm, ⟨27, _⟩ => ⟨S16x1024, .f32⟩
  | .hbm, ⟨28, _⟩ => ⟨S4224x1024, .f32⟩
  | .hbm, ⟨29, _⟩ => ⟨S_, .f32⟩
  | .hbm, ⟨30, _⟩ => ⟨S8x128, .f32⟩
  | .hbm, ⟨31, _⟩ => ⟨S4096x1024, .f32⟩
  | .hbm, ⟨32, _⟩ => ⟨S24x1024, .f32⟩
  | .hbm, ⟨33, _⟩ => ⟨S1x4096x1024, .f32⟩
  | .hbm, ⟨34, _⟩ => ⟨S16x1024, .f32⟩
  | .hbm, ⟨35, _⟩ => ⟨S1x1024, .f32⟩
  | .local _ .vmem, ⟨0, _⟩ => ⟨S512x9216, .bf16⟩
  | .local _ .vmem, ⟨1, _⟩ => ⟨S512x9216, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S128x9216, .bf16⟩
  | .local _ .vmem, ⟨7, _⟩ => ⟨S128x1024, .f32⟩
  | .local _ .vmem, ⟨8, _⟩ => ⟨S128x1024, .f32⟩
  | .local _ .vmem, ⟨9, _⟩ => ⟨S1x1024, .f32⟩
  | .local _ .vmem, ⟨10, _⟩ => ⟨S8x1024x1152, .bf16⟩
  | .local _ .vmem, ⟨11, _⟩ => ⟨S512x1024, .f32⟩
  | .local _ .vmem, ⟨12, _⟩ => ⟨S512x1024, .f32⟩
  | .local _ .vmem, ⟨13, _⟩ => ⟨S24x1024, .f32⟩
  | .local _ .vmem, ⟨14, _⟩ => ⟨S128x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21_0 : Ref sig .tc := ⟨.hbm, 31, rfl⟩
abbrev main_v21_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c32_i32 : BitVec 32 := 32#32
  let c0_i32 : BitVec 32 := 0#32
  let c0_i32_0 : BitVec 32 := 0#32
  ![c32_i32.toNat, c0_i32.toNat]

def cc0_transform_4 (i : grid0.Coords) : Fin 2 → Nat :=
  let arg0 : BitVec 32 := BitVec.ofNat 32 (i 0).val
  let c32_i32 : BitVec 32 := 32#32
  let c0_i32 : BitVec 32 := 0#32
  let c0_i32_0 : BitVec 32 := 0#32
  ![c32_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x9216 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x1152 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S24x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x4096x1024 : Shape := ⟨3, ![1, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x4112x9216 : Shape := ⟨3, ![1, 4112, 9216]⟩
abbrev S1x4112x1024 : Shape := ⟨3, ![1, 4112, 1024]⟩
abbrev S1x16x1024 : Shape := ⟨3, ![1, 16, 1024]⟩
abbrev S1024 : Shape := ⟨1, ![1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1024x9216 : Shape := ⟨2, ![1024, 9216]⟩
abbrev S4112 : Shape := ⟨1, ![4112]⟩

abbrev nBuf : Space → Nat
  | .hbm => 64
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S1x1024x9216, .f32⟩
  | .hbm, ⟨4, _⟩ => ⟨S1x4112x9216, .f32⟩
  | .hbm, ⟨5, _⟩ => ⟨S1x4112x1024, .f32⟩
  | .hbm, ⟨6, _⟩ => ⟨S1x16x1024, .f32⟩
  | .hbm, ⟨7, _⟩ => ⟨S1x4112x1024, .f32⟩
  | .hbm, ⟨8, _⟩ => ⟨S1024, .f32⟩
  | .hbm, ⟨9, _⟩ => ⟨S1x4112x1024, .f32⟩
  | .hbm, ⟨10, _⟩ => ⟨S_, .f32⟩
  | .hbm, ⟨11, _⟩ => ⟨S1x4112, .f32⟩
  | .hbm, ⟨12, _⟩ => ⟨S1x4112x1, .f32⟩
  | .hbm, ⟨13, _⟩ => ⟨S_, .f32⟩
  | .hbm, ⟨14, _⟩ => ⟨S1x4112x1, .f32⟩
  | .hbm, ⟨15, _⟩ => ⟨S1x4112x1, .f32⟩
  | .hbm, ⟨16, _⟩ => ⟨S_, .f32⟩
  | .hbm, ⟨17, _⟩ => ⟨S1x4112x1, .f32⟩
  | .hbm, ⟨18, _⟩ => ⟨S1x4112x1, .f32⟩
  | .hbm, ⟨19, _⟩ => ⟨S1x4112x1, .f32⟩
  | .hbm, ⟨20, _⟩ => ⟨S1x4112x1, .f32⟩
  | .hbm, ⟨21, _⟩ => ⟨S_, .f32⟩
  | .hbm, ⟨22, _⟩ => ⟨S1x4112x1, .f32⟩
  | .hbm, ⟨23, _⟩ => ⟨S1x4112x1, .f32⟩
  | .hbm, ⟨24, _⟩ => ⟨S1x4112x1024, .f32⟩
  | .hbm, ⟨25, _⟩ => ⟨S1x4112x1024, .f32⟩
  | .hbm, ⟨26, _⟩ => ⟨S1x1x1024, .f32⟩
  | .hbm, ⟨27, _⟩ => ⟨S1x4112x1024, .f32⟩
  | .hbm, ⟨28, _⟩ => ⟨S1x4112x1024, .f32⟩
  | .hbm, ⟨29, _⟩ => ⟨S1024x9216, .f32⟩
  | .hbm, ⟨30, _⟩ => ⟨S1x4112x9216, .f32⟩
  | .hbm, ⟨31, _⟩ => ⟨S1x4112x1024, .f32⟩
  | .hbm, ⟨32, _⟩ => ⟨S1x4112x1024, .f32⟩
  | .hbm, ⟨33, _⟩ => ⟨S_, .f32⟩
  | .hbm, ⟨34, _⟩ => ⟨S1x1024, .f32⟩
  | .hbm, ⟨35, _⟩ => ⟨S1x1x1024, .f32⟩
  | .hbm, ⟨36, _⟩ => ⟨S1x4112x1024, .f32⟩
  | .hbm, ⟨37, _⟩ => ⟨S1x4112x1024, .f32⟩
  | .hbm, ⟨38, _⟩ => ⟨S_, .f32⟩
  | .hbm, ⟨39, _⟩ => ⟨S1024, .f32⟩
  | .hbm, ⟨40, _⟩ => ⟨S1x4112x1024, .f32⟩
  | .hbm, ⟨41, _⟩ => ⟨S_, .f32⟩
  | .hbm, ⟨42, _⟩ => ⟨S1x4112, .f32⟩
  | .hbm, ⟨43, _⟩ => ⟨S1x4112x1, .f32⟩
  | .hbm, ⟨44, _⟩ => ⟨S1x4112x1024, .f32⟩
  | .hbm, ⟨45, _⟩ => ⟨S1x4112x1024, .f32⟩
  | .hbm, ⟨46, _⟩ => ⟨S1x4112x1024, .f32⟩
  | .hbm, ⟨47, _⟩ => ⟨S1x4112x1, .f32⟩
  | .hbm, ⟨48, _⟩ => ⟨S_, .f32⟩
  | .hbm, ⟨49, _⟩ => ⟨S1x4112x1, .f32⟩
  | .hbm, ⟨50, _⟩ => ⟨S1x4112x1, .f32⟩
  | .hbm, ⟨51, _⟩ => ⟨S_, .f32⟩
  | .hbm, ⟨52, _⟩ => ⟨S4112, .f32⟩
  | .hbm, ⟨53, _⟩ => ⟨S1x4112, .f32⟩
  | .hbm, ⟨54, _⟩ => ⟨S1x4112x1024, .f32⟩
  | .hbm, ⟨55, _⟩ => ⟨S1x4112x1024, .f32⟩
  | .hbm, ⟨56, _⟩ => ⟨S1x4112x1024, .f32⟩
  | .hbm, ⟨57, _⟩ => ⟨S1x4112x1024, .f32⟩
  | .hbm, ⟨58, _⟩ => ⟨S1x4112x1024, .f32⟩
  | .hbm, ⟨59, _⟩ => ⟨S1x1024, .f32⟩
  | .hbm, ⟨60, _⟩ => ⟨S1x16x1024, .f32⟩
  | .hbm, ⟨61, _⟩ => ⟨S1x4096x1024, .f32⟩
  | .hbm, ⟨62, _⟩ => ⟨S_, .f32⟩
  | .hbm, ⟨63, _⟩ => ⟨S16x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_cst_7 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_8 : Ref sig .tc := ⟨.hbm, 62, rfl⟩
abbrev main_v47 : Ref sig .tc := ⟨.hbm, 63, rfl⟩

abbrev nD : Nat := 1
abbrev τ : Topo := Topo.v7x

variable {F : FTy → Type} [FloatOps F]
-- ==== Kernel2.lean ====
abbrev S1x4096x1024 : Shape := ⟨3, ![1, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x31x1024 : Shape := ⟨3, ![1, 31, 1024]⟩
abbrev S1x1024x1024 : Shape := ⟨3, ![1, 1024, 1024]⟩
abbrev S1x3x1024 : Shape := ⟨3, ![1, 3, 1024]⟩
abbrev S1024 : Shape := ⟨1, ![1024]⟩
abbrev S1x16x1024 : Shape := ⟨3, ![1, 16, 1024]⟩
abbrev S1x4112x1024 : Shape := ⟨3, ![1, 4112, 1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1024x9216 : Shape := ⟨2, ![1024, 9216]⟩
abbrev S1x4112x9216 : Shape := ⟨3, ![1, 4112, 9216]⟩
abbrev S1x4096x9216 : Shape := ⟨3, ![1, 4096, 9216]⟩
abbrev S4096x9216 : Shape := ⟨2, ![4096, 9216]⟩
abbrev S112x9216 : Shape := ⟨2, ![112, 9216]⟩
abbrev S1x16x9216 : Shape := ⟨3, ![1, 16, 9216]⟩
abbrev S16x9216 : Shape := ⟨2, ![16, 9216]⟩
abbrev S4224x9216 : Shape := ⟨2, ![4224, 9216]⟩
abbrev S112x1024 : Shape := ⟨2, ![112, 1024]⟩
abbrev S128x1024 : Shape := ⟨2, ![128, 1024]⟩
abbrev S1024x1024 : Shape := ⟨2, ![1024, 1024]⟩
abbrev S4096x1024 : Shape := ⟨2, ![4096, 1024]⟩
abbrev S31x1024 : Shape := ⟨2, ![31, 1024]⟩
abbrev S32x1024 : Shape := ⟨2, ![32, 1024]⟩
abbrev S3x1024 : Shape := ⟨2, ![3, 1024]⟩
abbrev S5x1024 : Shape := ⟨2, ![5, 1024]⟩
abbrev S8x1024 : Shape := ⟨2, ![8, 1024]⟩
abbrev S4224x1024 : Shape := ⟨2, ![4224, 1024]⟩
abbrev S3x4224x1024 : Shape := ⟨3, ![3, 4224, 1024]⟩
abbrev S48x1024 : Shape := ⟨2, ![48, 1024]⟩
abbrev S128x9216 : Shape := ⟨2, ![128, 9216]⟩
abbrev S128x2048 : Shape := ⟨2, ![128, 2048]⟩
abbrev S3x128x1024 : Shape := ⟨3, ![3, 128, 1024]⟩
abbrev S2x160x1024 : Shape := ⟨3, ![2, 160, 1024]⟩
abbrev S2x136x1024 : Shape := ⟨3, ![2, 136, 1024]⟩
abbrev S128x5120 : Shape := ⟨2, ![128, 5120]⟩
abbrev S256x1024 : Shape := ⟨2, ![256, 1024]⟩
abbrev S64x1024 : Shape := ⟨2, ![64, 1024]⟩
abbrev S8x160x128 : Shape := ⟨3, ![8, 160, 128]⟩
abbrev S128x3072 : Shape := ⟨2, ![128, 3072]⟩
abbrev S128x128 : Shape := ⟨2, ![128, 128]⟩
abbrev S1x32x128 : Shape := ⟨3, ![1, 32, 128]⟩
abbrev S32x128 : Shape := ⟨2, ![32, 128]⟩
abbrev S1x128x128 : Shape := ⟨3, ![1, 128, 128]⟩
abbrev S1x128 : Shape := ⟨2, ![1, 128]⟩
abbrev S1x152x128 : Shape := ⟨3, ![1, 152, 128]⟩
abbrev S152x128 : Shape := ⟨2, ![152, 128]⟩
abbrev S1x8x128 : Shape := ⟨3, ![1, 8, 128]⟩
abbrev S8x128 : Shape := ⟨2, ![8, 128]⟩
abbrev S128 : Shape := ⟨1, ![128]⟩
abbrev S128x1 : Shape := ⟨2, ![128, 1]⟩
abbrev S1x128x1024 : Shape := ⟨3, ![1, 128, 1024]⟩
abbrev S1x32x1024 : Shape := ⟨3, ![1, 32, 1024]⟩
abbrev S1x8x1024 : Shape := ⟨3, ![1, 8, 1024]⟩
abbrev S1x144x128 : Shape := ⟨3, ![1, 144, 128]⟩
abbrev S144x128 : Shape := ⟨2, ![144, 128]⟩
abbrev S4112x1024 : Shape := ⟨2, ![4112, 1024]⟩
abbrev S3x16x1024 : Shape := ⟨3, ![3, 16, 1024]⟩
abbrev S3x4096x1024 : Shape := ⟨3, ![3, 4096, 1024]⟩
abbrev S3x4112x1024 : Shape := ⟨3, ![3, 4112, 1024]⟩
abbrev S4112x9216 : Shape := ⟨2, ![4112, 9216]⟩

abbrev nBuf : Space → Nat
  | .hbm => 101
  | .vmem => 45
  | .smem => 0
  | _ => 0

abbrev bufTy : (tb : Table) → Fin (tcTables nBuf tb) → BufTy
  | .hbm, ⟨0, _⟩ => ⟨S1x4096x1024, .f32⟩
  | .hbm, ⟨1, _⟩ => ⟨S16x1024, .f32⟩
  | .hbm, ⟨2, _⟩ => ⟨S1x1024, .f32⟩
  | .hbm, ⟨3, _⟩ => ⟨S1x1024x9216, .f32⟩
  | .hbm, ⟨4, _⟩ => ⟨S1x31x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024x1024, .f32⟩
  | .hbm, ⟨9, _⟩ => ⟨S1x1024, .f32⟩
  | .hbm, ⟨10, _⟩ => ⟨S1x3x1024, .f32⟩
  | .hbm, ⟨11, _⟩ => ⟨S1x1024x1024, .f32⟩
  | .hbm, ⟨12, _⟩ => ⟨S1x1024x1024, .f32⟩
  | .hbm, ⟨13, _⟩ => ⟨S1024, .f32⟩
  | .hbm, ⟨14, _⟩ => ⟨S1x4096x1024, .f32⟩
  | .hbm, ⟨15, _⟩ => ⟨S1x16x1024, .f32⟩
  | .hbm, ⟨16, _⟩ => ⟨S1x4112x1024, .f32⟩
  | .hbm, ⟨17, _⟩ => ⟨S1024, .f32⟩
  | .hbm, ⟨18, _⟩ => ⟨S1x4112x1024, .f32⟩
  | .hbm, ⟨19, _⟩ => ⟨S_, .f32⟩
  | .hbm, ⟨20, _⟩ => ⟨S1x4112, .f32⟩
  | .hbm, ⟨21, _⟩ => ⟨S1x4112x1, .f32⟩
  | .hbm, ⟨22, _⟩ => ⟨S_, .f32⟩
  | .hbm, ⟨23, _⟩ => ⟨S1x4112x1, .f32⟩
  | .hbm, ⟨24, _⟩ => ⟨S1x4112x1, .f32⟩
  | .hbm, ⟨25, _⟩ => ⟨S_, .f32⟩
  | .hbm, ⟨26, _⟩ => ⟨S1x4112x1, .f32⟩
  | .hbm, ⟨27, _⟩ => ⟨S1x4112x1, .f32⟩
  | .hbm, ⟨28, _⟩ => ⟨S1x4112x1, .f32⟩
  | .hbm, ⟨29, _⟩ => ⟨S1x4112x1024, .f32⟩
  | .hbm, ⟨30, _⟩ => ⟨S1x4112x1024, .f32⟩
  | .hbm, ⟨31, _⟩ => ⟨S1x1x1024, .f32⟩
  | .hbm, ⟨32, _⟩ => ⟨S1x4112x1024, .f32⟩
  | .hbm, ⟨33, _⟩ => ⟨S1x4112x1024, .f32⟩
  | .hbm, ⟨34, _⟩ => ⟨S1024x9216, .f32⟩
  | .hbm, ⟨35, _⟩ => ⟨S1x4112x9216, .f32⟩
  | .hbm, ⟨36, _⟩ => ⟨S1x4096x9216, .f32⟩
  | .hbm, ⟨37, _⟩ => ⟨S4096x9216, .f32⟩
  | .hbm, ⟨38, _⟩ => ⟨S_, .f32⟩
  | .hbm, ⟨39, _⟩ => ⟨S112x9216, .f32⟩
  | .hbm, ⟨40, _⟩ => ⟨S1x16x9216, .f32⟩
  | .hbm, ⟨41, _⟩ => ⟨S16x9216, .f32⟩
  | .hbm, ⟨42, _⟩ => ⟨S4224x9216, .f32⟩
  | .hbm, ⟨43, _⟩ => ⟨S_, .f32⟩
  | .hbm, ⟨44, _⟩ => ⟨S112x1024, .f32⟩
  | .hbm, ⟨45, _⟩ => ⟨S128x1024, .f32⟩
  | .hbm, ⟨46, _⟩ => ⟨S1024x1024, .f32⟩
  | .hbm, ⟨47, _⟩ => ⟨S1024x1024, .bf16⟩
  | .hbm, ⟨48, _⟩ => ⟨S1024x1024, .f32⟩
  | .hbm, ⟨49, _⟩ => ⟨S1024x1024, .bf16⟩
  | .hbm, ⟨50, _⟩ => ⟨S1024x1024, .f32⟩
  | .hbm, ⟨51, _⟩ => ⟨S1024x1024, .bf16⟩
  | .hbm, ⟨52, _⟩ => ⟨S4096x1024, .f32⟩
  | .hbm, ⟨53, _⟩ => ⟨S4096x1024, .f32⟩
  | .hbm, ⟨54, _⟩ => ⟨S31x1024, .f32⟩
  | .hbm, ⟨55, _⟩ => ⟨S_, .f32⟩
  | .hbm, ⟨56, _⟩ => ⟨S1x1024, .f32⟩
  | .hbm, ⟨57, _⟩ => ⟨S32x1024, .f32⟩
  | .hbm, ⟨58, _⟩ => ⟨S3x1024, .f32⟩
  | .hbm, ⟨59, _⟩ => ⟨S_, .f32⟩
  | .hbm, ⟨60, _⟩ => ⟨S5x1024, .f32⟩
  | .hbm, ⟨61, _⟩ => ⟨S8x1024, .f32⟩
  | .hbm, ⟨62, _⟩ => ⟨S1x1024, .f32⟩
  | .hbm, ⟨63, _⟩ => ⟨S1024x1024, .bf16⟩
  | .hbm, ⟨64, _⟩ => ⟨S1024x1024, .bf16⟩
  | .hbm, ⟨65, _⟩ => ⟨S1024x1024, .bf16⟩
  | .hbm, ⟨66, _⟩ => ⟨S4224x9216, .bf16⟩
  | .hbm, ⟨67, _⟩ => ⟨S4224x1024, .f32⟩
  | .hbm, ⟨68, _⟩ => ⟨S3x4224x1024, .bf16⟩
  | .hbm, ⟨69, _⟩ => ⟨S3x4224x1024, .bf16⟩
  | .hbm, ⟨70, _⟩ => ⟨S48x1024, .f32⟩
  | .hbm, ⟨71, _⟩ => ⟨S1x1024, .f32⟩
  | .hbm, ⟨72, _⟩ => ⟨S_, .f32⟩
  | .hbm, ⟨73, _⟩ => ⟨S_, .f32⟩
  | .hbm, ⟨74, _⟩ => ⟨S16x1024, .f32⟩
  | .hbm, ⟨75, _⟩ => ⟨S4096x1024, .f32⟩
  | .hbm, ⟨76, _⟩ => ⟨S4112x1024, .f32⟩
  | .hbm, ⟨77, _⟩ => ⟨S1x4112x1024, .f32⟩
  | .hbm, ⟨78, _⟩ => ⟨S1x1024, .f32⟩
  | .hbm, ⟨79, _⟩ => ⟨S1x1024, .f32⟩
  | .hbm, ⟨80, _⟩ => ⟨S1024, .f32⟩
  | .hbm, ⟨81, _⟩ => ⟨S3x16x1024, .bf16⟩
  | .hbm, ⟨82, _⟩ => ⟨S3x4096x1024, .bf16⟩
  | .hbm, ⟨83, _⟩ => ⟨S3x4112x1024, .bf16⟩
  | .hbm, ⟨84, _⟩ => ⟨S3x4112x1024, .f32⟩
  | .hbm, ⟨85, _⟩ => ⟨S3x16x1024, .bf16⟩
  | .hbm, ⟨86, _⟩ => ⟨S3x4096x1024, .bf16⟩
  | .hbm, ⟨87, _⟩ => ⟨S3x4112x1024, .bf16⟩
  | .hbm, ⟨88, _⟩ => ⟨S3x4112x1024, .f32⟩
  | .hbm, ⟨89, _⟩ => ⟨S16x9216, .bf16⟩
  | .hbm, ⟨90, _⟩ => ⟨S4096x9216, .bf16⟩
  | .hbm, ⟨91, _⟩ => ⟨S4112x9216, .bf16⟩
  | .hbm, ⟨92, _⟩ => ⟨S1x4112x9216, .bf16⟩
  | .hbm, ⟨93, _⟩ => ⟨S1x4112x9216, .f32⟩
  | .hbm, ⟨94, _⟩ => ⟨S31x1024, .f32⟩
  | .hbm, ⟨95, _⟩ => ⟨S1x31x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S3x1024, .f32⟩
  | .hbm, ⟨100, _⟩ => ⟨S1x3x1024, .f32⟩
  | .local _ .vmem, ⟨0, _⟩ => ⟨S128x9216, .f32⟩
  | .local _ .vmem, ⟨1, _⟩ => ⟨S128x9216, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S32x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S8x1024, .f32⟩
  | .local _ .vmem, ⟨17, _⟩ => ⟨S1x1024, .f32⟩
  | .local _ .vmem, ⟨18, _⟩ => ⟨S1024x1024, .bf16⟩
  | .local _ .vmem, ⟨19, _⟩ => ⟨S1024x1024, .bf16⟩
  | .local _ .vmem, ⟨20, _⟩ => ⟨S1024x1024, .bf16⟩
  | .local _ .vmem, ⟨21, _⟩ => ⟨S1024x1024, .bf16⟩
  | .local _ .vmem, ⟨22, _⟩ => ⟨S1024x1024, .bf16⟩
  | .local _ .vmem, ⟨23, _⟩ => ⟨S1024x1024, .bf16⟩
  | .local _ .vmem, ⟨24, _⟩ => ⟨S128x9216, .bf16⟩
  | .local _ .vmem, ⟨25, _⟩ => ⟨S128x9216, .bf16⟩
  | .local _ .vmem, ⟨26, _⟩ => ⟨S128x1024, .f32⟩
  | .local _ .vmem, ⟨27, _⟩ => ⟨S128x1024, .f32⟩
  | .local _ .vmem, ⟨28, _⟩ => ⟨S3x128x1024, .bf16⟩
  | .local _ .vmem, ⟨29, _⟩ => ⟨S3x128x1024, .bf16⟩
  | .local _ .vmem, ⟨30, _⟩ => ⟨S3x128x1024, .bf16⟩
  | .local _ .vmem, ⟨31, _⟩ => ⟨S3x128x1024, .bf16⟩
  | .local _ .vmem, ⟨32, _⟩ => ⟨S48x1024, .f32⟩
  | .local _ .vmem, ⟨33, _⟩ => ⟨S2x160x1024, .f32⟩
  | .local _ .vmem, ⟨34, _⟩ => ⟨S2x136x1024, .f32⟩
  | .local _ .vmem, ⟨35, _⟩ => ⟨S2x160x1024, .f32⟩
  | .local _ .vmem, ⟨36, _⟩ => ⟨S2x136x1024, .f32⟩
  | .local _ .vmem, ⟨37, _⟩ => ⟨S128x5120, .bf16⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S256x1024, .f32⟩
  | .local _ .vmem, ⟨43, _⟩ => ⟨S64x1024, .f32⟩
  | .local _ .vmem, ⟨44, _⟩ => ⟨S8x160x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44_0 : Ref sig .tc := ⟨.hbm, 66, rfl⟩
abbrev main_v44_1 : Ref sig .tc := ⟨.hbm, 67, rfl⟩
abbrev main_v44_2 : Ref sig .tc := ⟨.hbm, 68, rfl⟩
abbrev main_v44_3 : Ref sig .tc := ⟨.hbm, 69, rfl⟩
abbrev main_v44_4 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg18_0 : Ref sig .tc := ⟨.vmem, 23, rfl⟩
abbrev cc0_stg19_0 : Ref sig .tc := ⟨.vmem, 24, rfl⟩
abbrev cc0_stg19_1 : Ref sig .tc := ⟨.vmem, 25, rfl⟩
abbrev cc0_stg20_0 : Ref sig .tc := ⟨.vmem, 26, rfl⟩
abbrev cc0_stg20_1 : Ref sig .tc := ⟨.vmem, 27, rfl⟩
abbrev cc0_stg21_0 : Ref sig .tc := ⟨.vmem, 28, rfl⟩
abbrev cc0_stg21_1 : Ref sig .tc := ⟨.vmem, 29, rfl⟩
abbrev cc0_stg22_0 : Ref sig .tc := ⟨.vmem, 30, rfl⟩
abbrev cc0_stg22_1 : Ref sig .tc := ⟨.vmem, 31, rfl⟩
abbrev cc0_stg23_0 : Ref sig .tc := ⟨.vmem, 32, rfl⟩
abbrev cc0_scratch0 : Ref sig .tc := ⟨.vmem, 33, rfl⟩
abbrev cc0_scratch1 : Ref sig .tc := ⟨.vmem, 34, rfl⟩
abbrev cc0_scratch2 : Ref sig .tc := ⟨.vmem, 35, rfl⟩
abbrev cc0_scratch3 : Ref sig .tc := ⟨.vmem, 36, rfl⟩
abbrev cc0_scratch4 : Ref sig .tc := ⟨.vmem, 37, rfl⟩
abbrev cc0_scratch5 : Ref sig .tc := ⟨.vmem, 38, rfl⟩
abbrev cc0_scratch6 : Ref sig .tc := ⟨.vmem, 39, rfl⟩
abbrev cc0_scratch7 : Ref sig .tc := ⟨.vmem, 40, rfl⟩
abbrev cc0_scratch8 : Ref sig .tc := ⟨.vmem, 41, rfl⟩
abbrev cc0_scratch9 : Ref sig .tc := ⟨.vmem, 42, rfl⟩
abbrev cc0_scratch10 : Ref sig .tc := ⟨.vmem, 43, rfl⟩
abbrev cc0_scratch11 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem18_0 : DmaSem sig := 23
abbrev cc0_sem19_0 : DmaSem sig := 24
abbrev cc0_sem19_1 : DmaSem sig := 25
abbrev cc0_sem20_0 : DmaSem sig := 26
abbrev cc0_sem20_1 : DmaSem sig := 27
abbrev cc0_sem21_0 : DmaSem sig := 28
abbrev cc0_sem21_1 : DmaSem sig := 29
abbrev cc0_sem22_0 : DmaSem sig := 30
abbrev cc0_sem22_1 : DmaSem sig := 31
abbrev cc0_sem23_0 : DmaSem sig := 32

abbrev nD : Nat := 1
abbrev τ : Topo := Topo.v7x

variable {F : FTy → Type} [FloatOps F]

abbrev grid0 : Pipeline.Grid := ⟨1, ![34], ![false]⟩

def k0_cond3 (i : grid0.Coords) : BitVec 1 :=
  let arg0 : BitVec 32 := BitVec.ofNat 32 (i 0).val
  let c33_i32 : BitVec 32 := 33#32
  let v27 : BitVec 1 := Scalar.cmpi .slt arg0 c33_i32
  let v28 : BitVec 32 := Scalar.extui v27
  let c0_i32_14 : BitVec 32 := 0#32
  let v29 : BitVec 1 := Scalar.cmpi .ne v28 c0_i32_14
  v29

@[reducible] def k0_t1_loop : Scf.Loop 32 :=
  let c0_i32_21 : BitVec 32 := 0#32
  let c8_i32 : BitVec 32 := 8#32
  let v39 : BitVec 32 := Scalar.addi c0_i32_21 c8_i32
  let c1_i32_22 : BitVec 32 := 1#32
  ⟨c0_i32_21, v39, c1_i32_22⟩
def k0_mult1 (k0_t1 : Fin k0_t1_loop.trips) : BitVec 32 :=
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  v415
def k0_mult2 (k0_t1 : Fin k0_t1_loop.trips) : BitVec 32 :=
  let c0_i32_165 : BitVec 32 := 0#32
  let c0_i32_21 : BitVec 32 := 0#32
  let c1_i32_22 : BitVec 32 := 1#32
  let arg37 : BitVec 32 := Scf.iv c0_i32_21 c1_i32_22 k0_t1
  let c128_i32_164 : BitVec 32 := 128#32
  let v417 : BitVec 32 := Scalar.muli arg37 c128_i32_164
  let v418 : BitVec 32 := Scalar.addi c0_i32_165 v417
  v418
def k0_off1 (k0_t1 : Fin k0_t1_loop.trips) (c0_i32_165 : BitVec 32) : Fin 2 → Nat :=
  let c0_166 : Index := 0#32
  let c0_i32_21 : BitVec 32 := 0#32
  let c1_i32_22 : BitVec 32 := 1#32
  let arg37 : BitVec 32 := Scf.iv c0_i32_21 c1_i32_22 k0_t1
  let c128_i32_164 : BitVec 32 := 128#32
  let v417 : BitVec 32 := Scalar.muli arg37 c128_i32_164
  let v418 : BitVec 32 := Scalar.addi c0_i32_165 v417
  let v419 : BitVec 32 := v418
  let v420 : Index := Scalar.indexCast v419
  ![0, v420.toNat]
def k0_off1_at (r : Fin 4) : BitVec 32 :=
  if r.val < 2 then
    if r.val < 1 then
      0#32
    else
      1024#32
  else
    if r.val < 3 then
      4096#32
    else
      5120#32
def k0_mult3 (k0_t1 : Fin k0_t1_loop.trips) : BitVec 32 :=
  let c1024_i32 : BitVec 32 := 1024#32
  let c0_i32_21 : BitVec 32 := 0#32
  let c1_i32_22 : BitVec 32 := 1#32
  let arg37 : BitVec 32 := Scf.iv c0_i32_21 c1_i32_22 k0_t1
  let c128_i32_167 : BitVec 32 := 128#32
  let v423 : BitVec 32 := Scalar.muli arg37 c128_i32_167
  let v424 : BitVec 32 := Scalar.addi c1024_i32 v423
  v424
def k0_off2 (i : grid0.Coords) (k0_t1 : Fin k0_t1_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v431 : Index := Scalar.indexCast v20
  let c128_169 : Index := 128#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v432 : Index := Scalar.indexCast v416
  ![v431.toNat, 128, v432.toNat]
def k0_off3 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v435 : Index := Scalar.indexCast v9
  let c0_170 : Index := 0#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v436 : Index := Scalar.indexCast v416
  ![v435.toNat, 0, v436.toNat]
def k0_off4 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v440 : Index := Scalar.indexCast v9
  let c32 : Index := 32#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v441 : Index := Scalar.indexCast v416
  ![v440.toNat, 32, v441.toNat]
def k0_off5 (k0_t1 : Fin k0_t1_loop.trips) : Fin 2 → Nat :=
  let c0_171 : Index := 0#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v445 : Index := Scalar.indexCast v416
  ![0, v445.toNat]
def k0_off6 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v449 : Index := Scalar.indexCast v9
  let c8 : Index := 8#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v450 : Index := Scalar.indexCast v416
  ![v449.toNat, 8, v450.toNat]
def k0_off7 (k0_t1 : Fin k0_t1_loop.trips) : Fin 2 → Nat :=
  let c6 : Index := 6#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v453 : Index := Scalar.indexCast v416
  ![6, v453.toNat]
def k0_off8 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v459 : Index := Scalar.indexCast v9
  let c16 : Index := 16#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v460 : Index := Scalar.indexCast v416
  ![v459.toNat, 16, v460.toNat]
def k0_off9 (k0_t1 : Fin k0_t1_loop.trips) : Fin 2 → Nat :=
  let c14 : Index := 14#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v463 : Index := Scalar.indexCast v416
  ![14, v463.toNat]
def k0_off10 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v469 : Index := Scalar.indexCast v9
  let c24 : Index := 24#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v470 : Index := Scalar.indexCast v416
  ![v469.toNat, 24, v470.toNat]
def k0_off11 (k0_t1 : Fin k0_t1_loop.trips) : Fin 2 → Nat :=
  let c22 : Index := 22#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v473 : Index := Scalar.indexCast v416
  ![22, v473.toNat]
def k0_off12 (k0_t1 : Fin k0_t1_loop.trips) : Fin 2 → Nat :=
  let c30 : Index := 30#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v483 : Index := Scalar.indexCast v416
  ![30, v483.toNat]
def k0_off13 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v489 : Index := Scalar.indexCast v9
  let c1_173 : Index := 1#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v490 : Index := Scalar.indexCast v416
  ![v489.toNat, 1, v490.toNat]
def k0_off14 (k0_t1 : Fin k0_t1_loop.trips) : Fin 2 → Nat :=
  let c7 : Index := 7#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v498 : Index := Scalar.indexCast v416
  ![7, v498.toNat]
def k0_off15 (k0_t1 : Fin k0_t1_loop.trips) : Fin 2 → Nat :=
  let c15 : Index := 15#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v506 : Index := Scalar.indexCast v416
  ![15, v506.toNat]
def k0_off16 (k0_t1 : Fin k0_t1_loop.trips) : Fin 2 → Nat :=
  let c23 : Index := 23#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v514 : Index := Scalar.indexCast v416
  ![23, v514.toNat]
def k0_off17 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v520 : Index := Scalar.indexCast v9
  let c2_186 : Index := 2#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v521 : Index := Scalar.indexCast v416
  ![v520.toNat, 2, v521.toNat]
def k0_off18 (k0_t1 : Fin k0_t1_loop.trips) : Fin 2 → Nat :=
  let c0_193 : Index := 0#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v529 : Index := Scalar.indexCast v416
  ![0, v529.toNat]
def k0_off19 (k0_t1 : Fin k0_t1_loop.trips) : Fin 2 → Nat :=
  let c8_197 : Index := 8#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v537 : Index := Scalar.indexCast v416
  ![8, v537.toNat]
def k0_off20 (k0_t1 : Fin k0_t1_loop.trips) : Fin 2 → Nat :=
  let c16_201 : Index := 16#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v545 : Index := Scalar.indexCast v416
  ![16, v545.toNat]
def k0_off21 (k0_t1 : Fin k0_t1_loop.trips) : Fin 2 → Nat :=
  let c24_205 : Index := 24#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v553 : Index := Scalar.indexCast v416
  ![24, v553.toNat]
def k0_off22 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v559 : Index := Scalar.indexCast v9
  let c3_206 : Index := 3#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v560 : Index := Scalar.indexCast v416
  ![v559.toNat, 3, v560.toNat]
def k0_off23 (k0_t1 : Fin k0_t1_loop.trips) : Fin 2 → Nat :=
  let c1_213 : Index := 1#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v568 : Index := Scalar.indexCast v416
  ![1, v568.toNat]
def k0_off24 (k0_t1 : Fin k0_t1_loop.trips) : Fin 2 → Nat :=
  let c9 : Index := 9#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v576 : Index := Scalar.indexCast v416
  ![9, v576.toNat]
def k0_off25 (k0_t1 : Fin k0_t1_loop.trips) : Fin 2 → Nat :=
  let c17 : Index := 17#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v584 : Index := Scalar.indexCast v416
  ![17, v584.toNat]
def k0_off26 (k0_t1 : Fin k0_t1_loop.trips) : Fin 2 → Nat :=
  let c25 : Index := 25#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v592 : Index := Scalar.indexCast v416
  ![25, v592.toNat]
def k0_off27 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v598 : Index := Scalar.indexCast v9
  let c4_223 : Index := 4#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v599 : Index := Scalar.indexCast v416
  ![v598.toNat, 4, v599.toNat]
def k0_off28 (k0_t1 : Fin k0_t1_loop.trips) : Fin 2 → Nat :=
  let c2_230 : Index := 2#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v607 : Index := Scalar.indexCast v416
  ![2, v607.toNat]
def k0_off29 (k0_t1 : Fin k0_t1_loop.trips) : Fin 2 → Nat :=
  let c10 : Index := 10#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v615 : Index := Scalar.indexCast v416
  ![10, v615.toNat]
def k0_off30 (k0_t1 : Fin k0_t1_loop.trips) : Fin 2 → Nat :=
  let c18 : Index := 18#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v623 : Index := Scalar.indexCast v416
  ![18, v623.toNat]
def k0_off31 (k0_t1 : Fin k0_t1_loop.trips) : Fin 2 → Nat :=
  let c26 : Index := 26#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v631 : Index := Scalar.indexCast v416
  ![26, v631.toNat]
def k0_off32 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v637 : Index := Scalar.indexCast v9
  let c5_240 : Index := 5#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v638 : Index := Scalar.indexCast v416
  ![v637.toNat, 5, v638.toNat]
def k0_off33 (k0_t1 : Fin k0_t1_loop.trips) : Fin 2 → Nat :=
  let c3_247 : Index := 3#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v646 : Index := Scalar.indexCast v416
  ![3, v646.toNat]
def k0_off34 (k0_t1 : Fin k0_t1_loop.trips) : Fin 2 → Nat :=
  let c11 : Index := 11#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v654 : Index := Scalar.indexCast v416
  ![11, v654.toNat]
def k0_off35 (k0_t1 : Fin k0_t1_loop.trips) : Fin 2 → Nat :=
  let c19 : Index := 19#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v662 : Index := Scalar.indexCast v416
  ![19, v662.toNat]
def k0_off36 (k0_t1 : Fin k0_t1_loop.trips) : Fin 2 → Nat :=
  let c27 : Index := 27#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v670 : Index := Scalar.indexCast v416
  ![27, v670.toNat]
def k0_off37 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v676 : Index := Scalar.indexCast v9
  let c6_257 : Index := 6#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v677 : Index := Scalar.indexCast v416
  ![v676.toNat, 6, v677.toNat]
def k0_off38 (k0_t1 : Fin k0_t1_loop.trips) : Fin 2 → Nat :=
  let c4_264 : Index := 4#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v685 : Index := Scalar.indexCast v416
  ![4, v685.toNat]
def k0_off39 (k0_t1 : Fin k0_t1_loop.trips) : Fin 2 → Nat :=
  let c12 : Index := 12#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v693 : Index := Scalar.indexCast v416
  ![12, v693.toNat]
def k0_off40 (k0_t1 : Fin k0_t1_loop.trips) : Fin 2 → Nat :=
  let c20 : Index := 20#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v701 : Index := Scalar.indexCast v416
  ![20, v701.toNat]
def k0_off41 (k0_t1 : Fin k0_t1_loop.trips) : Fin 2 → Nat :=
  let c28 : Index := 28#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v709 : Index := Scalar.indexCast v416
  ![28, v709.toNat]
def k0_off42 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v715 : Index := Scalar.indexCast v9
  let c7_274 : Index := 7#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v716 : Index := Scalar.indexCast v416
  ![v715.toNat, 7, v716.toNat]
def k0_off43 (k0_t1 : Fin k0_t1_loop.trips) : Fin 2 → Nat :=
  let c5_281 : Index := 5#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v724 : Index := Scalar.indexCast v416
  ![5, v724.toNat]
def k0_off44 (k0_t1 : Fin k0_t1_loop.trips) : Fin 2 → Nat :=
  let c13 : Index := 13#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v732 : Index := Scalar.indexCast v416
  ![13, v732.toNat]
def k0_off45 (k0_t1 : Fin k0_t1_loop.trips) : Fin 2 → Nat :=
  let c21 : Index := 21#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v740 : Index := Scalar.indexCast v416
  ![21, v740.toNat]
def k0_off46 (k0_t1 : Fin k0_t1_loop.trips) : Fin 2 → Nat :=
  let c29 : Index := 29#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v748 : Index := Scalar.indexCast v416
  ![29, v748.toNat]
def k0_off47 (k0_t1 : Fin k0_t1_loop.trips) : Fin 2 → Nat :=
  let c0_291 : Index := 0#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v754 : Index := Scalar.indexCast v416
  ![0, v754.toNat]
def k0_mult4 (k0_t1 : Fin k0_t1_loop.trips) : BitVec 32 :=
  let c4096_i32 : BitVec 32 := 4096#32
  let c0_i32_21 : BitVec 32 := 0#32
  let c1_i32_22 : BitVec 32 := 1#32
  let arg37 : BitVec 32 := Scf.iv c0_i32_21 c1_i32_22 k0_t1
  let c128_i32_292 : BitVec 32 := 128#32
  let v758 : BitVec 32 := Scalar.muli arg37 c128_i32_292
  let v759 : BitVec 32 := Scalar.addi c4096_i32 v758
  v759
def k0_mult5 (k0_t1 : Fin k0_t1_loop.trips) : BitVec 32 :=
  let c5120_i32 : BitVec 32 := 5120#32
  let c0_i32_21 : BitVec 32 := 0#32
  let c1_i32_22 : BitVec 32 := 1#32
  let arg37 : BitVec 32 := Scf.iv c0_i32_21 c1_i32_22 k0_t1
  let c128_i32_294 : BitVec 32 := 128#32
  let v764 : BitVec 32 := Scalar.muli arg37 c128_i32_294
  let v765 : BitVec 32 := Scalar.addi c5120_i32 v764
  v765
def k0_off48 (i : grid0.Coords) (k0_t1 : Fin k0_t1_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v771 : Index := Scalar.indexCast v20
  let c128_296 : Index := 128#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v772 : Index := Scalar.indexCast v416
  ![v771.toNat, 128, v772.toNat]
def k0_off49 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v775 : Index := Scalar.indexCast v9
  let c0_297 : Index := 0#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v776 : Index := Scalar.indexCast v416
  ![v775.toNat, 0, v776.toNat]
def k0_off50 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v780 : Index := Scalar.indexCast v9
  let c8_298 : Index := 8#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v781 : Index := Scalar.indexCast v416
  ![v780.toNat, 8, v781.toNat]
def k0_off51 (k0_t1 : Fin k0_t1_loop.trips) : Fin 2 → Nat :=
  let c0_299 : Index := 0#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v785 : Index := Scalar.indexCast v416
  ![0, v785.toNat]
def k0_off52 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v788 : Index := Scalar.indexCast v9
  let c6_300 : Index := 6#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v789 : Index := Scalar.indexCast v416
  ![v788.toNat, 6, v789.toNat]
def k0_off53 (k0_t1 : Fin k0_t1_loop.trips) : Fin 2 → Nat :=
  let c1_301 : Index := 1#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v794 : Index := Scalar.indexCast v416
  ![1, v794.toNat]
def k0_off54 (i : grid0.Coords) (k0_t1 : Fin k0_t1_loop.trips) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v797 : Index := Scalar.indexCast v9
  let c7_302 : Index := 7#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v798 : Index := Scalar.indexCast v416
  ![v797.toNat, 7, v798.toNat]
def k0_off55 (k0_t1 : Fin k0_t1_loop.trips) : Fin 2 → Nat :=
  let c2_303 : Index := 2#32
  let c0_i32_21 : BitVec 32 := 0#32
  let c1_i32_22 : BitVec 32 := 1#32
  let arg37 : BitVec 32 := Scf.iv c0_i32_21 c1_i32_22 k0_t1
  let c128_i32 : BitVec 32 := 128#32
  let v415 : BitVec 32 := Scalar.muli arg37 c128_i32
  let v416 : BitVec 32 := v415
  let v804 : Index := Scalar.indexCast v416
  ![2, v804.toNat]
def k0_off56 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v379 : Index := Scalar.indexCast v9
  let c0_151 : Index := 0#32
  let c0_152 : Index := 0#32
  ![v379.toNat, 0, 0]
def k0_off57 (i : grid0.Coords) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v384 : Index := Scalar.indexCast v20
  let c128 : Index := 128#32
  let c0_153 : Index := 0#32
  ![v384.toNat, 128, 0]
def k0_off58 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v406 : Index := Scalar.indexCast v9
  let c0_160 : Index := 0#32
  let c0_161 : Index := 0#32
  ![v406.toNat, 0, 0]
def k0_off59 (i : grid0.Coords) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v411 : Index := Scalar.indexCast v20
  let c128_162 : Index := 128#32
  let c0_163 : Index := 0#32
  ![v411.toNat, 128, 0]
def k0_cond4 (i : grid0.Coords) : BitVec 1 :=
  let arg0 : BitVec 32 := BitVec.ofNat 32 (i 0).val
  let c33_i32_15 : BitVec 32 := 33#32
  let v30 : BitVec 1 := Scalar.cmpi .eq arg0 c33_i32_15
  let v31 : BitVec 32 := Scalar.extui v30
  let c0_i32_16 : BitVec 32 := 0#32
  let v32 : BitVec 1 := Scalar.cmpi .ne v31 c0_i32_16
  v32

def k0_off60 (i : grid0.Coords) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v40 : Index := Scalar.indexCast v20
  let c128 : Index := 128#32
  let c0 : Index := 0#32
  ![v40.toNat, 128, 0]
def k0_off61 (i : grid0.Coords) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v45 : Index := Scalar.indexCast v20
  let c128_22 : Index := 128#32
  let c0_23 : Index := 0#32
  ![v45.toNat, 128, 0]
def k0_cond5 (i : grid0.Coords) : BitVec 1 :=
  let arg0 : BitVec 32 := BitVec.ofNat 32 (i 0).val
  let c1_i32_17 : BitVec 32 := 1#32
  let v33 : BitVec 1 := Scalar.cmpi .sge arg0 c1_i32_17
  let v34 : BitVec 32 := Scalar.extui v33
  let c0_i32_18 : BitVec 32 := 0#32
  let v35 : BitVec 1 := Scalar.cmpi .ne v34 c0_i32_18
  v35

@[reducible] def k0_t2_loop : Scf.Loop 32 :=
  let c0_i32_21 : BitVec 32 := 0#32
  let c8_i32 : BitVec 32 := 8#32
  let v39 : BitVec 32 := Scalar.addi c0_i32_21 c8_i32
  let c1_i32_22 : BitVec 32 := 1#32
  ⟨c0_i32_21, v39, c1_i32_22⟩
def k0_mult6 (k0_t2 : Fin k0_t2_loop.trips) : BitVec 32 :=
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  v40
def k0_off62 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v42 : Index := Scalar.indexCast v20
  let c32 : Index := 32#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v43 : Index := Scalar.indexCast v41
  ![v42.toNat, 32, v43.toNat]
def k0_off63 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v47 : Index := Scalar.indexCast v20
  let c0 : Index := 0#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v48 : Index := Scalar.indexCast v41
  ![v47.toNat, 0, v48.toNat]
def k0_off64 (k0_t2 : Fin k0_t2_loop.trips) : Fin 2 → Nat :=
  let c30 : Index := 30#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v51 : Index := Scalar.indexCast v41
  ![30, v51.toNat]
def k0_off65 (k0_t2 : Fin k0_t2_loop.trips) : Fin 2 → Nat :=
  let c240 : Index := 240#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v57 : Index := Scalar.indexCast v41
  ![240, v57.toNat]
def k0_off66 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v96 : Index := Scalar.indexCast v20
  let c8 : Index := 8#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v97 : Index := Scalar.indexCast v41
  ![v96.toNat, 8, v97.toNat]
def k0_off67 (k0_t2 : Fin k0_t2_loop.trips) : Fin 2 → Nat :=
  let c22 : Index := 22#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v100 : Index := Scalar.indexCast v41
  ![22, v100.toNat]
def k0_off68 (k0_t2 : Fin k0_t2_loop.trips) : Fin 2 → Nat :=
  let c176 : Index := 176#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v106 : Index := Scalar.indexCast v41
  ![176, v106.toNat]
def k0_off69 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v145 : Index := Scalar.indexCast v20
  let c16 : Index := 16#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v146 : Index := Scalar.indexCast v41
  ![v145.toNat, 16, v146.toNat]
def k0_off70 (k0_t2 : Fin k0_t2_loop.trips) : Fin 2 → Nat :=
  let c14 : Index := 14#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v149 : Index := Scalar.indexCast v41
  ![14, v149.toNat]
def k0_off71 (k0_t2 : Fin k0_t2_loop.trips) : Fin 2 → Nat :=
  let c112 : Index := 112#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v155 : Index := Scalar.indexCast v41
  ![112, v155.toNat]
def k0_off72 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v194 : Index := Scalar.indexCast v20
  let c24 : Index := 24#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v195 : Index := Scalar.indexCast v41
  ![v194.toNat, 24, v195.toNat]
def k0_off73 (k0_t2 : Fin k0_t2_loop.trips) : Fin 2 → Nat :=
  let c6 : Index := 6#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v198 : Index := Scalar.indexCast v41
  ![6, v198.toNat]
def k0_off74 (k0_t2 : Fin k0_t2_loop.trips) : Fin 2 → Nat :=
  let c48 : Index := 48#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v204 : Index := Scalar.indexCast v41
  ![48, v204.toNat]
def k0_off75 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v243 : Index := Scalar.indexCast v20
  let c1 : Index := 1#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v244 : Index := Scalar.indexCast v41
  ![v243.toNat, 1, v244.toNat]
def k0_off76 (k0_t2 : Fin k0_t2_loop.trips) : Fin 2 → Nat :=
  let c29 : Index := 29#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v252 : Index := Scalar.indexCast v41
  ![29, v252.toNat]
def k0_off77 (k0_t2 : Fin k0_t2_loop.trips) : Fin 2 → Nat :=
  let c232 : Index := 232#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v258 : Index := Scalar.indexCast v41
  ![232, v258.toNat]
def k0_off78 (k0_t2 : Fin k0_t2_loop.trips) : Fin 2 → Nat :=
  let c21 : Index := 21#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v299 : Index := Scalar.indexCast v41
  ![21, v299.toNat]
def k0_off79 (k0_t2 : Fin k0_t2_loop.trips) : Fin 2 → Nat :=
  let c168 : Index := 168#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v305 : Index := Scalar.indexCast v41
  ![168, v305.toNat]
def k0_off80 (k0_t2 : Fin k0_t2_loop.trips) : Fin 2 → Nat :=
  let c13 : Index := 13#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v346 : Index := Scalar.indexCast v41
  ![13, v346.toNat]
def k0_off81 (k0_t2 : Fin k0_t2_loop.trips) : Fin 2 → Nat :=
  let c104 : Index := 104#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v352 : Index := Scalar.indexCast v41
  ![104, v352.toNat]
def k0_off82 (k0_t2 : Fin k0_t2_loop.trips) : Fin 2 → Nat :=
  let c5 : Index := 5#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v393 : Index := Scalar.indexCast v41
  ![5, v393.toNat]
def k0_off83 (k0_t2 : Fin k0_t2_loop.trips) : Fin 2 → Nat :=
  let c40 : Index := 40#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v399 : Index := Scalar.indexCast v41
  ![40, v399.toNat]
def k0_off84 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v438 : Index := Scalar.indexCast v20
  let c2 : Index := 2#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v439 : Index := Scalar.indexCast v41
  ![v438.toNat, 2, v439.toNat]
def k0_off85 (k0_t2 : Fin k0_t2_loop.trips) : Fin 2 → Nat :=
  let c28 : Index := 28#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v447 : Index := Scalar.indexCast v41
  ![28, v447.toNat]
def k0_off86 (k0_t2 : Fin k0_t2_loop.trips) : Fin 2 → Nat :=
  let c224 : Index := 224#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v453 : Index := Scalar.indexCast v41
  ![224, v453.toNat]
def k0_off87 (k0_t2 : Fin k0_t2_loop.trips) : Fin 2 → Nat :=
  let c20 : Index := 20#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v494 : Index := Scalar.indexCast v41
  ![20, v494.toNat]
def k0_off88 (k0_t2 : Fin k0_t2_loop.trips) : Fin 2 → Nat :=
  let c160 : Index := 160#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v500 : Index := Scalar.indexCast v41
  ![160, v500.toNat]
def k0_off89 (k0_t2 : Fin k0_t2_loop.trips) : Fin 2 → Nat :=
  let c12 : Index := 12#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v541 : Index := Scalar.indexCast v41
  ![12, v541.toNat]
def k0_off90 (k0_t2 : Fin k0_t2_loop.trips) : Fin 2 → Nat :=
  let c96 : Index := 96#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v547 : Index := Scalar.indexCast v41
  ![96, v547.toNat]
def k0_off91 (k0_t2 : Fin k0_t2_loop.trips) : Fin 2 → Nat :=
  let c4 : Index := 4#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v588 : Index := Scalar.indexCast v41
  ![4, v588.toNat]
def k0_off92 (k0_t2 : Fin k0_t2_loop.trips) : Fin 2 → Nat :=
  let c32_65 : Index := 32#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v594 : Index := Scalar.indexCast v41
  ![32, v594.toNat]
def k0_off93 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v633 : Index := Scalar.indexCast v20
  let c3 : Index := 3#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v634 : Index := Scalar.indexCast v41
  ![v633.toNat, 3, v634.toNat]
def k0_off94 (k0_t2 : Fin k0_t2_loop.trips) : Fin 2 → Nat :=
  let c27 : Index := 27#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v642 : Index := Scalar.indexCast v41
  ![27, v642.toNat]
def k0_off95 (k0_t2 : Fin k0_t2_loop.trips) : Fin 2 → Nat :=
  let c216 : Index := 216#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v648 : Index := Scalar.indexCast v41
  ![216, v648.toNat]
def k0_off96 (k0_t2 : Fin k0_t2_loop.trips) : Fin 2 → Nat :=
  let c19 : Index := 19#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v689 : Index := Scalar.indexCast v41
  ![19, v689.toNat]
def k0_off97 (k0_t2 : Fin k0_t2_loop.trips) : Fin 2 → Nat :=
  let c152 : Index := 152#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v695 : Index := Scalar.indexCast v41
  ![152, v695.toNat]
def k0_off98 (k0_t2 : Fin k0_t2_loop.trips) : Fin 2 → Nat :=
  let c11 : Index := 11#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v736 : Index := Scalar.indexCast v41
  ![11, v736.toNat]
def k0_off99 (k0_t2 : Fin k0_t2_loop.trips) : Fin 2 → Nat :=
  let c88 : Index := 88#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v742 : Index := Scalar.indexCast v41
  ![88, v742.toNat]
def k0_off100 (k0_t2 : Fin k0_t2_loop.trips) : Fin 2 → Nat :=
  let c3_85 : Index := 3#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v783 : Index := Scalar.indexCast v41
  ![3, v783.toNat]
def k0_off101 (k0_t2 : Fin k0_t2_loop.trips) : Fin 2 → Nat :=
  let c24_86 : Index := 24#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v789 : Index := Scalar.indexCast v41
  ![24, v789.toNat]
def k0_off102 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v828 : Index := Scalar.indexCast v20
  let c4_88 : Index := 4#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v829 : Index := Scalar.indexCast v41
  ![v828.toNat, 4, v829.toNat]
def k0_off103 (k0_t2 : Fin k0_t2_loop.trips) : Fin 2 → Nat :=
  let c26 : Index := 26#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v837 : Index := Scalar.indexCast v41
  ![26, v837.toNat]
def k0_off104 (k0_t2 : Fin k0_t2_loop.trips) : Fin 2 → Nat :=
  let c208 : Index := 208#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v843 : Index := Scalar.indexCast v41
  ![208, v843.toNat]
def k0_off105 (k0_t2 : Fin k0_t2_loop.trips) : Fin 2 → Nat :=
  let c18 : Index := 18#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v884 : Index := Scalar.indexCast v41
  ![18, v884.toNat]
def k0_off106 (k0_t2 : Fin k0_t2_loop.trips) : Fin 2 → Nat :=
  let c144 : Index := 144#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v890 : Index := Scalar.indexCast v41
  ![144, v890.toNat]
def k0_off107 (k0_t2 : Fin k0_t2_loop.trips) : Fin 2 → Nat :=
  let c10 : Index := 10#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v931 : Index := Scalar.indexCast v41
  ![10, v931.toNat]
def k0_off108 (k0_t2 : Fin k0_t2_loop.trips) : Fin 2 → Nat :=
  let c80 : Index := 80#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v937 : Index := Scalar.indexCast v41
  ![80, v937.toNat]
def k0_off109 (k0_t2 : Fin k0_t2_loop.trips) : Fin 2 → Nat :=
  let c2_107 : Index := 2#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v978 : Index := Scalar.indexCast v41
  ![2, v978.toNat]
def k0_off110 (k0_t2 : Fin k0_t2_loop.trips) : Fin 2 → Nat :=
  let c16_108 : Index := 16#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v984 : Index := Scalar.indexCast v41
  ![16, v984.toNat]
def k0_off111 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v1023 : Index := Scalar.indexCast v20
  let c5_110 : Index := 5#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1024 : Index := Scalar.indexCast v41
  ![v1023.toNat, 5, v1024.toNat]
def k0_off112 (k0_t2 : Fin k0_t2_loop.trips) : Fin 2 → Nat :=
  let c25 : Index := 25#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1032 : Index := Scalar.indexCast v41
  ![25, v1032.toNat]
def k0_off113 (k0_t2 : Fin k0_t2_loop.trips) : Fin 2 → Nat :=
  let c200 : Index := 200#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1038 : Index := Scalar.indexCast v41
  ![200, v1038.toNat]
def k0_off114 (k0_t2 : Fin k0_t2_loop.trips) : Fin 2 → Nat :=
  let c17 : Index := 17#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1079 : Index := Scalar.indexCast v41
  ![17, v1079.toNat]
def k0_off115 (k0_t2 : Fin k0_t2_loop.trips) : Fin 2 → Nat :=
  let c136 : Index := 136#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1085 : Index := Scalar.indexCast v41
  ![136, v1085.toNat]
def k0_off116 (k0_t2 : Fin k0_t2_loop.trips) : Fin 2 → Nat :=
  let c9 : Index := 9#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1126 : Index := Scalar.indexCast v41
  ![9, v1126.toNat]
def k0_off117 (k0_t2 : Fin k0_t2_loop.trips) : Fin 2 → Nat :=
  let c72 : Index := 72#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1132 : Index := Scalar.indexCast v41
  ![72, v1132.toNat]
def k0_off118 (k0_t2 : Fin k0_t2_loop.trips) : Fin 2 → Nat :=
  let c1_129 : Index := 1#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1173 : Index := Scalar.indexCast v41
  ![1, v1173.toNat]
def k0_off119 (k0_t2 : Fin k0_t2_loop.trips) : Fin 2 → Nat :=
  let c8_130 : Index := 8#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1179 : Index := Scalar.indexCast v41
  ![8, v1179.toNat]
def k0_off120 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v1218 : Index := Scalar.indexCast v20
  let c6_132 : Index := 6#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1219 : Index := Scalar.indexCast v41
  ![v1218.toNat, 6, v1219.toNat]
def k0_off121 (k0_t2 : Fin k0_t2_loop.trips) : Fin 2 → Nat :=
  let c24_139 : Index := 24#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1227 : Index := Scalar.indexCast v41
  ![24, v1227.toNat]
def k0_off122 (k0_t2 : Fin k0_t2_loop.trips) : Fin 2 → Nat :=
  let c192 : Index := 192#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1233 : Index := Scalar.indexCast v41
  ![192, v1233.toNat]
def k0_off123 (k0_t2 : Fin k0_t2_loop.trips) : Fin 2 → Nat :=
  let c16_144 : Index := 16#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1274 : Index := Scalar.indexCast v41
  ![16, v1274.toNat]
def k0_off124 (k0_t2 : Fin k0_t2_loop.trips) : Fin 2 → Nat :=
  let c128 : Index := 128#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1280 : Index := Scalar.indexCast v41
  ![128, v1280.toNat]
def k0_off125 (k0_t2 : Fin k0_t2_loop.trips) : Fin 2 → Nat :=
  let c8_149 : Index := 8#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1321 : Index := Scalar.indexCast v41
  ![8, v1321.toNat]
def k0_off126 (k0_t2 : Fin k0_t2_loop.trips) : Fin 2 → Nat :=
  let c64 : Index := 64#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1327 : Index := Scalar.indexCast v41
  ![64, v1327.toNat]
def k0_off127 (k0_t2 : Fin k0_t2_loop.trips) : Fin 2 → Nat :=
  let c0_154 : Index := 0#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1368 : Index := Scalar.indexCast v41
  ![0, v1368.toNat]
def k0_off128 (k0_t2 : Fin k0_t2_loop.trips) : Fin 2 → Nat :=
  let c0_155 : Index := 0#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1374 : Index := Scalar.indexCast v41
  ![0, v1374.toNat]
def k0_off129 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v1413 : Index := Scalar.indexCast v20
  let c7 : Index := 7#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1414 : Index := Scalar.indexCast v41
  ![v1413.toNat, 7, v1414.toNat]
def k0_off130 (k0_t2 : Fin k0_t2_loop.trips) : Fin 2 → Nat :=
  let c23 : Index := 23#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1422 : Index := Scalar.indexCast v41
  ![23, v1422.toNat]
def k0_off131 (k0_t2 : Fin k0_t2_loop.trips) : Fin 2 → Nat :=
  let c184 : Index := 184#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1428 : Index := Scalar.indexCast v41
  ![184, v1428.toNat]
def k0_off132 (k0_t2 : Fin k0_t2_loop.trips) : Fin 2 → Nat :=
  let c15 : Index := 15#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1469 : Index := Scalar.indexCast v41
  ![15, v1469.toNat]
def k0_off133 (k0_t2 : Fin k0_t2_loop.trips) : Fin 2 → Nat :=
  let c120 : Index := 120#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1475 : Index := Scalar.indexCast v41
  ![120, v1475.toNat]
def k0_off134 (k0_t2 : Fin k0_t2_loop.trips) : Fin 2 → Nat :=
  let c7_171 : Index := 7#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1516 : Index := Scalar.indexCast v41
  ![7, v1516.toNat]
def k0_off135 (k0_t2 : Fin k0_t2_loop.trips) : Fin 2 → Nat :=
  let c56 : Index := 56#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1522 : Index := Scalar.indexCast v41
  ![56, v1522.toNat]
def k0_mult7 (k0_t2 : Fin k0_t2_loop.trips) : BitVec 32 :=
  let c0_i32_174 : BitVec 32 := 0#32
  let c0_i32_21 : BitVec 32 := 0#32
  let c1_i32_22 : BitVec 32 := 1#32
  let arg37 : BitVec 32 := Scf.iv c0_i32_21 c1_i32_22 k0_t2
  let c128_i32_173 : BitVec 32 := 128#32
  let v1561 : BitVec 32 := Scalar.muli arg37 c128_i32_173
  let v1562 : BitVec 32 := Scalar.addi c0_i32_174 v1561
  v1562
def k0_off136 (k0_t2 : Fin k0_t2_loop.trips) (c0_i32_174 : BitVec 32) : Fin 2 → Nat :=
  let c0_175 : Index := 0#32
  let c0_i32_21 : BitVec 32 := 0#32
  let c1_i32_22 : BitVec 32 := 1#32
  let arg37 : BitVec 32 := Scf.iv c0_i32_21 c1_i32_22 k0_t2
  let c128_i32_173 : BitVec 32 := 128#32
  let v1561 : BitVec 32 := Scalar.muli arg37 c128_i32_173
  let v1562 : BitVec 32 := Scalar.addi c0_i32_174 v1561
  let v1563 : BitVec 32 := v1562
  let v1564 : Index := Scalar.indexCast v1563
  ![0, v1564.toNat]
def k0_mult8 (k0_t2 : Fin k0_t2_loop.trips) : BitVec 32 :=
  let c1024_i32 : BitVec 32 := 1024#32
  let c0_i32_21 : BitVec 32 := 0#32
  let c1_i32_22 : BitVec 32 := 1#32
  let arg37 : BitVec 32 := Scf.iv c0_i32_21 c1_i32_22 k0_t2
  let c128_i32_176 : BitVec 32 := 128#32
  let v1567 : BitVec 32 := Scalar.muli arg37 c128_i32_176
  let v1568 : BitVec 32 := Scalar.addi c1024_i32 v1567
  v1568
def k0_mult9 (k0_t2 : Fin k0_t2_loop.trips) : BitVec 32 :=
  let c0_i32_179 : BitVec 32 := 0#32
  let c0_i32_21 : BitVec 32 := 0#32
  let c1_i32_22 : BitVec 32 := 1#32
  let arg37 : BitVec 32 := Scf.iv c0_i32_21 c1_i32_22 k0_t2
  let c128_i32_178 : BitVec 32 := 128#32
  let v1576 : BitVec 32 := Scalar.muli arg37 c128_i32_178
  let v1577 : BitVec 32 := Scalar.addi c0_i32_179 v1576
  v1577
def k0_off137 (k0_t2 : Fin k0_t2_loop.trips) (c0_i32_179 : BitVec 32) : Fin 2 → Nat :=
  let c0_180 : Index := 0#32
  let c0_i32_21 : BitVec 32 := 0#32
  let c1_i32_22 : BitVec 32 := 1#32
  let arg37 : BitVec 32 := Scf.iv c0_i32_21 c1_i32_22 k0_t2
  let c128_i32_178 : BitVec 32 := 128#32
  let v1576 : BitVec 32 := Scalar.muli arg37 c128_i32_178
  let v1577 : BitVec 32 := Scalar.addi c0_i32_179 v1576
  let v1578 : BitVec 32 := v1577
  let v1579 : Index := Scalar.indexCast v1578
  ![0, v1579.toNat]
def k0_off137_at (r : Fin 4) : BitVec 32 :=
  if r.val < 2 then
    if r.val < 1 then
      0#32
    else
      1024#32
  else
    if r.val < 3 then
      4096#32
    else
      5120#32
def k0_mult10 (k0_t2 : Fin k0_t2_loop.trips) : BitVec 32 :=
  let c1024_i32_183 : BitVec 32 := 1024#32
  let c0_i32_21 : BitVec 32 := 0#32
  let c1_i32_22 : BitVec 32 := 1#32
  let arg37 : BitVec 32 := Scf.iv c0_i32_21 c1_i32_22 k0_t2
  let c128_i32_182 : BitVec 32 := 128#32
  let v1587 : BitVec 32 := Scalar.muli arg37 c128_i32_182
  let v1588 : BitVec 32 := Scalar.addi c1024_i32_183 v1587
  v1588
def k0_off138 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v1592 : Index := Scalar.indexCast v20
  let c8_185 : Index := 8#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1593 : Index := Scalar.indexCast v41
  ![v1592.toNat, 8, v1593.toNat]
def k0_off139 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v1597 : Index := Scalar.indexCast v20
  let c0_187 : Index := 0#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1598 : Index := Scalar.indexCast v41
  ![v1597.toNat, 0, v1598.toNat]
def k0_off140 (k0_t2 : Fin k0_t2_loop.trips) : Fin 2 → Nat :=
  let c2_188 : Index := 2#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1601 : Index := Scalar.indexCast v41
  ![2, v1601.toNat]
def k0_off141 (k0_t2 : Fin k0_t2_loop.trips) : Fin 2 → Nat :=
  let c16_189 : Index := 16#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1607 : Index := Scalar.indexCast v41
  ![16, v1607.toNat]
def k0_off142 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v1646 : Index := Scalar.indexCast v20
  let c1_191 : Index := 1#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1647 : Index := Scalar.indexCast v41
  ![v1646.toNat, 1, v1647.toNat]
def k0_off143 (k0_t2 : Fin k0_t2_loop.trips) : Fin 2 → Nat :=
  let c1_192 : Index := 1#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1650 : Index := Scalar.indexCast v41
  ![1, v1650.toNat]
def k0_off144 (k0_t2 : Fin k0_t2_loop.trips) : Fin 2 → Nat :=
  let c8_193 : Index := 8#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1656 : Index := Scalar.indexCast v41
  ![8, v1656.toNat]
def k0_off145 (i : grid0.Coords) (k0_t2 : Fin k0_t2_loop.trips) : Fin 3 → Nat :=
  let c1_i32_9 : BitVec 32 := 1#32
  let arg0 : BitVec 32 := BitVec.ofNat 32 (i 0).val
  let c2_i32_3 : BitVec 32 := 2#32
  let c0_i32_4 : BitVec 32 := 0#32
  let v10 : BitVec 1 := Scalar.cmpi .eq c2_i32_3 c0_i32_4
  let c1_i32_5 : BitVec 32 := 1#32
  let v11 : BitVec 32 := Scalar.select v10 c1_i32_5 c2_i32_3
  let v12 : BitVec 32 := Scalar.remsi arg0 v11
  let c0_i32_7 : BitVec 32 := 0#32
  let v14 : BitVec 1 := Scalar.cmpi .slt v12 c0_i32_7
  let c0_i32_8 : BitVec 32 := 0#32
  let v15 : BitVec 1 := Scalar.cmpi .slt v11 c0_i32_8
  let v16 : BitVec 1 := Scalar.xori v14 v15
  let c0_i32_6 : BitVec 32 := 0#32
  let v13 : BitVec 1 := Scalar.cmpi .ne v12 c0_i32_6
  let v17 : BitVec 1 := Scalar.andi v16 v13
  let v18 : BitVec 32 := Scalar.addi v12 v11
  let v19 : BitVec 32 := Scalar.select v17 v18 v12
  let v20 : BitVec 32 := Scalar.subi c1_i32_9 v19
  let v1695 : Index := Scalar.indexCast v20
  let c2_195 : Index := 2#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1696 : Index := Scalar.indexCast v41
  ![v1695.toNat, 2, v1696.toNat]
def k0_off146 (k0_t2 : Fin k0_t2_loop.trips) : Fin 2 → Nat :=
  let c0_196 : Index := 0#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1699 : Index := Scalar.indexCast v41
  ![0, v1699.toNat]
def k0_off147 (k0_t2 : Fin k0_t2_loop.trips) : Fin 2 → Nat :=
  let c0_197 : Index := 0#32
  let c0_i32_21 : BitVec 32 := 0#32
  let c1_i32_22 : BitVec 32 := 1#32
  let arg37 : BitVec 32 := Scf.iv c0_i32_21 c1_i32_22 k0_t2
  let c128_i32 : BitVec 32 := 128#32
  let v40 : BitVec 32 := Scalar.muli arg37 c128_i32
  let v41 : BitVec 32 := v40
  let v1705 : Index := Scalar.indexCast v41
  ![0, v1705.toNat]
def k0_mult11 (k0_t2 : Fin k0_t2_loop.trips) : BitVec 32 :=
  let c1024_i32_200 : BitVec 32 := 1024#32
  let c0_i32_21 : BitVec 32 := 0#32
  let c1_i32_22 : BitVec 32 := 1#32
  let arg37 : BitVec 32 := Scf.iv c0_i32_21 c1_i32_22 k0_t2
  let c128_i32_199 : BitVec 32 := 128#32
  let v1744 : BitVec 32 := Scalar.muli arg37 c128_i32_199
  let v1745 : BitVec 32 := Scalar.addi c1024_i32_200 v1744
  v1745
def k0_mult12 (k0_t2 : Fin k0_t2_loop.trips) : BitVec 32 :=
  let c4096_i32 : BitVec 32 := 4096#32
  let c0_i32_21 : BitVec 32 := 0#32
  let c1_i32_22 : BitVec 32 := 1#32
  let arg37 : BitVec 32 := Scf.iv c0_i32_21 c1_i32_22 k0_t2
  let c128_i32_202 : BitVec 32 := 128#32
  let v1752 : BitVec 32 := Scalar.muli arg37 c128_i32_202
  let v1753 : BitVec 32 := Scalar.addi c4096_i32 v1752
  v1753
def k0_mult13 (k0_t2 : Fin k0_t2_loop.trips) : BitVec 32 :=
  let c0_i32_205 : BitVec 32 := 0#32
  let c0_i32_21 : BitVec 32 := 0#32
  let c1_i32_22 : BitVec 32 := 1#32
  let arg37 : BitVec 32 := Scf.iv c0_i32_21 c1_i32_22 k0_t2
  let c128_i32_204 : BitVec 32 := 128#32
  let v1757 : BitVec 32 := Scalar.muli arg37 c128_i32_204
  let v1758 : BitVec 32 := Scalar.addi c0_i32_205 v1757
  v1758
def k0_mult14 (k0_t2 : Fin k0_t2_loop.trips) : BitVec 32 :=
  let c5120_i32 : BitVec 32 := 5120#32
  let c0_i32_21 : BitVec 32 := 0#32
  let c1_i32_22 : BitVec 32 := 1#32
  let arg37 : BitVec 32 := Scf.iv c0_i32_21 c1_i32_22 k0_t2
  let c128_i32_207 : BitVec 32 := 128#32
  let v1765 : BitVec 32 := Scalar.muli arg37 c128_i32_207
  let v1766 : BitVec 32 := Scalar.addi c5120_i32 v1765
  v1766
def k0_cond2 (i : grid0.Coords) : BitVec 1 :=
  let arg0 : BitVec 32 := BitVec.ofNat 32 (i 0).val
  let c1_i32_12 : BitVec 32 := 1#32
  let v24 : BitVec 1 := Scalar.cmpi .sge arg0 c1_i32_12
  let v25 : BitVec 32 := Scalar.extui v24
  let c0_i32_13 : BitVec 32 := 0#32
  let v26 : BitVec 1 := Scalar.cmpi .ne v25 c0_i32_13
  v26

def k0_cond1 (i : grid0.Coords) : BitVec 1 :=
  let arg0 : BitVec 32 := BitVec.ofNat 32 (i 0).val
  let c0_i32_10 : BitVec 32 := 0#32
  let v21 : BitVec 1 := Scalar.cmpi .eq arg0 c0_i32_10
  let v22 : BitVec 32 := Scalar.extui v21
  let c0_i32_11 : BitVec 32 := 0#32
  let v23 : BitVec 1 := Scalar.cmpi .ne v22 c0_i32_11
  v23

def k0_cond6 (i : grid0.Coords) : BitVec 1 :=
  let arg0 : BitVec 32 := BitVec.ofNat 32 (i 0).val
  let c33_i32_19 : BitVec 32 := 33#32
  let v36 : BitVec 1 := Scalar.cmpi .eq arg0 c33_i32_19
  let v37 : BitVec 32 := Scalar.extui v36
  let c0_i32_20 : BitVec 32 := 0#32
  let v38 : BitVec 1 := Scalar.cmpi .ne v37 c0_i32_20
  v38

def cc0_transform_0 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c32_i32 : BitVec 32 := 32#32
  let v1 : BitVec 32 := Scalar.maxsi c0_i32 v0
  let v2 : BitVec 32 := Scalar.minsi c32_i32 v1
  let c0_i32_0 : BitVec 32 := 0#32
  let v3 : BitVec 1 := Scalar.cmpi .eq v2 c0_i32_0
  let c1_i32_1 : BitVec 32 := 1#32
  let v4 : BitVec 32 := Scalar.subi v2 c1_i32_1
  let c32_i32_2 : BitVec 32 := 32#32
  let v5 : BitVec 32 := Scalar.select v3 c32_i32_2 v4
  let c0_i32_3 : BitVec 32 := 0#32
  let c0_i32_4 : BitVec 32 := 0#32
  ![v5.toNat, c0_i32_3.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c32_i32 : BitVec 32 := 32#32
  let v1 : BitVec 32 := Scalar.maxsi c0_i32 v0
  let v2 : BitVec 32 := Scalar.minsi c32_i32 v1
  let c0_i32_0 : BitVec 32 := 0#32
  let v3 : BitVec 1 := Scalar.cmpi .eq v2 c0_i32_0
  let c1_i32_1 : BitVec 32 := 1#32
  let v4 : BitVec 32 := Scalar.subi v2 c1_i32_1
  let c32_i32_2 : BitVec 32 := 32#32
  let v5 : BitVec 32 := Scalar.select v3 c32_i32_2 v4
  let c2_i32 : BitVec 32 := 2#32
  let c0_i32_3 : BitVec 32 := 0#32
  ![v5.toNat, c2_i32.toNat]

def cc0_transform_3 (i : grid0.Coords) : Fin 2 → Nat :=
  let arg0 : BitVec 32 := BitVec.ofNat 32 (i 0).val
  let c32_i32 : BitVec 32 := 32#32
  let v0 : BitVec 32 := Scalar.minsi arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c32_i32 : BitVec 32 := 32#32
  let v0 : BitVec 32 := Scalar.minsi arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let c32_i32 : BitVec 32 := 32#32
  let v1 : BitVec 32 := Scalar.maxsi c0_i32 v0
  let v2 : BitVec 32 := Scalar.minsi c32_i32 v1
  let c0_i32_0 : BitVec 32 := 0#32
  let v3 : BitVec 1 := Scalar.cmpi .eq v2 c0_i32_0
  let c1_i32_1 : BitVec 32 := 1#32
  let v4 : BitVec 32 := Scalar.subi v2 c1_i32_1
  let c32_i32_2 : BitVec 32 := 32#32
  let v5 : BitVec 32 := Scalar.select v3 c32_i32_2 v4
  let c0_i32_3 : BitVec 32 := 0#32
  let c0_i32_4 : BitVec 32 := 0#32
  ![v5.toNat, c0_i32_3.toNat]

def cc0_transform_20 (i : grid0.Coords) : Fin 2 → Nat :=
  let arg0 : BitVec 32 := BitVec.ofNat 32 (i 0).val
  let c32_i32 : BitVec 32 := 32#32
  let v0 : BitVec 32 := Scalar.minsi arg0 c32_i32
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  ![v3.toNat, c0_i32_1.toNat]

def cc0_transform_21 (i : grid0.Coords) : Fin 3 → Nat :=
  let arg0 : BitVec 32 := BitVec.ofNat 32 (i 0).val
  let c32_i32 : BitVec 32 := 32#32
  let v0 : BitVec 32 := Scalar.minsi arg0 c32_i32
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  let c0_i32_3 : BitVec 32 := 0#32
  ![c0_i32_1.toNat, v3.toNat, c0_i32_2.toNat]

def cc0_transform_22 (i : grid0.Coords) : Fin 3 → Nat :=
  let arg0 : BitVec 32 := BitVec.ofNat 32 (i 0).val
  let c32_i32 : BitVec 32 := 32#32
  let v0 : BitVec 32 := Scalar.minsi arg0 c32_i32
  let c0_i32 : BitVec 32 := 0#32
  let v1 : BitVec 1 := Scalar.cmpi .eq v0 c0_i32
  let c1_i32 : BitVec 32 := 1#32
  let v2 : BitVec 32 := Scalar.subi v0 c1_i32
  let c32_i32_0 : BitVec 32 := 32#32
  let v3 : BitVec 32 := Scalar.select v1 c32_i32_0 v2
  let c0_i32_1 : BitVec 32 := 0#32
  let c0_i32_2 : BitVec 32 := 0#32
  let c0_i32_3 : BitVec 32 := 0#32
  ![c0_i32_1.toNat, v3.toNat, c0_i32_2.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x9216 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1024x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 2 → Memref sig .tc .vmem S128x9216 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S3x128x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S3x128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S48x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]
-- ==== Reference2Ideal.lean ====
abbrev S1x4096x1024 : Shape := ⟨3, ![1, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x31x1024 : Shape := ⟨3, ![1, 31, 1024]⟩
abbrev S1x1024x1024 : Shape := ⟨3, ![1, 1024, 1024]⟩
abbrev S1x3x1024 : Shape := ⟨3, ![1, 3, 1024]⟩
abbrev S1024 : Shape := ⟨1, ![1024]⟩
abbrev S1x16x1024 : Shape := ⟨3, ![1, 16, 1024]⟩
abbrev S1x4112x1024 : Shape := ⟨3, ![1, 4112, 1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1024x9216 : Shape := ⟨2, ![1024, 9216]⟩
abbrev S1x4112x9216 : Shape := ⟨3, ![1, 4112, 9216]⟩
abbrev S31x1024 : Shape := ⟨2, ![31, 1024]⟩
abbrev S31x4112x4112 : Shape := ⟨3, ![31, 4112, 4112]⟩
abbrev S1x31x1x1024 : Shape := ⟨4, ![1, 31, 1, 1024]⟩
abbrev S1x1024x31x4112 : Shape := ⟨4, ![1, 1024, 31, 4112]⟩
abbrev S1x31x4112x1024 : Shape := ⟨4, ![1, 31, 4112, 1024]⟩
abbrev S1024x1024 : Shape := ⟨2, ![1024, 1024]⟩
abbrev S3x1024 : Shape := ⟨2, ![3, 1024]⟩
abbrev S3x4112x4112 : Shape := ⟨3, ![3, 4112, 4112]⟩
abbrev S1x3x1x1024 : Shape := ⟨4, ![1, 3, 1, 1024]⟩
abbrev S1x1024x3x4112 : Shape := ⟨4, ![1, 1024, 3, 4112]⟩
abbrev S1x3x4112x1024 : Shape := ⟨4, ![1, 3, 4112, 1024]⟩
abbrev S1x4096 : Shape := ⟨2, ![1, 4096]⟩
abbrev S3x4112x1024 : Shape := ⟨3, ![3, 4112, 1024]⟩
abbrev S4112 : Shape := ⟨1, ![4112]⟩
abbrev S1x1024x4112 : Shape := ⟨3, ![1, 1024, 4112]⟩

abbrev nBuf : Space → Nat
  | .hbm => 421
  | .vmem => 0
  | .smem => 0
  | _ => 0

abbrev hbmTy0_0 (i : Nat) : BufTy := match i % 128 with
  | 0 => ⟨S1x4096x1024, .f32⟩
  | 1 => ⟨S16x1024, .f32⟩
  | 2 => ⟨S1x1024, .f32⟩
  | 3 => ⟨S1x1024x9216, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x3x1024, .f32⟩
  | 11 => ⟨S1x1024x1024, .f32⟩
  | 12 => ⟨S1x1024x1024, .f32⟩
  | 13 => ⟨S1024, .f32⟩
  | 14 => ⟨S1x4096x1024, .f32⟩
  | 15 => ⟨S1x16x1024, .f32⟩
  | 16 => ⟨S1x4112x1024, .f32⟩
  | 17 => ⟨S1024, .f32⟩
  | 18 => ⟨S1x4112x1024, .f32⟩
  | 19 => ⟨S_, .f32⟩
  | 20 => ⟨S1x4112, .f32⟩
  | 21 => ⟨S1x4112x1, .f32⟩
  | 22 => ⟨S_, .f32⟩
  | 23 => ⟨S1x4112x1, .f32⟩
  | 24 => ⟨S1x4112x1, .f32⟩
  | 25 => ⟨S_, .f32⟩
  | 26 => ⟨S1x4112x1, .f32⟩
  | 27 => ⟨S1x4112x1, .f32⟩
  | 28 => ⟨S1x4112x1, .f32⟩
  | 29 => ⟨S1x4112x1024, .f32⟩
  | 30 => ⟨S1x4112x1024, .f32⟩
  | 31 => ⟨S1x1x1024, .f32⟩
  | 32 => ⟨S1x4112x1024, .f32⟩
  | 33 => ⟨S1x4112x1024, .f32⟩
  | 34 => ⟨S1024x9216, .f32⟩
  | 35 => ⟨S1x4112x9216, .f32⟩
  | 36 => ⟨S_, .f32⟩
  | 37 => ⟨S1x4112x1024, .f32⟩
  | 38 => ⟨S1x4112x1024, .f32⟩
  | 39 => ⟨S1x4112x1024, .f32⟩
  | 40 => ⟨S1x4112x1024, .f32⟩
  | 41 => ⟨S1x4112x1024, .f32⟩
  | 42 => ⟨S1x4112x1024, .f32⟩
  | 43 => ⟨S1x4112x1024, .f32⟩
  | 44 => ⟨S1x4112x1024, .f32⟩
  | 45 => ⟨S1x4112x1024, .f32⟩
  | 46 => ⟨S1x4112x1024, .f32⟩
  | 47 => ⟨S1x4112x1024, .f32⟩
  | 48 => ⟨S1x4112x1024, .f32⟩
  | 49 => ⟨S_, .f32⟩
  | 50 => ⟨S1x4112x1024, .f32⟩
  | 51 => ⟨S1x4112x1024, .f32⟩
  | 52 => ⟨S_, .f32⟩
  | 53 => ⟨S1x4112x1024, .f32⟩
  | 54 => ⟨S1x4112x1024, .f32⟩
  | 55 => ⟨S_, .f32⟩
  | 56 => ⟨S1x4112x1024, .f32⟩
  | 57 => ⟨S1x4112x1024, .f32⟩
  | 58 => ⟨S1x4112x1024, .f32⟩
  | 59 => ⟨S1x4112x1024, .f32⟩
  | 60 => ⟨S31x1024, .f32⟩
  | 61 => ⟨S31x4112x4112, .i32⟩
  | 62 => ⟨S31x4112x4112, .i32⟩
  | 63 => ⟨S31x4112x4112, .i32⟩
  | 64 => ⟨S_, .i32⟩
  | 65 => ⟨S31x4112x4112, .i32⟩
  | 66 => ⟨S31x4112x4112, .i32⟩
  | 67 => ⟨S31x4112x4112, .i32⟩
  | 68 => ⟨S31x4112x4112, .i1⟩
  | 69 => ⟨S_, .f32⟩
  | 70 => ⟨S_, .f32⟩
  | 71 => ⟨S31x4112x4112, .f32⟩
  | 72 => ⟨S31x4112x4112, .f32⟩
  | 73 => ⟨S31x4112x4112, .f32⟩
  | 74 => ⟨S1x31x1x1024, .f32⟩
  | 75 => ⟨S1x1024x31x4112, .f32⟩
  | 76 => ⟨S1x31x4112x1024, .f32⟩
  | 77 => ⟨S1x31x4112x1024, .f32⟩
  | 78 => ⟨S1x31x4112x1024, .f32⟩
  | 79 => ⟨S_, .f32⟩
  | 80 => ⟨S1x4112x1024, .f32⟩
  | 81 => ⟨S1024, .f32⟩
  | 82 => ⟨S1x1x1024, .f32⟩
  | 83 => ⟨S1x4112x1024, .f32⟩
  | 84 => ⟨S1x4112x1024, .f32⟩
  | 85 => ⟨S1024, .f32⟩
  | 86 => ⟨S1024, .f32⟩
  | 87 => ⟨S_, .f32⟩
  | 88 => ⟨S1x4112, .f32⟩
  | 89 => ⟨S1x4112x1, .f32⟩
  | 90 => ⟨S_, .f32⟩
  | 91 => ⟨S1x4112x1, .f32⟩
  | 92 => ⟨S1x4112x1, .f32⟩
  | 93 => ⟨S1x4112x1024, .f32⟩
  | 94 => ⟨S1x4112x1024, .f32⟩
  | 95 => ⟨S1x4112x1024, .f32⟩
  | 96 => ⟨S_, .f32⟩
  | 97 => ⟨S1x4112x1024, .f32⟩
  | 98 => ⟨S1x4112x1024, .f32⟩
  | 99 => ⟨S_, .f32⟩
  | 100 => ⟨S1x4112, .f32⟩
  | 101 => ⟨S1x4112x1, .f32⟩
  | 102 => ⟨S_, .f32⟩
  | 103 => ⟨S1x4112x1, .f32⟩
  | 104 => ⟨S1x4112x1, .f32⟩
  | 105 => ⟨S1x4112x1024, .f32⟩
  | 106 => ⟨S1x4112x1024, .f32⟩
  | 107 => ⟨S_, .f32⟩
  | 108 => ⟨S1x4112x1, .f32⟩
  | 109 => ⟨S1x4112x1, .f32⟩
  | 110 => ⟨S1x4112x1, .f32⟩
  | 111 => ⟨S1x4112x1, .f32⟩
  | 112 => ⟨S_, .f32⟩
  | 113 => ⟨S1x4112x1, .f32⟩
  | 114 => ⟨S1x4112x1, .f32⟩
  | 115 => ⟨S1x4112x1024, .f32⟩
  | 116 => ⟨S1x4112x1024, .f32⟩
  | 117 => ⟨S1x1x1024, .f32⟩
  | 118 => ⟨S1x4112x1024, .f32⟩
  | 119 => ⟨S1x4112x1024, .f32⟩
  | 120 => ⟨S1x1x1024, .f32⟩
  | 121 => ⟨S1x4112x1024, .f32⟩
  | 122 => ⟨S1x4112x1024, .f32⟩
  | 123 => ⟨S1x4112x1024, .f32⟩
  | 124 => ⟨S1x4112x1024, .f32⟩
  | 125 => ⟨S_, .f32⟩
  | 126 => ⟨S1x4112x1024, .f32⟩
  | 127 => ⟨S1x4112x1024, .f32⟩
  | _ => ⟨S1x4096x1024, .f32⟩

abbrev hbmTy0_1 (i : Nat) : BufTy := match i % 128 with
  | 0 => ⟨S_, .f32⟩
  | 1 => ⟨S1x4112x1024, .f32⟩
  | 2 => ⟨S1x4112x1024, .f32⟩
  | 3 => ⟨S_, .f32⟩
  | 4 => ⟨S1x4112x1024, .f32⟩
  | 5 => ⟨S1x4112x1024, .f32⟩
  | 6 => ⟨S1x4112x1024, .f32⟩
  | 7 => ⟨S1x4112x1024, .f32⟩
  | 8 => ⟨S1x4112x1024, .f32⟩
  | 9 => ⟨S1x4112x1024, .f32⟩
  | 10 => ⟨S_, .f32⟩
  | 11 => ⟨S1x4112x1024, .f32⟩
  | 12 => ⟨S1x4112x1024, .f32⟩
  | 13 => ⟨S_, .f32⟩
  | 14 => ⟨S1x4112x1024, .f32⟩
  | 15 => ⟨S1x4112x1024, .f32⟩
  | 16 => ⟨S_, .f32⟩
  | 17 => ⟨S1x4112x1024, .f32⟩
  | 18 => ⟨S1x4112x1024, .f32⟩
  | 19 => ⟨S1x4112x1024, .f32⟩
  | 20 => ⟨S1x4112x1024, .f32⟩
  | 21 => ⟨S1x4112x1024, .f32⟩
  | 22 => ⟨S1024x1024, .f32⟩
  | 23 => ⟨S1x4112x1024, .f32⟩
  | 24 => ⟨S1024, .f32⟩
  | 25 => ⟨S1x1x1024, .f32⟩
  | 26 => ⟨S1x4112x1024, .f32⟩
  | 27 => ⟨S1x4112x1024, .f32⟩
  | 28 => ⟨S1x4112x1024, .f32⟩
  | 29 => ⟨S1x4112x1024, .f32⟩
  | 30 => ⟨S3x1024, .f32⟩
  | 31 => ⟨S3x4112x4112, .i32⟩
  | 32 => ⟨S3x4112x4112, .i32⟩
  | 33 => ⟨S3x4112x4112, .i32⟩
  | 34 => ⟨S_, .i32⟩
  | 35 => ⟨S3x4112x4112, .i32⟩
  | 36 => ⟨S3x4112x4112, .i32⟩
  | 37 => ⟨S3x4112x4112, .i32⟩
  | 38 => ⟨S3x4112x4112, .i1⟩
  | 39 => ⟨S_, .f32⟩
  | 40 => ⟨S_, .f32⟩
  | 41 => ⟨S3x4112x4112, .f32⟩
  | 42 => ⟨S3x4112x4112, .f32⟩
  | 43 => ⟨S3x4112x4112, .f32⟩
  | 44 => ⟨S1x3x1x1024, .f32⟩
  | 45 => ⟨S1x1024x3x4112, .f32⟩
  | 46 => ⟨S1x3x4112x1024, .f32⟩
  | 47 => ⟨S1x3x4112x1024, .f32⟩
  | 48 => ⟨S1x3x4112x1024, .f32⟩
  | 49 => ⟨S_, .f32⟩
  | 50 => ⟨S1x4112x1024, .f32⟩
  | 51 => ⟨S1x4112x1024, .f32⟩
  | 52 => ⟨S1x4112x1024, .f32⟩
  | 53 => ⟨S1x4112x1024, .f32⟩
  | 54 => ⟨S_, .f32⟩
  | 55 => ⟨S1x4112x1024, .f32⟩
  | 56 => ⟨S1x4112x1024, .f32⟩
  | 57 => ⟨S_, .f32⟩
  | 58 => ⟨S1x4112x1024, .f32⟩
  | 59 => ⟨S1x4112x1024, .f32⟩
  | 60 => ⟨S_, .f32⟩
  | 61 => ⟨S1x4112x1024, .f32⟩
  | 62 => ⟨S1x4112x1024, .f32⟩
  | 63 => ⟨S1x4112x1024, .f32⟩
  | 64 => ⟨S1x4112x1024, .f32⟩
  | 65 => ⟨S1x4112x1024, .f32⟩
  | 66 => ⟨S1024x1024, .f32⟩
  | 67 => ⟨S1x4112x1024, .f32⟩
  | 68 => ⟨S1x4112x1024, .f32⟩
  | 69 => ⟨S1x4112x1024, .f32⟩
  | 70 => ⟨S1x4112x1024, .f32⟩
  | 71 => ⟨S_, .f32⟩
  | 72 => ⟨S1x4112x1024, .f32⟩
  | 73 => ⟨S1x4112x1024, .f32⟩
  | 74 => ⟨S_, .f32⟩
  | 75 => ⟨S1x4112x1024, .f32⟩
  | 76 => ⟨S1x4112x1024, .f32⟩
  | 77 => ⟨S_, .f32⟩
  | 78 => ⟨S1x4112x1024, .f32⟩
  | 79 => ⟨S1x4112x1024, .f32⟩
  | 80 => ⟨S1x4112x1024, .f32⟩
  | 81 => ⟨S1x4112x1024, .f32⟩
  | 82 => ⟨S1x4112x1024, .f32⟩
  | 83 => ⟨S1x4112x1024, .f32⟩
  | 84 => ⟨S_, .f32⟩
  | 85 => ⟨S1x4112x1024, .f32⟩
  | 86 => ⟨S1x4112x1024, .f32⟩
  | 87 => ⟨S_, .f32⟩
  | 88 => ⟨S1x4112x1024, .f32⟩
  | 89 => ⟨S1x4112x1024, .f32⟩
  | 90 => ⟨S_, .f32⟩
  | 91 => ⟨S1x4112x1024, .f32⟩
  | 92 => ⟨S1x4112x1024, .f32⟩
  | 93 => ⟨S1x4112x1024, .f32⟩
  | 94 => ⟨S1x4112x1024, .f32⟩
  | 95 => ⟨S1x4112x1024, .f32⟩
  | 96 => ⟨S1024x1024, .f32⟩
  | 97 => ⟨S1x4112x1024, .f32⟩
  | 98 => ⟨S1x4112x1024, .f32⟩
  | 99 => ⟨S1x4112x1024, .f32⟩
  | 100 => ⟨S1x4112x1024, .f32⟩
  | 101 => ⟨S_, .f32⟩
  | 102 => ⟨S1x4112, .f32⟩
  | 103 => ⟨S1x4112x1, .f32⟩
  | 104 => ⟨S_, .f32⟩
  | 105 => ⟨S1x4112x1, .f32⟩
  | 106 => ⟨S1x4112x1, .f32⟩
  | 107 => ⟨S_, .f32⟩
  | 108 => ⟨S1x4112x1, .f32⟩
  | 109 => ⟨S1x4112x1, .f32⟩
  | 110 => ⟨S1x4112x1, .f32⟩
  | 111 => ⟨S1x4112x1, .f32⟩
  | 112 => ⟨S_, .f32⟩
  | 113 => ⟨S1x4112x1, .f32⟩
  | 114 => ⟨S1x4112x1, .f32⟩
  | 115 => ⟨S1x4112x1024, .f32⟩
  | 116 => ⟨S1x4112x1024, .f32⟩
  | 117 => ⟨S1x1x1024, .f32⟩
  | 118 => ⟨S1x4112x1024, .f32⟩
  | 119 => ⟨S1x4112x1024, .f32⟩
  | 120 => ⟨S1x4096x1024, .f32⟩
  | 121 => ⟨S1x4096x1024, .f32⟩
  | 122 => ⟨S1x4096x1024, .f32⟩
  | 123 => ⟨S_, .f32⟩
  | 124 => ⟨S1x4096x1024, .f32⟩
  | 125 => ⟨S1x4096x1024, .f32⟩
  | 126 => ⟨S_, .f32⟩
  | 127 => ⟨S1x4096, .f32⟩
  | _ => ⟨S1x4096x1024, .f32⟩

abbrev hbmTy0_2 (i : Nat) : BufTy := match i % 128 with
  | 0 => ⟨S_, .f32⟩
  | 1 => ⟨S1x4096, .f32⟩
  | 2 => ⟨S1x4096, .f32⟩
  | 3 => ⟨S_, .f32⟩
  | 4 => ⟨S_, .f32⟩
  | 5 => ⟨S_, .f32⟩
  | 6 => ⟨S_, .f32⟩
  | 7 => ⟨S3x4112x1024, .f32⟩
  | 8 => ⟨S_, .f32⟩
  | 9 => ⟨S_, .f32⟩
  | 10 => ⟨S_, .f32⟩
  | 11 => ⟨S1x4096, .f32⟩
  | 12 => ⟨S_, .f32⟩
  | 13 => ⟨S1x4096, .f32⟩
  | 14 => ⟨S1x4096, .f32⟩
  | 15 => ⟨S1x4096x1024, .f32⟩
  | 16 => ⟨S1x4096x1024, .f32⟩
  | 17 => ⟨S_, .f32⟩
  | 18 => ⟨S1x4112x1024, .f32⟩
  | 19 => ⟨S1x4112x1024, .f32⟩
  | 20 => ⟨S_, .f32⟩
  | 21 => ⟨S1x1024, .f32⟩
  | 22 => ⟨S1x1x1024, .f32⟩
  | 23 => ⟨S1x4112x1024, .f32⟩
  | 24 => ⟨S1x4112x1024, .f32⟩
  | 25 => ⟨S_, .f32⟩
  | 26 => ⟨S1024, .f32⟩
  | 27 => ⟨S1x4112x1024, .f32⟩
  | 28 => ⟨S_, .f32⟩
  | 29 => ⟨S1x4112, .f32⟩
  | 30 => ⟨S1x4112x1, .f32⟩
  | 31 => ⟨S1x4112x1024, .f32⟩
  | 32 => ⟨S1x4112x1024, .f32⟩
  | 33 => ⟨S1x4112x1, .f32⟩
  | 34 => ⟨S_, .f32⟩
  | 35 => ⟨S1x4112x1, .f32⟩
  | 36 => ⟨S1x4112x1, .f32⟩
  | 37 => ⟨S_, .f32⟩
  | 38 => ⟨S4112, .f32⟩
  | 39 => ⟨S1x4112, .f32⟩
  | 40 => ⟨S1x4112x1024, .f32⟩
  | 41 => ⟨S1x4112x1024, .f32⟩
  | 42 => ⟨S1x4112x1024, .f32⟩
  | 43 => ⟨S1x4112x1024, .f32⟩
  | 44 => ⟨S1x4112x1024, .f32⟩
  | 45 => ⟨S1x4112x1024, .f32⟩
  | 46 => ⟨S1x4112x1024, .f32⟩
  | 47 => ⟨S1x4112x1024, .f32⟩
  | 48 => ⟨S1x4112x1024, .f32⟩
  | 49 => ⟨S1x4112x1024, .f32⟩
  | 50 => ⟨S1x4112x1024, .f32⟩
  | 51 => ⟨S1x4112x1024, .f32⟩
  | 52 => ⟨S1x4112x1024, .f32⟩
  | 53 => ⟨S1x4112x1024, .f32⟩
  | 54 => ⟨S1x4112x1024, .f32⟩
  | 55 => ⟨S1x4112x1024, .f32⟩
  | 56 => ⟨S1x4112x1024, .f32⟩
  | 57 => ⟨S1x4112x1024, .f32⟩
  | 58 => ⟨S1x4112x1024, .f32⟩
  | 59 => ⟨S1x4112x1024, .f32⟩
  | 60 => ⟨S1x4112x1024, .f32⟩
  | 61 => ⟨S1x3x4112x1024, .f32⟩
  | 62 => ⟨S1x3x4112x1024, .f32⟩
  | 63 => ⟨S1x3x4112x1024, .f32⟩
  | 64 => ⟨S1x3x4112x1024, .f32⟩
  | 65 => ⟨S_, .f32⟩
  | 66 => ⟨S1x3x1024, .f32⟩
  | 67 => ⟨S1x3x1x1024, .f32⟩
  | 68 => ⟨S1x1024x3x4112, .f32⟩
  | 69 => ⟨S1x1024x4112, .f32⟩
  | 70 => ⟨S1x4112x1024, .f32⟩
  | 71 => ⟨S_, .f32⟩
  | 72 => ⟨S3x1024, .f32⟩
  | 73 => ⟨S1x3x1024, .f32⟩
  | 74 => ⟨S1x4112x1024, .f32⟩
  | 75 => ⟨S1x4112x1024, .f32⟩
  | 76 => ⟨S_, .f32⟩
  | 77 => ⟨S1x1024, .f32⟩
  | 78 => ⟨S1x1x1024, .f32⟩
  | 79 => ⟨S_, .f32⟩
  | 80 => ⟨S1024, .f32⟩
  | 81 => ⟨S1x1024, .f32⟩
  | 82 => ⟨S1x4112x1024, .f32⟩
  | 83 => ⟨S1x4112x1024, .f32⟩
  | 84 => ⟨S1x4112x1024, .f32⟩
  | 85 => ⟨S1x4112x1024, .f32⟩
  | 86 => ⟨S1x4112x1024, .f32⟩
  | 87 => ⟨S1x4112x1024, .f32⟩
  | 88 => ⟨S1x4112x1024, .f32⟩
  | 89 => ⟨S1x4112x1024, .f32⟩
  | 90 => ⟨S1x4112x1024, .f32⟩
  | 91 => ⟨S1x4112x1024, .f32⟩
  | 92 => ⟨S1x4112x1024, .f32⟩
  | 93 => ⟨S_, .f32⟩
  | 94 => ⟨S1x1024, .f32⟩
  | 95 => ⟨S1x1x1024, .f32⟩
  | 96 => ⟨S_, .f32⟩
  | 97 => ⟨S1024, .f32⟩
  | 98 => ⟨S1x4112x1024, .f32⟩
  | 99 => ⟨S_, .f32⟩
  | 100 => ⟨S1x1024, .f32⟩
  | 101 => ⟨S1x1x1024, .f32⟩
  | 102 => ⟨S1x4112x1024, .f32⟩
  | 103 => ⟨S1x4112x1024, .f32⟩
  | 104 => ⟨S_, .f32⟩
  | 105 => ⟨S1024, .f32⟩
  | 106 => ⟨S1x4112x1024, .f32⟩
  | 107 => ⟨S_, .f32⟩
  | 108 => ⟨S1x4112, .f32⟩
  | 109 => ⟨S1x4112x1, .f32⟩
  | 110 => ⟨S1x4112x1024, .f32⟩
  | 111 => ⟨S1x4112x1024, .f32⟩
  | 112 => ⟨S1x4112x1, .f32⟩
  | 113 => ⟨S1x4112x1024, .f32⟩
  | 114 => ⟨S_, .f32⟩
  | 115 => ⟨S1x4112, .f32⟩
  | 116 => ⟨S1x4112x1, .f32⟩
  | 117 => ⟨S_, .f32⟩
  | 118 => ⟨S1x4112x1, .f32⟩
  | 119 => ⟨S1x4112x1, .f32⟩
  | 120 => ⟨S_, .f32⟩
  | 121 => ⟨S4112, .f32⟩
  | 122 => ⟨S1x4112, .f32⟩
  | 123 => ⟨S1x4112x1024, .f32⟩
  | 124 => ⟨S1x4112x1024, .f32⟩
  | 125 => ⟨S1x4112x1024, .f32⟩
  | 126 => ⟨S_, .f32⟩
  | 127 => ⟨S1x4112, .f32⟩
  | _ => ⟨S1x4096x1024, .f32⟩

abbrev hbmTy0_3 (i : Nat) : BufTy := match i % 128 with
  | 0 => ⟨S1x4112x1, .f32⟩
  | 1 => ⟨S1x4112x1024, .f32⟩
  | 2 => ⟨S1x4112x1, .f32⟩
  | 3 => ⟨S_, .f32⟩
  | 4 => ⟨S1x4112x1, .f32⟩
  | 5 => ⟨S1x4112x1, .f32⟩
  | 6 => ⟨S_, .f32⟩
  | 7 => ⟨S4112, .f32⟩
  | 8 => ⟨S1x4112, .f32⟩
  | 9 => ⟨S1x4112x1024, .f32⟩
  | 10 => ⟨S1x4112x1024, .f32⟩
  | 11 => ⟨S1x1024, .f32⟩
  | 12 => ⟨S1x1024, .f32⟩
  | 13 => ⟨S_, .f32⟩
  | 14 => ⟨S1x1024, .f32⟩
  | 15 => ⟨S1x1x1024, .f32⟩
  | 16 => ⟨S_, .f32⟩
  | 17 => ⟨S1024, .f32⟩
  | 18 => ⟨S1x1024, .f32⟩
  | 19 => ⟨S1x31x4112x1024, .f32⟩
  | 20 => ⟨S1x31x4112x1024, .f32⟩
  | 21 => ⟨S1x31x4112x1024, .f32⟩
  | 22 => ⟨S1x31x4112x1024, .f32⟩
  | 23 => ⟨S_, .f32⟩
  | 24 => ⟨S1x31x1024, .f32⟩
  | 25 => ⟨S1x31x1x1024, .f32⟩
  | 26 => ⟨S1x1024x31x4112, .f32⟩
  | 27 => ⟨S1x1024x4112, .f32⟩
  | 28 => ⟨S1x4112x1024, .f32⟩
  | 29 => ⟨S_, .f32⟩
  | 30 => ⟨S31x1024, .f32⟩
  | 31 => ⟨S1x31x1024, .f32⟩
  | 32 => ⟨S1x4112x1024, .f32⟩
  | 33 => ⟨S1x4112x1024, .f32⟩
  | 34 => ⟨S1x4112x1024, .f32⟩
  | 35 => ⟨S1x4112x9216, .f32⟩
  | 36 => ⟨S3x4112x1024, .f32⟩
  | _ => ⟨S1x4096x1024, .f32⟩

abbrev hbmTy (i : Nat) : BufTy := match i / 128 with
  | 0 => hbmTy0_0 i
  | 1 => hbmTy0_1 i
  | 2 => hbmTy0_2 i
  | 3 => hbmTy0_3 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_3 : Ref sig .tc := ⟨.hbm, 49, rfl⟩
abbrev main_v30 : Ref sig .tc := ⟨.hbm, 50, rfl⟩
abbrev main_v31 : Ref sig .tc := ⟨.hbm, 51, rfl⟩
abbrev main_cst_4 : Ref sig .tc := ⟨.hbm, 52, rfl⟩
abbrev main_v32 : Ref sig .tc := ⟨.hbm, 53, rfl⟩
abbrev main_v33 : Ref sig .tc := ⟨.hbm, 54, rfl⟩
abbrev main_cst_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_6 : Ref sig .tc := ⟨.hbm, 69, rfl⟩
abbrev main_cst_7 : Ref sig .tc := ⟨.hbm, 70, rfl⟩
abbrev main_call0_v0 : Ref sig .tc := ⟨.hbm, 71, rfl⟩
abbrev main_call0_v1 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_8 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_11 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_cst_13 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_14 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_cst_15 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_call1_v0 : Ref sig .tc := ⟨.hbm, 123, rfl⟩
abbrev main_call1_v1 : Ref sig .tc := ⟨.hbm, 124, rfl⟩
abbrev main_call1_cst : Ref sig .tc := ⟨.hbm, 125, rfl⟩
abbrev main_call1_v2 : Ref sig .tc := ⟨.hbm, 126, rfl⟩
abbrev main_call1_v3 : Ref sig .tc := ⟨.hbm, 127, rfl⟩
abbrev main_call1_cst_0 : Ref sig .tc := ⟨.hbm, 128, rfl⟩
abbrev main_call1_v4 : Ref sig .tc := ⟨.hbm, 129, rfl⟩
abbrev main_v88_2 : Ref sig .tc := ⟨.hbm, 130, rfl⟩
abbrev main_call1_cst_1 : Ref sig .tc := ⟨.hbm, 131, rfl⟩
abbrev main_call1_v6 : Ref sig .tc := ⟨.hbm, 132, rfl⟩
abbrev main_call1_v7 : Ref sig .tc := ⟨.hbm, 133, rfl⟩
abbrev main_v88_1 : Ref sig .tc := ⟨.hbm, 134, rfl⟩
abbrev main_v88_0 : Ref sig .tc := ⟨.hbm, 135, rfl⟩
abbrev main_call2_v0 : Ref sig .tc := ⟨.hbm, 136, rfl⟩
abbrev main_call2_v1 : Ref sig .tc := ⟨.hbm, 137, rfl⟩
abbrev main_call2_cst : Ref sig .tc := ⟨.hbm, 138, rfl⟩
abbrev main_call2_v2 : Ref sig .tc := ⟨.hbm, 139, rfl⟩
abbrev main_call2_v3 : Ref sig .tc := ⟨.hbm, 140, rfl⟩
abbrev main_call2_cst_0 : Ref sig .tc := ⟨.hbm, 141, rfl⟩
abbrev main_call2_v4 : Ref sig .tc := ⟨.hbm, 142, rfl⟩
abbrev main_v89_2 : Ref sig .tc := ⟨.hbm, 143, rfl⟩
abbrev main_call2_cst_1 : Ref sig .tc := ⟨.hbm, 144, rfl⟩
abbrev main_call2_v6 : Ref sig .tc := ⟨.hbm, 145, rfl⟩
abbrev main_call2_v7 : Ref sig .tc := ⟨.hbm, 146, rfl⟩
abbrev main_v89_1 : Ref sig .tc := ⟨.hbm, 147, rfl⟩
abbrev main_v89_0 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_v101 : Ref sig .tc := ⟨.hbm, 160, rfl⟩
abbrev main_v102 : Ref sig .tc := ⟨.hbm, 161, rfl⟩
abbrev main_c_16 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_cst_17 : Ref sig .tc := ⟨.hbm, 167, rfl⟩
abbrev main_cst_18 : Ref sig .tc := ⟨.hbm, 168, rfl⟩
abbrev main_call3_v0 : Ref sig .tc := ⟨.hbm, 169, rfl⟩
abbrev main_call3_v1 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_cst_19 : Ref sig .tc := ⟨.hbm, 177, rfl⟩
abbrev main_v113 : Ref sig .tc := ⟨.hbm, 178, rfl⟩
abbrev main_v114 : Ref sig .tc := ⟨.hbm, 179, rfl⟩
abbrev main_call4_v0 : Ref sig .tc := ⟨.hbm, 180, rfl⟩
abbrev main_call4_v1 : Ref sig .tc := ⟨.hbm, 181, rfl⟩
abbrev main_call4_cst : Ref sig .tc := ⟨.hbm, 182, rfl⟩
abbrev main_call4_v2 : Ref sig .tc := ⟨.hbm, 183, rfl⟩
abbrev main_call4_v3 : Ref sig .tc := ⟨.hbm, 184, rfl⟩
abbrev main_call4_cst_0 : Ref sig .tc := ⟨.hbm, 185, rfl⟩
abbrev main_call4_v4 : Ref sig .tc := ⟨.hbm, 186, rfl⟩
abbrev main_v115_2 : Ref sig .tc := ⟨.hbm, 187, rfl⟩
abbrev main_call4_cst_1 : Ref sig .tc := ⟨.hbm, 188, rfl⟩
abbrev main_call4_v6 : Ref sig .tc := ⟨.hbm, 189, rfl⟩
abbrev main_call4_v7 : Ref sig .tc := ⟨.hbm, 190, rfl⟩
abbrev main_v115_1 : Ref sig .tc := ⟨.hbm, 191, rfl⟩
abbrev main_v115_0 : Ref sig .tc := ⟨.hbm, 192, rfl⟩
abbrev main_v116 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_cst_20 : Ref sig .tc := ⟨.hbm, 199, rfl⟩
abbrev main_v122 : Ref sig .tc := ⟨.hbm, 200, rfl⟩
abbrev main_v123 : Ref sig .tc := ⟨.hbm, 201, rfl⟩
abbrev main_cst_21 : Ref sig .tc := ⟨.hbm, 202, rfl⟩
abbrev main_v124 : Ref sig .tc := ⟨.hbm, 203, rfl⟩
abbrev main_v125 : Ref sig .tc := ⟨.hbm, 204, rfl⟩
abbrev main_cst_22 : Ref sig .tc := ⟨.hbm, 205, rfl⟩
abbrev main_v126 : Ref sig .tc := ⟨.hbm, 206, rfl⟩
abbrev main_v127 : Ref sig .tc := ⟨.hbm, 207, rfl⟩
abbrev main_v128 : Ref sig .tc := ⟨.hbm, 208, rfl⟩
abbrev main_v129 : Ref sig .tc := ⟨.hbm, 209, rfl⟩
abbrev main_v130 : Ref sig .tc := ⟨.hbm, 210, rfl⟩
abbrev main_v131 : Ref sig .tc := ⟨.hbm, 211, rfl⟩
abbrev main_cst_23 : Ref sig .tc := ⟨.hbm, 212, rfl⟩
abbrev main_v132 : Ref sig .tc := ⟨.hbm, 213, rfl⟩
abbrev main_v133 : Ref sig .tc := ⟨.hbm, 214, rfl⟩
abbrev main_cst_24 : Ref sig .tc := ⟨.hbm, 215, rfl⟩
abbrev main_v134 : Ref sig .tc := ⟨.hbm, 216, rfl⟩
abbrev main_v135 : Ref sig .tc := ⟨.hbm, 217, rfl⟩
abbrev main_cst_25 : Ref sig .tc := ⟨.hbm, 218, rfl⟩
abbrev main_v136 : Ref sig .tc := ⟨.hbm, 219, rfl⟩
abbrev main_v137 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_cst_26 : Ref sig .tc := ⟨.hbm, 229, rfl⟩
abbrev main_v146 : Ref sig .tc := ⟨.hbm, 230, rfl⟩
abbrev main_v147 : Ref sig .tc := ⟨.hbm, 231, rfl⟩
abbrev main_cst_27 : Ref sig .tc := ⟨.hbm, 232, rfl⟩
abbrev main_v148 : Ref sig .tc := ⟨.hbm, 233, rfl⟩
abbrev main_v149 : Ref sig .tc := ⟨.hbm, 234, rfl⟩
abbrev main_cst_28 : Ref sig .tc := ⟨.hbm, 235, rfl⟩
abbrev main_v150 : Ref sig .tc := ⟨.hbm, 236, rfl⟩
abbrev main_v151 : Ref sig .tc := ⟨.hbm, 237, rfl⟩
abbrev main_v152 : Ref sig .tc := ⟨.hbm, 238, rfl⟩
abbrev main_v153 : Ref sig .tc := ⟨.hbm, 239, rfl⟩
abbrev main_cst_29 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_cst_30 : Ref sig .tc := ⟨.hbm, 251, rfl⟩
abbrev main_v164 : Ref sig .tc := ⟨.hbm, 252, rfl⟩
abbrev main_v165 : Ref sig .tc := ⟨.hbm, 253, rfl⟩
abbrev main_cst_31 : Ref sig .tc := ⟨.hbm, 254, rfl⟩
abbrev main_v166 : Ref sig .tc := ⟨.hbm, 255, rfl⟩
abbrev main_cst_32 : Ref sig .tc := ⟨.hbm, 256, rfl⟩
abbrev main_v167 : Ref sig .tc := ⟨.hbm, 257, rfl⟩
abbrev main_v168 : Ref sig .tc := ⟨.hbm, 258, rfl⟩
abbrev main_cst_33 : Ref sig .tc := ⟨.hbm, 259, rfl⟩
abbrev main_v169 : Ref sig .tc := ⟨.hbm, 260, rfl⟩
abbrev main_cst_34 : Ref sig .tc := ⟨.hbm, 261, rfl⟩
abbrev main_v170 : Ref sig .tc := ⟨.hbm, 262, rfl⟩
abbrev main_v171 : Ref sig .tc := ⟨.hbm, 263, rfl⟩
abbrev main_cst_35 : Ref sig .tc := ⟨.hbm, 264, rfl⟩
abbrev main_cst_36 : Ref sig .tc := ⟨.hbm, 265, rfl⟩
abbrev main_v172 : Ref sig .tc := ⟨.hbm, 266, rfl⟩
abbrev main_v173 : Ref sig .tc := ⟨.hbm, 267, rfl⟩
abbrev main_cst_37 : Ref sig .tc := ⟨.hbm, 268, rfl⟩
abbrev main_v174 : Ref sig .tc := ⟨.hbm, 269, rfl⟩
abbrev main_v175 : Ref sig .tc := ⟨.hbm, 270, rfl⟩
abbrev main_v176 : Ref sig .tc := ⟨.hbm, 271, rfl⟩
abbrev main_v177 : Ref sig .tc := ⟨.hbm, 272, rfl⟩
abbrev main_cst_38 : Ref sig .tc := ⟨.hbm, 273, rfl⟩
abbrev main_v178 : Ref sig .tc := ⟨.hbm, 274, rfl⟩
abbrev main_v179 : Ref sig .tc := ⟨.hbm, 275, rfl⟩
abbrev main_cst_39 : Ref sig .tc := ⟨.hbm, 276, rfl⟩
abbrev main_v180 : Ref sig .tc := ⟨.hbm, 277, rfl⟩
abbrev main_v181 : Ref sig .tc := ⟨.hbm, 278, rfl⟩
abbrev main_v182 : Ref sig .tc := ⟨.hbm, 279, rfl⟩
abbrev main_v183 : Ref sig .tc := ⟨.hbm, 280, rfl⟩
abbrev main_cst_40 : Ref sig .tc := ⟨.hbm, 281, rfl⟩
abbrev main_v184 : Ref sig .tc := ⟨.hbm, 282, rfl⟩
abbrev main_v185 : Ref sig .tc := ⟨.hbm, 283, rfl⟩
abbrev main_cst_41 : Ref sig .tc := ⟨.hbm, 284, rfl⟩
abbrev main_v186 : Ref sig .tc := ⟨.hbm, 285, rfl⟩
abbrev main_v187 : Ref sig .tc := ⟨.hbm, 286, rfl⟩
abbrev main_v188 : Ref sig .tc := ⟨.hbm, 287, rfl⟩
abbrev main_v189 : Ref sig .tc := ⟨.hbm, 288, rfl⟩
abbrev main_v190 : Ref sig .tc := ⟨.hbm, 289, rfl⟩
abbrev main_cst_42 : Ref sig .tc := ⟨.hbm, 290, rfl⟩
abbrev main_v191 : Ref sig .tc := ⟨.hbm, 291, rfl⟩
abbrev main_v192 : Ref sig .tc := ⟨.hbm, 292, rfl⟩
abbrev main_cst_43 : Ref sig .tc := ⟨.hbm, 293, rfl⟩
abbrev main_v193 : Ref sig .tc := ⟨.hbm, 294, rfl⟩
abbrev main_v194 : Ref sig .tc := ⟨.hbm, 295, rfl⟩
abbrev main_v195 : Ref sig .tc := ⟨.hbm, 296, rfl⟩
abbrev main_v196 : Ref sig .tc := ⟨.hbm, 297, rfl⟩
abbrev main_v197 : Ref sig .tc := ⟨.hbm, 298, rfl⟩
abbrev main_v198 : Ref sig .tc := ⟨.hbm, 299, rfl⟩
abbrev main_v199 : Ref sig .tc := ⟨.hbm, 300, rfl⟩
abbrev main_v200 : Ref sig .tc := ⟨.hbm, 301, rfl⟩
abbrev main_v201 : Ref sig .tc := ⟨.hbm, 302, rfl⟩
abbrev main_v202 : Ref sig .tc := ⟨.hbm, 303, rfl⟩
abbrev main_v203 : Ref sig .tc := ⟨.hbm, 304, rfl⟩
abbrev main_v204 : Ref sig .tc := ⟨.hbm, 305, rfl⟩
abbrev main_v205 : Ref sig .tc := ⟨.hbm, 306, rfl⟩
abbrev main_v206 : Ref sig .tc := ⟨.hbm, 307, rfl⟩
abbrev main_v207 : Ref sig .tc := ⟨.hbm, 308, rfl⟩
abbrev main_v208 : Ref sig .tc := ⟨.hbm, 309, rfl⟩
abbrev main_v209 : Ref sig .tc := ⟨.hbm, 310, rfl⟩
abbrev main_call5_v0 : Ref sig .tc := ⟨.hbm, 311, rfl⟩
abbrev main_call5_v1 : Ref sig .tc := ⟨.hbm, 312, rfl⟩
abbrev main_call5_v2 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_cst_44 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_v220 : Ref sig .tc := ⟨.hbm, 325, rfl⟩
abbrev main_v221 : Ref sig .tc := ⟨.hbm, 326, rfl⟩
abbrev main_cst_45 : Ref sig .tc := ⟨.hbm, 327, rfl⟩
abbrev main_v222 : Ref sig .tc := ⟨.hbm, 328, rfl⟩
abbrev main_v223 : Ref sig .tc := ⟨.hbm, 329, rfl⟩
abbrev main_v224 : Ref sig .tc := ⟨.hbm, 330, rfl⟩
abbrev main_v225 : Ref sig .tc := ⟨.hbm, 331, rfl⟩
abbrev main_cst_46 : Ref sig .tc := ⟨.hbm, 332, rfl⟩
abbrev main_v226 : Ref sig .tc := ⟨.hbm, 333, rfl⟩
abbrev main_v227 : Ref sig .tc := ⟨.hbm, 334, rfl⟩
abbrev main_cst_47 : Ref sig .tc := ⟨.hbm, 335, rfl⟩
abbrev main_v228 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_call6_v0 : Ref sig .tc := ⟨.hbm, 341, rfl⟩
abbrev main_call6_v1 : Ref sig .tc := ⟨.hbm, 342, rfl⟩
abbrev main_call6_v2 : Ref sig .tc := ⟨.hbm, 343, rfl⟩
abbrev main_v233 : Ref sig .tc := ⟨.hbm, 344, rfl⟩
abbrev main_call7_v0 : Ref sig .tc := ⟨.hbm, 345, rfl⟩
abbrev main_call7_v1 : Ref sig .tc := ⟨.hbm, 346, rfl⟩
abbrev main_call7_v2 : Ref sig .tc := ⟨.hbm, 347, rfl⟩
abbrev main_v234 : Ref sig .tc := ⟨.hbm, 348, rfl⟩
abbrev main_cst_48 : Ref sig .tc := ⟨.hbm, 349, rfl⟩
abbrev main_v235 : Ref sig .tc := ⟨.hbm, 350, rfl⟩
abbrev main_v236 : Ref sig .tc := ⟨.hbm, 351, rfl⟩
abbrev main_cst_49 : Ref sig .tc := ⟨.hbm, 352, rfl⟩
abbrev main_v237 : Ref sig .tc := ⟨.hbm, 353, rfl⟩
abbrev main_v238 : Ref sig .tc := ⟨.hbm, 354, rfl⟩
abbrev main_cst_50 : Ref sig .tc := ⟨.hbm, 355, rfl⟩
abbrev main_v239 : Ref sig .tc := ⟨.hbm, 356, rfl⟩
abbrev main_v240 : Ref sig .tc := ⟨.hbm, 357, rfl⟩
abbrev main_v241 : Ref sig .tc := ⟨.hbm, 358, rfl⟩
abbrev main_v242 : Ref sig .tc := ⟨.hbm, 359, rfl⟩
abbrev main_cst_51 : Ref sig .tc := ⟨.hbm, 360, rfl⟩
abbrev main_v243 : Ref sig .tc := ⟨.hbm, 361, rfl⟩
abbrev main_v244 : Ref sig .tc := ⟨.hbm, 362, rfl⟩
abbrev main_cst_52 : Ref sig .tc := ⟨.hbm, 363, rfl⟩
abbrev main_v245 : Ref sig .tc := ⟨.hbm, 364, rfl⟩
abbrev main_v246 : Ref sig .tc := ⟨.hbm, 365, rfl⟩
abbrev main_v247 : Ref sig .tc := ⟨.hbm, 366, rfl⟩
abbrev main_v248 : Ref sig .tc := ⟨.hbm, 367, rfl⟩
abbrev main_v249 : Ref sig .tc := ⟨.hbm, 368, rfl⟩
abbrev main_v250 : Ref sig .tc := ⟨.hbm, 369, rfl⟩
abbrev main_cst_53 : Ref sig .tc := ⟨.hbm, 370, rfl⟩
abbrev main_v251 : Ref sig .tc := ⟨.hbm, 371, rfl⟩
abbrev main_v252 : Ref sig .tc := ⟨.hbm, 372, rfl⟩
abbrev main_cst_54 : Ref sig .tc := ⟨.hbm, 373, rfl⟩
abbrev main_v253 : Ref sig .tc := ⟨.hbm, 374, rfl⟩
abbrev main_v254 : Ref sig .tc := ⟨.hbm, 375, rfl⟩
abbrev main_cst_55 : Ref sig .tc := ⟨.hbm, 376, rfl⟩
abbrev main_v255 : Ref sig .tc := ⟨.hbm, 377, rfl⟩
abbrev main_v256 : Ref sig .tc := ⟨.hbm, 378, rfl⟩
abbrev main_v257 : Ref sig .tc := ⟨.hbm, 379, rfl⟩
abbrev main_v258 : Ref sig .tc := ⟨.hbm, 380, rfl⟩
abbrev main_v259 : Ref sig .tc := ⟨.hbm, 381, rfl⟩
abbrev main_cst_56 : Ref sig .tc := ⟨.hbm, 382, rfl⟩
abbrev main_v260 : Ref sig .tc := ⟨.hbm, 383, rfl⟩
abbrev main_v261 : Ref sig .tc := ⟨.hbm, 384, rfl⟩
abbrev main_v262 : Ref sig .tc := ⟨.hbm, 385, rfl⟩
abbrev main_v263 : Ref sig .tc := ⟨.hbm, 386, rfl⟩
abbrev main_cst_57 : Ref sig .tc := ⟨.hbm, 387, rfl⟩
abbrev main_v264 : Ref sig .tc := ⟨.hbm, 388, rfl⟩
abbrev main_v265 : Ref sig .tc := ⟨.hbm, 389, rfl⟩
abbrev main_cst_58 : Ref sig .tc := ⟨.hbm, 390, rfl⟩
abbrev main_v266 : Ref sig .tc := ⟨.hbm, 391, rfl⟩
abbrev main_v267 : Ref sig .tc := ⟨.hbm, 392, rfl⟩
abbrev main_v268 : Ref sig .tc := ⟨.hbm, 393, rfl⟩
abbrev main_v269 : Ref sig .tc := ⟨.hbm, 394, rfl⟩
abbrev main_v270 : Ref sig .tc := ⟨.hbm, 395, rfl⟩
abbrev main_v271 : Ref sig .tc := ⟨.hbm, 396, rfl⟩
abbrev main_cst_59 : Ref sig .tc := ⟨.hbm, 397, rfl⟩
abbrev main_v272 : Ref sig .tc := ⟨.hbm, 398, rfl⟩
abbrev main_v273 : Ref sig .tc := ⟨.hbm, 399, rfl⟩
abbrev main_cst_60 : Ref sig .tc := ⟨.hbm, 400, rfl⟩
abbrev main_v274 : Ref sig .tc := ⟨.hbm, 401, rfl⟩
abbrev main_v275 : Ref sig .tc := ⟨.hbm, 402, rfl⟩
abbrev main_v276 : Ref sig .tc := ⟨.hbm, 403, rfl⟩
abbrev main_v277 : Ref sig .tc := ⟨.hbm, 404, rfl⟩
abbrev main_v278 : Ref sig .tc := ⟨.hbm, 405, rfl⟩
abbrev main_v279 : Ref sig .tc := ⟨.hbm, 406, rfl⟩
abbrev main_cst_61 : Ref sig .tc := ⟨.hbm, 407, rfl⟩
abbrev main_v280 : Ref sig .tc := ⟨.hbm, 408, rfl⟩
abbrev main_v281 : Ref sig .tc := ⟨.hbm, 409, rfl⟩
abbrev main_v282 : Ref sig .tc := ⟨.hbm, 410, rfl⟩
abbrev main_v283 : Ref sig .tc := ⟨.hbm, 411, rfl⟩
abbrev main_v284 : Ref sig .tc := ⟨.hbm, 412, rfl⟩
abbrev main_cst_62 : Ref sig .tc := ⟨.hbm, 413, rfl⟩
abbrev main_v285 : Ref sig .tc := ⟨.hbm, 414, rfl⟩
abbrev main_v286 : Ref sig .tc := ⟨.hbm, 415, rfl⟩
abbrev main_v287 : Ref sig .tc := ⟨.hbm, 416, rfl⟩
abbrev main_v288 : Ref sig .tc := ⟨.hbm, 417, rfl⟩
abbrev main_v289 : Ref sig .tc := ⟨.hbm, 418, rfl⟩
abbrev main_v290 : Ref sig .tc := ⟨.hbm, 419, rfl⟩
abbrev main_v291 : Ref sig .tc := ⟨.hbm, 420, rfl⟩

abbrev nD : Nat := 1
abbrev τ : Topo := Topo.v7x

variable {F : FTy → Type} [FloatOps F]
-- ==== Kernel3.lean ====
abbrev S1x4096x1024 : Shape := ⟨3, ![1, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x31x1024 : Shape := ⟨3, ![1, 31, 1024]⟩
abbrev S1x1024x1024 : Shape := ⟨3, ![1, 1024, 1024]⟩
abbrev S1x3x1024 : Shape := ⟨3, ![1, 3, 1024]⟩
abbrev S1x4112x1024 : Shape := ⟨3, ![1, 4112, 1024]⟩
abbrev S1x16x1024 : Shape := ⟨3, ![1, 16, 1024]⟩
abbrev S1024 : Shape := ⟨1, ![1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1024x9216 : Shape := ⟨2, ![1024, 9216]⟩
abbrev S1x4112x9216 : Shape := ⟨3, ![1, 4112, 9216]⟩
abbrev S31x1024 : Shape := ⟨2, ![31, 1024]⟩
abbrev S31x4112 : Shape := ⟨2, ![31, 4112]⟩
abbrev S1x30x1024 : Shape := ⟨3, ![1, 30, 1024]⟩
abbrev S1x4142x1024 : Shape := ⟨3, ![1, 4142, 1024]⟩
abbrev S1x31x1x1024 : Shape := ⟨4, ![1, 31, 1, 1024]⟩
abbrev S31x4112x1 : Shape := ⟨3, ![31, 4112, 1]⟩
abbrev S1x31x4112x1024 : Shape := ⟨4, ![1, 31, 4112, 1024]⟩
abbrev S1024x1024 : Shape := ⟨2, ![1024, 1024]⟩
abbrev S3x1024 : Shape := ⟨2, ![3, 1024]⟩
abbrev S3x4112 : Shape := ⟨2, ![3, 4112]⟩
abbrev S1x2x1024 : Shape := ⟨3, ![1, 2, 1024]⟩
abbrev S1x4114x1024 : Shape := ⟨3, ![1, 4114, 1024]⟩
abbrev S1x3x1x1024 : Shape := ⟨4, ![1, 3, 1, 1024]⟩
abbrev S3x4112x1 : Shape := ⟨3, ![3, 4112, 1]⟩
abbrev S1x3x4112x1024 : Shape := ⟨4, ![1, 3, 4112, 1024]⟩
abbrev S3x4112x1024 : Shape := ⟨3, ![3, 4112, 1024]⟩
abbrev S3x4096x1024 : Shape := ⟨3, ![3, 4096, 1024]⟩
abbrev S3x112x1024 : Shape := ⟨3, ![3, 112, 1024]⟩
abbrev S3x16x1024 : Shape := ⟨3, ![3, 16, 1024]⟩
abbrev S3x4224x1024 : Shape := ⟨3, ![3, 4224, 1024]⟩
abbrev S8x128 : Shape := ⟨2, ![8, 128]⟩
abbrev S8x3x128x1024 : Shape := ⟨4, ![8, 3, 128, 1024]⟩
abbrev S1x1408x1024 : Shape := ⟨3, ![1, 1408, 1024]⟩
abbrev S8x1x128x1024 : Shape := ⟨4, ![8, 1, 128, 1024]⟩
abbrev S8x128x1024 : Shape := ⟨3, ![8, 128, 1024]⟩
abbrev S1408x1024 : Shape := ⟨2, ![1408, 1024]⟩
abbrev S3x8x128x1024 : Shape := ⟨4, ![3, 8, 128, 1024]⟩
abbrev S3x1024x1024 : Shape := ⟨3, ![3, 1024, 1024]⟩

abbrev nBuf : Space → Nat
  | .hbm => 215
  | .vmem => 6
  | .smem => 0
  | _ => 0

abbrev hbmTy0_0 (i : Nat) : BufTy := match i % 128 with
  | 0 => ⟨S1x4096x1024, .f32⟩
  | 1 => ⟨S16x1024, .f32⟩
  | 2 => ⟨S1x1024, .f32⟩
  | 3 => ⟨S1x1024x9216, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x3x1024, .f32⟩
  | 11 => ⟨S1x1024x1024, .f32⟩
  | 12 => ⟨S1x1024x1024, .f32⟩
  | 13 => ⟨S1x4112x1024, .f32⟩
  | 14 => ⟨S1x4112x1024, .f32⟩
  | 15 => ⟨S1x4112x1024, .f32⟩
  | 16 => ⟨S1x16x1024, .f32⟩
  | 17 => ⟨S1x4112x1024, .f32⟩
  | 18 => ⟨S1024, .f32⟩
  | 19 => ⟨S1x4112x1024, .f32⟩
  | 20 => ⟨S_, .f32⟩
  | 21 => ⟨S1x4112, .f32⟩
  | 22 => ⟨S1x4112x1, .f32⟩
  | 23 => ⟨S_, .f32⟩
  | 24 => ⟨S1x4112x1, .f32⟩
  | 25 => ⟨S1x4112x1, .f32⟩
  | 26 => ⟨S_, .f32⟩
  | 27 => ⟨S1x4112x1, .f32⟩
  | 28 => ⟨S1x4112x1, .f32⟩
  | 29 => ⟨S1x4112x1, .f32⟩
  | 30 => ⟨S1x4112x1024, .f32⟩
  | 31 => ⟨S1x4112x1024, .f32⟩
  | 32 => ⟨S1x1x1024, .f32⟩
  | 33 => ⟨S1x4112x1024, .f32⟩
  | 34 => ⟨S1x4112x1024, .f32⟩
  | 35 => ⟨S1024x9216, .f32⟩
  | 36 => ⟨S1x4112x9216, .f32⟩
  | 37 => ⟨S1x4112x1024, .f32⟩
  | 38 => ⟨S1x4112x1024, .f32⟩
  | 39 => ⟨S1x4112x1024, .f32⟩
  | 40 => ⟨S1x4112x1024, .f32⟩
  | 41 => ⟨S1x4112x1024, .f32⟩
  | 42 => ⟨S1x4112x1024, .f32⟩
  | 43 => ⟨S1x4112x1024, .f32⟩
  | 44 => ⟨S1x4112x1024, .f32⟩
  | 45 => ⟨S1x4112x1024, .f32⟩
  | 46 => ⟨S1x4112x1024, .f32⟩
  | 47 => ⟨S1x4112x1024, .f32⟩
  | 48 => ⟨S_, .f32⟩
  | 49 => ⟨S1x4112x1024, .f32⟩
  | 50 => ⟨S1x4112x1024, .f32⟩
  | 51 => ⟨S_, .f32⟩
  | 52 => ⟨S1x4112x1024, .f32⟩
  | 53 => ⟨S1x4112x1024, .f32⟩
  | 54 => ⟨S1x4112x1024, .f32⟩
  | 55 => ⟨S31x1024, .f32⟩
  | 56 => ⟨S31x4112, .i32⟩
  | 57 => ⟨S31x4112, .i32⟩
  | 58 => ⟨S_, .f32⟩
  | 59 => ⟨S1x30x1024, .f32⟩
  | 60 => ⟨S1x4142x1024, .f32⟩
  | 61 => ⟨S1x31x1x1024, .f32⟩
  | 62 => ⟨S31x4112, .i32⟩
  | 63 => ⟨S_, .i32⟩
  | 64 => ⟨S31x4112, .i32⟩
  | 65 => ⟨S31x4112, .i1⟩
  | 66 => ⟨S_, .i32⟩
  | 67 => ⟨S31x4112, .i32⟩
  | 68 => ⟨S31x4112, .i32⟩
  | 69 => ⟨S31x4112, .i32⟩
  | 70 => ⟨S31x4112x1, .i32⟩
  | 71 => ⟨S1x31x4112x1024, .f32⟩
  | 72 => ⟨S1x31x4112x1024, .f32⟩
  | 73 => ⟨S1x31x4112x1024, .f32⟩
  | 74 => ⟨S_, .f32⟩
  | 75 => ⟨S1x4112x1024, .f32⟩
  | 76 => ⟨S1024, .f32⟩
  | 77 => ⟨S1x1x1024, .f32⟩
  | 78 => ⟨S1x4112x1024, .f32⟩
  | 79 => ⟨S1x4112x1024, .f32⟩
  | 80 => ⟨S1024, .f32⟩
  | 81 => ⟨S1024, .f32⟩
  | 82 => ⟨S_, .f32⟩
  | 83 => ⟨S1x4112, .f32⟩
  | 84 => ⟨S1x4112x1, .f32⟩
  | 85 => ⟨S_, .f32⟩
  | 86 => ⟨S1x4112x1, .f32⟩
  | 87 => ⟨S1x4112x1, .f32⟩
  | 88 => ⟨S1x4112x1024, .f32⟩
  | 89 => ⟨S1x4112x1024, .f32⟩
  | 90 => ⟨S1x4112x1024, .f32⟩
  | 91 => ⟨S_, .f32⟩
  | 92 => ⟨S1x4112, .f32⟩
  | 93 => ⟨S1x4112x1, .f32⟩
  | 94 => ⟨S_, .f32⟩
  | 95 => ⟨S1x4112x1, .f32⟩
  | 96 => ⟨S1x4112x1, .f32⟩
  | 97 => ⟨S1x4112x1024, .f32⟩
  | 98 => ⟨S1x4112x1024, .f32⟩
  | 99 => ⟨S_, .f32⟩
  | 100 => ⟨S1x4112x1, .f32⟩
  | 101 => ⟨S1x4112x1, .f32⟩
  | 102 => ⟨S1x4112x1, .f32⟩
  | 103 => ⟨S1x4112x1024, .f32⟩
  | 104 => ⟨S1x4112x1024, .f32⟩
  | 105 => ⟨S1x1x1024, .f32⟩
  | 106 => ⟨S1x4112x1024, .f32⟩
  | 107 => ⟨S1x4112x1024, .f32⟩
  | 108 => ⟨S1x1x1024, .f32⟩
  | 109 => ⟨S1x4112x1024, .f32⟩
  | 110 => ⟨S1x4112x1024, .f32⟩
  | 111 => ⟨S1x4112x1024, .f32⟩
  | 112 => ⟨S1x4112x1024, .f32⟩
  | 113 => ⟨S_, .f32⟩
  | 114 => ⟨S1x4112x1024, .f32⟩
  | 115 => ⟨S1x4112x1024, .f32⟩
  | 116 => ⟨S_, .f32⟩
  | 117 => ⟨S1x4112x1024, .f32⟩
  | 118 => ⟨S1x4112x1024, .f32⟩
  | 119 => ⟨S1x4112x1024, .f32⟩
  | 120 => ⟨S1x4112x1024, .f32⟩
  | 121 => ⟨S1x4112x1024, .f32⟩
  | 122 => ⟨S_, .f32⟩
  | 123 => ⟨S1x4112x1024, .f32⟩
  | 124 => ⟨S1x4112x1024, .f32⟩
  | 125 => ⟨S_, .f32⟩
  | 126 => ⟨S1x4112x1024, .f32⟩
  | 127 => ⟨S1x4112x1024, .f32⟩
  | _ => ⟨S1x4096x1024, .f32⟩

abbrev hbmTy0_1 (i : Nat) : BufTy := match i % 128 with
  | 0 => ⟨S1x4112x1024, .f32⟩
  | 1 => ⟨S1x4112x1024, .f32⟩
  | 2 => ⟨S1024x1024, .f32⟩
  | 3 => ⟨S1x4112x1024, .f32⟩
  | 4 => ⟨S1024, .f32⟩
  | 5 => ⟨S1x1x1024, .f32⟩
  | 6 => ⟨S1x4112x1024, .f32⟩
  | 7 => ⟨S1x4112x1024, .f32⟩
  | 8 => ⟨S_, .f32⟩
  | 9 => ⟨S1x4112x1024, .f32⟩
  | 10 => ⟨S1x4112x1024, .f32⟩
  | 11 => ⟨S1x4112x1024, .f32⟩
  | 12 => ⟨S3x1024, .f32⟩
  | 13 => ⟨S3x4112, .i32⟩
  | 14 => ⟨S3x4112, .i32⟩
  | 15 => ⟨S_, .f32⟩
  | 16 => ⟨S1x2x1024, .f32⟩
  | 17 => ⟨S1x4114x1024, .f32⟩
  | 18 => ⟨S1x3x1x1024, .f32⟩
  | 19 => ⟨S3x4112, .i32⟩
  | 20 => ⟨S_, .i32⟩
  | 21 => ⟨S3x4112, .i32⟩
  | 22 => ⟨S3x4112, .i1⟩
  | 23 => ⟨S_, .i32⟩
  | 24 => ⟨S3x4112, .i32⟩
  | 25 => ⟨S3x4112, .i32⟩
  | 26 => ⟨S3x4112, .i32⟩
  | 27 => ⟨S3x4112x1, .i32⟩
  | 28 => ⟨S1x3x4112x1024, .f32⟩
  | 29 => ⟨S1x3x4112x1024, .f32⟩
  | 30 => ⟨S1x3x4112x1024, .f32⟩
  | 31 => ⟨S_, .f32⟩
  | 32 => ⟨S1x4112x1024, .f32⟩
  | 33 => ⟨S1x4112x1024, .f32⟩
  | 34 => ⟨S1x4112x1024, .f32⟩
  | 35 => ⟨S1x4112x1024, .f32⟩
  | 36 => ⟨S_, .f32⟩
  | 37 => ⟨S1x4112x1024, .f32⟩
  | 38 => ⟨S1x4112x1024, .f32⟩
  | 39 => ⟨S_, .f32⟩
  | 40 => ⟨S1x4112x1024, .f32⟩
  | 41 => ⟨S1x4112x1024, .f32⟩
  | 42 => ⟨S1x4112x1024, .f32⟩
  | 43 => ⟨S1x4112x1024, .f32⟩
  | 44 => ⟨S1024x1024, .f32⟩
  | 45 => ⟨S1x4112x1024, .f32⟩
  | 46 => ⟨S_, .f32⟩
  | 47 => ⟨S1x4112x1024, .f32⟩
  | 48 => ⟨S1x4112x1024, .f32⟩
  | 49 => ⟨S1x4112x1024, .f32⟩
  | 50 => ⟨S1x4112x1024, .f32⟩
  | 51 => ⟨S_, .f32⟩
  | 52 => ⟨S1x4112x1024, .f32⟩
  | 53 => ⟨S1x4112x1024, .f32⟩
  | 54 => ⟨S_, .f32⟩
  | 55 => ⟨S1x4112x1024, .f32⟩
  | 56 => ⟨S1x4112x1024, .f32⟩
  | 57 => ⟨S1x4112x1024, .f32⟩
  | 58 => ⟨S1x4112x1024, .f32⟩
  | 59 => ⟨S1x4112x1024, .f32⟩
  | 60 => ⟨S_, .f32⟩
  | 61 => ⟨S1x4112x1024, .f32⟩
  | 62 => ⟨S1x4112x1024, .f32⟩
  | 63 => ⟨S_, .f32⟩
  | 64 => ⟨S1x4112x1024, .f32⟩
  | 65 => ⟨S1x4112x1024, .f32⟩
  | 66 => ⟨S1x4112x1024, .f32⟩
  | 67 => ⟨S1x4112x1024, .f32⟩
  | 68 => ⟨S3x4112x1024, .f32⟩
  | 69 => ⟨S3x4112x1024, .f32⟩
  | 70 => ⟨S3x4096x1024, .f32⟩
  | 71 => ⟨S_, .f32⟩
  | 72 => ⟨S3x112x1024, .f32⟩
  | 73 => ⟨S3x16x1024, .f32⟩
  | 74 => ⟨S3x4224x1024, .f32⟩
  | 75 => ⟨S3x4224x1024, .bf16⟩
  | 76 => ⟨S3x4096x1024, .f32⟩
  | 77 => ⟨S_, .f32⟩
  | 78 => ⟨S3x112x1024, .f32⟩
  | 79 => ⟨S3x16x1024, .f32⟩
  | 80 => ⟨S3x4224x1024, .f32⟩
  | 81 => ⟨S3x4224x1024, .bf16⟩
  | 82 => ⟨S_, .f32⟩
  | 83 => ⟨S8x128, .f32⟩
  | 84 => ⟨S8x3x128x1024, .f32⟩
  | 85 => ⟨S3x8x128x1024, .f32⟩
  | 86 => ⟨S3x1024x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | .local _ .vmem, ⟨0, _⟩ => ⟨S1x1408x1024, .bf16⟩
  | .local _ .vmem, ⟨1, _⟩ => ⟨S1x1408x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S8x1x128x1024, .f32⟩
  | .local _ .vmem, ⟨5, _⟩ => ⟨S8x1x128x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c : Ref sig .tc := ⟨.hbm, 63, rfl⟩
abbrev main_v41 : Ref sig .tc := ⟨.hbm, 64, rfl⟩
abbrev main_v42 : Ref sig .tc := ⟨.hbm, 65, rfl⟩
abbrev main_c_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v81 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_12 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_13 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_14 : Ref sig .tc := ⟨.hbm, 148, rfl⟩
abbrev main_v100 : Ref sig .tc := ⟨.hbm, 149, rfl⟩
abbrev main_v101 : Ref sig .tc := ⟨.hbm, 150, rfl⟩
abbrev main_c_15 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_16 : Ref sig .tc := ⟨.hbm, 159, rfl⟩
abbrev main_v109 : Ref sig .tc := ⟨.hbm, 160, rfl⟩
abbrev main_v110 : Ref sig .tc := ⟨.hbm, 161, rfl⟩
abbrev main_call2_v0 : Ref sig .tc := ⟨.hbm, 162, rfl⟩
abbrev main_call2_v1 : Ref sig .tc := ⟨.hbm, 163, rfl⟩
abbrev main_call2_cst : Ref sig .tc := ⟨.hbm, 164, rfl⟩
abbrev main_call2_v2 : Ref sig .tc := ⟨.hbm, 165, rfl⟩
abbrev main_call2_v3 : Ref sig .tc := ⟨.hbm, 166, rfl⟩
abbrev main_call2_cst_0 : Ref sig .tc := ⟨.hbm, 167, rfl⟩
abbrev main_call2_v4 : Ref sig .tc := ⟨.hbm, 168, rfl⟩
abbrev main_call2_v5 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_17 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_18 : Ref sig .tc := ⟨.hbm, 179, rfl⟩
abbrev main_v119 : Ref sig .tc := ⟨.hbm, 180, rfl⟩
abbrev main_v120 : Ref sig .tc := ⟨.hbm, 181, rfl⟩
abbrev main_cst_19 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_20 : Ref sig .tc := ⟨.hbm, 188, rfl⟩
abbrev main_v126 : Ref sig .tc := ⟨.hbm, 189, rfl⟩
abbrev main_v127 : Ref sig .tc := ⟨.hbm, 190, rfl⟩
abbrev main_cst_21 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_cst_22 : Ref sig .tc := ⟨.hbm, 199, rfl⟩
abbrev main_v135 : Ref sig .tc := ⟨.hbm, 200, rfl⟩
abbrev main_v136 : Ref sig .tc := ⟨.hbm, 201, rfl⟩
abbrev main_v137 : Ref sig .tc := ⟨.hbm, 202, rfl⟩
abbrev main_v138 : Ref sig .tc := ⟨.hbm, 203, rfl⟩
abbrev main_v139 : Ref sig .tc := ⟨.hbm, 204, rfl⟩
abbrev main_cst_23 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_cst_24 : Ref sig .tc := ⟨.hbm, 210, rfl⟩
abbrev main_v144 : Ref sig .tc := ⟨.hbm, 211, rfl⟩
abbrev main_v145 : Ref sig .tc := ⟨.hbm, 212, rfl⟩
abbrev main_v146 : Ref sig .tc := ⟨.hbm, 213, rfl⟩
abbrev main_v147 : Ref sig .tc := ⟨.hbm, 214, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 3], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S1x4096x1024 : Shape := ⟨3, ![1, 4096, 1024]⟩
abbrev S16x1024 : Shape := ⟨2, ![16, 1024]⟩
abbrev S1x1024 : Shape := ⟨2, ![1, 1024]⟩
abbrev S1x1024x9216 : Shape := ⟨3, ![1, 1024, 9216]⟩
abbrev S1x31x1024 : Shape := ⟨3, ![1, 31, 1024]⟩
abbrev S1x1024x1024 : Shape := ⟨3, ![1, 1024, 1024]⟩
abbrev S1x3x1024 : Shape := ⟨3, ![1, 3, 1024]⟩
abbrev S1x4112x1024 : Shape := ⟨3, ![1, 4112, 1024]⟩
abbrev S1x16x1024 : Shape := ⟨3, ![1, 16, 1024]⟩
abbrev S1024 : Shape := ⟨1, ![1024]⟩
abbrev S_ : Shape := ⟨0, ![]⟩
abbrev S1x4112 : Shape := ⟨2, ![1, 4112]⟩
abbrev S1x4112x1 : Shape := ⟨3, ![1, 4112, 1]⟩
abbrev S1x1x1024 : Shape := ⟨3, ![1, 1, 1024]⟩
abbrev S1024x9216 : Shape := ⟨2, ![1024, 9216]⟩
abbrev S1x4112x9216 : Shape := ⟨3, ![1, 4112, 9216]⟩
abbrev S31x1024 : Shape := ⟨2, ![31, 1024]⟩
abbrev S31x4112 : Shape := ⟨2, ![31, 4112]⟩
abbrev S1x30x1024 : Shape := ⟨3, ![1, 30, 1024]⟩
abbrev S1x4142x1024 : Shape := ⟨3, ![1, 4142, 1024]⟩
abbrev S1x31x1x1024 : Shape := ⟨4, ![1, 31, 1, 1024]⟩
abbrev S31x4112x1 : Shape := ⟨3, ![31, 4112, 1]⟩
abbrev S1x31x4112x1024 : Shape := ⟨4, ![1, 31, 4112, 1024]⟩
abbrev S1024x1024 : Shape := ⟨2, ![1024, 1024]⟩
abbrev S3x1024 : Shape := ⟨2, ![3, 1024]⟩
abbrev S3x4112 : Shape := ⟨2, ![3, 4112]⟩
abbrev S1x2x1024 : Shape := ⟨3, ![1, 2, 1024]⟩
abbrev S1x4114x1024 : Shape := ⟨3, ![1, 4114, 1024]⟩
abbrev S1x3x1x1024 : Shape := ⟨4, ![1, 3, 1, 1024]⟩
abbrev S3x4112x1 : Shape := ⟨3, ![3, 4112, 1]⟩
abbrev S1x3x4112x1024 : Shape := ⟨4, ![1, 3, 4112, 1024]⟩
abbrev S3x1024x1024 : Shape := ⟨3, ![3, 1024, 1024]⟩

abbrev nBuf : Space → Nat
  | .hbm => 212
  | .vmem => 0
  | .smem => 0
  | _ => 0

abbrev hbmTy0_0 (i : Nat) : BufTy := match i % 128 with
  | 0 => ⟨S1x4096x1024, .f32⟩
  | 1 => ⟨S16x1024, .f32⟩
  | 2 => ⟨S1x1024, .f32⟩
  | 3 => ⟨S1x1024x9216, .f32⟩
  | 4 => ⟨S1x31x1024, .f32⟩
  | 5 => ⟨S1x1024, .f32⟩
  | 6 => ⟨S1x1024, .f32⟩
  | 7 => ⟨S1x1024, .f32⟩
  | 8 => ⟨S1x1024x1024, .f32⟩
  | 9 => ⟨S1x1024, .f32⟩
  | 10 => ⟨S1x3x1024, .f32⟩
  | 11 => ⟨S1x1024x1024, .f32⟩
  | 12 => ⟨S1x1024x1024, .f32⟩
  | 13 => ⟨S1x4112x1024, .f32⟩
  | 14 => ⟨S1x4112x1024, .f32⟩
  | 15 => ⟨S1x4112x1024, .f32⟩
  | 16 => ⟨S1x16x1024, .f32⟩
  | 17 => ⟨S1x4112x1024, .f32⟩
  | 18 => ⟨S1024, .f32⟩
  | 19 => ⟨S1x4112x1024, .f32⟩
  | 20 => ⟨S_, .f32⟩
  | 21 => ⟨S1x4112, .f32⟩
  | 22 => ⟨S1x4112x1, .f32⟩
  | 23 => ⟨S_, .f32⟩
  | 24 => ⟨S1x4112x1, .f32⟩
  | 25 => ⟨S1x4112x1, .f32⟩
  | 26 => ⟨S_, .f32⟩
  | 27 => ⟨S1x4112x1, .f32⟩
  | 28 => ⟨S1x4112x1, .f32⟩
  | 29 => ⟨S1x4112x1, .f32⟩
  | 30 => ⟨S1x4112x1024, .f32⟩
  | 31 => ⟨S1x4112x1024, .f32⟩
  | 32 => ⟨S1x1x1024, .f32⟩
  | 33 => ⟨S1x4112x1024, .f32⟩
  | 34 => ⟨S1x4112x1024, .f32⟩
  | 35 => ⟨S1024x9216, .f32⟩
  | 36 => ⟨S1x4112x9216, .f32⟩
  | 37 => ⟨S1x4112x1024, .f32⟩
  | 38 => ⟨S1x4112x1024, .f32⟩
  | 39 => ⟨S1x4112x1024, .f32⟩
  | 40 => ⟨S1x4112x1024, .f32⟩
  | 41 => ⟨S1x4112x1024, .f32⟩
  | 42 => ⟨S1x4112x1024, .f32⟩
  | 43 => ⟨S1x4112x1024, .f32⟩
  | 44 => ⟨S1x4112x1024, .f32⟩
  | 45 => ⟨S1x4112x1024, .f32⟩
  | 46 => ⟨S1x4112x1024, .f32⟩
  | 47 => ⟨S1x4112x1024, .f32⟩
  | 48 => ⟨S_, .f32⟩
  | 49 => ⟨S1x4112x1024, .f32⟩
  | 50 => ⟨S1x4112x1024, .f32⟩
  | 51 => ⟨S_, .f32⟩
  | 52 => ⟨S1x4112x1024, .f32⟩
  | 53 => ⟨S1x4112x1024, .f32⟩
  | 54 => ⟨S1x4112x1024, .f32⟩
  | 55 => ⟨S31x1024, .f32⟩
  | 56 => ⟨S31x4112, .i32⟩
  | 57 => ⟨S31x4112, .i32⟩
  | 58 => ⟨S_, .f32⟩
  | 59 => ⟨S1x30x1024, .f32⟩
  | 60 => ⟨S1x4142x1024, .f32⟩
  | 61 => ⟨S1x31x1x1024, .f32⟩
  | 62 => ⟨S31x4112, .i32⟩
  | 63 => ⟨S_, .i32⟩
  | 64 => ⟨S31x4112, .i32⟩
  | 65 => ⟨S31x4112, .i1⟩
  | 66 => ⟨S_, .i32⟩
  | 67 => ⟨S31x4112, .i32⟩
  | 68 => ⟨S31x4112, .i32⟩
  | 69 => ⟨S31x4112, .i32⟩
  | 70 => ⟨S31x4112x1, .i32⟩
  | 71 => ⟨S1x31x4112x1024, .f32⟩
  | 72 => ⟨S1x31x4112x1024, .f32⟩
  | 73 => ⟨S1x31x4112x1024, .f32⟩
  | 74 => ⟨S_, .f32⟩
  | 75 => ⟨S1x4112x1024, .f32⟩
  | 76 => ⟨S1024, .f32⟩
  | 77 => ⟨S1x1x1024, .f32⟩
  | 78 => ⟨S1x4112x1024, .f32⟩
  | 79 => ⟨S1x4112x1024, .f32⟩
  | 80 => ⟨S1024, .f32⟩
  | 81 => ⟨S1024, .f32⟩
  | 82 => ⟨S_, .f32⟩
  | 83 => ⟨S1x4112, .f32⟩
  | 84 => ⟨S1x4112x1, .f32⟩
  | 85 => ⟨S_, .f32⟩
  | 86 => ⟨S1x4112x1, .f32⟩
  | 87 => ⟨S1x4112x1, .f32⟩
  | 88 => ⟨S1x4112x1024, .f32⟩
  | 89 => ⟨S1x4112x1024, .f32⟩
  | 90 => ⟨S1x4112x1024, .f32⟩
  | 91 => ⟨S_, .f32⟩
  | 92 => ⟨S1x4112, .f32⟩
  | 93 => ⟨S1x4112x1, .f32⟩
  | 94 => ⟨S_, .f32⟩
  | 95 => ⟨S1x4112x1, .f32⟩
  | 96 => ⟨S1x4112x1, .f32⟩
  | 97 => ⟨S1x4112x1024, .f32⟩
  | 98 => ⟨S1x4112x1024, .f32⟩
  | 99 => ⟨S_, .f32⟩
  | 100 => ⟨S1x4112x1, .f32⟩
  | 101 => ⟨S1x4112x1, .f32⟩
  | 102 => ⟨S1x4112x1, .f32⟩
  | 103 => ⟨S1x4112x1024, .f32⟩
  | 104 => ⟨S1x4112x1024, .f32⟩
  | 105 => ⟨S1x1x1024, .f32⟩
  | 106 => ⟨S1x4112x1024, .f32⟩
  | 107 => ⟨S1x4112x1024, .f32⟩
  | 108 => ⟨S1x1x1024, .f32⟩
  | 109 => ⟨S1x4112x1024, .f32⟩
  | 110 => ⟨S1x4112x1024, .f32⟩
  | 111 => ⟨S1x4112x1024, .f32⟩
  | 112 => ⟨S1x4112x1024, .f32⟩
  | 113 => ⟨S_, .f32⟩
  | 114 => ⟨S1x4112x1024, .f32⟩
  | 115 => ⟨S1x4112x1024, .f32⟩
  | 116 => ⟨S_, .f32⟩
  | 117 => ⟨S1x4112x1024, .f32⟩
  | 118 => ⟨S1x4112x1024, .f32⟩
  | 119 => ⟨S1x4112x1024, .f32⟩
  | 120 => ⟨S1x4112x1024, .f32⟩
  | 121 => ⟨S1x4112x1024, .f32⟩
  | 122 => ⟨S_, .f32⟩
  | 123 => ⟨S1x4112x1024, .f32⟩
  | 124 => ⟨S1x4112x1024, .f32⟩
  | 125 => ⟨S_, .f32⟩
  | 126 => ⟨S1x4112x1024, .f32⟩
  | 127 => ⟨S1x4112x1024, .f32⟩
  | _ => ⟨S1x4096x1024, .f32⟩

abbrev hbmTy0_1 (i : Nat) : BufTy := match i % 128 with
  | 0 => ⟨S1x4112x1024, .f32⟩
  | 1 => ⟨S1x4112x1024, .f32⟩
  | 2 => ⟨S1024x1024, .f32⟩
  | 3 => ⟨S1x4112x1024, .f32⟩
  | 4 => ⟨S1024, .f32⟩
  | 5 => ⟨S1x1x1024, .f32⟩
  | 6 => ⟨S1x4112x1024, .f32⟩
  | 7 => ⟨S1x4112x1024, .f32⟩
  | 8 => ⟨S_, .f32⟩
  | 9 => ⟨S1x4112x1024, .f32⟩
  | 10 => ⟨S1x4112x1024, .f32⟩
  | 11 => ⟨S1x4112x1024, .f32⟩
  | 12 => ⟨S3x1024, .f32⟩
  | 13 => ⟨S3x4112, .i32⟩
  | 14 => ⟨S3x4112, .i32⟩
  | 15 => ⟨S_, .f32⟩
  | 16 => ⟨S1x2x1024, .f32⟩
  | 17 => ⟨S1x4114x1024, .f32⟩
  | 18 => ⟨S1x3x1x1024, .f32⟩
  | 19 => ⟨S3x4112, .i32⟩
  | 20 => ⟨S_, .i32⟩
  | 21 => ⟨S3x4112, .i32⟩
  | 22 => ⟨S3x4112, .i1⟩
  | 23 => ⟨S_, .i32⟩
  | 24 => ⟨S3x4112, .i32⟩
  | 25 => ⟨S3x4112, .i32⟩
  | 26 => ⟨S3x4112, .i32⟩
  | 27 => ⟨S3x4112x1, .i32⟩
  | 28 => ⟨S1x3x4112x1024, .f32⟩
  | 29 => ⟨S1x3x4112x1024, .f32⟩
  | 30 => ⟨S1x3x4112x1024, .f32⟩
  | 31 => ⟨S_, .f32⟩
  | 32 => ⟨S1x4112x1024, .f32⟩
  | 33 => ⟨S1x4112x1024, .f32⟩
  | 34 => ⟨S1x4112x1024, .f32⟩
  | 35 => ⟨S1x4112x1024, .f32⟩
  | 36 => ⟨S_, .f32⟩
  | 37 => ⟨S1x4112x1024, .f32⟩
  | 38 => ⟨S1x4112x1024, .f32⟩
  | 39 => ⟨S_, .f32⟩
  | 40 => ⟨S1x4112x1024, .f32⟩
  | 41 => ⟨S1x4112x1024, .f32⟩
  | 42 => ⟨S1x4112x1024, .f32⟩
  | 43 => ⟨S1x4112x1024, .f32⟩
  | 44 => ⟨S1024x1024, .f32⟩
  | 45 => ⟨S1x4112x1024, .f32⟩
  | 46 => ⟨S_, .f32⟩
  | 47 => ⟨S1x4112x1024, .f32⟩
  | 48 => ⟨S1x4112x1024, .f32⟩
  | 49 => ⟨S1x4112x1024, .f32⟩
  | 50 => ⟨S1x4112x1024, .f32⟩
  | 51 => ⟨S_, .f32⟩
  | 52 => ⟨S1x4112x1024, .f32⟩
  | 53 => ⟨S1x4112x1024, .f32⟩
  | 54 => ⟨S_, .f32⟩
  | 55 => ⟨S1x4112x1024, .f32⟩
  | 56 => ⟨S1x4112x1024, .f32⟩
  | 57 => ⟨S1x4112x1024, .f32⟩
  | 58 => ⟨S1x4112x1024, .f32⟩
  | 59 => ⟨S1x4112x1024, .f32⟩
  | 60 => ⟨S_, .f32⟩
  | 61 => ⟨S1x4112x1024, .f32⟩
  | 62 => ⟨S1x4112x1024, .f32⟩
  | 63 => ⟨S_, .f32⟩
  | 64 => ⟨S1x4112x1024, .f32⟩
  | 65 => ⟨S1x4112x1024, .f32⟩
  | 66 => ⟨S1x4112x1024, .f32⟩
  | 67 => ⟨S1x4112x1024, .f32⟩
  | 68 => ⟨S1024x1024, .f32⟩
  | 69 => ⟨S1x4112x1024, .f32⟩
  | 70 => ⟨S1024x1024, .f32⟩
  | 71 => ⟨S1x4112x1024, .f32⟩
  | 72 => ⟨S1024x1024, .f32⟩
  | 73 => ⟨S1x4112x1024, .f32⟩
  | 74 => ⟨S1024x1024, .f32⟩
  | 75 => ⟨S1024x1024, .f32⟩
  | 76 => ⟨S1x1024x1024, .f32⟩
  | 77 => ⟨S1024x1024, .f32⟩
  | 78 => ⟨S1024x1024, .f32⟩
  | 79 => ⟨S1x1024x1024, .f32⟩
  | 80 => ⟨S1024x1024, .f32⟩
  | 81 => ⟨S1024x1024, .f32⟩
  | 82 => ⟨S1x1024x1024, .f32⟩
  | 83 => ⟨S3x1024x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_2 : Ref sig .tc := ⟨.hbm, 48, rfl⟩
abbrev main_v29 : Ref sig .tc := ⟨.hbm, 49, rfl⟩
abbrev main_v30 : Ref sig .tc := ⟨.hbm, 50, rfl⟩
abbrev main_cst_3 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_4 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c : Ref sig .tc := ⟨.hbm, 63, rfl⟩
abbrev main_v41 : Ref sig .tc := ⟨.hbm, 64, rfl⟩
abbrev main_v42 : Ref sig .tc := ⟨.hbm, 65, rfl⟩
abbrev main_c_5 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_6 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_cst_8 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_9 : Ref sig .tc := ⟨.hbm, 91, rfl⟩
abbrev main_v64 : Ref sig .tc := ⟨.hbm, 92, rfl⟩
abbrev main_v65 : Ref sig .tc := ⟨.hbm, 93, rfl⟩
abbrev main_cst_10 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_11 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call0_v0 : Ref sig .tc := ⟨.hbm, 111, rfl⟩
abbrev main_call0_v1 : Ref sig .tc := ⟨.hbm, 112, rfl⟩
abbrev main_call0_cst : Ref sig .tc := ⟨.hbm, 113, rfl⟩
abbrev main_call0_v2 : Ref sig .tc := ⟨.hbm, 114, rfl⟩
abbrev main_call0_v3 : Ref sig .tc := ⟨.hbm, 115, rfl⟩
abbrev main_call0_cst_0 : Ref sig .tc := ⟨.hbm, 116, rfl⟩
abbrev main_call0_v4 : Ref sig .tc := ⟨.hbm, 117, rfl⟩
abbrev main_call0_v5 : Ref sig .tc := ⟨.hbm, 118, rfl⟩
abbrev main_v81 : Ref sig .tc := ⟨.hbm, 119, rfl⟩
abbrev main_call1_v0 : Ref sig .tc := ⟨.hbm, 120, rfl⟩
abbrev main_call1_v1 : Ref sig .tc := ⟨.hbm, 121, rfl⟩
abbrev main_call1_cst : Ref sig .tc := ⟨.hbm, 122, rfl⟩
abbrev main_call1_v2 : Ref sig .tc := ⟨.hbm, 123, rfl⟩
abbrev main_call1_v3 : Ref sig .tc := ⟨.hbm, 124, rfl⟩
abbrev main_call1_cst_0 : Ref sig .tc := ⟨.hbm, 125, rfl⟩
abbrev main_call1_v4 : Ref sig .tc := ⟨.hbm, 126, rfl⟩
abbrev main_call1_v5 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_12 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_cst_13 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_c_14 : Ref sig .tc := ⟨.hbm, 148, rfl⟩
abbrev main_v100 : Ref sig .tc := ⟨.hbm, 149, rfl⟩
abbrev main_v101 : Ref sig .tc := ⟨.hbm, 150, rfl⟩
abbrev main_c_15 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_cst_16 : Ref sig .tc := ⟨.hbm, 159, rfl⟩
abbrev main_v109 : Ref sig .tc := ⟨.hbm, 160, rfl⟩
abbrev main_v110 : Ref sig .tc := ⟨.hbm, 161, rfl⟩
abbrev main_call2_v0 : Ref sig .tc := ⟨.hbm, 162, rfl⟩
abbrev main_call2_v1 : Ref sig .tc := ⟨.hbm, 163, rfl⟩
abbrev main_call2_cst : Ref sig .tc := ⟨.hbm, 164, rfl⟩
abbrev main_call2_v2 : Ref sig .tc := ⟨.hbm, 165, rfl⟩
abbrev main_call2_v3 : Ref sig .tc := ⟨.hbm, 166, rfl⟩
abbrev main_call2_cst_0 : Ref sig .tc := ⟨.hbm, 167, rfl⟩
abbrev main_call2_v4 : Ref sig .tc := ⟨.hbm, 168, rfl⟩
abbrev main_call2_v5 : Ref sig .tc := ⟨.hbm, 169, rfl⟩
abbrev main_v111 : Ref sig .tc := ⟨.hbm, 170, rfl⟩
abbrev main_v112 : Ref sig .tc := ⟨.hbm, 171, rfl⟩
abbrev main_v113 : Ref sig .tc := ⟨.hbm, 172, rfl⟩
abbrev main_v114 : Ref sig .tc := ⟨.hbm, 173, rfl⟩
abbrev main_cst_17 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_cst_18 : Ref sig .tc := ⟨.hbm, 179, rfl⟩
abbrev main_v119 : Ref sig .tc := ⟨.hbm, 180, rfl⟩
abbrev main_v120 : Ref sig .tc := ⟨.hbm, 181, rfl⟩
abbrev main_cst_19 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_cst_20 : Ref sig .tc := ⟨.hbm, 188, rfl⟩
abbrev main_v126 : Ref sig .tc := ⟨.hbm, 189, rfl⟩
abbrev main_v127 : Ref sig .tc := ⟨.hbm, 190, rfl⟩
abbrev main_cst_21 : Ref sig .tc := ⟨.hbm, 191, rfl⟩
abbrev main_v128 : Ref sig .tc := ⟨.hbm, 192, rfl⟩
abbrev main_v129 : Ref sig .tc := ⟨.hbm, 193, rfl⟩
abbrev main_v130 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩
abbrev main_v135 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_v139 : Ref sig .tc := ⟨.hbm, 203, rfl⟩
abbrev main_v140 : Ref sig .tc := ⟨.hbm, 204, rfl⟩
abbrev main_v141 : Ref sig .tc := ⟨.hbm, 205, rfl⟩
abbrev main_v142 : Ref sig .tc := ⟨.hbm, 206, rfl⟩
abbrev main_v143 : Ref sig .tc := ⟨.hbm, 207, rfl⟩
abbrev main_v144 : Ref sig .tc := ⟨.hbm, 208, rfl⟩
abbrev main_v145 : Ref sig .tc := ⟨.hbm, 209, rfl⟩
abbrev main_v146 : Ref sig .tc := ⟨.hbm, 210, rfl⟩
abbrev main_v147 : Ref sig .tc := ⟨.hbm, 211, rfl⟩

abbrev nD : Nat := 1
abbrev τ : Topo := Topo.v7x

variable {F : FTy → Type} [FloatOps F]
-- ==== Proof.In.Body.lean ====
/- The body of the kernel `_input_bwd` at one grid point: what its tile of `grad_x` and the running
`small` block hold after it, over any float type, with the separation-logic triples that say so. -/
module

public import proofs.«01_k».proof.Proof.Gen.KernelIdeal.Frame
public import proofs.«01_k».proof.Proof.Gen.KernelIdeal.Skeleton
public import Idealize.ShloMosaic.Lib.Pipeline.ValueKit
public import Idealize.ShloMosaic.Lib.VecWindow
public import Idealize.ShloMosaic.Lib.Pipeline.ReadBack

@[expose] public section

set_option maxRecDepth 16384

noncomputable section

namespace Cert.KernelIdeal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The condition of the body's first branch: this is the first tile. -/
abbrev First (i : grid0.Coords) : Prop :=
  (Scalar.cmpi .ne (Scalar.extui (Scalar.cmpi .eq (BitVec.ofNat 32 (i 0).val) 0#32)) 0#32) = 1#1

/-- The condition of the body's second branch: this is the last tile. -/
abbrev Last (i : grid0.Coords) : Prop :=
  (Scalar.cmpi .ne (Scalar.extui (Scalar.cmpi .eq (BitVec.ofNat 32 (i 0).val) 7#32)) 0#32) = 1#1

/-! ## What the body computes, as functions of the blocks -/

/-- A block of 1152 columns of a tile's `dproj`, from column `o`. -/
abbrev cols (x : Vec F S512x9216 .bf16) (o : ℕ) (h : ∀ a : Fin 2, (![0, o] : Fin 2 → ℕ) a + S512x1152.size a ≤ S512x9216.size a) : Vec F S512x1152 .bf16 :=
  VecWindow.window x ![0, o] S512x1152.size h

/-- A block of 1152 columns of the meta tile's `dproj`, from column `o`. -/
abbrev colsM (x : Vec F S128x9216 .bf16) (o : ℕ) (h : ∀ a : Fin 2, (![0, o] : Fin 2 → ℕ) a + S128x1152.size a ≤ S128x9216.size a) : Vec F S128x1152 .bf16 :=
  VecWindow.window x ![0, o] S128x1152.size h

/-- Device `j`'s columns of the projection's weight. -/
abbrev wBlk (w : Vec F S8x1024x1152 .bf16) (j : ℕ) (h : ∀ a : Fin 3, (![j, 0, 0] : Fin 3 → ℕ) a + S1x1024x1152.size a ≤ S8x1024x1152.size a) : Vec F S1x1024x1152 .bf16 :=
  VecWindow.window w ![j, 0, 0] S1x1024x1152.size h

/-- The gradient entering the norm at a tile: `dproj` times the transposed weight, block by block. -/
def dh (x0 : Vec F S512x9216 .bf16) (w : Vec F S8x1024x1152 .bf16) : FVec F S512x1024 .f32 :=
  k0_pay15 (k0_pay13 (cols x0 0 (by decide)) (wBlk w 0 (by decide)) (cols x0 1152 (by decide)) (wBlk w 1 (by decide))
      (cols x0 2304 (by decide)) (wBlk w 2 (by decide)) (cols x0 3456 (by decide)) (wBlk w 3 (by decide)))
    (k0_pay14 (cols x0 4608 (by decide))) (wBlk w 4 (by decide)) (cols x0 5760 (by decide)) (wBlk w 5 (by decide))
    (cols x0 6912 (by decide)) (wBlk w 6 (by decide)) (cols x0 8064 (by decide)) (wBlk w 7 (by decide))

/-- The same at the meta tile. -/
def dhM (x3 : Vec F S128x9216 .bf16) (w : Vec F S8x1024x1152 .bf16) : FVec F S128x1024 .f32 :=
  k0_pay4 (k0_pay3 (colsM x3 0 (by decide)) (wBlk w 0 (by decide)) (colsM x3 1152 (by decide)) (wBlk w 1 (by decide))
      (colsM x3 2304 (by decide)) (wBlk w 2 (by decide)) (colsM x3 3456 (by decide)) (wBlk w 3 (by decide))
      (colsM x3 4608 (by decide)) (wBlk w 4 (by decide)))
    (colsM x3 5760 (by decide)) (wBlk w 5 (by decide)) (colsM x3 6912 (by decide)) (wBlk w 6 (by decide))
    (colsM x3 8064 (by decide)) (wBlk w 7 (by decide))

/-- A tile of `grad_x`. -/
def gx (x0 : Vec F S512x9216 .bf16) (x1 x2 : Vec F S512x1024 .f32) (g : Vec F S1x1024 .f32) (w : Vec F S8x1024x1152 .bf16) : Vec F S512x1024 .f32 :=
  k0_pay22 (dh x0 w) (k0_pay16 x2) (k0_pay18 x2) (k0_pay19 x2) (k0_pay20 x2) g x1

/-- The gradient at the meta tile's rows. -/
def gxM (x3 : Vec F S128x9216 .bf16) (x4 x5 : Vec F S128x1024 .f32) (g : Vec F S1x1024 .f32) (w : Vec F S8x1024x1152 .bf16) : Vec F S128x1024 .f32 :=
  k0_pay9 (dhM x3 w) (k0_pay5 x5) (k0_pay6 x5) k0_pay7 g x4

/-- The norm weight's row with a tile's rows added. -/
def addTile (x0 : Vec F S512x9216 .bf16) (x2 : Vec F S512x1024 .f32) (w : Vec F S8x1024x1152 .bf16) (r : Vec F S1x1024 .f32) : Vec F S1x1024 .f32 :=
  k0_pay1 (dh x0 w) (k0_pay16 x2) (k0_pay21 (k0_pay18 x2) (k0_pay19 x2) (k0_pay20 x2)) (k0_pay23 r)

/-- The norm weight's row with the meta tile's rows added. -/
def addMeta (x3 : Vec F S128x9216 .bf16) (x5 : Vec F S128x1024 .f32) (w : Vec F S8x1024x1152 .bf16) (r : Vec F S1x1024 .f32) : Vec F S1x1024 .f32 :=
  k0_pay2 (k0_pay10 r) (k0_pay11 (dhM x3 w) (k0_pay5 x5) (k0_pay6 x5) k0_pay7)

/-- Row 0 of the `small` block. -/
abbrev row0 (s : Vec F S24x1024 .f32) : Vec F S1x1024 .f32 := VecWindow.window s ![0, 0] S1x1024.size (by decide)

/-- The `small` block with another row 0. -/
abbrev setRow0 (s : Vec F S24x1024 .f32) (r : Vec F S1x1024 .f32) : Vec F S24x1024 .f32 := VecWindow.put s ![0, 0] S1x1024.size r

/-- The `small` block after a tile's rows are added to the norm weight's row. -/
def step (x0 : Vec F S512x9216 .bf16) (x2 : Vec F S512x1024 .f32) (w : Vec F S8x1024x1152 .bf16) (s : Vec F S24x1024 .f32) : Vec F S24x1024 .f32 :=
  setRow0 s (addTile x0 x2 w (row0 s))

/-- The `small` block after the last tile: the meta tile's rows are added and their gradient stored in rows 8 to 23. -/
def stepLast (x0 : Vec F S512x9216 .bf16) (x2 : Vec F S512x1024 .f32) (x3 : Vec F S128x9216 .bf16) (x4 x5 : Vec F S128x1024 .f32) (g : Vec F S1x1024 .f32) (w : Vec F S8x1024x1152 .bf16) (s : Vec F S24x1024 .f32) : Vec F S24x1024 .f32 :=
  VecWindow.put (setRow0 (step x0 x2 w s) (addMeta x3 x5 w (addTile x0 x2 w (row0 s)))) ![8, 0] S16x1024.size
    (VecWindow.window (gxM x3 x4 x5 g w) ![112, 0] S16x1024.size (by decide))

/-! ## The triples -/

variable (c : Dev nD) (i : grid0.Coords)
  (arg1 : Memref sig .tc .vmem S512x9216 .bf16) (harg1 : arg1.IsWhole) (arg2 : Memref sig .tc .vmem S512x1024 .f32) (harg2 : arg2.IsWhole)
  (arg3 : Memref sig .tc .vmem S512x1024 .f32) (harg3 : arg3.IsWhole) (arg4 : Memref sig .tc .vmem S128x9216 .bf16) (harg4 : arg4.IsWhole)
  (arg5 : Memref sig .tc .vmem S128x1024 .f32) (harg5 : arg5.IsWhole) (arg6 : Memref sig .tc .vmem S128x1024 .f32) (harg6 : arg6.IsWhole)
  (arg7 : Memref sig .tc .vmem S1x1024 .f32) (harg7 : arg7.IsWhole) (arg8 : Memref sig .tc .vmem S8x1024x1152 .bf16) (harg8 : arg8.IsWhole)
  (arg10 : Memref sig .tc .vmem S512x1024 .f32) (harg10 : arg10.IsWhole) (arg11 : Memref sig .tc .vmem S24x1024 .f32) (harg11 : arg11.IsWhole)
  (arg12 : Memref sig .tc .vmem S128x1024 .f32) (harg12 : arg12.IsWhole)
  (x0 : Vec F S512x9216 .bf16) (x1 x2 : Vec F S512x1024 .f32) (x3 : Vec F S128x9216 .bf16) (x4 x5 : Vec F S128x1024 .f32)
  (x6 : Vec F S1x1024 .f32) (x7 : Vec F S8x1024x1152 .bf16) (s : Vec F S24x1024 .f32)

/-- The inputs' staging buffers, each at its contents. -/
abbrev ins : sProp 𝕄 :=
  iprop(owns (c : Thread nD τ) arg1 fullShare x0 ∗ owns (c : Thread nD τ) arg2 fullShare x1 ∗ owns (c : Thread nD τ) arg3 fullShare x2 ∗ owns (c : Thread nD τ) arg4 fullShare x3
    ∗ owns (c : Thread nD τ) arg5 fullShare x4 ∗ owns (c : Thread nD τ) arg6 fullShare x5 ∗ owns (c : Thread nD τ) arg7 fullShare x6 ∗ owns (c : Thread nD τ) arg8 fullShare x7)

/-- The outputs' and the scratch's buffers after the body: a tile of `grad_x`, the `small` block at `s'`. -/
abbrev outs (s' : Vec F S24x1024 .f32) : sProp 𝕄 :=
  iprop(owns (c : Thread nD τ) arg10 fullShare (gx x0 x1 x2 x6 x7) ∗ owns (c : Thread nD τ) arg11 fullShare s' ∗ (∃ d, owns (c : Thread nD τ) arg12 fullShare d))

/-- The body on the given buffers. -/
abbrev body : Prog (TpuEff nD τ sig (Elt F) Λ₀ .tc) PUnit :=
  cc0_input_bwd i arg1 harg1 arg2 harg2 arg3 harg3 arg4 harg4 arg5 harg5 arg6 harg6 arg7 harg7 arg8 harg8
    (Memref.whole main_v20) (Memref.isWhole_whole _) arg10 harg10 arg11 harg11 arg12 harg12

/-- Rows 112 to 127 of the scratch, read back after the whole of it is stored. -/
theorem readCov_meta {sp : Space} (v : View sig .tc sp S128x1024 .f32) (w : Vec F S128x1024 .f32) (h : ∀ a, (![0, 0] : Fin 2 → ℕ) a + S128x1024.size a ≤ S128x1024.size a)
    (h' : ∀ a, (![112, 0] : Fin 2 → ℕ) a + S16x1024.size a ≤ S128x1024.size a) :
    v.readCov [⟨Rect.unit (s := S128x1024) ![0, 0] S128x1024.size h, w⟩] (Rect.unit (s := S128x1024) ![112, 0] S16x1024.size h').toLoadRect
      = VecWindow.window w ![112, 0] S16x1024.size h' :=
  View.readCov_fill _ _ _ _ _ (by decide)

/-- Row 0 of the `small` block, read back after the whole of it is stored. -/
theorem readCov_zeros {sp : Space} (v : View sig .tc sp S24x1024 .f32) (w : Vec F S24x1024 .f32) (h : ∀ a, (![0, 0] : Fin 2 → ℕ) a + S24x1024.size a ≤ S24x1024.size a)
    (h' : ∀ a, (![0, 0] : Fin 2 → ℕ) a + S1x1024.size a ≤ S24x1024.size a) :
    v.readCov [⟨Rect.unit (s := S24x1024) ![0, 0] (no_index S24x1024.size) h, w⟩] (Rect.unit (s := S24x1024) ![0, 0] (no_index S1x1024.size) h').toLoadRect
      = row0 w :=
  View.readCov_fill _ _ _ _ _ (by decide)

/-- A buffer read after the whole of it is stored. -/
theorem read_fill {sp : Space} {S : Shape} {e : EltTy} (v : View sig .tc sp S e) (f : v.ty.Contents (Elt F)) {off : Fin S.rank → ℕ}
    (inb : ∀ a, off a + S.size a ≤ S.size a) (w : Vec F S e) :
    v.read (Elt F) (v.writes (Elt F) f [⟨Rect.unit off (no_index S.size) inb, w⟩]) = w :=
  View.read_writes_full v f inb w []

/-- A whole shape overwritten holds what it is overwritten by. -/
theorem put_fill {S : Shape} {e : EltTy} (x : Vec F S e) {off : Fin S.rank → ℕ} (w : Vec F S e) (h : ∀ a, off a = 0) :
    VecWindow.put x off (no_index S.size) w = w := by
  obtain rfl : off = fun _ => 0 := funext h
  funext i
  unfold VecWindow.put
  rw [dif_pos fun a => ⟨Nat.zero_le _, by have := (i a).isLt; omega⟩]
  rfl

/-- A buffer held whole at its contents is owned at them. -/
theorem owns_unread {sp : Space} {S : Shape} {e : EltTy} (a : Memref sig .tc sp S e) (h : a.IsWhole) (x : Vec F S e) :
    (a.view.loc (c : Thread nD τ) ↦[a.view.set]{fullShare} h.unread x : sProp 𝕄) ⊢ owns (c : Thread nD τ) a fullShare x := by
  unfold owns
  iintro H
  iexists _; isplitr; · ipureintro; exact h.read_unread _
  iexact H

/-- The inputs' buffers, held whole at their contents, are the inputs owned. -/
theorem ins_unread :
    iprop((arg1.view.loc (c : Thread nD τ) ↦[arg1.view.set]{fullShare} harg1.unread x0) ∗ (arg2.view.loc (c : Thread nD τ) ↦[arg2.view.set]{fullShare} harg2.unread x1)
      ∗ (arg3.view.loc (c : Thread nD τ) ↦[arg3.view.set]{fullShare} harg3.unread x2) ∗ (arg4.view.loc (c : Thread nD τ) ↦[arg4.view.set]{fullShare} harg4.unread x3)
      ∗ (arg5.view.loc (c : Thread nD τ) ↦[arg5.view.set]{fullShare} harg5.unread x4) ∗ (arg6.view.loc (c : Thread nD τ) ↦[arg6.view.set]{fullShare} harg6.unread x5)
      ∗ (arg7.view.loc (c : Thread nD τ) ↦[arg7.view.set]{fullShare} harg7.unread x6) ∗ (arg8.view.loc (c : Thread nD τ) ↦[arg8.view.set]{fullShare} harg8.unread x7))
      ⊢ (ins c arg1 arg2 arg3 arg4 arg5 arg6 arg7 arg8 x0 x1 x2 x3 x4 x5 x6 x7 : sProp 𝕄) :=
  BIClass.sep_mono (owns_unread c _ _ _) (BIClass.sep_mono (owns_unread c _ _ _) (BIClass.sep_mono (owns_unread c _ _ _) (BIClass.sep_mono (owns_unread c _ _ _)
    (BIClass.sep_mono (owns_unread c _ _ _) (BIClass.sep_mono (owns_unread c _ _ _) (BIClass.sep_mono (owns_unread c _ _ _) (owns_unread c _ _ _)))))))

set_option maxHeartbeats 1000000 in
/-- A tile that is neither the first nor the last adds its rows. -/
theorem body_mid (hc0 : ¬First i) (hc1 : ¬Last i) (E : Set ℕ) (K : PUnit → sProp 𝕄) :
    iprop(ins c arg1 arg2 arg3 arg4 arg5 arg6 arg7 arg8 x0 x1 x2 x3 x4 x5 x6 x7 ∗ (∃ d, owns (c : Thread nD τ) arg10 fullShare d) ∗ owns (c : Thread nD τ) arg11 fullShare s ∗ (∃ d, owns (c : Thread nD τ) arg12 fullShare d)
        ∗ (iprop(ins c arg1 arg2 arg3 arg4 arg5 arg6 arg7 arg8 x0 x1 x2 x3 x4 x5 x6 x7 ∗ outs c arg10 arg11 arg12 x0 x1 x2 x6 x7 (step x0 x2 x7 s)) -∗ K ⟨⟩))
      ⊢ wp frame (wpE (defs₀ (F := F)) Variants.none c none) E (body i arg1 harg1 arg2 harg2 arg3 harg3 arg4 harg4 arg5 harg5 arg6 harg6 arg7 harg7 arg8 harg8 arg10 harg10 arg11 harg11 arg12 harg12) K := by
  simp only [body, cc0_input_bwd_eq_skeleton]; unfold cc0_input_bwd_skel
  simp only [k0_part4_eq_skeleton, k0_part5_eq_skeleton, k0_part6_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%f9, %hf9, H9⟩, ⟨%ds0, %fs0, -, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7; obtain rfl := harg11.eq_unread hf9
  sl_exec (disch := first | sl_exact hc0 | sl_exact hc1)
  sl_step
  iapply Hk
  isplitl [H0 H1 H2 H3 H4 H5 H6 H7]
  · iapply (ins_unread c arg1 harg1 arg2 harg2 arg3 harg3 arg4 harg4 arg5 harg5 arg6 harg6 arg7 harg7 arg8 harg8 x0 x1 x2 x3 x4 x5 x6 x7)
    iframe
  isplitl [H8]
  · iexists _; isplitr; swap; · iexact H8
    ipureintro
    frame_open
    simp only [View.read_writes_full, View.readAt_full, View.readAt_eq_ld, Memref.IsWhole.read_unread]
    try simp (disch := decide) only [View.ld_unit_lit', read_fill, readCov_zeros]
    rfl
  isplitl [H9]
  · iexists _; isplitr; swap; · iexact H9
    ipureintro
    frame_open
    simp only [View.readCov_cons_toLoadRect]
    try rw [readCov_meta]
    simp only [readCov_zeros, View.read_writes_full, View.readAt_full, View.readAt_eq_ld, Memref.IsWhole.read_unread, View.read_writes_cons_put _ _ _ _ _ rfl, View.writes_nil]
    try simp (disch := decide) only [View.ld_unit_lit', read_fill, readCov_zeros]
    rfl
  iexists _, _; isplitr; swap; · iexact HS0
  ipureintro; rfl

set_option maxHeartbeats 1000000 in
/-- The first tile sets the `small` block to zeros and adds its rows. -/
theorem body_first (hc0 : First i) (hc1 : ¬Last i) (E : Set ℕ) (K : PUnit → sProp 𝕄) :
    iprop(ins c arg1 arg2 arg3 arg4 arg5 arg6 arg7 arg8 x0 x1 x2 x3 x4 x5 x6 x7 ∗ (∃ d, owns (c : Thread nD τ) arg10 fullShare d) ∗ owns (c : Thread nD τ) arg11 fullShare s ∗ (∃ d, owns (c : Thread nD τ) arg12 fullShare d)
        ∗ (iprop(ins c arg1 arg2 arg3 arg4 arg5 arg6 arg7 arg8 x0 x1 x2 x3 x4 x5 x6 x7 ∗ outs c arg10 arg11 arg12 x0 x1 x2 x6 x7 (step x0 x2 x7 k0_pay12)) -∗ K ⟨⟩))
      ⊢ wp frame (wpE (defs₀ (F := F)) Variants.none c none) E (body i arg1 harg1 arg2 harg2 arg3 harg3 arg4 harg4 arg5 harg5 arg6 harg6 arg7 harg7 arg8 harg8 arg10 harg10 arg11 harg11 arg12 harg12) K := by
  simp only [body, cc0_input_bwd_eq_skeleton]; unfold cc0_input_bwd_skel
  simp only [k0_part4_eq_skeleton, k0_part5_eq_skeleton, k0_part6_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%f9, %hf9, H9⟩, ⟨%ds0, %fs0, -, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7; obtain rfl := harg11.eq_unread hf9
  sl_exec (disch := first | sl_exact hc0 | sl_exact hc1)
  sl_step
  iapply Hk
  isplitl [H0 H1 H2 H3 H4 H5 H6 H7]
  · iapply (ins_unread c arg1 harg1 arg2 harg2 arg3 harg3 arg4 harg4 arg5 harg5 arg6 harg6 arg7 harg7 arg8 harg8 x0 x1 x2 x3 x4 x5 x6 x7)
    iframe
  isplitl [H8]
  · iexists _; isplitr; swap; · iexact H8
    ipureintro
    frame_open
    simp only [View.read_writes_full, View.readAt_full, View.readAt_eq_ld, Memref.IsWhole.read_unread]
    try simp (disch := decide) only [View.ld_unit_lit', read_fill, readCov_zeros]
    rfl
  isplitl [H9]
  · iexists _; isplitr; swap; · iexact H9
    ipureintro
    frame_open
    simp only [View.readCov_cons_toLoadRect]
    try rw [readCov_meta]
    simp only [readCov_zeros, View.read_writes_full, View.readAt_full, View.readAt_eq_ld, Memref.IsWhole.read_unread, View.read_writes_cons_put _ _ _ _ _ rfl, View.writes_nil]
    try simp (disch := decide) only [View.ld_unit_lit', read_fill, readCov_zeros]
    exact congrArg (fun z : Vec F S24x1024 .f32 => setRow0 z (addTile x0 x2 x7 (row0 k0_pay12))) (put_fill (S := S24x1024) s k0_pay12 (by decide))
  iexists _, _; isplitr; swap; · iexact HS0
  ipureintro; rfl

set_option maxHeartbeats 1000000 in
/-- The last tile adds its rows, then the meta tile's. -/
theorem body_last (hc0 : ¬First i) (hc1 : Last i) (E : Set ℕ) (K : PUnit → sProp 𝕄) :
    iprop(ins c arg1 arg2 arg3 arg4 arg5 arg6 arg7 arg8 x0 x1 x2 x3 x4 x5 x6 x7 ∗ (∃ d, owns (c : Thread nD τ) arg10 fullShare d) ∗ owns (c : Thread nD τ) arg11 fullShare s ∗ (∃ d, owns (c : Thread nD τ) arg12 fullShare d)
        ∗ (iprop(ins c arg1 arg2 arg3 arg4 arg5 arg6 arg7 arg8 x0 x1 x2 x3 x4 x5 x6 x7 ∗ outs c arg10 arg11 arg12 x0 x1 x2 x6 x7 (stepLast x0 x2 x3 x4 x5 x6 x7 s)) -∗ K ⟨⟩))
      ⊢ wp frame (wpE (defs₀ (F := F)) Variants.none c none) E (body i arg1 harg1 arg2 harg2 arg3 harg3 arg4 harg4 arg5 harg5 arg6 harg6 arg7 harg7 arg8 harg8 arg10 harg10 arg11 harg11 arg12 harg12) K := by
  simp only [body, cc0_input_bwd_eq_skeleton]; unfold cc0_input_bwd_skel
  simp only [k0_part4_eq_skeleton, k0_part5_eq_skeleton, k0_part6_eq_skeleton, k0_part1_eq_skeleton, k0_part2_eq_skeleton, k0_part3_eq_skeleton]
  unfold ins outs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩⟩, ⟨%d8, %f8, -, H8⟩, ⟨%f9, %hf9, H9⟩, ⟨%ds0, %fs0, -, HS0⟩, Hk⟩
  obtain rfl := harg1.eq_unread hf0; obtain rfl := harg2.eq_unread hf1; obtain rfl := harg3.eq_unread hf2; obtain rfl := harg4.eq_unread hf3
  obtain rfl := harg5.eq_unread hf4; obtain rfl := harg6.eq_unread hf5; obtain rfl := harg7.eq_unread hf6; obtain rfl := harg8.eq_unread hf7; obtain rfl := harg11.eq_unread hf9
  sl_exec (disch := first | sl_exact hc0 | sl_exact hc1)
  sl_step
  iapply Hk
  isplitl [H0 H1 H2 H3 H4 H5 H6 H7]
  · iapply (ins_unread c arg1 harg1 arg2 harg2 arg3 harg3 arg4 harg4 arg5 harg5 arg6 harg6 arg7 harg7 arg8 harg8 x0 x1 x2 x3 x4 x5 x6 x7)
    iframe
  isplitl [H8]
  · iexists _; isplitr; swap; · iexact H8
    ipureintro
    frame_open
    simp only [View.read_writes_full, View.readAt_full, View.readAt_eq_ld, Memref.IsWhole.read_unread]
    try simp (disch := decide) only [View.ld_unit_lit', read_fill, readCov_zeros]
    rfl
  isplitl [H9]
  · iexists _; isplitr; swap; · iexact H9
    ipureintro
    frame_open
    simp only [View.readCov_cons_toLoadRect]
    try rw [readCov_meta]
    simp only [readCov_zeros, View.read_writes_full, View.readAt_full, View.readAt_eq_ld, Memref.IsWhole.read_unread, View.read_writes_cons_put _ _ _ _ _ rfl, View.writes_nil]
    try simp (disch := decide) only [View.ld_unit_lit', read_fill, readCov_zeros]
    rfl
  iexists _, _; isplitr; swap; · iexact HS0
  ipureintro; rfl

end Cert.KernelIdeal.In

end
-- ==== Proof.In.Frame.lean ====
/- The frame of the kernel `_input_bwd`: the contents of the two outputs after every grid point, the body's
obligation to the pipeline, and the launch. -/
module

public import proofs.«01_k».proof.Proof.In.Body

@[expose] public section

set_option maxRecDepth 16384

noncomputable section

namespace Cert.KernelIdeal.In

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first branch is taken at the first point only. -/
theorem first_iff (t : Fin cfg0.N) : First (grid0.coords t) ↔ t.val = 0 := by
  have ht : t.val < 8 := Nat.lt_of_lt_of_eq t.isLt N_0
  have e0 : (grid0.coords t 0).val = t.val / 1 % 8 := Pipeline.Grid.coords_val t 0 (by decide) rfl
  have h : First (grid0.coords t) ↔ t.val % 8 = 0 := by
    simp only [First, e0]
    word_cmp
  rw [h]; clear e0 h; omega

/-- The second branch is taken at the last point only. -/
theorem last_iff (t : Fin cfg0.N) : Last (grid0.coords t) ↔ t.val = 7 := by
  have ht : t.val < 8 := Nat.lt_of_lt_of_eq t.isLt N_0
  have e0 : (grid0.coords t 0).val = t.val / 1 % 8 := Pipeline.Grid.coords_val t 0 (by decide) rfl
  have h : Last (grid0.coords t) ↔ t.val % 8 = 7 := by
    simp only [Last, e0]
    word_cmp
  rw [h]; clear e0 h; omega

/-! ## The contents after each point -/

/-- The `small` block after the body at point `n`. -/
def smallAt (c : Dev nD) : (n : ℕ) → n < cfg0.N → Vec F S24x1024 .f32
  | 0, h => step (X0_0 m c ⟨0, h⟩) (iblk m c 2 ⟨0, h⟩) (iblk m c 7 ⟨0, h⟩) k0_pay12
  | n + 1, h =>
    if n + 1 = 7 then
      stepLast (X0_0 m c ⟨n + 1, h⟩) (iblk m c 2 ⟨n + 1, h⟩) (iblk m c 3 ⟨n + 1, h⟩) (iblk m c 4 ⟨n + 1, h⟩) (iblk m c 5 ⟨n + 1, h⟩)
        (iblk m c 6 ⟨n + 1, h⟩) (iblk m c 7 ⟨n + 1, h⟩) (smallAt c n (Nat.lt_of_succ_lt h))
    else step (X0_0 m c ⟨n + 1, h⟩) (iblk m c 2 ⟨n + 1, h⟩) (iblk m c 7 ⟨n + 1, h⟩) (smallAt c n (Nat.lt_of_succ_lt h))

/-- The point before. -/
theorem pred_lt (t : Fin cfg0.N) : t.val - 1 < cfg0.N := Nat.lt_of_le_of_lt (Nat.sub_le _ _) t.isLt

theorem smallAt_first (c : Dev nD) (t : Fin cfg0.N) (h0 : t.val = 0) :
    smallAt m c t.val t.isLt = step (X0_0 m c t) (iblk m c 2 t) (iblk m c 7 t) k0_pay12 := by
  obtain ⟨n, hn⟩ := t
  obtain rfl : n = 0 := h0
  rfl

theorem smallAt_mid (c : Dev nD) (t : Fin cfg0.N) (h0 : ¬t.val = 0) (h1 : ¬t.val = 7) :
    smallAt m c t.val t.isLt = step (X0_0 m c t) (iblk m c 2 t) (iblk m c 7 t) (smallAt m c (t.val - 1) (pred_lt t)) := by
  obtain ⟨n, hn⟩ := t
  cases n with
  | zero => exact absurd rfl h0
  | succ n => exact if_neg h1

theorem smallAt_last (c : Dev nD) (t : Fin cfg0.N) (h1 : t.val = 7) :
    smallAt m c t.val t.isLt = stepLast (X0_0 m c t) (iblk m c 2 t) (iblk m c 3 t) (iblk m c 4 t) (iblk m c 5 t) (iblk m c 6 t) (iblk m c 7 t)
      (smallAt m c (t.val - 1) (pred_lt t)) := by
  obtain ⟨n, hn⟩ := t
  cases n with
  | zero => exact absurd h1 (Nat.zero_ne_add_one 6)
  | succ n => exact if_pos h1

/-! ## The pipeline's proof data -/

/-- The proof data of the pipeline on core `c`: after a point each input's buffer holds its block, the first output's a tile
    of `grad_x`, the second's the running `small` block. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gx (X0_0 m c t) (X0_1 m c t) (iblk m c 2 t) (iblk m c 6 t) (iblk m c 7 t)
    | ⟨9, _⟩ => smallAt m c t.val t.isLt
  Φ _ := Pipeline.ΦA spec0 c
  q w := Pipeline.shareOf spec0 w
  owed _ := 0

/-- The arrays are the region-entry contents. -/
theorem A_eq (c : Dev nD) (w : Fin cfg0.W) : (dats m 0 c).A w = V m c (Pipeline.arrRef spec0 w) := by
  dsimp only [dats]

/-- What the body leaves in the outputs. -/
theorem after_gx (c : Dev nD) (t : Fin cfg0.N) :
    (dats m 0 c).after 8 t = gx (X0_0 m c t) (X0_1 m c t) (iblk m c 2 t) (iblk m c 6 t) (iblk m c 7 t) := by dsimp only [dats]
theorem after_small (c : Dev nD) (t : Fin cfg0.N) : (dats m 0 c).after 9 t = smallAt m c t.val t.isLt := by dsimp only [dats]

/-- Each input's staging buffer holds its block at every point. -/
theorem before0 (c : Dev nD) (t : Fin cfg0.N) (d) : (dats m 0 c).before 0 t d = X0_0 m c t :=
  before0_0_of m (dats m 0 c) (A_eq m c 0) (fun _ => by dsimp only [dats]) t d
theorem before1 (c : Dev nD) (t : Fin cfg0.N) (d) : (dats m 0 c).before 1 t d = X0_1 m c t :=
  before0_1_of m (dats m 0 c) (A_eq m c 1) (fun _ => by dsimp only [dats]) t d
theorem before2 (c : Dev nD) (t : Fin cfg0.N) (d) : (dats m 0 c).before 2 t d = iblk m c 2 t :=
  before0_2_of m (dats m 0 c) (A_eq m c 2) (fun _ => by dsimp only [dats]) t d
theorem before3 (c : Dev nD) (t : Fin cfg0.N) (d) : (dats m 0 c).before 3 t d = iblk m c 3 t :=
  before0_3_of m (dats m 0 c) (A_eq m c 3) (fun _ => by dsimp only [dats]) t d
theorem before4 (c : Dev nD) (t : Fin cfg0.N) (d) : (dats m 0 c).before 4 t d = iblk m c 4 t :=
  before0_4_of m (dats m 0 c) (A_eq m c 4) (fun _ => by dsimp only [dats]) t d
theorem before5 (c : Dev nD) (t : Fin cfg0.N) (d) : (dats m 0 c).before 5 t d = iblk m c 5 t :=
  before0_5_of m (dats m 0 c) (A_eq m c 5) (fun _ => by dsimp only [dats]) t d
theorem before6 (c : Dev nD) (t : Fin cfg0.N) (d) : (dats m 0 c).before 6 t d = iblk m c 6 t :=
  before0_6_of m (dats m 0 c) (A_eq m c 6) (fun _ => by dsimp only [dats]) t d
theorem before7 (c : Dev nD) (t : Fin cfg0.N) (d) : (dats m 0 c).before 7 t d = iblk m c 7 t :=
  before0_7_of m (dats m 0 c) (A_eq m c 7) (fun _ => by dsimp only [dats]) t d

/-- The `small` block is kept from one point to the next. -/
theorem before_small (c : Dev nD) (t : Fin cfg0.N) (h0 : ¬t.val = 0) (d) :
    (dats m 0 c).before 9 t d = smallAt m c (t.val - 1) (pred_lt t) := by
  have hN : t.val < 8 := lt_of_lt_of_eq t.isLt (show cfg0.N = 8 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body's obligation -/

/-- Each window's staging buffer at a point. -/
abbrev stg (w : Fin cfg0.W) (t : Fin cfg0.N) := (cfg0.win w).stage (cfg0.slots t w)
theorem hs0 (t : Fin cfg0.N) : (stg 0 t).IsWhole := hstage0_0 ((cfg0.slots t 0).cast nbuf0_0)
theorem hs1 (t : Fin cfg0.N) : (stg 1 t).IsWhole := hstage0_1 ((cfg0.slots t 1).cast nbuf0_1)
theorem hs2 (t : Fin cfg0.N) : (stg 2 t).IsWhole := hstage0_2 ((cfg0.slots t 2).cast nbuf0_2)
theorem hs3 (t : Fin cfg0.N) : (stg 3 t).IsWhole := hstage0_3 ((cfg0.slots t 3).cast nbuf0_3)
theorem hs4 (t : Fin cfg0.N) : (stg 4 t).IsWhole := hstage0_4 ((cfg0.slots t 4).cast nbuf0_4)
theorem hs5 (t : Fin cfg0.N) : (stg 5 t).IsWhole := hstage0_5 ((cfg0.slots t 5).cast nbuf0_5)
theorem hs6 (t : Fin cfg0.N) : (stg 6 t).IsWhole := hstage0_6 ((cfg0.slots t 6).cast nbuf0_6)
theorem hs7 (t : Fin cfg0.N) : (stg 7 t).IsWhole := hstage0_7 ((cfg0.slots t 7).cast nbuf0_7)
theorem hs8 (t : Fin cfg0.N) : (stg 8 t).IsWhole := hstage0_8 ((cfg0.slots t 8).cast nbuf0_8)
theorem hs9 (t : Fin cfg0.N) : (stg 9 t).IsWhole := hstage0_9 ((cfg0.slots t 9).cast nbuf0_9)

/-- The invariant between points: the scratch at some contents, and the generator register. -/
theorem inv_eq (c : Dev nD) :
    (Pipeline.ΦA spec0 c : sProp 𝕄)
      = iprop((∃ d, owns (c : Thread nD τ) (Memref.whole cc0_scratch0 : Memref sig .tc .vmem S128x1024 .f32) fullShare d) ∗ (∃ r, prngReg c r)) := by
  unfold Pipeline.ΦA; rw [scopedRest0_eq]; simp only [owns_whole]; try rfl

set_option maxHeartbeats 2400000 in
/-- The body at any point, from the three triples. -/
theorem sound_body (c : Dev nD) (t : Fin cfg0.N) :
    iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare ((dats m 0 c).before 5 t d))
    ∗ (∃ d, owns (c : Thread nD τ) (stg 6 t) fullShare ((dats m 0 c).before 6 t d))
    ∗ (∃ d, owns (c : Thread nD τ) (stg 7 t) fullShare ((dats m 0 c).before 7 t d))
    ∗ (∃ d, owns (c : Thread nD τ) (stg 8 t) fullShare ((dats m 0 c).before 8 t d))
    ∗ (∃ d, owns (c : Thread nD τ) (stg 9 t) fullShare ((dats m 0 c).before 9 t d)))
    ⊢ wp frame (wpE (defs₀ (F := F)) Variants.none c none) Set.univ (bodyAt0 t) (fun _ =>
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t)
    ∗ owns (c : Thread nD τ) (stg 4 t) fullShare ((dats m 0 c).after 4 t)
    ∗ owns (c : Thread nD τ) (stg 5 t) fullShare ((dats m 0 c).after 5 t)
    ∗ owns (c : Thread nD τ) (stg 6 t) fullShare ((dats m 0 c).after 6 t)
    ∗ owns (c : Thread nD τ) (stg 7 t) fullShare ((dats m 0 c).after 7 t)
    ∗ owns (c : Thread nD τ) (stg 8 t) fullShare ((dats m 0 c).after 8 t)
    ∗ owns (c : Thread nD τ) (stg 9 t) fullShare ((dats m 0 c).after 9 t))) := by
  unfold bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, inv_eq, after_gx, after_small]
  by_cases h0 : t.val = 0
  · have h1 : ¬t.val = 7 := by omega
    dsimp only [dats]
    rw [smallAt_first m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (body_first c (grid0.coords t) _ (hs0 t) _ (hs1 t) _ (hs2 t) _ (hs3 t) _ (hs4 t) _ (hs5 t) _ (hs6 t) _ (hs7 t) _ (hs8 t) _ (hs9 t) _ (Memref.isWhole_whole _)
      (X0_0 m c t) (X0_1 m c t) (iblk m c 2 t) (iblk m c 3 t) (iblk m c 4 t) (iblk m c 5 t) (iblk m c 6 t) (iblk m c 7 t) _ ((first_iff t).mpr h0) (fun h => h1 ((last_iff t).mp h)) Set.univ _)
    isplitl [H0 H1 H2 H3 H4 H5 H6 H7]; · unfold ins; iframe
    isplitl [H8]; · iexists _; iexact H8
    isplitl [H9]; · iexact H9
    isplitl [HS]; · iexact HS
    iintro ⟨⟨H0, H1, H2, H3, H4, H5, H6, H7⟩, H8, H9, HS⟩
    iframe
  simp only [before_small m c t h0]
  dsimp only [dats]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  by_cases h1 : t.val = 7
  · rw [smallAt_last m c t h1]
    iapply (body_last c (grid0.coords t) _ (hs0 t) _ (hs1 t) _ (hs2 t) _ (hs3 t) _ (hs4 t) _ (hs5 t) _ (hs6 t) _ (hs7 t) _ (hs8 t) _ (hs9 t) _ (Memref.isWhole_whole _)
      (X0_0 m c t) (X0_1 m c t) (iblk m c 2 t) (iblk m c 3 t) (iblk m c 4 t) (iblk m c 5 t) (iblk m c 6 t) (iblk m c 7 t) (smallAt m c (t.val - 1) (pred_lt t)) (fun h => h0 ((first_iff t).mp h)) ((last_iff t).mpr h1) Set.univ _)
    isplitl [H0 H1 H2 H3 H4 H5 H6 H7]; · unfold ins; iframe
    isplitl [H8]; · iexists _; iexact H8
    isplitl [H9]; · iexact H9
    isplitl [HS]; · iexact HS
    iintro ⟨⟨H0, H1, H2, H3, H4, H5, H6, H7⟩, H8, H9, HS⟩
    iframe
  · rw [smallAt_mid m c t h0 h1]
    iapply (body_mid c (grid0.coords t) _ (hs0 t) _ (hs1 t) _ (hs2 t) _ (hs3 t) _ (hs4 t) _ (hs5 t) _ (hs6 t) _ (hs7 t) _ (hs8 t) _ (hs9 t) _ (Memref.isWhole_whole _)
      (X0_0 m c t) (X0_1 m c t) (iblk m c 2 t) (iblk m c 3 t) (iblk m c 4 t) (iblk m c 5 t) (iblk m c 6 t) (iblk m c 7 t) (smallAt m c (t.val - 1) (pred_lt t)) (fun h => h0 ((first_iff t).mp h)) (fun h => h1 ((last_iff t).mp h)) Set.univ _)
    isplitl [H0 H1 H2 H3 H4 H5 H6 H7]; · unfold ins; iframe
    isplitl [H8]; · iexists _; iexact H8
    isplitl [H9]; · iexact H9
    isplitl [HS]; · iexact HS
    iintro ⟨⟨H0, H1, H2, H3, H4, H5, H6, H7⟩, H8, H9, HS⟩
    iframe

/-- The body table's row at a point. -/
theorem defs₀_row (t : Fin cfg0.N) : defs₀ (F := F) .tc cfg0.body (cfg0.bodyArgs t (cfg0.slots t)) = bodyAt0 t := by
  unfold defs₀; rw [Defs.onTc_tc]

/-- The pipeline's body obligation. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

set_option backward.isDefEq.respectTransparency.types false in
set_option maxHeartbeats 800000 in
/-- Every run ends with the pipeline's arrays at what the proof data computes, the other buffers as the host lines leave
    them, and every semaphore at zero. -/
theorem run_main : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: every run ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.In

end
-- ==== Proof.In.Row.lean ====
/- One row of the gradient through RMSNorm, over the extended reals: the kernel's formula and the
formula that the differentiated reference computes are the same, with no condition on the row. -/
module

public import Idealize.ShloMosaic.Lib.Pointwise
public import Idealize.ShloMosaic.Lib.IdealHost
public import Idealize.ShloMosaic.Lib.Pipeline.ValueKit

@[expose] public section

set_option maxRecDepth 16384

noncomputable section

namespace Cert.Norm

open Idealize.ShloMosaic

/-- The printed constant 1/1024. -/
abbrev inv : EReal := Ideal.ofBits .f32 0x3A800000#32
/-- The printed constant added to the mean square. -/
abbrev eps : EReal := Ideal.ofBits .f32 0x358637BD#32

/-- The mean square of a row, plus the small constant. -/
def var (s : Fin 1024 → EReal) : EReal := (∑ k, s k * s k) * inv + eps
/-- The reciprocal root of it. -/
def rstd (s : Fin 1024 → EReal) : EReal := Ideal.rsqrt (var s)
/-- A row of the gradient entering the norm: a row of `dproj` times the transposed weight. -/
def dhRow (d : Fin 9216 → EReal) (w : Fin 1024 → Fin 9216 → EReal) (k : Fin 1024) : EReal := ∑ n, d n * w k n
/-- A row of the stream's gradient: what comes from the block's other uses, plus the norm's gradient. -/
def gxRow (dh ds s g : Fin 1024 → EReal) (k : Fin 1024) : EReal :=
  ds k + rstd s * (dh k * g k) - s k * (rstd s * rstd s * rstd s * ((∑ j, dh j * g j * s j) * inv))
/-- A row's part of the norm weight's gradient. -/
def ngRow (dh s : Fin 1024 → EReal) (k : Fin 1024) : EReal := dh k * (s k * rstd s)

theorem inv_eq : inv = (((1 : ℝ) / 1024 : ℝ) : EReal) := by
  simp [inv, Ideal.ofBits, Ideal.ieee, -EReal.coe_mul]; norm_num

theorem n1024_eq : Ideal.ofBits .f32 0x44800000#32 = ((1024 : ℝ) : EReal) := by
  simp [Ideal.ofBits, Ideal.ieee, -EReal.coe_mul]; norm_num

theorem neg_half_eq : Ideal.ofBits .f32 0xBF000000#32 = ((-(1 / 2) : ℝ) : EReal) := by
  simp [Ideal.ofBits, Ideal.ieee, -EReal.coe_mul, -EReal.coe_neg]; norm_num

theorem eps_pos : 0 < eps := by
  have h : eps = ((Ideal.ieee 8 23 0x358637BD#32).toReal : EReal) := by
    simp [eps, Ideal.ofBits, Ideal.ieee, -EReal.coe_mul]
  rw [h]
  simp [Ideal.ieee, -EReal.coe_mul]

/-- Dividing by 1024 is multiplying by 1/1024. -/
theorem div_1024 (x : EReal) : Ideal.div x (Ideal.ofBits .f32 0x44800000#32) = x * inv := by
  rw [n1024_eq, inv_eq, Ideal.div, if_neg (by norm_num)]
  rw [← EReal.coe_inv]; norm_num

theorem mul_self_nonneg (x : EReal) : 0 ≤ x * x := by
  rcases le_total 0 x with h | h
  · exact EReal.mul_nonneg h h
  · exact EReal.mul_nonneg_iff.mpr (.inr ⟨h, h⟩)

theorem var_pos (s : Fin 1024 → EReal) : 0 < var s := by
  have h0 : 0 ≤ (∑ k, s k * s k) * inv :=
    EReal.mul_nonneg (Finset.sum_nonneg fun k _ => mul_self_nonneg _) (by rw [inv_eq]; exact_mod_cast (by norm_num : (0 : ℝ) ≤ 1 / 1024))
  exact lt_of_lt_of_le eps_pos (le_add_of_nonneg_left h0)

/-- Over a positive number the reciprocal root divided by the number is the reciprocal root's cube. -/
theorem rsqrt_div {v : EReal} (hv : 0 < v) : Ideal.div (Ideal.rsqrt v) v = Ideal.rsqrt v * Ideal.rsqrt v * Ideal.rsqrt v := by
  rw [Ideal.div, if_neg hv.ne']
  induction v with
  | bot => exact absurd hv (by simp)
  | top => simp
  | coe r =>
    have hr : 0 < r := by exact_mod_cast hv
    have e : Ideal.rsqrt (r : EReal) = (((Real.sqrt r)⁻¹ : ℝ) : EReal) := by
      rw [Ideal.rsqrt_coe, if_neg (not_lt.mpr hr.le), if_neg hr.ne']
    rw [e, ← EReal.coe_inv]
    norm_cast
    have h : r⁻¹ = (Real.sqrt r)⁻¹ * (Real.sqrt r)⁻¹ := by rw [← mul_inv, Real.mul_self_sqrt hr.le]
    rw [mul_assoc, ← h]

/-- Half of a number twice, with the sign turned. -/
theorem neg_half_twice (t : EReal) : ((-(1 / 2) : ℝ) : EReal) * t + ((-(1 / 2) : ℝ) : EReal) * t = -t := by
  induction t with
  | bot => rw [EReal.coe_mul_bot_of_neg (by norm_num)]; simp
  | top => rw [EReal.coe_mul_top_of_neg (by norm_num)]; simp
  | coe r => norm_cast; ring

/-- The reference's gradient of a row, as differentiation writes it, is the kernel's. -/
theorem ref_row (a s r v p : EReal) (hv : 0 < v) (hr : r = Ideal.rsqrt v) :
    a + s * Ideal.div (p * (Ideal.ofBits .f32 0xBF000000#32 * Ideal.div r v)) (Ideal.ofBits .f32 0x44800000#32)
      + Ideal.div (p * (Ideal.ofBits .f32 0xBF000000#32 * Ideal.div r v)) (Ideal.ofBits .f32 0x44800000#32) * s
      = a - s * (r * r * r * (p * inv)) := by
  rw [div_1024, hr, rsqrt_div hv, neg_half_eq, ← hr, add_assoc, sub_eq_add_neg, ← neg_half_twice]
  have h : s * (p * (((-(1 / 2) : ℝ) : EReal) * (r * r * r)) * inv) = ((-(1 / 2) : ℝ) : EReal) * (s * (r * r * r * (p * inv))) := by ac_rfl
  rw [mul_comm _ s, h]

/-! ## Sums cut into pieces -/

/-- A sum over 1024 lanes, as a sum over 128 lanes of eight slices added. -/
theorem sum_slices (f : Fin 1024 → EReal) :
    ∑ x : Fin 128, (f ⟨x.val, by omega⟩ + f ⟨128 + x.val, by omega⟩ + f ⟨256 + x.val, by omega⟩ + f ⟨384 + x.val, by omega⟩
      + f ⟨512 + x.val, by omega⟩ + f ⟨640 + x.val, by omega⟩ + f ⟨768 + x.val, by omega⟩ + f ⟨896 + x.val, by omega⟩) = ∑ k, f k := by
  let g : ℕ → EReal := fun n => if h : n < 1024 then f ⟨n, h⟩ else 0
  have hg : ∀ k : Fin 1024, f k = g k.val := fun k => by simp [g]
  simp only [hg, Finset.sum_add_distrib]
  have := Fin.sum_univ_univ_mul_add 8 128 g
  rw [Fin.sum_univ_eight] at this
  rw [show (∑ k : Fin 1024, g k.val) = ∑ l : Fin (8 * 128), g l.val from rfl, ← this]
  simp

/-- A sum over 9216 columns, as eight sums over 1152 columns each. -/
theorem sum_blocks (f : Fin 9216 → EReal) :
    ∑ x : Fin 1152, f ⟨x.val, by omega⟩ + ∑ x : Fin 1152, f ⟨1152 + x.val, by omega⟩ + ∑ x : Fin 1152, f ⟨2304 + x.val, by omega⟩
      + ∑ x : Fin 1152, f ⟨3456 + x.val, by omega⟩ + ∑ x : Fin 1152, f ⟨4608 + x.val, by omega⟩ + ∑ x : Fin 1152, f ⟨5760 + x.val, by omega⟩
      + ∑ x : Fin 1152, f ⟨6912 + x.val, by omega⟩ + ∑ x : Fin 1152, f ⟨8064 + x.val, by omega⟩ = ∑ n, f n := by
  let g : ℕ → EReal := fun n => if h : n < 9216 then f ⟨n, h⟩ else 0
  have hg : ∀ k : Fin 9216, f k = g k.val := fun k => by simp [g]
  simp only [hg]
  have := Fin.sum_univ_univ_mul_add 8 1152 g
  rw [Fin.sum_univ_eight] at this
  rw [show (∑ k : Fin 9216, g k.val) = ∑ l : Fin (8 * 1152), g l.val from rfl, ← this]
  simp

end Cert.Norm

end
-- ==== Proof.In.RefRead.lean ====
/- What the reference of `_input_bwd` computes, read at a row and a column over the extended reals. -/
module

public import proofs.«01_k».proof.Proof.Gen.ReferenceIdeal.Read
public import proofs.«01_k».proof.Proof.In.Row

@[expose] public section

set_option maxRecDepth 16384

noncomputable section

namespace Cert.ReferenceIdeal.In

open Idealize.ShloMosaic Idealize.ShloMosaic.TcCoe Idealize.ShloMosaic.Tactic
open Cert.ReferenceIdeal.Gen Cert.ReferenceIdeal.Read Cert.Norm

variable (x0 : Vec Ideal S1x4096x1024 .f32) (x1 : Vec Ideal S16x1024 .f32) (x2 : Vec Ideal S1x1024 .f32) (x3 : Vec Ideal S1x1024x9216 .f32)
  (x4 : Vec Ideal S1x4112x9216 .f32) (x5 : Vec Ideal S1x4112x1024 .f32)

/-- The stream's row `r`: 16 meta tokens, then the tokens. -/
def sRow (r : Fin 4112) (k : Fin 1024) : EReal := if h : r.val < 16 then x1 (ix2 ⟨r.val, h⟩ k) else x0 (ix3 0 ⟨r.val - 16, by omega⟩ k)

/-- The gradient entering the norm at row `r`. -/
def dhAt (r : Fin 4112) : Fin 1024 → EReal := dhRow (fun n => x4 (ix3 0 r n)) (fun k n => x3 (ix3 0 k n))

/-- A host sum over two axes of extent one, the first two of three. -/
theorem reduce_01 {n : ℕ} (h : (⟨3, ![1, 1, n]⟩ : Shape).ReducesTo [0, 1] ⟨1, ![n]⟩) (v : (⟨3, ![1, 1, n]⟩ : Shape).Idx → EReal) (init : EReal) (k : Fin n) :
    Ideal.hostReduceAdd h v init (ix1 k) = init + v (ix3 0 0 k) := by
  refine congrArg (init + ·) (Finset.sum_eq_single_of_mem _ (Finset.mem_filter.mpr ⟨Finset.mem_univ _, ?_⟩) fun i hi hne => absurd ?_ hne)
  · funext b; apply Fin.ext
    match b with
    | ⟨0, _⟩ => rfl
  · have e := congrFun (Finset.mem_filter.mp hi).2 0
    funext a; apply Fin.ext
    match a with
    | ⟨0, _⟩ => exact Nat.lt_one_iff.mp (i 0).isLt
    | ⟨1, _⟩ => exact Nat.lt_one_iff.mp (i 1).isLt
    | ⟨2, _⟩ => exact congrArg Fin.val e

/-- The same over the outer two of three axes. -/
theorem reduce_02 {n : ℕ} (h : (⟨3, ![1, n, 1]⟩ : Shape).ReducesTo [0, 2] ⟨1, ![n]⟩) (v : (⟨3, ![1, n, 1]⟩ : Shape).Idx → EReal) (init : EReal) (k : Fin n) :
    Ideal.hostReduceAdd h v init (ix1 k) = init + v (ix3 0 k 0) := by
  refine congrArg (init + ·) (Finset.sum_eq_single_of_mem _ (Finset.mem_filter.mpr ⟨Finset.mem_univ _, ?_⟩) fun i hi hne => absurd ?_ hne)
  · funext b; apply Fin.ext
    match b with
    | ⟨0, _⟩ => rfl
  · have e := congrFun (Finset.mem_filter.mp hi).2 0
    funext a; apply Fin.ext
    match a with
    | ⟨0, _⟩ => exact Nat.lt_one_iff.mp (i 0).isLt
    | ⟨1, _⟩ => exact congrArg Fin.val e
    | ⟨2, _⟩ => exact Nat.lt_one_iff.mp (i 2).isLt

theorem v1_apply (r : Fin 4112) (k : Fin 1024) : val_main_v1 (F := Ideal) x0 x1 (ix3 0 r k) = sRow x0 x1 r k := by
  pointwise [val_main_v1, val_main_v0, sRow]

theorem v9_apply (r : Fin 4112) : val_main_v9 (F := Ideal) x0 x1 (ix3 0 r 0) = var (sRow x0 x1 r) := by
  have h : val_main_v9 (F := Ideal) x0 x1 (ix3 0 r 0) = Ideal.div (∑ k, sRow x0 x1 r k * sRow x0 x1 r k) (Ideal.ofBits .f32 0x44800000#32) + eps := by
    simp only [← v1_apply]
    pointwise [val_main_v9, val_main_v8, val_main_v7, val_main_v6, val_main_v5, val_main_v4, val_main_v3, val_main_cst, val_main_cst_0, val_main_cst_1]
  rw [h, div_1024]; rfl

theorem v10_apply (r : Fin 4112) : val_main_v10 (F := Ideal) x0 x1 (ix3 0 r 0) = rstd (sRow x0 x1 r) := by
  rw [rstd, ← v9_apply]; rfl

theorem v21_apply (r : Fin 4112) (k : Fin 1024) : val_main_v21 (F := Ideal) x3 x4 (ix3 0 r k) = dhAt x3 x4 r k := by
  pointwise [val_main_v21, val_main_v19, dhAt, dhRow]

/-- The stream's gradient at a row. -/
theorem v43_apply (r : Fin 4112) (k : Fin 1024) :
    val_main_v43 (F := Ideal) x0 x1 x2 x3 x4 x5 (ix3 0 r k)
      = gxRow (dhAt x3 x4 r) (fun k => x5 (ix3 0 r k)) (sRow x0 x1 r) (fun k => x2 (ix2 0 k)) k := by
  have h : val_main_v43 (F := Ideal) x0 x1 x2 x3 x4 x5 (ix3 0 r k)
      = x5 (ix3 0 r k) + rstd (sRow x0 x1 r) * (dhAt x3 x4 r k * x2 (ix2 0 k))
        - sRow x0 x1 r k * (rstd (sRow x0 x1 r) * rstd (sRow x0 x1 r) * rstd (sRow x0 x1 r) * ((∑ j, dhAt x3 x4 r j * x2 (ix2 0 j) * sRow x0 x1 r j) * inv)) := by
    rw [← ref_row _ _ (rstd (sRow x0 x1 r)) _ _ (var_pos (sRow x0 x1 r)) rfl]
    simp only [← v1_apply, ← v10_apply, ← v9_apply, ← v21_apply]
    pointwise [val_main_v43, val_main_v42, val_main_v41, val_main_v40, val_main_v39, val_main_v38, val_main_v37, reduce_02]
    pointwise [val_main_v36, val_main_v35, val_main_v34, val_main_v33, val_main_v32,
      val_main_v31, val_main_v30, val_main_v29, val_main_v28, val_main_v26, val_main_v25, val_main_v16, val_main_v2, val_main_v13, val_main_v12, val_main_v11,
      val_main_cst_2, val_main_cst_5, val_main_cst_6, val_main_cst_7]
    rw [mul_comm (val_main_v21 x3 x4 (ix3 0 r k) * x2 (ix2 0 k))]
    simp only [mul_comm (val_main_v1 x0 x1 (ix3 0 r _)) (val_main_v21 _ _ _ * _)]
  exact h

/-- The tokens' gradient. -/
theorem v46_apply (r : Fin 4096) (k : Fin 1024) : val_main_v46 (F := Ideal) x0 x1 x2 x3 x4 x5 (ix3 0 r k)
    = gxRow (dhAt x3 x4 ⟨16 + r.val, by omega⟩) (fun k => x5 (ix3 0 ⟨16 + r.val, by omega⟩ k)) (fun k => x0 (ix3 0 r k)) (fun k => x2 (ix2 0 k)) k := by
  have hs : (fun k => x0 (ix3 0 r k)) = sRow x0 x1 ⟨16 + r.val, by omega⟩ := funext fun k => by simp [sRow]
  rw [hs, ← v43_apply]
  pointwise [val_main_v46]

/-- The meta tokens' gradient. -/
theorem v47_apply (r : Fin 16) (k : Fin 1024) : val_main_v47 (F := Ideal) x0 x1 x2 x3 x4 x5 (ix2 r k)
    = gxRow (dhAt x3 x4 ⟨r.val, by omega⟩) (fun k => x5 (ix3 0 ⟨r.val, by omega⟩ k)) (fun k => x1 (ix2 r k)) (fun k => x2 (ix2 0 k)) k := by
  have hs : (fun k => x1 (ix2 r k)) = sRow x0 x1 ⟨r.val, by omega⟩ := funext fun k => by simp [sRow]
  rw [hs, ← v43_apply]
  pointwise [val_main_v47, val_main_v45, val_main_cst_8]
  simp

/-- The norm weight's gradient: every row's part. -/
theorem v44_apply (k : Fin 1024) : val_main_v44 (F := Ideal) x0 x1 x3 x4 (ix2 0 k) = ∑ r : Fin 4112, ngRow (dhAt x3 x4 r) (sRow x0 x1 r) k := by
  unfold ngRow
  simp only [← v1_apply, ← v10_apply, ← v21_apply]
  pointwise [val_main_v44, val_main_v27, reduce_01, val_main_v24, val_main_v23, val_main_v22, val_main_v15, val_main_v14, val_main_cst_3, val_main_cst_4]
  exact Finset.sum_congr rfl fun _ _ => mul_comm _ _

end Cert.ReferenceIdeal.In

end
-- ==== Proof.In.Read.lean ====
/- What the body of `_input_bwd` computes from its blocks, read at a row and a column over the
extended reals. -/
module

public import proofs.«01_k».proof.Proof.In.Frame
public import Idealize.ShloMosaic.Lib.Pointwise
public import proofs.«01_k».proof.Proof.In.Row

@[expose] public section

set_option maxRecDepth 16384

noncomputable section

namespace Cert.KernelIdeal.In

open Idealize.ShloMosaic Idealize.ShloMosaic.TcCoe Idealize.ShloMosaic.Tactic
open Cert.KernelIdeal.Gen Cert.Norm

/-- The weight's row `k` and column `n`, in the blocks of the devices' columns. -/
def wAt (w : Vec Ideal S8x1024x1152 .bf16) (k : Fin 1024) (n : Fin 9216) : EReal := w (ix3 ⟨n.val / 1152, by omega⟩ k ⟨n.val % 1152, by omega⟩)

/-- The gradient entering the norm at a tile's row. -/
theorem dh_apply (x0 : Vec Ideal S512x9216 .bf16) (w : Vec Ideal S8x1024x1152 .bf16) (r : Fin 512) (k : Fin 1024) :
    dh x0 w (ix2 r k) = dhRow (fun n => x0 (ix2 r n)) (wAt w) k := by
  unfold dhRow
  rw [← sum_blocks]
  pointwise [dh, k0_pay15, k0_pay13, k0_pay14, cols, wBlk, VecWindow.window_eq_ld, wAt]
  refine congr_arg₂ (· + ·) (congr_arg₂ (· + ·) (congr_arg₂ (· + ·) (congr_arg₂ (· + ·) (congr_arg₂ (· + ·) (congr_arg₂ (· + ·) (congr_arg₂ (· + ·) ?_ ?_) ?_) ?_) ?_) ?_) ?_) ?_
  all_goals
    refine Finset.sum_congr rfl fun x _ => congr_arg₂ (· * ·) rfl (congrArg w ?_)
    refine congr (congr (congrArg ix3 ?_) rfl) ?_ <;> apply Fin.ext <;> simp <;> omega

/-- The same at the meta tile's row. -/
theorem dhM_apply (x3 : Vec Ideal S128x9216 .bf16) (w : Vec Ideal S8x1024x1152 .bf16) (r : Fin 128) (k : Fin 1024) :
    dhM x3 w (ix2 r k) = dhRow (fun n => x3 (ix2 r n)) (wAt w) k := by
  unfold dhRow
  rw [← sum_blocks]
  pointwise [dhM, k0_pay4, k0_pay3, colsM, wBlk, VecWindow.window_eq_ld, wAt]
  refine congr_arg₂ (· + ·) (congr_arg₂ (· + ·) (congr_arg₂ (· + ·) (congr_arg₂ (· + ·) (congr_arg₂ (· + ·) (congr_arg₂ (· + ·) (congr_arg₂ (· + ·) ?_ ?_) ?_) ?_) ?_) ?_) ?_) ?_
  all_goals
    refine Finset.sum_congr rfl fun x _ => congr_arg₂ (· * ·) rfl (congrArg w ?_)
    refine congr (congr (congrArg ix3 ?_) rfl) ?_ <;> apply Fin.ext <;> simp <;> omega

/-- A tile's row of `grad_x`. -/
theorem gx_apply (x0 : Vec Ideal S512x9216 .bf16) (x1 x2 : Vec Ideal S512x1024 .f32) (g : Vec Ideal S1x1024 .f32) (w : Vec Ideal S8x1024x1152 .bf16)
    (r : Fin 512) (k : Fin 1024) : gx x0 x1 x2 g w (ix2 r k)
      = gxRow (dhRow (fun n => x0 (ix2 r n)) (wAt w)) (fun k => x1 (ix2 r k)) (fun k => x2 (ix2 r k)) (fun k => g (ix2 0 k)) k := by
  unfold gxRow rstd var
  rw [← sum_slices (fun k => x2 (ix2 r k) * x2 (ix2 r k)), ← sum_slices]
  simp only [← dh_apply]
  unfold gx; unfold_payloads
  pointwise []

/-- A row of the meta tile's gradient. -/
theorem gxM_apply (x3 : Vec Ideal S128x9216 .bf16) (x4 x5 : Vec Ideal S128x1024 .f32) (g : Vec Ideal S1x1024 .f32) (w : Vec Ideal S8x1024x1152 .bf16)
    (r : Fin 128) (k : Fin 1024) : gxM x3 x4 x5 g w (ix2 r k)
      = gxRow (dhRow (fun n => x3 (ix2 r n)) (wAt w)) (fun k => x4 (ix2 r k)) (fun k => x5 (ix2 r k)) (fun k => g (ix2 0 k)) k := by
  unfold gxRow rstd var
  rw [← sum_slices (fun k => x5 (ix2 r k) * x5 (ix2 r k)), ← sum_slices]
  simp only [← dhM_apply]
  unfold gxM; unfold_payloads
  pointwise []

/-- A tile's rows added into the norm weight's gradient. -/
theorem addTile_apply (x0 : Vec Ideal S512x9216 .bf16) (x2 : Vec Ideal S512x1024 .f32) (w : Vec Ideal S8x1024x1152 .bf16) (s : Vec Ideal S1x1024 .f32) (k : Fin 1024) :
    addTile x0 x2 w s (ix2 0 k) = s (ix2 0 k) + ∑ r : Fin 512, ngRow (dhRow (fun n => x0 (ix2 r n)) (wAt w)) (fun k => x2 (ix2 r k)) k := by
  unfold ngRow rstd var
  simp only [← sum_slices (fun k => x2 (ix2 _ k) * x2 (ix2 _ k)), ← dh_apply]
  unfold addTile; unfold_payloads
  pointwise []

/-- The meta tile's rows added into the norm weight's gradient. -/
theorem addMeta_apply (x3 : Vec Ideal S128x9216 .bf16) (x5 : Vec Ideal S128x1024 .f32) (w : Vec Ideal S8x1024x1152 .bf16) (s : Vec Ideal S1x1024 .f32) (k : Fin 1024) :
    addMeta x3 x5 w s (ix2 0 k) = s (ix2 0 k) + ∑ r : Fin 128, ngRow (dhRow (fun n => x3 (ix2 r n)) (wAt w)) (fun k => x5 (ix2 r k)) k := by
  unfold ngRow rstd var
  simp only [← sum_slices (fun k => x5 (ix2 _ k) * x5 (ix2 _ k)), ← dhM_apply]
  unfold addMeta; unfold_payloads
  pointwise []

end Cert.KernelIdeal.In

end
-- ==== Proof.In.Arr.lean ====
/- What the body of `_input_bwd` finds in its blocks, in terms of the program's arguments. -/
module

public import proofs.«01_k».proof.Proof.In.Frame
public import Idealize.ShloMosaic.Lib.Pointwise
public import proofs.«01_k».proof.Proof.In.Read
public import Idealize.ShloMosaic.Lib.Pipeline.ValueKit
public import Idealize.ShloMosaic.Lib.StableHlo.RunRead

@[expose] public section

set_option maxRecDepth 16384

noncomputable section

namespace Cert.KernelIdeal.In

open Idealize.ShloMosaic Idealize.ShloMosaic.TcCoe Idealize.ShloMosaic.Tactic
open Cert.KernelIdeal.Gen

variable (m : (ℓ : Loc nD τ sig) → Buf (Elt Ideal) ℓ) (c : Dev nD)

/-- The arguments: the tokens, the meta tokens, the norm's gain, the projection, the gradients. -/
abbrev aX : Vec Ideal S1x4096x1024 .f32 := m ((c : Thread nD τ).loc main_arg0)
abbrev aMeta : Vec Ideal S16x1024 .f32 := m ((c : Thread nD τ).loc main_arg1)
abbrev aG : Vec Ideal S1x1024 .f32 := m ((c : Thread nD τ).loc main_arg2)
abbrev aW : Vec Ideal S1x1024x9216 .f32 := m ((c : Thread nD τ).loc main_arg3)
abbrev aDp : Vec Ideal S1x4112x9216 .f32 := m ((c : Thread nD τ).loc main_arg4)
abbrev aDs : Vec Ideal S1x4112x1024 .f32 := m ((c : Thread nD τ).loc main_arg5)

/-- Rows read from the concatenation of the tokens' rows, rows of zeros and the meta rows. -/
theorem rows_eq (A : Fin 4112 → EReal) (R : Fin 4224) :
    (if h : R.val < 4096 then A ⟨16 + R.val, by omega⟩ else if h' : R.val - 4096 < 112 then 0 else A ⟨R.val - 4096 - 112, by omega⟩)
      = if h : R.val < 4096 then A ⟨16 + R.val, by omega⟩ else if h' : R.val < 4208 then 0 else A ⟨R.val - 4208, by omega⟩ := by
  by_cases h : R.val < 4096
  · rw [dif_pos h, dif_pos h]
  · rw [dif_neg h, dif_neg h]
    by_cases h' : R.val < 4208
    · rw [dif_pos h', dif_pos (by omega)]
    · rw [dif_neg h', dif_neg (by omega)]
      exact congrArg A (Fin.ext (by simp only; omega))

/-- The gradient of the projection with the meta rows last, behind rows of zeros. -/
theorem v12_apply (R : Fin 4224) (n : Fin 9216) : V m c main_v12 (ix2 R n)
    = if h : R.val < 4096 then aDp m c (ix3 0 ⟨16 + R.val, by omega⟩ n) else if h' : R.val < 4208 then 0 else aDp m c (ix3 0 ⟨R.val - 4208, by omega⟩ n) := by
  simp only [V, V0, hostOps0, List.flatten_cons, List.flatten_nil, List.append_nil]
  after_reads_simp; dsimp only [Matrix.cons_val]; after_reads_simp; pointwise
  exact rows_eq (fun r => aDp m c (ix3 0 r n)) R

/-- The same in the dtype the kernel takes. -/
theorem v13_apply (R : Fin 4224) (n : Fin 9216) : V m c main_v13 (ix2 R n)
    = if h : R.val < 4096 then aDp m c (ix3 0 ⟨16 + R.val, by omega⟩ n) else if h' : R.val < 4208 then 0 else aDp m c (ix3 0 ⟨R.val - 4208, by omega⟩ n) := by
  rw [← v12_apply]
  rfl

/-- The same for the residual stream's gradient. -/
theorem v19_apply (R : Fin 4224) (n : Fin 1024) : V m c main_v19 (ix2 R n)
    = if h : R.val < 4096 then aDs m c (ix3 0 ⟨16 + R.val, by omega⟩ n) else if h' : R.val < 4208 then 0 else aDs m c (ix3 0 ⟨R.val - 4208, by omega⟩ n) := by
  simp only [V, V0, hostOps0, List.flatten_cons, List.flatten_nil, List.append_nil]
  after_reads_simp; dsimp only [Matrix.cons_val]; after_reads_simp; pointwise
  exact rows_eq (fun r => aDs m c (ix3 0 r n)) R

/-- The meta tile: rows of zeros, then the meta tokens. -/
theorem v2_apply (r : Fin 128) (k : Fin 1024) : V m c main_v2 (ix2 r k)
    = if h : r.val < 112 then 0 else aMeta m c (ix2 ⟨r.val - 112, by omega⟩ k) := by
  simp only [V, V0, hostOps0, List.flatten_cons, List.flatten_nil, List.append_nil]; entry_read; pointwise

theorem v0_apply (R : Fin 4096) (k : Fin 1024) : V m c main_v0 (ix2 R k) = aX m c (ix3 0 R k) := by
  simp only [V, V0, hostOps0, List.flatten_cons, List.flatten_nil, List.append_nil]; entry_read; pointwise

theorem v6_apply (k : Fin 1024) (n : Fin 9216) : wAt (V m c main_v6) k n = aW m c (ix3 0 k n) := by
  unfold wAt
  simp only [V, V0, hostOps0, List.flatten_cons, List.flatten_nil, List.append_nil]; entry_read; pointwise
  exact congrArg (aW m c) (congrArg (ix3 0 k) (Fin.ext (Nat.div_add_mod' _ _)))

/-- Each window's block index at a point. -/
theorem idx : ∀ t : Fin cfg0.N, win0_0.index t = ![t.val, 0] ∧ win0_1.index t = ![t.val, 0] ∧ win0_2.index t = ![t.val, 0]
    ∧ win0_3.index t = ![32, 0] ∧ win0_4.index t = ![32, 0] ∧ win0_5.index t = ![0, 0] ∧ win0_6.index t = ![0, 0] ∧ win0_7.index t = ![0, 0, 0]
    ∧ win0_8.index t = ![t.val, 0] ∧ win0_9.index t = ![0, 0] := by decide +kernel

theorem lt_8 (t : Fin cfg0.N) : t.val < 8 := lt_of_lt_of_eq t.isLt N_0

theorem b2_apply (t : Fin cfg0.N) (r : Fin 512) (k : Fin 1024) : iblk m c 2 t (ix2 r k) = aX m c (ix3 0 ⟨512 * t.val + r.val, by have := lt_8 t; omega⟩ k) := by
  have := lt_8 t
  rw [← v0_apply]
  blk_ext [iblk, idx t]

theorem b0_apply (t : Fin cfg0.N) (r : Fin 512) (n : Fin 9216) : X0_0 m c t (ix2 r n) = aDp m c (ix3 0 ⟨16 + (512 * t.val + r.val), by have := lt_8 t; omega⟩ n) := by
  have := lt_8 t
  unfold X0_0 Pipeline.Window.fill
  rw [dif_pos (moved0_0 t _)]
  have h := v13_apply m c ⟨512 * t.val + r.val, by omega⟩ n
  rw [dif_pos (by show 512 * t.val + r.val < 4096; omega)] at h
  rw [← h]
  blk_ext [iblk, idx t]

theorem b1_apply (t : Fin cfg0.N) (r : Fin 512) (n : Fin 1024) : X0_1 m c t (ix2 r n) = aDs m c (ix3 0 ⟨16 + (512 * t.val + r.val), by have := lt_8 t; omega⟩ n) := by
  have := lt_8 t
  unfold X0_1 Pipeline.Window.fill
  rw [dif_pos (moved0_1 t _)]
  have h := v19_apply m c ⟨512 * t.val + r.val, by omega⟩ n
  rw [dif_pos (by show 512 * t.val + r.val < 4096; omega)] at h
  rw [← h]
  blk_ext [iblk, idx t]

theorem b3_apply (t : Fin cfg0.N) (r : Fin 128) (n : Fin 9216) : iblk m c 3 t (ix2 r n)
    = if h : r.val < 112 then 0 else aDp m c (ix3 0 ⟨r.val - 112, by omega⟩ n) := by
  have h := v13_apply m c ⟨4096 + r.val, by omega⟩ n
  rw [dif_neg (by show ¬(4096 + r.val < 4096); omega)] at h
  have h2 : iblk m c 3 t (ix2 r n) = V m c main_v13 (ix2 ⟨4096 + r.val, by omega⟩ n) := by blk_ext [iblk, idx t]
  rw [h2, h]
  dsimp only
  split_ifs <;> first | (exfalso; omega) | exact congrArg _ (congrArg (ix3 0 · n) (Fin.mk_eq_mk.mpr (by omega))) | rfl

theorem b4_apply (t : Fin cfg0.N) (r : Fin 128) (n : Fin 1024) : iblk m c 4 t (ix2 r n)
    = if h : r.val < 112 then 0 else aDs m c (ix3 0 ⟨r.val - 112, by omega⟩ n) := by
  have h := v19_apply m c ⟨4096 + r.val, by omega⟩ n
  rw [dif_neg (by show ¬(4096 + r.val < 4096); omega)] at h
  have h2 : iblk m c 4 t (ix2 r n) = V m c main_v19 (ix2 ⟨4096 + r.val, by omega⟩ n) := by blk_ext [iblk, idx t]
  rw [h2, h]
  dsimp only
  split_ifs <;> first | (exfalso; omega) | exact congrArg _ (congrArg (ix3 0 · n) (Fin.mk_eq_mk.mpr (by omega))) | rfl

theorem b5_eq (t : Fin cfg0.N) : iblk m c 5 t = V m c main_v2 := by
  funext y
  blk_ext [iblk, idx t]
theorem b6_eq (t : Fin cfg0.N) : iblk m c 6 t = aG m c := by
  funext y
  blk_ext! [iblk, V, idx t]
theorem b7_eq (t : Fin cfg0.N) : iblk m c 7 t = V m c main_v6 := by
  funext y
  blk_ext [iblk, idx t]

end Cert.KernelIdeal.In

end
-- ==== Proof.In.Value.lean ====
/- The two result arrays of `_input_bwd` after the run, in terms of the program's arguments. -/
module

public import proofs.«01_k».proof.Proof.In.Frame
public import Idealize.ShloMosaic.Lib.Pointwise
public import proofs.«01_k».proof.Proof.In.RefRead
public import proofs.«01_k».proof.Proof.In.Arr
public import Idealize.ShloMosaic.Lib.StableHlo.RunRead

@[expose] public section

set_option maxRecDepth 16384

noncomputable section

namespace Cert.KernelIdeal.In

open Idealize.ShloMosaic Idealize.ShloMosaic.TcCoe Idealize.ShloMosaic.Tactic
open Cert.KernelIdeal.Gen Cert.Norm

open Cert.ReferenceIdeal.In (sRow dhAt)

variable (m : (ℓ : Loc nD τ sig) → Buf (Elt Ideal) ℓ) (c : Dev nD)

/-- The weight as the kernel finds it is the argument. -/
theorem wAt_v6 : wAt (V m c main_v6) = fun k n => aW m c (ix3 0 k n) := by
  funext k n; exact v6_apply m c k n

/-! ## The tokens' gradient -/

/-- The tokens' gradient at a row and a column. -/
def gxAt (R : Fin 4096) (k : Fin 1024) : EReal :=
  gxRow (dhAt (aW m c) (aDp m c) ⟨16 + R.val, by omega⟩) (fun k => aDs m c (ix3 0 ⟨16 + R.val, by omega⟩ k)) (fun k => aX m c (ix3 0 R k)) (fun k => aG m c (ix2 0 k)) k

/-- The same at an index of the array. -/
def gxOut (i : S4096x1024.Idx) : EReal := gxAt m c (i 0) (i 1)

/-- A tile of it. -/
theorem gx_tile (t : Fin cfg0.N) (r : Fin 512) (k : Fin 1024) :
    gx (X0_0 m c t) (X0_1 m c t) (iblk m c 2 t) (iblk m c 6 t) (iblk m c 7 t) (ix2 r k)
      = gxOut m c (ix2 ⟨512 * t.val + r.val, by have := lt_8 t; omega⟩ k) := by
  rw [gx_apply, b6_eq, b7_eq, wAt_v6]
  simp only [b0_apply, b1_apply, b2_apply]
  rfl

/-- The first result array. -/
theorem arr8 : (dats m 0 c).arrAt 8 cfg0.N = gxOut m c := by
  refine (dats m 0 c).arrAt_eq_of_covers 8 _ (by decide +kernel) fun t hf y => ?_
  blk_simp
  rw [after_gx]
  obtain ⟨r, k, rfl⟩ : ∃ (r : Fin 512) (k : Fin 1024), y = ix2 r k := ⟨y 0, y 1, eq_ix2 y⟩
  rw [gx_tile]
  refine congrArg _ ?_
  blk_ext [idx t]

/-! ## The small block -/

/-- A row's term of the gain's gradient, the meta rows first. -/
def term (k : Fin 1024) (r : Fin 4112) : EReal := ngRow (dhAt (aW m c) (aDp m c) r) (sRow (aX m c) (aMeta m c) r) k

/-- The rows of a tile, summed. -/
def tileSum (k : Fin 1024) (t : ℕ) : EReal := ∑ r : Fin 512, if h : 16 + (512 * t + r.val) < 4112 then term m c k ⟨16 + (512 * t + r.val), h⟩ else 0

theorem step_row0 (x0 : Vec Ideal S512x9216 .bf16) (x2 : Vec Ideal S512x1024 .f32) (w : Vec Ideal S8x1024x1152 .bf16) (s : Vec Ideal S24x1024 .f32) (k : Fin 1024) :
    step x0 x2 w s (ix2 0 k) = addTile x0 x2 w (row0 s) (ix2 0 k) := by
  pointwise [step, setRow0, VecWindow.put_eq_updateSlice]

/-- A tile's term. -/
theorem tile_term (t : Fin cfg0.N) (k : Fin 1024) :
    (∑ r : Fin 512, ngRow (dhRow (fun n => X0_0 m c t (ix2 r n)) (wAt (iblk m c 7 t))) (fun k => iblk m c 2 t (ix2 r k)) k) = tileSum m c k t.val := by
  have ht := lt_8 t
  refine Finset.sum_congr rfl fun r _ => ?_
  rw [dif_pos (show 16 + (512 * t.val + r.val) < 4112 by omega), b7_eq, wAt_v6]
  simp only [b0_apply, b2_apply]
  unfold term
  refine congrArg₂ (fun a b => ngRow a b k) rfl (funext fun j => ?_)
  unfold sRow
  rw [dif_neg (by show ¬(16 + (512 * t.val + r.val) < 16); omega)]
  exact congrArg (aX m c) (congrArg (ix3 0 · j) (Fin.ext (Nat.add_sub_cancel_left ..).symm))

theorem step_apply (t : Fin cfg0.N) (s : Vec Ideal S24x1024 .f32) (k : Fin 1024) :
    step (X0_0 m c t) (iblk m c 2 t) (iblk m c 7 t) s (ix2 0 k) = s (ix2 0 k) + tileSum m c k t.val := by
  rw [step_row0, addTile_apply, tile_term]
  refine congrArg (· + _) ?_
  pointwise [row0, VecWindow.window_eq_ld]

/-- The gain's row after a point before the last. -/
theorem small_row0 (k : Fin 1024) : ∀ (n : ℕ) (h : n < cfg0.N), n < 7 → smallAt m c n h (ix2 0 k) = ∑ t ∈ Finset.range (n + 1), tileSum m c k t
  | 0, h, _ => by
    rw [smallAt, step_apply, Finset.sum_range_one]
    pointwise [k0_pay12]
  | n + 1, h, hn => by
    rw [smallAt, if_neg (by omega), step_apply, small_row0 k n _ (by omega), Finset.sum_range_succ _ (n + 1)]

/-- The meta tile's last sixteen rows. -/
theorem b3_meta (t : Fin cfg0.N) (r : Fin 16) (n : Fin 9216) : iblk m c 3 t (ix2 ⟨112 + r.val, by omega⟩ n) = aDp m c (ix3 0 ⟨r.val, by omega⟩ n) := by
  rw [b3_apply, dif_neg (by show ¬(112 + r.val < 112); omega)]
  exact congrArg (aDp m c) (congrArg (ix3 0 · n) (Fin.ext (Nat.add_sub_cancel_left ..)))
theorem b4_meta (t : Fin cfg0.N) (r : Fin 16) (n : Fin 1024) : iblk m c 4 t (ix2 ⟨112 + r.val, by omega⟩ n) = aDs m c (ix3 0 ⟨r.val, by omega⟩ n) := by
  rw [b4_apply, dif_neg (by show ¬(112 + r.val < 112); omega)]
  exact congrArg (aDs m c) (congrArg (ix3 0 · n) (Fin.ext (Nat.add_sub_cancel_left ..)))
theorem v2_meta (r : Fin 16) (k : Fin 1024) : V m c main_v2 (ix2 ⟨112 + r.val, by omega⟩ k) = aMeta m c (ix2 r k) := by
  rw [v2_apply, dif_neg (by show ¬(112 + r.val < 112); omega)]
  exact congrArg (aMeta m c) (congrArg (ix2 · k) (Fin.ext (Nat.add_sub_cancel_left ..)))

/-- The meta tile's rows of zeros add nothing, its last sixteen rows are the meta tokens'. -/
theorem meta_term (t : Fin cfg0.N) (k : Fin 1024) :
    (∑ r : Fin 128, ngRow (dhRow (fun n => iblk m c 3 t (ix2 r n)) (wAt (iblk m c 7 t))) (fun k => iblk m c 5 t (ix2 r k)) k)
      = ∑ r : Fin 16, term m c k ⟨r.val, by omega⟩ := by
  rw [b5_eq, b7_eq, wAt_v6]
  refine (Fin.sum_univ_add (a := 112) (b := 16) _).trans ?_
  rw [Finset.sum_eq_zero, zero_add]
  · refine Finset.sum_congr rfl fun r _ => ?_
    unfold term
    refine congrArg₂ (fun a b => ngRow a b k) ?_ (funext fun j => ?_)
    · refine congrArg₂ dhRow (funext fun n => ?_) rfl
      exact b3_meta m c t r n
    · unfold sRow
      rw [dif_pos (show r.val < 16 from r.isLt)]
      exact v2_meta m c r j
  · intro r _
    unfold ngRow dhRow
    rw [Finset.sum_eq_zero, zero_mul]
    intro n _
    have h0 : @Eq EReal (iblk m c 3 t (ix2 ⟨r.val, by omega⟩ n)) 0 := (b3_apply m c t _ n).trans (dif_pos (show r.val < 112 from r.isLt))
    exact (congrArg (fun z : EReal => z * aW m c (ix3 0 k n)) h0).trans (zero_mul _)

/-- The rows' terms in the kernel's order are the rows' terms. -/
theorem sum_rows (k : Fin 1024) :
    (∑ t ∈ Finset.range 8, tileSum m c k t) + ∑ r : Fin 16, term m c k ⟨r.val, by omega⟩ = ∑ r : Fin 4112, term m c k r := by
  rw [Fin.sum_univ_add (a := 16) (b := 4096) (term m c k), add_comm]
  refine congrArg₂ (· + ·) rfl ?_
  rw [Finset.sum_range]
  let f : ℕ → EReal := fun i => if h : 16 + i < 4112 then term m c k ⟨16 + i, h⟩ else 0
  have h := Fin.sum_univ_univ_mul_add 8 512 f
  refine Eq.trans ?_ (h.trans ?_)
  · refine Finset.sum_congr rfl fun s _ => Finset.sum_congr rfl fun r _ => ?_
    show f (512 * s.val + r.val) = f (s.val * 512 + r.val)
    rw [mul_comm]
  · refine Finset.sum_congr rfl fun r _ => ?_
    exact dif_pos (show 16 + r.val < 4112 by have := r.isLt; omega)

theorem stepLast_row0 (x0 : Vec Ideal S512x9216 .bf16) (x2 : Vec Ideal S512x1024 .f32) (x3 : Vec Ideal S128x9216 .bf16) (x4 x5 : Vec Ideal S128x1024 .f32)
    (g : Vec Ideal S1x1024 .f32) (w : Vec Ideal S8x1024x1152 .bf16) (s : Vec Ideal S24x1024 .f32) (k : Fin 1024) :
    stepLast x0 x2 x3 x4 x5 g w s (ix2 0 k) = addMeta x3 x5 w (addTile x0 x2 w (row0 s)) (ix2 0 k) := by
  pointwise [stepLast, setRow0, VecWindow.put_eq_updateSlice]

theorem stepLast_meta (x0 : Vec Ideal S512x9216 .bf16) (x2 : Vec Ideal S512x1024 .f32) (x3 : Vec Ideal S128x9216 .bf16) (x4 x5 : Vec Ideal S128x1024 .f32)
    (g : Vec Ideal S1x1024 .f32) (w : Vec Ideal S8x1024x1152 .bf16) (s : Vec Ideal S24x1024 .f32) (r : Fin 16) (k : Fin 1024) :
    stepLast x0 x2 x3 x4 x5 g w s (ix2 ⟨8 + r.val, by omega⟩ k) = gxM x3 x4 x5 g w (ix2 ⟨112 + r.val, by omega⟩ k) := by
  pointwise [stepLast, VecWindow.put_eq_updateSlice, VecWindow.window_eq_ld]
  exact dif_pos (by omega)

/-- The second result array is the `small` block after the last point. -/
theorem arr9 : (dats m 0 c).arrAt 9 cfg0.N = smallAt m c 7 (by decide) := by
  refine (dats m 0 c).arrAt_eq_of_after_last 9 t0_7 (by decide +kernel) _ fun j => ?_
  blk_simp
  rw [after_small]
  rfl

/-- The second result array, at the gain's row. -/
theorem arr9_row0 (k : Fin 1024) : (dats m 0 c).arrAt 9 cfg0.N (ix2 0 k) = ∑ r : Fin 4112, term m c k r := by
  rw [arr9, smallAt, if_pos rfl, stepLast_row0, addMeta_apply, addTile_apply, meta_term, tile_term, ← sum_rows, Finset.sum_range_succ _ 7,
    ← small_row0 m c k 6 (by decide) (by omega)]
  refine congrArg (· + _ + _) ?_
  pointwise [row0, VecWindow.window_eq_ld]

/-- Rows with equal parts have equal gradients. -/
theorem gxRow_congr {dh dh' ds ds' s s' : Fin 1024 → EReal} (g : Fin 1024 → EReal) (k : Fin 1024) (h : dh = dh') (h' : ds = ds') (h'' : s = s') :
    gxRow dh ds s g k = gxRow dh' ds' s' g k := by
  subst h h' h''; rfl

/-- The second result array, at the meta rows. -/
theorem arr9_meta (r : Fin 16) (k : Fin 1024) : (dats m 0 c).arrAt 9 cfg0.N (ix2 ⟨8 + r.val, by omega⟩ k)
    = gxRow (dhAt (aW m c) (aDp m c) ⟨r.val, by omega⟩) (fun k => aDs m c (ix3 0 ⟨r.val, by omega⟩ k)) (fun k => aMeta m c (ix2 r k)) (fun k => aG m c (ix2 0 k)) k := by
  rw [arr9, smallAt, if_pos rfl, stepLast_meta, gxM_apply, b5_eq, b6_eq, b7_eq, wAt_v6]
  exact gxRow_congr _ k (congrArg₂ dhRow (funext fun n => b3_meta m c _ r n) rfl) (funext fun j => b4_meta m c _ r j) (funext fun j => v2_meta m c r j)

/-! ## The results, after the host's last operations -/

/-- The arrays after the region, as the host's last operations find them. -/
theorem exit8 : Pipeline.withArrays (cfgs 0).spec c (V0 m c) (fun w => (dats m 0 c).arrAt w (cfgs 0).N) (Proc.devRef .tc main_v21_0) = gxOut m c :=
  (Pipeline.Dat.withArrays_arrAt (dats m 0 c) sharedIn0 (V0 m c) (A_eq m c) 8).trans (arr8 m c)
theorem exit9 : Pipeline.withArrays (cfgs 0).spec c (V0 m c) (fun w => (dats m 0 c).arrAt w (cfgs 0).N) (Proc.devRef .tc main_v21_1) = (dats m 0 c).arrAt 9 cfg0.N :=
  Pipeline.Dat.withArrays_arrAt (dats m 0 c) sharedIn0 (V0 m c) (A_eq m c) 9

/-- What the program returns in a buffer. -/
abbrev ret (b : Ref sig .tc) := Pipeline.afterTail₀ cfgs (dats m) 0 (V0 m) [hostOps1] c b

/-- The tokens' gradient, as returned. -/
theorem out0 (r : Fin 4096) (k : Fin 1024) : ret m c main_v22 (ix3 0 r k) = gxAt m c r k := by
  unfold ret Pipeline.afterTail₀
  simp only [hostOps1, List.flatten_cons, List.flatten_nil, List.append_nil]
  after_reads_simp
  rw [exit8]
  pointwise [gxOut]

/-- The meta tokens' gradient, as returned. -/
theorem out1 (r : Fin 16) (k : Fin 1024) : ret m c main_v23 (ix2 r k)
    = gxRow (dhAt (aW m c) (aDp m c) ⟨r.val, by omega⟩) (fun k => aDs m c (ix3 0 ⟨r.val, by omega⟩ k)) (fun k => aMeta m c (ix2 r k)) (fun k => aG m c (ix2 0 k)) k := by
  rw [← arr9_meta]
  unfold ret Pipeline.afterTail₀
  simp only [hostOps1, List.flatten_cons, List.flatten_nil, List.append_nil]
  after_reads_simp
  rw [exit9]
  pointwise

/-- The gain's gradient, as returned. -/
theorem out2 (k : Fin 1024) : ret m c main_v24 (ix2 0 k) = ∑ r : Fin 4112, term m c k r := by
  rw [← arr9_row0]
  unfold ret Pipeline.afterTail₀
  simp only [hostOps1, List.flatten_cons, List.flatten_nil, List.append_nil]
  after_reads_simp
  rw [exit9]
  pointwise

end Cert.KernelIdeal.In

end
-- ==== Proof.In.Claims.lean ====
/- The claims on `_input_bwd`: the frames of the kernel and of the reference, and the equality of their results over
the extended reals. -/
module

public import proofs.«01_k».proof.Defs
public import proofs.«01_k».proof.Proof.Gen.Kernel
public import proofs.«01_k».proof.Proof.In.Value
public import proofs.«01_k».proof.Proof.Gen.ReferenceIdeal.Run
public import proofs.«01_k».proof.Proof.Gen.ReferenceIdeal.Read

@[expose] public section

set_option maxRecDepth 16384

noncomputable section

namespace Cert.Proof.In

open Idealize.ShloMosaic Idealize.ShloMosaic.Tactic Idealize.SL.Sem Cert.KernelIdeal.In

/-- The printed kernel and its idealization are one program, run here at the words. -/
theorem frame_kernel : Cert.quiescent_Kernel (hKernel := Cert.Kernel.Gen.facts) := by
  intro m g _
  exact Eq.mp (by sl_kernel_rfl) (frame (F := Bits) m g)

/-- The idealized kernel's frame. -/
theorem frame_ideal : Cert.quiescent_KernelIdeal (hKernelIdeal := Cert.KernelIdeal.Gen.facts) := fun m g _ => frame (F := Ideal) m g

/-- The reference's frame. -/
theorem frame_ref : Cert.quiescent_ReferenceIdeal (hReferenceIdeal := Cert.ReferenceIdeal.Gen.facts) := by
  intro m g _
  exact (θ_run Cert.ReferenceIdeal.defs _ _).mono (fun r h => ⟨fun c => (h c).2.2.2, sem_eq_zero_of_no_sems (by decide) r.2⟩)
    (Cert.ReferenceIdeal.Value.run m g)

set_option maxHeartbeats 4000000 in
/-- The kernel's three results are the reference's. -/
theorem algebraic : Cert.algebraic_KernelIdeal_ReferenceIdeal (hKernelIdeal := Cert.KernelIdeal.Gen.facts) (hReferenceIdeal := Cert.ReferenceIdeal.Gen.facts) := by
  intro m g m' g' hpre hagree
  refine ⟨fun c => ret m c Cert.KernelIdeal.main_v22, fun c => ret m c Cert.KernelIdeal.main_v23, fun c => ret m c Cert.KernelIdeal.main_v24, ?_, ?_⟩
  · refine (θ_run _ _ _).mono (fun r h c => ⟨?_, ?_, ?_, h.2.1 c⟩) (θ_run_and (run_main (F := Ideal) m g) (frame m g))
    · exact (h.1.1 c).2 _ (by decide)
    · exact (h.1.1 c).2 _ (by decide)
    · exact (h.1.1 c).2 _ (by decide)
  · refine (θ_run _ _ _).mono (fun r h c => ?_) (Cert.ReferenceIdeal.Value.run m' g')
    obtain ⟨h0, h1, h2, hargs⟩ := h c
    obtain ⟨e0, e1, e2, e3, e4, e5⟩ := hagree c
    refine ⟨h0.trans ?_, h1.trans ?_, h2.trans ?_, hargs⟩
    · rw [Cert.ReferenceIdeal.Read.val_main_v46_eq, e0, e1, e2, e3, e4, e5]
      funext y
      obtain ⟨a, r, k, rfl⟩ : ∃ (a : Fin 1) (r : Fin 4096) (k : Fin 1024), y = ix3 a r k := ⟨y 0, y 1, y 2, eq_ix3 y⟩
      obtain rfl : a = 0 := Subsingleton.elim _ _
      exact (Cert.ReferenceIdeal.In.v46_apply _ _ _ _ _ _ r k).trans (out0 m c r k).symm
    · rw [Cert.ReferenceIdeal.Read.val_main_v47_eq, e0, e1, e2, e3, e4, e5]
      funext y
      obtain ⟨r, k, rfl⟩ : ∃ (r : Fin 16) (k : Fin 1024), y = ix2 r k := ⟨y 0, y 1, eq_ix2 y⟩
      exact (Cert.ReferenceIdeal.In.v47_apply _ _ _ _ _ _ r k).trans (out1 m c r k).symm
    · rw [e0, e1, e3, e4]
      refine (Cert.ReferenceIdeal.Read.val_main_v44_eq _ _ _ _).trans ?_
      funext y
      obtain ⟨a, k, rfl⟩ : ∃ (a : Fin 1) (k : Fin 1024), y = ix2 a k := ⟨y 0, y 1, eq_ix2 y⟩
      obtain rfl : a = 0 := Subsingleton.elim _ _
      exact (Cert.ReferenceIdeal.In.v44_apply _ _ _ _ k).trans (out2 m c k).symm

end Cert.Proof.In

end
-- ==== Proof.Fp.Wp.lean ====
/- The body of the kernel `_fused_pass` as a program over plain contents: the buffers it writes are
gathered in one state, and `W` says of a piece of the body which results and states it ends in.
The separation logic is used once, in the rules below; what the body computes is then proved by
plain reasoning about the state. -/
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.VecWindow
public import Idealize.ShloMosaic.Lib.Pipeline.ReadBack

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

section Rules

variable {σ : Type} (c : Dev nD) (own : σ → sProp (MT nD τ sig Unit (Elt F) ℕ (UR sig nD τ) ℕ))

/-- From the buffers at `st`, `p` ends with a result `r` and the buffers at some `st'` with `Q r st'`. -/
def W {α : Type} (p : Prog (TpuEff nD τ sig (Elt F) Λ₀ .tc) α) (st : σ) (Q : α → σ → Prop) : Prop :=
  ∀ K : α → sProp 𝕄, iprop(own st ∗ (∀ r, ∀ st', ⌜Q r st'⌝ -∗ own st' -∗ K r))
    ⊢ wp Idealize.ShloMosaic.frame (wpE (defs₀ (F := F)) Variants.none (c : Thread nD τ) none) Set.univ p K

/-- A buffer whose contents are part of the state: it can be taken out of `own st`, and put back at
the contents it was found at. -/
class ReadSlot {s : Shape} {e : EltTy} (m : Memref sig .tc .vmem s e) where
  get : σ → s.Idx → Elt F e
  take : ∀ st, own st ⊢ iprop(owns (c : Thread nD τ) m fullShare (get st) ∗ (owns (c : Thread nD τ) m fullShare (get st) -∗ own st))

/-- A buffer of the state that is also written: it can be put back at any contents. -/
class Slot {s : Shape} {e : EltTy} (m : Memref sig .tc .vmem s e) where
  get : σ → s.Idx → Elt F e
  set : σ → (s.Idx → Elt F e) → σ
  set_get : ∀ st, set st (get st) = st
  take : ∀ st, own st ⊢ iprop(owns (c : Thread nD τ) m fullShare (get st) ∗ (∀ v, owns (c : Thread nD τ) m fullShare v -∗ own (set st v)))

instance {s : Shape} {e : EltTy} (m : Memref sig .tc .vmem s e) [h : Slot c own m] : ReadSlot c own m where
  get := h.get
  take st := by
    refine (h.take st).trans ?_
    iintro ⟨H, HK⟩
    isplitl [H]
    · iexact H
    · iintro H
      ihave HK := HK $$ %(h.get st) H
      rw [h.set_get]
      iexact HK

variable {c own}

theorem W.pure {α : Type} {r : α} {st : σ} {Q : α → σ → Prop} (h : Q r st) : W c own (Pure.pure r) st Q := by
  intro K
  show _ ⊢ wp _ _ _ (Prog.ret r) K
  rw [wp_ret]
  iintro ⟨HO, HK⟩
  imodintro
  iapply HK $$ %r %st [] HO
  ipureintro; exact h

theorem W.bind {α β : Type} {p : Prog (TpuEff nD τ sig (Elt F) Λ₀ .tc) α} {k : α → Prog (TpuEff nD τ sig (Elt F) Λ₀ .tc) β} {st : σ}
    {Q : β → σ → Prop} (h : W c own p st fun r s => W c own (k r) s Q) : W c own (p >>= k) st Q := by
  intro K
  rw [wp_bind]
  refine BIBase.Entails.trans ?_ (h _)
  iintro ⟨HO, HK⟩
  isplitl [HO]
  · iexact HO
  · iintro %r %s %hr HO
    iapply (hr K)
    isplitl [HO] <;> iassumption

theorem W.mono {α : Type} {p : Prog (TpuEff nD τ sig (Elt F) Λ₀ .tc) α} {st : σ} {Q Q' : α → σ → Prop} (h : W c own p st Q)
    (hQ : ∀ r s, Q r s → Q' r s) : W c own p st Q' := by
  intro K
  refine BIBase.Entails.trans ?_ (h K)
  iintro ⟨HO, HK⟩
  isplitl [HO]
  · iexact HO
  · iintro %r %s %hr HO
    iapply HK $$ %r %s [] HO
    ipureintro; exact hQ r s hr

theorem W.load {s : Shape} {e : EltTy} {m : Memref sig .tc .vmem s e} [hm : ReadSlot c own m] {off size : Fin s.rank → ℕ}
    {inb : ∀ a, off a + size a ≤ s.size a} {hl : m.view.LoadsAt (Rect.unit off size inb).toLoadRect} {st : σ}
    {Q : ((Rect.unit off size inb).shape.Idx → Elt F e) → σ → Prop} (h : Q (VecWindow.window (hm.get st) off size inb) st) :
    W c own (Prog.lift (.load m (Rect.unit off size inb).toLoadRect hl)) st Q := by
  intro K
  refine (sep_mono_left (hm.take st)).trans ?_
  unfold owns
  iintro ⟨⟨⟨%f, %hf, H⟩, HR⟩, HK⟩
  iapply (wp_load Variants.none (c : Thread nD τ) none Set.univ (View.setOn_subset_set _ _)) $$ [H]
  · iexact H
  · iintro H
    rw [wp_ret]
    imodintro
    rw [View.readAt_unit m.view f inb rfl inb, hf]
    iapply HK $$ %_ %st []
    · ipureintro; exact h
    · iapply HR
      iexists f
      isplitr [H]
      · ipureintro; exact hf
      · iexact H

theorem W.store {s : Shape} {e : EltTy} {m : Memref sig .tc .vmem s e} [hm : Slot c own m] {off size : Fin s.rank → ℕ}
    {inb : ∀ a, off a + size a ≤ s.size a} {w : (Rect.unit off size inb).shape.Idx → Elt F e}
    {hx : (m.access (Rect.unit off size inb)).Stores Finset.univ} {hu : Finset.univ = Finset.univ ∨ ∀ a, (Rect.unit off size inb).stride a = 1} {st : σ}
    {Q : PUnit → σ → Prop} (h : Q ⟨⟩ (hm.set st (VecWindow.put (hm.get st) off size w))) :
    W c own (Prog.lift (.store m (Rect.unit off size inb) w Finset.univ hx hu)) st Q := by
  intro K
  refine (sep_mono_left (hm.take st)).trans ?_
  unfold owns
  iintro ⟨⟨⟨%f, %hf, H⟩, HR⟩, HK⟩
  iapply (wp_store_writes₀ Variants.none (c : Thread nD τ) none Set.univ (View.set_slice_subset _ _)) $$ [H]
  · iexact H
  · iintro H
    rw [wp_ret]
    imodintro
    iapply HK $$ %_ %_ []
    · ipureintro; exact h
    · iapply HR
      iexists _
      isplitr [H]
      · ipureintro
        rw [View.read_writes_cons_put m.view f inb w [] rfl, View.writes_nil, hf]
      · iexact H

theorem W.dite {α : Type} {P : Prop} [Decidable P] {p : P → Prog (TpuEff nD τ sig (Elt F) Λ₀ .tc) α} {q : ¬ P → Prog (TpuEff nD τ sig (Elt F) Λ₀ .tc) α}
    {st : σ} {Q : α → σ → Prop} (hp : ∀ h, W c own (p h) st Q) (hq : ∀ h, W c own (q h) st Q) : W c own (if h : P then p h else q h) st Q := by
  by_cases h : P
  · rw [dif_pos h]; exact hp h
  · rw [dif_neg h]; exact hq h

/-- A counted loop that carries no value, by an invariant of the state before each trip. -/
theorem W.loop {w : ℕ} {lb ub step : BitVec w} {hok : Scf.OK lb ub step} {body : Fin (Scf.trips lb ub step) → PUnit → Prog (TpuEff nD τ sig (Elt F) Λ₀ .tc) PUnit}
    (I : ℕ → σ → Prop) {st : σ} {Q : PUnit → σ → Prop} (h0 : I 0 st)
    (hb : ∀ (k : Fin (Scf.trips lb ub step)) (s : σ), I k.val s → W c own (body k ⟨⟩) s fun _ s' => I (k.val + 1) s')
    (hQ : ∀ s, I (Scf.trips lb ub step) s → Q ⟨⟩ s) : W c own (Scf.for lb ub step hok ⟨⟩ body) st Q := by
  intro K
  refine BIBase.Entails.trans ?_ (Scf.wp_for _ _ _ lb ub step hok ⟨⟩ body (fun k _ => iprop(∃ s, ⌜I k s⌝ ∗ own s)) ?_)
  · iintro ⟨HO, HK⟩
    isplitl [HO]
    · iexists st
      isplitr [HO]
      · ipureintro; exact h0
      · iexact HO
    · iintro %acc ⟨%s, %hs, HO⟩
      iapply HK $$ %acc %s [] HO
      ipureintro; exact hQ s hs
  · intro k acc
    iintro ⟨%s, %hs, HO⟩
    iapply (hb k s hs _)
    isplitl [HO]
    · iexact HO
    · iintro %r %s' %hs' HO
      iexists s'
      isplitr [HO]
      · ipureintro; exact hs'
      · iexact HO

end Rules

end Cert.Kernel2Ideal.Fp

end
-- ==== Proof.Fp.State.lean ====
/- The buffers of the kernel `_fused_pass`: its references, the contents of the ones it only reads,
and the state made of the ones it writes. -/
module

public import proofs.«01_k».proof.Proof.Fp.Wp
public import Idealize.ShloMosaic.Lib.Pipeline.ValueKit
public import Idealize.ShloMosaic.Lib.VecWindow
public import Idealize.ShloMosaic.Lib.Pipeline.ReadBack

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

/-- The kernel's references: nineteen inputs, five outputs, twelve scratch buffers. -/
structure Refs where
  a1 : Memref sig .tc .vmem S128x9216 .f32
  h1 : a1.IsWhole
  a2 : Memref sig .tc .vmem S128x2048 .f32
  h2 : a2.IsWhole
  a3 : Memref sig .tc .vmem S128x2048 .f32
  h3 : a3.IsWhole
  a4 : Memref sig .tc .vmem S128x1024 .f32
  h4 : a4.IsWhole
  a5 : Memref sig .tc .vmem S128x1024 .f32
  h5 : a5.IsWhole
  a6 : Memref sig .tc .vmem S128x1024 .f32
  h6 : a6.IsWhole
  a7 : Memref sig .tc .vmem S32x1024 .f32
  h7 : a7.IsWhole
  a8 : Memref sig .tc .vmem S1x1024 .f32
  h8 : a8.IsWhole
  a9 : Memref sig .tc .vmem S1x1024 .f32
  h9 : a9.IsWhole
  a10 : Memref sig .tc .vmem S1x1024 .f32
  h10 : a10.IsWhole
  a11 : Memref sig .tc .vmem S1x1024 .f32
  h11 : a11.IsWhole
  a12 : Memref sig .tc .vmem S8x1024 .f32
  h12 : a12.IsWhole
  a13 : Memref sig .tc .vmem S1x1024 .f32
  h13 : a13.IsWhole
  a14 : Memref sig .tc .vmem S1024x1024 .bf16
  h14 : a14.IsWhole
  a15 : Memref sig .tc .vmem S1024x1024 .bf16
  h15 : a15.IsWhole
  a16 : Memref sig .tc .vmem S1024x1024 .bf16
  h16 : a16.IsWhole
  a17 : Memref sig .tc .vmem S1024x1024 .bf16
  h17 : a17.IsWhole
  a18 : Memref sig .tc .vmem S1024x1024 .bf16
  h18 : a18.IsWhole
  a19 : Memref sig .tc .vmem S1024x1024 .bf16
  h19 : a19.IsWhole
  a20 : Memref sig .tc .vmem S128x9216 .bf16
  h20 : a20.IsWhole
  a21 : Memref sig .tc .vmem S128x1024 .f32
  h21 : a21.IsWhole
  a22 : Memref sig .tc .vmem S3x128x1024 .bf16
  h22 : a22.IsWhole
  a23 : Memref sig .tc .vmem S3x128x1024 .bf16
  h23 : a23.IsWhole
  a24 : Memref sig .tc .vmem S48x1024 .f32
  h24 : a24.IsWhole
  a25 : Memref sig .tc .vmem S2x160x1024 .f32
  h25 : a25.IsWhole
  a26 : Memref sig .tc .vmem S2x136x1024 .f32
  h26 : a26.IsWhole
  a27 : Memref sig .tc .vmem S2x160x1024 .f32
  h27 : a27.IsWhole
  a28 : Memref sig .tc .vmem S2x136x1024 .f32
  h28 : a28.IsWhole
  a29 : Memref sig .tc .vmem S128x5120 .bf16
  h29 : a29.IsWhole
  a30 : Memref sig .tc .vmem S128x1024 .f32
  h30 : a30.IsWhole
  a31 : Memref sig .tc .vmem S128x1024 .f32
  h31 : a31.IsWhole
  a32 : Memref sig .tc .vmem S128x1024 .f32
  h32 : a32.IsWhole
  a33 : Memref sig .tc .vmem S128x1024 .f32
  h33 : a33.IsWhole
  a34 : Memref sig .tc .vmem S256x1024 .f32
  h34 : a34.IsWhole
  a35 : Memref sig .tc .vmem S64x1024 .f32
  h35 : a35.IsWhole
  a36 : Memref sig .tc .vmem S8x160x128 .f32
  h36 : a36.IsWhole

/-- The contents of the inputs. -/
structure Ins (F : FTy → Type) [FloatOps F] where
  proj : Vec F S128x9216 .f32
  aprev : Vec F S128x2048 .f32
  cprev : Vec F S128x2048 .f32
  xt : Vec F S128x1024 .f32
  tgt : Vec F S128x1024 .f32
  mtok : Vec F S128x1024 .f32
  caw : Vec F S32x1024 .f32
  cab : Vec F S1x1024 .f32
  lng : Vec F S1x1024 .f32
  lnb : Vec F S1x1024 .f32
  bao : Vec F S1x1024 .f32
  cbw : Vec F S8x1024 .f32
  fng : Vec F S1x1024 .f32
  wA : Vec F S1024x1024 .bf16
  wAt : Vec F S1024x1024 .bf16
  wB : Vec F S1024x1024 .bf16
  wBt : Vec F S1024x1024 .bf16
  wO : Vec F S1024x1024 .bf16
  wOt : Vec F S1024x1024 .bf16

/-- The contents of the outputs and of the scratch. -/
structure St (F : FTy → Type) [FloatOps F] where
  dproj : Vec F S128x9216 .bf16
  ds : Vec F S128x1024 .f32
  lhs : Vec F S3x128x1024 .bf16
  rhs : Vec F S3x128x1024 .bf16
  small : Vec F S48x1024 .f32
  ua0 : Vec F S2x160x1024 .f32
  cb : Vec F S2x136x1024 .f32
  dua1 : Vec F S2x160x1024 .f32
  dc3 : Vec F S2x136x1024 .f32
  stage : Vec F S128x5120 .bf16
  ua1 : Vec F S128x1024 .f32
  c3 : Vec F S128x1024 .f32
  dpa : Vec F S128x1024 .f32
  dpb : Vec F S128x1024 .f32
  dcaw : Vec F S256x1024 .f32
  dcbw : Vec F S64x1024 .f32
  shift : Vec F S8x160x128 .f32

/-- The names of the inputs, and of the buffers of the state. -/
inductive InB where
  | proj | aprev | cprev | xt | tgt | mtok | caw | cab | lng | lnb | bao | cbw | fng | wA | wAt | wB | wBt | wO | wOt
deriving DecidableEq

@[inherit_doc InB]
inductive OutB where
  | dproj | ds | lhs | rhs | small | ua0 | cb | dua1 | dc3 | stage | ua1 | c3 | dpa | dpb | dcaw | dcbw | shift
deriving DecidableEq

/-- All the inputs, in order. -/
abbrev allIn : List InB := [.proj, .aprev, .cprev, .xt, .tgt, .mtok, .caw, .cab, .lng, .lnb, .bao, .cbw, .fng, .wA, .wAt, .wB, .wBt, .wO, .wOt]

/-- All the buffers of the state, in order. -/
abbrev allOut : List OutB := [.dproj, .ds, .lhs, .rhs, .small, .ua0, .cb, .dua1, .dc3, .stage, .ua1, .c3, .dpa, .dpb, .dcaw, .dcbw, .shift]

instance : Fintype InB := ⟨allIn.toFinset, fun x => by cases x <;> decide⟩

instance : Fintype OutB := ⟨allOut.toFinset, fun x => by cases x <;> decide⟩

variable (c : Dev nD) (A : Refs) (X : Ins F)

/-- The inputs, one by one. -/
def insOwn : InB → sProp 𝕄
  | .proj => owns (c : Thread nD τ) A.a1 fullShare X.proj
  | .aprev => owns (c : Thread nD τ) A.a2 fullShare X.aprev
  | .cprev => owns (c : Thread nD τ) A.a3 fullShare X.cprev
  | .xt => owns (c : Thread nD τ) A.a4 fullShare X.xt
  | .tgt => owns (c : Thread nD τ) A.a5 fullShare X.tgt
  | .mtok => owns (c : Thread nD τ) A.a6 fullShare X.mtok
  | .caw => owns (c : Thread nD τ) A.a7 fullShare X.caw
  | .cab => owns (c : Thread nD τ) A.a8 fullShare X.cab
  | .lng => owns (c : Thread nD τ) A.a9 fullShare X.lng
  | .lnb => owns (c : Thread nD τ) A.a10 fullShare X.lnb
  | .bao => owns (c : Thread nD τ) A.a11 fullShare X.bao
  | .cbw => owns (c : Thread nD τ) A.a12 fullShare X.cbw
  | .fng => owns (c : Thread nD τ) A.a13 fullShare X.fng
  | .wA => owns (c : Thread nD τ) A.a14 fullShare X.wA
  | .wAt => owns (c : Thread nD τ) A.a15 fullShare X.wAt
  | .wB => owns (c : Thread nD τ) A.a16 fullShare X.wB
  | .wBt => owns (c : Thread nD τ) A.a17 fullShare X.wBt
  | .wO => owns (c : Thread nD τ) A.a18 fullShare X.wO
  | .wOt => owns (c : Thread nD τ) A.a19 fullShare X.wOt

/-- The buffers of the state, one by one. -/
def outsOwn (s : St F) : OutB → sProp 𝕄
  | .dproj => owns (c : Thread nD τ) A.a20 fullShare s.dproj
  | .ds => owns (c : Thread nD τ) A.a21 fullShare s.ds
  | .lhs => owns (c : Thread nD τ) A.a22 fullShare s.lhs
  | .rhs => owns (c : Thread nD τ) A.a23 fullShare s.rhs
  | .small => owns (c : Thread nD τ) A.a24 fullShare s.small
  | .ua0 => owns (c : Thread nD τ) A.a25 fullShare s.ua0
  | .cb => owns (c : Thread nD τ) A.a26 fullShare s.cb
  | .dua1 => owns (c : Thread nD τ) A.a27 fullShare s.dua1
  | .dc3 => owns (c : Thread nD τ) A.a28 fullShare s.dc3
  | .stage => owns (c : Thread nD τ) A.a29 fullShare s.stage
  | .ua1 => owns (c : Thread nD τ) A.a30 fullShare s.ua1
  | .c3 => owns (c : Thread nD τ) A.a31 fullShare s.c3
  | .dpa => owns (c : Thread nD τ) A.a32 fullShare s.dpa
  | .dpb => owns (c : Thread nD τ) A.a33 fullShare s.dpb
  | .dcaw => owns (c : Thread nD τ) A.a34 fullShare s.dcaw
  | .dcbw => owns (c : Thread nD τ) A.a35 fullShare s.dcbw
  | .shift => owns (c : Thread nD τ) A.a36 fullShare s.shift

theorem split {J : Type} [Fintype J] [DecidableEq J] (Φ : J → sProp 𝕄) (j : J) : bigSep Finset.univ Φ = iprop(Φ j ∗ bigSep (Finset.univ.erase j) Φ) :=
  bigSep_univ_split j

/-- All the kernel's buffers, the inputs at `X` and the others at `s`. -/
def Own (s : St F) : sProp 𝕄 := iprop(bigSep Finset.univ (insOwn c A X) ∗ bigSep Finset.univ (outsOwn c A s))

theorem take_in (j : InB) (s : St F) : Own c A X s ⊢ iprop(insOwn c A X j ∗ (insOwn c A X j -∗ Own c A X s)) := by
  unfold Own
  rw [split (insOwn c A X) j]
  iintro ⟨⟨HI, HR⟩, HO⟩
  isplitl [HI]
  · iexact HI
  · iintro HI
    iframe

theorem take_out {V : Type} (j : OutB) (s : St F) (set : V → St F) (h : ∀ v, ∀ j', j' ≠ j → outsOwn c A s j' = outsOwn c A (set v) j') :
    Own c A X s ⊢ iprop(outsOwn c A s j ∗ (∀ v, outsOwn c A (set v) j -∗ Own c A X (set v))) := by
  have hs : ∀ v, bigSep (Finset.univ.erase j) (outsOwn c A s) = bigSep (Finset.univ.erase j) (outsOwn c A (set v)) := fun v =>
    bigSep_congr fun i hi => h v i (Finset.ne_of_mem_erase hi)
  unfold Own
  rw [split (outsOwn c A s) j]
  iintro ⟨HI, ⟨HJ, HR⟩⟩
  isplitl [HJ]
  · iexact HJ
  · iintro %v HJ
    rw [split (outsOwn c A (set v)) j, ← hs v]
    iframe

instance : ReadSlot c (Own c A X) A.a1 := ⟨fun _ => X.proj, take_in c A X .proj⟩
instance : ReadSlot c (Own c A X) A.a2 := ⟨fun _ => X.aprev, take_in c A X .aprev⟩
instance : ReadSlot c (Own c A X) A.a3 := ⟨fun _ => X.cprev, take_in c A X .cprev⟩
instance : ReadSlot c (Own c A X) A.a4 := ⟨fun _ => X.xt, take_in c A X .xt⟩
instance : ReadSlot c (Own c A X) A.a5 := ⟨fun _ => X.tgt, take_in c A X .tgt⟩
instance : ReadSlot c (Own c A X) A.a6 := ⟨fun _ => X.mtok, take_in c A X .mtok⟩
instance : ReadSlot c (Own c A X) A.a7 := ⟨fun _ => X.caw, take_in c A X .caw⟩
instance : ReadSlot c (Own c A X) A.a8 := ⟨fun _ => X.cab, take_in c A X .cab⟩
instance : ReadSlot c (Own c A X) A.a9 := ⟨fun _ => X.lng, take_in c A X .lng⟩
instance : ReadSlot c (Own c A X) A.a10 := ⟨fun _ => X.lnb, take_in c A X .lnb⟩
instance : ReadSlot c (Own c A X) A.a11 := ⟨fun _ => X.bao, take_in c A X .bao⟩
instance : ReadSlot c (Own c A X) A.a12 := ⟨fun _ => X.cbw, take_in c A X .cbw⟩
instance : ReadSlot c (Own c A X) A.a13 := ⟨fun _ => X.fng, take_in c A X .fng⟩
instance : ReadSlot c (Own c A X) A.a14 := ⟨fun _ => X.wA, take_in c A X .wA⟩
instance : ReadSlot c (Own c A X) A.a15 := ⟨fun _ => X.wAt, take_in c A X .wAt⟩
instance : ReadSlot c (Own c A X) A.a16 := ⟨fun _ => X.wB, take_in c A X .wB⟩
instance : ReadSlot c (Own c A X) A.a17 := ⟨fun _ => X.wBt, take_in c A X .wBt⟩
instance : ReadSlot c (Own c A X) A.a18 := ⟨fun _ => X.wO, take_in c A X .wO⟩
instance : ReadSlot c (Own c A X) A.a19 := ⟨fun _ => X.wOt, take_in c A X .wOt⟩

instance : Slot c (Own c A X) A.a20 := ⟨St.dproj, fun s v => { s with dproj := v }, fun _ => rfl, fun s => take_out c A X .dproj s (fun v => { s with dproj := v }) fun v j hj => by cases j <;> first | exact absurd rfl hj | rfl⟩
instance : Slot c (Own c A X) A.a21 := ⟨St.ds, fun s v => { s with ds := v }, fun _ => rfl, fun s => take_out c A X .ds s (fun v => { s with ds := v }) fun v j hj => by cases j <;> first | exact absurd rfl hj | rfl⟩
instance : Slot c (Own c A X) A.a22 := ⟨St.lhs, fun s v => { s with lhs := v }, fun _ => rfl, fun s => take_out c A X .lhs s (fun v => { s with lhs := v }) fun v j hj => by cases j <;> first | exact absurd rfl hj | rfl⟩
instance : Slot c (Own c A X) A.a23 := ⟨St.rhs, fun s v => { s with rhs := v }, fun _ => rfl, fun s => take_out c A X .rhs s (fun v => { s with rhs := v }) fun v j hj => by cases j <;> first | exact absurd rfl hj | rfl⟩
instance : Slot c (Own c A X) A.a24 := ⟨St.small, fun s v => { s with small := v }, fun _ => rfl, fun s => take_out c A X .small s (fun v => { s with small := v }) fun v j hj => by cases j <;> first | exact absurd rfl hj | rfl⟩
instance : Slot c (Own c A X) A.a25 := ⟨St.ua0, fun s v => { s with ua0 := v }, fun _ => rfl, fun s => take_out c A X .ua0 s (fun v => { s with ua0 := v }) fun v j hj => by cases j <;> first | exact absurd rfl hj | rfl⟩
instance : Slot c (Own c A X) A.a26 := ⟨St.cb, fun s v => { s with cb := v }, fun _ => rfl, fun s => take_out c A X .cb s (fun v => { s with cb := v }) fun v j hj => by cases j <;> first | exact absurd rfl hj | rfl⟩
instance : Slot c (Own c A X) A.a27 := ⟨St.dua1, fun s v => { s with dua1 := v }, fun _ => rfl, fun s => take_out c A X .dua1 s (fun v => { s with dua1 := v }) fun v j hj => by cases j <;> first | exact absurd rfl hj | rfl⟩
instance : Slot c (Own c A X) A.a28 := ⟨St.dc3, fun s v => { s with dc3 := v }, fun _ => rfl, fun s => take_out c A X .dc3 s (fun v => { s with dc3 := v }) fun v j hj => by cases j <;> first | exact absurd rfl hj | rfl⟩
instance : Slot c (Own c A X) A.a29 := ⟨St.stage, fun s v => { s with stage := v }, fun _ => rfl, fun s => take_out c A X .stage s (fun v => { s with stage := v }) fun v j hj => by cases j <;> first | exact absurd rfl hj | rfl⟩
instance : Slot c (Own c A X) A.a30 := ⟨St.ua1, fun s v => { s with ua1 := v }, fun _ => rfl, fun s => take_out c A X .ua1 s (fun v => { s with ua1 := v }) fun v j hj => by cases j <;> first | exact absurd rfl hj | rfl⟩
instance : Slot c (Own c A X) A.a31 := ⟨St.c3, fun s v => { s with c3 := v }, fun _ => rfl, fun s => take_out c A X .c3 s (fun v => { s with c3 := v }) fun v j hj => by cases j <;> first | exact absurd rfl hj | rfl⟩
instance : Slot c (Own c A X) A.a32 := ⟨St.dpa, fun s v => { s with dpa := v }, fun _ => rfl, fun s => take_out c A X .dpa s (fun v => { s with dpa := v }) fun v j hj => by cases j <;> first | exact absurd rfl hj | rfl⟩
instance : Slot c (Own c A X) A.a33 := ⟨St.dpb, fun s v => { s with dpb := v }, fun _ => rfl, fun s => take_out c A X .dpb s (fun v => { s with dpb := v }) fun v j hj => by cases j <;> first | exact absurd rfl hj | rfl⟩
instance : Slot c (Own c A X) A.a34 := ⟨St.dcaw, fun s v => { s with dcaw := v }, fun _ => rfl, fun s => take_out c A X .dcaw s (fun v => { s with dcaw := v }) fun v j hj => by cases j <;> first | exact absurd rfl hj | rfl⟩
instance : Slot c (Own c A X) A.a35 := ⟨St.dcbw, fun s v => { s with dcbw := v }, fun _ => rfl, fun s => take_out c A X .dcbw s (fun v => { s with dcbw := v }) fun v j hj => by cases j <;> first | exact absurd rfl hj | rfl⟩
instance : Slot c (Own c A X) A.a36 := ⟨St.shift, fun s v => { s with shift := v }, fun _ => rfl, fun s => take_out c A X .shift s (fun v => { s with shift := v }) fun v j hj => by cases j <;> first | exact absurd rfl hj | rfl⟩

end Cert.Kernel2Ideal.Fp

end
-- ==== Proof.Fp.Any.lean ====
/- The body of the kernel `_fused_pass` runs to its end at every grid point, whatever the buffers hold. -/
module

public import proofs.«01_k».proof.Proof.Fp.State
public import Idealize.ShloMosaic.Lib.Pipeline.ValueKit
public import Idealize.ShloMosaic.Lib.VecWindow
public import Idealize.ShloMosaic.Lib.Pipeline.ReadBack

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel2Ideal.Gen

variable {F : FTy → Type} [FloatOps F]

local notation "𝕄" => MT nD τ sig Unit (Elt F) ℕ (UR sig nD τ) ℕ

section Any

variable {σ : Type} {c : Dev nD} {own : σ → sProp (MT nD τ sig Unit (Elt F) ℕ (UR sig nD τ) ℕ)}

/-- A load whose result is of no interest. -/
theorem W.load_any {s : Shape} {e : EltTy} {m : Memref sig .tc .vmem s e} [hm : ReadSlot c own m] {off size : Fin s.rank → ℕ}
    {inb : ∀ a, off a + size a ≤ s.size a} {hl : m.view.LoadsAt (Rect.unit off size inb).toLoadRect} {st : σ}
    {Q : ((Rect.unit off size inb).shape.Idx → Elt F e) → σ → Prop} (h : ∀ v, Q v st) :
    W c own (Prog.lift (.load m (Rect.unit off size inb).toLoadRect hl)) st Q := W.load (h _)

/-- A store after which the state is of no interest. -/
theorem W.store_any {s : Shape} {e : EltTy} {m : Memref sig .tc .vmem s e} [hm : Slot c own m] {off size : Fin s.rank → ℕ}
    {inb : ∀ a, off a + size a ≤ s.size a} {w : (Rect.unit off size inb).shape.Idx → Elt F e}
    {hx : (m.access (Rect.unit off size inb)).Stores Finset.univ} {hu : Finset.univ = Finset.univ ∨ ∀ a, (Rect.unit off size inb).stride a = 1} {st : σ}
    {Q : PUnit → σ → Prop} (h : ∀ st', Q ⟨⟩ st') :
    W c own (Prog.lift (.store m (Rect.unit off size inb) w Finset.univ hx hu)) st Q := W.store (h _)

/-- A counted loop of trips that run to their ends. -/
theorem W.loop_any {w : ℕ} {lb ub step : BitVec w} {hok : Scf.OK lb ub step} {body : Fin (Scf.trips lb ub step) → PUnit → Prog (TpuEff nD τ sig (Elt F) Λ₀ .tc) PUnit}
    {st : σ} {Q : PUnit → σ → Prop} (hb : ∀ (k : Fin (Scf.trips lb ub step)) (s : σ), W c own (body k ⟨⟩) s fun _ _ => True)
    (hQ : ∀ s, Q ⟨⟩ s) : W c own (Scf.for lb ub step hok ⟨⟩ body) st Q :=
  W.loop (fun _ _ => True) trivial (fun k s _ => hb k s) fun s _ => hQ s

/-- A first part that runs to its end, before the rest. -/
theorem W.any_bind {α β : Type} {p : Prog (TpuEff nD τ sig (Elt F) Λ₀ .tc) α} {k : α → Prog (TpuEff nD τ sig (Elt F) Λ₀ .tc) β} {st : σ}
    {Q : β → σ → Prop} (h : W c own p st fun _ _ => True) (hk : ∀ r s, W c own (k r) s Q) : W c own (p >>= k) st Q :=
  W.bind (h.mono fun r s _ => hk r s)

end Any

variable (c : Dev nD) (A : Refs) (X : Ins F)

/-- A trip of the convolution loop runs to its end. -/
theorem any_t1 (i : grid0.Coords) (v9 v20 : BitVec 32) (h3 : k0_cond3 i = 1#1) (k : Fin k0_t1_loop.trips) (s : St F) :
    W c (Own c A X) (k0_t1_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 v9 v20 h3 k ⟨⟩) s fun _ _ => True := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  repeat first | with_reducible refine W.bind ?_ | with_reducible refine W.pure ?_ | with_reducible exact trivial | (apply W.load_any; intro _) | (apply W.store_any; intro _)

/-- A trip of the convolutions' gradient loop runs to its end. -/
theorem any_t2 (i : grid0.Coords) (v20 : BitVec 32) (h5 : k0_cond5 i = 1#1) (k : Fin k0_t2_loop.trips) (s : St F) :
    W c (Own c A X) (k0_t2_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 v20 h5 k ⟨⟩) s fun _ _ => True := by
  unfold k0_t2_body
  simp only [k0_part52_eq_skeleton]
  unfold k0_part52_skel
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  unfold k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel
  repeat first | with_reducible refine W.bind ?_ | with_reducible refine W.pure ?_ | with_reducible exact trivial | (apply W.load_any; intro _) | (apply W.store_any; intro _)

theorem cond1_iff : ∀ i : grid0.Coords, k0_cond1 i = 1#1 ↔ (i 0).val = 0 := by decide +kernel
theorem cond2_iff : ∀ i : grid0.Coords, k0_cond2 i = 1#1 ↔ 1 ≤ (i 0).val := by decide +kernel
theorem cond3_iff : ∀ i : grid0.Coords, k0_cond3 i = 1#1 ↔ (i 0).val < 33 := by decide +kernel
theorem cond4_iff : ∀ i : grid0.Coords, k0_cond4 i = 1#1 ↔ (i 0).val = 33 := by decide +kernel
theorem cond5_iff : ∀ i : grid0.Coords, k0_cond5 i = 1#1 ↔ 1 ≤ (i 0).val := by decide +kernel
theorem cond6_iff : ∀ i : grid0.Coords, k0_cond6 i = 1#1 ↔ (i 0).val = 33 := by decide +kernel

set_option maxHeartbeats 2000000 in
/-- The first part of the body: the sums' first values, the finished tile's stores, the tile's forward pass and losses. -/
theorem any_front (i : grid0.Coords) (s : St F) :
    W c (Own c A X) (k0_part58 i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36) s fun _ _ => True := by
  simp only [k0_part58_eq_skeleton]
  unfold k0_part58_skel
  simp only [k0_part10_eq_skeleton]
  unfold k0_part10_skel
  simp only [k0_part11_eq_skeleton, k0_part12_eq_skeleton, k0_part13_eq_skeleton, k0_part14_eq_skeleton, k0_part15_eq_skeleton, k0_part16_eq_skeleton, k0_part17_eq_skeleton, k0_part18_eq_skeleton]
  unfold k0_part11_skel k0_part12_skel k0_part13_skel k0_part14_skel k0_part15_skel k0_part16_skel k0_part17_skel k0_part18_skel
  have h1 := cond1_iff i
  have h2 := cond2_iff i
  have h3 := cond3_iff i
  have h4 := cond4_iff i
  rcases (by omega : (i 0).val = 0 ∨ (1 ≤ (i 0).val ∧ (i 0).val < 33) ∨ 33 ≤ (i 0).val) with hi | hi | hi
  all_goals
    repeat first | with_reducible refine W.bind ?_ | with_reducible refine W.pure ?_ | with_reducible exact trivial | (with_reducible apply W.dite <;> intro hc <;> try (exfalso; omega)) | (with_reducible apply W.loop_any (fun k s => any_t1 c A X i _ _ _ k s); intro _) | (apply W.load_any; intro _) | (apply W.store_any; intro _)

set_option maxHeartbeats 2000000 in
/-- The body runs to its end. -/
theorem any_body (i : grid0.Coords) (s : St F) :
    W c (Own c A X) (cc0_fused_pass i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36) s fun _ _ => True := by
  rw [cc0_fused_pass_eq_skeleton]
  unfold cc0_fused_pass_skel
  simp only [k0_part53_eq_skeleton, k0_part54_eq_skeleton, k0_part55_eq_skeleton, k0_part56_eq_skeleton, k0_part57_eq_skeleton]
  unfold k0_part53_skel k0_part54_skel k0_part55_skel k0_part56_skel k0_part57_skel
  have h5 := cond5_iff i
  have h6 := cond6_iff i
  refine W.bind ((any_front c A X i s).mono fun r s _ => ?_)
  rcases (by omega : (i 0).val = 0 ∨ (1 ≤ (i 0).val ∧ (i 0).val < 33) ∨ 33 ≤ (i 0).val) with hi | hi | hi
  all_goals
    repeat first | with_reducible refine W.bind ?_ | with_reducible refine W.pure ?_ | with_reducible exact trivial | (with_reducible apply W.dite <;> intro hc <;> try (exfalso; omega)) | (with_reducible apply W.loop_any (fun k s => any_t2 c A X i _ _ k s); intro _) | (apply W.load_any; intro _) | (apply W.store_any; intro _)

end Cert.Kernel2Ideal.Fp

end
-- ==== Proof.Fp.Frame.lean ====
/- The kernel `_fused_pass` under its launch: every run ends with the arguments as they were and every
semaphore at zero. The windows are handed to the body at whatever they hold, and taken back so. -/
module

public import proofs.«01_k».proof.Proof.Fp.Any
public import Idealize.ShloMosaic.Lib.Pipeline.ValueKit
public import Idealize.ShloMosaic.Lib.VecWindow
public import Idealize.ShloMosaic.Lib.Pipeline.ReadBack

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel2Ideal.Gen

variable {F : FTy → Type} [FloatOps F]

local notation "𝕄" => MT nD τ sig Unit (Elt F) ℕ (UR sig nD τ) ℕ

theorem own_eq (c : Dev nD) (A : Refs) (X : Ins F) (s : St F) : Own c A X s = iprop((insOwn c A X .proj ∗ insOwn c A X .aprev ∗ insOwn c A X .cprev ∗ insOwn c A X .xt ∗ insOwn c A X .tgt ∗ insOwn c A X .mtok ∗ insOwn c A X .caw ∗ insOwn c A X .cab ∗ insOwn c A X .lng ∗ insOwn c A X .lnb ∗ insOwn c A X .bao ∗ insOwn c A X .cbw ∗ insOwn c A X .fng ∗ insOwn c A X .wA ∗ insOwn c A X .wAt ∗ insOwn c A X .wB ∗ insOwn c A X .wBt ∗ insOwn c A X .wO ∗ insOwn c A X .wOt)
    ∗ outsOwn c A s .dproj ∗ outsOwn c A s .ds ∗ outsOwn c A s .lhs ∗ outsOwn c A s .rhs ∗ outsOwn c A s .small ∗ outsOwn c A s .ua0 ∗ outsOwn c A s .cb ∗ outsOwn c A s .dua1 ∗ outsOwn c A s .dc3 ∗ outsOwn c A s .stage ∗ outsOwn c A s .ua1 ∗ outsOwn c A s .c3 ∗ outsOwn c A s .dpa ∗ outsOwn c A s .dpb ∗ outsOwn c A s .dcaw ∗ outsOwn c A s .dcbw ∗ outsOwn c A s .shift) := by
  unfold Own
  rw [bigSep_univ_eq_bigSepL allIn rfl (by decide) (insOwn c A X), bigSep_univ_eq_bigSepL allOut rfl (by decide) (outsOwn c A s)]
  rfl

/-- The references of the body at point `t`. -/
def refs (t : Fin cfg0.N) : Refs := ⟨win0_0.stage (cfg0.slots t 0), hstage0_0 ((cfg0.slots t 0).cast nbuf0_0), win0_1.stage (cfg0.slots t 1), hstage0_1 ((cfg0.slots t 1).cast nbuf0_1), win0_2.stage (cfg0.slots t 2), hstage0_2 ((cfg0.slots t 2).cast nbuf0_2), win0_3.stage (cfg0.slots t 3), hstage0_3 ((cfg0.slots t 3).cast nbuf0_3), win0_4.stage (cfg0.slots t 4), hstage0_4 ((cfg0.slots t 4).cast nbuf0_4), win0_5.stage (cfg0.slots t 5), hstage0_5 ((cfg0.slots t 5).cast nbuf0_5), win0_6.stage (cfg0.slots t 6), hstage0_6 ((cfg0.slots t 6).cast nbuf0_6), win0_7.stage (cfg0.slots t 7), hstage0_7 ((cfg0.slots t 7).cast nbuf0_7), win0_8.stage (cfg0.slots t 8), hstage0_8 ((cfg0.slots t 8).cast nbuf0_8), win0_9.stage (cfg0.slots t 9), hstage0_9 ((cfg0.slots t 9).cast nbuf0_9), win0_10.stage (cfg0.slots t 10), hstage0_10 ((cfg0.slots t 10).cast nbuf0_10), win0_11.stage (cfg0.slots t 11), hstage0_11 ((cfg0.slots t 11).cast nbuf0_11), win0_12.stage (cfg0.slots t 12), hstage0_12 ((cfg0.slots t 12).cast nbuf0_12), win0_13.stage (cfg0.slots t 13), hstage0_13 ((cfg0.slots t 13).cast nbuf0_13), win0_14.stage (cfg0.slots t 14), hstage0_14 ((cfg0.slots t 14).cast nbuf0_14), win0_15.stage (cfg0.slots t 15), hstage0_15 ((cfg0.slots t 15).cast nbuf0_15), win0_16.stage (cfg0.slots t 16), hstage0_16 ((cfg0.slots t 16).cast nbuf0_16), win0_17.stage (cfg0.slots t 17), hstage0_17 ((cfg0.slots t 17).cast nbuf0_17), win0_18.stage (cfg0.slots t 18), hstage0_18 ((cfg0.slots t 18).cast nbuf0_18), win0_19.stage (cfg0.slots t 19), hstage0_19 ((cfg0.slots t 19).cast nbuf0_19), win0_20.stage (cfg0.slots t 20), hstage0_20 ((cfg0.slots t 20).cast nbuf0_20), win0_21.stage (cfg0.slots t 21), hstage0_21 ((cfg0.slots t 21).cast nbuf0_21), win0_22.stage (cfg0.slots t 22), hstage0_22 ((cfg0.slots t 22).cast nbuf0_22), win0_23.stage (cfg0.slots t 23), hstage0_23 ((cfg0.slots t 23).cast nbuf0_23), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _, Memref.whole cc0_scratch5, Memref.isWhole_whole _, Memref.whole cc0_scratch6, Memref.isWhole_whole _, Memref.whole cc0_scratch7, Memref.isWhole_whole _, Memref.whole cc0_scratch8, Memref.isWhole_whole _, Memref.whole cc0_scratch9, Memref.isWhole_whole _, Memref.whole cc0_scratch10, Memref.isWhole_whole _, Memref.whole cc0_scratch11, Memref.isWhole_whole _⟩

/-- What the body owns at point `t`, spelt out. -/
theorem own_refs (c : Dev nD) (t : Fin cfg0.N) (X : Ins F) (s : St F) : Own c (refs t) X s = iprop((owns (c : Thread nD τ) ((cfg0.win 0).stage (cfg0.slots t 0)) fullShare X.proj ∗ owns (c : Thread nD τ) ((cfg0.win 1).stage (cfg0.slots t 1)) fullShare X.aprev ∗ owns (c : Thread nD τ) ((cfg0.win 2).stage (cfg0.slots t 2)) fullShare X.cprev ∗ owns (c : Thread nD τ) ((cfg0.win 3).stage (cfg0.slots t 3)) fullShare X.xt ∗ owns (c : Thread nD τ) ((cfg0.win 4).stage (cfg0.slots t 4)) fullShare X.tgt ∗ owns (c : Thread nD τ) ((cfg0.win 5).stage (cfg0.slots t 5)) fullShare X.mtok ∗ owns (c : Thread nD τ) ((cfg0.win 6).stage (cfg0.slots t 6)) fullShare X.caw ∗ owns (c : Thread nD τ) ((cfg0.win 7).stage (cfg0.slots t 7)) fullShare X.cab ∗ owns (c : Thread nD τ) ((cfg0.win 8).stage (cfg0.slots t 8)) fullShare X.lng ∗ owns (c : Thread nD τ) ((cfg0.win 9).stage (cfg0.slots t 9)) fullShare X.lnb ∗ owns (c : Thread nD τ) ((cfg0.win 10).stage (cfg0.slots t 10)) fullShare X.bao ∗ owns (c : Thread nD τ) ((cfg0.win 11).stage (cfg0.slots t 11)) fullShare X.cbw ∗ owns (c : Thread nD τ) ((cfg0.win 12).stage (cfg0.slots t 12)) fullShare X.fng ∗ owns (c : Thread nD τ) ((cfg0.win 13).stage (cfg0.slots t 13)) fullShare X.wA ∗ owns (c : Thread nD τ) ((cfg0.win 14).stage (cfg0.slots t 14)) fullShare X.wAt ∗ owns (c : Thread nD τ) ((cfg0.win 15).stage (cfg0.slots t 15)) fullShare X.wB ∗ owns (c : Thread nD τ) ((cfg0.win 16).stage (cfg0.slots t 16)) fullShare X.wBt ∗ owns (c : Thread nD τ) ((cfg0.win 17).stage (cfg0.slots t 17)) fullShare X.wO ∗ owns (c : Thread nD τ) ((cfg0.win 18).stage (cfg0.slots t 18)) fullShare X.wOt)
    ∗ owns (c : Thread nD τ) ((cfg0.win 19).stage (cfg0.slots t 19)) fullShare s.dproj ∗ owns (c : Thread nD τ) ((cfg0.win 20).stage (cfg0.slots t 20)) fullShare s.ds ∗ owns (c : Thread nD τ) ((cfg0.win 21).stage (cfg0.slots t 21)) fullShare s.lhs ∗ owns (c : Thread nD τ) ((cfg0.win 22).stage (cfg0.slots t 22)) fullShare s.rhs ∗ owns (c : Thread nD τ) ((cfg0.win 23).stage (cfg0.slots t 23)) fullShare s.small
    ∗ owns (c : Thread nD τ) (Memref.whole cc0_scratch0 : Memref sig .tc .vmem S2x160x1024 .f32) fullShare s.ua0 ∗ owns (c : Thread nD τ) (Memref.whole cc0_scratch1 : Memref sig .tc .vmem S2x136x1024 .f32) fullShare s.cb ∗ owns (c : Thread nD τ) (Memref.whole cc0_scratch2 : Memref sig .tc .vmem S2x160x1024 .f32) fullShare s.dua1 ∗ owns (c : Thread nD τ) (Memref.whole cc0_scratch3 : Memref sig .tc .vmem S2x136x1024 .f32) fullShare s.dc3 ∗ owns (c : Thread nD τ) (Memref.whole cc0_scratch4 : Memref sig .tc .vmem S128x5120 .bf16) fullShare s.stage ∗ owns (c : Thread nD τ) (Memref.whole cc0_scratch5 : Memref sig .tc .vmem S128x1024 .f32) fullShare s.ua1 ∗ owns (c : Thread nD τ) (Memref.whole cc0_scratch6 : Memref sig .tc .vmem S128x1024 .f32) fullShare s.c3 ∗ owns (c : Thread nD τ) (Memref.whole cc0_scratch7 : Memref sig .tc .vmem S128x1024 .f32) fullShare s.dpa ∗ owns (c : Thread nD τ) (Memref.whole cc0_scratch8 : Memref sig .tc .vmem S128x1024 .f32) fullShare s.dpb ∗ owns (c : Thread nD τ) (Memref.whole cc0_scratch9 : Memref sig .tc .vmem S256x1024 .f32) fullShare s.dcaw ∗ owns (c : Thread nD τ) (Memref.whole cc0_scratch10 : Memref sig .tc .vmem S64x1024 .f32) fullShare s.dcbw ∗ owns (c : Thread nD τ) (Memref.whole cc0_scratch11 : Memref sig .tc .vmem S8x160x128 .f32) fullShare s.shift) := by
  rw [own_eq]; rfl

variable (m : (ℓ : Loc nD τ sig) → Buf (Elt F) ℓ) (ρ : Dev nD → PrngReg)

/-- The pipeline's proof data, saying nothing of what the windows hold. -/
def datsAny (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q w := Pipeline.shareOf spec0 w
  owed _ := 0

/-- The body table's row at a point. -/
theorem defs₀_row (t : Fin cfg0.N) : defs₀ (F := F) .tc cfg0.body (cfg0.bodyArgs t (cfg0.slots t)) = bodyAt0 t := by
  unfold defs₀; rw [Defs.onTc_tc]

/-- The invariant between points: the scratch at some contents, and the generator register. -/
theorem inv_eq (c : Dev nD) : (Pipeline.ΦA spec0 c : sProp 𝕄) = iprop(((∃ d, owns (c : Thread nD τ) (Memref.whole cc0_scratch0 : Memref sig .tc .vmem S2x160x1024 .f32) fullShare d) ∗ (∃ d, owns (c : Thread nD τ) (Memref.whole cc0_scratch1 : Memref sig .tc .vmem S2x136x1024 .f32) fullShare d) ∗ (∃ d, owns (c : Thread nD τ) (Memref.whole cc0_scratch2 : Memref sig .tc .vmem S2x160x1024 .f32) fullShare d) ∗ (∃ d, owns (c : Thread nD τ) (Memref.whole cc0_scratch3 : Memref sig .tc .vmem S2x136x1024 .f32) fullShare d) ∗ (∃ d, owns (c : Thread nD τ) (Memref.whole cc0_scratch4 : Memref sig .tc .vmem S128x5120 .bf16) fullShare d) ∗ (∃ d, owns (c : Thread nD τ) (Memref.whole cc0_scratch5 : Memref sig .tc .vmem S128x1024 .f32) fullShare d) ∗ (∃ d, owns (c : Thread nD τ) (Memref.whole cc0_scratch6 : Memref sig .tc .vmem S128x1024 .f32) fullShare d) ∗ (∃ d, owns (c : Thread nD τ) (Memref.whole cc0_scratch7 : Memref sig .tc .vmem S128x1024 .f32) fullShare d) ∗ (∃ d, owns (c : Thread nD τ) (Memref.whole cc0_scratch8 : Memref sig .tc .vmem S128x1024 .f32) fullShare d) ∗ (∃ d, owns (c : Thread nD τ) (Memref.whole cc0_scratch9 : Memref sig .tc .vmem S256x1024 .f32) fullShare d) ∗ (∃ d, owns (c : Thread nD τ) (Memref.whole cc0_scratch10 : Memref sig .tc .vmem S64x1024 .f32) fullShare d) ∗ (∃ d, owns (c : Thread nD τ) (Memref.whole cc0_scratch11 : Memref sig .tc .vmem S8x160x128 .f32) fullShare d)) ∗ (∃ r, prngReg c r)) := by
  unfold Pipeline.ΦA; rw [scopedRest0_eq]; simp only [owns_whole]; try rfl

set_option maxHeartbeats 4000000 in
/-- The body at any point, on windows at any contents. -/
theorem sound_any (c : Dev nD) (t : Fin cfg0.N) :
    iprop((datsAny m 0 c).Φ t.castSucc ∗ (datsAny m 0 c).owesAt () t.castSucc
    ∗ (∃ d, owns (c : Thread nD τ) ((cfg0.win 0).stage (cfg0.slots t 0)) fullShare d) ∗ (∃ d, owns (c : Thread nD τ) ((cfg0.win 1).stage (cfg0.slots t 1)) fullShare d) ∗ (∃ d, owns (c : Thread nD τ) ((cfg0.win 2).stage (cfg0.slots t 2)) fullShare d) ∗ (∃ d, owns (c : Thread nD τ) ((cfg0.win 3).stage (cfg0.slots t 3)) fullShare d) ∗ (∃ d, owns (c : Thread nD τ) ((cfg0.win 4).stage (cfg0.slots t 4)) fullShare d) ∗ (∃ d, owns (c : Thread nD τ) ((cfg0.win 5).stage (cfg0.slots t 5)) fullShare d) ∗ (∃ d, owns (c : Thread nD τ) ((cfg0.win 6).stage (cfg0.slots t 6)) fullShare d) ∗ (∃ d, owns (c : Thread nD τ) ((cfg0.win 7).stage (cfg0.slots t 7)) fullShare d) ∗ (∃ d, owns (c : Thread nD τ) ((cfg0.win 8).stage (cfg0.slots t 8)) fullShare d) ∗ (∃ d, owns (c : Thread nD τ) ((cfg0.win 9).stage (cfg0.slots t 9)) fullShare d) ∗ (∃ d, owns (c : Thread nD τ) ((cfg0.win 10).stage (cfg0.slots t 10)) fullShare d) ∗ (∃ d, owns (c : Thread nD τ) ((cfg0.win 11).stage (cfg0.slots t 11)) fullShare d) ∗ (∃ d, owns (c : Thread nD τ) ((cfg0.win 12).stage (cfg0.slots t 12)) fullShare d) ∗ (∃ d, owns (c : Thread nD τ) ((cfg0.win 13).stage (cfg0.slots t 13)) fullShare d) ∗ (∃ d, owns (c : Thread nD τ) ((cfg0.win 14).stage (cfg0.slots t 14)) fullShare d) ∗ (∃ d, owns (c : Thread nD τ) ((cfg0.win 15).stage (cfg0.slots t 15)) fullShare d) ∗ (∃ d, owns (c : Thread nD τ) ((cfg0.win 16).stage (cfg0.slots t 16)) fullShare d) ∗ (∃ d, owns (c : Thread nD τ) ((cfg0.win 17).stage (cfg0.slots t 17)) fullShare d) ∗ (∃ d, owns (c : Thread nD τ) ((cfg0.win 18).stage (cfg0.slots t 18)) fullShare d) ∗ (∃ d, owns (c : Thread nD τ) ((cfg0.win 19).stage (cfg0.slots t 19)) fullShare d) ∗ (∃ d, owns (c : Thread nD τ) ((cfg0.win 20).stage (cfg0.slots t 20)) fullShare d) ∗ (∃ d, owns (c : Thread nD τ) ((cfg0.win 21).stage (cfg0.slots t 21)) fullShare d) ∗ (∃ d, owns (c : Thread nD τ) ((cfg0.win 22).stage (cfg0.slots t 22)) fullShare d) ∗ (∃ d, owns (c : Thread nD τ) ((cfg0.win 23).stage (cfg0.slots t 23)) fullShare d))
    ⊢ wp Idealize.ShloMosaic.frame (wpE (defs₀ (F := F)) Variants.none c none) Set.univ (bodyAt0 t) (fun _ =>
    iprop((datsAny m 0 c).Φ t.succ ∗ (datsAny m 0 c).owesAt () t.succ
    ∗ (∃ d, owns (c : Thread nD τ) ((cfg0.win 0).stage (cfg0.slots t 0)) fullShare d) ∗ (∃ d, owns (c : Thread nD τ) ((cfg0.win 1).stage (cfg0.slots t 1)) fullShare d) ∗ (∃ d, owns (c : Thread nD τ) ((cfg0.win 2).stage (cfg0.slots t 2)) fullShare d) ∗ (∃ d, owns (c : Thread nD τ) ((cfg0.win 3).stage (cfg0.slots t 3)) fullShare d) ∗ (∃ d, owns (c : Thread nD τ) ((cfg0.win 4).stage (cfg0.slots t 4)) fullShare d) ∗ (∃ d, owns (c : Thread nD τ) ((cfg0.win 5).stage (cfg0.slots t 5)) fullShare d) ∗ (∃ d, owns (c : Thread nD τ) ((cfg0.win 6).stage (cfg0.slots t 6)) fullShare d) ∗ (∃ d, owns (c : Thread nD τ) ((cfg0.win 7).stage (cfg0.slots t 7)) fullShare d) ∗ (∃ d, owns (c : Thread nD τ) ((cfg0.win 8).stage (cfg0.slots t 8)) fullShare d) ∗ (∃ d, owns (c : Thread nD τ) ((cfg0.win 9).stage (cfg0.slots t 9)) fullShare d) ∗ (∃ d, owns (c : Thread nD τ) ((cfg0.win 10).stage (cfg0.slots t 10)) fullShare d) ∗ (∃ d, owns (c : Thread nD τ) ((cfg0.win 11).stage (cfg0.slots t 11)) fullShare d) ∗ (∃ d, owns (c : Thread nD τ) ((cfg0.win 12).stage (cfg0.slots t 12)) fullShare d) ∗ (∃ d, owns (c : Thread nD τ) ((cfg0.win 13).stage (cfg0.slots t 13)) fullShare d) ∗ (∃ d, owns (c : Thread nD τ) ((cfg0.win 14).stage (cfg0.slots t 14)) fullShare d) ∗ (∃ d, owns (c : Thread nD τ) ((cfg0.win 15).stage (cfg0.slots t 15)) fullShare d) ∗ (∃ d, owns (c : Thread nD τ) ((cfg0.win 16).stage (cfg0.slots t 16)) fullShare d) ∗ (∃ d, owns (c : Thread nD τ) ((cfg0.win 17).stage (cfg0.slots t 17)) fullShare d) ∗ (∃ d, owns (c : Thread nD τ) ((cfg0.win 18).stage (cfg0.slots t 18)) fullShare d) ∗ (∃ d, owns (c : Thread nD τ) ((cfg0.win 19).stage (cfg0.slots t 19)) fullShare d) ∗ (∃ d, owns (c : Thread nD τ) ((cfg0.win 20).stage (cfg0.slots t 20)) fullShare d) ∗ (∃ d, owns (c : Thread nD τ) ((cfg0.win 21).stage (cfg0.slots t 21)) fullShare d) ∗ (∃ d, owns (c : Thread nD τ) ((cfg0.win 22).stage (cfg0.slots t 22)) fullShare d) ∗ (∃ d, owns (c : Thread nD τ) ((cfg0.win 23).stage (cfg0.slots t 23)) fullShare d))) := by
  rw [show (datsAny m 0 c).Φ t.succ = (datsAny m 0 c).Φ t.castSucc from rfl,
    show (datsAny m 0 c).owesAt () t.succ = (datsAny m 0 c).owesAt () t.castSucc from rfl,
    show (datsAny m 0 c).Φ t.castSucc = Pipeline.ΦA spec0 c from rfl, inv_eq]
  iintro ⟨⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩, Hg⟩, Ho, ⟨%x0, H0⟩, ⟨%x1, H1⟩, ⟨%x2, H2⟩, ⟨%x3, H3⟩, ⟨%x4, H4⟩, ⟨%x5, H5⟩, ⟨%x6, H6⟩, ⟨%x7, H7⟩, ⟨%x8, H8⟩, ⟨%x9, H9⟩, ⟨%x10, H10⟩, ⟨%x11, H11⟩, ⟨%x12, H12⟩, ⟨%x13, H13⟩, ⟨%x14, H14⟩, ⟨%x15, H15⟩, ⟨%x16, H16⟩, ⟨%x17, H17⟩, ⟨%x18, H18⟩, ⟨%x19, H19⟩, ⟨%x20, H20⟩, ⟨%x21, H21⟩, ⟨%x22, H22⟩, ⟨%x23, H23⟩⟩
  iapply (any_body c (refs t) ⟨x0, x1, x2, x3, x4, x5, x6, x7, x8, x9, x10, x11, x12, x13, x14, x15, x16, x17, x18⟩ (grid0.coords t) ⟨x19, x20, x21, x22, x23, s0, s1, s2, s3, s4, s5, s6, s7, s8, s9, s10, s11⟩ _)
  simp only [own_refs]
  isplitl [S0 S1 S2 S3 S4 S5 S6 S7 S8 S9 S10 S11 H0 H1 H2 H3 H4 H5 H6 H7 H8 H9 H10 H11 H12 H13 H14 H15 H16 H17 H18 H19 H20 H21 H22 H23]
  · isplitl [H0 H1 H2 H3 H4 H5 H6 H7 H8 H9 H10 H11 H12 H13 H14 H15 H16 H17 H18]
    · isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      iexact H18
    · isplitl [H19]
      · iexact H19
      isplitl [H20]
      · iexact H20
      isplitl [H21]
      · iexact H21
      isplitl [H22]
      · iexact H22
      isplitl [H23]
      · iexact H23
      isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      isplitl [S8]
      · iexact S8
      isplitl [S9]
      · iexact S9
      isplitl [S10]
      · iexact S10
      iexact S11
  · iintro %r %s %_ ⟨⟨H0, H1, H2, H3, H4, H5, H6, H7, H8, H9, H10, H11, H12, H13, H14, H15, H16, H17, H18⟩, H19, H20, H21, H22, H23, S0, S1, S2, S3, S4, S5, S6, S7, S8, S9, S10, S11⟩
    isplitl [S0 S1 S2 S3 S4 S5 S6 S7 S8 S9 S10 S11 Hg]
    · isplitl [S0 S1 S2 S3 S4 S5 S6 S7 S8 S9 S10 S11]
      · isplitl [S0]
        · iexists s.ua0; iexact S0
        isplitl [S1]
        · iexists s.cb; iexact S1
        isplitl [S2]
        · iexists s.dua1; iexact S2
        isplitl [S3]
        · iexists s.dc3; iexact S3
        isplitl [S4]
        · iexists s.stage; iexact S4
        isplitl [S5]
        · iexists s.ua1; iexact S5
        isplitl [S6]
        · iexists s.c3; iexact S6
        isplitl [S7]
        · iexists s.dpa; iexact S7
        isplitl [S8]
        · iexists s.dpb; iexact S8
        isplitl [S9]
        · iexists s.dcaw; iexact S9
        isplitl [S10]
        · iexists s.dcbw; iexact S10
        iexists s.shift; iexact S11
      · iexact Hg
    isplitl [Ho]
    · iexact Ho
    isplitl [H0]
    · iexists x0; iexact H0
    isplitl [H1]
    · iexists x1; iexact H1
    isplitl [H2]
    · iexists x2; iexact H2
    isplitl [H3]
    · iexists x3; iexact H3
    isplitl [H4]
    · iexists x4; iexact H4
    isplitl [H5]
    · iexists x5; iexact H5
    isplitl [H6]
    · iexists x6; iexact H6
    isplitl [H7]
    · iexists x7; iexact H7
    isplitl [H8]
    · iexists x8; iexact H8
    isplitl [H9]
    · iexists x9; iexact H9
    isplitl [H10]
    · iexists x10; iexact H10
    isplitl [H11]
    · iexists x11; iexact H11
    isplitl [H12]
    · iexists x12; iexact H12
    isplitl [H13]
    · iexists x13; iexact H13
    isplitl [H14]
    · iexists x14; iexact H14
    isplitl [H15]
    · iexists x15; iexact H15
    isplitl [H16]
    · iexists x16; iexact H16
    isplitl [H17]
    · iexists x17; iexact H17
    isplitl [H18]
    · iexists x18; iexact H18
    isplitl [H19]
    · iexists s.dproj; iexact H19
    isplitl [H20]
    · iexists s.ds; iexact H20
    isplitl [H21]
    · iexists s.lhs; iexact H21
    isplitl [H22]
    · iexists s.rhs; iexact H22
    iexists s.small; iexact H23

/-- The pipeline's body obligation, on windows at any contents. -/
theorem obligation_any (c : Dev nD) : BodyObligationLoose (datsAny (F := F) m 0 c) (defs₀ (F := F)) Variants.none () Set.univ (fun _ => true) := fun t => by
  rw [bigSep_W0, defs₀_row]
  exact sound_any m c t

/-- The buffers the host lines after the kernel write. -/
def T : Finset (Ref sig .tc) := List.toFinset [main_v45, main_cst_6, main_v46, main_v47, main_v48, main_v49, main_v50, main_v51, main_v52, main_v53, main_v54, main_v55, main_v56, main_v57, main_v58, main_v59, main_v60, main_v61, main_v62, main_v63, main_v64, main_v65, main_v66, main_v67, main_v68, main_v69, main_v70, main_v71, main_v72, main_v73]

/-- A buffer of the host that is no array of the pipeline and that the later host lines leave alone. -/
theorem mem_rest (b : Ref sig .tc) (h1 : b.isScoped = false) (h2 : ∀ w, Pipeline.arrRef spec0 w ≠ b) (h3 : b ∉ T) :
    b ∈ Pipeline.restRefs sig spec0 \ T :=
  Finset.mem_sdiff.mpr ⟨Pipeline.mem_restRefs_of b h1 h2, h3⟩

/-- The host lines after the kernel write those only. -/
theorem writes_T : ∀ ops ∈ ([hostOps1] : List (List (HloOp τ sig (Elt F)))), ∀ op ∈ ops, ∀ b : Ref sig .tc, Proc.devRef .tc b ∈ op.writes → b ∈ T := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals
    simp only [StableHlo.nullary_writes, StableHlo.unary_writes, StableHlo.binary_writes, StableHlo.reshape_writes, Finset.mem_singleton] at hb
    rw [Proc.devRef_injective _ hb]
    decide

set_option backward.isDefEq.respectTransparency.types false in
set_option maxHeartbeats 800000 in
/-- Every run ends with each buffer that neither the kernel nor the host lines after it write at its contents before the kernel. -/
theorem run_any : θ_run defs (onTc (τ := τ) (main (F := F))) (s₀ m ρ)
    (fun r => (Pipeline.RDat.FramePostR cfg0 (fun c => (datsAny m 0 c).toRForget (fun _ => true)) T (fun c b => V0 m c (Proc.devRef .tc b))) r ∧ r.2.sem = fun _ => 0) :=
  Pipeline.θ_run_frame_around_T_forget_shared (Q' := _) cfgs (datsAny m) (0 : Fin 1) launch₀0 defs₀ Variants.none (fun _ => true) T m ρ main
    (hbody := fun c => obligation_any m c) (hq := fun _ _ _ => rfl)
    (howed := fun _ _ => rfl) (V₀ := V0 m) (opss := [hostOps1]) (hsub := sfx_sub) (hfresh := sfx_fresh) (hkeep := sfx_keeps)
    (hT := writes_T) (hmain := hmain m Variants.none) (hA := fun _ _ => rfl) (hΦ := fun _ _ => rfl)

set_option maxHeartbeats 4000000 in
/-- The frame: every run ends, with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14))
      ∧ r.2.sem = fun _ => 0) :=
  (θ_run defs _ _).mono (fun r h => ⟨fun c => ⟨((h.1 c).2 main_arg0 (mem_rest main_arg0 (by decide) (by decide) (by decide))).trans (V_main_arg0 m c),
      ((h.1 c).2 main_arg1 (mem_rest main_arg1 (by decide) (by decide) (by decide))).trans (V_main_arg1 m c),
      ((h.1 c).2 main_arg2 (mem_rest main_arg2 (by decide) (by decide) (by decide))).trans (V_main_arg2 m c),
      ((h.1 c).2 main_arg3 (mem_rest main_arg3 (by decide) (by decide) (by decide))).trans (V_main_arg3 m c),
      ((h.1 c).2 main_arg4 (mem_rest main_arg4 (by decide) (by decide) (by decide))).trans (V_main_arg4 m c),
      (Pipeline.RDat.FramePostR.arr_in h.1 c 7 rfl).trans (V_main_arg5 m c),
      (Pipeline.RDat.FramePostR.arr_in h.1 c 8 rfl).trans (V_main_arg6 m c),
      (Pipeline.RDat.FramePostR.arr_in h.1 c 9 rfl).trans (V_main_arg7 m c),
      ((h.1 c).2 main_arg8 (mem_rest main_arg8 (by decide) (by decide) (by decide))).trans (V_main_arg8 m c),
      (Pipeline.RDat.FramePostR.arr_in h.1 c 10 rfl).trans (V_main_arg9 m c),
      ((h.1 c).2 main_arg10 (mem_rest main_arg10 (by decide) (by decide) (by decide))).trans (V_main_arg10 m c),
      ((h.1 c).2 main_arg11 (mem_rest main_arg11 (by decide) (by decide) (by decide))).trans (V_main_arg11 m c),
      ((h.1 c).2 main_arg12 (mem_rest main_arg12 (by decide) (by decide) (by decide))).trans (V_main_arg12 m c),
      ((h.1 c).2 main_arg13 (mem_rest main_arg13 (by decide) (by decide) (by decide))).trans (V_main_arg13 m c),
      ((h.1 c).2 main_arg14 (mem_rest main_arg14 (by decide) (by decide) (by decide))).trans (V_main_arg14 m c)⟩, h.2⟩) (run_any m ρ)

end Cert.Kernel2Ideal.Fp

end
-- ==== Proof.Fp.At.lean ====
/- Arrays read at natural indices, and the rules of `W` for reads and writes in that form: a read hands over
its values entry by entry, a write the new contents entry by entry, so that what a long body computes
stays a list of short equations. -/
module

public import proofs.«01_k».proof.Proof.Fp.State
public import Idealize.ShloMosaic.Lib.Pointwise

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open Idealize.SL.BI.BIBase Idealize.SL.Sem
open Cert.Kernel2Ideal.Gen

section At

variable {α : Type} [Nonempty α]

/-- An array of two axes at natural indices. -/
def at2 {n0 n1 : ℕ} (x : (⟨2, ![n0, n1]⟩ : Shape).Idx → α) (a b : ℕ) : α :=
  if h : a < n0 ∧ b < n1 then x (ix2 ⟨a, h.1⟩ ⟨b, h.2⟩) else Classical.arbitrary α

/-- An array of three axes at natural indices. -/
def at3 {n0 n1 n2 : ℕ} (x : (⟨3, ![n0, n1, n2]⟩ : Shape).Idx → α) (a b c : ℕ) : α :=
  if h : a < n0 ∧ b < n1 ∧ c < n2 then x (ix3 ⟨a, h.1⟩ ⟨b, h.2.1⟩ ⟨c, h.2.2⟩) else Classical.arbitrary α

theorem at2_ix {n0 n1 : ℕ} (x : (⟨2, ![n0, n1]⟩ : Shape).Idx → α) (a : Fin n0) (b : Fin n1) : x (ix2 a b) = at2 x a b := by
  unfold at2; rw [dif_pos ⟨a.2, b.2⟩]

theorem at3_ix {n0 n1 n2 : ℕ} (x : (⟨3, ![n0, n1, n2]⟩ : Shape).Idx → α) (a : Fin n0) (b : Fin n1) (c : Fin n2) : x (ix3 a b c) = at3 x a b c := by
  unfold at3; rw [dif_pos ⟨a.2, b.2, c.2⟩]

theorem at2_of {n0 n1 : ℕ} (x : (⟨2, ![n0, n1]⟩ : Shape).Idx → α) {a b : ℕ} (ha : a < n0) (hb : b < n1) : at2 x a b = x (ix2 ⟨a, ha⟩ ⟨b, hb⟩) :=
  (at2_ix x ⟨a, ha⟩ ⟨b, hb⟩).symm

theorem at3_of {n0 n1 n2 : ℕ} (x : (⟨3, ![n0, n1, n2]⟩ : Shape).Idx → α) {a b c : ℕ} (ha : a < n0) (hb : b < n1) (hc : c < n2) :
    at3 x a b c = x (ix3 ⟨a, ha⟩ ⟨b, hb⟩ ⟨c, hc⟩) := (at3_ix x ⟨a, ha⟩ ⟨b, hb⟩ ⟨c, hc⟩).symm

theorem window2 {n0 n1 m0 m1 : ℕ} (x : (⟨2, ![n0, n1]⟩ : Shape).Idx → α) (off : Fin 2 → ℕ) (inb : ∀ a, off a + ![m0, m1] a ≤ ![n0, n1] a)
    (y : Fin m0) (z : Fin m1) : VecWindow.window x off ![m0, m1] inb (ix2 y z) = at2 x (off 0 + y) (off 1 + z) := by
  have h0 : off 0 + m0 ≤ n0 := inb 0
  have h1 : off 1 + m1 ≤ n1 := inb 1
  rw [at2_of x (by omega) (by omega)]
  unfold VecWindow.window
  refine congrArg x (funext fun a => Fin.ext ?_)
  fin_cases a
  · show off 0 + 1 * y.val = off 0 + y.val; omega
  · show off 1 + 1 * z.val = off 1 + z.val; omega

theorem window3 {n0 n1 n2 m0 m1 m2 : ℕ} (x : (⟨3, ![n0, n1, n2]⟩ : Shape).Idx → α) (off : Fin 3 → ℕ) (inb : ∀ a, off a + ![m0, m1, m2] a ≤ ![n0, n1, n2] a)
    (y : Fin m0) (z : Fin m1) (w : Fin m2) : VecWindow.window x off ![m0, m1, m2] inb (ix3 y z w) = at3 x (off 0 + y) (off 1 + z) (off 2 + w) := by
  have h0 : off 0 + m0 ≤ n0 := inb 0
  have h1 : off 1 + m1 ≤ n1 := inb 1
  have h2 : off 2 + m2 ≤ n2 := inb 2
  rw [at3_of x (by omega) (by omega) (by omega)]
  unfold VecWindow.window
  refine congrArg x (funext fun a => Fin.ext ?_)
  fin_cases a
  · show off 0 + 1 * y.val = off 0 + y.val; omega
  · show off 1 + 1 * z.val = off 1 + z.val; omega
  · show off 2 + 1 * w.val = off 2 + w.val; omega

theorem put2 {n0 n1 m0 m1 : ℕ} (x : (⟨2, ![n0, n1]⟩ : Shape).Idx → α) (off : Fin 2 → ℕ) (inb : ∀ a, off a + ![m0, m1] a ≤ ![n0, n1] a)
    (w : (⟨2, ![m0, m1]⟩ : Shape).Idx → α) (a b : ℕ) :
    at2 (VecWindow.put x off ![m0, m1] w) a b
      = if (off 0 ≤ a ∧ a < off 0 + m0) ∧ off 1 ≤ b ∧ b < off 1 + m1 then at2 w (a - off 0) (b - off 1) else at2 x a b := by
  have h0 : off 0 + m0 ≤ n0 := inb 0
  have h1 : off 1 + m1 ≤ n1 := inb 1
  by_cases hab : a < n0 ∧ b < n1
  · rw [at2_of _ hab.1 hab.2]
    unfold VecWindow.put
    split
    · next h =>
      have e0 : off 0 ≤ a ∧ a < off 0 + m0 := h 0
      have e1 : off 1 ≤ b ∧ b < off 1 + m1 := h 1
      rw [if_pos ⟨e0, e1⟩, at2_of w (by omega) (by omega)]
      refine congrArg w (funext fun c => Fin.ext ?_)
      fin_cases c <;> rfl
    · next h =>
      rw [if_neg, at2_of x hab.1 hab.2]
      rintro ⟨e0, e1⟩
      refine h fun c => ?_
      fin_cases c
      · exact e0
      · exact e1
  · rw [if_neg (by omega)]
    unfold at2
    rw [dif_neg hab, dif_neg hab]

theorem put3 {n0 n1 n2 m0 m1 m2 : ℕ} (x : (⟨3, ![n0, n1, n2]⟩ : Shape).Idx → α) (off : Fin 3 → ℕ) (inb : ∀ a, off a + ![m0, m1, m2] a ≤ ![n0, n1, n2] a)
    (w : (⟨3, ![m0, m1, m2]⟩ : Shape).Idx → α) (a b c : ℕ) :
    at3 (VecWindow.put x off ![m0, m1, m2] w) a b c
      = if (off 0 ≤ a ∧ a < off 0 + m0) ∧ (off 1 ≤ b ∧ b < off 1 + m1) ∧ off 2 ≤ c ∧ c < off 2 + m2 then at3 w (a - off 0) (b - off 1) (c - off 2)
        else at3 x a b c := by
  have h0 : off 0 + m0 ≤ n0 := inb 0
  have h1 : off 1 + m1 ≤ n1 := inb 1
  have h2 : off 2 + m2 ≤ n2 := inb 2
  by_cases hab : a < n0 ∧ b < n1 ∧ c < n2
  · rw [at3_of _ hab.1 hab.2.1 hab.2.2]
    unfold VecWindow.put
    split
    · next h =>
      have e0 : off 0 ≤ a ∧ a < off 0 + m0 := h 0
      have e1 : off 1 ≤ b ∧ b < off 1 + m1 := h 1
      have e2 : off 2 ≤ c ∧ c < off 2 + m2 := h 2
      rw [if_pos ⟨e0, e1, e2⟩, at3_of w (by omega) (by omega) (by omega)]
      refine congrArg w (funext fun d => Fin.ext ?_)
      fin_cases d <;> rfl
    · next h =>
      rw [if_neg, at3_of x hab.1 hab.2.1 hab.2.2]
      rintro ⟨e0, e1, e2⟩
      refine h fun d => ?_
      fin_cases d
      · exact e0
      · exact e1
      · exact e2
  · rw [if_neg (by omega)]
    unfold at3
    rw [dif_neg hab, dif_neg hab]

/-- A slab written into an array of three axes. -/
theorem slab_put {n0 n1 n2 m b h d W : ℕ} {u u1 : (⟨3, ![n0, n1, n2]⟩ : Shape).Idx → α} {o1 : Fin 3 → ℕ}
    {w1 : (⟨3, ![1, m, W]⟩ : Shape).Idx → α} {e : ℕ → ℕ → α} (h1 : o1 = ![b, h, d])
    (e1 : ∀ (y : Fin m) (z : Fin W), w1 (ix3 0 y z) = e (h + y.val) (d + z.val))
    (p1 : ∀ a b c, at3 u1 a b c = if (o1 0 ≤ a ∧ a < o1 0 + 1) ∧ (o1 1 ≤ b ∧ b < o1 1 + m) ∧ o1 2 ≤ c ∧ c < o1 2 + W
      then at3 w1 (a - o1 0) (b - o1 1) (c - o1 2) else at3 u a b c) (a j x : ℕ) :
    at3 u1 a j x = if a = b ∧ (h ≤ j ∧ j < h + m) ∧ d ≤ x ∧ x < d + W then e j x else at3 u a j x := by
  subst h1
  refine (p1 _ _ _).trans ?_
  by_cases c1 : (b ≤ a ∧ a < b + 1) ∧ (h ≤ j ∧ j < h + m) ∧ d ≤ x ∧ x < d + W
  · refine (if_pos c1).trans ?_
    show at3 w1 (a - b) (j - h) (x - d) = _
    rw [if_pos (by omega), at3_of w1 (by omega) (by omega) (by omega)]
    obtain rfl : a = b := by omega
    refine (congrArg w1 ?_).trans ((e1 ⟨j - h, by omega⟩ ⟨x - d, by omega⟩).trans ?_)
    · congr 1
      exact Fin.ext (by simp)
    · simp only
      rw [show h + (j - h) = j by omega, show d + (x - d) = x by omega]
  · refine (if_neg c1).trans ?_
    rw [if_neg (by omega)]

/-- A block written into an array of two axes. -/
theorem blk_put {n0 n1 m W p d : ℕ} {u u1 : (⟨2, ![n0, n1]⟩ : Shape).Idx → α} {o1 : Fin 2 → ℕ} {w1 : (⟨2, ![m, W]⟩ : Shape).Idx → α} {e : ℕ → ℕ → α}
    (h1 : o1 = ![p, d]) (e1 : ∀ (y : Fin m) (z : Fin W), w1 (ix2 y z) = e (p + y.val) (d + z.val))
    (p1 : ∀ a b, at2 u1 a b = if (o1 0 ≤ a ∧ a < o1 0 + m) ∧ o1 1 ≤ b ∧ b < o1 1 + W then at2 w1 (a - o1 0) (b - o1 1) else at2 u a b) (j x : ℕ) :
    at2 u1 j x = if (p ≤ j ∧ j < p + m) ∧ d ≤ x ∧ x < d + W then e j x else at2 u j x := by
  subst h1
  refine (p1 _ _).trans ?_
  by_cases c1 : (p ≤ j ∧ j < p + m) ∧ d ≤ x ∧ x < d + W
  · refine (if_pos c1).trans ?_
    show at2 w1 (j - p) (x - d) = _
    rw [if_pos c1, at2_of w1 (by omega) (by omega)]
    refine (e1 ⟨j - p, by omega⟩ ⟨x - d, by omega⟩).trans ?_
    simp only
    rw [show p + (j - p) = j by omega, show d + (x - d) = x by omega]
  · refine (if_neg c1).trans ?_
    rw [if_neg c1]

/-- A row vector read from an array. -/
theorem V_load {n0 n1 m p : ℕ} {x : (⟨2, ![n0, n1]⟩ : Shape).Idx → α} {v : (⟨2, ![1, m]⟩ : Shape).Idx → α} {off : Fin 2 → ℕ}
    (hv : ∀ y z, v (ix2 y z) = at2 x (off 0 + y.val) (off 1 + z.val)) (ho : off = ![p, 0]) (l : Fin m) : v (ix2 0 l) = at2 x p l.val := by
  subst ho
  refine (hv 0 l).trans ?_
  show at2 x (p + 0) (0 + l.val) = _
  rw [Nat.zero_add, Nat.add_zero]

/-- Columns read from an array. -/
theorem R_load {n0 n1 m0 m1 d : ℕ} {x : (⟨2, ![n0, n1]⟩ : Shape).Idx → α} {v : (⟨2, ![m0, m1]⟩ : Shape).Idx → α} {off : Fin 2 → ℕ}
    (hv : ∀ y z, v (ix2 y z) = at2 x (off 0 + y.val) (off 1 + z.val)) (ho : off = ![0, d]) (r : Fin m0) (l : Fin m1) : v (ix2 r l) = at2 x r.val (d + l.val) := by
  subst ho
  refine (hv r l).trans ?_
  show at2 x (0 + r.val) (d + l.val) = _
  rw [Nat.zero_add]

/-- A whole array read. -/
theorem A_load {n0 n1 m0 m1 : ℕ} {x : (⟨2, ![n0, n1]⟩ : Shape).Idx → α} {v : (⟨2, ![m0, m1]⟩ : Shape).Idx → α} {off : Fin 2 → ℕ}
    (hv : ∀ y z, v (ix2 y z) = at2 x (off 0 + y.val) (off 1 + z.val)) (ho : off = ![0, 0]) (r : Fin m0) (l : Fin m1) : v (ix2 r l) = at2 x r.val l.val := by
  rw [R_load hv ho, Nat.zero_add]

/-- A slab read from an array of three axes. -/
theorem L_load {n0 n1 n2 m0 m1 q : ℕ} {x : (⟨3, ![n0, n1, n2]⟩ : Shape).Idx → α} {v : (⟨3, ![1, m0, m1]⟩ : Shape).Idx → α} {off : Fin 3 → ℕ}
    (hv : ∀ y z w, v (ix3 y z w) = at3 x (off 0 + y.val) (off 1 + z.val) (off 2 + w.val)) (ho : off = ![q, 0, 0]) (r : Fin m0) (l : Fin m1) :
    v (ix3 0 r l) = at3 x q r.val l.val := by
  subst ho
  refine (hv 0 r l).trans ?_
  show at3 x (q + 0) (0 + r.val) (0 + l.val) = _
  rw [Nat.zero_add, Nat.zero_add, Nat.add_zero]

end At

section Rules

variable {F : FTy → Type} [FloatOps F]
variable {σ : Type} {c : Dev nD} {own : σ → sProp (MT nD τ sig Unit (Elt F) ℕ (UR sig nD τ) ℕ)}

/-- A read of a buffer of two axes. -/
theorem W.load2 {n0 n1 m0 m1 : ℕ} {e : EltTy} {m : Memref sig .tc .vmem (⟨2, ![n0, n1]⟩ : Shape) e} [hm : ReadSlot c own m] {off : Fin 2 → ℕ}
    {inb : ∀ a, off a + ![m0, m1] a ≤ ![n0, n1] a} {hl : m.view.LoadsAt (Rect.unit (s := (⟨2, ![n0, n1]⟩ : Shape)) off ![m0, m1] inb).toLoadRect} {st : σ}
    {Q : ((⟨2, ![m0, m1]⟩ : Shape).Idx → Elt F e) → σ → Prop}
    (h : ∀ v : (⟨2, ![m0, m1]⟩ : Shape).Idx → Elt F e, (∀ y z, v (ix2 y z) = at2 (hm.get st) (off 0 + y) (off 1 + z)) → Q v st) :
    W c own (Prog.lift (.load m (Rect.unit (s := (⟨2, ![n0, n1]⟩ : Shape)) off ![m0, m1] inb).toLoadRect hl)) st Q :=
  W.load (h _ fun y z => window2 _ off inb y z)

/-- A read of a buffer of three axes. -/
theorem W.load3 {n0 n1 n2 m0 m1 m2 : ℕ} {e : EltTy} {m : Memref sig .tc .vmem (⟨3, ![n0, n1, n2]⟩ : Shape) e} [hm : ReadSlot c own m] {off : Fin 3 → ℕ}
    {inb : ∀ a, off a + ![m0, m1, m2] a ≤ ![n0, n1, n2] a} {hl : m.view.LoadsAt (Rect.unit (s := (⟨3, ![n0, n1, n2]⟩ : Shape)) off ![m0, m1, m2] inb).toLoadRect} {st : σ}
    {Q : ((⟨3, ![m0, m1, m2]⟩ : Shape).Idx → Elt F e) → σ → Prop}
    (h : ∀ v : (⟨3, ![m0, m1, m2]⟩ : Shape).Idx → Elt F e, (∀ x y z, v (ix3 x y z) = at3 (hm.get st) (off 0 + x) (off 1 + y) (off 2 + z)) → Q v st) :
    W c own (Prog.lift (.load m (Rect.unit (s := (⟨3, ![n0, n1, n2]⟩ : Shape)) off ![m0, m1, m2] inb).toLoadRect hl)) st Q :=
  W.load (h _ fun x y z => window3 _ off inb x y z)

/-- A write into a buffer of two axes. -/
theorem W.store2 {n0 n1 m0 m1 : ℕ} {e : EltTy} {m : Memref sig .tc .vmem (⟨2, ![n0, n1]⟩ : Shape) e} [hm : Slot c own m] {off : Fin 2 → ℕ}
    {inb : ∀ a, off a + ![m0, m1] a ≤ ![n0, n1] a} {w : (⟨2, ![m0, m1]⟩ : Shape).Idx → Elt F e}
    {hx : (m.access (Rect.unit (s := (⟨2, ![n0, n1]⟩ : Shape)) off ![m0, m1] inb)).Stores Finset.univ}
    {hu : Finset.univ = Finset.univ ∨ ∀ a, (Rect.unit (s := (⟨2, ![n0, n1]⟩ : Shape)) off ![m0, m1] inb).stride a = 1} {st : σ} {Q : PUnit → σ → Prop}
    (h : ∀ v : (⟨2, ![n0, n1]⟩ : Shape).Idx → Elt F e, (∀ a b, at2 v a b
      = if (off 0 ≤ a ∧ a < off 0 + m0) ∧ off 1 ≤ b ∧ b < off 1 + m1 then at2 w (a - off 0) (b - off 1) else at2 (hm.get st) a b) → Q ⟨⟩ (hm.set st v)) :
    W c own (Prog.lift (.store m (Rect.unit (s := (⟨2, ![n0, n1]⟩ : Shape)) off ![m0, m1] inb) w Finset.univ hx hu)) st Q :=
  W.store (h _ fun a b => put2 _ off inb w a b)

/-- A write into a buffer of three axes. -/
theorem W.store3 {n0 n1 n2 m0 m1 m2 : ℕ} {e : EltTy} {m : Memref sig .tc .vmem (⟨3, ![n0, n1, n2]⟩ : Shape) e} [hm : Slot c own m] {off : Fin 3 → ℕ}
    {inb : ∀ a, off a + ![m0, m1, m2] a ≤ ![n0, n1, n2] a} {w : (⟨3, ![m0, m1, m2]⟩ : Shape).Idx → Elt F e}
    {hx : (m.access (Rect.unit (s := (⟨3, ![n0, n1, n2]⟩ : Shape)) off ![m0, m1, m2] inb)).Stores Finset.univ}
    {hu : Finset.univ = Finset.univ ∨ ∀ a, (Rect.unit (s := (⟨3, ![n0, n1, n2]⟩ : Shape)) off ![m0, m1, m2] inb).stride a = 1} {st : σ} {Q : PUnit → σ → Prop}
    (h : ∀ v : (⟨3, ![n0, n1, n2]⟩ : Shape).Idx → Elt F e, (∀ a b c, at3 v a b c
      = if (off 0 ≤ a ∧ a < off 0 + m0) ∧ (off 1 ≤ b ∧ b < off 1 + m1) ∧ off 2 ≤ c ∧ c < off 2 + m2 then at3 w (a - off 0) (b - off 1) (c - off 2)
        else at3 (hm.get st) a b c) → Q ⟨⟩ (hm.set st v)) :
    W c own (Prog.lift (.store m (Rect.unit (s := (⟨3, ![n0, n1, n2]⟩ : Shape)) off ![m0, m1, m2] inb) w Finset.univ hx hu)) st Q :=
  W.store (h _ fun a b c => put3 _ off inb w a b c)

end Rules

end Cert.Kernel2Ideal.Fp

end
-- ==== Proof.Fp.Row.lean ====
/- One row of the block: the values the fused pass computes from a row of the projection and of the
two convolutions, forward and backward, as functions of the channel. Every value except the
convolutions and the sums over the rows depends on one row only. -/
module

public import proofs.«01_k».proof.Proof.Fp.At

@[expose] public section

noncomputable section

namespace Cert.Kernel2Ideal.Fp

open Idealize.ShloMosaic

/-- The weights and vectors a row is combined with: gains and shifts by channel, matrices by row and column. -/
structure Wts where
  lng : ℕ → EReal
  lnb : ℕ → EReal
  bao : ℕ → EReal
  fng : ℕ → EReal
  wA : ℕ → ℕ → EReal
  wB : ℕ → ℕ → EReal
  wO : ℕ → ℕ → EReal
  wAt : ℕ → ℕ → EReal
  wBt : ℕ → ℕ → EReal
  wOt : ℕ → ℕ → EReal

/-- A row: both convolutions, the parts of the projection that act on the row alone, the residual
input, the target, and whether the row is a token's. -/
structure Row where
  u : ℕ → EReal
  c : ℕ → EReal
  az : ℕ → EReal
  bz : ℕ → EReal
  bb : ℕ → EReal
  ga : ℕ → EReal
  gb : ℕ → EReal
  s0 : ℕ → EReal
  tg : ℕ → EReal
  tok : EReal

/-- The constant the means are scaled with, and the norms' epsilon. -/
def cInv : EReal := Ideal.ofBits FTy.f32 981467136#32
@[inherit_doc cInv]
def cEps : EReal := Ideal.ofBits FTy.f32 897988541#32

/-- The mean over the channels. -/
def mean (f : ℕ → EReal) : EReal := (∑ d ∈ Finset.range 1024, f d) * cInv

/-- A row times a matrix. -/
def dotR (f : ℕ → EReal) (m : ℕ → ℕ → EReal) (d : ℕ) : EReal := ∑ x ∈ Finset.range 1024, f x * m x d

namespace Row

variable (w : Wts) (R : Row)

def xc (d : ℕ) : EReal := R.u d - mean R.u
def rstd : EReal := Ideal.rsqrt (mean (fun d => R.xc d * R.xc d) + cEps)
def xhat (d : ℕ) : EReal := R.xc d * R.rstd
def ua2 (d : ℕ) : EReal := R.xhat d * w.lng d + w.lnb d
def sg2 (d : ℕ) : EReal := Ideal.logistic (R.ua2 w d)
def ua3 (d : ℕ) : EReal := R.ua2 w d * R.sg2 w d
def sz (d : ℕ) : EReal := Ideal.logistic (R.az d)
def siluA (d : ℕ) : EReal := R.az d * R.sz d
def l0 (d : ℕ) : EReal := R.ua3 w d * R.siluA d
def sbz (d : ℕ) : EReal := Ideal.logistic (R.bz d)
def siluB (d : ℕ) : EReal := R.bz d * R.sbz d
def ub (d : ℕ) : EReal := R.bb d * R.c d
def l1 (d : ℕ) : EReal := R.ub d * R.siluB d
def ya (d : ℕ) : EReal := dotR (R.l0 w) w.wA d + w.bao d
def yb (d : ℕ) : EReal := dotR R.l1 w.wB d
def sga (d : ℕ) : EReal := Ideal.logistic (R.ga d)
def sgb (d : ℕ) : EReal := Ideal.logistic (R.gb d)
def l2 (d : ℕ) : EReal := R.sga d * R.ya w d + R.sgb d * R.yb w d
def s1 (d : ℕ) : EReal := R.s0 d + dotR (R.l2 w) w.wO d
def r1 : EReal := Ideal.rsqrt (mean (fun d => R.s1 w d * R.s1 w d) + cEps)
def err (d : ℕ) : EReal := (R.s1 w d * R.r1 w * w.fng d - R.tg d) * R.tok
def dy (d : ℕ) : EReal := R.err w d * cInv
def gy (d : ℕ) : EReal := R.dy w d * w.fng d
def ds1 (d : ℕ) : EReal := R.r1 w * R.gy w d - R.s1 w d * (R.r1 w * R.r1 w * R.r1 w * mean (fun x => R.gy w x * R.s1 w x))
def dm (d : ℕ) : EReal := dotR (R.ds1 w) w.wOt d
def dya (d : ℕ) : EReal := R.dm w d * R.sga d
def dyb (d : ℕ) : EReal := R.dm w d * R.sgb d
def pga (d : ℕ) : EReal := R.dya w d * R.ya w d * (1 - R.sga d)
def pgb (d : ℕ) : EReal := R.dyb w d * R.yb w d * (1 - R.sgb d)
def dpa (d : ℕ) : EReal := dotR (R.dya w) w.wAt d
def dpb (d : ℕ) : EReal := dotR (R.dyb w) w.wBt d
def paz (d : ℕ) : EReal := R.dpa w d * R.ua3 w d * (R.sz d + R.siluA d * (1 - R.sz d))
def dua2 (d : ℕ) : EReal := R.dpa w d * R.siluA d * (R.sg2 w d + R.ua3 w d * (1 - R.sg2 w d))
def dxh (d : ℕ) : EReal := R.dua2 w d * w.lng d
def dua1 (d : ℕ) : EReal := R.rstd * (R.dxh w d - mean (R.dxh w) - R.xhat d * mean (fun x => R.dxh w x * R.xhat x))
def pbz (d : ℕ) : EReal := R.dpb w d * R.ub d * (R.sbz d + R.siluB d * (1 - R.sbz d))
def dub (d : ℕ) : EReal := R.dpb w d * R.siluB d
def pbb (d : ℕ) : EReal := R.dub w d * R.c d
def dc3 (d : ℕ) : EReal := R.dub w d * R.bb d
/-- What a row adds to the gradients of the final gain, of the layer norm's gain, and to the loss. -/
def gFin (d : ℕ) : EReal := R.dy w d * (R.s1 w d * R.r1 w)
@[inherit_doc gFin]
def gLn (d : ℕ) : EReal := R.dua2 w d * R.xhat d
@[inherit_doc gFin]
def sq (d : ℕ) : EReal := R.err w d * R.err w d

end Row

/-- A sum over 1024 channels, taken eight blocks of 128 at a time. -/
theorem sum8 (f : ℕ → EReal) : ∑ d ∈ Finset.range 1024, f d
    = ∑ x : Fin 128, (f x.val + f (128 + x.val) + f (256 + x.val) + f (384 + x.val) + f (512 + x.val) + f (640 + x.val) + f (768 + x.val) + f (896 + x.val)) := by
  rw [← Finset.sum_range (fun x => f x + f (128 + x) + f (256 + x) + f (384 + x) + f (512 + x) + f (640 + x) + f (768 + x) + f (896 + x))]
  simp only [Finset.sum_add_distrib]
  rw [show (1024 : ℕ) = 896 + 128 by rfl, Finset.sum_range_add, show (896 : ℕ) = 768 + 128 by rfl, Finset.sum_range_add,
    show (768 : ℕ) = 640 + 128 by rfl, Finset.sum_range_add, show (640 : ℕ) = 512 + 128 by rfl, Finset.sum_range_add,
    show (512 : ℕ) = 384 + 128 by rfl, Finset.sum_range_add, show (384 : ℕ) = 256 + 128 by rfl, Finset.sum_range_add,
    show (256 : ℕ) = 128 + 128 by rfl, Finset.sum_range_add]

end Cert.Kernel2Ideal.Fp

end
-- ==== Proof.Fp.Real.lean ====
/- Real numbers among the extended reals. With finite arguments every value of a row is a real number, and over the
reals the two ways to write the gradients of SiLU and of the layer norm agree. -/
module

public import proofs.«01_k».proof.Proof.Fp.Row
public import proofs.«01_k».proof.Proof.In.Row

@[expose] public section

set_option maxRecDepth 16384

noncomputable section

namespace Cert.Kernel2Ideal.Fp

open Idealize.ShloMosaic

/-- The extended real is a real number. -/
def Re (x : EReal) : Prop := ∃ r : ℝ, x = r

namespace Re

theorem coe (r : ℝ) : Re (r : EReal) := ⟨r, rfl⟩
theorem zero : Re 0 := ⟨0, by simp⟩
theorem one : Re 1 := ⟨1, by simp⟩
theorem add {x y : EReal} : Re x → Re y → Re (x + y) := by rintro ⟨a, rfl⟩ ⟨b, rfl⟩; exact ⟨a + b, by norm_cast⟩
theorem sub {x y : EReal} : Re x → Re y → Re (x - y) := by rintro ⟨a, rfl⟩ ⟨b, rfl⟩; exact ⟨a - b, by norm_cast⟩
theorem mul {x y : EReal} : Re x → Re y → Re (x * y) := by rintro ⟨a, rfl⟩ ⟨b, rfl⟩; exact ⟨a * b, by norm_cast⟩
theorem sum {ι : Type} {s : Finset ι} {f : ι → EReal} (h : ∀ i ∈ s, Re (f i)) : Re (∑ i ∈ s, f i) :=
  Finset.sum_induction f Re (fun _ _ => add) zero h
theorem logistic {x : EReal} : Re x → Re (Ideal.logistic x) := by rintro ⟨a, rfl⟩; exact ⟨_, Ideal.logistic_coe a⟩
theorem rsqrt {x : EReal} (hp : 0 < x) : Re x → Re (Ideal.rsqrt x) := by
  rintro ⟨a, rfl⟩
  have ha : 0 < a := by exact_mod_cast hp
  exact ⟨_, by rw [Ideal.rsqrt_coe, if_neg (not_lt.mpr ha.le), if_neg ha.ne']⟩
theorem ite {p : Prop} [Decidable p] {x y : EReal} (hx : Re x) (hy : Re y) : Re (if p then x else y) := by split <;> assumption

end Re

theorem coe_sum {ι : Type} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

theorem re_inv : Re cInv := ⟨_, Cert.Norm.inv_eq⟩
theorem re_eps : Re cEps := ⟨(Ideal.ieee 8 23 0x358637BD#32).toReal, by simp [cEps, Ideal.ofBits, Ideal.ieee, -EReal.coe_mul]⟩

theorem re_mean {f : ℕ → EReal} (h : ∀ d < 1024, Re (f d)) : Re (mean f) := (Re.sum fun d hd => h d (Finset.mem_range.mp hd)).mul re_inv
theorem re_dotR {f : ℕ → EReal} {m : ℕ → ℕ → EReal} {d : ℕ} (h : ∀ x < 1024, Re (f x)) (hm : ∀ x < 1024, Re (m x d)) : Re (dotR f m d) :=
  Re.sum fun x hx => (h x (Finset.mem_range.mp hx)).mul (hm x (Finset.mem_range.mp hx))

/-- A mean of squares plus the constant is positive. -/
theorem mean_pos (f : ℕ → EReal) : 0 < mean (fun d => f d * f d) + cEps := by
  have := Cert.Norm.var_pos fun d : Fin 1024 => f d.val
  rw [Cert.Norm.var, ← Finset.sum_range (fun d => f d * f d)] at this
  exact this

/-- The weights are real numbers. -/
structure Wts.Real (w : Wts) : Prop where
  lng : ∀ d < 1024, Re (w.lng d)
  lnb : ∀ d < 1024, Re (w.lnb d)
  bao : ∀ d < 1024, Re (w.bao d)
  fng : ∀ d < 1024, Re (w.fng d)
  wA : ∀ i < 1024, ∀ d < 1024, Re (w.wA i d)
  wB : ∀ i < 1024, ∀ d < 1024, Re (w.wB i d)
  wO : ∀ i < 1024, ∀ d < 1024, Re (w.wO i d)
  wAt : ∀ i < 1024, ∀ d < 1024, Re (w.wAt i d)
  wBt : ∀ i < 1024, ∀ d < 1024, Re (w.wBt i d)
  wOt : ∀ i < 1024, ∀ d < 1024, Re (w.wOt i d)

/-- The row is a row of real numbers. -/
structure Row.Real (R : Row) : Prop where
  u : ∀ d < 1024, Re (R.u d)
  c : ∀ d < 1024, Re (R.c d)
  az : ∀ d < 1024, Re (R.az d)
  bz : ∀ d < 1024, Re (R.bz d)
  bb : ∀ d < 1024, Re (R.bb d)
  ga : ∀ d < 1024, Re (R.ga d)
  gb : ∀ d < 1024, Re (R.gb d)
  s0 : ∀ d < 1024, Re (R.s0 d)
  tg : ∀ d < 1024, Re (R.tg d)
  tok : Re R.tok

namespace Row.Real

variable {w : Wts} {R : Row} (hw : w.Real) (hR : R.Real)

include hR in
theorem xc : ∀ d < 1024, Re (R.xc d) := fun d hd => (hR.u d hd).sub (re_mean hR.u)
include hR in
theorem rstd : Re R.rstd := Re.rsqrt (mean_pos _) ((re_mean fun d hd => (hR.xc d hd).mul (hR.xc d hd)).add re_eps)
include hR in
theorem xhat : ∀ d < 1024, Re (R.xhat d) := fun d hd => (hR.xc d hd).mul hR.rstd
include hR in
theorem sz : ∀ d < 1024, Re (R.sz d) := fun d hd => (hR.az d hd).logistic
include hR in
theorem siluA : ∀ d < 1024, Re (R.siluA d) := fun d hd => (hR.az d hd).mul (hR.sz d hd)
include hR in
theorem sbz : ∀ d < 1024, Re (R.sbz d) := fun d hd => (hR.bz d hd).logistic
include hR in
theorem siluB : ∀ d < 1024, Re (R.siluB d) := fun d hd => (hR.bz d hd).mul (hR.sbz d hd)
include hR in
theorem ub : ∀ d < 1024, Re (R.ub d) := fun d hd => (hR.bb d hd).mul (hR.c d hd)
include hR in
theorem l1 : ∀ d < 1024, Re (R.l1 d) := fun d hd => (hR.ub d hd).mul (hR.siluB d hd)
include hR in
theorem sga : ∀ d < 1024, Re (R.sga d) := fun d hd => (hR.ga d hd).logistic
include hR in
theorem sgb : ∀ d < 1024, Re (R.sgb d) := fun d hd => (hR.gb d hd).logistic

include hw hR

theorem ua2 : ∀ d < 1024, Re (R.ua2 w d) := fun d hd => ((hR.xhat d hd).mul (hw.lng d hd)).add (hw.lnb d hd)
theorem sg2 : ∀ d < 1024, Re (R.sg2 w d) := fun d hd => (ua2 hw hR d hd).logistic
theorem ua3 : ∀ d < 1024, Re (R.ua3 w d) := fun d hd => (ua2 hw hR d hd).mul (sg2 hw hR d hd)
theorem l0 : ∀ d < 1024, Re (R.l0 w d) := fun d hd => (ua3 hw hR d hd).mul (hR.siluA d hd)
theorem ya : ∀ d < 1024, Re (R.ya w d) := fun d hd => (re_dotR (l0 hw hR) fun x hx => hw.wA x hx d hd).add (hw.bao d hd)
theorem yb : ∀ d < 1024, Re (R.yb w d) := fun d hd => re_dotR hR.l1 fun x hx => hw.wB x hx d hd
theorem l2 : ∀ d < 1024, Re (R.l2 w d) := fun d hd => ((hR.sga d hd).mul (ya hw hR d hd)).add ((hR.sgb d hd).mul (yb hw hR d hd))
theorem s1 : ∀ d < 1024, Re (R.s1 w d) := fun d hd => (hR.s0 d hd).add (re_dotR (l2 hw hR) fun x hx => hw.wO x hx d hd)
theorem r1 : Re (R.r1 w) := Re.rsqrt (mean_pos _) ((re_mean fun d hd => (s1 hw hR d hd).mul (s1 hw hR d hd)).add re_eps)
theorem err : ∀ d < 1024, Re (R.err w d) := fun d hd => ((((s1 hw hR d hd).mul (r1 hw hR)).mul (hw.fng d hd)).sub (hR.tg d hd)).mul hR.tok
theorem gy : ∀ d < 1024, Re (R.gy w d) := fun d hd => ((err hw hR d hd).mul re_inv).mul (hw.fng d hd)
theorem ds1 : ∀ d < 1024, Re (R.ds1 w d) := fun d hd => ((r1 hw hR).mul (gy hw hR d hd)).sub
  ((s1 hw hR d hd).mul ((((r1 hw hR).mul (r1 hw hR)).mul (r1 hw hR)).mul (re_mean fun x hx => (gy hw hR x hx).mul (s1 hw hR x hx))))
theorem dm : ∀ d < 1024, Re (R.dm w d) := fun d hd => re_dotR (ds1 hw hR) fun x hx => hw.wOt x hx d hd
theorem dya : ∀ d < 1024, Re (R.dya w d) := fun d hd => (dm hw hR d hd).mul (hR.sga d hd)
theorem dyb : ∀ d < 1024, Re (R.dyb w d) := fun d hd => (dm hw hR d hd).mul (hR.sgb d hd)
theorem dpa : ∀ d < 1024, Re (R.dpa w d) := fun d hd => re_dotR (dya hw hR) fun x hx => hw.wAt x hx d hd
theorem dpb : ∀ d < 1024, Re (R.dpb w d) := fun d hd => re_dotR (dyb hw hR) fun x hx => hw.wBt x hx d hd
theorem dua2 : ∀ d < 1024, Re (R.dua2 w d) := fun d hd => ((dpa hw hR d hd).mul (hR.siluA d hd)).mul
  ((sg2 hw hR d hd).add ((ua3 hw hR d hd).mul (Re.one.sub (sg2 hw hR d hd))))
theorem dxh : ∀ d < 1024, Re (R.dxh w d) := fun d hd => (dua2 hw hR d hd).mul (hw.lng d hd)

end Row.Real

/-- SiLU's gradient, as differentiation writes it and factored. -/
theorem silu_grad {X a s : EReal} (hX : Re X) (ha : Re a) (hs : Re s) : X * s + a * X * (s * (1 - s)) = X * (s + a * s * (1 - s)) := by
  obtain ⟨x, rfl⟩ := hX; obtain ⟨a, rfl⟩ := ha; obtain ⟨s, rfl⟩ := hs
  norm_cast; ring

/-- The layer norm's gradient of a row, as differentiation writes it and as the kernel does. -/
theorem ln_grad {w : Wts} {R : Row} (hw : w.Real) (hR : R.Real) (A : EReal) (d : Fin 1024)
    (hA : A = Ideal.div ((∑ i : Fin 1024, R.xc i.val * R.dxh w i.val) * (Ideal.ofBits .f32 0xBF000000#32 * (R.rstd * R.rstd * R.rstd))) (Ideal.ofBits .f32 0x44800000#32)) :
    R.dxh w d.val * R.rstd + A * (Ideal.ofBits .f32 0x40000000#32 * R.xc d.val)
      + Ideal.div ((∑ i : Fin 1024, -(R.dxh w i.val * R.rstd)) + ∑ i : Fin 1024, -(A * (Ideal.ofBits .f32 0x40000000#32 * R.xc i.val))) (Ideal.ofBits .f32 0x44800000#32)
      = R.dua1 w d.val := by
  have h2 : Ideal.ofBits .f32 0x40000000#32 = ((2 : ℝ) : EReal) := by simp [Ideal.ofBits, Ideal.ieee, -EReal.coe_mul]; norm_num
  rw [Cert.Norm.div_1024] at hA ⊢
  unfold Row.dua1 mean
  rw [Finset.sum_range, Finset.sum_range, h2, show cInv = Cert.Norm.inv from rfl, Cert.Norm.inv_eq]
  rw [Cert.Norm.neg_half_eq, Cert.Norm.inv_eq] at hA
  simp only [Row.xhat]
  have hx0 : ∑ i : Fin 1024, R.xc i.val = 0 := by
    choose! U hU using fun i : Fin 1024 => hR.u i.val i.2
    simp only [Row.xc, mean, Finset.sum_range, hU, show cInv = Cert.Norm.inv from rfl, Cert.Norm.inv_eq]
    simp only [← coe_sum, ← EReal.coe_mul, ← EReal.coe_sub]
    rw [← EReal.coe_zero]
    congr 1
    rw [Finset.sum_sub_distrib, Finset.sum_const, Finset.card_univ, Fintype.card_fin, nsmul_eq_mul]
    push_cast; ring
  obtain ⟨r, hr⟩ := hR.rstd
  choose! X hX using fun i : Fin 1024 => hR.xc i.val i.2
  choose! D hD using fun i : Fin 1024 => Row.Real.dxh hw hR i.val i.2
  simp only [hX, hD, hr] at hA hx0 ⊢
  simp only [← coe_sum, ← EReal.coe_mul] at hA
  simp only [← coe_sum] at hx0
  have hx : ∑ i, X i = 0 := by exact_mod_cast hx0
  rw [hA]
  simp only [← coe_sum, ← EReal.coe_mul, ← EReal.coe_neg, ← EReal.coe_add, ← EReal.coe_sub]
  congr 1
  have e1 : ∑ i, D i * (X i * r) = r * ∑ i, X i * D i := by rw [Finset.mul_sum]; exact Finset.sum_congr rfl fun _ _ => by ring
  have e2 : ∑ i, -(D i * r) = -r * ∑ i, D i := by rw [Finset.mul_sum]; exact Finset.sum_congr rfl fun _ _ => by ring
  have e3 : ∀ c : ℝ, ∑ i, -(c * (2 * X i)) = 0 := fun c => by
    rw [show (∑ i, -(c * (2 * X i))) = -c * 2 * ∑ i, X i by rw [Finset.mul_sum]; exact Finset.sum_congr rfl fun _ _ => by ring, hx, mul_zero]
  rw [e1, e2, e3]
  ring

end Cert.Kernel2Ideal.Fp

end
-- ==== Proof.Fp.Pre.lean ====
/- What `finite` says of the arguments: every element is a real number. -/
module

public import proofs.«01_k».proof.Defs
public import proofs.«01_k».proof.Proof.Gen.Pre_finite
public import proofs.«01_k».proof.Proof.Fp.Real
public import Idealize.ShloMosaic.Lib.ReduceAll
public import Idealize.ShloMosaic.Lib.WordCmp

@[expose] public section

set_option maxRecDepth 16384

noncomputable section

namespace Cert.Proof.Fp

open Idealize.ShloMosaic Cert.Pre_finite Cert.Kernel2Ideal.Fp

/-- An element whose absolute value lies below the printed infinity is a real number. -/
theorem re_of_lt {x : EReal} (h : Ideal.cmp .olt (max x (-x)) (Ideal.ofBits .f32 0x7F800000#32) = 1#1) : Re x := by
  have ht : Ideal.ofBits .f32 0x7F800000#32 = ⊤ := by simp [Ideal.ofBits, Ideal.ieee]
  rw [ht] at h
  have h' : max x (-x) < ⊤ := by
    by_contra hn
    have : Ideal.cmp .olt (max x (-x)) ⊤ = BitVec.ofBool (decide (max x (-x) < ⊤)) := rfl
    rw [this, decide_eq_false hn] at h
    exact absurd h (by decide)
  obtain ⟨h1, h2⟩ := max_lt_iff.mp h'
  induction x using EReal.rec with
  | bot => exact absurd h2 (by simp)
  | coe r => exact ⟨r, rfl⟩
  | top => exact absurd h1 (by simp)

/-- All elements' absolute values lie below the printed infinity: the array is real. -/
theorem re_of_all {s : Shape} {axes : List (Fin s.rank)} (x : FVec Ideal s .f32) (hb : S_.BroadcastsInDim s ![]) (hr : s.ReducesTo axes S_) (h0 : 0 < S_.numel) (j : S_.Idx)
    (e : Host.reduce IntOp.andi (cmpf .olt (Host.absf x) (broadcastInDim s ![] hb (constant S_ .f32 0x7F800000#32))) (constantI S_ 1 1#1) hr h0 j = 1#1) (i : s.Idx) : Re (x i) := by
  haveI : Subsingleton S_.Idx := ⟨fun a b => funext fun k => k.elim0⟩
  exact re_of_lt (Host.reduce_andi_all _ _ _ _ _ e i)

theorem andi_one {a b : BitVec 1} (h : IntOp.andi a b = 1#1) : a = 1#1 ∧ b = 1#1 := by
  revert a b; decide

/-- `finite` makes every argument real. -/
theorem finite_re [Cert.Pre_finite.Facts] (x0 : FVec Ideal S1x4096x1024 .f32) (x1 : FVec Ideal S16x1024 .f32) (x2 : FVec Ideal S1x1024 .f32) (x3 : FVec Ideal S1x1024x9216 .f32) (x4 : FVec Ideal S1x31x1024 .f32) (x5 : FVec Ideal S1x1024 .f32) (x6 : FVec Ideal S1x1024 .f32) (x7 : FVec Ideal S1x1024 .f32) (x8 : FVec Ideal S1x1024x1024 .f32) (x9 : FVec Ideal S1x1024 .f32) (x10 : FVec Ideal S1x3x1024 .f32) (x11 : FVec Ideal S1x1024x1024 .f32) (x12 : FVec Ideal S1x1024x1024 .f32) (x13 : FVec Ideal S1024 .f32) (x14 : FVec Ideal S1x4096x1024 .f32) (h : Cert.Pre_finite.fn (F := Ideal) x0 x1 x2 x3 x4 x5 x6 x7 x8 x9 x10 x11 x12 x13 x14 = fun _ => 1#1) :
    (∀ i, Re (x0 i)) ∧ (∀ i, Re (x1 i)) ∧ (∀ i, Re (x2 i)) ∧ (∀ i, Re (x3 i)) ∧ (∀ i, Re (x4 i)) ∧ (∀ i, Re (x5 i)) ∧ (∀ i, Re (x6 i)) ∧ (∀ i, Re (x7 i)) ∧ (∀ i, Re (x8 i)) ∧ (∀ i, Re (x9 i)) ∧ (∀ i, Re (x10 i)) ∧ (∀ i, Re (x11 i)) ∧ (∀ i, Re (x12 i)) ∧ (∀ i, Re (x13 i)) ∧ (∀ i, Re (x14 i)) := by
  have j : S_.Idx := fun a => a.elim0
  have e := congrFun h j
  dsimp only [Cert.Pre_finite.fn, Cert.Pre_finite.fn_part1, Cert.Pre_finite.fn_part2, Cert.Pre_finite.fn_part3, Cert.Pre_finite.fn_part4] at e
  have k14 := re_of_all x14 _ _ _ j (andi_one e).2
  replace e := (andi_one e).1
  have k13 := re_of_all x13 _ _ _ j (andi_one e).2
  replace e := (andi_one e).1
  have k12 := re_of_all x12 _ _ _ j (andi_one e).2
  replace e := (andi_one e).1
  have k11 := re_of_all x11 _ _ _ j (andi_one e).2
  replace e := (andi_one e).1
  have k10 := re_of_all x10 _ _ _ j (andi_one e).2
  replace e := (andi_one e).1
  have k9 := re_of_all x9 _ _ _ j (andi_one e).2
  replace e := (andi_one e).1
  have k8 := re_of_all x8 _ _ _ j (andi_one e).2
  replace e := (andi_one e).1
  have k7 := re_of_all x7 _ _ _ j (andi_one e).2
  replace e := (andi_one e).1
  have k6 := re_of_all x6 _ _ _ j (andi_one e).2
  replace e := (andi_one e).1
  have k5 := re_of_all x5 _ _ _ j (andi_one e).2
  replace e := (andi_one e).1
  have k4 := re_of_all x4 _ _ _ j (andi_one e).2
  replace e := (andi_one e).1
  have k3 := re_of_all x3 _ _ _ j (andi_one e).2
  replace e := (andi_one e).1
  have k2 := re_of_all x2 _ _ _ j (andi_one e).2
  replace e := (andi_one e).1
  have k1 := re_of_all x1 _ _ _ j (andi_one e).2
  replace e := (andi_one e).1
  exact ⟨re_of_all x0 _ _ _ j e, k1, k2, k3, k4, k5, k6, k7, k8, k9, k10, k11, k12, k13, k14⟩

end Cert.Proof.Fp

end
-- ==== Proof.Fp.Conv.lean ====
/- The forward convolutions of a tile, channel block by channel block. -/
module

public import proofs.«01_k».proof.Proof.Fp.At
public import proofs.«01_k».proof.Proof.Fp.Any

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open Idealize.SL.BI.BIBase Idealize.SL.Sem
open Cert.Kernel2Ideal.Gen

variable (c : Dev nD) (A : Refs) (X : Ins Ideal)

theorem off2_at : ∀ (i : grid0.Coords) (k : Fin k0_t1_loop.trips), k0_off2 i k = ![1 - (i 0).val % 2, 128, 128 * k.val] := by decide +kernel
theorem off3_at : ∀ (i : grid0.Coords) (k : Fin k0_t1_loop.trips), k0_off3 i k = ![(i 0).val % 2, 0, 128 * k.val] := by decide +kernel
theorem off4_at : ∀ (i : grid0.Coords) (k : Fin k0_t1_loop.trips), k0_off4 i k = ![(i 0).val % 2, 32, 128 * k.val] := by decide +kernel
theorem off6_at : ∀ (i : grid0.Coords) (k : Fin k0_t1_loop.trips), k0_off6 i k = ![(i 0).val % 2, 8, 128 * k.val] := by decide +kernel
theorem off8_at : ∀ (i : grid0.Coords) (k : Fin k0_t1_loop.trips), k0_off8 i k = ![(i 0).val % 2, 16, 128 * k.val] := by decide +kernel
theorem off10_at : ∀ (i : grid0.Coords) (k : Fin k0_t1_loop.trips), k0_off10 i k = ![(i 0).val % 2, 24, 128 * k.val] := by decide +kernel
theorem off13_at : ∀ (i : grid0.Coords) (k : Fin k0_t1_loop.trips), k0_off13 i k = ![(i 0).val % 2, 1, 128 * k.val] := by decide +kernel
theorem off17_at : ∀ (i : grid0.Coords) (k : Fin k0_t1_loop.trips), k0_off17 i k = ![(i 0).val % 2, 2, 128 * k.val] := by decide +kernel
theorem off22_at : ∀ (i : grid0.Coords) (k : Fin k0_t1_loop.trips), k0_off22 i k = ![(i 0).val % 2, 3, 128 * k.val] := by decide +kernel
theorem off27_at : ∀ (i : grid0.Coords) (k : Fin k0_t1_loop.trips), k0_off27 i k = ![(i 0).val % 2, 4, 128 * k.val] := by decide +kernel
theorem off32_at : ∀ (i : grid0.Coords) (k : Fin k0_t1_loop.trips), k0_off32 i k = ![(i 0).val % 2, 5, 128 * k.val] := by decide +kernel
theorem off37_at : ∀ (i : grid0.Coords) (k : Fin k0_t1_loop.trips), k0_off37 i k = ![(i 0).val % 2, 6, 128 * k.val] := by decide +kernel
theorem off42_at : ∀ (i : grid0.Coords) (k : Fin k0_t1_loop.trips), k0_off42 i k = ![(i 0).val % 2, 7, 128 * k.val] := by decide +kernel
theorem off48_at : ∀ (i : grid0.Coords) (k : Fin k0_t1_loop.trips), k0_off48 i k = ![1 - (i 0).val % 2, 128, 128 * k.val] := by decide +kernel
theorem off49_at : ∀ (i : grid0.Coords) (k : Fin k0_t1_loop.trips), k0_off49 i k = ![(i 0).val % 2, 0, 128 * k.val] := by decide +kernel
theorem off50_at : ∀ (i : grid0.Coords) (k : Fin k0_t1_loop.trips), k0_off50 i k = ![(i 0).val % 2, 8, 128 * k.val] := by decide +kernel
theorem off52_at : ∀ (i : grid0.Coords) (k : Fin k0_t1_loop.trips), k0_off52 i k = ![(i 0).val % 2, 6, 128 * k.val] := by decide +kernel
theorem off54_at : ∀ (i : grid0.Coords) (k : Fin k0_t1_loop.trips), k0_off54 i k = ![(i 0).val % 2, 7, 128 * k.val] := by decide +kernel
theorem off1a_at : ∀ (k : Fin k0_t1_loop.trips), k0_off1 k 0#32 = ![0, 128 * k.val] := by decide +kernel
theorem off1b_at : ∀ (k : Fin k0_t1_loop.trips), k0_off1 k 1024#32 = ![0, 1024 + 128 * k.val] := by decide +kernel
theorem off1c_at : ∀ (k : Fin k0_t1_loop.trips), k0_off1 k 4096#32 = ![0, 4096 + 128 * k.val] := by decide +kernel
theorem off1d_at : ∀ (k : Fin k0_t1_loop.trips), k0_off1 k 5120#32 = ![0, 5120 + 128 * k.val] := by decide +kernel

section Pieces

variable {α : Type} [Nonempty α]

/-- A window read from a buffer of known contents. -/
theorem E_load {b d q m : ℕ} {n0 n1 n2 : ℕ} {u : (⟨3, ![n0, n1, n2]⟩ : Shape).Idx → α} {N : ℕ} {e : ℕ → ℕ → α}
    (hE : ∀ j l, j < N → l < 128 → at3 u b j (d + l) = e j (d + l)) {v : (⟨3, ![1, m, 128]⟩ : Shape).Idx → α} {off : Fin 3 → ℕ}
    (hv : ∀ x y z, v (ix3 x y z) = at3 u (off 0 + x.val) (off 1 + y.val) (off 2 + z.val)) (ho : off = ![b, q, d]) (hq : q + m ≤ N)
    (r : Fin m) (l : Fin 128) : v (ix3 0 r l) = e (q + r.val) (d + l.val) := by
  subst ho
  exact (hv 0 r l).trans (hE (q + r.val) l.val (by omega) l.2)

/-- A window read back from a slab just written. -/
theorem E_shift {p q t d m : ℕ} {n0 n1 : ℕ} {sh sh' : (⟨3, ![n0, n1, 128]⟩ : Shape).Idx → α} {off : Fin 3 → ℕ} {w : (⟨3, ![1, m, 128]⟩ : Shape).Idx → α}
    {e : ℕ → ℕ → α}
    (hs : ∀ a b c, at3 sh a b c = if (off 0 ≤ a ∧ a < off 0 + 1) ∧ (off 1 ≤ b ∧ b < off 1 + m) ∧ off 2 ≤ c ∧ c < off 2 + 128
      then at3 w (a - off 0) (b - off 1) (c - off 2) else at3 sh' a b c) (ho : off = ![p, 0, 0])
    (hw : ∀ (y : Fin m) (z : Fin 128), w (ix3 0 y z) = e (p + y.val) (d + z.val))
    {v : (⟨3, ![1, 128, 128]⟩ : Shape).Idx → α} {off' : Fin 3 → ℕ}
    (hv : ∀ x y z, v (ix3 x y z) = at3 sh (off' 0 + x.val) (off' 1 + y.val) (off' 2 + z.val)) (ho' : off' = ![p, q, 0]) (hq : q + 128 ≤ m) (ht : p + q = t)
    (r l : Fin 128) : v (ix3 0 r l) = e (t + r.val) (d + l.val) := by
  subst ho ho' ht
  refine (hv 0 r l).trans ((hs _ _ _).trans ?_)
  have e : (p ≤ p + (0 : Fin 1).val ∧ p + (0 : Fin 1).val < p + 1) ∧ (0 ≤ q + r.val ∧ q + r.val < 0 + m) ∧ 0 ≤ 0 + l.val ∧ 0 + l.val < 0 + 128 := by
    simp only [Fin.val_zero]; omega
  refine (if_pos e).trans ?_
  show at3 w (p + 0 - p) (q + r.val - 0) (0 + l.val - 0) = _
  rw [at3_of w (by omega) (by omega) (by omega)]
  refine (congrArg w ?_).trans ((hw ⟨q + r.val, by omega⟩ l).trans (by rw [Nat.add_assoc]))
  congr 1
  · exact Fin.ext (by simp)
  · exact Fin.ext (by simp)

/-- A row read from an array. -/
theorem W_load {n0 n1 m p d : ℕ} {x : (⟨2, ![n0, n1]⟩ : Shape).Idx → α} {v : (⟨2, ![1, m]⟩ : Shape).Idx → α} {off : Fin 2 → ℕ}
    (hv : ∀ y z, v (ix2 y z) = at2 x (off 0 + y.val) (off 1 + z.val)) (ho : off = ![p, d]) (l : Fin m) : v (ix2 0 l) = at2 x p (d + l.val) := by
  subst ho
  exact hv 0 l

/-- A block read from an array. -/
theorem B_load {n0 n1 m0 m1 p d : ℕ} {x : (⟨2, ![n0, n1]⟩ : Shape).Idx → α} {v : (⟨2, ![m0, m1]⟩ : Shape).Idx → α} {off : Fin 2 → ℕ}
    (hv : ∀ y z, v (ix2 y z) = at2 x (off 0 + y.val) (off 1 + z.val)) (ho : off = ![p, d]) (r : Fin m0) (l : Fin m1) : v (ix2 r l) = at2 x (p + r.val) (d + l.val) := by
  subst ho
  exact hv r l

end Pieces

/-- The rows the first convolution runs over, as shifted rows: the history `H`, then the gated inputs of the tile. -/
def eU (H : ℕ → ℕ → EReal) (j d : ℕ) : EReal :=
  if j < 32 then H j d else at2 X.proj (j - 32) d * Ideal.logistic (at2 X.proj (j - 32) (1024 + d))

/-- The rows the second convolution runs over, as shifted rows. -/
def eV (H : ℕ → ℕ → EReal) (j d : ℕ) : EReal :=
  if j < 8 then H j d else at2 X.proj (j - 8) (4096 + d) * at2 X.proj (j - 8) (5120 + d)

/-- The first convolution's row `r`. -/
def convU (H : ℕ → ℕ → EReal) (r d : ℕ) : EReal :=
  at2 X.cab 0 d + ∑ k ∈ Finset.range 31, at2 X.caw k d * eU X H ((k + 2) + r) d

/-- The second convolution's row `r`. -/
def convV (H : ℕ → ℕ → EReal) (r d : ℕ) : EReal :=
  ∑ k ∈ Finset.range 3, at2 X.cbw k d * eV X H ((k + 6) + r) d

/-- The buffers written by the loop, columns `lo ≤ d < hi` new, the rest as before. -/
def ConvStep (b lo hi : ℕ) (HU HV : ℕ → ℕ → EReal) (s s' : St Ideal) : Prop :=
  (∃ ua0 cb ua1 c3 shift, s' = { s with ua0 := ua0, cb := cb, ua1 := ua1, c3 := c3, shift := shift })
  ∧ (∀ a j d, at3 s'.ua0 a j d = if a = b ∧ j < 160 ∧ lo ≤ d ∧ d < hi then eU X HU j d else at3 s.ua0 a j d)
  ∧ (∀ a j d, at3 s'.cb a j d = if a = b ∧ j < 136 ∧ lo ≤ d ∧ d < hi then eV X HV j d else at3 s.cb a j d)
  ∧ (∀ r d, at2 s'.ua1 r d = if r < 128 ∧ lo ≤ d ∧ d < hi then convU X HU r d else at2 s.ua1 r d)
  ∧ (∀ r d, at2 s'.c3 r d = if r < 128 ∧ lo ≤ d ∧ d < hi then convV X HV r d else at2 s.c3 r d)

/-- A block of 128 columns written into an array of 128 rows. -/
theorem one_put {n0 n1 d : ℕ} {u u1 : (⟨2, ![n0, n1]⟩ : Shape).Idx → EReal} {o1 : Fin 2 → ℕ} {w1 : (⟨2, ![128, 128]⟩ : Shape).Idx → EReal} {e : ℕ → ℕ → EReal}
    (h1 : o1 = ![0, d]) (e1 : ∀ (y z : Fin 128), w1 (ix2 y z) = e y.val (d + z.val))
    (p1 : ∀ a b, at2 u1 a b = if (o1 0 ≤ a ∧ a < o1 0 + 128) ∧ o1 1 ≤ b ∧ b < o1 1 + 128 then at2 w1 (a - o1 0) (b - o1 1) else at2 u a b) (j x : ℕ) :
    at2 u1 j x = if j < 128 ∧ d ≤ x ∧ x < d + 128 then e j x else at2 u j x := by
  subst h1
  refine (p1 _ _).trans ?_
  by_cases c1 : (0 ≤ j ∧ j < 0 + 128) ∧ d ≤ x ∧ x < d + 128
  · refine (if_pos c1).trans ?_
    show at2 w1 (j - 0) (x - d) = _
    rw [if_pos (by omega), at2_of w1 (by omega) (by omega)]
    refine (e1 ⟨j - 0, by omega⟩ ⟨x - d, by omega⟩).trans ?_
    simp only
    rw [Nat.sub_zero, show d + (x - d) = x by omega]
  · refine (if_neg c1).trans ?_
    rw [if_neg (by omega)]

/-- A slab written in two steps, rows below `h` and then the rest. -/
theorem two_puts {n0 n1 n2 h m b d : ℕ} {u u1 u2 : (⟨3, ![n0, n1, n2]⟩ : Shape).Idx → EReal} {o1 o2 : Fin 3 → ℕ}
    {w1 : (⟨3, ![1, h, 128]⟩ : Shape).Idx → EReal} {w2 : (⟨3, ![1, m, 128]⟩ : Shape).Idx → EReal} {e : ℕ → ℕ → EReal}
    (h1 : o1 = ![b, 0, d]) (h2 : o2 = ![b, h, d])
    (e1 : ∀ (y : Fin h) (z : Fin 128), w1 (ix3 0 y z) = e y.val (d + z.val)) (e2 : ∀ (y : Fin m) (z : Fin 128), w2 (ix3 0 y z) = e (h + y.val) (d + z.val))
    (p1 : ∀ a b c, at3 u1 a b c = if (o1 0 ≤ a ∧ a < o1 0 + 1) ∧ (o1 1 ≤ b ∧ b < o1 1 + h) ∧ o1 2 ≤ c ∧ c < o1 2 + 128
      then at3 w1 (a - o1 0) (b - o1 1) (c - o1 2) else at3 u a b c)
    (p2 : ∀ a b c, at3 u2 a b c = if (o2 0 ≤ a ∧ a < o2 0 + 1) ∧ (o2 1 ≤ b ∧ b < o2 1 + m) ∧ o2 2 ≤ c ∧ c < o2 2 + 128
      then at3 w2 (a - o2 0) (b - o2 1) (c - o2 2) else at3 u1 a b c) (a j x : ℕ) :
    at3 u2 a j x = if a = b ∧ j < h + m ∧ d ≤ x ∧ x < d + 128 then e j x else at3 u a j x := by
  subst h1 h2
  refine (p2 _ _ _).trans ?_
  by_cases c2 : (b ≤ a ∧ a < b + 1) ∧ (h ≤ j ∧ j < h + m) ∧ d ≤ x ∧ x < d + 128
  · refine (if_pos c2).trans ?_
    show at3 w2 (a - b) (j - h) (x - d) = _
    rw [if_pos (by omega), at3_of w2 (by omega) (by omega) (by omega)]
    obtain rfl : a = b := by omega
    refine (congrArg w2 ?_).trans ((e2 ⟨j - h, by omega⟩ ⟨x - d, by omega⟩).trans ?_)
    · congr 1
      exact Fin.ext (by simp)
    · simp only
      rw [show h + (j - h) = j by omega, show d + (x - d) = x by omega]
  · refine (if_neg c2).trans ((p1 _ _ _).trans ?_)
    by_cases c1 : (b ≤ a ∧ a < b + 1) ∧ (0 ≤ j ∧ j < 0 + h) ∧ d ≤ x ∧ x < d + 128
    · refine (if_pos c1).trans ?_
      show at3 w1 (a - b) (j - 0) (x - d) = _
      rw [if_pos (by omega), at3_of w1 (by omega) (by omega) (by omega)]
      obtain rfl : a = b := by omega
      refine (congrArg w1 ?_).trans ((e1 ⟨j, by omega⟩ ⟨x - d, by omega⟩).trans ?_)
      · congr 1
        exact Fin.ext (by simp)
      · simp only
        rw [show d + (x - d) = x by omega]
    · refine (if_neg c1).trans ?_
      rw [if_neg (by omega)]

set_option maxHeartbeats 4000000 in
/-- One turn of the loop: the block's rows of both convolution inputs, and both convolutions. -/
theorem trip (i : grid0.Coords) (v9 v20 : BitVec 32) (h3 : k0_cond3 i = 1#1) (k : Fin k0_t1_loop.trips) (s : St Ideal) (H HV : ℕ → ℕ → EReal)
    (hH : ∀ j l, j < 32 → l < 128 → at3 s.ua0 (1 - (i 0).val % 2) (128 + j) (128 * k.val + l) = H j (128 * k.val + l))
    (hHV : ∀ j l, j < 8 → l < 128 → at3 s.cb (1 - (i 0).val % 2) (128 + j) (128 * k.val + l) = HV j (128 * k.val + l)) :
    W c (Own c A X) (k0_t1_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 v9 v20 h3 k ⟨⟩) s fun _ s' => ConvStep X ((i 0).val % 2) (128 * k.val) (128 * k.val + 128) H HV s s' := by
  unfold k0_t1_body
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  apply W.bind
  apply W.bind; apply W.load2; intro v421 h421
  apply W.bind; apply W.load2; intro v427 h427
  apply W.bind; apply W.load3; intro v433 h433
  apply W.bind; apply W.load3; intro v437 h437
  apply W.bind; apply W.store3; intro ua01 hua01
  apply W.bind; apply W.load3; intro v442 h442
  apply W.bind; apply W.store3; intro ua02 hua02
  apply W.bind; apply W.load2; intro v446 h446
  apply W.bind; apply W.load3; intro v451 h451
  apply W.bind; apply W.load2; intro v454 h454
  apply W.pure
  apply W.bind
  apply W.bind; apply W.load3; intro v461 h461
  apply W.bind; apply W.load2; intro v464 h464
  apply W.bind; apply W.load3; intro v471 h471
  apply W.bind; apply W.load2; intro v474 h474
  apply W.bind; apply W.load3; intro v481 h481
  apply W.bind; apply W.load2; intro v484 h484
  apply W.bind; apply W.load3; intro v491 h491
  apply W.bind; apply W.load3; intro v493 h493
  apply W.bind; apply W.store3; intro sh1 hsh1
  apply W.bind; apply W.load3; intro v496 h496
  apply W.bind; apply W.load2; intro v499 h499
  apply W.pure
  apply W.bind
  apply W.bind; apply W.load3; intro v504 h504
  apply W.bind; apply W.load2; intro v507 h507
  apply W.bind; apply W.load3; intro v512 h512
  apply W.bind; apply W.load2; intro v515 h515
  apply W.bind; apply W.load3; intro v522 h522
  apply W.bind; apply W.load3; intro v524 h524
  apply W.bind; apply W.store3; intro sh2 hsh2
  apply W.bind; apply W.load3; intro v527 h527
  apply W.bind; apply W.load2; intro v530 h530
  apply W.bind; apply W.load3; intro v535 h535
  apply W.bind; apply W.load2; intro v538 h538
  apply W.pure
  apply W.bind
  apply W.bind; apply W.load3; intro v543 h543
  apply W.bind; apply W.load2; intro v546 h546
  apply W.bind; apply W.load3; intro v551 h551
  apply W.bind; apply W.load2; intro v554 h554
  apply W.bind; apply W.load3; intro v561 h561
  apply W.bind; apply W.load3; intro v563 h563
  apply W.bind; apply W.store3; intro sh3 hsh3
  apply W.bind; apply W.load3; intro v566 h566
  apply W.bind; apply W.load2; intro v569 h569
  apply W.bind; apply W.load3; intro v574 h574
  apply W.bind; apply W.load2; intro v577 h577
  apply W.pure
  apply W.bind
  apply W.bind; apply W.load3; intro v582 h582
  apply W.bind; apply W.load2; intro v585 h585
  apply W.bind; apply W.load3; intro v590 h590
  apply W.bind; apply W.load2; intro v593 h593
  apply W.bind; apply W.load3; intro v600 h600
  apply W.bind; apply W.load3; intro v602 h602
  apply W.bind; apply W.store3; intro sh4 hsh4
  apply W.bind; apply W.load3; intro v605 h605
  apply W.bind; apply W.load2; intro v608 h608
  apply W.bind; apply W.load3; intro v613 h613
  apply W.bind; apply W.load2; intro v616 h616
  apply W.pure
  apply W.bind
  apply W.bind; apply W.load3; intro v621 h621
  apply W.bind; apply W.load2; intro v624 h624
  apply W.bind; apply W.load3; intro v629 h629
  apply W.bind; apply W.load2; intro v632 h632
  apply W.bind; apply W.load3; intro v639 h639
  apply W.bind; apply W.load3; intro v641 h641
  apply W.bind; apply W.store3; intro sh5 hsh5
  apply W.bind; apply W.load3; intro v644 h644
  apply W.bind; apply W.load2; intro v647 h647
  apply W.bind; apply W.load3; intro v652 h652
  apply W.bind; apply W.load2; intro v655 h655
  apply W.pure
  apply W.bind
  apply W.bind; apply W.load3; intro v660 h660
  apply W.bind; apply W.load2; intro v663 h663
  apply W.bind; apply W.load3; intro v668 h668
  apply W.bind; apply W.load2; intro v671 h671
  apply W.bind; apply W.load3; intro v678 h678
  apply W.bind; apply W.load3; intro v680 h680
  apply W.bind; apply W.store3; intro sh6 hsh6
  apply W.bind; apply W.load3; intro v683 h683
  apply W.bind; apply W.load2; intro v686 h686
  apply W.bind; apply W.load3; intro v691 h691
  apply W.bind; apply W.load2; intro v694 h694
  apply W.pure
  apply W.bind
  apply W.bind; apply W.load3; intro v699 h699
  apply W.bind; apply W.load2; intro v702 h702
  apply W.bind; apply W.load3; intro v707 h707
  apply W.bind; apply W.load2; intro v710 h710
  apply W.bind; apply W.load3; intro v717 h717
  apply W.bind; apply W.load3; intro v719 h719
  apply W.bind; apply W.store3; intro sh7 hsh7
  apply W.bind; apply W.load3; intro v722 h722
  apply W.bind; apply W.load2; intro v725 h725
  apply W.bind; apply W.load3; intro v730 h730
  apply W.bind; apply W.load2; intro v733 h733
  apply W.pure
  apply W.bind
  apply W.bind; apply W.load3; intro v738 h738
  apply W.bind; apply W.load2; intro v741 h741
  apply W.bind; apply W.load3; intro v746 h746
  apply W.bind; apply W.load2; intro v749 h749
  apply W.bind; apply W.load2; intro v755 h755
  apply W.bind; apply W.store2; intro ua11 hua11
  apply W.bind; apply W.load2; intro v762 h762
  apply W.bind; apply W.load2; intro v768 h768
  apply W.bind; apply W.load3; intro v773 h773
  apply W.bind; apply W.load3; intro v777 h777
  apply W.pure
  apply W.bind; apply W.store3; intro cb1 hcb1
  apply W.bind; apply W.load3; intro v782 h782
  apply W.bind; apply W.store3; intro cb2 hcb2
  apply W.bind; apply W.load2; intro v786 h786
  apply W.bind; apply W.load3; intro v790 h790
  apply W.bind; apply W.load2; intro v795 h795
  apply W.bind; apply W.load3; intro v799 h799
  apply W.bind; apply W.load2; intro v805 h805
  apply W.bind; apply W.load3; intro v809 h809
  apply W.bind; apply W.load2; intro v815 h815
  apply W.bind; apply W.store2; intro c31 hc31
  apply W.pure
  simp only [ReadSlot.get, Slot.get, Slot.set] at *
  have hk : k.val < 8 := k.2
  have e433 : ∀ (y : Fin 32) (z : Fin 128), k0_pay6 v433 (ix3 0 y z) = eU X H y.val (128 * k.val + z.val) := fun y z => by
    rw [show k0_pay6 v433 (ix3 0 y z) = v433 (ix3 0 y z) by pointwise [k0_pay6], h433, off2_at]
    unfold eU
    rw [if_pos y.2]
    exact hH y.val z.val y.2 z.2
  have e421 := B_load h421 (off1a_at k)
  have e427 := B_load h427 (off1b_at k)
  have e430 : ∀ (y z : Fin 128), k0_pay7 v421 v427 (ix3 0 y z) = eU X H (32 + y.val) (128 * k.val + z.val) := fun y z => by
    rw [show k0_pay7 v421 v427 (ix3 0 y z) = v421 (ix2 y z) * Ideal.logistic (v427 (ix2 y z)) by pointwise [k0_pay7], e421, e427]
    unfold eU
    rw [if_neg (by omega), Nat.add_sub_cancel_left, Nat.zero_add, Nat.add_assoc]
  have hU : ∀ a j d, at3 ua02 a j d = if a = (i 0).val % 2 ∧ j < 160 ∧ 128 * k.val ≤ d ∧ d < 128 * k.val + 128 then eU X H j d else at3 s.ua0 a j d :=
    two_puts (off3_at i k) (off4_at i k) e433 e430 hua01 hua02
  have hE : ∀ j l, j < 160 → l < 128 → at3 ua02 ((i 0).val % 2) j (128 * k.val + l) = eU X H j (128 * k.val + l) := fun j l hj hl => by
    rw [hU, if_pos ⟨rfl, hj, by omega, by omega⟩]
  have e446 := W_load (p := 0) h446 (k0_off5_eq k)
  have e451 := E_load (q := 8) hE h451 (off6_at i k) (by omega)
  have e454 := W_load (p := 6) h454 (k0_off7_eq k)
  have e461 := E_load (q := 16) hE h461 (off8_at i k) (by omega)
  have e464 := W_load (p := 14) h464 (k0_off9_eq k)
  have e471 := E_load (q := 24) hE h471 (off10_at i k) (by omega)
  have e474 := W_load (p := 22) h474 (k0_off11_eq k)
  have e481 := E_load (q := 32) hE h481 (off4_at i k) (by omega)
  have e484 := W_load (p := 30) h484 (k0_off12_eq k)
  have e491 := E_load (q := 1) hE h491 (off13_at i k) (by omega)
  have w491 : ∀ (y : Fin 152) (z : Fin 128), k0_pay9 v491 (ix3 0 y z) = eU X H (1 + y.val) (128 * k.val + z.val) := fun y z => (show k0_pay9 v491 (ix3 0 y z) = v491 (ix3 0 y z) by pointwise [k0_pay9]).trans (e491 y z)
  have e496 := E_shift (p := 1) (q := 8) (t := 9) hsh1 rfl w491 h496 rfl (by omega) (by omega)
  have e499 := W_load (p := 7) h499 (k0_off14_eq k)
  have e504 := E_shift (p := 1) (q := 16) (t := 17) hsh1 rfl w491 h504 rfl (by omega) (by omega)
  have e507 := W_load (p := 15) h507 (k0_off15_eq k)
  have e512 := E_shift (p := 1) (q := 24) (t := 25) hsh1 rfl w491 h512 rfl (by omega) (by omega)
  have e515 := W_load (p := 23) h515 (k0_off16_eq k)
  have e522 := E_load (q := 2) hE h522 (off17_at i k) (by omega)
  have w522 : ∀ (y : Fin 152) (z : Fin 128), k0_pay11 v522 (ix3 0 y z) = eU X H (2 + y.val) (128 * k.val + z.val) := fun y z => (show k0_pay11 v522 (ix3 0 y z) = v522 (ix3 0 y z) by pointwise [k0_pay11]).trans (e522 y z)
  have e527 := E_shift (p := 2) (q := 0) (t := 2) hsh2 rfl w522 h527 rfl (by omega) (by omega)
  have e530 := W_load (p := 0) h530 (k0_off18_eq k)
  have e535 := E_shift (p := 2) (q := 8) (t := 10) hsh2 rfl w522 h535 rfl (by omega) (by omega)
  have e538 := W_load (p := 8) h538 (k0_off19_eq k)
  have e543 := E_shift (p := 2) (q := 16) (t := 18) hsh2 rfl w522 h543 rfl (by omega) (by omega)
  have e546 := W_load (p := 16) h546 (k0_off20_eq k)
  have e551 := E_shift (p := 2) (q := 24) (t := 26) hsh2 rfl w522 h551 rfl (by omega) (by omega)
  have e554 := W_load (p := 24) h554 (k0_off21_eq k)
  have e561 := E_load (q := 3) hE h561 (off22_at i k) (by omega)
  have w561 : ∀ (y : Fin 152) (z : Fin 128), k0_pay13 v561 (ix3 0 y z) = eU X H (3 + y.val) (128 * k.val + z.val) := fun y z => (show k0_pay13 v561 (ix3 0 y z) = v561 (ix3 0 y z) by pointwise [k0_pay13]).trans (e561 y z)
  have e566 := E_shift (p := 3) (q := 0) (t := 3) hsh3 rfl w561 h566 rfl (by omega) (by omega)
  have e569 := W_load (p := 1) h569 (k0_off23_eq k)
  have e574 := E_shift (p := 3) (q := 8) (t := 11) hsh3 rfl w561 h574 rfl (by omega) (by omega)
  have e577 := W_load (p := 9) h577 (k0_off24_eq k)
  have e582 := E_shift (p := 3) (q := 16) (t := 19) hsh3 rfl w561 h582 rfl (by omega) (by omega)
  have e585 := W_load (p := 17) h585 (k0_off25_eq k)
  have e590 := E_shift (p := 3) (q := 24) (t := 27) hsh3 rfl w561 h590 rfl (by omega) (by omega)
  have e593 := W_load (p := 25) h593 (k0_off26_eq k)
  have e600 := E_load (q := 4) hE h600 (off27_at i k) (by omega)
  have w600 : ∀ (y : Fin 152) (z : Fin 128), k0_pay15 v600 (ix3 0 y z) = eU X H (4 + y.val) (128 * k.val + z.val) := fun y z => (show k0_pay15 v600 (ix3 0 y z) = v600 (ix3 0 y z) by pointwise [k0_pay15]).trans (e600 y z)
  have e605 := E_shift (p := 4) (q := 0) (t := 4) hsh4 rfl w600 h605 rfl (by omega) (by omega)
  have e608 := W_load (p := 2) h608 (k0_off28_eq k)
  have e613 := E_shift (p := 4) (q := 8) (t := 12) hsh4 rfl w600 h613 rfl (by omega) (by omega)
  have e616 := W_load (p := 10) h616 (k0_off29_eq k)
  have e621 := E_shift (p := 4) (q := 16) (t := 20) hsh4 rfl w600 h621 rfl (by omega) (by omega)
  have e624 := W_load (p := 18) h624 (k0_off30_eq k)
  have e629 := E_shift (p := 4) (q := 24) (t := 28) hsh4 rfl w600 h629 rfl (by omega) (by omega)
  have e632 := W_load (p := 26) h632 (k0_off31_eq k)
  have e639 := E_load (q := 5) hE h639 (off32_at i k) (by omega)
  have w639 : ∀ (y : Fin 152) (z : Fin 128), k0_pay17 v639 (ix3 0 y z) = eU X H (5 + y.val) (128 * k.val + z.val) := fun y z => (show k0_pay17 v639 (ix3 0 y z) = v639 (ix3 0 y z) by pointwise [k0_pay17]).trans (e639 y z)
  have e644 := E_shift (p := 5) (q := 0) (t := 5) hsh5 rfl w639 h644 rfl (by omega) (by omega)
  have e647 := W_load (p := 3) h647 (k0_off33_eq k)
  have e652 := E_shift (p := 5) (q := 8) (t := 13) hsh5 rfl w639 h652 rfl (by omega) (by omega)
  have e655 := W_load (p := 11) h655 (k0_off34_eq k)
  have e660 := E_shift (p := 5) (q := 16) (t := 21) hsh5 rfl w639 h660 rfl (by omega) (by omega)
  have e663 := W_load (p := 19) h663 (k0_off35_eq k)
  have e668 := E_shift (p := 5) (q := 24) (t := 29) hsh5 rfl w639 h668 rfl (by omega) (by omega)
  have e671 := W_load (p := 27) h671 (k0_off36_eq k)
  have e678 := E_load (q := 6) hE h678 (off37_at i k) (by omega)
  have w678 : ∀ (y : Fin 152) (z : Fin 128), k0_pay19 v678 (ix3 0 y z) = eU X H (6 + y.val) (128 * k.val + z.val) := fun y z => (show k0_pay19 v678 (ix3 0 y z) = v678 (ix3 0 y z) by pointwise [k0_pay19]).trans (e678 y z)
  have e683 := E_shift (p := 6) (q := 0) (t := 6) hsh6 rfl w678 h683 rfl (by omega) (by omega)
  have e686 := W_load (p := 4) h686 (k0_off38_eq k)
  have e691 := E_shift (p := 6) (q := 8) (t := 14) hsh6 rfl w678 h691 rfl (by omega) (by omega)
  have e694 := W_load (p := 12) h694 (k0_off39_eq k)
  have e699 := E_shift (p := 6) (q := 16) (t := 22) hsh6 rfl w678 h699 rfl (by omega) (by omega)
  have e702 := W_load (p := 20) h702 (k0_off40_eq k)
  have e707 := E_shift (p := 6) (q := 24) (t := 30) hsh6 rfl w678 h707 rfl (by omega) (by omega)
  have e710 := W_load (p := 28) h710 (k0_off41_eq k)
  have e717 := E_load (q := 7) hE h717 (off42_at i k) (by omega)
  have w717 : ∀ (y : Fin 152) (z : Fin 128), k0_pay21 v717 (ix3 0 y z) = eU X H (7 + y.val) (128 * k.val + z.val) := fun y z => (show k0_pay21 v717 (ix3 0 y z) = v717 (ix3 0 y z) by pointwise [k0_pay21]).trans (e717 y z)
  have e722 := E_shift (p := 7) (q := 0) (t := 7) hsh7 rfl w717 h722 rfl (by omega) (by omega)
  have e725 := W_load (p := 5) h725 (k0_off43_eq k)
  have e730 := E_shift (p := 7) (q := 8) (t := 15) hsh7 rfl w717 h730 rfl (by omega) (by omega)
  have e733 := W_load (p := 13) h733 (k0_off44_eq k)
  have e738 := E_shift (p := 7) (q := 16) (t := 23) hsh7 rfl w717 h738 rfl (by omega) (by omega)
  have e741 := W_load (p := 21) h741 (k0_off45_eq k)
  have e746 := E_shift (p := 7) (q := 24) (t := 31) hsh7 rfl w717 h746 rfl (by omega) (by omega)
  have e749 := W_load (p := 29) h749 (k0_off46_eq k)
  have hA : ∀ (r l : Fin 128), k0_pay23 (k0_pay22 (k0_pay20 (k0_pay18 (k0_pay16 (k0_pay14 (k0_pay12 (k0_pay10 (k0_pay8 v446 v451 v454) v461 v464 v471 v474 v481 v484 v496 v499) v504 v507 v512 v515 v527 v530 v535 v538) v543 v546 v551 v554 v566 v569 v574 v577) v582 v585 v590 v593 v605 v608 v613 v616) v621 v624 v629 v632 v644 v647 v652 v655) v660 v663 v668 v671 v683 v686 v691 v694) v699 v702 v707 v710 v722 v725 v730 v733) v738 v741 v746 v749 (ix2 r l) = convU X H r.val (128 * k.val + l.val) := fun r l => by
    pointwise [k0_pay23, k0_pay22, k0_pay20, k0_pay18, k0_pay16, k0_pay14, k0_pay12, k0_pay10, k0_pay8]
    simp only [e446, e451, e461, e471, e481, e496, e504, e512, e527, e535, e543, e551, e566, e574, e582, e590, e605, e613, e621, e629, e644, e652, e660, e668, e683, e691, e699, e707, e722, e730, e738, e746, e454, e464, e474, e484, e499, e507, e515, e530, e538, e546, e554, e569, e577, e585, e593, e608, e616, e624, e632, e647, e655, e663, e671, e686, e694, e702, e710, e725, e733, e741, e749]
    simp only [convU, Finset.sum_range_succ, Finset.sum_range_zero, Nat.reduceAdd, Nat.zero_add]
    abel
  have hV : ∀ a j d, at3 cb2 a j d = if a = (i 0).val % 2 ∧ j < 136 ∧ 128 * k.val ≤ d ∧ d < 128 * k.val + 128 then eV X HV j d else at3 s.cb a j d := by
    refine two_puts (off49_at i k) (off50_at i k) (fun y z => ?_) (fun y z => ?_) hcb1 hcb2
    · rw [show k0_pay25 v773 (ix3 0 y z) = v773 (ix3 0 y z) by pointwise [k0_pay25], h773, off48_at]
      unfold eV
      rw [if_pos y.2]
      exact hHV y.val z.val y.2 z.2
    · rw [show k0_pay26 (k0_pay24 v762 v768) (ix3 0 y z) = v762 (ix2 y z) * v768 (ix2 y z) by pointwise [k0_pay26, k0_pay24], B_load h762 (off1c_at k), B_load h768 (off1d_at k)]
      unfold eV
      rw [if_neg (by omega), Nat.add_sub_cancel_left, Nat.zero_add, Nat.add_assoc, Nat.add_assoc]
  have hF : ∀ j l, j < 136 → l < 128 → at3 cb2 ((i 0).val % 2) j (128 * k.val + l) = eV X HV j (128 * k.val + l) := fun j l hj hl => by
    rw [hV, if_pos ⟨rfl, hj, by omega, by omega⟩]
  have e786 := W_load (p := 0) h786 (k0_off51_eq k)
  have e795 := W_load (p := 1) h795 (k0_off53_eq k)
  have e805 := W_load (p := 2) h805 (k0_off55_eq k)
  have e790 := E_load (q := 6) hF h790 (off52_at i k) (by omega)
  have e799 := E_load (q := 7) hF h799 (off54_at i k) (by omega)
  have e809 := E_load (q := 8) hF h809 (off50_at i k) (by omega)
  have hC : ∀ (r l : Fin 128), k0_pay27 v786 v790 v795 v799 v805 v809 (ix2 r l) = convV X HV r.val (128 * k.val + l.val) := fun r l => by
    pointwise [k0_pay27]
    simp only [e786, e795, e805, e790, e799, e809]
    simp only [convV, Finset.sum_range_succ, Finset.sum_range_zero, Nat.reduceAdd, Nat.zero_add, zero_add]
  exact ⟨⟨_, _, _, _, _, rfl⟩, hU, hV, one_put (k0_off47_eq k) hA hua11, one_put (k0_off47_eq k) hC hc31⟩

end Cert.Kernel2Ideal.Fp

end
-- ==== Proof.Fp.Loop.lean ====
/- The loop of the convolutions as a whole: eight trips of 128 columns. -/
module

public import proofs.«01_k».proof.Proof.Fp.Conv

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open Idealize.SL.BI.BIBase Idealize.SL.Sem
open Cert.Kernel2Ideal.Gen

/-- Two neighbouring ranges of columns make one. -/
theorem ConvStep.comp {X : Ins Ideal} {b lo mid hi : ℕ} {HU HV : ℕ → ℕ → EReal} {s t u : St Ideal} (hlm : lo ≤ mid) (hmh : mid ≤ hi)
    (h1 : ConvStep X b lo mid HU HV s t) (h2 : ConvStep X b mid hi HU HV t u) : ConvStep X b lo hi HU HV s u := by
  obtain ⟨⟨a1, a2, a3, a4, a5, rfl⟩, hu, hc, hv, hw⟩ := h1
  obtain ⟨⟨b1, b2, b3, b4, b5, rfl⟩, ku, kc, kv, kw⟩ := h2
  refine ⟨⟨b1, b2, b3, b4, b5, rfl⟩, fun a j d => ?_, fun a j d => ?_, fun r d => ?_, fun r d => ?_⟩
  · rw [ku, hu]
    split_ifs <;> first | rfl | (exfalso; omega)
  · rw [kc, hc]
    split_ifs <;> first | rfl | (exfalso; omega)
  · rw [kv, hv]
    split_ifs <;> first | rfl | (exfalso; omega)
  · rw [kw, hw]
    split_ifs <;> first | rfl | (exfalso; omega)

/-- No column yet. -/
theorem ConvStep.refl (X : Ins Ideal) (b : ℕ) (HU HV : ℕ → ℕ → EReal) (s : St Ideal) : ConvStep X b 0 0 HU HV s s := by
  refine ⟨⟨s.ua0, s.cb, s.ua1, s.c3, s.shift, rfl⟩, fun a j d => ?_, fun a j d => ?_, fun r d => ?_, fun r d => ?_⟩ <;>
    exact (if_neg (by omega)).symm

variable (c : Dev nD) (A : Refs) (X : Ins Ideal)

/-- The loop: both convolutions of the tile, with the history of the last tile's buffer. -/
theorem loop1 (i : grid0.Coords) (v9 v20 : BitVec 32) (h3 : k0_cond3 i = 1#1) (s : St Ideal) :
    W c (Own c A X) (Scf.Loop.for k0_t1_loop (k0_t1_ok i h3) ⟨⟩ (k0_t1_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 v9 v20 h3)) s fun _ s' =>
      ConvStep X ((i 0).val % 2) 0 1024 (fun j d => at3 s.ua0 (1 - (i 0).val % 2) (128 + j) d) (fun j d => at3 s.cb (1 - (i 0).val % 2) (128 + j) d) s s' := by
  have hb : (i 0).val % 2 < 2 := Nat.mod_lt _ (by decide)
  refine W.loop (fun n s' => ConvStep X ((i 0).val % 2) 0 (128 * n) (fun j d => at3 s.ua0 (1 - (i 0).val % 2) (128 + j) d)
    (fun j d => at3 s.cb (1 - (i 0).val % 2) (128 + j) d) s s') (ConvStep.refl _ _ _ _ _) (fun k t ht => ?_) (fun t ht => ht)
  refine W.mono (trip c A X i v9 v20 h3 k t (fun j d => at3 s.ua0 (1 - (i 0).val % 2) (128 + j) d) (fun j d => at3 s.cb (1 - (i 0).val % 2) (128 + j) d)
    (fun j l hj hl => ?_) (fun j l hj hl => ?_)) fun _ t1 h => ?_
  · rw [ht.2.1, if_neg (by omega)]
  · rw [ht.2.2.1, if_neg (by omega)]
  · exact ht.comp (by omega) (by omega) h

end Cert.Kernel2Ideal.Fp

end
-- ==== Proof.Fp.Pay.lean ====
/- The payloads of the forward and backward pass of a tile, read row by row: with inputs that hold the
parts of the rows `R`, each payload holds the value of the same name of `Row`. -/
module

public import proofs.«01_k».proof.Proof.Fp.Row

@[expose] public section

set_option maxRecDepth 16384

noncomputable section

namespace Cert.Kernel2Ideal.Fp

open Idealize.ShloMosaic Idealize.ShloMosaic.TcCoe Idealize.ShloMosaic.Tactic
open Cert.Kernel2Ideal.Gen

/-- An array that holds the function `f` of row and channel, by its shape: a whole tile, a row vector, a
tile under a leading axis, a matrix, a column of row values, a block of 128 channels, the first 32 rows. -/
abbrev IsR (v : S128x1024.Idx → EReal) (f : ℕ → ℕ → EReal) : Prop := ∀ (r : Fin 128) (l : Fin 1024), v (ix2 r l) = f r.val l.val
@[inherit_doc IsR]
abbrev IsV (v : S1x1024.Idx → EReal) (f : ℕ → EReal) : Prop := ∀ (l : Fin 1024), v (ix2 0 l) = f l.val
@[inherit_doc IsR]
abbrev IsL (v : S1x128x1024.Idx → EReal) (f : ℕ → ℕ → EReal) : Prop := ∀ (r : Fin 128) (l : Fin 1024), v (ix3 0 r l) = f r.val l.val
@[inherit_doc IsR]
abbrev IsM (v : S1024x1024.Idx → EReal) (f : ℕ → ℕ → EReal) : Prop := ∀ (r l : Fin 1024), v (ix2 r l) = f r.val l.val
@[inherit_doc IsR]
abbrev IsC (v : S128x1.Idx → EReal) (f : ℕ → EReal) : Prop := ∀ (r : Fin 128), v (ix2 r 0) = f r.val
@[inherit_doc IsR]
abbrev IsK (v : S128x128.Idx → EReal) (f : ℕ → ℕ → EReal) : Prop := ∀ (r l : Fin 128), v (ix2 r l) = f r.val l.val
@[inherit_doc IsR]
abbrev IsE (v : S1x8x1024.Idx → EReal) (f : ℕ → ℕ → EReal) : Prop := ∀ (r : Fin 8) (l : Fin 1024), v (ix3 0 r l) = f r.val l.val
@[inherit_doc IsR]
abbrev IsH (v : S1x32x1024.Idx → EReal) (f : ℕ → ℕ → EReal) : Prop := ∀ (r : Fin 32) (l : Fin 1024), v (ix3 0 r l) = f r.val l.val

theorem p28 (w : Wts) (R : ℕ → Row) {v40 : Vec Ideal S128x1024 .f32} (h40 : IsR v40 (fun r => (R r).u)) : IsR (k0_pay28 v40 : FVec Ideal S128x1024 .f32) (fun r => (R r).xc) := by
  intro r l
  pointwise [k0_pay28]
  simp only [h40]
  simp only [Row.xc, mean, sum8]
  try rfl

theorem p29 (w : Wts) (R : ℕ → Row) {v40 : Vec Ideal S128x1024 .f32} (h40 : IsR v40 (fun r => (R r).u)) : IsC (k0_pay29 v40 : FVec Ideal S128x1 .f32) (fun r => (R r).rstd) := by
  have q28 := (p28 w R h40)
  intro r
  pointwise [k0_pay29]
  simp only [q28, h40]
  simp only [Row.rstd, mean, sum8]
  try rfl

theorem p30 (w : Wts) (R : ℕ → Row) {v40 : Vec Ideal S128x1024 .f32} (h40 : IsR v40 (fun r => (R r).u)) : IsR (k0_pay30 v40 : FVec Ideal S128x1024 .f32) (fun r => (R r).xhat) := by
  have q29 := (p29 w R h40)
  have q28 := (p28 w R h40)
  intro r l
  pointwise [k0_pay30]
  simp only [q29, q28, h40]
  try rfl

theorem p31 (w : Wts) (R : ℕ → Row) {v86 : FVec Ideal S128x1024 .f32} {v87 : Vec Ideal S1x1024 .f32} {v90 : Vec Ideal S1x1024 .f32} (h86 : IsR v86 (fun r => (R r).xhat)) (h87 : IsV v87 (w.lng)) (h90 : IsV v90 (w.lnb)) : IsR (k0_pay31 v86 v87 v90 : FVec Ideal S128x1024 .f32) (fun r => (R r).ua2 w) := by
  intro r l
  pointwise [k0_pay31]
  simp only [h86, h87, h90]
  try rfl

theorem p32 (w : Wts) (R : ℕ → Row) {v86 : FVec Ideal S128x1024 .f32} {v87 : Vec Ideal S1x1024 .f32} {v90 : Vec Ideal S1x1024 .f32} (h86 : IsR v86 (fun r => (R r).xhat)) (h87 : IsV v87 (w.lng)) (h90 : IsV v90 (w.lnb)) : IsR (k0_pay32 v86 v87 v90 : FVec Ideal S128x1024 .f32) (fun r => (R r).sg2 w) := by
  have q31 := (p31 w R h86 h87 h90)
  intro r l
  pointwise [k0_pay32]
  simp only [q31, h86, h87, h90]
  try rfl

theorem p33 (w : Wts) (R : ℕ → Row) {v86 : FVec Ideal S128x1024 .f32} {v87 : Vec Ideal S1x1024 .f32} {v90 : Vec Ideal S1x1024 .f32} (h86 : IsR v86 (fun r => (R r).xhat)) (h87 : IsV v87 (w.lng)) (h90 : IsV v90 (w.lnb)) : IsR (k0_pay33 v86 v87 v90 : FVec Ideal S128x1024 .f32) (fun r => (R r).ua3 w) := by
  have q31 := (p31 w R h86 h87 h90)
  have q32 := (p32 w R h86 h87 h90)
  intro r l
  pointwise [k0_pay33]
  simp only [q31, q32, h86, h87, h90]
  try rfl

theorem p34 (w : Wts) (R : ℕ → Row) {v95 : Vec Ideal S128x1024 .f32} (h95 : IsR v95 (fun r => (R r).az)) : IsR (k0_pay34 v95 : FVec Ideal S128x1024 .f32) (fun r => (R r).az) := by
  intro r l
  pointwise [k0_pay34]
  simp only [h95]
  try rfl

theorem p35 (w : Wts) (R : ℕ → Row) {v95 : Vec Ideal S128x1024 .f32} (h95 : IsR v95 (fun r => (R r).az)) : IsR (k0_pay35 v95 : FVec Ideal S128x1024 .f32) (fun r => (R r).sz) := by
  have q34 := (p34 w R h95)
  intro r l
  pointwise [k0_pay35]
  simp only [q34, h95]
  try rfl

theorem p36 (w : Wts) (R : ℕ → Row) {v95 : Vec Ideal S128x1024 .f32} (h95 : IsR v95 (fun r => (R r).az)) : IsR (k0_pay36 v95 : FVec Ideal S128x1024 .f32) (fun r => (R r).siluA) := by
  have q34 := (p34 w R h95)
  have q35 := (p35 w R h95)
  intro r l
  pointwise [k0_pay36]
  simp only [q34, q35, h95]
  try rfl

theorem p37 (w : Wts) (R : ℕ → Row) {v86 : FVec Ideal S128x1024 .f32} {v87 : Vec Ideal S1x1024 .f32} {v90 : Vec Ideal S1x1024 .f32} {v95 : Vec Ideal S128x1024 .f32} (h86 : IsR v86 (fun r => (R r).xhat)) (h87 : IsV v87 (w.lng)) (h90 : IsV v90 (w.lnb)) (h95 : IsR v95 (fun r => (R r).az)) : IsL (k0_pay37 v86 v87 v90 v95 : FVec Ideal S1x128x1024 .bf16) (fun r => (R r).l0 w) := by
  have q33 := (p33 w R h86 h87 h90)
  have q36 := (p36 w R h95)
  intro r l
  pointwise [k0_pay37]
  simp only [q33, q36, h86, h87, h90, h95]
  try rfl

theorem p38 (w : Wts) (R : ℕ → Row) {v104 : Vec Ideal S128x1024 .f32} (h104 : IsR v104 (fun r => (R r).bz)) : IsR (k0_pay38 v104 : FVec Ideal S128x1024 .f32) (fun r => (R r).bz) := by
  intro r l
  pointwise [k0_pay38]
  simp only [h104]
  try rfl

theorem p39 (w : Wts) (R : ℕ → Row) {v104 : Vec Ideal S128x1024 .f32} (h104 : IsR v104 (fun r => (R r).bz)) : IsR (k0_pay39 v104 : FVec Ideal S128x1024 .f32) (fun r => (R r).sbz) := by
  have q38 := (p38 w R h104)
  intro r l
  pointwise [k0_pay39]
  simp only [q38, h104]
  try rfl

theorem p40 (w : Wts) (R : ℕ → Row) {v104 : Vec Ideal S128x1024 .f32} (h104 : IsR v104 (fun r => (R r).bz)) : IsR (k0_pay40 v104 : FVec Ideal S128x1024 .f32) (fun r => (R r).siluB) := by
  have q38 := (p38 w R h104)
  have q39 := (p39 w R h104)
  intro r l
  pointwise [k0_pay40]
  simp only [q38, q39, h104]
  try rfl

theorem p41 (w : Wts) (R : ℕ → Row) {v108 : Vec Ideal S128x1024 .f32} (h108 : IsR v108 (fun r => (R r).bb)) : IsR (k0_pay41 v108 : FVec Ideal S128x1024 .f32) (fun r => (R r).bb) := by
  intro r l
  pointwise [k0_pay41]
  simp only [h108]
  try rfl

theorem p42 (w : Wts) (R : ℕ → Row) {v108 : Vec Ideal S128x1024 .f32} {v110 : Vec Ideal S128x1024 .f32} (h108 : IsR v108 (fun r => (R r).bb)) (h110 : IsR v110 (fun r => (R r).c)) : IsR (k0_pay42 v108 v110 : FVec Ideal S128x1024 .f32) (fun r => (R r).ub) := by
  have q41 := (p41 w R h108)
  intro r l
  pointwise [k0_pay42]
  simp only [q41, h108, h110]
  try rfl

theorem p43 (w : Wts) (R : ℕ → Row) {v104 : Vec Ideal S128x1024 .f32} {v108 : Vec Ideal S128x1024 .f32} {v110 : Vec Ideal S128x1024 .f32} (h104 : IsR v104 (fun r => (R r).bz)) (h108 : IsR v108 (fun r => (R r).bb)) (h110 : IsR v110 (fun r => (R r).c)) : IsL (k0_pay43 v104 v108 v110 : FVec Ideal S1x128x1024 .bf16) (fun r => (R r).l1) := by
  have q42 := (p42 w R h108 h110)
  have q40 := (p40 w R h104)
  intro r l
  pointwise [k0_pay43]
  simp only [q42, q40, h104, h108, h110]
  try rfl

theorem p44 (w : Wts) (R : ℕ → Row) {v117 : Vec Ideal S1x128x1024 .bf16} (h117 : IsL v117 (fun r => (R r).l0 w)) : IsR (k0_pay44 v117 : FVec Ideal S128x1024 .bf16) (fun r => (R r).l0 w) := by
  intro r l
  pointwise [k0_pay44]
  simp only [h117]
  try rfl

theorem p45 (w : Wts) (R : ℕ → Row) {v119 : Vec Ideal S1024x1024 .bf16} (h119 : IsM v119 (w.wA)) : IsM (k0_pay45 v119 : FVec Ideal S1024x1024 .bf16) (w.wA) := by
  intro r l
  pointwise [k0_pay45]
  simp only [h119]
  try rfl

theorem p46 (w : Wts) (R : ℕ → Row) {v118 : FVec Ideal S128x1024 .bf16} {v120 : FVec Ideal S1024x1024 .bf16} {cst_48 : FVec Ideal S128x1024 .f32} {v122 : Vec Ideal S1x1024 .f32} (h118 : IsR v118 (fun r => (R r).l0 w)) (h120 : IsM v120 (w.wA)) (h48 : IsR cst_48 (fun _ _ => 0)) (h122 : IsV v122 (w.bao)) : IsR (k0_pay46 v118 v120 cst_48 v122 : FVec Ideal S128x1024 .f32) (fun r => (R r).ya w) := by
  intro r l
  pointwise [k0_pay46]
  simp only [h118, h120, h48, h122]
  simp only [Row.ya, dotR, Finset.sum_range, zero_add]

theorem p47 (w : Wts) (R : ℕ → Row) {v125 : Vec Ideal S1x128x1024 .bf16} {v127 : Vec Ideal S1024x1024 .bf16} (h125 : IsL v125 (fun r => (R r).l1)) (h127 : IsM v127 (w.wB)) : IsR (k0_pay47 v125 v127 : FVec Ideal S128x1024 .f32) (fun r => (R r).yb w) := by
  intro r l
  pointwise [k0_pay47]
  simp only [h125, h127]
  simp only [Row.yb, dotR, Finset.sum_range, zero_add]

theorem p48 (w : Wts) (R : ℕ → Row) {v130 : Vec Ideal S128x1024 .f32} (h130 : IsR v130 (fun r => (R r).ga)) : IsR (k0_pay48 v130 : FVec Ideal S128x1024 .f32) (fun r => (R r).sga) := by
  intro r l
  pointwise [k0_pay48]
  simp only [h130]
  try rfl

theorem p49 (w : Wts) (R : ℕ → Row) {v133 : Vec Ideal S128x1024 .f32} (h133 : IsR v133 (fun r => (R r).gb)) : IsR (k0_pay49 v133 : FVec Ideal S128x1024 .f32) (fun r => (R r).sgb) := by
  intro r l
  pointwise [k0_pay49]
  simp only [h133]
  try rfl

theorem p50 (w : Wts) (R : ℕ → Row) {v118 : FVec Ideal S128x1024 .bf16} {v120 : FVec Ideal S1024x1024 .bf16} {cst_48 : FVec Ideal S128x1024 .f32} {v122 : Vec Ideal S1x1024 .f32} {v125 : Vec Ideal S1x128x1024 .bf16} {v127 : Vec Ideal S1024x1024 .bf16} {v130 : Vec Ideal S128x1024 .f32} {v133 : Vec Ideal S128x1024 .f32} (h118 : IsR v118 (fun r => (R r).l0 w)) (h120 : IsM v120 (w.wA)) (h48 : IsR cst_48 (fun _ _ => 0)) (h122 : IsV v122 (w.bao)) (h125 : IsL v125 (fun r => (R r).l1)) (h127 : IsM v127 (w.wB)) (h130 : IsR v130 (fun r => (R r).ga)) (h133 : IsR v133 (fun r => (R r).gb)) : IsR (k0_pay50 v118 v120 cst_48 v122 v125 v127 v130 v133 : FVec Ideal S128x1024 .bf16) (fun r => (R r).l2 w) := by
  have q48 := (p48 w R h130)
  have q46 := (p46 w R h118 h120 h48 h122)
  have q49 := (p49 w R h133)
  have q47 := (p47 w R h125 h127)
  intro r l
  pointwise [k0_pay50]
  simp only [q48, q46, q49, q47, h118, h120, h48, h122, h125, h127, h130, h133]
  try rfl

theorem p51 (w : Wts) (R : ℕ → Row) {v118 : FVec Ideal S128x1024 .bf16} {v120 : FVec Ideal S1024x1024 .bf16} {cst_48 : FVec Ideal S128x1024 .f32} {v122 : Vec Ideal S1x1024 .f32} {v125 : Vec Ideal S1x128x1024 .bf16} {v127 : Vec Ideal S1024x1024 .bf16} {v130 : Vec Ideal S128x1024 .f32} {v133 : Vec Ideal S128x1024 .f32} (h118 : IsR v118 (fun r => (R r).l0 w)) (h120 : IsM v120 (w.wA)) (h48 : IsR cst_48 (fun _ _ => 0)) (h122 : IsV v122 (w.bao)) (h125 : IsL v125 (fun r => (R r).l1)) (h127 : IsM v127 (w.wB)) (h130 : IsR v130 (fun r => (R r).ga)) (h133 : IsR v133 (fun r => (R r).gb)) : IsL (k0_pay51 v118 v120 cst_48 v122 v125 v127 v130 v133 : FVec Ideal S1x128x1024 .bf16) (fun r => (R r).l2 w) := by
  have q50 := (p50 w R h118 h120 h48 h122 h125 h127 h130 h133)
  intro r l
  pointwise [k0_pay51]
  simp only [q50, h118, h120, h48, h122, h125, h127, h130, h133]
  try rfl

theorem p52 (w : Wts) (R : ℕ → Row) (arg0 : BitVec 32) {v118 : FVec Ideal S128x1024 .bf16} {v120 : FVec Ideal S1024x1024 .bf16} {cst_48 : FVec Ideal S128x1024 .f32} {v122 : Vec Ideal S1x1024 .f32} {v125 : Vec Ideal S1x128x1024 .bf16} {v127 : Vec Ideal S1024x1024 .bf16} {v130 : Vec Ideal S128x1024 .f32} {v133 : Vec Ideal S128x1024 .f32} {v144 : Vec Ideal S128x1024 .f32} {v146 : Vec Ideal S128x1024 .f32} {v149 : Vec Ideal S1024x1024 .bf16} (h118 : IsR v118 (fun r => (R r).l0 w)) (h120 : IsM v120 (w.wA)) (h48 : IsR cst_48 (fun _ _ => 0)) (h122 : IsV v122 (w.bao)) (h125 : IsL v125 (fun r => (R r).l1)) (h127 : IsM v127 (w.wB)) (h130 : IsR v130 (fun r => (R r).ga)) (h133 : IsR v133 (fun r => (R r).gb)) (h149 : IsM v149 (w.wO)) (h0 : ∀ (r : Fin 128) (l : Fin 1024), Scalar.select (Scalar.cmpi CmpIPredicate.eq arg0 0#32) (v144 (ix2 r l)) (v146 (ix2 r l)) = (R r.val).s0 l.val) : IsR (k0_pay52 arg0 v118 v120 cst_48 v122 v125 v127 v130 v133 v144 v146 v149 : FVec Ideal S128x1024 .f32) (fun r => (R r).s1 w) := by
  have q50 := (p50 w R h118 h120 h48 h122 h125 h127 h130 h133)
  intro r l
  pointwise [k0_pay52]
  simp only [q50, h118, h120, h48, h122, h125, h127, h130, h133, h149, h0]
  simp only [Row.s1, dotR, Finset.sum_range, zero_add]

theorem p53 (w : Wts) (R : ℕ → Row) (arg0 : BitVec 32) {v118 : FVec Ideal S128x1024 .bf16} {v120 : FVec Ideal S1024x1024 .bf16} {cst_48 : FVec Ideal S128x1024 .f32} {v122 : Vec Ideal S1x1024 .f32} {v125 : Vec Ideal S1x128x1024 .bf16} {v127 : Vec Ideal S1024x1024 .bf16} {v130 : Vec Ideal S128x1024 .f32} {v133 : Vec Ideal S128x1024 .f32} {v144 : Vec Ideal S128x1024 .f32} {v146 : Vec Ideal S128x1024 .f32} {v149 : Vec Ideal S1024x1024 .bf16} (h118 : IsR v118 (fun r => (R r).l0 w)) (h120 : IsM v120 (w.wA)) (h48 : IsR cst_48 (fun _ _ => 0)) (h122 : IsV v122 (w.bao)) (h125 : IsL v125 (fun r => (R r).l1)) (h127 : IsM v127 (w.wB)) (h130 : IsR v130 (fun r => (R r).ga)) (h133 : IsR v133 (fun r => (R r).gb)) (h149 : IsM v149 (w.wO)) (h0 : ∀ (r : Fin 128) (l : Fin 1024), Scalar.select (Scalar.cmpi CmpIPredicate.eq arg0 0#32) (v144 (ix2 r l)) (v146 (ix2 r l)) = (R r.val).s0 l.val) : IsR (k0_pay53 arg0 v118 v120 cst_48 v122 v125 v127 v130 v133 v144 v146 v149 : FVec Ideal S128x1024 .f32) (fun r d => (R r).s1 w d * (R r).s1 w d) := by
  have q52 := (p52 w R arg0 h118 h120 h48 h122 h125 h127 h130 h133 h149 h0)
  intro r l
  pointwise [k0_pay53]
  simp only [q52, h118, h120, h48, h122, h125, h127, h130, h133, h149, h0]
  try rfl

theorem p54 (w : Wts) (R : ℕ → Row) (arg0 : BitVec 32) {v118 : FVec Ideal S128x1024 .bf16} {v120 : FVec Ideal S1024x1024 .bf16} {cst_48 : FVec Ideal S128x1024 .f32} {v122 : Vec Ideal S1x1024 .f32} {v125 : Vec Ideal S1x128x1024 .bf16} {v127 : Vec Ideal S1024x1024 .bf16} {v130 : Vec Ideal S128x1024 .f32} {v133 : Vec Ideal S128x1024 .f32} {v144 : Vec Ideal S128x1024 .f32} {v146 : Vec Ideal S128x1024 .f32} {v149 : Vec Ideal S1024x1024 .bf16} (h118 : IsR v118 (fun r => (R r).l0 w)) (h120 : IsM v120 (w.wA)) (h48 : IsR cst_48 (fun _ _ => 0)) (h122 : IsV v122 (w.bao)) (h125 : IsL v125 (fun r => (R r).l1)) (h127 : IsM v127 (w.wB)) (h130 : IsR v130 (fun r => (R r).ga)) (h133 : IsR v133 (fun r => (R r).gb)) (h149 : IsM v149 (w.wO)) (h0 : ∀ (r : Fin 128) (l : Fin 1024), Scalar.select (Scalar.cmpi CmpIPredicate.eq arg0 0#32) (v144 (ix2 r l)) (v146 (ix2 r l)) = (R r.val).s0 l.val) : IsK (k0_pay54 arg0 v118 v120 cst_48 v122 v125 v127 v130 v133 v144 v146 v149 : FVec Ideal S128x128 .f32) (fun r d => (R r).s1 w d * (R r).s1 w d) := by
  have q53 := (p53 w R arg0 h118 h120 h48 h122 h125 h127 h130 h133 h149 h0)
  intro r l
  pointwise [k0_pay54]
  simp only [q53, h118, h120, h48, h122, h125, h127, h130, h133, h149, h0]
  try rfl

theorem p55 (w : Wts) (R : ℕ → Row) (arg0 : BitVec 32) {v118 : FVec Ideal S128x1024 .bf16} {v120 : FVec Ideal S1024x1024 .bf16} {cst_48 : FVec Ideal S128x1024 .f32} {v122 : Vec Ideal S1x1024 .f32} {v125 : Vec Ideal S1x128x1024 .bf16} {v127 : Vec Ideal S1024x1024 .bf16} {v130 : Vec Ideal S128x1024 .f32} {v133 : Vec Ideal S128x1024 .f32} {v144 : Vec Ideal S128x1024 .f32} {v146 : Vec Ideal S128x1024 .f32} {v149 : Vec Ideal S1024x1024 .bf16} (h118 : IsR v118 (fun r => (R r).l0 w)) (h120 : IsM v120 (w.wA)) (h48 : IsR cst_48 (fun _ _ => 0)) (h122 : IsV v122 (w.bao)) (h125 : IsL v125 (fun r => (R r).l1)) (h127 : IsM v127 (w.wB)) (h130 : IsR v130 (fun r => (R r).ga)) (h133 : IsR v133 (fun r => (R r).gb)) (h149 : IsM v149 (w.wO)) (h0 : ∀ (r : Fin 128) (l : Fin 1024), Scalar.select (Scalar.cmpi CmpIPredicate.eq arg0 0#32) (v144 (ix2 r l)) (v146 (ix2 r l)) = (R r.val).s0 l.val) : IsK (k0_pay55 arg0 v118 v120 cst_48 v122 v125 v127 v130 v133 v144 v146 v149 : FVec Ideal S128x128 .f32) (fun r d => (R r).s1 w (128 + d) * (R r).s1 w (128 + d)) := by
  have q53 := (p53 w R arg0 h118 h120 h48 h122 h125 h127 h130 h133 h149 h0)
  intro r l
  pointwise [k0_pay55]
  simp only [q53, h118, h120, h48, h122, h125, h127, h130, h133, h149, h0]
  try rfl

theorem p56 (w : Wts) (R : ℕ → Row) (arg0 : BitVec 32) {v118 : FVec Ideal S128x1024 .bf16} {v120 : FVec Ideal S1024x1024 .bf16} {cst_48 : FVec Ideal S128x1024 .f32} {v122 : Vec Ideal S1x1024 .f32} {v125 : Vec Ideal S1x128x1024 .bf16} {v127 : Vec Ideal S1024x1024 .bf16} {v130 : Vec Ideal S128x1024 .f32} {v133 : Vec Ideal S128x1024 .f32} {v144 : Vec Ideal S128x1024 .f32} {v146 : Vec Ideal S128x1024 .f32} {v149 : Vec Ideal S1024x1024 .bf16} (h118 : IsR v118 (fun r => (R r).l0 w)) (h120 : IsM v120 (w.wA)) (h48 : IsR cst_48 (fun _ _ => 0)) (h122 : IsV v122 (w.bao)) (h125 : IsL v125 (fun r => (R r).l1)) (h127 : IsM v127 (w.wB)) (h130 : IsR v130 (fun r => (R r).ga)) (h133 : IsR v133 (fun r => (R r).gb)) (h149 : IsM v149 (w.wO)) (h0 : ∀ (r : Fin 128) (l : Fin 1024), Scalar.select (Scalar.cmpi CmpIPredicate.eq arg0 0#32) (v144 (ix2 r l)) (v146 (ix2 r l)) = (R r.val).s0 l.val) : IsK (k0_pay56 arg0 v118 v120 cst_48 v122 v125 v127 v130 v133 v144 v146 v149 : FVec Ideal S128x128 .f32) (fun r d => (R r).s1 w (256 + d) * (R r).s1 w (256 + d)) := by
  have q53 := (p53 w R arg0 h118 h120 h48 h122 h125 h127 h130 h133 h149 h0)
  intro r l
  pointwise [k0_pay56]
  simp only [q53, h118, h120, h48, h122, h125, h127, h130, h133, h149, h0]
  try rfl

theorem p57 (w : Wts) (R : ℕ → Row) {v153 : FVec Ideal S128x1024 .f32} {v154 : FVec Ideal S128x128 .f32} {v155 : FVec Ideal S128x128 .f32} {v156 : FVec Ideal S128x128 .f32} (h153 : IsR v153 (fun r d => (R r).s1 w d * (R r).s1 w d)) (h154 : IsK v154 (fun r d => (R r).s1 w d * (R r).s1 w d)) (h155 : IsK v155 (fun r d => (R r).s1 w (128 + d) * (R r).s1 w (128 + d))) (h156 : IsK v156 (fun r d => (R r).s1 w (256 + d) * (R r).s1 w (256 + d))) : IsC (k0_pay57 v153 v154 v155 v156 : FVec Ideal S128x1 .f32) (fun r => (R r).r1 w) := by
  intro r
  pointwise [k0_pay57]
  simp only [h153, h154, h155, h156]
  simp only [Row.r1, mean, sum8]
  try rfl

theorem p58 (w : Wts) (R : ℕ → Row) (arg0 : BitVec 32) {v152 : FVec Ideal S128x1024 .f32} {v153 : FVec Ideal S128x1024 .f32} {v154 : FVec Ideal S128x128 .f32} {v155 : FVec Ideal S128x128 .f32} {v156 : FVec Ideal S128x128 .f32} {v178 : Vec Ideal S1x1024 .f32} {v185 : Vec Ideal S128x1024 .f32} (h152 : IsR v152 (fun r => (R r).s1 w)) (h153 : IsR v153 (fun r d => (R r).s1 w d * (R r).s1 w d)) (h154 : IsK v154 (fun r d => (R r).s1 w d * (R r).s1 w d)) (h155 : IsK v155 (fun r d => (R r).s1 w (128 + d) * (R r).s1 w (128 + d))) (h156 : IsK v156 (fun r d => (R r).s1 w (256 + d) * (R r).s1 w (256 + d))) (h178 : IsV v178 (w.fng)) (h185 : IsR v185 (fun r => (R r).tg)) (ht : ∀ r : Fin 128, (((Scalar.extui (Scalar.cmpi CmpIPredicate.sge arg0 1#32) : BitVec 32).toInt : ℝ) : EReal) = (R r.val).tok) : IsR (k0_pay58 arg0 v152 v153 v154 v155 v156 v178 v185 : FVec Ideal S128x1024 .f32) (fun r => (R r).err w) := by
  have q57 := (p57 w R h153 h154 h155 h156)
  intro r l
  pointwise [k0_pay58]
  simp only [q57, h152, h153, h154, h155, h156, h178, h185]
  exact congrArg (fun t => ((R r).s1 w l * (R r).r1 w * w.fng l - (R r).tg l) * t) (ht r)

theorem p59 (w : Wts) (R : ℕ → Row) (arg0 : BitVec 32) {v152 : FVec Ideal S128x1024 .f32} {v153 : FVec Ideal S128x1024 .f32} {v154 : FVec Ideal S128x128 .f32} {v155 : FVec Ideal S128x128 .f32} {v156 : FVec Ideal S128x128 .f32} {v178 : Vec Ideal S1x1024 .f32} {v185 : Vec Ideal S128x1024 .f32} {v190 : Vec Ideal S1x1024 .f32} {g : ℕ → EReal} (h152 : IsR v152 (fun r => (R r).s1 w)) (h153 : IsR v153 (fun r d => (R r).s1 w d * (R r).s1 w d)) (h154 : IsK v154 (fun r d => (R r).s1 w d * (R r).s1 w d)) (h155 : IsK v155 (fun r d => (R r).s1 w (128 + d) * (R r).s1 w (128 + d))) (h156 : IsK v156 (fun r d => (R r).s1 w (256 + d) * (R r).s1 w (256 + d))) (h178 : IsV v178 (w.fng)) (h185 : IsR v185 (fun r => (R r).tg)) (h190 : IsV v190 (g)) (ht : ∀ r : Fin 128, (((Scalar.extui (Scalar.cmpi CmpIPredicate.sge arg0 1#32) : BitVec 32).toInt : ℝ) : EReal) = (R r.val).tok) : IsV (k0_pay59 arg0 v152 v153 v154 v155 v156 v178 v185 v190 : FVec Ideal S1x1024 .f32) (fun d => g d + Ideal.ofBits FTy.f32 973078528#32 * ∑ r ∈ Finset.range 128, (R r).sq w d) := by
  have q58 := (p58 w R arg0 h152 h153 h154 h155 h156 h178 h185 ht)
  intro l
  pointwise [k0_pay59]
  simp only [q58, h152, h153, h154, h155, h156, h178, h185, h190]
  simp only [Finset.sum_range] <;> first | rfl | (simp only [Row.sq]; rfl)

theorem p60 (w : Wts) (R : ℕ → Row) (arg0 : BitVec 32) {v152 : FVec Ideal S128x1024 .f32} {v153 : FVec Ideal S128x1024 .f32} {v154 : FVec Ideal S128x128 .f32} {v155 : FVec Ideal S128x128 .f32} {v156 : FVec Ideal S128x128 .f32} {v178 : Vec Ideal S1x1024 .f32} {v185 : Vec Ideal S128x1024 .f32} (h152 : IsR v152 (fun r => (R r).s1 w)) (h153 : IsR v153 (fun r d => (R r).s1 w d * (R r).s1 w d)) (h154 : IsK v154 (fun r d => (R r).s1 w d * (R r).s1 w d)) (h155 : IsK v155 (fun r d => (R r).s1 w (128 + d) * (R r).s1 w (128 + d))) (h156 : IsK v156 (fun r d => (R r).s1 w (256 + d) * (R r).s1 w (256 + d))) (h178 : IsV v178 (w.fng)) (h185 : IsR v185 (fun r => (R r).tg)) (ht : ∀ r : Fin 128, (((Scalar.extui (Scalar.cmpi CmpIPredicate.sge arg0 1#32) : BitVec 32).toInt : ℝ) : EReal) = (R r.val).tok) : IsR (k0_pay60 arg0 v152 v153 v154 v155 v156 v178 v185 : FVec Ideal S128x1024 .f32) (fun r => (R r).dy w) := by
  have q58 := (p58 w R arg0 h152 h153 h154 h155 h156 h178 h185 ht)
  intro r l
  pointwise [k0_pay60]
  simp only [q58, h152, h153, h154, h155, h156, h178, h185]
  try rfl

theorem p61 (w : Wts) (R : ℕ → Row) {v152 : FVec Ideal S128x1024 .f32} {v175 : FVec Ideal S128x1 .f32} {v200 : FVec Ideal S128x1024 .f32} {v201 : Vec Ideal S1x1024 .f32} {g : ℕ → EReal} (h152 : IsR v152 (fun r => (R r).s1 w)) (h175 : IsC v175 (fun r => (R r).r1 w)) (h200 : IsR v200 (fun r => (R r).dy w)) (h201 : IsV v201 (g)) : IsV (k0_pay61 v152 v175 v200 v201 : FVec Ideal S1x1024 .f32) (fun d => g d + ∑ r ∈ Finset.range 128, (R r).gFin w d) := by
  intro l
  pointwise [k0_pay61]
  simp only [h152, h175, h200, h201]
  simp only [Finset.sum_range] <;> first | rfl | (simp only [Row.gFin]; rfl)

theorem p62 (w : Wts) (R : ℕ → Row) {v152 : FVec Ideal S128x1024 .f32} {v175 : FVec Ideal S128x1 .f32} {v200 : FVec Ideal S128x1024 .f32} {v210 : Vec Ideal S1x1024 .f32} (h152 : IsR v152 (fun r => (R r).s1 w)) (h175 : IsC v175 (fun r => (R r).r1 w)) (h200 : IsR v200 (fun r => (R r).dy w)) (h210 : IsV v210 (w.fng)) : IsR (k0_pay62 v152 v175 v200 v210 : FVec Ideal S128x1024 .f32) (fun r => (R r).ds1 w) := by
  intro r l
  pointwise [k0_pay62]
  simp only [h152, h175, h200, h210]
  simp only [Row.ds1, mean, sum8]
  try rfl

theorem p63 (w : Wts) (R : ℕ → Row) {v152 : FVec Ideal S128x1024 .f32} {v175 : FVec Ideal S128x1 .f32} {v200 : FVec Ideal S128x1024 .f32} {v210 : Vec Ideal S1x1024 .f32} (h152 : IsR v152 (fun r => (R r).s1 w)) (h175 : IsC v175 (fun r => (R r).r1 w)) (h200 : IsR v200 (fun r => (R r).dy w)) (h210 : IsV v210 (w.fng)) : IsR (k0_pay63 v152 v175 v200 v210 : FVec Ideal S128x1024 .bf16) (fun r => (R r).ds1 w) := by
  have q62 := (p62 w R h152 h175 h200 h210)
  intro r l
  pointwise [k0_pay63]
  simp only [q62, h152, h175, h200, h210]
  try rfl

theorem p64 (w : Wts) (R : ℕ → Row) {v243 : FVec Ideal S128x1024 .bf16} (h243 : IsR v243 (fun r => (R r).ds1 w)) : IsL (k0_pay64 v243 : FVec Ideal S1x128x1024 .bf16) (fun r => (R r).ds1 w) := by
  intro r l
  pointwise [k0_pay64]
  simp only [h243]
  try rfl

theorem p65 (w : Wts) (R : ℕ → Row) {v243 : FVec Ideal S128x1024 .bf16} {v247 : Vec Ideal S1024x1024 .bf16} (h243 : IsR v243 (fun r => (R r).ds1 w)) (h247 : IsM v247 (w.wOt)) : IsR (k0_pay65 v243 v247 : FVec Ideal S128x1024 .f32) (fun r => (R r).dm w) := by
  intro r l
  pointwise [k0_pay65]
  simp only [h243, h247]
  simp only [Row.dm, dotR, Finset.sum_range, zero_add]

theorem p66 (w : Wts) (R : ℕ → Row) {v132 : FVec Ideal S128x1024 .f32} {v243 : FVec Ideal S128x1024 .bf16} {v247 : Vec Ideal S1024x1024 .bf16} (h132 : IsR v132 (fun r => (R r).sga)) (h243 : IsR v243 (fun r => (R r).ds1 w)) (h247 : IsM v247 (w.wOt)) : IsR (k0_pay66 v132 v243 v247 : FVec Ideal S128x1024 .f32) (fun r => (R r).dya w) := by
  have q65 := (p65 w R h243 h247)
  intro r l
  pointwise [k0_pay66]
  simp only [q65, h132, h243, h247]
  try rfl

theorem p67 (w : Wts) (R : ℕ → Row) {v135 : FVec Ideal S128x1024 .f32} {v243 : FVec Ideal S128x1024 .bf16} {v247 : Vec Ideal S1024x1024 .bf16} (h135 : IsR v135 (fun r => (R r).sgb)) (h243 : IsR v243 (fun r => (R r).ds1 w)) (h247 : IsM v247 (w.wOt)) : IsR (k0_pay67 v135 v243 v247 : FVec Ideal S128x1024 .f32) (fun r => (R r).dyb w) := by
  have q65 := (p65 w R h243 h247)
  intro r l
  pointwise [k0_pay67]
  simp only [q65, h135, h243, h247]
  try rfl

theorem p68 (w : Wts) (R : ℕ → Row) {v124 : FVec Ideal S128x1024 .f32} {v132 : FVec Ideal S128x1024 .f32} {v243 : FVec Ideal S128x1024 .bf16} {v247 : Vec Ideal S1024x1024 .bf16} (h124 : IsR v124 (fun r => (R r).ya w)) (h132 : IsR v132 (fun r => (R r).sga)) (h243 : IsR v243 (fun r => (R r).ds1 w)) (h247 : IsM v247 (w.wOt)) : IsR (k0_pay68 v124 v132 v243 v247 : FVec Ideal S128x1024 .bf16) (fun r => (R r).pga w) := by
  have q66 := (p66 w R h132 h243 h247)
  intro r l
  pointwise [k0_pay68]
  simp only [q66, h124, h132, h243, h247]
  try rfl

theorem p69 (w : Wts) (R : ℕ → Row) {v129 : FVec Ideal S128x1024 .f32} {v135 : FVec Ideal S128x1024 .f32} {v243 : FVec Ideal S128x1024 .bf16} {v247 : Vec Ideal S1024x1024 .bf16} (h129 : IsR v129 (fun r => (R r).yb w)) (h135 : IsR v135 (fun r => (R r).sgb)) (h243 : IsR v243 (fun r => (R r).ds1 w)) (h247 : IsM v247 (w.wOt)) : IsR (k0_pay69 v129 v135 v243 v247 : FVec Ideal S128x1024 .bf16) (fun r => (R r).pgb w) := by
  have q67 := (p67 w R h135 h243 h247)
  intro r l
  pointwise [k0_pay69]
  simp only [q67, h129, h135, h243, h247]
  try rfl

theorem p70 (w : Wts) (R : ℕ → Row) {v132 : FVec Ideal S128x1024 .f32} {v243 : FVec Ideal S128x1024 .bf16} {v247 : Vec Ideal S1024x1024 .bf16} {v268 : Vec Ideal S1x1024 .f32} {g : ℕ → EReal} (h132 : IsR v132 (fun r => (R r).sga)) (h243 : IsR v243 (fun r => (R r).ds1 w)) (h247 : IsM v247 (w.wOt)) (h268 : IsV v268 (g)) : IsV (k0_pay70 v132 v243 v247 v268 : FVec Ideal S1x1024 .f32) (fun d => g d + ∑ r ∈ Finset.range 128, (R r).dya w d) := by
  have q66 := (p66 w R h132 h243 h247)
  intro l
  pointwise [k0_pay70]
  simp only [q66, h132, h243, h247, h268]
  simp only [Finset.sum_range] <;> first | rfl | (simp only [Row.dya]; rfl)

theorem p71 (w : Wts) (R : ℕ → Row) {v132 : FVec Ideal S128x1024 .f32} {v243 : FVec Ideal S128x1024 .bf16} {v247 : Vec Ideal S1024x1024 .bf16} (h132 : IsR v132 (fun r => (R r).sga)) (h243 : IsR v243 (fun r => (R r).ds1 w)) (h247 : IsM v247 (w.wOt)) : IsR (k0_pay71 v132 v243 v247 : FVec Ideal S128x1024 .bf16) (fun r => (R r).dya w) := by
  have q66 := (p66 w R h132 h243 h247)
  intro r l
  pointwise [k0_pay71]
  simp only [q66, h132, h243, h247]
  try rfl

theorem p72 (w : Wts) (R : ℕ → Row) {v135 : FVec Ideal S128x1024 .f32} {v243 : FVec Ideal S128x1024 .bf16} {v247 : Vec Ideal S1024x1024 .bf16} (h135 : IsR v135 (fun r => (R r).sgb)) (h243 : IsR v243 (fun r => (R r).ds1 w)) (h247 : IsM v247 (w.wOt)) : IsR (k0_pay72 v135 v243 v247 : FVec Ideal S128x1024 .bf16) (fun r => (R r).dyb w) := by
  have q67 := (p67 w R h135 h243 h247)
  intro r l
  pointwise [k0_pay72]
  simp only [q67, h135, h243, h247]
  try rfl

theorem p73 (w : Wts) (R : ℕ → Row) {v132 : FVec Ideal S128x1024 .f32} {v243 : FVec Ideal S128x1024 .bf16} {v247 : Vec Ideal S1024x1024 .bf16} (h132 : IsR v132 (fun r => (R r).sga)) (h243 : IsR v243 (fun r => (R r).ds1 w)) (h247 : IsM v247 (w.wOt)) : IsL (k0_pay73 v132 v243 v247 : FVec Ideal S1x128x1024 .bf16) (fun r => (R r).dya w) := by
  have q71 := (p71 w R h132 h243 h247)
  intro r l
  pointwise [k0_pay73]
  simp only [q71, h132, h243, h247]
  try rfl

theorem p74 (w : Wts) (R : ℕ → Row) {v275 : FVec Ideal S128x1024 .bf16} (h275 : IsR v275 (fun r => (R r).dyb w)) : IsL (k0_pay74 v275 : FVec Ideal S1x128x1024 .bf16) (fun r => (R r).dyb w) := by
  intro r l
  pointwise [k0_pay74]
  simp only [h275]
  try rfl

theorem p75 (w : Wts) (R : ℕ → Row) {v274 : FVec Ideal S128x1024 .bf16} {v282 : Vec Ideal S1024x1024 .bf16} (h274 : IsR v274 (fun r => (R r).dya w)) (h282 : IsM v282 (w.wAt)) : IsR (k0_pay75 v274 v282 : FVec Ideal S128x1024 .f32) (fun r => (R r).dpa w) := by
  intro r l
  pointwise [k0_pay75]
  simp only [h274, h282]
  simp only [Row.dpa, dotR, Finset.sum_range, zero_add]

theorem p76 (w : Wts) (R : ℕ → Row) {v275 : FVec Ideal S128x1024 .bf16} {v288 : Vec Ideal S1024x1024 .bf16} (h275 : IsR v275 (fun r => (R r).dyb w)) (h288 : IsM v288 (w.wBt)) : IsR (k0_pay76 v275 v288 : FVec Ideal S128x1024 .f32) (fun r => (R r).dpb w) := by
  intro r l
  pointwise [k0_pay76]
  simp only [h275, h288]
  simp only [Row.dpb, dotR, Finset.sum_range, zero_add]

theorem p77 (w : Wts) (R : ℕ → Row) {v94 : FVec Ideal S128x1024 .f32} {v97 : FVec Ideal S128x1024 .f32} {v98 : FVec Ideal S128x1024 .f32} {v294 : Vec Ideal S128x1024 .f32} (h94 : IsR v94 (fun r => (R r).ua3 w)) (h97 : IsR v97 (fun r => (R r).sz)) (h98 : IsR v98 (fun r => (R r).siluA)) (h294 : IsR v294 (fun r => (R r).dpa w)) : IsR (k0_pay77 v94 v97 v98 v294 : FVec Ideal S128x1024 .bf16) (fun r => (R r).paz w) := by
  intro r l
  pointwise [k0_pay77]
  simp only [h94, h97, h98, h294]
  try rfl

theorem p78 (w : Wts) (R : ℕ → Row) {v93 : FVec Ideal S128x1024 .f32} {v94 : FVec Ideal S128x1024 .f32} {v98 : FVec Ideal S128x1024 .f32} {v294 : Vec Ideal S128x1024 .f32} (h93 : IsR v93 (fun r => (R r).sg2 w)) (h94 : IsR v94 (fun r => (R r).ua3 w)) (h98 : IsR v98 (fun r => (R r).siluA)) (h294 : IsR v294 (fun r => (R r).dpa w)) : IsR (k0_pay78 v93 v94 v98 v294 : FVec Ideal S128x1024 .f32) (fun r => (R r).dua2 w) := by
  intro r l
  pointwise [k0_pay78]
  simp only [h93, h94, h98, h294]
  try rfl

theorem p79 (w : Wts) (R : ℕ → Row) {v86 : FVec Ideal S128x1024 .f32} {v93 : FVec Ideal S128x1024 .f32} {v94 : FVec Ideal S128x1024 .f32} {v98 : FVec Ideal S128x1024 .f32} {v294 : Vec Ideal S128x1024 .f32} {v311 : Vec Ideal S1x1024 .f32} {g : ℕ → EReal} (h86 : IsR v86 (fun r => (R r).xhat)) (h93 : IsR v93 (fun r => (R r).sg2 w)) (h94 : IsR v94 (fun r => (R r).ua3 w)) (h98 : IsR v98 (fun r => (R r).siluA)) (h294 : IsR v294 (fun r => (R r).dpa w)) (h311 : IsV v311 (g)) : IsV (k0_pay79 v86 v93 v94 v98 v294 v311 : FVec Ideal S1x1024 .f32) (fun d => g d + ∑ r ∈ Finset.range 128, (R r).gLn w d) := by
  have q78 := (p78 w R h93 h94 h98 h294)
  intro l
  pointwise [k0_pay79]
  simp only [q78, h86, h93, h94, h98, h294, h311]
  simp only [Finset.sum_range] <;> first | rfl | (simp only [Row.gLn]; rfl)

theorem p80 (w : Wts) (R : ℕ → Row) {v310 : FVec Ideal S128x1024 .f32} {v318 : Vec Ideal S1x1024 .f32} {g : ℕ → EReal} (h310 : IsR v310 (fun r => (R r).dua2 w)) (h318 : IsV v318 (g)) : IsV (k0_pay80 v310 v318 : FVec Ideal S1x1024 .f32) (fun d => g d + ∑ r ∈ Finset.range 128, (R r).dua2 w d) := by
  intro l
  pointwise [k0_pay80]
  simp only [h310, h318]
  simp only [Finset.sum_range] <;> first | rfl | (simp only [Row.dya]; rfl)

theorem p81 (w : Wts) (R : ℕ → Row) {v310 : FVec Ideal S128x1024 .f32} {v324 : Vec Ideal S1x1024 .f32} (h310 : IsR v310 (fun r => (R r).dua2 w)) (h324 : IsV v324 (w.lng)) : IsR (k0_pay81 v310 v324 : FVec Ideal S128x1024 .f32) (fun r => (R r).dxh w) := by
  intro r l
  pointwise [k0_pay81]
  simp only [h310, h324]
  try rfl

theorem p82 (w : Wts) (R : ℕ → Row) {v310 : FVec Ideal S128x1024 .f32} {v324 : Vec Ideal S1x1024 .f32} (h310 : IsR v310 (fun r => (R r).dua2 w)) (h324 : IsV v324 (w.lng)) : IsR (k0_pay82 v310 v324 : FVec Ideal S128x1024 .f32) (fun r d => (R r).dxh w d - mean ((R r).dxh w)) := by
  have q81 := (p81 w R h310 h324)
  intro r l
  pointwise [k0_pay82]
  simp only [q81, h310, h324]
  simp only [mean, sum8]
  try rfl

theorem p83 (w : Wts) (R : ℕ → Row) {v86 : FVec Ideal S128x1024 .f32} {v310 : FVec Ideal S128x1024 .f32} {v324 : Vec Ideal S1x1024 .f32} (h86 : IsR v86 (fun r => (R r).xhat)) (h310 : IsR v310 (fun r => (R r).dua2 w)) (h324 : IsV v324 (w.lng)) : IsK (k0_pay83 v86 v310 v324 : FVec Ideal S128x128 .f32) (fun r x => (R r).dxh w x * (R r).xhat x + (R r).dxh w (128 + x) * (R r).xhat (128 + x) + (R r).dxh w (256 + x) * (R r).xhat (256 + x) + (R r).dxh w (384 + x) * (R r).xhat (384 + x) + (R r).dxh w (512 + x) * (R r).xhat (512 + x) + (R r).dxh w (640 + x) * (R r).xhat (640 + x) + (R r).dxh w (768 + x) * (R r).xhat (768 + x) + (R r).dxh w (896 + x) * (R r).xhat (896 + x)) := by
  have q81 := (p81 w R h310 h324)
  intro r l
  pointwise [k0_pay83]
  simp only [q81, h86, h310, h324]
  try rfl

theorem p84 (w : Wts) (R : ℕ → Row) {v84 : FVec Ideal S128x1 .f32} {v86 : FVec Ideal S128x1024 .f32} {v347 : FVec Ideal S128x1024 .f32} {v363 : FVec Ideal S128x128 .f32} (h84 : IsC v84 (fun r => (R r).rstd)) (h86 : IsR v86 (fun r => (R r).xhat)) (h347 : IsR v347 (fun r d => (R r).dxh w d - mean ((R r).dxh w))) (h363 : IsK v363 (fun r x => (R r).dxh w x * (R r).xhat x + (R r).dxh w (128 + x) * (R r).xhat (128 + x) + (R r).dxh w (256 + x) * (R r).xhat (256 + x) + (R r).dxh w (384 + x) * (R r).xhat (384 + x) + (R r).dxh w (512 + x) * (R r).xhat (512 + x) + (R r).dxh w (640 + x) * (R r).xhat (640 + x) + (R r).dxh w (768 + x) * (R r).xhat (768 + x) + (R r).dxh w (896 + x) * (R r).xhat (896 + x))) : IsR (k0_pay84 v84 v86 v347 v363 : FVec Ideal S128x1024 .f32) (fun r => (R r).dua1 w) := by
  intro r l
  pointwise [k0_pay84]
  simp only [h84, h86, h347, h363]
  simp only [Row.dua1, mean, sum8]
  try rfl

theorem p85 (w : Wts) (R : ℕ → Row) {v84 : FVec Ideal S128x1 .f32} {v86 : FVec Ideal S128x1024 .f32} {v347 : FVec Ideal S128x1024 .f32} {v363 : FVec Ideal S128x128 .f32} {v373 : Vec Ideal S1x1024 .f32} {g : ℕ → EReal} (h84 : IsC v84 (fun r => (R r).rstd)) (h86 : IsR v86 (fun r => (R r).xhat)) (h347 : IsR v347 (fun r d => (R r).dxh w d - mean ((R r).dxh w))) (h363 : IsK v363 (fun r x => (R r).dxh w x * (R r).xhat x + (R r).dxh w (128 + x) * (R r).xhat (128 + x) + (R r).dxh w (256 + x) * (R r).xhat (256 + x) + (R r).dxh w (384 + x) * (R r).xhat (384 + x) + (R r).dxh w (512 + x) * (R r).xhat (512 + x) + (R r).dxh w (640 + x) * (R r).xhat (640 + x) + (R r).dxh w (768 + x) * (R r).xhat (768 + x) + (R r).dxh w (896 + x) * (R r).xhat (896 + x))) (h373 : IsV v373 (g)) : IsV (k0_pay85 v84 v86 v347 v363 v373 : FVec Ideal S1x1024 .f32) (fun d => g d + ∑ r ∈ Finset.range 128, (R r).dua1 w d) := by
  have q84 := (p84 w R h84 h86 h347 h363)
  intro l
  pointwise [k0_pay85]
  simp only [q84, h84, h86, h347, h363, h373]
  simp only [Finset.sum_range] <;> first | rfl | (simp only [Row.dya]; rfl)

theorem p86 (w : Wts) (R : ℕ → Row) {v84 : FVec Ideal S128x1 .f32} {v86 : FVec Ideal S128x1024 .f32} {v347 : FVec Ideal S128x1024 .f32} {v363 : FVec Ideal S128x128 .f32} (h84 : IsC v84 (fun r => (R r).rstd)) (h86 : IsR v86 (fun r => (R r).xhat)) (h347 : IsR v347 (fun r d => (R r).dxh w d - mean ((R r).dxh w))) (h363 : IsK v363 (fun r x => (R r).dxh w x * (R r).xhat x + (R r).dxh w (128 + x) * (R r).xhat (128 + x) + (R r).dxh w (256 + x) * (R r).xhat (256 + x) + (R r).dxh w (384 + x) * (R r).xhat (384 + x) + (R r).dxh w (512 + x) * (R r).xhat (512 + x) + (R r).dxh w (640 + x) * (R r).xhat (640 + x) + (R r).dxh w (768 + x) * (R r).xhat (768 + x) + (R r).dxh w (896 + x) * (R r).xhat (896 + x))) : IsL (k0_pay86 v84 v86 v347 v363 : FVec Ideal S1x128x1024 .f32) (fun r => (R r).dua1 w) := by
  have q84 := (p84 w R h84 h86 h347 h363)
  intro r l
  pointwise [k0_pay86]
  simp only [q84, h84, h86, h347, h363]
  try rfl

theorem p87 (w : Wts) (R : ℕ → Row) {v84 : FVec Ideal S128x1 .f32} {v86 : FVec Ideal S128x1024 .f32} {v347 : FVec Ideal S128x1024 .f32} {v363 : FVec Ideal S128x128 .f32} (h84 : IsC v84 (fun r => (R r).rstd)) (h86 : IsR v86 (fun r => (R r).xhat)) (h347 : IsR v347 (fun r d => (R r).dxh w d - mean ((R r).dxh w))) (h363 : IsK v363 (fun r x => (R r).dxh w x * (R r).xhat x + (R r).dxh w (128 + x) * (R r).xhat (128 + x) + (R r).dxh w (256 + x) * (R r).xhat (256 + x) + (R r).dxh w (384 + x) * (R r).xhat (384 + x) + (R r).dxh w (512 + x) * (R r).xhat (512 + x) + (R r).dxh w (640 + x) * (R r).xhat (640 + x) + (R r).dxh w (768 + x) * (R r).xhat (768 + x) + (R r).dxh w (896 + x) * (R r).xhat (896 + x))) : IsH (k0_pay87 v84 v86 v347 v363 : FVec Ideal S1x32x1024 .f32) (fun r => (R r).dua1 w) := by
  have q84 := (p84 w R h84 h86 h347 h363)
  intro r l
  pointwise [k0_pay87]
  simp only [q84, h84, h86, h347, h363]
  try rfl

theorem p88 (w : Wts) (R : ℕ → Row) {v106 : FVec Ideal S128x1024 .f32} {v107 : FVec Ideal S128x1024 .f32} {v111 : FVec Ideal S128x1024 .f32} {v388 : Vec Ideal S128x1024 .f32} (h106 : IsR v106 (fun r => (R r).sbz)) (h107 : IsR v107 (fun r => (R r).siluB)) (h111 : IsR v111 (fun r => (R r).ub)) (h388 : IsR v388 (fun r => (R r).dpb w)) : IsR (k0_pay88 v106 v107 v111 v388 : FVec Ideal S128x1024 .bf16) (fun r => (R r).pbz w) := by
  intro r l
  pointwise [k0_pay88]
  simp only [h106, h107, h111, h388]
  try rfl

theorem p89 (w : Wts) (R : ℕ → Row) {v107 : FVec Ideal S128x1024 .f32} {v388 : Vec Ideal S128x1024 .f32} (h107 : IsR v107 (fun r => (R r).siluB)) (h388 : IsR v388 (fun r => (R r).dpb w)) : IsR (k0_pay89 v107 v388 : FVec Ideal S128x1024 .f32) (fun r => (R r).dub w) := by
  intro r l
  pointwise [k0_pay89]
  simp only [h107, h388]
  try rfl

theorem p90 (w : Wts) (R : ℕ → Row) {v107 : FVec Ideal S128x1024 .f32} {v110 : Vec Ideal S128x1024 .f32} {v388 : Vec Ideal S128x1024 .f32} (h107 : IsR v107 (fun r => (R r).siluB)) (h110 : IsR v110 (fun r => (R r).c)) (h388 : IsR v388 (fun r => (R r).dpb w)) : IsR (k0_pay90 v107 v110 v388 : FVec Ideal S128x1024 .bf16) (fun r => (R r).pbb w) := by
  have q89 := (p89 w R h107 h388)
  intro r l
  pointwise [k0_pay90]
  simp only [q89, h107, h110, h388]
  try rfl

theorem p376 (w : Wts) (R : ℕ → Row) {v401 : FVec Ideal S128x1024 .bf16} (h401 : IsR v401 (fun r => (R r).pbb w)) : IsR (k0_pay376 v401 : FVec Ideal S128x1024 .bf16) (fun r => (R r).pbb w) := by
  intro r l
  pointwise [k0_pay376]
  simp only [h401]
  try rfl

theorem p377 (w : Wts) (R : ℕ → Row) {v109 : FVec Ideal S128x1024 .f32} {v399 : FVec Ideal S128x1024 .f32} (h109 : IsR v109 (fun r => (R r).bb)) (h399 : IsR v399 (fun r => (R r).dub w)) : IsR (k0_pay377 v109 v399 : FVec Ideal S128x1024 .f32) (fun r => (R r).dc3 w) := by
  intro r l
  pointwise [k0_pay377]
  simp only [h109, h399]
  try rfl

theorem p378 (w : Wts) (R : ℕ → Row) {v109 : FVec Ideal S128x1024 .f32} {v399 : FVec Ideal S128x1024 .f32} (h109 : IsR v109 (fun r => (R r).bb)) (h399 : IsR v399 (fun r => (R r).dub w)) : IsL (k0_pay378 v109 v399 : FVec Ideal S1x128x1024 .f32) (fun r => (R r).dc3 w) := by
  have q377 := (p377 w R h109 h399)
  intro r l
  pointwise [k0_pay378]
  simp only [q377, h109, h399]
  try rfl

theorem p379 (w : Wts) (R : ℕ → Row) {v109 : FVec Ideal S128x1024 .f32} {v399 : FVec Ideal S128x1024 .f32} (h109 : IsR v109 (fun r => (R r).bb)) (h399 : IsR v399 (fun r => (R r).dub w)) : IsE (k0_pay379 v109 v399 : FVec Ideal S1x8x1024 .f32) (fun r => (R r).dc3 w) := by
  have q377 := (p377 w R h109 h399)
  intro r l
  pointwise [k0_pay379]
  simp only [q377, h109, h399]
  try rfl

end Cert.Kernel2Ideal.Fp

end
-- ==== Proof.Fp.Front.lean ====
/- The first part of the body: the sums cleared, the finished tile stored, the tile's forward and backward pass. -/
module

public import proofs.«01_k».proof.Proof.Fp.Loop
public import proofs.«01_k».proof.Proof.Fp.Pay

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open Idealize.SL.BI.BIBase Idealize.SL.Sem
open Cert.Kernel2Ideal.Gen

theorem off56_at : ∀ i : grid0.Coords, k0_off56 i = ![(i 0).val % 2, 0, 0] := by decide +kernel
theorem off57_at : ∀ i : grid0.Coords, k0_off57 i = ![1 - (i 0).val % 2, 128, 0] := by decide +kernel
theorem off58_at : ∀ i : grid0.Coords, k0_off58 i = ![(i 0).val % 2, 0, 0] := by decide +kernel
theorem off59_at : ∀ i : grid0.Coords, k0_off59 i = ![1 - (i 0).val % 2, 128, 0] := by decide +kernel
theorem off60_at : ∀ i : grid0.Coords, k0_off60 i = ![1 - (i 0).val % 2, 128, 0] := by decide +kernel
theorem off61_at : ∀ i : grid0.Coords, k0_off61 i = ![1 - (i 0).val % 2, 128, 0] := by decide +kernel
theorem first_at : ∀ i : grid0.Coords, Scalar.cmpi CmpIPredicate.eq (BitVec.ofNat 32 (i 0).val) 0#32 = if (i 0).val = 0 then 1#1 else 0#1 := by decide +kernel
theorem token_at : ∀ i : grid0.Coords, (Scalar.extui (Scalar.cmpi CmpIPredicate.sge (BitVec.ofNat 32 (i 0).val) 1#32) : BitVec 32).toInt = if (i 0).val = 0 then 0 else 1 := by decide +kernel

/-- The weights, from the blocks of the launch. -/
def wts (X : Ins Ideal) : Wts where
  lng := at2 X.lng 0
  lnb := at2 X.lnb 0
  bao := at2 X.bao 0
  fng := at2 X.fng 0
  wA := at2 X.wA
  wB := at2 X.wAt
  wO := at2 X.wB
  wAt := at2 X.wBt
  wBt := at2 X.wO
  wOt := at2 X.wOt

/-- The rows of the tile of step `t`, from the blocks of the launch and the two convolutions. -/
def rowT (X : Ins Ideal) (U V : ℕ → ℕ → EReal) (t r : ℕ) : Row where
  u := U r
  c := V r
  az d := at2 X.proj r (2048 + d)
  bz d := at2 X.proj r (6144 + d)
  bb d := at2 X.proj r (3072 + d)
  ga d := at2 X.proj r (7168 + d)
  gb d := at2 X.proj r (8192 + d)
  s0 d := if t = 0 then at2 X.mtok r d else at2 X.xt r d
  tg := at2 X.tgt r
  tok := if t = 0 then 0 else 1

/-- At the first step every buffer that carries something from step to step is cleared. -/
def InitStep (t : ℕ) (s s' : St Ideal) : Prop :=
  (t ≠ 0 → s' = s) ∧ (t = 0 →
    (∃ ua0 cb dua1 dc3 dcaw dcbw small, s' = { s with ua0 := ua0, cb := cb, dua1 := dua1, dc3 := dc3, dcaw := dcaw, dcbw := dcbw, small := small })
    ∧ (∀ a j d, a < 2 → j < 160 → d < 1024 → at3 s'.ua0 a j d = 0)
    ∧ (∀ a j d, a < 2 → j < 136 → d < 1024 → at3 s'.cb a j d = 0)
    ∧ (∀ a j d, a < 2 → j < 160 → d < 1024 → at3 s'.dua1 a j d = 0)
    ∧ (∀ a j d, a < 2 → j < 136 → d < 1024 → at3 s'.dc3 a j d = 0)
    ∧ (∀ j d, j < 256 → d < 1024 → at2 s'.dcaw j d = 0)
    ∧ (∀ j d, j < 64 → d < 1024 → at2 s'.dcbw j d = 0)
    ∧ (∀ j d, j < 48 → d < 1024 → at2 s'.small j d = 0))

/-- From the second step on, the parts of the projection's gradient that wait in `stage` are stored. -/
def EmitStep (t : ℕ) (s s' : St Ideal) : Prop :=
  (t = 0 → s' = s) ∧ (t ≠ 0 → (∃ dproj, s' = { s with dproj := dproj })
    ∧ ∀ r d, at2 s'.dproj r d = if (0 ≤ r ∧ r < 0 + 128) ∧ 6144 ≤ d ∧ d < 6144 + 3072 then at2 s.stage r (d - 4096)
        else if (0 ≤ r ∧ r < 0 + 128) ∧ 2048 ≤ d ∧ d < 2048 + 2048 then at2 s.stage r (d - 2048) else at2 s.dproj r d)

/-- What the tile's forward pass and backward pass store, from the rows `R`. -/
def MidStep (w : Wts) (R : ℕ → Row) (b : ℕ) (s s' : St Ideal) : Prop :=
  (∃ lhs rhs ds small stage dua1 dc3 dpa dpb, s' = { s with lhs := lhs, rhs := rhs, ds := ds, small := small, stage := stage, dua1 := dua1, dc3 := dc3, dpa := dpa, dpb := dpb })
  ∧ (∀ r d, r < 128 → d < 1024 → at3 s'.lhs 0 r d = (R r).l0 w d ∧ at3 s'.lhs 1 r d = (R r).l1 d ∧ at3 s'.lhs 2 r d = (R r).l2 w d)
  ∧ (∀ r d, r < 128 → d < 1024 → at3 s'.rhs 0 r d = (R r).dya w d ∧ at3 s'.rhs 1 r d = (R r).dyb w d ∧ at3 s'.rhs 2 r d = (R r).ds1 w d)
  ∧ (∀ r d, r < 128 → d < 1024 → at2 s'.ds r d = (R r).ds1 w d)
  ∧ (∀ d, d < 1024 → at2 s'.small 0 d = at2 s.small 0 d + ∑ r ∈ Finset.range 128, (R r).gFin w d
      ∧ at2 s'.small 1 d = at2 s.small 1 d + ∑ r ∈ Finset.range 128, (R r).dya w d
      ∧ at2 s'.small 2 d = at2 s.small 2 d + ∑ r ∈ Finset.range 128, (R r).gLn w d
      ∧ at2 s'.small 3 d = at2 s.small 3 d + ∑ r ∈ Finset.range 128, (R r).dua2 w d
      ∧ at2 s'.small 4 d = at2 s.small 4 d + ∑ r ∈ Finset.range 128, (R r).dua1 w d
      ∧ at2 s'.small 5 d = at2 s.small 5 d + Ideal.ofBits FTy.f32 973078528#32 * ∑ r ∈ Finset.range 128, (R r).sq w d)
  ∧ (∀ j d, 6 ≤ j → at2 s'.small j d = at2 s.small j d)
  ∧ (∀ r d, r < 128 → d < 1024 → at2 s'.stage r d = (R r).paz w d ∧ at2 s'.stage r (1024 + d) = (R r).pbb w d ∧ at2 s'.stage r (2048 + d) = (R r).pbz w d
      ∧ at2 s'.stage r (3072 + d) = (R r).pga w d ∧ at2 s'.stage r (4096 + d) = (R r).pgb w d)
  ∧ (∀ a j d, d < 1024 → at3 s'.dua1 a j d = if a = b ∧ j < 128 then (R j).dua1 w d else if a = 1 - b ∧ 128 ≤ j ∧ j < 160 then (R (j - 128)).dua1 w d else at3 s.dua1 a j d)
  ∧ (∀ a j d, d < 1024 → at3 s'.dc3 a j d = if a = b ∧ j < 128 then (R j).dc3 w d else if a = 1 - b ∧ 128 ≤ j ∧ j < 136 then (R (j - 128)).dc3 w d else at3 s.dc3 a j d)

/-- At the last step there is no later tile, whose first rows are taken as zero. -/
def LaterStep (t : ℕ) (s s' : St Ideal) : Prop :=
  (t ≠ 33 → s' = s) ∧ (t = 33 → (∃ dua1 dc3, s' = { s with dua1 := dua1, dc3 := dc3 })
    ∧ (∀ a j d, d < 1024 → at3 s'.dua1 a j d = if a = 1 - t % 2 ∧ 128 ≤ j ∧ j < 160 then 0 else at3 s.dua1 a j d)
    ∧ (∀ a j d, d < 1024 → at3 s'.dc3 a j d = if a = 1 - t % 2 ∧ 128 ≤ j ∧ j < 136 then 0 else at3 s.dc3 a j d))

/-- A tile's forward and backward pass, up to the last step, which has no tile of its own. -/
def TileStep (X : Ins Ideal) (t : ℕ) (s s' : St Ideal) : Prop :=
  (t = 33 → s' = s) ∧ (t < 33 → ∃ s3, ConvStep X (t % 2) 0 1024 (fun j d => at3 s.ua0 (1 - t % 2) (128 + j) d) (fun j d => at3 s.cb (1 - t % 2) (128 + j) d) s s3
    ∧ MidStep (wts X) (rowT X (at2 s3.ua1) (at2 s3.c3) t) (t % 2) s3 s')

/-- What the first part of the body does. -/
def Front (X : Ins Ideal) (t : ℕ) (s s' : St Ideal) : Prop :=
  ∃ s1 s2 s3, InitStep t s s1 ∧ EmitStep t s1 s2 ∧ TileStep X t s2 s3 ∧ LaterStep t s3 s'

/-- Of a state, only a fact that holds of it. -/
theorem W.gen {σ α : Type} {c : Dev nD} {own : σ → sProp (MT nD τ sig Unit (Elt Ideal) ℕ (UR sig nD τ) ℕ)} {p : Prog (TpuEff nD τ sig (Elt Ideal) Λ₀ .tc) α}
    {st : σ} {Q : α → σ → Prop} (M : σ → Prop) (hm : M st) (h : ∀ s, M s → W c own p s Q) : W c own p st Q := h st hm

theorem zero3 {n0 n1 n2 : ℕ} {u u1 w : (⟨3, ![n0, n1, n2]⟩ : Shape).Idx → EReal} (hw : ∀ a b c, w (ix3 a b c) = 0)
    (p : ∀ a b c, at3 u1 a b c = if (0 ≤ a ∧ a < 0 + n0) ∧ (0 ≤ b ∧ b < 0 + n1) ∧ 0 ≤ c ∧ c < 0 + n2 then at3 w (a - 0) (b - 0) (c - 0) else at3 u a b c)
    {a b c : ℕ} (ha : a < n0) (hb : b < n1) (hc : c < n2) : at3 u1 a b c = 0 := by
  rw [p, if_pos (by omega), at3_of w (by omega) (by omega) (by omega)]
  exact hw _ _ _

theorem zero2 {n0 n1 : ℕ} {u u1 w : (⟨2, ![n0, n1]⟩ : Shape).Idx → EReal} (hw : ∀ a b, w (ix2 a b) = 0)
    (p : ∀ a b, at2 u1 a b = if (0 ≤ a ∧ a < 0 + n0) ∧ 0 ≤ b ∧ b < 0 + n1 then at2 w (a - 0) (b - 0) else at2 u a b)
    {a b : ℕ} (ha : a < n0) (hb : b < n1) : at2 u1 a b = 0 := by
  rw [p, if_pos (by omega), at2_of w (by omega) (by omega)]
  exact hw _ _

variable (c : Dev nD) (A : Refs) (X : Ins Ideal)

set_option pp.maxSteps 4 in
set_option maxHeartbeats 8000000 in
theorem front (i : grid0.Coords) (s : St Ideal) : W c (Own c A X) (k0_part58 (F := Ideal) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36) s fun _ s' => Front X (i 0).val s s' := by
  simp only [k0_part58_eq_skeleton]
  unfold k0_part58_skel
  simp only [k0_part10_eq_skeleton]
  unfold k0_part10_skel
  simp only [k0_part11_eq_skeleton, k0_part12_eq_skeleton, k0_part13_eq_skeleton, k0_part14_eq_skeleton, k0_part15_eq_skeleton, k0_part16_eq_skeleton, k0_part17_eq_skeleton, k0_part18_eq_skeleton]
  unfold k0_part11_skel k0_part12_skel k0_part13_skel k0_part14_skel k0_part15_skel k0_part16_skel k0_part17_skel k0_part18_skel
  have h1 := cond1_iff i
  have h2 := cond2_iff i
  have h3 := cond3_iff i
  have h4 := cond4_iff i
  have hb : (i 0).val % 2 < 2 := Nat.mod_lt _ (by decide)
  rcases (by omega : (i 0).val < 33 ∨ 33 ≤ (i 0).val) with hlt | hge
  · rcases (by omega : (i 0).val = 0 ∨ 1 ≤ (i 0).val) with ht | ht
    case' inl.inl =>
      refine W.dite (fun hc => ?_) (fun hc => absurd (h1.mpr ht) hc)
      apply W.bind; apply W.load3; intro v40 h40
      apply W.bind; apply W.store3; intro ua01 hua01
      apply W.bind; apply W.load3; intro v44 h44
      apply W.bind; apply W.store3; intro cb1 hcb1
      apply W.bind; apply W.load3; intro v48 h48
      apply W.bind; apply W.store3; intro dua11 hdua11
      apply W.bind; apply W.load3; intro v52 h52
      apply W.bind; apply W.store3; intro dc31 hdc31
      apply W.bind; apply W.load2; intro v56 h56
      apply W.bind; apply W.store2; intro dcaw1 hdcaw1
      apply W.bind; apply W.load2; intro v60 h60
      apply W.bind; apply W.store2; intro dcbw1 hdcbw1
      apply W.bind; apply W.load2; intro v64 h64
      apply W.bind; apply W.store2; intro small1 hsmall1
      apply W.gen (fun s1 => InitStep (i 0).val s s1)
      refine ⟨fun h => absurd ht h, fun _ => ?_⟩
      clear h40 h44 h48 h52 h56 h60 h64
      simp only [ReadSlot.get, Slot.get, Slot.set] at *
      refine ⟨⟨_, _, _, _, _, _, _, rfl⟩, ?_, ?_, ?_, ?_, ?_, ?_, ?_⟩
      · exact fun a j d ha hj hd => zero3 (by intro a b c; pointwise [k0_pay369]) hua01 ha hj hd
      · exact fun a j d ha hj hd => zero3 (by intro a b c; pointwise [k0_pay370]) hcb1 ha hj hd
      · exact fun a j d ha hj hd => zero3 (by intro a b c; pointwise [k0_pay371]) hdua11 ha hj hd
      · exact fun a j d ha hj hd => zero3 (by intro a b c; pointwise [k0_pay372]) hdc31 ha hj hd
      · exact fun j d hj hd => zero2 (by intro a b; pointwise [k0_pay373]) hdcaw1 hj hd
      · exact fun j d hj hd => zero2 (by intro a b; pointwise [k0_pay374]) hdcbw1 hj hd
      · exact fun j d hj hd => zero2 (by intro a b; pointwise [k0_pay375]) hsmall1 hj hd
      clear h40 h44 h48 h52 h56 h60 h64 hua01 hcb1 hdua11 hdc31 hdcaw1 hdcbw1 hsmall1
      intro s1 hs1
      refine W.dite (fun hc => absurd (h2.mp hc) (by omega)) (fun hc => ?_)
      apply W.gen (fun s2 => EmitStep (i 0).val s1 s2) ⟨fun _ => rfl, fun h => absurd ht h⟩
      intro s2 hs2
    case' inl.inr =>
      refine W.dite (fun hc => absurd (h1.mp hc) (by omega)) (fun hc => ?_)
      apply W.gen (fun s1 => InitStep (i 0).val s s1) ⟨fun _ => rfl, fun h => by omega⟩
      intro s1 hs1
      refine W.dite (fun hc => ?_) (fun hc => absurd (h2.mpr ht) hc)
      apply W.bind; apply W.load2; intro v39 h39
      apply W.bind; apply W.load2; intro v40 h40
      apply W.bind; apply W.store2; intro dproj1 hdproj1
      apply W.bind; apply W.load2; intro v41 h41
      apply W.bind; apply W.load2; intro v42 h42
      apply W.bind; apply W.store2; intro dproj2 hdproj2
      apply W.gen (fun s2 => EmitStep (i 0).val s1 s2)
      refine ⟨fun h => by omega, fun _ => ?_⟩
      clear h40 h42
      simp only [ReadSlot.get, Slot.get, Slot.set] at *
      refine ⟨⟨_, rfl⟩, fun r d => ?_⟩
      have H1 : ∀ r d, at2 dproj1 r d = if (0 ≤ r ∧ r < 0 + 128) ∧ 2048 ≤ d ∧ d < 2048 + 2048 then at2 s1.stage r (d - 2048) else at2 s1.dproj r d :=
        blk_put (e := fun r d => at2 s1.stage r (d - 2048)) rfl (fun y z => by rw [Nat.zero_add, Nat.add_sub_cancel_left]; exact A_load h39 rfl y z) hdproj1
      have H2 : ∀ r d, at2 dproj2 r d = if (0 ≤ r ∧ r < 0 + 128) ∧ 6144 ≤ d ∧ d < 6144 + 3072 then at2 s1.stage r (d - 4096) else at2 dproj1 r d :=
        blk_put (e := fun r d => at2 s1.stage r (d - 4096)) rfl (fun y z => by rw [Nat.zero_add, show 6144 + z.val - 4096 = 2048 + z.val by omega]; exact R_load h41 rfl y z) hdproj2
      rw [H2, H1]
      clear h39 h40 h41 h42 hdproj1 hdproj2
      intro s2 hs2
    all_goals
      refine W.dite (fun hc => ?_) (fun hc => absurd (h3.mpr hlt) hc)
      apply W.bind
      apply W.bind
      refine W.mono (loop1 c A X i _ _ hc s2) fun _ s3 hs3 => ?_
      apply W.bind; apply W.load2; intro v40 h40
      apply W.pure
      apply W.bind
      apply W.bind; apply W.load2; intro v87 h87
      apply W.bind; apply W.load2; intro v90 h90
      apply W.bind; apply W.load2; intro v95 h95
      apply W.bind; apply W.load3; intro v101 h101
      apply W.bind; apply W.store3; intro lhs1 hlhs1
      apply W.bind; apply W.load2; intro v104 h104
      apply W.bind; apply W.load2; intro v108 h108
      apply W.bind; apply W.load2; intro v110 h110
      apply W.bind; apply W.load3; intro v114 h114
      apply W.bind; apply W.store3; intro lhs2 hlhs2
      apply W.bind; apply W.load3; intro v117 h117
      apply W.bind; apply W.load2; intro v119 h119
      apply W.pure
      apply W.bind
      apply W.bind; apply W.load2; intro v122 h122
      apply W.bind; apply W.load3; intro v125 h125
      apply W.bind; apply W.load2; intro v127 h127
      apply W.bind; apply W.load2; intro v130 h130
      apply W.bind; apply W.load2; intro v133 h133
      apply W.bind; apply W.load3; intro v140 h140
      apply W.bind; apply W.store3; intro lhs3 hlhs3
      apply W.bind; apply W.load2; intro v144 h144
      apply W.bind; apply W.load2; intro v146 h146
      apply W.bind; apply W.load2; intro v149 h149
      apply W.pure
      apply W.bind
      apply W.bind; apply W.load2; intro v178 h178
      apply W.bind; apply W.load2; intro v185 h185
      apply W.bind; apply W.load2; intro v190 h190
      apply W.bind; apply W.load2; intro v198 h198
      apply W.bind; apply W.store2; intro small1 hsmall1
      apply W.pure
      apply W.bind
      apply W.bind; apply W.load2; intro v201 h201
      apply W.bind; apply W.load2; intro v209 h209
      apply W.bind; apply W.store2; intro small2 hsmall2
      apply W.bind; apply W.load2; intro v210 h210
      apply W.bind; apply W.load2; intro v242 h242
      apply W.bind; apply W.store2; intro ds1 hds1
      apply W.bind; apply W.load3; intro v244 h244
      apply W.pure
      apply W.bind
      apply W.bind; apply W.store3; intro rhs1 hrhs1
      apply W.bind; apply W.load2; intro v247 h247
      apply W.bind; apply W.load2; intro v257 h257
      apply W.bind; apply W.store2; intro stage1 hstage1
      apply W.bind; apply W.load2; intro v265 h265
      apply W.bind; apply W.store2; intro stage2 hstage2
      apply W.bind; apply W.load2; intro v268 h268
      apply W.bind; apply W.load2; intro v273 h273
      apply W.bind; apply W.store2; intro small3 hsmall3
      apply W.bind; apply W.load3; intro v276 h276
      apply W.bind; apply W.store3; intro rhs2 hrhs2
      apply W.bind; apply W.load3; intro v279 h279
      apply W.pure
      apply W.bind
      apply W.bind; apply W.store3; intro rhs3 hrhs3
      apply W.bind; apply W.load2; intro v282 h282
      apply W.bind; apply W.load2; intro v285 h285
      apply W.bind; apply W.store2; intro dpa1 hdpa1
      apply W.bind; apply W.load2; intro v288 h288
      apply W.bind; apply W.load2; intro v291 h291
      apply W.bind; apply W.store2; intro dpb1 hdpb1
      apply W.bind; apply W.load2; intro v294 h294
      apply W.bind; apply W.load2; intro v302 h302
      apply W.bind; apply W.store2; intro stage3 hstage3
      apply W.bind; apply W.load2; intro v311 h311
      apply W.pure
      apply W.bind
      apply W.bind; apply W.load2; intro v317 h317
      apply W.bind; apply W.store2; intro small4 hsmall4
      apply W.bind; apply W.load2; intro v318 h318
      apply W.bind; apply W.load2; intro v323 h323
      apply W.bind; apply W.store2; intro small5 hsmall5
      apply W.bind; apply W.load2; intro v324 h324
      apply W.pure
      apply W.bind
      apply W.bind; apply W.load2; intro v373 h373
      apply W.bind; apply W.load2; intro v378 h378
      apply W.bind; apply W.store2; intro small6 hsmall6
      apply W.bind; apply W.load3; intro v380 h380
      apply W.bind; apply W.store3; intro dua11 hdua11
      apply W.bind; apply W.load3; intro v385 h385
      apply W.bind; apply W.store3; intro dua12 hdua12
      apply W.bind; apply W.load2; intro v388 h388
      apply W.bind; apply W.load2; intro v396 h396
      apply W.bind; apply W.store2; intro stage4 hstage4
      apply W.pure
      apply W.bind; apply W.load2; intro v402 h402
      apply W.bind; apply W.store2; intro stage5 hstage5
      apply W.bind; apply W.load3; intro v407 h407
      apply W.bind; apply W.store3; intro dc31 hdc31
      apply W.bind; apply W.load3; intro v412 h412
      apply W.bind; apply W.store3; intro dc32 hdc32
      apply W.gen (fun s4 => TileStep X (i 0).val s2 s4)
      refine ⟨fun h => by omega, fun _ => ⟨s3, hs3, ?_⟩⟩
      clear hs3 hs1 hs2
      simp only [ReadSlot.get, Slot.get, Slot.set] at *
      set w := wts X with hw
      set R := rowT X (at2 s3.ua1) (at2 s3.c3) (i 0).val with hR
      have e40 : IsR v40 (fun r => (R r).u) := fun r l => A_load h40 rfl r l
      have e84 := p29 w R e40
      have e86 := p30 w R e40
      have e87 : IsV v87 (w.lng) := fun l => V_load h87 rfl l
      have e90 : IsV v90 (w.lnb) := fun l => V_load h90 rfl l
      have e95 : IsR v95 (fun r => (R r).az) := fun r l => R_load h95 rfl r l
      have q37 := p37 w R e86 e87 e90 e95
      have Hlhs1 : ∀ a j x, at3 lhs1 a j x = if a = 0 ∧ (0 ≤ j ∧ j < 0 + 128) ∧ 0 ≤ x ∧ x < 0 + 1024 then (R (j - 0)).l0 w x else at3 s3.lhs a j x := slab_put (e := fun j x => (R (j - 0)).l0 w x) rfl (fun y z => by rw [Nat.add_sub_cancel_left, Nat.zero_add]; exact q37 y z) hlhs1
      have e104 : IsR v104 (fun r => (R r).bz) := fun r l => R_load h104 rfl r l
      have e108 : IsR v108 (fun r => (R r).bb) := fun r l => R_load h108 rfl r l
      have e110 : IsR v110 (fun r => (R r).c) := fun r l => A_load h110 rfl r l
      have q43 := p43 w R e104 e108 e110
      have Hlhs2 : ∀ a j x, at3 lhs2 a j x = if a = 1 ∧ (0 ≤ j ∧ j < 0 + 128) ∧ 0 ≤ x ∧ x < 0 + 1024 then (R (j - 0)).l1 x else at3 lhs1 a j x := slab_put (e := fun j x => (R (j - 0)).l1 x) rfl (fun y z => by rw [Nat.add_sub_cancel_left, Nat.zero_add]; exact q43 y z) hlhs2
      have e117 : IsL v117 (fun r => (R r).l0 w) := fun r l => (L_load h117 rfl r l).trans ((Hlhs2 _ _ _).trans ((if_neg (by omega)).trans ((Hlhs1 _ _ _).trans (if_pos ⟨rfl, ⟨by omega, by omega⟩, by omega, by omega⟩))))
      have e119 : IsM v119 (w.wA) := fun r l => A_load h119 rfl r l
      have e48 : IsR (constant (F := Ideal) S128x1024 .f32 0x00000000#32) (fun _ _ => 0) := fun r l => by pointwise []
      have e93 := p32 w R e86 e87 e90
      have e94 := p33 w R e86 e87 e90
      have e97 := p35 w R e95
      have e98 := p36 w R e95
      have e106 := p39 w R e104
      have e107 := p40 w R e104
      have e109 := p41 w R e108
      have e111 := p42 w R e108 e110
      have e118 := p44 w R e117
      have e120 := p45 w R e119
      have e122 : IsV v122 (w.bao) := fun l => V_load h122 rfl l
      have e125 : IsL v125 (fun r => (R r).l1) := fun r l => (L_load h125 rfl r l).trans ((Hlhs2 _ _ _).trans (if_pos ⟨rfl, ⟨by omega, by omega⟩, by omega, by omega⟩))
      have e127 : IsM v127 (w.wB) := fun r l => A_load h127 rfl r l
      have e130 : IsR v130 (fun r => (R r).ga) := fun r l => R_load h130 rfl r l
      have e133 : IsR v133 (fun r => (R r).gb) := fun r l => R_load h133 rfl r l
      have q51 := p51 w R e118 e120 e48 e122 e125 e127 e130 e133
      have Hlhs3 : ∀ a j x, at3 lhs3 a j x = if a = 2 ∧ (0 ≤ j ∧ j < 0 + 128) ∧ 0 ≤ x ∧ x < 0 + 1024 then (R (j - 0)).l2 w x else at3 lhs2 a j x := slab_put (e := fun j x => (R (j - 0)).l2 w x) rfl (fun y z => by rw [Nat.add_sub_cancel_left, Nat.zero_add]; exact q51 y z) hlhs3
      have e144 : ∀ (r : Fin 128) (l : Fin 1024), v144 (ix2 r l) = at2 X.mtok r.val l.val := A_load h144 rfl
      have e146 : ∀ (r : Fin 128) (l : Fin 1024), v146 (ix2 r l) = at2 X.xt r.val l.val := A_load h146 rfl
      have h0 : ∀ (r : Fin 128) (l : Fin 1024), Scalar.select (Scalar.cmpi CmpIPredicate.eq (BitVec.ofNat 32 (i 0).val) 0#32) (v144 (ix2 r l)) (v146 (ix2 r l)) = (R r.val).s0 l.val := fun r l => by
        rw [first_at, e144, e146]
        by_cases c0 : (i 0).val = 0
        · rw [if_pos c0]; exact (if_pos c0).symm
        · rw [if_neg c0]; exact (if_neg c0).symm
      have ht : ∀ r : Fin 128, (((Scalar.extui (Scalar.cmpi CmpIPredicate.sge (BitVec.ofNat 32 (i 0).val) 1#32) : BitVec 32).toInt : ℝ) : EReal) = (R r.val).tok := fun r => by
        rw [token_at]
        by_cases c0 : (i 0).val = 0
        · rw [if_pos c0]; exact (by norm_num : (((0 : ℤ) : ℝ) : EReal) = 0).trans (if_pos c0).symm
        · rw [if_neg c0]; exact (by norm_num : (((1 : ℤ) : ℝ) : EReal) = 1).trans (if_neg c0).symm
      have e149 : IsM v149 (w.wO) := fun r l => A_load h149 rfl r l
      have e124 := p46 w R e118 e120 e48 e122
      have e129 := p47 w R e125 e127
      have e132 := p48 w R e130
      have e135 := p49 w R e133
      have e152 := p52 w R _ e118 e120 e48 e122 e125 e127 e130 e133 e149 h0
      have e153 := p53 w R _ e118 e120 e48 e122 e125 e127 e130 e133 e149 h0
      have e154 := p54 w R _ e118 e120 e48 e122 e125 e127 e130 e133 e149 h0
      have e155 := p55 w R _ e118 e120 e48 e122 e125 e127 e130 e133 e149 h0
      have e156 := p56 w R _ e118 e120 e48 e122 e125 e127 e130 e133 e149 h0
      have e178 : IsV v178 (w.fng) := fun l => V_load h178 rfl l
      have e185 : IsR v185 (fun r => (R r).tg) := fun r l => A_load h185 rfl r l
      have e190 : IsV v190 (fun d => at2 s3.small 5 d) := fun l => (V_load h190 rfl l).trans (rfl)
      have q59 := p59 w R _ e152 e153 e154 e155 e156 e178 e185 e190 ht
      have Hsmall1 : ∀ j x, at2 small1 j x = if (5 ≤ j ∧ j < 5 + 1) ∧ 0 ≤ x ∧ x < 0 + 1024 then at2 s3.small 5 x + Ideal.ofBits FTy.f32 973078528#32 * ∑ r ∈ Finset.range 128, (R r).sq w x else at2 s3.small j x := blk_put (e := fun _ x => at2 s3.small 5 x + Ideal.ofBits FTy.f32 973078528#32 * ∑ r ∈ Finset.range 128, (R r).sq w x) rfl (fun y z => by obtain rfl : y = 0 := Subsingleton.elim _ _; rw [Nat.zero_add]; exact q59 z) hsmall1
      have e175 := p57 w R e153 e154 e155 e156
      have e200 := p60 w R _ e152 e153 e154 e155 e156 e178 e185 ht
      have e201 : IsV v201 (fun d => at2 s3.small 0 d) := fun l => (V_load h201 rfl l).trans ((Hsmall1 _ _).trans ((if_neg (by omega)).trans (rfl)))
      have q61 := p61 w R e152 e175 e200 e201
      have Hsmall2 : ∀ j x, at2 small2 j x = if (0 ≤ j ∧ j < 0 + 1) ∧ 0 ≤ x ∧ x < 0 + 1024 then at2 s3.small 0 x + ∑ r ∈ Finset.range 128, (R r).gFin w x else at2 small1 j x := blk_put (e := fun _ x => at2 s3.small 0 x + ∑ r ∈ Finset.range 128, (R r).gFin w x) rfl (fun y z => by obtain rfl : y = 0 := Subsingleton.elim _ _; rw [Nat.zero_add]; exact q61 z) hsmall2
      have e210 : IsV v210 (w.fng) := fun l => V_load h210 rfl l
      have q62 := p62 w R e152 e175 e200 e210
      have Hds1 : ∀ j x, at2 ds1 j x = if (0 ≤ j ∧ j < 0 + 128) ∧ 0 ≤ x ∧ x < 0 + 1024 then (R j).ds1 w (x - 0) else at2 s3.ds j x := blk_put (e := fun j x => (R j).ds1 w (x - 0)) rfl (fun y z => by rw [Nat.zero_add, Nat.add_sub_cancel_left]; exact q62 y z) hds1
      have e243 := p63 w R e152 e175 e200 e210
      have q64 := p64 w R e243
      have Hrhs1 : ∀ a j x, at3 rhs1 a j x = if a = 2 ∧ (0 ≤ j ∧ j < 0 + 128) ∧ 0 ≤ x ∧ x < 0 + 1024 then (R (j - 0)).ds1 w x else at3 s3.rhs a j x := slab_put (e := fun j x => (R (j - 0)).ds1 w x) rfl (fun y z => by rw [Nat.add_sub_cancel_left, Nat.zero_add]; exact q64 y z) hrhs1
      have e247 : IsM v247 (w.wOt) := fun r l => A_load h247 rfl r l
      have q68 := p68 w R e124 e132 e243 e247
      have Hstage1 : ∀ j x, at2 stage1 j x = if (0 ≤ j ∧ j < 0 + 128) ∧ 3072 ≤ x ∧ x < 3072 + 1024 then (R j).pga w (x - 3072) else at2 s3.stage j x := blk_put (e := fun j x => (R j).pga w (x - 3072)) rfl (fun y z => by rw [Nat.zero_add, Nat.add_sub_cancel_left]; exact q68 y z) hstage1
      have q69 := p69 w R e129 e135 e243 e247
      have Hstage2 : ∀ j x, at2 stage2 j x = if (0 ≤ j ∧ j < 0 + 128) ∧ 4096 ≤ x ∧ x < 4096 + 1024 then (R j).pgb w (x - 4096) else at2 stage1 j x := blk_put (e := fun j x => (R j).pgb w (x - 4096)) rfl (fun y z => by rw [Nat.zero_add, Nat.add_sub_cancel_left]; exact q69 y z) hstage2
      have e268 : IsV v268 (fun d => at2 s3.small 1 d) := fun l => (V_load h268 rfl l).trans ((Hsmall2 _ _).trans ((if_neg (by omega)).trans ((Hsmall1 _ _).trans ((if_neg (by omega)).trans (rfl)))))
      have q70 := p70 w R e132 e243 e247 e268
      have Hsmall3 : ∀ j x, at2 small3 j x = if (1 ≤ j ∧ j < 1 + 1) ∧ 0 ≤ x ∧ x < 0 + 1024 then at2 s3.small 1 x + ∑ r ∈ Finset.range 128, (R r).dya w x else at2 small2 j x := blk_put (e := fun _ x => at2 s3.small 1 x + ∑ r ∈ Finset.range 128, (R r).dya w x) rfl (fun y z => by obtain rfl : y = 0 := Subsingleton.elim _ _; rw [Nat.zero_add]; exact q70 z) hsmall3
      have q73 := p73 w R e132 e243 e247
      have Hrhs2 : ∀ a j x, at3 rhs2 a j x = if a = 0 ∧ (0 ≤ j ∧ j < 0 + 128) ∧ 0 ≤ x ∧ x < 0 + 1024 then (R (j - 0)).dya w x else at3 rhs1 a j x := slab_put (e := fun j x => (R (j - 0)).dya w x) rfl (fun y z => by rw [Nat.add_sub_cancel_left, Nat.zero_add]; exact q73 y z) hrhs2
      have e274 := p71 w R e132 e243 e247
      have e275 := p72 w R e135 e243 e247
      have q74 := p74 w R e275
      have Hrhs3 : ∀ a j x, at3 rhs3 a j x = if a = 1 ∧ (0 ≤ j ∧ j < 0 + 128) ∧ 0 ≤ x ∧ x < 0 + 1024 then (R (j - 0)).dyb w x else at3 rhs2 a j x := slab_put (e := fun j x => (R (j - 0)).dyb w x) rfl (fun y z => by rw [Nat.add_sub_cancel_left, Nat.zero_add]; exact q74 y z) hrhs3
      have e282 : IsM v282 (w.wAt) := fun r l => A_load h282 rfl r l
      have q75 := p75 w R e274 e282
      have Hdpa1 : ∀ j x, at2 dpa1 j x = if (0 ≤ j ∧ j < 0 + 128) ∧ 0 ≤ x ∧ x < 0 + 1024 then (R j).dpa w (x - 0) else at2 s3.dpa j x := blk_put (e := fun j x => (R j).dpa w (x - 0)) rfl (fun y z => by rw [Nat.zero_add, Nat.add_sub_cancel_left]; exact q75 y z) hdpa1
      have e288 : IsM v288 (w.wBt) := fun r l => A_load h288 rfl r l
      have q76 := p76 w R e275 e288
      have Hdpb1 : ∀ j x, at2 dpb1 j x = if (0 ≤ j ∧ j < 0 + 128) ∧ 0 ≤ x ∧ x < 0 + 1024 then (R j).dpb w (x - 0) else at2 s3.dpb j x := blk_put (e := fun j x => (R j).dpb w (x - 0)) rfl (fun y z => by rw [Nat.zero_add, Nat.add_sub_cancel_left]; exact q76 y z) hdpb1
      have e294 : IsR v294 (fun r => (R r).dpa w) := fun r l => (A_load h294 rfl r l).trans ((Hdpa1 _ _).trans (if_pos ⟨⟨by omega, by omega⟩, by omega, by omega⟩))
      have q77 := p77 w R e94 e97 e98 e294
      have Hstage3 : ∀ j x, at2 stage3 j x = if (0 ≤ j ∧ j < 0 + 128) ∧ 0 ≤ x ∧ x < 0 + 1024 then (R j).paz w (x - 0) else at2 stage2 j x := blk_put (e := fun j x => (R j).paz w (x - 0)) rfl (fun y z => by rw [Nat.zero_add, Nat.add_sub_cancel_left]; exact q77 y z) hstage3
      have e311 : IsV v311 (fun d => at2 s3.small 2 d) := fun l => (V_load h311 rfl l).trans ((Hsmall3 _ _).trans ((if_neg (by omega)).trans ((Hsmall2 _ _).trans ((if_neg (by omega)).trans ((Hsmall1 _ _).trans ((if_neg (by omega)).trans (rfl)))))))
      have e310 := p78 w R e93 e94 e98 e294
      have e316 := p79 w R e86 e93 e94 e98 e294 e311
      have Hsmall4 : ∀ j x, at2 small4 j x = if (2 ≤ j ∧ j < 2 + 1) ∧ 0 ≤ x ∧ x < 0 + 1024 then at2 s3.small 2 x + ∑ r ∈ Finset.range 128, (R r).gLn w x else at2 small3 j x := blk_put (e := fun _ x => at2 s3.small 2 x + ∑ r ∈ Finset.range 128, (R r).gLn w x) rfl (fun y z => by obtain rfl : y = 0 := Subsingleton.elim _ _; rw [Nat.zero_add]; exact e316 z) hsmall4
      have e318 : IsV v318 (fun d => at2 s3.small 3 d) := fun l => (V_load h318 rfl l).trans ((Hsmall4 _ _).trans ((if_neg (by omega)).trans ((Hsmall3 _ _).trans ((if_neg (by omega)).trans ((Hsmall2 _ _).trans ((if_neg (by omega)).trans ((Hsmall1 _ _).trans ((if_neg (by omega)).trans (rfl)))))))))
      have q80 := p80 w R e310 e318
      have Hsmall5 : ∀ j x, at2 small5 j x = if (3 ≤ j ∧ j < 3 + 1) ∧ 0 ≤ x ∧ x < 0 + 1024 then at2 s3.small 3 x + ∑ r ∈ Finset.range 128, (R r).dua2 w x else at2 small4 j x := blk_put (e := fun _ x => at2 s3.small 3 x + ∑ r ∈ Finset.range 128, (R r).dua2 w x) rfl (fun y z => by obtain rfl : y = 0 := Subsingleton.elim _ _; rw [Nat.zero_add]; exact q80 z) hsmall5
      have e324 : IsV v324 (w.lng) := fun l => V_load h324 rfl l
      have e347 := p82 w R e310 e324
      have e363 := p83 w R e86 e310 e324
      have e373 : IsV v373 (fun d => at2 s3.small 4 d) := fun l => (V_load h373 rfl l).trans ((Hsmall5 _ _).trans ((if_neg (by omega)).trans ((Hsmall4 _ _).trans ((if_neg (by omega)).trans ((Hsmall3 _ _).trans ((if_neg (by omega)).trans ((Hsmall2 _ _).trans ((if_neg (by omega)).trans ((Hsmall1 _ _).trans ((if_neg (by omega)).trans (rfl)))))))))))
      have q85 := p85 w R e84 e86 e347 e363 e373
      have Hsmall6 : ∀ j x, at2 small6 j x = if (4 ≤ j ∧ j < 4 + 1) ∧ 0 ≤ x ∧ x < 0 + 1024 then at2 s3.small 4 x + ∑ r ∈ Finset.range 128, (R r).dua1 w x else at2 small5 j x := blk_put (e := fun _ x => at2 s3.small 4 x + ∑ r ∈ Finset.range 128, (R r).dua1 w x) rfl (fun y z => by obtain rfl : y = 0 := Subsingleton.elim _ _; rw [Nat.zero_add]; exact q85 z) hsmall6
      have q86 := p86 w R e84 e86 e347 e363
      have Hdua11 : ∀ a j x, at3 dua11 a j x = if a = (i 0).val % 2 ∧ (0 ≤ j ∧ j < 0 + 128) ∧ 0 ≤ x ∧ x < 0 + 1024 then (R (j - 0)).dua1 w x else at3 s3.dua1 a j x := slab_put (e := fun j x => (R (j - 0)).dua1 w x) (off56_at i) (fun y z => by rw [Nat.add_sub_cancel_left, Nat.zero_add]; exact q86 y z) hdua11
      have q87 := p87 w R e84 e86 e347 e363
      have Hdua12 : ∀ a j x, at3 dua12 a j x = if a = (1 - (i 0).val % 2) ∧ (128 ≤ j ∧ j < 128 + 32) ∧ 0 ≤ x ∧ x < 0 + 1024 then (R (j - 128)).dua1 w x else at3 dua11 a j x := slab_put (e := fun j x => (R (j - 128)).dua1 w x) (off57_at i) (fun y z => by rw [Nat.add_sub_cancel_left, Nat.zero_add]; exact q87 y z) hdua12
      have e388 : IsR v388 (fun r => (R r).dpb w) := fun r l => (A_load h388 rfl r l).trans ((Hdpb1 _ _).trans (if_pos ⟨⟨by omega, by omega⟩, by omega, by omega⟩))
      have q88 := p88 w R e106 e107 e111 e388
      have Hstage4 : ∀ j x, at2 stage4 j x = if (0 ≤ j ∧ j < 0 + 128) ∧ 2048 ≤ x ∧ x < 2048 + 1024 then (R j).pbz w (x - 2048) else at2 stage3 j x := blk_put (e := fun j x => (R j).pbz w (x - 2048)) rfl (fun y z => by rw [Nat.zero_add, Nat.add_sub_cancel_left]; exact q88 y z) hstage4
      have e399 := p89 w R e107 e388
      have e401 := p90 w R e107 e110 e388
      have q376 := p376 w R e401
      have Hstage5 : ∀ j x, at2 stage5 j x = if (0 ≤ j ∧ j < 0 + 128) ∧ 1024 ≤ x ∧ x < 1024 + 1024 then (R j).pbb w (x - 1024) else at2 stage4 j x := blk_put (e := fun j x => (R j).pbb w (x - 1024)) rfl (fun y z => by rw [Nat.zero_add, Nat.add_sub_cancel_left]; exact q376 y z) hstage5
      have q378 := p378 w R e109 e399
      have Hdc31 : ∀ a j x, at3 dc31 a j x = if a = (i 0).val % 2 ∧ (0 ≤ j ∧ j < 0 + 128) ∧ 0 ≤ x ∧ x < 0 + 1024 then (R (j - 0)).dc3 w x else at3 s3.dc3 a j x := slab_put (e := fun j x => (R (j - 0)).dc3 w x) (off58_at i) (fun y z => by rw [Nat.add_sub_cancel_left, Nat.zero_add]; exact q378 y z) hdc31
      have q379 := p379 w R e109 e399
      have Hdc32 : ∀ a j x, at3 dc32 a j x = if a = (1 - (i 0).val % 2) ∧ (128 ≤ j ∧ j < 128 + 8) ∧ 0 ≤ x ∧ x < 0 + 1024 then (R (j - 128)).dc3 w x else at3 dc31 a j x := slab_put (e := fun j x => (R (j - 128)).dc3 w x) (off59_at i) (fun y z => by rw [Nat.add_sub_cancel_left, Nat.zero_add]; exact q379 y z) hdc32
      refine ⟨⟨_, _, _, _, _, _, _, _, _, rfl⟩, fun r d hr hd => ⟨?_, ?_, ?_⟩, fun r d hr hd => ⟨?_, ?_, ?_⟩, fun r d hr hd => ?_, fun d hd => ⟨?_, ?_, ?_, ?_, ?_, ?_⟩, fun j d hj => ?_, fun r d hr hd => ⟨?_, ?_, ?_, ?_, ?_⟩, fun a j d hd => ?_, fun a j d hd => ?_⟩
      · show at3 lhs3 _ _ _ = _
        rw [Hlhs3, if_neg (by omega), Hlhs2, if_neg (by omega), Hlhs1, if_pos (by omega), Nat.sub_zero]
      · show at3 lhs3 _ _ _ = _
        rw [Hlhs3, if_neg (by omega), Hlhs2, if_pos (by omega), Nat.sub_zero]
      · show at3 lhs3 _ _ _ = _
        rw [Hlhs3, if_pos (by omega), Nat.sub_zero]
      · show at3 rhs3 _ _ _ = _
        rw [Hrhs3, if_neg (by omega), Hrhs2, if_pos (by omega), Nat.sub_zero]
      · show at3 rhs3 _ _ _ = _
        rw [Hrhs3, if_pos (by omega), Nat.sub_zero]
      · show at3 rhs3 _ _ _ = _
        rw [Hrhs3, if_neg (by omega), Hrhs2, if_neg (by omega), Hrhs1, if_pos (by omega), Nat.sub_zero]
      · show at2 ds1 _ _ = _
        rw [Hds1, if_pos (by omega), Nat.sub_zero]
      · show at2 small6 _ _ = _
        rw [Hsmall6, if_neg (by omega), Hsmall5, if_neg (by omega), Hsmall4, if_neg (by omega), Hsmall3, if_neg (by omega), Hsmall2, if_pos (by omega)]
      · show at2 small6 _ _ = _
        rw [Hsmall6, if_neg (by omega), Hsmall5, if_neg (by omega), Hsmall4, if_neg (by omega), Hsmall3, if_pos (by omega)]
      · show at2 small6 _ _ = _
        rw [Hsmall6, if_neg (by omega), Hsmall5, if_neg (by omega), Hsmall4, if_pos (by omega)]
      · show at2 small6 _ _ = _
        rw [Hsmall6, if_neg (by omega), Hsmall5, if_pos (by omega)]
      · show at2 small6 _ _ = _
        rw [Hsmall6, if_pos (by omega)]
      · show at2 small6 _ _ = _
        rw [Hsmall6, if_neg (by omega), Hsmall5, if_neg (by omega), Hsmall4, if_neg (by omega), Hsmall3, if_neg (by omega), Hsmall2, if_neg (by omega), Hsmall1, if_pos (by omega)]
      · show at2 small6 _ _ = _
        rw [Hsmall6, if_neg (by omega), Hsmall5, if_neg (by omega), Hsmall4, if_neg (by omega), Hsmall3, if_neg (by omega), Hsmall2, if_neg (by omega), Hsmall1, if_neg (by omega)]
      · show at2 stage5 _ _ = _
        rw [Hstage5, if_neg (by omega), Hstage4, if_neg (by omega), Hstage3, if_pos (by omega), Nat.sub_zero]
      · show at2 stage5 _ _ = _
        rw [Hstage5, if_pos (by omega), Nat.add_sub_cancel_left]
      · show at2 stage5 _ _ = _
        rw [Hstage5, if_neg (by omega), Hstage4, if_pos (by omega), Nat.add_sub_cancel_left]
      · show at2 stage5 _ _ = _
        rw [Hstage5, if_neg (by omega), Hstage4, if_neg (by omega), Hstage3, if_neg (by omega), Hstage2, if_neg (by omega), Hstage1, if_pos (by omega), Nat.add_sub_cancel_left]
      · show at2 stage5 _ _ = _
        rw [Hstage5, if_neg (by omega), Hstage4, if_neg (by omega), Hstage3, if_neg (by omega), Hstage2, if_pos (by omega), Nat.add_sub_cancel_left]
      · show at3 dua12 _ _ _ = _
        rw [Hdua12, Hdua11, Nat.sub_zero]
        split_ifs <;> first | rfl | (exfalso; omega)
      · show at3 dc32 _ _ _ = _
        rw [Hdc32, Hdc31, Nat.sub_zero]
        split_ifs <;> first | rfl | (exfalso; omega)
      intro s4 hs4
      refine W.dite (fun hc => absurd (h4.mp hc) (by omega)) (fun hc => ?_)
      apply W.pure
      exact ⟨s1, s2, s4, hs1, hs2, hs4, fun _ => rfl, fun h => by omega⟩
  · have ht : (i 0).val = 33 := by
      have := (i 0).isLt
      exact Nat.le_antisymm (Nat.lt_succ_iff.mp this) hge
    refine W.dite (fun hc => absurd (h1.mp hc) (by omega)) (fun hc => ?_)
    apply W.gen (fun s1 => InitStep (i 0).val s s1) ⟨fun _ => rfl, fun h => by omega⟩
    intro s1 hs1
    refine W.dite (fun hc => ?_) (fun hc => absurd (h2.mpr (by omega)) hc)
    apply W.bind; apply W.load2; intro v39 h39
    apply W.bind; apply W.load2; intro v40 h40
    apply W.bind; apply W.store2; intro dproj1 hdproj1
    apply W.bind; apply W.load2; intro v41 h41
    apply W.bind; apply W.load2; intro v42 h42
    apply W.bind; apply W.store2; intro dproj2 hdproj2
    apply W.gen (fun s2 => EmitStep (i 0).val s1 s2)
    refine ⟨fun h => by omega, fun _ => ?_⟩
    clear h40 h42
    simp only [ReadSlot.get, Slot.get, Slot.set] at *
    refine ⟨⟨_, rfl⟩, fun r d => ?_⟩
    have H1 : ∀ r d, at2 dproj1 r d = if (0 ≤ r ∧ r < 0 + 128) ∧ 2048 ≤ d ∧ d < 2048 + 2048 then at2 s1.stage r (d - 2048) else at2 s1.dproj r d :=
      blk_put (e := fun r d => at2 s1.stage r (d - 2048)) rfl (fun y z => by rw [Nat.zero_add, Nat.add_sub_cancel_left]; exact A_load h39 rfl y z) hdproj1
    have H2 : ∀ r d, at2 dproj2 r d = if (0 ≤ r ∧ r < 0 + 128) ∧ 6144 ≤ d ∧ d < 6144 + 3072 then at2 s1.stage r (d - 4096) else at2 dproj1 r d :=
      blk_put (e := fun r d => at2 s1.stage r (d - 4096)) rfl (fun y z => by rw [Nat.zero_add, show 6144 + z.val - 4096 = 2048 + z.val by omega]; exact R_load h41 rfl y z) hdproj2
    rw [H2, H1]
    clear h39 h40 h41 h42 hdproj1 hdproj2
    intro s2 hs2
    apply W.gen (fun s4 => TileStep X (i 0).val s2 s4) ⟨fun _ => rfl, fun h => by omega⟩
    intro s4 hs4
    refine W.dite (fun hc => absurd (h3.mp hc) (by omega)) (fun hc => ?_)
    refine W.dite (fun hc => ?_) (fun hc => absurd (h4.mpr ht) hc)
    apply W.bind; apply W.load3; intro v41 h41
    apply W.bind; apply W.store3; intro dua11 hdua11
    apply W.bind; apply W.load3; intro v46 h46
    apply W.bind; apply W.store3; intro dc31 hdc31
    apply W.gen (fun s5 => LaterStep (i 0).val s4 s5)
    · refine ⟨fun h => absurd ht h, fun _ => ?_⟩
      clear h41 h46
      simp only [ReadSlot.get, Slot.get, Slot.set] at *
      refine ⟨⟨_, _, rfl⟩, fun a j d hd => ?_, fun a j d hd => ?_⟩
      · refine (slab_put (e := fun _ _ => (0 : EReal)) (off60_at i) (fun y z => by pointwise [k0_pay380]) hdua11 a j d).trans ?_
        split_ifs <;> first | rfl | (exfalso; omega)
      · refine (slab_put (e := fun _ _ => (0 : EReal)) (off61_at i) (fun y z => by pointwise [k0_pay381]) hdc31 a j d).trans ?_
        split_ifs <;> first | rfl | (exfalso; omega)
    · intro s5 hs5
      apply W.pure
      exact ⟨s1, s2, s4, hs1, hs2, hs4, hs5⟩

end Cert.Kernel2Ideal.Fp

end
-- ==== Proof.Fp.Back.lean ====
/- A trip of the loop of the convolutions' gradients. -/
module

public import proofs.«01_k».proof.Proof.Fp.Conv

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open Idealize.SL.BI.BIBase Idealize.SL.Sem
open Cert.Kernel2Ideal.Gen

theorem off62_at : ∀ (i : grid0.Coords) (k : Fin k0_t2_loop.trips), k0_off62 i k = ![1 - (i 0).val % 2, 32, 128 * k.val] := by decide +kernel
theorem off63_at : ∀ (i : grid0.Coords) (k : Fin k0_t2_loop.trips), k0_off63 i k = ![1 - (i 0).val % 2, 0, 128 * k.val] := by decide +kernel
theorem off66_at : ∀ (i : grid0.Coords) (k : Fin k0_t2_loop.trips), k0_off66 i k = ![1 - (i 0).val % 2, 8, 128 * k.val] := by decide +kernel
theorem off69_at : ∀ (i : grid0.Coords) (k : Fin k0_t2_loop.trips), k0_off69 i k = ![1 - (i 0).val % 2, 16, 128 * k.val] := by decide +kernel
theorem off72_at : ∀ (i : grid0.Coords) (k : Fin k0_t2_loop.trips), k0_off72 i k = ![1 - (i 0).val % 2, 24, 128 * k.val] := by decide +kernel
theorem off75_at : ∀ (i : grid0.Coords) (k : Fin k0_t2_loop.trips), k0_off75 i k = ![1 - (i 0).val % 2, 1, 128 * k.val] := by decide +kernel
theorem off84_at : ∀ (i : grid0.Coords) (k : Fin k0_t2_loop.trips), k0_off84 i k = ![1 - (i 0).val % 2, 2, 128 * k.val] := by decide +kernel
theorem off93_at : ∀ (i : grid0.Coords) (k : Fin k0_t2_loop.trips), k0_off93 i k = ![1 - (i 0).val % 2, 3, 128 * k.val] := by decide +kernel
theorem off102_at : ∀ (i : grid0.Coords) (k : Fin k0_t2_loop.trips), k0_off102 i k = ![1 - (i 0).val % 2, 4, 128 * k.val] := by decide +kernel
theorem off111_at : ∀ (i : grid0.Coords) (k : Fin k0_t2_loop.trips), k0_off111 i k = ![1 - (i 0).val % 2, 5, 128 * k.val] := by decide +kernel
theorem off120_at : ∀ (i : grid0.Coords) (k : Fin k0_t2_loop.trips), k0_off120 i k = ![1 - (i 0).val % 2, 6, 128 * k.val] := by decide +kernel
theorem off129_at : ∀ (i : grid0.Coords) (k : Fin k0_t2_loop.trips), k0_off129 i k = ![1 - (i 0).val % 2, 7, 128 * k.val] := by decide +kernel
theorem off138_at : ∀ (i : grid0.Coords) (k : Fin k0_t2_loop.trips), k0_off138 i k = ![1 - (i 0).val % 2, 8, 128 * k.val] := by decide +kernel
theorem off139_at : ∀ (i : grid0.Coords) (k : Fin k0_t2_loop.trips), k0_off139 i k = ![1 - (i 0).val % 2, 0, 128 * k.val] := by decide +kernel
theorem off142_at : ∀ (i : grid0.Coords) (k : Fin k0_t2_loop.trips), k0_off142 i k = ![1 - (i 0).val % 2, 1, 128 * k.val] := by decide +kernel
theorem off145_at : ∀ (i : grid0.Coords) (k : Fin k0_t2_loop.trips), k0_off145 i k = ![1 - (i 0).val % 2, 2, 128 * k.val] := by decide +kernel
theorem off136a_at : ∀ (k : Fin k0_t2_loop.trips), k0_off136 k 0#32 = ![0, 0 + 128 * k.val] := by decide +kernel
theorem off136b_at : ∀ (k : Fin k0_t2_loop.trips), k0_off136 k 1024#32 = ![0, 1024 + 128 * k.val] := by decide +kernel
theorem off137a_at : ∀ (k : Fin k0_t2_loop.trips), k0_off137 k 0#32 = ![0, 0 + 128 * k.val] := by decide +kernel
theorem off137b_at : ∀ (k : Fin k0_t2_loop.trips), k0_off137 k 1024#32 = ![0, 1024 + 128 * k.val] := by decide +kernel
theorem off137c_at : ∀ (k : Fin k0_t2_loop.trips), k0_off137 k 4096#32 = ![0, 4096 + 128 * k.val] := by decide +kernel
theorem off137d_at : ∀ (k : Fin k0_t2_loop.trips), k0_off137 k 5120#32 = ![0, 5120 + 128 * k.val] := by decide +kernel

/-- The sum over the 16 groups of eight rows of a product of two columns, the second `j` rows later. -/
def fold8 (U L : ℕ → ℕ → EReal) (h j m d : ℕ) : EReal := ∑ q ∈ Finset.range 16, U (h + (8 * q + m)) d * L (j + (8 * q + m)) d

/-- What a tile adds to the sums of the first convolution's weight gradient. -/
def GA (U L : ℕ → ℕ → EReal) (k m d : ℕ) : EReal := fold8 U L 32 (30 - k) m d
/-- What a tile adds to the sums of the second convolution's weight gradient. -/
def GB (V M : ℕ → ℕ → EReal) (k m d : ℕ) : EReal := fold8 V M 8 (2 - k) m d

/-- The transposed first convolution. -/
def tU (X : Ins Ideal) (L : ℕ → ℕ → EReal) (r d : ℕ) : EReal := ∑ j ∈ Finset.range 31, at2 X.caw (30 - j) d * L (j + r) d
/-- The transposed second convolution. -/
def tV (X : Ins Ideal) (M : ℕ → ℕ → EReal) (r d : ℕ) : EReal := ∑ j ∈ Finset.range 3, at2 X.cbw (2 - j) d * M (j + r) d
/-- The terms of a sum of 31, in the order of their residues by 8. -/
theorem perm31 (f : ℕ → EReal) : f 0 + f 8 + f 16 + f 24 + f 1 + f 9 + f 17 + f 25 + f 2 + f 10 + f 18 + f 26 + f 3 + f 11 + f 19 + f 27 + f 4 + f 12 + f 20 + f 28 + f 5 + f 13 + f 21 + f 29 + f 6 + f 14 + f 22 + f 30 + f 7 + f 15 + f 23 = ∑ j ∈ Finset.range 31, f j := by
  simp only [Finset.sum_range_succ, Finset.sum_range_zero, zero_add]
  generalize f 0 = a0, f 1 = a1, f 2 = a2, f 3 = a3, f 4 = a4, f 5 = a5, f 6 = a6, f 7 = a7, f 8 = a8, f 9 = a9, f 10 = a10, f 11 = a11, f 12 = a12, f 13 = a13, f 14 = a14, f 15 = a15, f 16 = a16, f 17 = a17, f 18 = a18, f 19 = a19, f 20 = a20, f 21 = a21, f 22 = a22, f 23 = a23, f 24 = a24, f 25 = a25, f 26 = a26, f 27 = a27, f 28 = a28, f 29 = a29, f 30 = a30
  abel

theorem tU_eq (X : Ins Ideal) (L : ℕ → ℕ → EReal) (r d : ℕ) : tU X L r d = at2 X.caw 30 d * L r d + at2 X.caw 22 d * L (8 + r) d + at2 X.caw 14 d * L (16 + r) d + at2 X.caw 6 d * L (24 + r) d + at2 X.caw 29 d * L (1 + r) d + at2 X.caw 21 d * L (9 + r) d + at2 X.caw 13 d * L (17 + r) d + at2 X.caw 5 d * L (25 + r) d + at2 X.caw 28 d * L (2 + r) d + at2 X.caw 20 d * L (10 + r) d + at2 X.caw 12 d * L (18 + r) d + at2 X.caw 4 d * L (26 + r) d + at2 X.caw 27 d * L (3 + r) d + at2 X.caw 19 d * L (11 + r) d + at2 X.caw 11 d * L (19 + r) d + at2 X.caw 3 d * L (27 + r) d + at2 X.caw 26 d * L (4 + r) d + at2 X.caw 18 d * L (12 + r) d + at2 X.caw 10 d * L (20 + r) d + at2 X.caw 2 d * L (28 + r) d + at2 X.caw 25 d * L (5 + r) d + at2 X.caw 17 d * L (13 + r) d + at2 X.caw 9 d * L (21 + r) d + at2 X.caw 1 d * L (29 + r) d + at2 X.caw 24 d * L (6 + r) d + at2 X.caw 16 d * L (14 + r) d + at2 X.caw 8 d * L (22 + r) d + at2 X.caw 0 d * L (30 + r) d + at2 X.caw 23 d * L (7 + r) d + at2 X.caw 15 d * L (15 + r) d + at2 X.caw 7 d * L (23 + r) d := by
  refine (perm31 fun j => at2 X.caw (30 - j) d * L (j + r) d).symm.trans ?_
  simp only [Nat.reduceSub, zero_add]

/-- The gate of the first branch's input. -/
def sgA (X : Ins Ideal) (r d : ℕ) : EReal := Ideal.logistic (at2 X.aprev r (1024 + d))
/-- The gradients of the four parts of the projection that pass through the convolutions. -/
def pAval (X : Ins Ideal) (L : ℕ → ℕ → EReal) (r d : ℕ) : EReal := tU X L r d * sgA X r d
@[inherit_doc pAval]
def pAglu (X : Ins Ideal) (L : ℕ → ℕ → EReal) (r d : ℕ) : EReal := tU X L r d * at2 X.aprev r (0 + d) * (sgA X r d * (1 - sgA X r d))
@[inherit_doc pAval]
def pBc (X : Ins Ideal) (M : ℕ → ℕ → EReal) (r d : ℕ) : EReal := tV X M r d * at2 X.cprev r (1024 + d)
@[inherit_doc pAval]
def pBx (X : Ins Ideal) (M : ℕ → ℕ → EReal) (r d : ℕ) : EReal := tV X M r d * at2 X.cprev r (0 + d)

/-- Sums of eight rows each, of which those of the set `S` have grown by `G` in 128 columns. -/
def Folded {n0 n1 : ℕ} (S : Finset ℕ) (lo : ℕ) (G : ℕ → ℕ → ℕ → EReal) (u0 u : (⟨2, ![n0, n1]⟩ : Shape).Idx → EReal) : Prop :=
  ∀ p x, at2 u p x = if p / 8 ∈ S ∧ lo ≤ x ∧ x < lo + 128 then at2 u0 p x + G (p / 8) (p % 8) x else at2 u0 p x

theorem Folded.refl {n0 n1 : ℕ} (lo : ℕ) (G : ℕ → ℕ → ℕ → EReal) (u0 : (⟨2, ![n0, n1]⟩ : Shape).Idx → EReal) : Folded ∅ lo G u0 u0 :=
  fun _ _ => (if_neg (fun h => absurd h.1 (Finset.notMem_empty _))).symm

theorem four_puts (lo r d : ℕ) (hlo : lo + 128 ≤ 1024) (a b e f o : EReal) :
    (if (0 ≤ r ∧ r < 0 + 128) ∧ 5120 + lo ≤ d ∧ d < 5120 + lo + 128 then f
      else if (0 ≤ r ∧ r < 0 + 128) ∧ 4096 + lo ≤ d ∧ d < 4096 + lo + 128 then e
      else if (0 ≤ r ∧ r < 0 + 128) ∧ 1024 + lo ≤ d ∧ d < 1024 + lo + 128 then b
      else if (0 ≤ r ∧ r < 0 + 128) ∧ 0 + lo ≤ d ∧ d < 0 + lo + 128 then a else o)
    = if r < 128 ∧ lo ≤ d ∧ d < lo + 128 then a
      else if r < 128 ∧ 1024 + lo ≤ d ∧ d < 1024 + (lo + 128) then b
      else if r < 128 ∧ 4096 + lo ≤ d ∧ d < 4096 + (lo + 128) then e
      else if r < 128 ∧ 5120 + lo ≤ d ∧ d < 5120 + (lo + 128) then f else o := by
  split_ifs <;> first | rfl | (exfalso; omega)

/-- One more sum grows. -/
theorem Folded.put {n0 n1 : ℕ} {S : Finset ℕ} {k lo : ℕ} {G : ℕ → ℕ → ℕ → EReal} {u0 u u1 : (⟨2, ![n0, n1]⟩ : Shape).Idx → EReal}
    {v w : (⟨2, ![8, 128]⟩ : Shape).Idx → EReal} {off off' : Fin 2 → ℕ} (h : Folded S lo G u0 u) (hk : k ∉ S)
    (hv : ∀ y z, v (ix2 y z) = at2 u (off 0 + y.val) (off 1 + z.val)) (ho : off = ![8 * k, lo])
    (he : ∀ (y : Fin 8) (z : Fin 128), w (ix2 y z) = v (ix2 y z) + G k y.val (lo + z.val))
    (hp : ∀ a b, at2 u1 a b = if (off' 0 ≤ a ∧ a < off' 0 + 8) ∧ off' 1 ≤ b ∧ b < off' 1 + 128 then at2 w (a - off' 0) (b - off' 1) else at2 u a b)
    (ho' : off' = ![8 * k, lo]) : Folded (insert k S) lo G u0 u1 := by
  intro p x
  have hw : ∀ (y : Fin 8) (z : Fin 128), w (ix2 y z) = (fun p x => at2 u0 p x + G (p / 8) (p % 8) x) (8 * k + y.val) (lo + z.val) := fun y z => by
    subst ho
    refine (he y z).trans ?_
    show _ = at2 u0 (8 * k + y.val) (lo + z.val) + G ((8 * k + y.val) / 8) ((8 * k + y.val) % 8) (lo + z.val)
    rw [show (8 * k + y.val) / 8 = k by omega, show (8 * k + y.val) % 8 = y.val by omega]
    refine congrArg (· + _) ((hv y z).trans ((h _ _).trans (if_neg fun c => hk ?_)))
    have c1 : (8 * k + y.val) / 8 ∈ S := c.1
    rwa [show (8 * k + y.val) / 8 = k by omega] at c1
  rw [blk_put (e := fun p x => at2 u0 p x + G (p / 8) (p % 8) x) ho' hw hp p x, h p x]
  by_cases c1 : p / 8 = k
  · by_cases c2 : lo ≤ x ∧ x < lo + 128
    · rw [if_pos (by omega), if_pos ⟨by rw [c1]; exact Finset.mem_insert_self _ _, c2⟩]
    · rw [if_neg (by omega), if_neg (fun c => c2 c.2), if_neg (fun c => c2 c.2)]
  · rw [if_neg (by omega)]
    have e : (p / 8 ∈ insert k S) ↔ p / 8 ∈ S := by rw [Finset.mem_insert]; tauto
    simp only [e]

/-- The buffers written by the loop, in columns `lo ≤ d < hi` of each part. -/
def LagStep (X : Ins Ideal) (lo hi : ℕ) (U L V M : ℕ → ℕ → EReal) (s s' : St Ideal) : Prop :=
  (∃ dproj dcaw dcbw shift, s' = { s with dproj := dproj, dcaw := dcaw, dcbw := dcbw, shift := shift })
  ∧ (∀ r d, at2 s'.dproj r d = if r < 128 ∧ lo ≤ d ∧ d < hi then pAval X L r d
      else if r < 128 ∧ 1024 + lo ≤ d ∧ d < 1024 + hi then pAglu X L r (d - 1024)
      else if r < 128 ∧ 4096 + lo ≤ d ∧ d < 4096 + hi then pBc X M r (d - 4096)
      else if r < 128 ∧ 5120 + lo ≤ d ∧ d < 5120 + hi then pBx X M r (d - 5120) else at2 s.dproj r d)
  ∧ (∀ p d, at2 s'.dcaw p d = if p / 8 < 31 ∧ lo ≤ d ∧ d < hi then at2 s.dcaw p d + GA U L (p / 8) (p % 8) d else at2 s.dcaw p d)
  ∧ (∀ p d, at2 s'.dcbw p d = if p / 8 < 3 ∧ lo ≤ d ∧ d < hi then at2 s.dcbw p d + GB V M (p / 8) (p % 8) d else at2 s.dcbw p d)

variable (c : Dev nD) (A : Refs) (X : Ins Ideal)

set_option pp.maxSteps 200
set_option maxHeartbeats 8000000 in
/-- A trip: 128 columns of the transposed convolutions and of the weights' gradients. -/
theorem trip2 (i : grid0.Coords) (v20 : BitVec 32) (h5 : k0_cond5 i = 1#1) (k : Fin k0_t2_loop.trips) (s : St Ideal) (U L V M : ℕ → ℕ → EReal)
    (hU : ∀ j l, j < 160 → l < 128 → at3 s.ua0 (1 - (i 0).val % 2) j (128 * k.val + l) = U j (128 * k.val + l))
    (hL : ∀ j l, j < 160 → l < 128 → at3 s.dua1 (1 - (i 0).val % 2) j (128 * k.val + l) = L j (128 * k.val + l))
    (hV : ∀ j l, j < 136 → l < 128 → at3 s.cb (1 - (i 0).val % 2) j (128 * k.val + l) = V j (128 * k.val + l))
    (hM : ∀ j l, j < 136 → l < 128 → at3 s.dc3 (1 - (i 0).val % 2) j (128 * k.val + l) = M j (128 * k.val + l)) :
    W c (Own c A X) (k0_t2_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 v20 h5 k ⟨⟩) s fun _ s' => LagStep X (128 * k.val) (128 * k.val + 128) U L V M s s' := by
  unfold k0_t2_body
  simp only [k0_part52_eq_skeleton]
  unfold k0_part52_skel
  simp only [k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton]
  unfold k0_part19_skel k0_part20_skel k0_part21_skel k0_part22_skel k0_part23_skel k0_part24_skel k0_part25_skel k0_part26_skel k0_part27_skel k0_part28_skel k0_part29_skel k0_part30_skel k0_part31_skel k0_part32_skel k0_part33_skel k0_part34_skel k0_part35_skel k0_part36_skel k0_part37_skel k0_part38_skel k0_part39_skel k0_part40_skel k0_part41_skel k0_part42_skel k0_part43_skel k0_part44_skel k0_part45_skel k0_part46_skel k0_part47_skel k0_part48_skel k0_part49_skel k0_part50_skel k0_part51_skel
  apply W.bind
  apply W.bind
  apply W.bind; apply W.load3; intro v44 h44
  apply W.bind; apply W.load3; intro v49 h49
  apply W.bind; apply W.load2; intro v52 h52
  apply W.bind; apply W.load2; intro v58 h58
  apply W.pure
  apply W.bind
  apply W.bind; apply W.load2; intro v93 h93
  apply W.bind; apply W.store2; intro dcaw1 hdcaw1
  apply W.bind; apply W.load3; intro v98 h98
  apply W.bind; apply W.load2; intro v101 h101
  apply W.bind; apply W.load2; intro v107 h107
  apply W.bind; apply W.load2; intro v142 h142
  apply W.bind; apply W.store2; intro dcaw2 hdcaw2
  apply W.pure
  apply W.bind
  apply W.bind; apply W.load3; intro v147 h147
  apply W.bind; apply W.load2; intro v150 h150
  apply W.bind; apply W.load2; intro v156 h156
  apply W.bind; apply W.load2; intro v191 h191
  apply W.bind; apply W.store2; intro dcaw3 hdcaw3
  apply W.bind; apply W.load3; intro v196 h196
  apply W.pure
  apply W.bind
  apply W.bind; apply W.load2; intro v199 h199
  apply W.bind; apply W.load2; intro v205 h205
  apply W.bind; apply W.load2; intro v240 h240
  apply W.bind; apply W.store2; intro dcaw4 hdcaw4
  apply W.bind; apply W.load3; intro v245 h245
  apply W.bind; apply W.load3; intro v247 h247
  apply W.bind; apply W.store3; intro sh1 hsh1
  apply W.pure
  apply W.bind
  apply W.bind; apply W.load3; intro v250 h250
  apply W.bind; apply W.load2; intro v253 h253
  apply W.bind; apply W.load2; intro v259 h259
  apply W.bind; apply W.load2; intro v294 h294
  apply W.bind; apply W.store2; intro dcaw5 hdcaw5
  apply W.bind; apply W.load3; intro v297 h297
  apply W.pure
  apply W.bind
  apply W.bind; apply W.load2; intro v300 h300
  apply W.bind; apply W.load2; intro v306 h306
  apply W.bind; apply W.load2; intro v341 h341
  apply W.bind; apply W.store2; intro dcaw6 hdcaw6
  apply W.bind; apply W.load3; intro v344 h344
  apply W.bind; apply W.load2; intro v347 h347
  apply W.pure
  apply W.bind
  apply W.bind; apply W.load2; intro v353 h353
  apply W.bind; apply W.load2; intro v388 h388
  apply W.bind; apply W.store2; intro dcaw7 hdcaw7
  apply W.bind; apply W.load3; intro v391 h391
  apply W.bind; apply W.load2; intro v394 h394
  apply W.bind; apply W.load2; intro v400 h400
  apply W.pure
  apply W.bind
  apply W.bind; apply W.load2; intro v435 h435
  apply W.bind; apply W.store2; intro dcaw8 hdcaw8
  apply W.bind; apply W.load3; intro v440 h440
  apply W.bind; apply W.load3; intro v442 h442
  apply W.bind; apply W.store3; intro sh2 hsh2
  apply W.bind; apply W.load3; intro v445 h445
  apply W.bind; apply W.load2; intro v448 h448
  apply W.pure
  apply W.bind
  apply W.bind; apply W.load2; intro v454 h454
  apply W.bind; apply W.load2; intro v489 h489
  apply W.bind; apply W.store2; intro dcaw9 hdcaw9
  apply W.bind; apply W.load3; intro v492 h492
  apply W.bind; apply W.load2; intro v495 h495
  apply W.bind; apply W.load2; intro v501 h501
  apply W.pure
  apply W.bind
  apply W.bind; apply W.load2; intro v536 h536
  apply W.bind; apply W.store2; intro dcaw10 hdcaw10
  apply W.bind; apply W.load3; intro v539 h539
  apply W.bind; apply W.load2; intro v542 h542
  apply W.bind; apply W.load2; intro v548 h548
  apply W.pure
  apply W.bind
  apply W.bind; apply W.load2; intro v583 h583
  apply W.bind; apply W.store2; intro dcaw11 hdcaw11
  apply W.bind; apply W.load3; intro v586 h586
  apply W.bind; apply W.load2; intro v589 h589
  apply W.bind; apply W.load2; intro v595 h595
  apply W.pure
  apply W.bind
  apply W.bind; apply W.load2; intro v630 h630
  apply W.bind; apply W.store2; intro dcaw12 hdcaw12
  apply W.bind; apply W.load3; intro v635 h635
  apply W.bind; apply W.load3; intro v637 h637
  apply W.bind; apply W.store3; intro sh3 hsh3
  apply W.bind; apply W.load3; intro v640 h640
  apply W.bind; apply W.load2; intro v643 h643
  apply W.bind; apply W.load2; intro v649 h649
  apply W.pure
  apply W.bind
  apply W.bind; apply W.load2; intro v684 h684
  apply W.bind; apply W.store2; intro dcaw13 hdcaw13
  apply W.bind; apply W.load3; intro v687 h687
  apply W.bind; apply W.load2; intro v690 h690
  apply W.bind; apply W.load2; intro v696 h696
  apply W.pure
  apply W.bind
  apply W.bind; apply W.load2; intro v731 h731
  apply W.bind; apply W.store2; intro dcaw14 hdcaw14
  apply W.bind; apply W.load3; intro v734 h734
  apply W.bind; apply W.load2; intro v737 h737
  apply W.bind; apply W.load2; intro v743 h743
  apply W.pure
  apply W.bind
  apply W.bind; apply W.load2; intro v778 h778
  apply W.bind; apply W.store2; intro dcaw15 hdcaw15
  apply W.bind; apply W.load3; intro v781 h781
  apply W.bind; apply W.load2; intro v784 h784
  apply W.bind; apply W.load2; intro v790 h790
  apply W.pure
  apply W.bind
  apply W.bind; apply W.load2; intro v825 h825
  apply W.bind; apply W.store2; intro dcaw16 hdcaw16
  apply W.bind; apply W.load3; intro v830 h830
  apply W.bind; apply W.load3; intro v832 h832
  apply W.bind; apply W.store3; intro sh4 hsh4
  apply W.bind; apply W.load3; intro v835 h835
  apply W.bind; apply W.load2; intro v838 h838
  apply W.bind; apply W.load2; intro v844 h844
  apply W.pure
  apply W.bind
  apply W.bind; apply W.load2; intro v879 h879
  apply W.bind; apply W.store2; intro dcaw17 hdcaw17
  apply W.bind; apply W.load3; intro v882 h882
  apply W.bind; apply W.load2; intro v885 h885
  apply W.bind; apply W.load2; intro v891 h891
  apply W.pure
  apply W.bind
  apply W.bind; apply W.load2; intro v926 h926
  apply W.bind; apply W.store2; intro dcaw18 hdcaw18
  apply W.bind; apply W.load3; intro v929 h929
  apply W.bind; apply W.load2; intro v932 h932
  apply W.bind; apply W.load2; intro v938 h938
  apply W.pure
  apply W.bind
  apply W.bind; apply W.load2; intro v973 h973
  apply W.bind; apply W.store2; intro dcaw19 hdcaw19
  apply W.bind; apply W.load3; intro v976 h976
  apply W.bind; apply W.load2; intro v979 h979
  apply W.bind; apply W.load2; intro v985 h985
  apply W.bind; apply W.load2; intro v1020 h1020
  apply W.bind; apply W.store2; intro dcaw20 hdcaw20
  apply W.pure
  apply W.bind
  apply W.bind; apply W.load3; intro v1025 h1025
  apply W.bind; apply W.load3; intro v1027 h1027
  apply W.bind; apply W.store3; intro sh5 hsh5
  apply W.bind; apply W.load3; intro v1030 h1030
  apply W.bind; apply W.load2; intro v1033 h1033
  apply W.bind; apply W.load2; intro v1039 h1039
  apply W.pure
  apply W.bind
  apply W.bind; apply W.load2; intro v1074 h1074
  apply W.bind; apply W.store2; intro dcaw21 hdcaw21
  apply W.bind; apply W.load3; intro v1077 h1077
  apply W.bind; apply W.load2; intro v1080 h1080
  apply W.bind; apply W.load2; intro v1086 h1086
  apply W.bind; apply W.load2; intro v1121 h1121
  apply W.bind; apply W.store2; intro dcaw22 hdcaw22
  apply W.pure
  apply W.bind
  apply W.bind; apply W.load3; intro v1124 h1124
  apply W.bind; apply W.load2; intro v1127 h1127
  apply W.bind; apply W.load2; intro v1133 h1133
  apply W.bind; apply W.load2; intro v1168 h1168
  apply W.bind; apply W.store2; intro dcaw23 hdcaw23
  apply W.bind; apply W.load3; intro v1171 h1171
  apply W.pure
  apply W.bind
  apply W.bind; apply W.load2; intro v1174 h1174
  apply W.bind; apply W.load2; intro v1180 h1180
  apply W.bind; apply W.load2; intro v1215 h1215
  apply W.bind; apply W.store2; intro dcaw24 hdcaw24
  apply W.bind; apply W.load3; intro v1220 h1220
  apply W.bind; apply W.load3; intro v1222 h1222
  apply W.bind; apply W.store3; intro sh6 hsh6
  apply W.pure
  apply W.bind
  apply W.bind; apply W.load3; intro v1225 h1225
  apply W.bind; apply W.load2; intro v1228 h1228
  apply W.bind; apply W.load2; intro v1234 h1234
  apply W.bind; apply W.load2; intro v1269 h1269
  apply W.bind; apply W.store2; intro dcaw25 hdcaw25
  apply W.bind; apply W.load3; intro v1272 h1272
  apply W.pure
  apply W.bind
  apply W.bind; apply W.load2; intro v1275 h1275
  apply W.bind; apply W.load2; intro v1281 h1281
  apply W.bind; apply W.load2; intro v1316 h1316
  apply W.bind; apply W.store2; intro dcaw26 hdcaw26
  apply W.bind; apply W.load3; intro v1319 h1319
  apply W.bind; apply W.load2; intro v1322 h1322
  apply W.pure
  apply W.bind
  apply W.bind; apply W.load2; intro v1328 h1328
  apply W.bind; apply W.load2; intro v1363 h1363
  apply W.bind; apply W.store2; intro dcaw27 hdcaw27
  apply W.bind; apply W.load3; intro v1366 h1366
  apply W.bind; apply W.load2; intro v1369 h1369
  apply W.bind; apply W.load2; intro v1375 h1375
  apply W.pure
  apply W.bind
  apply W.bind; apply W.load2; intro v1410 h1410
  apply W.bind; apply W.store2; intro dcaw28 hdcaw28
  apply W.bind; apply W.load3; intro v1415 h1415
  apply W.bind; apply W.load3; intro v1417 h1417
  apply W.bind; apply W.store3; intro sh7 hsh7
  apply W.bind; apply W.load3; intro v1420 h1420
  apply W.bind; apply W.load2; intro v1423 h1423
  apply W.pure
  apply W.bind
  apply W.bind; apply W.load2; intro v1429 h1429
  apply W.bind; apply W.load2; intro v1464 h1464
  apply W.bind; apply W.store2; intro dcaw29 hdcaw29
  apply W.bind; apply W.load3; intro v1467 h1467
  apply W.bind; apply W.load2; intro v1470 h1470
  apply W.bind; apply W.load2; intro v1476 h1476
  apply W.pure
  apply W.bind
  apply W.bind; apply W.load2; intro v1511 h1511
  apply W.bind; apply W.store2; intro dcaw30 hdcaw30
  apply W.bind; apply W.load3; intro v1514 h1514
  apply W.bind; apply W.load2; intro v1517 h1517
  apply W.bind; apply W.load2; intro v1523 h1523
  apply W.pure
  apply W.bind
  apply W.bind; apply W.load2; intro v1558 h1558
  apply W.bind; apply W.store2; intro dcaw31 hdcaw31
  apply W.bind; apply W.load2; intro v1565 h1565
  apply W.bind; apply W.load2; intro v1571 h1571
  apply W.bind; apply W.load2; intro v1580 h1580
  apply W.bind; apply W.store2; intro dproj1 hdproj1
  apply W.pure
  apply W.bind
  apply W.bind; apply W.load2; intro v1591 h1591
  apply W.bind; apply W.store2; intro dproj2 hdproj2
  apply W.bind; apply W.load3; intro v1594 h1594
  apply W.bind; apply W.load3; intro v1599 h1599
  apply W.bind; apply W.load2; intro v1602 h1602
  apply W.bind; apply W.load2; intro v1608 h1608
  apply W.pure
  apply W.bind
  apply W.bind; apply W.load2; intro v1643 h1643
  apply W.bind; apply W.store2; intro dcbw1 hdcbw1
  apply W.bind; apply W.load3; intro v1648 h1648
  apply W.bind; apply W.load2; intro v1651 h1651
  apply W.bind; apply W.load2; intro v1657 h1657
  apply W.pure
  apply W.bind
  apply W.bind; apply W.load2; intro v1692 h1692
  apply W.bind; apply W.store2; intro dcbw2 hdcbw2
  apply W.bind; apply W.load3; intro v1697 h1697
  apply W.bind; apply W.load2; intro v1700 h1700
  apply W.bind; apply W.load2; intro v1706 h1706
  apply W.pure
  apply W.bind; apply W.load2; intro v1741 h1741
  apply W.bind; apply W.store2; intro dcbw3 hdcbw3
  apply W.bind; apply W.load2; intro v1748 h1748
  apply W.bind; apply W.load2; intro v1756 h1756
  apply W.bind; apply W.store2; intro dproj3 hdproj3
  apply W.pure
  apply W.bind; apply W.load2; intro v1761 h1761
  apply W.bind; apply W.load2; intro v1769 h1769
  apply W.bind; apply W.store2; intro dproj4 hdproj4
  apply W.pure
  simp only [ReadSlot.get, Slot.get, Slot.set] at *
  have hk : k.val < 8 := k.2
  have hA0 := Folded.refl (128 * k.val) (GA U L) s.dcaw
  have hB0 := Folded.refl (128 * k.val) (GB V M) s.dcbw
  have e44 := E_load (q := 32) hU h44 (off62_at i k) (by omega)
  have e49 := E_load (q := 0) hL h49 (off63_at i k) (by omega)
  have e52 := W_load (p := 30) h52 (k0_off64_eq k)
  have hA1 := Folded.put (k := 30) hA0 (by decide) h58 (k0_off65_eq k) (show ∀ (y : Fin 8) (z : Fin 128), (k0_pay95 (k0_pay94 v44 v49 v58)) (ix2 y z) = v58 (ix2 y z) + GA U L 30 y.val (128 * k.val + z.val) from fun y z => by
      pointwise [k0_pay95, k0_pay94, k0_pay91, k0_pay92]
      simp only [e44, e49]
      simp only [GA, GB, fold8, Finset.sum_range_succ, Finset.sum_range_zero, zero_add, Nat.reduceMul, Nat.reduceSub]) hdcaw1 (k0_off65_eq k)
  have e98 := E_load (q := 8) hL h98 (off66_at i k) (by omega)
  have e101 := W_load (p := 22) h101 (k0_off67_eq k)
  have hA2 := Folded.put (k := 22) hA1 (by decide) h107 (k0_off68_eq k) (show ∀ (y : Fin 8) (z : Fin 128), (k0_pay98 (k0_pay91 v44) v98 v107) (ix2 y z) = v107 (ix2 y z) + GA U L 22 y.val (128 * k.val + z.val) from fun y z => by
      pointwise [k0_pay98, k0_pay91, k0_pay96]
      simp only [e44, e98]
      simp only [GA, GB, fold8, Finset.sum_range_succ, Finset.sum_range_zero, zero_add, Nat.reduceMul, Nat.reduceSub]) hdcaw2 (k0_off68_eq k)
  have e147 := E_load (q := 16) hL h147 (off69_at i k) (by omega)
  have e150 := W_load (p := 14) h150 (k0_off70_eq k)
  have hA3 := Folded.put (k := 14) hA2 (by decide) h156 (k0_off71_eq k) (show ∀ (y : Fin 8) (z : Fin 128), (k0_pay101 (k0_pay91 v44) v147 v156) (ix2 y z) = v156 (ix2 y z) + GA U L 14 y.val (128 * k.val + z.val) from fun y z => by
      pointwise [k0_pay101, k0_pay91, k0_pay99]
      simp only [e44, e147]
      simp only [GA, GB, fold8, Finset.sum_range_succ, Finset.sum_range_zero, zero_add, Nat.reduceMul, Nat.reduceSub]) hdcaw3 (k0_off71_eq k)
  have e196 := E_load (q := 24) hL h196 (off72_at i k) (by omega)
  have e199 := W_load (p := 6) h199 (k0_off73_eq k)
  have hA4 := Folded.put (k := 6) hA3 (by decide) h205 (k0_off74_eq k) (show ∀ (y : Fin 8) (z : Fin 128), (k0_pay104 (k0_pay91 v44) (k0_pay102 v196) v205) (ix2 y z) = v205 (ix2 y z) + GA U L 6 y.val (128 * k.val + z.val) from fun y z => by
      pointwise [k0_pay104, k0_pay91, k0_pay102]
      simp only [e44, e196]
      simp only [GA, GB, fold8, Finset.sum_range_succ, Finset.sum_range_zero, zero_add, Nat.reduceMul, Nat.reduceSub]) hdcaw4 (k0_off74_eq k)
  have e245 := E_load (q := 1) hL h245 (off75_at i k) (by omega)
  have w245 := fun (y : Fin 152) (z : Fin 128) => (show (k0_pay105 v245) (ix3 0 y z) = v245 (ix3 0 y z) by pointwise [k0_pay105]).trans (e245 y z)
  have e250 := E_shift (p := 1) (q := 0) (t := 1) hsh1 rfl w245 h250 rfl (by omega) (by omega)
  have e253 := W_load (p := 29) h253 (k0_off76_eq k)
  have hA5 := Folded.put (k := 29) hA4 (by decide) h259 (k0_off77_eq k) (show ∀ (y : Fin 8) (z : Fin 128), (k0_pay108 (k0_pay91 v44) v250 v259) (ix2 y z) = v259 (ix2 y z) + GA U L 29 y.val (128 * k.val + z.val) from fun y z => by
      pointwise [k0_pay108, k0_pay91, k0_pay106]
      simp only [e44, e250]
      simp only [GA, GB, fold8, Finset.sum_range_succ, Finset.sum_range_zero, zero_add, Nat.reduceMul, Nat.reduceSub]) hdcaw5 (k0_off77_eq k)
  have e297 := E_shift (p := 1) (q := 8) (t := 9) hsh1 rfl w245 h297 rfl (by omega) (by omega)
  have e300 := W_load (p := 21) h300 (k0_off78_eq k)
  have hA6 := Folded.put (k := 21) hA5 (by decide) h306 (k0_off79_eq k) (show ∀ (y : Fin 8) (z : Fin 128), (k0_pay110 (k0_pay91 v44) (k0_pay109 v297) v306) (ix2 y z) = v306 (ix2 y z) + GA U L 21 y.val (128 * k.val + z.val) from fun y z => by
      pointwise [k0_pay110, k0_pay91, k0_pay109]
      simp only [e44, e297]
      simp only [GA, GB, fold8, Finset.sum_range_succ, Finset.sum_range_zero, zero_add, Nat.reduceMul, Nat.reduceSub]) hdcaw6 (k0_off79_eq k)
  have e344 := E_shift (p := 1) (q := 16) (t := 17) hsh1 rfl w245 h344 rfl (by omega) (by omega)
  have e347 := W_load (p := 13) h347 (k0_off80_eq k)
  have hA7 := Folded.put (k := 13) hA6 (by decide) h353 (k0_off81_eq k) (show ∀ (y : Fin 8) (z : Fin 128), (k0_pay113 (k0_pay91 v44) (k0_pay111 v344) v353) (ix2 y z) = v353 (ix2 y z) + GA U L 13 y.val (128 * k.val + z.val) from fun y z => by
      pointwise [k0_pay113, k0_pay91, k0_pay111]
      simp only [e44, e344]
      simp only [GA, GB, fold8, Finset.sum_range_succ, Finset.sum_range_zero, zero_add, Nat.reduceMul, Nat.reduceSub]) hdcaw7 (k0_off81_eq k)
  have e391 := E_shift (p := 1) (q := 24) (t := 25) hsh1 rfl w245 h391 rfl (by omega) (by omega)
  have e394 := W_load (p := 5) h394 (k0_off82_eq k)
  have hA8 := Folded.put (k := 5) hA7 (by decide) h400 (k0_off83_eq k) (show ∀ (y : Fin 8) (z : Fin 128), (k0_pay120 v400 (k0_pay116 (k0_pay91 v44) v391) (k0_pay117 (k0_pay91 v44) v391) (k0_pay118 (k0_pay91 v44) v391) (k0_pay119 (k0_pay91 v44) v391)) (ix2 y z) = v400 (ix2 y z) + GA U L 5 y.val (128 * k.val + z.val) from fun y z => by
      pointwise [k0_pay120, k0_pay116, k0_pay91, k0_pay117, k0_pay118, k0_pay119, k0_pay114]
      simp only [e44, e391]
      simp only [GA, GB, fold8, Finset.sum_range_succ, Finset.sum_range_zero, zero_add, Nat.reduceMul, Nat.reduceSub]) hdcaw8 (k0_off83_eq k)
  have e440 := E_load (q := 2) hL h440 (off84_at i k) (by omega)
  have w440 := fun (y : Fin 152) (z : Fin 128) => (show (k0_pay121 v440) (ix3 0 y z) = v440 (ix3 0 y z) by pointwise [k0_pay121]).trans (e440 y z)
  have e445 := E_shift (p := 2) (q := 0) (t := 2) hsh2 rfl w440 h445 rfl (by omega) (by omega)
  have e448 := W_load (p := 28) h448 (k0_off85_eq k)
  have hA9 := Folded.put (k := 28) hA8 (by decide) h454 (k0_off86_eq k) (show ∀ (y : Fin 8) (z : Fin 128), (k0_pay124 (k0_pay91 v44) (k0_pay122 v445) v454) (ix2 y z) = v454 (ix2 y z) + GA U L 28 y.val (128 * k.val + z.val) from fun y z => by
      pointwise [k0_pay124, k0_pay91, k0_pay122]
      simp only [e44, e445]
      simp only [GA, GB, fold8, Finset.sum_range_succ, Finset.sum_range_zero, zero_add, Nat.reduceMul, Nat.reduceSub]) hdcaw9 (k0_off86_eq k)
  have e492 := E_shift (p := 2) (q := 8) (t := 10) hsh2 rfl w440 h492 rfl (by omega) (by omega)
  have e495 := W_load (p := 20) h495 (k0_off87_eq k)
  have hA10 := Folded.put (k := 20) hA9 (by decide) h501 (k0_off88_eq k) (show ∀ (y : Fin 8) (z : Fin 128), (k0_pay131 v501 (k0_pay127 (k0_pay91 v44) v492) (k0_pay128 (k0_pay91 v44) v492) (k0_pay129 (k0_pay91 v44) v492) (k0_pay130 (k0_pay91 v44) v492)) (ix2 y z) = v501 (ix2 y z) + GA U L 20 y.val (128 * k.val + z.val) from fun y z => by
      pointwise [k0_pay131, k0_pay127, k0_pay91, k0_pay128, k0_pay129, k0_pay130, k0_pay125]
      simp only [e44, e492]
      simp only [GA, GB, fold8, Finset.sum_range_succ, Finset.sum_range_zero, zero_add, Nat.reduceMul, Nat.reduceSub]) hdcaw10 (k0_off88_eq k)
  have e539 := E_shift (p := 2) (q := 16) (t := 18) hsh2 rfl w440 h539 rfl (by omega) (by omega)
  have e542 := W_load (p := 12) h542 (k0_off89_eq k)
  have hA11 := Folded.put (k := 12) hA10 (by decide) h548 (k0_off90_eq k) (show ∀ (y : Fin 8) (z : Fin 128), (k0_pay144 v548 (k0_pay134 (k0_pay91 v44) v539) (k0_pay135 (k0_pay91 v44) v539) (k0_pay136 (k0_pay91 v44) v539) (k0_pay137 (k0_pay91 v44) v539) (k0_pay138 (k0_pay91 v44) v539) (k0_pay139 (k0_pay91 v44) v539) (k0_pay140 (k0_pay91 v44) v539) (k0_pay141 (k0_pay91 v44) v539) (k0_pay142 (k0_pay91 v44) v539) (k0_pay143 (k0_pay91 v44) v539)) (ix2 y z) = v548 (ix2 y z) + GA U L 12 y.val (128 * k.val + z.val) from fun y z => by
      pointwise [k0_pay144, k0_pay134, k0_pay91, k0_pay135, k0_pay136, k0_pay137, k0_pay138, k0_pay139, k0_pay140, k0_pay141, k0_pay142, k0_pay143, k0_pay132]
      simp only [e44, e539]
      simp only [GA, GB, fold8, Finset.sum_range_succ, Finset.sum_range_zero, zero_add, Nat.reduceMul, Nat.reduceSub]) hdcaw11 (k0_off90_eq k)
  have e586 := E_shift (p := 2) (q := 24) (t := 26) hsh2 rfl w440 h586 rfl (by omega) (by omega)
  have e589 := W_load (p := 4) h589 (k0_off91_eq k)
  have hA12 := Folded.put (k := 4) hA11 (by decide) h595 (k0_off92_eq k) (show ∀ (y : Fin 8) (z : Fin 128), (k0_pay163 v595 (k0_pay147 (k0_pay91 v44) v586) (k0_pay148 (k0_pay91 v44) v586) (k0_pay149 (k0_pay91 v44) v586) (k0_pay150 (k0_pay91 v44) v586) (k0_pay151 (k0_pay91 v44) v586) (k0_pay152 (k0_pay91 v44) v586) (k0_pay153 (k0_pay91 v44) v586) (k0_pay154 (k0_pay91 v44) v586) (k0_pay155 (k0_pay91 v44) v586) (k0_pay156 (k0_pay91 v44) v586) (k0_pay157 (k0_pay91 v44) v586) (k0_pay158 (k0_pay91 v44) v586) (k0_pay159 (k0_pay91 v44) v586) (k0_pay160 (k0_pay91 v44) v586) (k0_pay161 (k0_pay91 v44) v586) (k0_pay162 (k0_pay91 v44) v586)) (ix2 y z) = v595 (ix2 y z) + GA U L 4 y.val (128 * k.val + z.val) from fun y z => by
      pointwise [k0_pay163, k0_pay147, k0_pay91, k0_pay148, k0_pay149, k0_pay150, k0_pay151, k0_pay152, k0_pay153, k0_pay154, k0_pay155, k0_pay156, k0_pay157, k0_pay158, k0_pay159, k0_pay160, k0_pay161, k0_pay162, k0_pay145]
      simp only [e44, e586]
      simp only [GA, GB, fold8, Finset.sum_range_succ, Finset.sum_range_zero, zero_add, Nat.reduceMul, Nat.reduceSub]) hdcaw12 (k0_off92_eq k)
  have e635 := E_load (q := 3) hL h635 (off93_at i k) (by omega)
  have w635 := fun (y : Fin 152) (z : Fin 128) => (show (k0_pay164 v635) (ix3 0 y z) = v635 (ix3 0 y z) by pointwise [k0_pay164]).trans (e635 y z)
  have e640 := E_shift (p := 3) (q := 0) (t := 3) hsh3 rfl w635 h640 rfl (by omega) (by omega)
  have e643 := W_load (p := 27) h643 (k0_off94_eq k)
  have hA13 := Folded.put (k := 27) hA12 (by decide) h649 (k0_off95_eq k) (show ∀ (y : Fin 8) (z : Fin 128), (k0_pay177 v649 (k0_pay167 (k0_pay91 v44) v640) (k0_pay168 (k0_pay91 v44) v640) (k0_pay169 (k0_pay91 v44) v640) (k0_pay170 (k0_pay91 v44) v640) (k0_pay171 (k0_pay91 v44) v640) (k0_pay172 (k0_pay91 v44) v640) (k0_pay173 (k0_pay91 v44) v640) (k0_pay174 (k0_pay91 v44) v640) (k0_pay175 (k0_pay91 v44) v640) (k0_pay176 (k0_pay91 v44) v640)) (ix2 y z) = v649 (ix2 y z) + GA U L 27 y.val (128 * k.val + z.val) from fun y z => by
      pointwise [k0_pay177, k0_pay167, k0_pay91, k0_pay168, k0_pay169, k0_pay170, k0_pay171, k0_pay172, k0_pay173, k0_pay174, k0_pay175, k0_pay176, k0_pay165]
      simp only [e44, e640]
      simp only [GA, GB, fold8, Finset.sum_range_succ, Finset.sum_range_zero, zero_add, Nat.reduceMul, Nat.reduceSub]) hdcaw13 (k0_off95_eq k)
  have e687 := E_shift (p := 3) (q := 8) (t := 11) hsh3 rfl w635 h687 rfl (by omega) (by omega)
  have e690 := W_load (p := 19) h690 (k0_off96_eq k)
  have hA14 := Folded.put (k := 19) hA13 (by decide) h696 (k0_off97_eq k) (show ∀ (y : Fin 8) (z : Fin 128), (k0_pay196 v696 (k0_pay180 (k0_pay91 v44) v687) (k0_pay181 (k0_pay91 v44) v687) (k0_pay182 (k0_pay91 v44) v687) (k0_pay183 (k0_pay91 v44) v687) (k0_pay184 (k0_pay91 v44) v687) (k0_pay185 (k0_pay91 v44) v687) (k0_pay186 (k0_pay91 v44) v687) (k0_pay187 (k0_pay91 v44) v687) (k0_pay188 (k0_pay91 v44) v687) (k0_pay189 (k0_pay91 v44) v687) (k0_pay190 (k0_pay91 v44) v687) (k0_pay191 (k0_pay91 v44) v687) (k0_pay192 (k0_pay91 v44) v687) (k0_pay193 (k0_pay91 v44) v687) (k0_pay194 (k0_pay91 v44) v687) (k0_pay195 (k0_pay91 v44) v687)) (ix2 y z) = v696 (ix2 y z) + GA U L 19 y.val (128 * k.val + z.val) from fun y z => by
      pointwise [k0_pay196, k0_pay180, k0_pay91, k0_pay181, k0_pay182, k0_pay183, k0_pay184, k0_pay185, k0_pay186, k0_pay187, k0_pay188, k0_pay189, k0_pay190, k0_pay191, k0_pay192, k0_pay193, k0_pay194, k0_pay195, k0_pay178]
      simp only [e44, e687]
      simp only [GA, GB, fold8, Finset.sum_range_succ, Finset.sum_range_zero, zero_add, Nat.reduceMul, Nat.reduceSub]) hdcaw14 (k0_off97_eq k)
  have e734 := E_shift (p := 3) (q := 16) (t := 19) hsh3 rfl w635 h734 rfl (by omega) (by omega)
  have e737 := W_load (p := 11) h737 (k0_off98_eq k)
  have hA15 := Folded.put (k := 11) hA14 (by decide) h743 (k0_off99_eq k) (show ∀ (y : Fin 8) (z : Fin 128), (k0_pay211 v743 (k0_pay200 (k0_pay91 v44) v734) (k0_pay201 (k0_pay91 v44) v734) (k0_pay202 (k0_pay91 v44) v734) (k0_pay203 (k0_pay91 v44) v734) (k0_pay204 (k0_pay91 v44) v734) (k0_pay205 (k0_pay91 v44) v734) (k0_pay206 (k0_pay91 v44) v734) (k0_pay207 (k0_pay91 v44) v734) (k0_pay208 (k0_pay91 v44) v734) (k0_pay209 (k0_pay91 v44) v734) (k0_pay210 (k0_pay91 v44) v734)) (ix2 y z) = v743 (ix2 y z) + GA U L 11 y.val (128 * k.val + z.val) from fun y z => by
      pointwise [k0_pay211, k0_pay200, k0_pay91, k0_pay201, k0_pay202, k0_pay203, k0_pay204, k0_pay205, k0_pay206, k0_pay207, k0_pay208, k0_pay209, k0_pay210, k0_pay199, k0_pay197]
      simp only [e44, e734]
      simp only [GA, GB, fold8, Finset.sum_range_succ, Finset.sum_range_zero, zero_add, Nat.reduceMul, Nat.reduceSub]) hdcaw15 (k0_off99_eq k)
  have e781 := E_shift (p := 3) (q := 24) (t := 27) hsh3 rfl w635 h781 rfl (by omega) (by omega)
  have e784 := W_load (p := 3) h784 (k0_off100_eq k)
  have hA16 := Folded.put (k := 3) hA15 (by decide) h790 (k0_off101_eq k) (show ∀ (y : Fin 8) (z : Fin 128), (k0_pay220 v790 (k0_pay215 (k0_pay91 v44) v781) (k0_pay216 (k0_pay91 v44) v781) (k0_pay217 (k0_pay91 v44) v781) (k0_pay218 (k0_pay91 v44) v781) (k0_pay219 (k0_pay91 v44) v781)) (ix2 y z) = v790 (ix2 y z) + GA U L 3 y.val (128 * k.val + z.val) from fun y z => by
      pointwise [k0_pay220, k0_pay215, k0_pay91, k0_pay216, k0_pay217, k0_pay218, k0_pay219, k0_pay214, k0_pay212]
      simp only [e44, e781]
      simp only [GA, GB, fold8, Finset.sum_range_succ, Finset.sum_range_zero, zero_add, Nat.reduceMul, Nat.reduceSub]) hdcaw16 (k0_off101_eq k)
  have e830 := E_load (q := 4) hL h830 (off102_at i k) (by omega)
  have w830 := fun (y : Fin 152) (z : Fin 128) => (show (k0_pay221 v830) (ix3 0 y z) = v830 (ix3 0 y z) by pointwise [k0_pay221]).trans (e830 y z)
  have e835 := E_shift (p := 4) (q := 0) (t := 4) hsh4 rfl w830 h835 rfl (by omega) (by omega)
  have e838 := W_load (p := 26) h838 (k0_off103_eq k)
  have hA17 := Folded.put (k := 26) hA16 (by decide) h844 (k0_off104_eq k) (show ∀ (y : Fin 8) (z : Fin 128), (k0_pay236 v844 (k0_pay225 (k0_pay91 v44) v835) (k0_pay226 (k0_pay91 v44) v835) (k0_pay227 (k0_pay91 v44) v835) (k0_pay228 (k0_pay91 v44) v835) (k0_pay229 (k0_pay91 v44) v835) (k0_pay230 (k0_pay91 v44) v835) (k0_pay231 (k0_pay91 v44) v835) (k0_pay232 (k0_pay91 v44) v835) (k0_pay233 (k0_pay91 v44) v835) (k0_pay234 (k0_pay91 v44) v835) (k0_pay235 (k0_pay91 v44) v835)) (ix2 y z) = v844 (ix2 y z) + GA U L 26 y.val (128 * k.val + z.val) from fun y z => by
      pointwise [k0_pay236, k0_pay225, k0_pay91, k0_pay226, k0_pay227, k0_pay228, k0_pay229, k0_pay230, k0_pay231, k0_pay232, k0_pay233, k0_pay234, k0_pay235, k0_pay224, k0_pay222]
      simp only [e44, e835]
      simp only [GA, GB, fold8, Finset.sum_range_succ, Finset.sum_range_zero, zero_add, Nat.reduceMul, Nat.reduceSub]) hdcaw17 (k0_off104_eq k)
  have e882 := E_shift (p := 4) (q := 8) (t := 12) hsh4 rfl w830 h882 rfl (by omega) (by omega)
  have e885 := W_load (p := 18) h885 (k0_off105_eq k)
  have hA18 := Folded.put (k := 18) hA17 (by decide) h891 (k0_off106_eq k) (show ∀ (y : Fin 8) (z : Fin 128), (k0_pay245 v891 (k0_pay240 (k0_pay91 v44) v882) (k0_pay241 (k0_pay91 v44) v882) (k0_pay242 (k0_pay91 v44) v882) (k0_pay243 (k0_pay91 v44) v882) (k0_pay244 (k0_pay91 v44) v882)) (ix2 y z) = v891 (ix2 y z) + GA U L 18 y.val (128 * k.val + z.val) from fun y z => by
      pointwise [k0_pay245, k0_pay240, k0_pay91, k0_pay241, k0_pay242, k0_pay243, k0_pay244, k0_pay239, k0_pay237]
      simp only [e44, e882]
      simp only [GA, GB, fold8, Finset.sum_range_succ, Finset.sum_range_zero, zero_add, Nat.reduceMul, Nat.reduceSub]) hdcaw18 (k0_off106_eq k)
  have e929 := E_shift (p := 4) (q := 16) (t := 20) hsh4 rfl w830 h929 rfl (by omega) (by omega)
  have e932 := W_load (p := 10) h932 (k0_off107_eq k)
  have hA19 := Folded.put (k := 10) hA18 (by decide) h938 (k0_off108_eq k) (show ∀ (y : Fin 8) (z : Fin 128), (k0_pay249 (k0_pay248 (k0_pay91 v44) v929 v938)) (ix2 y z) = v938 (ix2 y z) + GA U L 10 y.val (128 * k.val + z.val) from fun y z => by
      pointwise [k0_pay249, k0_pay248, k0_pay91, k0_pay246]
      simp only [e44, e929]
      simp only [GA, GB, fold8, Finset.sum_range_succ, Finset.sum_range_zero, zero_add, Nat.reduceMul, Nat.reduceSub]) hdcaw19 (k0_off108_eq k)
  have e976 := E_shift (p := 4) (q := 24) (t := 28) hsh4 rfl w830 h976 rfl (by omega) (by omega)
  have e979 := W_load (p := 2) h979 (k0_off109_eq k)
  have hA20 := Folded.put (k := 2) hA19 (by decide) h985 (k0_off110_eq k) (show ∀ (y : Fin 8) (z : Fin 128), (k0_pay252 (k0_pay91 v44) v976 v985) (ix2 y z) = v985 (ix2 y z) + GA U L 2 y.val (128 * k.val + z.val) from fun y z => by
      pointwise [k0_pay252, k0_pay91, k0_pay250]
      simp only [e44, e976]
      simp only [GA, GB, fold8, Finset.sum_range_succ, Finset.sum_range_zero, zero_add, Nat.reduceMul, Nat.reduceSub]) hdcaw20 (k0_off110_eq k)
  have e1025 := E_load (q := 5) hL h1025 (off111_at i k) (by omega)
  have w1025 := fun (y : Fin 152) (z : Fin 128) => (show (k0_pay253 v1025) (ix3 0 y z) = v1025 (ix3 0 y z) by pointwise [k0_pay253]).trans (e1025 y z)
  have e1030 := E_shift (p := 5) (q := 0) (t := 5) hsh5 rfl w1025 h1030 rfl (by omega) (by omega)
  have e1033 := W_load (p := 25) h1033 (k0_off112_eq k)
  have hA21 := Folded.put (k := 25) hA20 (by decide) h1039 (k0_off113_eq k) (show ∀ (y : Fin 8) (z : Fin 128), (k0_pay257 (k0_pay256 (k0_pay91 v44) v1030 v1039)) (ix2 y z) = v1039 (ix2 y z) + GA U L 25 y.val (128 * k.val + z.val) from fun y z => by
      pointwise [k0_pay257, k0_pay256, k0_pay91, k0_pay254]
      simp only [e44, e1030]
      simp only [GA, GB, fold8, Finset.sum_range_succ, Finset.sum_range_zero, zero_add, Nat.reduceMul, Nat.reduceSub]) hdcaw21 (k0_off113_eq k)
  have e1077 := E_shift (p := 5) (q := 8) (t := 13) hsh5 rfl w1025 h1077 rfl (by omega) (by omega)
  have e1080 := W_load (p := 17) h1080 (k0_off114_eq k)
  have hA22 := Folded.put (k := 17) hA21 (by decide) h1086 (k0_off115_eq k) (show ∀ (y : Fin 8) (z : Fin 128), (k0_pay260 (k0_pay91 v44) v1077 v1086) (ix2 y z) = v1086 (ix2 y z) + GA U L 17 y.val (128 * k.val + z.val) from fun y z => by
      pointwise [k0_pay260, k0_pay91, k0_pay258]
      simp only [e44, e1077]
      simp only [GA, GB, fold8, Finset.sum_range_succ, Finset.sum_range_zero, zero_add, Nat.reduceMul, Nat.reduceSub]) hdcaw22 (k0_off115_eq k)
  have e1124 := E_shift (p := 5) (q := 16) (t := 21) hsh5 rfl w1025 h1124 rfl (by omega) (by omega)
  have e1127 := W_load (p := 9) h1127 (k0_off116_eq k)
  have hA23 := Folded.put (k := 9) hA22 (by decide) h1133 (k0_off117_eq k) (show ∀ (y : Fin 8) (z : Fin 128), (k0_pay263 (k0_pay91 v44) v1124 v1133) (ix2 y z) = v1133 (ix2 y z) + GA U L 9 y.val (128 * k.val + z.val) from fun y z => by
      pointwise [k0_pay263, k0_pay91, k0_pay261]
      simp only [e44, e1124]
      simp only [GA, GB, fold8, Finset.sum_range_succ, Finset.sum_range_zero, zero_add, Nat.reduceMul, Nat.reduceSub]) hdcaw23 (k0_off117_eq k)
  have e1171 := E_shift (p := 5) (q := 24) (t := 29) hsh5 rfl w1025 h1171 rfl (by omega) (by omega)
  have e1174 := W_load (p := 1) h1174 (k0_off118_eq k)
  have hA24 := Folded.put (k := 1) hA23 (by decide) h1180 (k0_off119_eq k) (show ∀ (y : Fin 8) (z : Fin 128), (k0_pay266 (k0_pay91 v44) (k0_pay264 v1171) v1180) (ix2 y z) = v1180 (ix2 y z) + GA U L 1 y.val (128 * k.val + z.val) from fun y z => by
      pointwise [k0_pay266, k0_pay91, k0_pay264]
      simp only [e44, e1171]
      simp only [GA, GB, fold8, Finset.sum_range_succ, Finset.sum_range_zero, zero_add, Nat.reduceMul, Nat.reduceSub]) hdcaw24 (k0_off119_eq k)
  have e1220 := E_load (q := 6) hL h1220 (off120_at i k) (by omega)
  have w1220 := fun (y : Fin 152) (z : Fin 128) => (show (k0_pay267 v1220) (ix3 0 y z) = v1220 (ix3 0 y z) by pointwise [k0_pay267]).trans (e1220 y z)
  have e1225 := E_shift (p := 6) (q := 0) (t := 6) hsh6 rfl w1220 h1225 rfl (by omega) (by omega)
  have e1228 := W_load (p := 24) h1228 (k0_off121_eq k)
  have hA25 := Folded.put (k := 24) hA24 (by decide) h1234 (k0_off122_eq k) (show ∀ (y : Fin 8) (z : Fin 128), (k0_pay270 (k0_pay91 v44) v1225 v1234) (ix2 y z) = v1234 (ix2 y z) + GA U L 24 y.val (128 * k.val + z.val) from fun y z => by
      pointwise [k0_pay270, k0_pay91, k0_pay268]
      simp only [e44, e1225]
      simp only [GA, GB, fold8, Finset.sum_range_succ, Finset.sum_range_zero, zero_add, Nat.reduceMul, Nat.reduceSub]) hdcaw25 (k0_off122_eq k)
  have e1272 := E_shift (p := 6) (q := 8) (t := 14) hsh6 rfl w1220 h1272 rfl (by omega) (by omega)
  have e1275 := W_load (p := 16) h1275 (k0_off123_eq k)
  have hA26 := Folded.put (k := 16) hA25 (by decide) h1281 (k0_off124_eq k) (show ∀ (y : Fin 8) (z : Fin 128), (k0_pay272 (k0_pay91 v44) (k0_pay271 v1272) v1281) (ix2 y z) = v1281 (ix2 y z) + GA U L 16 y.val (128 * k.val + z.val) from fun y z => by
      pointwise [k0_pay272, k0_pay91, k0_pay271]
      simp only [e44, e1272]
      simp only [GA, GB, fold8, Finset.sum_range_succ, Finset.sum_range_zero, zero_add, Nat.reduceMul, Nat.reduceSub]) hdcaw26 (k0_off124_eq k)
  have e1319 := E_shift (p := 6) (q := 16) (t := 22) hsh6 rfl w1220 h1319 rfl (by omega) (by omega)
  have e1322 := W_load (p := 8) h1322 (k0_off125_eq k)
  have hA27 := Folded.put (k := 8) hA26 (by decide) h1328 (k0_off126_eq k) (show ∀ (y : Fin 8) (z : Fin 128), (k0_pay275 (k0_pay91 v44) (k0_pay273 v1319) v1328) (ix2 y z) = v1328 (ix2 y z) + GA U L 8 y.val (128 * k.val + z.val) from fun y z => by
      pointwise [k0_pay275, k0_pay91, k0_pay273]
      simp only [e44, e1319]
      simp only [GA, GB, fold8, Finset.sum_range_succ, Finset.sum_range_zero, zero_add, Nat.reduceMul, Nat.reduceSub]) hdcaw27 (k0_off126_eq k)
  have e1366 := E_shift (p := 6) (q := 24) (t := 30) hsh6 rfl w1220 h1366 rfl (by omega) (by omega)
  have e1369 := W_load (p := 0) h1369 (k0_off127_eq k)
  have hA28 := Folded.put (k := 0) hA27 (by decide) h1375 (k0_off128_eq k) (show ∀ (y : Fin 8) (z : Fin 128), (k0_pay282 v1375 (k0_pay278 (k0_pay91 v44) v1366) (k0_pay279 (k0_pay91 v44) v1366) (k0_pay280 (k0_pay91 v44) v1366) (k0_pay281 (k0_pay91 v44) v1366)) (ix2 y z) = v1375 (ix2 y z) + GA U L 0 y.val (128 * k.val + z.val) from fun y z => by
      pointwise [k0_pay282, k0_pay278, k0_pay91, k0_pay279, k0_pay280, k0_pay281, k0_pay276]
      simp only [e44, e1366]
      simp only [GA, GB, fold8, Finset.sum_range_succ, Finset.sum_range_zero, zero_add, Nat.reduceMul, Nat.reduceSub]) hdcaw28 (k0_off128_eq k)
  have e1415 := E_load (q := 7) hL h1415 (off129_at i k) (by omega)
  have w1415 := fun (y : Fin 144) (z : Fin 128) => (show (k0_pay283 v1415) (ix3 0 y z) = v1415 (ix3 0 y z) by pointwise [k0_pay283]).trans (e1415 y z)
  have e1420 := E_shift (p := 7) (q := 0) (t := 7) hsh7 rfl w1415 h1420 rfl (by omega) (by omega)
  have e1423 := W_load (p := 23) h1423 (k0_off130_eq k)
  have hA29 := Folded.put (k := 23) hA28 (by decide) h1429 (k0_off131_eq k) (show ∀ (y : Fin 8) (z : Fin 128), (k0_pay286 (k0_pay91 v44) (k0_pay284 v1420) v1429) (ix2 y z) = v1429 (ix2 y z) + GA U L 23 y.val (128 * k.val + z.val) from fun y z => by
      pointwise [k0_pay286, k0_pay91, k0_pay284]
      simp only [e44, e1420]
      simp only [GA, GB, fold8, Finset.sum_range_succ, Finset.sum_range_zero, zero_add, Nat.reduceMul, Nat.reduceSub]) hdcaw29 (k0_off131_eq k)
  have e1467 := E_shift (p := 7) (q := 8) (t := 15) hsh7 rfl w1415 h1467 rfl (by omega) (by omega)
  have e1470 := W_load (p := 15) h1470 (k0_off132_eq k)
  have hA30 := Folded.put (k := 15) hA29 (by decide) h1476 (k0_off133_eq k) (show ∀ (y : Fin 8) (z : Fin 128), (k0_pay293 v1476 (k0_pay289 (k0_pay91 v44) v1467) (k0_pay290 (k0_pay91 v44) v1467) (k0_pay291 (k0_pay91 v44) v1467) (k0_pay292 (k0_pay91 v44) v1467)) (ix2 y z) = v1476 (ix2 y z) + GA U L 15 y.val (128 * k.val + z.val) from fun y z => by
      pointwise [k0_pay293, k0_pay289, k0_pay91, k0_pay290, k0_pay291, k0_pay292, k0_pay287]
      simp only [e44, e1467]
      simp only [GA, GB, fold8, Finset.sum_range_succ, Finset.sum_range_zero, zero_add, Nat.reduceMul, Nat.reduceSub]) hdcaw30 (k0_off133_eq k)
  have e1514 := E_shift (p := 7) (q := 16) (t := 23) hsh7 rfl w1415 h1514 rfl (by omega) (by omega)
  have e1517 := W_load (p := 7) h1517 (k0_off134_eq k)
  have hA31 := Folded.put (k := 7) hA30 (by decide) h1523 (k0_off135_eq k) (show ∀ (y : Fin 8) (z : Fin 128), (k0_pay306 v1523 (k0_pay296 (k0_pay91 v44) v1514) (k0_pay297 (k0_pay91 v44) v1514) (k0_pay298 (k0_pay91 v44) v1514) (k0_pay299 (k0_pay91 v44) v1514) (k0_pay300 (k0_pay91 v44) v1514) (k0_pay301 (k0_pay91 v44) v1514) (k0_pay302 (k0_pay91 v44) v1514) (k0_pay303 (k0_pay91 v44) v1514) (k0_pay304 (k0_pay91 v44) v1514) (k0_pay305 (k0_pay91 v44) v1514)) (ix2 y z) = v1523 (ix2 y z) + GA U L 7 y.val (128 * k.val + z.val) from fun y z => by
      pointwise [k0_pay306, k0_pay296, k0_pay91, k0_pay297, k0_pay298, k0_pay299, k0_pay300, k0_pay301, k0_pay302, k0_pay303, k0_pay304, k0_pay305, k0_pay294]
      simp only [e44, e1514]
      simp only [GA, GB, fold8, Finset.sum_range_succ, Finset.sum_range_zero, zero_add, Nat.reduceMul, Nat.reduceSub]) hdcaw31 (k0_off135_eq k)
  have e1565 := fun r l => (B_load h1565 (off136a_at k) r l).trans (by rw [Nat.add_assoc])
  have e1571 := fun r l => (B_load h1571 (off136b_at k) r l).trans (by rw [Nat.add_assoc])
  have fdproj1 : ∀ (r l : Fin 128), (k0_pay308 (k0_pay295 (k0_pay288 (k0_pay285 (k0_pay277 (k0_pay274 (k0_pay269 (k0_pay265 (k0_pay262 (k0_pay259 (k0_pay255 (k0_pay251 (k0_pay247 (k0_pay238 (k0_pay223 (k0_pay213 (k0_pay198 (k0_pay179 (k0_pay166 (k0_pay146 (k0_pay133 (k0_pay126 (k0_pay123 (k0_pay115 (k0_pay112 (k0_pay107 (k0_pay103 (k0_pay100 (k0_pay97 (k0_pay93 v49 v52) v98 v101) v147 v150) (k0_pay102 v196) v199) v250 v253) (k0_pay109 v297) v300 v344 v347) v391 v394) v445 v448) v492 v495) v539 v542) v586 v589) v640 v643) v687 v690) v734 v737) v781 v784) v835 v838) v882 v885) v929 v932) v976 v979) v1030 v1033) v1077 v1080) v1124 v1127) (k0_pay264 v1171) v1174) v1225 v1228) (k0_pay271 v1272) v1275 v1319 v1322) v1366 v1369) v1420 v1423) v1467 v1470) v1514 v1517) v1571) (ix2 r l) = pAval X L r.val (128 * k.val + l.val) := fun r l => by
    pointwise [k0_pay308, k0_pay295, k0_pay288, k0_pay285, k0_pay277, k0_pay274, k0_pay269, k0_pay265, k0_pay262, k0_pay259, k0_pay255, k0_pay251, k0_pay247, k0_pay238, k0_pay223, k0_pay213, k0_pay198, k0_pay179, k0_pay166, k0_pay146, k0_pay133, k0_pay126, k0_pay123, k0_pay115, k0_pay112, k0_pay107, k0_pay103, k0_pay100, k0_pay97, k0_pay93, k0_pay102, k0_pay109, k0_pay264, k0_pay271, k0_pay307, k0_pay294, k0_pay287, k0_pay284, k0_pay276, k0_pay273, k0_pay268, k0_pay261, k0_pay258, k0_pay254, k0_pay250, k0_pay246, k0_pay237, k0_pay222, k0_pay212, k0_pay197, k0_pay178, k0_pay165, k0_pay145, k0_pay132, k0_pay125, k0_pay122, k0_pay114, k0_pay111, k0_pay106, k0_pay99, k0_pay96, k0_pay92]
    simp only [e49, e52, e98, e101, e147, e150, e196, e199, e250, e253, e297, e300, e344, e347, e391, e394, e445, e448, e492, e495, e539, e542, e586, e589, e640, e643, e687, e690, e734, e737, e781, e784, e835, e838, e882, e885, e929, e932, e976, e979, e1030, e1033, e1077, e1080, e1124, e1127, e1171, e1174, e1225, e1228, e1272, e1275, e1319, e1322, e1366, e1369, e1420, e1423, e1467, e1470, e1514, e1517, e1571]
    simp only [pAval, pAglu, sgA, tU_eq, zero_add]
  have Hdproj1 : ∀ r x, at2 dproj1 r x = if (0 ≤ r ∧ r < 0 + 128) ∧ 0 + 128 * k.val ≤ x ∧ x < 0 + 128 * k.val + 128 then pAval X L r (x - 0) else at2 s.dproj r x := blk_put (e := fun r x => pAval X L r (x - 0)) (off137a_at k) (fun y z => by rw [Nat.zero_add, show 0 + 128 * k.val + z.val - 0 = 128 * k.val + z.val by omega]; exact fdproj1 y z) hdproj1
  have fdproj2 : ∀ (r l : Fin 128), (k0_pay310 (k0_pay307 v1571) (k0_pay309 (k0_pay295 (k0_pay288 (k0_pay285 (k0_pay277 (k0_pay274 (k0_pay269 (k0_pay265 (k0_pay262 (k0_pay259 (k0_pay255 (k0_pay251 (k0_pay247 (k0_pay238 (k0_pay223 (k0_pay213 (k0_pay198 (k0_pay179 (k0_pay166 (k0_pay146 (k0_pay133 (k0_pay126 (k0_pay123 (k0_pay115 (k0_pay112 (k0_pay107 (k0_pay103 (k0_pay100 (k0_pay97 (k0_pay93 v49 v52) v98 v101) v147 v150) (k0_pay102 v196) v199) v250 v253) (k0_pay109 v297) v300 v344 v347) v391 v394) v445 v448) v492 v495) v539 v542) v586 v589) v640 v643) v687 v690) v734 v737) v781 v784) v835 v838) v882 v885) v929 v932) v976 v979) v1030 v1033) v1077 v1080) v1124 v1127) (k0_pay264 v1171) v1174) v1225 v1228) (k0_pay271 v1272) v1275 v1319 v1322) v1366 v1369) v1420 v1423) v1467 v1470) v1514 v1517) v1565)) (ix2 r l) = pAglu X L r.val (128 * k.val + l.val) := fun r l => by
    pointwise [k0_pay310, k0_pay307, k0_pay309, k0_pay295, k0_pay288, k0_pay285, k0_pay277, k0_pay274, k0_pay269, k0_pay265, k0_pay262, k0_pay259, k0_pay255, k0_pay251, k0_pay247, k0_pay238, k0_pay223, k0_pay213, k0_pay198, k0_pay179, k0_pay166, k0_pay146, k0_pay133, k0_pay126, k0_pay123, k0_pay115, k0_pay112, k0_pay107, k0_pay103, k0_pay100, k0_pay97, k0_pay93, k0_pay102, k0_pay109, k0_pay264, k0_pay271, k0_pay294, k0_pay287, k0_pay284, k0_pay276, k0_pay273, k0_pay268, k0_pay261, k0_pay258, k0_pay254, k0_pay250, k0_pay246, k0_pay237, k0_pay222, k0_pay212, k0_pay197, k0_pay178, k0_pay165, k0_pay145, k0_pay132, k0_pay125, k0_pay122, k0_pay114, k0_pay111, k0_pay106, k0_pay99, k0_pay96, k0_pay92]
    simp only [e1571, e49, e52, e98, e101, e147, e150, e196, e199, e250, e253, e297, e300, e344, e347, e391, e394, e445, e448, e492, e495, e539, e542, e586, e589, e640, e643, e687, e690, e734, e737, e781, e784, e835, e838, e882, e885, e929, e932, e976, e979, e1030, e1033, e1077, e1080, e1124, e1127, e1171, e1174, e1225, e1228, e1272, e1275, e1319, e1322, e1366, e1369, e1420, e1423, e1467, e1470, e1514, e1517, e1565]
    simp only [pAval, pAglu, sgA, tU_eq, zero_add]
  have Hdproj2 : ∀ r x, at2 dproj2 r x = if (0 ≤ r ∧ r < 0 + 128) ∧ 1024 + 128 * k.val ≤ x ∧ x < 1024 + 128 * k.val + 128 then pAglu X L r (x - 1024) else at2 dproj1 r x := blk_put (e := fun r x => pAglu X L r (x - 1024)) (off137b_at k) (fun y z => by rw [Nat.zero_add, show 1024 + 128 * k.val + z.val - 1024 = 128 * k.val + z.val by omega]; exact fdproj2 y z) hdproj2
  have e1594 := E_load (q := 8) hV h1594 (off138_at i k) (by omega)
  have e1599 := E_load (q := 0) hM h1599 (off139_at i k) (by omega)
  have e1602 := W_load (p := 2) h1602 (k0_off140_eq k)
  have hB1 := Folded.put (k := 2) hB0 (by decide) h1608 (k0_off141_eq k) (show ∀ (y : Fin 8) (z : Fin 128), (k0_pay325 v1608 (k0_pay315 v1594 v1599) (k0_pay316 v1594 v1599) (k0_pay317 v1594 v1599) (k0_pay318 v1594 v1599) (k0_pay319 v1594 v1599) (k0_pay320 v1594 v1599) (k0_pay321 v1594 v1599) (k0_pay322 v1594 v1599) (k0_pay323 v1594 v1599) (k0_pay324 v1594 v1599)) (ix2 y z) = v1608 (ix2 y z) + GB V M 2 y.val (128 * k.val + z.val) from fun y z => by
      pointwise [k0_pay325, k0_pay315, k0_pay316, k0_pay317, k0_pay318, k0_pay319, k0_pay320, k0_pay321, k0_pay322, k0_pay323, k0_pay324, k0_pay314, k0_pay311, k0_pay312]
      simp only [e1594, e1599]
      simp only [GA, GB, fold8, Finset.sum_range_succ, Finset.sum_range_zero, zero_add, Nat.reduceMul, Nat.reduceSub]) hdcbw1 (k0_off141_eq k)
  have e1648 := E_load (q := 1) hM h1648 (off142_at i k) (by omega)
  have e1651 := W_load (p := 1) h1651 (k0_off143_eq k)
  have hB2 := Folded.put (k := 1) hB1 (by decide) h1657 (k0_off144_eq k) (show ∀ (y : Fin 8) (z : Fin 128), (k0_pay333 v1657 (k0_pay329 (k0_pay311 v1594) v1648) (k0_pay330 (k0_pay311 v1594) v1648) (k0_pay331 (k0_pay311 v1594) v1648) (k0_pay332 (k0_pay311 v1594) v1648)) (ix2 y z) = v1657 (ix2 y z) + GB V M 1 y.val (128 * k.val + z.val) from fun y z => by
      pointwise [k0_pay333, k0_pay329, k0_pay311, k0_pay330, k0_pay331, k0_pay332, k0_pay328, k0_pay326]
      simp only [e1594, e1648]
      simp only [GA, GB, fold8, Finset.sum_range_succ, Finset.sum_range_zero, zero_add, Nat.reduceMul, Nat.reduceSub]) hdcbw2 (k0_off144_eq k)
  have e1697 := E_load (q := 2) hM h1697 (off145_at i k) (by omega)
  have e1700 := W_load (p := 0) h1700 (k0_off146_eq k)
  have hB3 := Folded.put (k := 0) hB2 (by decide) h1706 (k0_off147_eq k) (show ∀ (y : Fin 8) (z : Fin 128), (k0_pay337 (k0_pay336 (k0_pay311 v1594) v1697 v1706)) (ix2 y z) = v1706 (ix2 y z) + GB V M 0 y.val (128 * k.val + z.val) from fun y z => by
      pointwise [k0_pay337, k0_pay336, k0_pay311, k0_pay334]
      simp only [e1594, e1697]
      simp only [GA, GB, fold8, Finset.sum_range_succ, Finset.sum_range_zero, zero_add, Nat.reduceMul, Nat.reduceSub]) hdcbw3 (k0_off147_eq k)
  have e1748 := fun r l => (B_load h1748 (off136b_at k) r l).trans (by rw [Nat.add_assoc])
  have fdproj3 : ∀ (r l : Fin 128), (k0_pay338 (k0_pay335 (k0_pay327 (k0_pay313 v1599 v1602) v1648 v1651) v1697 v1700) v1748) (ix2 r l) = pBc X M r.val (128 * k.val + l.val) := fun r l => by
    pointwise [k0_pay338, k0_pay335, k0_pay327, k0_pay313, k0_pay334, k0_pay326, k0_pay312]
    simp only [e1599, e1602, e1648, e1651, e1697, e1700, e1748]
    simp only [pBc, pBx, tV, Finset.sum_range_succ, Finset.sum_range_zero, zero_add, Nat.reduceSub, Nat.reduceAdd]
  have Hdproj3 : ∀ r x, at2 dproj3 r x = if (0 ≤ r ∧ r < 0 + 128) ∧ 4096 + 128 * k.val ≤ x ∧ x < 4096 + 128 * k.val + 128 then pBc X M r (x - 4096) else at2 dproj2 r x := blk_put (e := fun r x => pBc X M r (x - 4096)) (off137c_at k) (fun y z => by rw [Nat.zero_add, show 4096 + 128 * k.val + z.val - 4096 = 128 * k.val + z.val by omega]; exact fdproj3 y z) hdproj3
  have e1761 := fun r l => (B_load h1761 (off136a_at k) r l).trans (by rw [Nat.add_assoc])
  have fdproj4 : ∀ (r l : Fin 128), (k0_pay1 (k0_pay335 (k0_pay327 (k0_pay313 v1599 v1602) v1648 v1651) v1697 v1700) v1761) (ix2 r l) = pBx X M r.val (128 * k.val + l.val) := fun r l => by
    pointwise [k0_pay1, k0_pay335, k0_pay327, k0_pay313, k0_pay334, k0_pay326, k0_pay312]
    simp only [e1599, e1602, e1648, e1651, e1697, e1700, e1761]
    simp only [pBc, pBx, tV, Finset.sum_range_succ, Finset.sum_range_zero, zero_add, Nat.reduceSub, Nat.reduceAdd]
  have Hdproj4 : ∀ r x, at2 dproj4 r x = if (0 ≤ r ∧ r < 0 + 128) ∧ 5120 + 128 * k.val ≤ x ∧ x < 5120 + 128 * k.val + 128 then pBx X M r (x - 5120) else at2 dproj3 r x := blk_put (e := fun r x => pBx X M r (x - 5120)) (off137d_at k) (fun y z => by rw [Nat.zero_add, show 5120 + 128 * k.val + z.val - 5120 = 128 * k.val + z.val by omega]; exact fdproj4 y z) hdproj4
  refine ⟨⟨_, _, _, _, rfl⟩, fun r d => ?_, fun p d => ?_, fun p d => ?_⟩
  · show at2 dproj4 _ _ = _
    rw [Hdproj4, Hdproj3, Hdproj2, Hdproj1]
    exact four_puts (128 * k.val) r d (by clear * - hk; omega) _ _ _ _ _
  · refine (hA31 p d).trans ?_
    clear * -
    have e : p / 8 ∈ (insert 7 (insert 15 (insert 23 (insert 0 (insert 8 (insert 16 (insert 24 (insert 1 (insert 9 (insert 17 (insert 25 (insert 2 (insert 10 (insert 18 (insert 26 (insert 3 (insert 11 (insert 19 (insert 27 (insert 4 (insert 12 (insert 20 (insert 28 (insert 5 (insert 13 (insert 21 (insert 29 (insert 6 (insert 14 (insert 22 (insert 30 (∅))))))))))))))))))))))))))))))) : Finset ℕ) ↔ p / 8 < 31 := by
      simp only [Finset.mem_insert, Finset.notMem_empty, or_false]
      omega
    simp only [e]
  · refine (hB3 p d).trans ?_
    clear * -
    have e : p / 8 ∈ (insert 0 (insert 1 (insert 2 (∅))) : Finset ℕ) ↔ p / 8 < 3 := by
      simp only [Finset.mem_insert, Finset.notMem_empty, or_false]
      omega
    simp only [e]

end Cert.Kernel2Ideal.Fp

end
-- ==== Proof.Fp.Body.lean ====
/- The end of the body: the loop of the convolutions' gradients, the last step's sums, the whole body. -/
module

public import proofs.«01_k».proof.Proof.Fp.Front
public import proofs.«01_k».proof.Proof.Fp.Back

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open Idealize.SL.BI.BIBase Idealize.SL.Sem
open Cert.Kernel2Ideal.Gen

theorem four_join (lo mid hi r d : ℕ) (hlm : lo ≤ mid) (hmh : mid ≤ hi) (hh : hi ≤ 1024) (a b e f o : EReal) :
    (if r < 128 ∧ mid ≤ d ∧ d < hi then a else if r < 128 ∧ 1024 + mid ≤ d ∧ d < 1024 + hi then b else if r < 128 ∧ 4096 + mid ≤ d ∧ d < 4096 + hi then e else if r < 128 ∧ 5120 + mid ≤ d ∧ d < 5120 + hi then f else (if r < 128 ∧ lo ≤ d ∧ d < mid then a else if r < 128 ∧ 1024 + lo ≤ d ∧ d < 1024 + mid then b else if r < 128 ∧ 4096 + lo ≤ d ∧ d < 4096 + mid then e else if r < 128 ∧ 5120 + lo ≤ d ∧ d < 5120 + mid then f else o)) = if r < 128 ∧ lo ≤ d ∧ d < hi then a else if r < 128 ∧ 1024 + lo ≤ d ∧ d < 1024 + hi then b else if r < 128 ∧ 4096 + lo ≤ d ∧ d < 4096 + hi then e else if r < 128 ∧ 5120 + lo ≤ d ∧ d < 5120 + hi then f else o := by
  by_cases hr : r < 128
  · simp only [hr, true_and]
    rcases (by omega : d < 1024 ∨ (1024 ≤ d ∧ d < 4096) ∨ (4096 ≤ d ∧ d < 5120) ∨ 5120 ≤ d) with h | h | h | h
    · have n0 : ¬ (1024 + lo ≤ d ∧ d < 1024 + mid) := by omega
      have n1 : ¬ (1024 + mid ≤ d ∧ d < 1024 + hi) := by omega
      have n2 : ¬ (1024 + lo ≤ d ∧ d < 1024 + hi) := by omega
      have n3 : ¬ (4096 + lo ≤ d ∧ d < 4096 + mid) := by omega
      have n4 : ¬ (4096 + mid ≤ d ∧ d < 4096 + hi) := by omega
      have n5 : ¬ (4096 + lo ≤ d ∧ d < 4096 + hi) := by omega
      have n6 : ¬ (5120 + lo ≤ d ∧ d < 5120 + mid) := by omega
      have n7 : ¬ (5120 + mid ≤ d ∧ d < 5120 + hi) := by omega
      have n8 : ¬ (5120 + lo ≤ d ∧ d < 5120 + hi) := by omega
      simp only [n0, n1, n2, n3, n4, n5, n6, n7, n8, if_false]
      clear n0 n1 n2 n3 n4 n5 n6 n7 n8
      split_ifs <;> first | rfl | (exfalso; omega)
    · have n0 : ¬ (lo ≤ d ∧ d < mid) := by omega
      have n1 : ¬ (mid ≤ d ∧ d < hi) := by omega
      have n2 : ¬ (lo ≤ d ∧ d < hi) := by omega
      have n3 : ¬ (4096 + lo ≤ d ∧ d < 4096 + mid) := by omega
      have n4 : ¬ (4096 + mid ≤ d ∧ d < 4096 + hi) := by omega
      have n5 : ¬ (4096 + lo ≤ d ∧ d < 4096 + hi) := by omega
      have n6 : ¬ (5120 + lo ≤ d ∧ d < 5120 + mid) := by omega
      have n7 : ¬ (5120 + mid ≤ d ∧ d < 5120 + hi) := by omega
      have n8 : ¬ (5120 + lo ≤ d ∧ d < 5120 + hi) := by omega
      simp only [n0, n1, n2, n3, n4, n5, n6, n7, n8, if_false]
      clear n0 n1 n2 n3 n4 n5 n6 n7 n8
      split_ifs <;> first | rfl | (exfalso; omega)
    · have n0 : ¬ (lo ≤ d ∧ d < mid) := by omega
      have n1 : ¬ (mid ≤ d ∧ d < hi) := by omega
      have n2 : ¬ (lo ≤ d ∧ d < hi) := by omega
      have n3 : ¬ (1024 + lo ≤ d ∧ d < 1024 + mid) := by omega
      have n4 : ¬ (1024 + mid ≤ d ∧ d < 1024 + hi) := by omega
      have n5 : ¬ (1024 + lo ≤ d ∧ d < 1024 + hi) := by omega
      have n6 : ¬ (5120 + lo ≤ d ∧ d < 5120 + mid) := by omega
      have n7 : ¬ (5120 + mid ≤ d ∧ d < 5120 + hi) := by omega
      have n8 : ¬ (5120 + lo ≤ d ∧ d < 5120 + hi) := by omega
      simp only [n0, n1, n2, n3, n4, n5, n6, n7, n8, if_false]
      clear n0 n1 n2 n3 n4 n5 n6 n7 n8
      split_ifs <;> first | rfl | (exfalso; omega)
    · have n0 : ¬ (lo ≤ d ∧ d < mid) := by omega
      have n1 : ¬ (mid ≤ d ∧ d < hi) := by omega
      have n2 : ¬ (lo ≤ d ∧ d < hi) := by omega
      have n3 : ¬ (1024 + lo ≤ d ∧ d < 1024 + mid) := by omega
      have n4 : ¬ (1024 + mid ≤ d ∧ d < 1024 + hi) := by omega
      have n5 : ¬ (1024 + lo ≤ d ∧ d < 1024 + hi) := by omega
      have n6 : ¬ (4096 + lo ≤ d ∧ d < 4096 + mid) := by omega
      have n7 : ¬ (4096 + mid ≤ d ∧ d < 4096 + hi) := by omega
      have n8 : ¬ (4096 + lo ≤ d ∧ d < 4096 + hi) := by omega
      simp only [n0, n1, n2, n3, n4, n5, n6, n7, n8, if_false]
      clear n0 n1 n2 n3 n4 n5 n6 n7 n8
      split_ifs <;> first | rfl | (exfalso; omega)
  · simp only [hr, false_and, if_false]

/-- A loop's part after a loop's part. -/
theorem LagStep.comp {X : Ins Ideal} {lo mid hi : ℕ} {U L V M : ℕ → ℕ → EReal} {s t u : St Ideal} (hlm : lo ≤ mid) (hmh : mid ≤ hi) (h1024 : hi ≤ 1024)
    (h1 : LagStep X lo mid U L V M s t) (h2 : LagStep X mid hi U L V M t u) : LagStep X lo hi U L V M s u := by
  obtain ⟨⟨a1, a2, a3, a4, rfl⟩, hp, ha, hb⟩ := h1
  obtain ⟨⟨b1, b2, b3, b4, rfl⟩, kp, ka, kb⟩ := h2
  refine ⟨⟨b1, b2, b3, b4, rfl⟩, fun r d => ?_, fun p d => ?_, fun p d => ?_⟩
  · rw [kp, hp]
    exact four_join lo mid hi r d hlm hmh h1024 _ _ _ _ _
  · rw [ka, ha]
    split_ifs <;> first | rfl | (exfalso; omega)
  · rw [kb, hb]
    split_ifs <;> first | rfl | (exfalso; omega)

theorem LagStep.refl (X : Ins Ideal) (U L V M : ℕ → ℕ → EReal) (s : St Ideal) : LagStep X 0 0 U L V M s s := by
  refine ⟨⟨s.dproj, s.dcaw, s.dcbw, s.shift, rfl⟩, fun r d => ?_, fun p d => ?_, fun p d => ?_⟩
  · rw [if_neg (by omega), if_neg (by omega), if_neg (by omega), if_neg (by omega)]
  · exact (if_neg (by omega)).symm
  · exact (if_neg (by omega)).symm

/-- The rows of `S` hold `G`. -/
def RowsPut {n0 n1 : ℕ} (S : Finset ℕ) (G : ℕ → ℕ → EReal) (u0 u : (⟨2, ![n0, n1]⟩ : Shape).Idx → EReal) : Prop :=
  ∀ p x, at2 u p x = if p ∈ S ∧ x < 1024 then G p x else at2 u0 p x

theorem RowsPut.refl {n0 n1 : ℕ} (G : ℕ → ℕ → EReal) (u0 : (⟨2, ![n0, n1]⟩ : Shape).Idx → EReal) : RowsPut ∅ G u0 u0 :=
  fun _ _ => (if_neg (fun h => absurd h.1 (Finset.notMem_empty _))).symm

theorem RowsPut.put {n0 n1 : ℕ} {S : Finset ℕ} {R : ℕ} {G : ℕ → ℕ → EReal} {u0 u u1 : (⟨2, ![n0, n1]⟩ : Shape).Idx → EReal} {off : Fin 2 → ℕ}
    {w : (⟨2, ![1, 1024]⟩ : Shape).Idx → EReal} (h : RowsPut S G u0 u) (_ : R ∉ S) (hw : ∀ l : Fin 1024, w (ix2 0 l) = G R l.val)
    (hp : ∀ a b, at2 u1 a b = if (off 0 ≤ a ∧ a < off 0 + 1) ∧ off 1 ≤ b ∧ b < off 1 + 1024 then at2 w (a - off 0) (b - off 1) else at2 u a b)
    (ho : off = ![R, 0]) : RowsPut (insert R S) G u0 u1 := by
  intro p x
  rw [blk_put (e := G) ho (fun y z => by obtain rfl := Subsingleton.elim y 0; exact (hw z).trans (by simp)) hp p x, h p x]
  by_cases c1 : p = R
  · by_cases c2 : x < 1024
    · rw [if_pos (by omega), if_pos ⟨by rw [c1]; exact Finset.mem_insert_self _ _, c2⟩]
    · rw [if_neg (by omega), if_neg (fun c => c2 c.2), if_neg (fun c => c2 c.2)]
  · rw [if_neg (by omega)]
    have e : (p ∈ insert R S) ↔ p ∈ S := by rw [Finset.mem_insert]; tauto
    simp only [e]

/-- A row stored that sums eight rows read. -/
theorem sum_row {n0 n1 q : ℕ} {u : (⟨2, ![n0, n1]⟩ : Shape).Idx → EReal} {off : Fin 2 → ℕ} {v : (⟨2, ![8, 1024]⟩ : Shape).Idx → EReal} {w : ((⟨2, ![8, 1024]⟩ : Shape).Idx → EReal) → (⟨2, ![1, 1024]⟩ : Shape).Idx → EReal}
    (hv : ∀ y z, v (ix2 y z) = at2 u (off 0 + y.val) (off 1 + z.val)) (ho : off = ![q, 0])
    (hw : ∀ (v : (⟨2, ![8, 1024]⟩ : Shape).Idx → EReal) (l : Fin 1024), w v (ix2 0 l) = ∑ m : Fin 8, v (ix2 m l)) (l : Fin 1024) : w v (ix2 0 l) = ∑ m ∈ Finset.range 8, at2 u (q + m) l.val := by
  subst ho
  rw [hw, ← Fin.sum_univ_eq_sum_range (fun m => at2 u (q + m) l.val) 8]
  exact Finset.sum_congr rfl fun m _ => (hv m l).trans (by simp)

/-- The last step's rows of the small results: the sums of the weights' gradients. -/
def FinStep (t : ℕ) (s s' : St Ideal) : Prop :=
  (t ≠ 33 → s' = s) ∧ (t = 33 → (∃ small, s' = { s with small := small }) ∧
    ∀ p d, at2 s'.small p d = if ((8 ≤ p ∧ p < 39) ∨ (40 ≤ p ∧ p < 43)) ∧ d < 1024 then
      (if p < 40 then ∑ m ∈ Finset.range 8, at2 s.dcaw (8 * (p - 8) + m) d else ∑ m ∈ Finset.range 8, at2 s.dcbw (8 * (p - 40) + m) d) else at2 s.small p d)

/-- One run of the body. -/
def BodyStep (X : Ins Ideal) (t : ℕ) (s s' : St Ideal) : Prop := ∃ s1 s2, Front X t s s1
  ∧ ((t = 0 → s2 = s1) ∧ (t ≠ 0 → LagStep X 0 1024 (fun j d => at3 s1.ua0 (1 - t % 2) j d) (fun j d => at3 s1.dua1 (1 - t % 2) j d)
    (fun j d => at3 s1.cb (1 - t % 2) j d) (fun j d => at3 s1.dc3 (1 - t % 2) j d) s1 s2)) ∧ FinStep t s2 s'

variable (c : Dev nD) (A : Refs) (X : Ins Ideal)

/-- The loop of the convolutions' gradients. -/
theorem loop2 (i : grid0.Coords) (v20 : BitVec 32) (h5 : k0_cond5 i = 1#1) (s : St Ideal) :
    W c (Own c A X) (Scf.Loop.for k0_t2_loop (k0_t2_ok i h5) ⟨⟩ (k0_t2_body i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 v20 h5)) s fun _ s' =>
      LagStep X 0 1024 (fun j d => at3 s.ua0 (1 - (i 0).val % 2) j d) (fun j d => at3 s.dua1 (1 - (i 0).val % 2) j d)
        (fun j d => at3 s.cb (1 - (i 0).val % 2) j d) (fun j d => at3 s.dc3 (1 - (i 0).val % 2) j d) s s' := by
  refine W.loop (fun n s' => LagStep X 0 (128 * n) (fun j d => at3 s.ua0 (1 - (i 0).val % 2) j d) (fun j d => at3 s.dua1 (1 - (i 0).val % 2) j d)
        (fun j d => at3 s.cb (1 - (i 0).val % 2) j d) (fun j d => at3 s.dc3 (1 - (i 0).val % 2) j d) s s') (LagStep.refl _ _ _ _ _ _) (fun k t ht => ?_) (fun t ht => ht)
  have hk : k.val < 8 := k.2
  obtain ⟨a1, a2, a3, a4, rfl⟩ := ht.1
  refine W.mono (trip2 c A X i v20 h5 k _ (fun j d => at3 s.ua0 (1 - (i 0).val % 2) j d) (fun j d => at3 s.dua1 (1 - (i 0).val % 2) j d)
        (fun j d => at3 s.cb (1 - (i 0).val % 2) j d) (fun j d => at3 s.dc3 (1 - (i 0).val % 2) j d)
    (fun _ _ _ _ => rfl) (fun _ _ _ _ => rfl) (fun _ _ _ _ => rfl) (fun _ _ _ _ => rfl)) fun _ t1 h => ?_
  exact ht.comp (by omega) (by omega) (by omega) h

set_option pp.maxSteps 4 in
set_option maxHeartbeats 4000000 in
/-- The whole body. -/
theorem body_spec (i : grid0.Coords) (s : St Ideal) :
    W c (Own c A X) (cc0_fused_pass (F := Ideal) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21 A.h21 A.a22 A.h22 A.a23 A.h23 A.a24 A.h24 A.a25 A.h25 A.a26 A.h26 A.a27 A.h27 A.a28 A.h28 A.a29 A.h29 A.a30 A.h30 A.a31 A.h31 A.a32 A.h32 A.a33 A.h33 A.a34 A.h34 A.a35 A.h35 A.a36 A.h36 ) s fun _ s' => BodyStep X (i 0).val s s' := by
  have i5 := cond5_iff i
  have i6 := cond6_iff i
  rw [cc0_fused_pass_eq_skeleton]
  unfold cc0_fused_pass_skel
  simp only [k0_part53_eq_skeleton, k0_part54_eq_skeleton, k0_part55_eq_skeleton, k0_part56_eq_skeleton, k0_part57_eq_skeleton]
  unfold k0_part53_skel k0_part54_skel k0_part55_skel k0_part56_skel k0_part57_skel
  apply W.bind
  refine W.mono (front c A X i s) fun _ s1 hf => ?_
  by_cases h0 : (i 0).val = 0
  · refine W.dite (fun hc => absurd (i5.mp hc) (by omega)) (fun _ => ?_)
    refine W.dite (fun hc => absurd (i6.mp hc) (by omega)) (fun _ => ?_)
    apply W.pure
    exact ⟨s1, s1, hf, ⟨fun _ => rfl, fun h => absurd h0 h⟩, fun _ => rfl, fun h => absurd h (by omega)⟩
  · refine W.dite (fun hc => ?_) (fun hc => absurd (i5.mpr (by omega)) hc)
    apply W.bind
    refine W.mono (loop2 c A X i _ hc s1) fun _ s2 hl => ?_
    by_cases h3 : (i 0).val = 33
    · refine W.dite (fun hc => ?_) (fun hc => absurd (i6.mpr h3) hc)
      refine W.gen (fun s2 => LagStep X 0 1024 (fun j d => at3 s1.ua0 (1 - (i 0).val % 2) j d) (fun j d => at3 s1.dua1 (1 - (i 0).val % 2) j d)
        (fun j d => at3 s1.cb (1 - (i 0).val % 2) j d) (fun j d => at3 s1.dc3 (1 - (i 0).val % 2) j d) s1 s2) hl fun s2 hl => ?_
      apply W.bind
      apply W.bind; apply W.load2; intro v39 h39
      apply W.bind; apply W.load2; intro v42 h42
      apply W.bind; apply W.store2; intro sm1 g1
      apply W.bind; apply W.load2; intro v43 h43
      apply W.bind; apply W.load2; intro v46 h46
      apply W.bind; apply W.store2; intro sm2 g2
      apply W.bind; apply W.load2; intro v47 h47
      apply W.bind; apply W.load2; intro v50 h50
      apply W.bind; apply W.store2; intro sm3 g3
      apply W.bind; apply W.load2; intro v51 h51
      apply W.bind; apply W.load2; intro v54 h54
      apply W.bind; apply W.store2; intro sm4 g4
      apply W.bind; apply W.load2; intro v55 h55
      apply W.bind; apply W.load2; intro v58 h58
      apply W.bind; apply W.store2; intro sm5 g5
      apply W.bind; apply W.load2; intro v59 h59
      apply W.bind; apply W.load2; intro v62 h62
      apply W.bind; apply W.store2; intro sm6 g6
      apply W.pure
      apply W.bind
      apply W.bind; apply W.load2; intro v63 h63
      apply W.bind; apply W.load2; intro v66 h66
      apply W.bind; apply W.store2; intro sm7 g7
      apply W.bind; apply W.load2; intro v67 h67
      apply W.bind; apply W.load2; intro v70 h70
      apply W.bind; apply W.store2; intro sm8 g8
      apply W.bind; apply W.load2; intro v71 h71
      apply W.bind; apply W.load2; intro v74 h74
      apply W.bind; apply W.store2; intro sm9 g9
      apply W.bind; apply W.load2; intro v75 h75
      apply W.bind; apply W.load2; intro v78 h78
      apply W.bind; apply W.store2; intro sm10 g10
      apply W.bind; apply W.load2; intro v79 h79
      apply W.bind; apply W.load2; intro v82 h82
      apply W.bind; apply W.store2; intro sm11 g11
      apply W.bind; apply W.load2; intro v83 h83
      apply W.bind; apply W.load2; intro v86 h86
      apply W.bind; apply W.store2; intro sm12 g12
      apply W.pure
      apply W.bind
      apply W.bind; apply W.load2; intro v87 h87
      apply W.bind; apply W.load2; intro v90 h90
      apply W.bind; apply W.store2; intro sm13 g13
      apply W.bind; apply W.load2; intro v91 h91
      apply W.bind; apply W.load2; intro v94 h94
      apply W.bind; apply W.store2; intro sm14 g14
      apply W.bind; apply W.load2; intro v95 h95
      apply W.bind; apply W.load2; intro v98 h98
      apply W.bind; apply W.store2; intro sm15 g15
      apply W.bind; apply W.load2; intro v99 h99
      apply W.bind; apply W.load2; intro v102 h102
      apply W.bind; apply W.store2; intro sm16 g16
      apply W.bind; apply W.load2; intro v103 h103
      apply W.bind; apply W.load2; intro v106 h106
      apply W.bind; apply W.store2; intro sm17 g17
      apply W.bind; apply W.load2; intro v107 h107
      apply W.bind; apply W.load2; intro v110 h110
      apply W.bind; apply W.store2; intro sm18 g18
      apply W.pure
      apply W.bind
      apply W.bind; apply W.load2; intro v111 h111
      apply W.bind; apply W.load2; intro v114 h114
      apply W.bind; apply W.store2; intro sm19 g19
      apply W.bind; apply W.load2; intro v115 h115
      apply W.bind; apply W.load2; intro v118 h118
      apply W.bind; apply W.store2; intro sm20 g20
      apply W.bind; apply W.load2; intro v119 h119
      apply W.bind; apply W.load2; intro v122 h122
      apply W.bind; apply W.store2; intro sm21 g21
      apply W.bind; apply W.load2; intro v123 h123
      apply W.bind; apply W.load2; intro v126 h126
      apply W.bind; apply W.store2; intro sm22 g22
      apply W.bind; apply W.load2; intro v127 h127
      apply W.bind; apply W.load2; intro v130 h130
      apply W.bind; apply W.store2; intro sm23 g23
      apply W.bind; apply W.load2; intro v131 h131
      apply W.bind; apply W.load2; intro v134 h134
      apply W.bind; apply W.store2; intro sm24 g24
      apply W.pure
      apply W.bind
      apply W.bind; apply W.load2; intro v135 h135
      apply W.bind; apply W.load2; intro v138 h138
      apply W.bind; apply W.store2; intro sm25 g25
      apply W.bind; apply W.load2; intro v139 h139
      apply W.bind; apply W.load2; intro v142 h142
      apply W.bind; apply W.store2; intro sm26 g26
      apply W.bind; apply W.load2; intro v143 h143
      apply W.bind; apply W.load2; intro v146 h146
      apply W.bind; apply W.store2; intro sm27 g27
      apply W.bind; apply W.load2; intro v147 h147
      apply W.bind; apply W.load2; intro v150 h150
      apply W.bind; apply W.store2; intro sm28 g28
      apply W.bind; apply W.load2; intro v151 h151
      apply W.bind; apply W.load2; intro v154 h154
      apply W.bind; apply W.store2; intro sm29 g29
      apply W.bind; apply W.load2; intro v155 h155
      apply W.bind; apply W.load2; intro v158 h158
      apply W.bind; apply W.store2; intro sm30 g30
      apply W.pure
      apply W.bind; apply W.load2; intro v159 h159
      apply W.bind; apply W.load2; intro v162 h162
      apply W.bind; apply W.store2; intro sm31 g31
      apply W.bind; apply W.load2; intro v163 h163
      apply W.bind; apply W.load2; intro v166 h166
      apply W.bind; apply W.store2; intro sm32 g32
      apply W.bind; apply W.load2; intro v167 h167
      apply W.bind; apply W.load2; intro v170 h170
      apply W.bind; apply W.store2; intro sm33 g33
      apply W.bind; apply W.load2; intro v171 h171
      apply W.bind; apply W.load2; intro v174 h174
      apply W.bind; apply W.store2; intro sm34 g34
      apply W.pure
      refine ⟨s1, s2, hf, ⟨fun h => absurd h h0, fun _ => hl⟩, fun h => absurd h3 h, fun _ => ?_⟩
      simp only [ReadSlot.get, Slot.get, Slot.set] at *
      have r0 := RowsPut.refl (fun p d => if p < 40 then ∑ m ∈ Finset.range 8, at2 s2.dcaw (8 * (p - 8) + m) d else ∑ m ∈ Finset.range 8, at2 s2.dcbw (8 * (p - 40) + m) d) s2.small
      have r1 := RowsPut.put (R := 8) r0 (by decide) (sum_row (q := 0) h39 rfl (fun v l => by pointwise [k0_pay339])) g1 rfl
      have r2 := RowsPut.put (R := 9) r1 (by decide) (sum_row (q := 8) h43 rfl (fun v l => by pointwise [k0_pay340])) g2 rfl
      have r3 := RowsPut.put (R := 10) r2 (by decide) (sum_row (q := 16) h47 rfl (fun v l => by pointwise [k0_pay341])) g3 rfl
      have r4 := RowsPut.put (R := 11) r3 (by decide) (sum_row (q := 24) h51 rfl (fun v l => by pointwise [k0_pay342])) g4 rfl
      have r5 := RowsPut.put (R := 12) r4 (by decide) (sum_row (q := 32) h55 rfl (fun v l => by pointwise [k0_pay343])) g5 rfl
      have r6 := RowsPut.put (R := 13) r5 (by decide) (sum_row (q := 40) h59 rfl (fun v l => by pointwise [k0_pay344])) g6 rfl
      have r7 := RowsPut.put (R := 14) r6 (by decide) (sum_row (q := 48) h63 rfl (fun v l => by pointwise [k0_pay345])) g7 rfl
      have r8 := RowsPut.put (R := 15) r7 (by decide) (sum_row (q := 56) h67 rfl (fun v l => by pointwise [k0_pay346])) g8 rfl
      have r9 := RowsPut.put (R := 16) r8 (by decide) (sum_row (q := 64) h71 rfl (fun v l => by pointwise [k0_pay347])) g9 rfl
      have r10 := RowsPut.put (R := 17) r9 (by decide) (sum_row (q := 72) h75 rfl (fun v l => by pointwise [k0_pay348])) g10 rfl
      have r11 := RowsPut.put (R := 18) r10 (by decide) (sum_row (q := 80) h79 rfl (fun v l => by pointwise [k0_pay349])) g11 rfl
      have r12 := RowsPut.put (R := 19) r11 (by decide) (sum_row (q := 88) h83 rfl (fun v l => by pointwise [k0_pay350])) g12 rfl
      have r13 := RowsPut.put (R := 20) r12 (by decide) (sum_row (q := 96) h87 rfl (fun v l => by pointwise [k0_pay351])) g13 rfl
      have r14 := RowsPut.put (R := 21) r13 (by decide) (sum_row (q := 104) h91 rfl (fun v l => by pointwise [k0_pay352])) g14 rfl
      have r15 := RowsPut.put (R := 22) r14 (by decide) (sum_row (q := 112) h95 rfl (fun v l => by pointwise [k0_pay353])) g15 rfl
      have r16 := RowsPut.put (R := 23) r15 (by decide) (sum_row (q := 120) h99 rfl (fun v l => by pointwise [k0_pay354])) g16 rfl
      have r17 := RowsPut.put (R := 24) r16 (by decide) (sum_row (q := 128) h103 rfl (fun v l => by pointwise [k0_pay355])) g17 rfl
      have r18 := RowsPut.put (R := 25) r17 (by decide) (sum_row (q := 136) h107 rfl (fun v l => by pointwise [k0_pay356])) g18 rfl
      have r19 := RowsPut.put (R := 26) r18 (by decide) (sum_row (q := 144) h111 rfl (fun v l => by pointwise [k0_pay357])) g19 rfl
      have r20 := RowsPut.put (R := 27) r19 (by decide) (sum_row (q := 152) h115 rfl (fun v l => by pointwise [k0_pay358])) g20 rfl
      have r21 := RowsPut.put (R := 28) r20 (by decide) (sum_row (q := 160) h119 rfl (fun v l => by pointwise [k0_pay359])) g21 rfl
      have r22 := RowsPut.put (R := 29) r21 (by decide) (sum_row (q := 168) h123 rfl (fun v l => by pointwise [k0_pay360])) g22 rfl
      have r23 := RowsPut.put (R := 30) r22 (by decide) (sum_row (q := 176) h127 rfl (fun v l => by pointwise [k0_pay361])) g23 rfl
      have r24 := RowsPut.put (R := 31) r23 (by decide) (sum_row (q := 184) h131 rfl (fun v l => by pointwise [k0_pay362])) g24 rfl
      have r25 := RowsPut.put (R := 32) r24 (by decide) (sum_row (q := 192) h135 rfl (fun v l => by pointwise [k0_pay363])) g25 rfl
      have r26 := RowsPut.put (R := 33) r25 (by decide) (sum_row (q := 200) h139 rfl (fun v l => by pointwise [k0_pay364])) g26 rfl
      have r27 := RowsPut.put (R := 34) r26 (by decide) (sum_row (q := 208) h143 rfl (fun v l => by pointwise [k0_pay365])) g27 rfl
      have r28 := RowsPut.put (R := 35) r27 (by decide) (sum_row (q := 216) h147 rfl (fun v l => by pointwise [k0_pay366])) g28 rfl
      have r29 := RowsPut.put (R := 36) r28 (by decide) (sum_row (q := 224) h151 rfl (fun v l => by pointwise [k0_pay367])) g29 rfl
      have r30 := RowsPut.put (R := 37) r29 (by decide) (sum_row (q := 232) h155 rfl (fun v l => by pointwise [k0_pay368])) g30 rfl
      have r31 := RowsPut.put (R := 38) r30 (by decide) (sum_row (q := 240) h159 rfl (fun v l => by pointwise [k0_pay2])) g31 rfl
      have r32 := RowsPut.put (R := 40) r31 (by decide) (sum_row (q := 0) h163 rfl (fun v l => by pointwise [k0_pay3])) g32 rfl
      have r33 := RowsPut.put (R := 41) r32 (by decide) (sum_row (q := 8) h167 rfl (fun v l => by pointwise [k0_pay4])) g33 rfl
      have r34 := RowsPut.put (R := 42) r33 (by decide) (sum_row (q := 16) h171 rfl (fun v l => by pointwise [k0_pay5])) g34 rfl
      refine ⟨⟨_, rfl⟩, fun p d => ?_⟩
      refine (r34 p d).trans ?_
      have e : p ∈ (insert 42 (insert 41 (insert 40 (insert 38 (insert 37 (insert 36 (insert 35 (insert 34 (insert 33 (insert 32 (insert 31 (insert 30 (insert 29 (insert 28 (insert 27 (insert 26 (insert 25 (insert 24 (insert 23 (insert 22 (insert 21 (insert 20 (insert 19 (insert 18 (insert 17 (insert 16 (insert 15 (insert 14 (insert 13 (insert 12 (insert 11 (insert 10 (insert 9 (insert 8 (∅)))))))))))))))))))))))))))))))))) : Finset ℕ) ↔ ((8 ≤ p ∧ p < 39) ∨ (40 ≤ p ∧ p < 43)) := by
        clear * -
        simp only [Finset.mem_insert, Finset.notMem_empty, or_false]
        omega
      simp only [e]
    · refine W.dite (fun hc => absurd (i6.mp hc) (by omega)) (fun _ => ?_)
      apply W.pure
      exact ⟨s1, s2, hf, ⟨fun h => absurd h h0, fun _ => hl⟩, fun _ => rfl, fun h => absurd h h3⟩

end Cert.Kernel2Ideal.Fp

end
-- ==== Proof.Fp.Trace.lean ====
/- The steps of the grid one after another: what the buffers and the outputs hold after each, from the blocks of every step. -/
module

public import proofs.«01_k».proof.Proof.Fp.Body

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open Idealize.SL.BI.BIBase Idealize.SL.Sem
open Cert.Kernel2Ideal.Gen

set_option pp.maxSteps 60
variable (Xs : ℕ → Ins Ideal)

/-- The rows of the first convolution's input at tile `t`: 32 rows of the tile before, then the tile's. -/
def Uh : ℕ → ℕ → ℕ → EReal
  | 0 => eU (Xs 0) (fun _ _ => 0)
  | t + 1 => eU (Xs (t + 1)) (fun j d => Uh t (128 + j) d)
/-- The same of the second convolution. -/
def Vh : ℕ → ℕ → ℕ → EReal
  | 0 => eV (Xs 0) (fun _ _ => 0)
  | t + 1 => eV (Xs (t + 1)) (fun j d => Vh t (128 + j) d)
/-- The rows before tile `t`. -/
def HU : ℕ → ℕ → ℕ → EReal
  | 0 => fun _ _ => 0
  | t + 1 => fun j d => Uh Xs t (128 + j) d
@[inherit_doc HU]
def HV : ℕ → ℕ → ℕ → EReal
  | 0 => fun _ _ => 0
  | t + 1 => fun j d => Vh Xs t (128 + j) d

theorem Uh_eq (t : ℕ) : Uh Xs t = eU (Xs t) (HU Xs t) := by cases t <;> rfl
theorem Vh_eq (t : ℕ) : Vh Xs t = eV (Xs t) (HV Xs t) := by cases t <;> rfl

/-- A function on the rows and channels of a tile. -/
def clip (f : ℕ → ℕ → EReal) (r d : ℕ) : EReal := if r < 128 ∧ d < 1024 then f r d else Classical.arbitrary EReal

/-- Row `r` of tile `t`. -/
def RT (t r : ℕ) : Row := rowT (Xs t) (clip (convU (Xs t) (HU Xs t))) (clip (convV (Xs t) (HV Xs t))) t r

/-- The gradient at the first convolution's output, at a tile and the 32 rows after it. -/
def DU (t j d : ℕ) : EReal := if j < 128 then (RT Xs t j).dua1 (wts (Xs t)) d else if t + 1 < 33 then (RT Xs (t + 1) (j - 128)).dua1 (wts (Xs (t + 1))) d else 0
/-- The gradient at the second convolution's output. -/
def DV (t j d : ℕ) : EReal := if j < 128 then (RT Xs t j).dc3 (wts (Xs t)) d else if t + 1 < 33 then (RT Xs (t + 1) (j - 128)).dc3 (wts (Xs (t + 1))) d else 0

/-- The sums of the weights' gradients over the first `n` tiles. -/
def GAs (n p d : ℕ) : EReal := ∑ t ∈ Finset.range n, GA (Uh Xs t) (DU Xs t) (p / 8) (p % 8) d
@[inherit_doc GAs]
def GBs (n p d : ℕ) : EReal := ∑ t ∈ Finset.range n, GB (Vh Xs t) (DV Xs t) (p / 8) (p % 8) d

/-- The small sums over the first `n` tiles. -/
def smF (n p d : ℕ) : EReal :=
  if p = 0 then ∑ t ∈ Finset.range n, ∑ r ∈ Finset.range 128, (RT Xs t r).gFin (wts (Xs t)) d
  else if p = 1 then ∑ t ∈ Finset.range n, ∑ r ∈ Finset.range 128, (RT Xs t r).dya (wts (Xs t)) d
  else if p = 2 then ∑ t ∈ Finset.range n, ∑ r ∈ Finset.range 128, (RT Xs t r).gLn (wts (Xs t)) d
  else if p = 3 then ∑ t ∈ Finset.range n, ∑ r ∈ Finset.range 128, (RT Xs t r).dua2 (wts (Xs t)) d
  else if p = 4 then ∑ t ∈ Finset.range n, ∑ r ∈ Finset.range 128, (RT Xs t r).dua1 (wts (Xs t)) d
  else if p = 5 then ∑ t ∈ Finset.range n, Ideal.ofBits FTy.f32 973078528#32 * ∑ r ∈ Finset.range 128, (RT Xs t r).sq (wts (Xs t)) d
  else 0

/-- The small results after step `t`. -/
def smT (t p d : ℕ) : EReal :=
  if t < 33 then smF Xs (t + 1) p d
  else if (8 ≤ p ∧ p < 39) ∨ (40 ≤ p ∧ p < 43) then
    (if p < 40 then ∑ m ∈ Finset.range 8, GAs Xs 33 (8 * (p - 8) + m) d else ∑ m ∈ Finset.range 8, GBs Xs 33 (8 * (p - 40) + m) d)
  else smF Xs 33 p d

/-- What waits in `stage` after tile `t`. -/
def stF (t r d : ℕ) : EReal :=
  if d < 1024 then (RT Xs t r).paz (wts (Xs t)) d
  else if d < 2048 then (RT Xs t r).pbb (wts (Xs t)) (d - 1024)
  else if d < 3072 then (RT Xs t r).pbz (wts (Xs t)) (d - 2048)
  else if d < 4096 then (RT Xs t r).pga (wts (Xs t)) (d - 3072)
  else (RT Xs t r).pgb (wts (Xs t)) (d - 4096)

/-- The gradient of the projection at tile `t`. -/
def dpF (t r d : ℕ) : EReal :=
  if d < 1024 then pAval (Xs (t + 1)) (DU Xs t) r d
  else if d < 2048 then pAglu (Xs (t + 1)) (DU Xs t) r (d - 1024)
  else if d < 4096 then stF Xs t r (d - 2048)
  else if d < 5120 then pBc (Xs (t + 1)) (DV Xs t) r (d - 4096)
  else if d < 6144 then pBx (Xs (t + 1)) (DV Xs t) r (d - 5120)
  else stF Xs t r (d - 4096)

/-! ## Agreement on the rows read -/

theorem eU_congr {X : Ins Ideal} {H H' : ℕ → ℕ → EReal} (h : ∀ j d, j < 32 → d < 1024 → H j d = H' j d) {j d : ℕ} (hd : d < 1024) : eU X H j d = eU X H' j d := by
  unfold eU
  by_cases c : j < 32
  · rw [if_pos c, if_pos c, h j d c hd]
  · rw [if_neg c, if_neg c]
theorem eV_congr {X : Ins Ideal} {H H' : ℕ → ℕ → EReal} (h : ∀ j d, j < 8 → d < 1024 → H j d = H' j d) {j d : ℕ} (hd : d < 1024) : eV X H j d = eV X H' j d := by
  unfold eV
  by_cases c : j < 8
  · rw [if_pos c, if_pos c, h j d c hd]
  · rw [if_neg c, if_neg c]
theorem convU_congr {X : Ins Ideal} {H H' : ℕ → ℕ → EReal} (h : ∀ j d, j < 32 → d < 1024 → H j d = H' j d) {r d : ℕ} (hd : d < 1024) : convU X H r d = convU X H' r d :=
  congrArg (_ + ·) (Finset.sum_congr rfl fun _ _ => congrArg (_ * ·) (eU_congr h hd))
theorem convV_congr {X : Ins Ideal} {H H' : ℕ → ℕ → EReal} (h : ∀ j d, j < 8 → d < 1024 → H j d = H' j d) {r d : ℕ} (hd : d < 1024) : convV X H r d = convV X H' r d :=
  Finset.sum_congr rfl fun _ _ => congrArg (_ * ·) (eV_congr h hd)

theorem fold8_congr {U U' L L' : ℕ → ℕ → EReal} {h j m d nu nl : ℕ} (hu : ∀ a, a < nu → U a d = U' a d) (hl : ∀ a, a < nl → L a d = L' a d)
    (h1 : h + (120 + m) < nu) (h2 : j + (120 + m) < nl) : fold8 U L h j m d = fold8 U' L' h j m d :=
  Finset.sum_congr rfl fun q hq => by
    have := Finset.mem_range.mp hq
    rw [hu _ (by omega), hl _ (by omega)]

theorem tU_congr {X : Ins Ideal} {L L' : ℕ → ℕ → EReal} {r d : ℕ} (hl : ∀ a, a < 160 → L a d = L' a d) (hr : r < 128) : tU X L r d = tU X L' r d :=
  Finset.sum_congr rfl fun q hq => by
    have := Finset.mem_range.mp hq
    rw [hl _ (by omega)]
theorem tV_congr {X : Ins Ideal} {L L' : ℕ → ℕ → EReal} {r d : ℕ} (hl : ∀ a, a < 136 → L a d = L' a d) (hr : r < 128) : tV X L r d = tV X L' r d :=
  Finset.sum_congr rfl fun q hq => by
    have := Finset.mem_range.mp hq
    rw [hl _ (by omega)]

theorem pB_congr {X : Ins Ideal} {L L' : ℕ → ℕ → EReal} {r d : ℕ} (hl : ∀ a, a < 136 → L a d = L' a d) (hr : r < 128) :
    pBc X L r d = pBc X L' r d ∧ pBx X L r d = pBx X L' r d := by
  unfold pBc pBx
  rw [tV_congr hl hr]
  exact ⟨rfl, rfl⟩

/-! ## The steps -/

/-- What the scratch holds after tile `t`, before the next step. -/
structure Inv (t : ℕ) (s : St Ideal) : Prop where
  ua0 : ∀ j d, j < 160 → d < 1024 → at3 s.ua0 (t % 2) j d = Uh Xs t j d
  cb : ∀ j d, j < 136 → d < 1024 → at3 s.cb (t % 2) j d = Vh Xs t j d
  dua1 : ∀ j d, j < 128 → d < 1024 → at3 s.dua1 (t % 2) j d = (RT Xs t j).dua1 (wts (Xs t)) d
  dc3 : ∀ j d, j < 128 → d < 1024 → at3 s.dc3 (t % 2) j d = (RT Xs t j).dc3 (wts (Xs t)) d
  stage : ∀ r d, r < 128 → d < 5120 → at2 s.stage r d = stF Xs t r d
  dcaw : ∀ p d, p < 248 → d < 1024 → at2 s.dcaw p d = GAs Xs t p d
  dcbw : ∀ p d, p < 24 → d < 1024 → at2 s.dcbw p d = GBs Xs t p d

/-- What a tile's forward and backward pass leaves. -/
structure Tile (t : ℕ) (s s' : St Ideal) : Prop where
  dproj : s'.dproj = s.dproj
  dcaw : s'.dcaw = s.dcaw
  dcbw : s'.dcbw = s.dcbw
  ua0 : ∀ j d, j < 160 → d < 1024 → at3 s'.ua0 (t % 2) j d = Uh Xs t j d
  ua0' : ∀ j d, at3 s'.ua0 (1 - t % 2) j d = at3 s.ua0 (1 - t % 2) j d
  cb : ∀ j d, j < 136 → d < 1024 → at3 s'.cb (t % 2) j d = Vh Xs t j d
  cb' : ∀ j d, at3 s'.cb (1 - t % 2) j d = at3 s.cb (1 - t % 2) j d
  dua1 : ∀ j d, j < 128 → d < 1024 → at3 s'.dua1 (t % 2) j d = (RT Xs t j).dua1 (wts (Xs t)) d
  dua1' : ∀ j d, j < 160 → d < 1024 → at3 s'.dua1 (1 - t % 2) j d = if j < 128 then at3 s.dua1 (1 - t % 2) j d else (RT Xs t (j - 128)).dua1 (wts (Xs t)) d
  dc3 : ∀ j d, j < 128 → d < 1024 → at3 s'.dc3 (t % 2) j d = (RT Xs t j).dc3 (wts (Xs t)) d
  dc3' : ∀ j d, j < 136 → d < 1024 → at3 s'.dc3 (1 - t % 2) j d = if j < 128 then at3 s.dc3 (1 - t % 2) j d else (RT Xs t (j - 128)).dc3 (wts (Xs t)) d
  lhs : ∀ r d, r < 128 → d < 1024 → at3 s'.lhs 0 r d = (RT Xs t r).l0 (wts (Xs t)) d ∧ at3 s'.lhs 1 r d = (RT Xs t r).l1 d ∧ at3 s'.lhs 2 r d = (RT Xs t r).l2 (wts (Xs t)) d
  rhs : ∀ r d, r < 128 → d < 1024 → at3 s'.rhs 0 r d = (RT Xs t r).dya (wts (Xs t)) d ∧ at3 s'.rhs 1 r d = (RT Xs t r).dyb (wts (Xs t)) d ∧ at3 s'.rhs 2 r d = (RT Xs t r).ds1 (wts (Xs t)) d
  ds : ∀ r d, r < 128 → d < 1024 → at2 s'.ds r d = (RT Xs t r).ds1 (wts (Xs t)) d
  stage : ∀ r d, r < 128 → d < 5120 → at2 s'.stage r d = stF Xs t r d
  small : ∀ p d, d < 1024 → (at2 s.small p d = smF Xs t p d) → at2 s'.small p d = smF Xs (t + 1) p d

theorem tile_spec {t : ℕ} {s s' : St Ideal} (ht : t < 33) (hU : ∀ j d, j < 32 → d < 1024 → at3 s.ua0 (1 - t % 2) (128 + j) d = HU Xs t j d)
    (hV : ∀ j d, j < 8 → d < 1024 → at3 s.cb (1 - t % 2) (128 + j) d = HV Xs t j d) (h : TileStep (Xs t) t s s') : Tile Xs t s s' := by
  obtain ⟨s3, ⟨⟨a1, a2, a3, a4, a5, rfl⟩, hu, hc, hv, hw⟩, hm⟩ := h.2 ht
  have eR : rowT (Xs t) (at2 a3) (at2 a4) t = RT Xs t := by
    funext r
    have e1 : at2 a3 = clip (convU (Xs t) (HU Xs t)) := by
      funext r d
      unfold clip
      by_cases c : r < 128 ∧ d < 1024
      · rw [if_pos c]
        refine (hv r d).trans ((if_pos (by omega)).trans (convU_congr hU c.2))
      · rw [if_neg c]
        unfold at2
        exact dif_neg c
    have e2 : at2 a4 = clip (convV (Xs t) (HV Xs t)) := by
      funext r d
      unfold clip
      by_cases c : r < 128 ∧ d < 1024
      · rw [if_pos c]
        refine (hw r d).trans ((if_pos (by omega)).trans (convV_congr hV c.2))
      · rw [if_neg c]
        unfold at2
        exact dif_neg c
    rw [e1, e2]; rfl
  have hm : MidStep (wts (Xs t)) (RT Xs t) (t % 2) _ s' := eR ▸ hm
  obtain ⟨⟨b1, b2, b3, b4, b5, b6, b7, b8, b9, rfl⟩, m1, m2, m3, m4, m5, m6, m7, m8⟩ := hm
  refine ⟨rfl, rfl, rfl, fun j d hj hd => ?_, fun j d => ?_, fun j d hj hd => ?_, fun j d => ?_, fun j d hj hd => ?_, fun j d hj hd => ?_, fun j d hj hd => ?_,
    fun j d hj hd => ?_, m1, m2, m3, fun r d hr hd => ?_, fun p d hd hs => ?_⟩
  · refine (hu _ j d).trans ((if_pos (by omega)).trans ((eU_congr hU hd).trans ?_))
    rw [Uh_eq]
  · exact (hu _ j d).trans (if_neg (by omega))
  · refine (hc _ j d).trans ((if_pos (by omega)).trans ((eV_congr hV hd).trans ?_))
    rw [Vh_eq]
  · exact (hc _ j d).trans (if_neg (by omega))
  · exact (m7 _ j d hd).trans (if_pos ⟨rfl, hj⟩)
  · refine (m7 _ j d hd).trans ((if_neg (by omega)).trans ?_)
    by_cases c : j < 128
    · rw [if_pos c]; exact if_neg (by omega)
    · rw [if_neg c]; exact if_pos (by omega)
  · exact (m8 _ j d hd).trans (if_pos ⟨rfl, hj⟩)
  · refine (m8 _ j d hd).trans ((if_neg (by omega)).trans ?_)
    by_cases c : j < 128
    · rw [if_pos c]; exact if_neg (by omega)
    · rw [if_neg c]; exact if_pos (by omega)
  · unfold stF
    by_cases c1 : d < 1024
    · rw [if_pos c1]; exact (m6 r d hr c1).1
    rw [if_neg c1]
    by_cases c2 : d < 2048
    · rw [if_pos c2]; have := (m6 r (d - 1024) hr (by omega)).2.1; rwa [show 1024 + (d - 1024) = d by omega] at this
    rw [if_neg c2]
    by_cases c3 : d < 3072
    · rw [if_pos c3]; have := (m6 r (d - 2048) hr (by omega)).2.2.1; rwa [show 2048 + (d - 2048) = d by omega] at this
    rw [if_neg c3]
    by_cases c4 : d < 4096
    · rw [if_pos c4]; have := (m6 r (d - 3072) hr (by omega)).2.2.2.1; rwa [show 3072 + (d - 3072) = d by omega] at this
    rw [if_neg c4]
    have := (m6 r (d - 4096) hr (by omega)).2.2.2.2; rwa [show 4096 + (d - 4096) = d by omega] at this
  · obtain ⟨q0, q1, q2, q3, q4, q5⟩ := m4 d hd
    unfold smF at hs ⊢
    by_cases c0 : p = 0
    · rw [if_pos c0] at hs ⊢; subst c0; rw [Finset.sum_range_succ, ← hs]; exact q0
    rw [if_neg c0] at hs ⊢
    by_cases c1 : p = 1
    · rw [if_pos c1] at hs ⊢; subst c1; rw [Finset.sum_range_succ, ← hs]; exact q1
    rw [if_neg c1] at hs ⊢
    by_cases c2 : p = 2
    · rw [if_pos c2] at hs ⊢; subst c2; rw [Finset.sum_range_succ, ← hs]; exact q2
    rw [if_neg c2] at hs ⊢
    by_cases c3 : p = 3
    · rw [if_pos c3] at hs ⊢; subst c3; rw [Finset.sum_range_succ, ← hs]; exact q3
    rw [if_neg c3] at hs ⊢
    by_cases c4 : p = 4
    · rw [if_pos c4] at hs ⊢; subst c4; rw [Finset.sum_range_succ, ← hs]; exact q4
    rw [if_neg c4] at hs ⊢
    by_cases c5 : p = 5
    · rw [if_pos c5] at hs ⊢; subst c5; rw [Finset.sum_range_succ, ← hs]; exact q5
    rw [if_neg c5] at hs ⊢
    exact (m5 p d (by omega)).trans hs

/-- The loop of the convolutions' gradients at step `t + 1`, for tile `t`. -/
theorem lag_spec {t : ℕ} {s s' : St Ideal} {U L V M : ℕ → ℕ → EReal} (h : LagStep (Xs (t + 1)) 0 1024 U L V M s s')
    (hU : ∀ j d, j < 160 → d < 1024 → U j d = Uh Xs t j d) (hL : ∀ j d, j < 160 → d < 1024 → L j d = DU Xs t j d)
    (hV : ∀ j d, j < 136 → d < 1024 → V j d = Vh Xs t j d) (hM : ∀ j d, j < 136 → d < 1024 → M j d = DV Xs t j d)
    (ha : ∀ p d, p < 248 → d < 1024 → at2 s.dcaw p d = GAs Xs t p d) (hb : ∀ p d, p < 24 → d < 1024 → at2 s.dcbw p d = GBs Xs t p d)
    (hd1 : ∀ r d, r < 128 → 2048 ≤ d → d < 4096 → at2 s.dproj r d = stF Xs t r (d - 2048))
    (hd2 : ∀ r d, r < 128 → 6144 ≤ d → d < 9216 → at2 s.dproj r d = stF Xs t r (d - 4096)) :
    (∃ dproj dcaw dcbw shift, s' = { s with dproj := dproj, dcaw := dcaw, dcbw := dcbw, shift := shift })
    ∧ (∀ r d, r < 128 → d < 9216 → at2 s'.dproj r d = dpF Xs t r d)
    ∧ (∀ p d, p < 248 → d < 1024 → at2 s'.dcaw p d = GAs Xs (t + 1) p d) ∧ (∀ p d, p < 24 → d < 1024 → at2 s'.dcbw p d = GBs Xs (t + 1) p d) := by
  obtain ⟨h0, h1, h2, h3⟩ := h
  refine ⟨h0, fun r d hr hd => ?_, fun p d hp hd => ?_, fun p d hp hd => ?_⟩
  · refine (h1 r d).trans ?_
    unfold dpF
    by_cases c1 : d < 1024
    · rw [if_pos (by omega), if_pos c1]
      exact congrArg (· * _) (tU_congr (fun a ha => hL a d ha c1) hr)
    rw [if_neg (by omega), if_neg c1]
    by_cases c2 : d < 2048
    · rw [if_pos (by omega), if_pos c2]
      exact congrArg (· * _ * _) (tU_congr (fun a ha => hL a _ ha (by omega)) hr)
    rw [if_neg (by omega), if_neg c2]
    by_cases c3 : d < 4096
    · rw [if_neg (by omega), if_neg (by omega), if_pos c3]
      exact hd1 r d hr (by omega) c3
    rw [if_neg c3]
    by_cases c4 : d < 5120
    · rw [if_pos (by omega), if_pos c4]
      exact (pB_congr (fun a ha => hM a _ ha (by omega)) hr).1
    rw [if_neg (by omega), if_neg c4]
    by_cases c5 : d < 6144
    · rw [if_pos (by omega), if_pos c5]
      exact (pB_congr (fun a ha => hM a _ ha (by omega)) hr).2
    rw [if_neg (by omega), if_neg c5]
    exact hd2 r d hr (by omega) hd
  · refine (h2 p d).trans ((if_pos (by omega)).trans ?_)
    unfold GAs at ha ⊢
    rw [Finset.sum_range_succ, ← ha p d hp hd]
    have hk : p / 8 < 31 := by omega
    have hm : p % 8 < 8 := by omega
    generalize p / 8 = k, p % 8 = m at hk hm ⊢
    rw [show GA U L k m d = GA (Uh Xs t) (DU Xs t) k m d from fold8_congr (nu := 160) (nl := 160) (fun a ha => hU a d ha hd) (fun a ha => hL a d ha hd) (by omega) (by omega)]
  · refine (h3 p d).trans ((if_pos (by omega)).trans ?_)
    unfold GBs at hb ⊢
    rw [Finset.sum_range_succ, ← hb p d hp hd]
    have hk : p / 8 < 3 := by omega
    have hm : p % 8 < 8 := by omega
    generalize p / 8 = k, p % 8 = m at hk hm ⊢
    rw [show GB V M k m d = GB (Vh Xs t) (DV Xs t) k m d from fold8_congr (nu := 136) (nl := 136) (fun a ha => hV a d ha hd) (fun a ha => hM a d ha hd) (by omega) (by omega)]

/-- What a step leaves in the outputs' buffers. -/
structure Outs (t : ℕ) (s s' : St Ideal) : Prop where
  dproj0 : t = 0 → s'.dproj = s.dproj
  dproj : t ≠ 0 → ∀ r d, r < 128 → d < 9216 → at2 s'.dproj r d = dpF Xs (t - 1) r d
  ds : t < 33 → ∀ r d, r < 128 → d < 1024 → at2 s'.ds r d = (RT Xs t r).ds1 (wts (Xs t)) d
  lhs : t < 33 → ∀ r d, r < 128 → d < 1024 → at3 s'.lhs 0 r d = (RT Xs t r).l0 (wts (Xs t)) d ∧ at3 s'.lhs 1 r d = (RT Xs t r).l1 d ∧ at3 s'.lhs 2 r d = (RT Xs t r).l2 (wts (Xs t)) d
  rhs : t < 33 → ∀ r d, r < 128 → d < 1024 → at3 s'.rhs 0 r d = (RT Xs t r).dya (wts (Xs t)) d ∧ at3 s'.rhs 1 r d = (RT Xs t r).dyb (wts (Xs t)) d ∧ at3 s'.rhs 2 r d = (RT Xs t r).ds1 (wts (Xs t)) d
  ds33 : t = 33 → s'.ds = s.ds ∧ s'.lhs = s.lhs ∧ s'.rhs = s.rhs
  small : ∀ p d, p < 48 → d < 1024 → at2 s'.small p d = smT Xs t p d

/-- The first step. -/
theorem step_first {s s' : St Ideal} (h : BodyStep (Xs 0) 0 s s') : Inv Xs 0 s' ∧ Outs Xs 0 s s' := by
  obtain ⟨s4, s5, ⟨s1, s2, s3, hi, he, ht, hl⟩, ⟨hg, -⟩, hf, -⟩ := h
  obtain rfl := hf (by decide)
  obtain rfl := hg rfl
  obtain rfl := hl.1 (by decide)
  obtain rfl := he.1 rfl
  obtain ⟨⟨a1, a2, a3, a4, a5, a6, a7, rfl⟩, z1, z2, z3, z4, z5, z6, z7⟩ := hi.2 rfl
  have T := tile_spec Xs (by decide) (fun j d hj hd => z1 _ _ _ (by decide) (by omega) hd) (fun j d hj hd => z2 _ _ _ (by decide) (by omega) hd) ht
  refine ⟨⟨T.ua0, T.cb, T.dua1, T.dc3, T.stage, fun p d hp hd => ?_, fun p d hp hd => ?_⟩,
    ⟨fun _ => T.dproj, fun h => absurd rfl h, fun _ => T.ds, fun _ => T.lhs, fun _ => T.rhs, fun h => absurd h (by decide), fun p d hp hd => ?_⟩⟩
  · rw [T.dcaw]; exact z5 p d (by omega) hd
  · rw [T.dcbw]; exact z6 p d (by omega) hd
  · unfold smT
    rw [if_pos (by decide)]
    refine T.small p d hd ((z7 p d hp hd).trans ?_)
    unfold smF
    simp only [Finset.range_zero, Finset.sum_empty, ite_self]

/-- A step with a tile and a tile before it. -/
theorem step_mid {t : ℕ} (ht : t + 1 < 33) {s s' : St Ideal} (hI : Inv Xs t s) (hs : ∀ p d, p < 48 → d < 1024 → at2 s.small p d = smT Xs t p d)
    (h : BodyStep (Xs (t + 1)) (t + 1) s s') : Inv Xs (t + 1) s' ∧ Outs Xs (t + 1) s s' := by
  have hb : 1 - (t + 1) % 2 = t % 2 := by omega
  obtain ⟨s4, s5, ⟨s1, s2, s3, hi, he, hT, hl⟩, ⟨-, hg⟩, hf, -⟩ := h
  obtain rfl := hf (by omega)
  have hg := hg (by omega)
  obtain rfl := hl.1 (by omega)
  obtain rfl := hi.1 (by omega)
  obtain ⟨⟨dp, rfl⟩, hdp⟩ := he.2 (by omega)
  have T := tile_spec Xs ht (fun j d hj hd => by rw [hb]; exact hI.ua0 _ _ (by omega) hd) (fun j d hj hd => by rw [hb]; exact hI.cb _ _ (by omega) hd) hT
  have G := lag_spec Xs hg (fun j d hj hd => (T.ua0' j d).trans (by rw [hb]; exact hI.ua0 j d hj hd)) (fun j d hj hd => by
      refine (T.dua1' j d hj hd).trans ?_
      unfold DU
      rw [hb, if_pos ht]
      by_cases c : j < 128
      · rw [if_pos c, if_pos c]; exact hI.dua1 j d c hd
      · rw [if_neg c, if_neg c])
    (fun j d hj hd => (T.cb' j d).trans (by rw [hb]; exact hI.cb j d hj hd)) (fun j d hj hd => by
      refine (T.dc3' j d hj hd).trans ?_
      unfold DV
      rw [hb, if_pos ht]
      by_cases c : j < 128
      · rw [if_pos c, if_pos c]; exact hI.dc3 j d c hd
      · rw [if_neg c, if_neg c])
    (fun p d hp hd => by rw [T.dcaw]; exact hI.dcaw p d hp hd) (fun p d hp hd => by rw [T.dcbw]; exact hI.dcbw p d hp hd)
    (fun r d hr h1 h2 => by
      rw [T.dproj]
      refine (hdp r d).trans ((if_neg (by omega)).trans ((if_pos (by omega)).trans (hI.stage r _ hr (by omega))))) (fun r d hr h1 h2 => by
      rw [T.dproj]
      refine (hdp r d).trans ((if_pos (by omega)).trans (hI.stage r _ hr (by omega))))
  obtain ⟨⟨g1, g2, g3, g4, rfl⟩, G1, G2, G3⟩ := G
  refine ⟨⟨T.ua0, T.cb, T.dua1, T.dc3, T.stage, G2, G3⟩,
    ⟨fun h => absurd h (by omega), fun _ => G1, fun _ => T.ds, fun _ => T.lhs, fun _ => T.rhs, fun h => absurd h (by omega), fun p d hp hd => ?_⟩⟩
  have e := hs p d hp hd
  unfold smT at e ⊢
  rw [if_pos (by omega)] at e ⊢
  exact T.small p d hd e

/-- The last step. -/
theorem step_last {s s' : St Ideal} (hI : Inv Xs 32 s) (hs : ∀ p d, p < 48 → d < 1024 → at2 s.small p d = smT Xs 32 p d)
    (h : BodyStep (Xs 33) 33 s s') : Outs Xs 33 s s' := by
  obtain ⟨s4, s5, ⟨s1, s2, s3, hi, he, hT, hl⟩, ⟨-, hg⟩, -, hf⟩ := h
  have hg := hg (by decide)
  obtain rfl := hT.1 rfl
  obtain rfl := hi.1 (by decide)
  obtain ⟨⟨dp, rfl⟩, hdp⟩ := he.2 (by decide)
  obtain ⟨⟨l1, l2, rfl⟩, hl1, hl2⟩ := hl.2 rfl
  have G := lag_spec (t := 32) Xs hg (fun j d hj hd => hI.ua0 j d hj hd) (fun j d hj hd => by
      refine (hl1 _ j d hd).trans ?_
      unfold DU
      by_cases c : j < 128
      · rw [if_neg (by omega), if_pos c]; exact hI.dua1 j d c hd
      · rw [if_pos (by omega), if_neg c, if_neg (by decide)])
    (fun j d hj hd => hI.cb j d hj hd) (fun j d hj hd => by
      refine (hl2 _ j d hd).trans ?_
      unfold DV
      by_cases c : j < 128
      · rw [if_neg (by omega), if_pos c]; exact hI.dc3 j d c hd
      · rw [if_pos (by omega), if_neg c, if_neg (by decide)])
    (fun p d hp hd => hI.dcaw p d hp hd) (fun p d hp hd => hI.dcbw p d hp hd)
    (fun r d hr h1 h2 => (hdp r d).trans ((if_neg (by omega)).trans ((if_pos (by omega)).trans (hI.stage r _ hr (by omega)))))
    (fun r d hr h1 h2 => (hdp r d).trans ((if_pos (by omega)).trans (hI.stage r _ hr (by omega))))
  obtain ⟨⟨g1, g2, g3, g4, rfl⟩, G1, G2, G3⟩ := G
  obtain ⟨⟨f1, rfl⟩, hf⟩ := hf rfl
  refine ⟨fun h => absurd h (by decide), fun _ => G1, fun h => absurd h (by decide), fun h => absurd h (by decide), fun h => absurd h (by decide), fun _ => ⟨rfl, rfl, rfl⟩, fun p d hp hd => ?_⟩
  refine (hf p d).trans (Eq.trans ?_ (if_neg (by decide) : smT Xs 33 p d = _).symm)
  by_cases c : (8 ≤ p ∧ p < 39) ∨ (40 ≤ p ∧ p < 43)
  · refine (if_pos ⟨c, hd⟩).trans (Eq.trans ?_ (if_pos c).symm)
    by_cases c2 : p < 40
    · refine (if_pos c2).trans (Eq.trans ?_ (if_pos c2).symm)
      exact Finset.sum_congr rfl fun m hm => by
        have := Finset.mem_range.mp hm
        exact G2 _ d (by omega) hd
    · refine (if_neg c2).trans (Eq.trans ?_ (if_neg c2).symm)
      exact Finset.sum_congr rfl fun m hm => by
        have := Finset.mem_range.mp hm
        exact G3 _ d (by omega) hd
  · refine (if_neg (fun h => c h.1)).trans (Eq.trans ?_ (if_neg c).symm)
    have e := hs p d hp hd
    unfold smT at e
    rw [if_pos (by decide)] at e
    exact e

end Cert.Kernel2Ideal.Fp

end
-- ==== Proof.Fp.Dats.lean ====
/- The kernel `_fused_pass` as a pipeline, over the ideal numbers: after each point the windows hold what the
trace of the tiles says. -/
module

public import proofs.«01_k».proof.Proof.Fp.Frame
public import proofs.«01_k».proof.Proof.Fp.Trace
public import Idealize.ShloMosaic.Lib.Pipeline.TableIdle
public import Idealize.ShloMosaic.Lib.Pipeline.ValueKit
public import Idealize.ShloMosaic.Lib.VecWindow
public import Idealize.ShloMosaic.Lib.Pipeline.ReadBack

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel2Ideal.Gen

local notation "𝕄" => MT nD τ sig Unit (Elt Ideal) ℕ (UR sig nD τ) ℕ

/-! ## Arrays by their entries -/

/-- The array of two axes with given entries. -/
def mk2 {n0 n1 : ℕ} (f : ℕ → ℕ → EReal) : (⟨2, ![n0, n1]⟩ : Shape).Idx → EReal := fun j => f (j 0).val (j 1).val

/-- The array of three axes with given entries. -/
def mk3 {n0 n1 n2 : ℕ} (f : ℕ → ℕ → ℕ → EReal) : (⟨3, ![n0, n1, n2]⟩ : Shape).Idx → EReal := fun j => f (j 0).val (j 1).val (j 2).val

theorem eq_mk2 {n0 n1 : ℕ} {f : ℕ → ℕ → EReal} {x : (⟨2, ![n0, n1]⟩ : Shape).Idx → EReal} (h : ∀ a b, a < n0 → b < n1 → at2 x a b = f a b) : x = mk2 f := by
  funext j
  have e := at2_ix x (n0 := n0) (n1 := n1) ⟨(j 0).val, (j 0).2⟩ ⟨(j 1).val, (j 1).2⟩
  rw [h _ _ (j 0).2 (j 1).2] at e
  have hj : (ix2 ⟨(j 0).val, (j 0).2⟩ ⟨(j 1).val, (j 1).2⟩ : (⟨2, ![n0, n1]⟩ : Shape).Idx) = j := by funext a; fin_cases a <;> rfl
  rw [hj] at e
  exact e

theorem eq_mk3 {n0 n1 n2 : ℕ} {f : ℕ → ℕ → ℕ → EReal} {x : (⟨3, ![n0, n1, n2]⟩ : Shape).Idx → EReal} (h : ∀ a b e, a < n0 → b < n1 → e < n2 → at3 x a b e = f a b e) : x = mk3 f := by
  funext j
  have e := at3_ix x (n0 := n0) (n1 := n1) (n2 := n2) ⟨(j 0).val, (j 0).2⟩ ⟨(j 1).val, (j 1).2⟩ ⟨(j 2).val, (j 2).2⟩
  rw [h _ _ _ (j 0).2 (j 1).2 (j 2).2] at e
  have hj : (ix3 ⟨(j 0).val, (j 0).2⟩ ⟨(j 1).val, (j 1).2⟩ ⟨(j 2).val, (j 2).2⟩ : (⟨3, ![n0, n1, n2]⟩ : Shape).Idx) = j := by funext a; fin_cases a <;> rfl
  rw [hj] at e
  exact e

theorem at2_mk2 {n0 n1 : ℕ} (f : ℕ → ℕ → EReal) {a b : ℕ} (ha : a < n0) (hb : b < n1) : at2 (mk2 f : (⟨2, ![n0, n1]⟩ : Shape).Idx → EReal) a b = f a b := at2_of _ ha hb

variable (m : (ℓ : Loc nD τ sig) → Buf (Elt Ideal) ℓ) (ρ : Dev nD → PrngReg)

/-- The blocks of the inputs at a point. -/
def XF (c : Dev nD) (t : Fin cfg0.N) : Ins Ideal := ⟨iblk m c 0 t, X0_1 m c t, X0_2 m c t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t, iblk m c 16 t, iblk m c 17 t, iblk m c 18 t⟩

/-- The same by the number of the point. -/
def XN (c : Dev nD) (n : ℕ) : Ins Ideal := if h : n < cfg0.N then XF m c ⟨n, h⟩ else XF m c ⟨0, by decide⟩

theorem XN_eq (c : Dev nD) (t : Fin cfg0.N) : XN m c t.val = XF m c t := dif_pos t.2

variable (Xs : ℕ → Ins Ideal)

/-- The blocks of the outputs after a point. -/
def oDproj (t : ℕ) : Vec Ideal S128x9216 .bf16 := mk2 (dpF Xs (t - 1))
def oDs (t : ℕ) : Vec Ideal S128x1024 .f32 := mk2 (fun r d => (RT Xs (min t 32) r).ds1 (wts (Xs (min t 32))) d)
def oLhs (t : ℕ) : Vec Ideal S3x128x1024 .bf16 := mk3 (fun k r d => if k = 0 then (RT Xs (min t 32) r).l0 (wts (Xs (min t 32))) d else if k = 1 then (RT Xs (min t 32) r).l1 d else (RT Xs (min t 32) r).l2 (wts (Xs (min t 32))) d)
def oRhs (t : ℕ) : Vec Ideal S3x128x1024 .bf16 := mk3 (fun k r d => if k = 0 then (RT Xs (min t 32) r).dya (wts (Xs (min t 32))) d else if k = 1 then (RT Xs (min t 32) r).dyb (wts (Xs (min t 32))) d else (RT Xs (min t 32) r).ds1 (wts (Xs (min t 32))) d)
def oSmall (t : ℕ) : Vec Ideal S48x1024 .f32 := mk2 (smT Xs t)

/-- The scratch between points: at the trace's invariant. -/
def Phi (c : Dev nD) (t : ℕ) : sProp 𝕄 := iprop(∃ s : St Ideal, ⌜1 ≤ t → t ≤ 33 → Inv Xs (t - 1) s⌝ ∗ (owns (c : Thread nD τ) (Memref.whole cc0_scratch0 : Memref sig .tc .vmem S2x160x1024 .f32) fullShare s.ua0 ∗ owns (c : Thread nD τ) (Memref.whole cc0_scratch1 : Memref sig .tc .vmem S2x136x1024 .f32) fullShare s.cb ∗ owns (c : Thread nD τ) (Memref.whole cc0_scratch2 : Memref sig .tc .vmem S2x160x1024 .f32) fullShare s.dua1 ∗ owns (c : Thread nD τ) (Memref.whole cc0_scratch3 : Memref sig .tc .vmem S2x136x1024 .f32) fullShare s.dc3 ∗ owns (c : Thread nD τ) (Memref.whole cc0_scratch4 : Memref sig .tc .vmem S128x5120 .bf16) fullShare s.stage ∗ owns (c : Thread nD τ) (Memref.whole cc0_scratch5 : Memref sig .tc .vmem S128x1024 .f32) fullShare s.ua1 ∗ owns (c : Thread nD τ) (Memref.whole cc0_scratch6 : Memref sig .tc .vmem S128x1024 .f32) fullShare s.c3 ∗ owns (c : Thread nD τ) (Memref.whole cc0_scratch7 : Memref sig .tc .vmem S128x1024 .f32) fullShare s.dpa ∗ owns (c : Thread nD τ) (Memref.whole cc0_scratch8 : Memref sig .tc .vmem S128x1024 .f32) fullShare s.dpb ∗ owns (c : Thread nD τ) (Memref.whole cc0_scratch9 : Memref sig .tc .vmem S256x1024 .f32) fullShare s.dcaw ∗ owns (c : Thread nD τ) (Memref.whole cc0_scratch10 : Memref sig .tc .vmem S64x1024 .f32) fullShare s.dcbw ∗ owns (c : Thread nD τ) (Memref.whole cc0_scratch11 : Memref sig .tc .vmem S8x160x128 .f32) fullShare s.shift) ∗ (∃ r, prngReg c r))

/-- The pipeline's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => X0_1 m c t
    | ⟨2, _⟩ => X0_2 m c t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => oDproj (XN m c) t.val
    | ⟨20, _⟩ => oDs (XN m c) t.val
    | ⟨21, _⟩ => oLhs (XN m c) t.val
    | ⟨22, _⟩ => oRhs (XN m c) t.val
    | ⟨23, _⟩ => oSmall (XN m c) t.val
    | ⟨_ + 24, h⟩ => absurd h (Nat.not_lt.2 (Nat.le_add_left _ _))
  Φ t := Phi (XN m c) c t.val
  q w := Pipeline.shareOf spec0 w
  owed _ := 0

theorem A_eq (c : Dev nD) (w : Fin cfg0.W) : (dats m 0 c).A w = V m c (Pipeline.arrRef spec0 w) := rfl

theorem before0 (c : Dev nD) (t : Fin cfg0.N) (d) : (dats m 0 c).before 0 t d = iblk m c 0 t := before0_0_of m (dats m 0 c) (A_eq m c 0) (fun _ => by dsimp only [dats]) t d
theorem before1 (c : Dev nD) (t : Fin cfg0.N) (d) : (dats m 0 c).before 1 t d = X0_1 m c t := before0_1_of m (dats m 0 c) (A_eq m c 1) (fun _ => by dsimp only [dats]) t d
theorem before2 (c : Dev nD) (t : Fin cfg0.N) (d) : (dats m 0 c).before 2 t d = X0_2 m c t := before0_2_of m (dats m 0 c) (A_eq m c 2) (fun _ => by dsimp only [dats]) t d
theorem before3 (c : Dev nD) (t : Fin cfg0.N) (d) : (dats m 0 c).before 3 t d = iblk m c 3 t := before0_3_of m (dats m 0 c) (A_eq m c 3) (fun _ => by dsimp only [dats]) t d
theorem before4 (c : Dev nD) (t : Fin cfg0.N) (d) : (dats m 0 c).before 4 t d = iblk m c 4 t := before0_4_of m (dats m 0 c) (A_eq m c 4) (fun _ => by dsimp only [dats]) t d
theorem before5 (c : Dev nD) (t : Fin cfg0.N) (d) : (dats m 0 c).before 5 t d = iblk m c 5 t := before0_5_of m (dats m 0 c) (A_eq m c 5) (fun _ => by dsimp only [dats]) t d
theorem before6 (c : Dev nD) (t : Fin cfg0.N) (d) : (dats m 0 c).before 6 t d = iblk m c 6 t := before0_6_of m (dats m 0 c) (A_eq m c 6) (fun _ => by dsimp only [dats]) t d
theorem before7 (c : Dev nD) (t : Fin cfg0.N) (d) : (dats m 0 c).before 7 t d = iblk m c 7 t := before0_7_of m (dats m 0 c) (A_eq m c 7) (fun _ => by dsimp only [dats]) t d
theorem before8 (c : Dev nD) (t : Fin cfg0.N) (d) : (dats m 0 c).before 8 t d = iblk m c 8 t := before0_8_of m (dats m 0 c) (A_eq m c 8) (fun _ => by dsimp only [dats]) t d
theorem before9 (c : Dev nD) (t : Fin cfg0.N) (d) : (dats m 0 c).before 9 t d = iblk m c 9 t := before0_9_of m (dats m 0 c) (A_eq m c 9) (fun _ => by dsimp only [dats]) t d
theorem before10 (c : Dev nD) (t : Fin cfg0.N) (d) : (dats m 0 c).before 10 t d = iblk m c 10 t := before0_10_of m (dats m 0 c) (A_eq m c 10) (fun _ => by dsimp only [dats]) t d
theorem before11 (c : Dev nD) (t : Fin cfg0.N) (d) : (dats m 0 c).before 11 t d = iblk m c 11 t := before0_11_of m (dats m 0 c) (A_eq m c 11) (fun _ => by dsimp only [dats]) t d
theorem before12 (c : Dev nD) (t : Fin cfg0.N) (d) : (dats m 0 c).before 12 t d = iblk m c 12 t := before0_12_of m (dats m 0 c) (A_eq m c 12) (fun _ => by dsimp only [dats]) t d
theorem before13 (c : Dev nD) (t : Fin cfg0.N) (d) : (dats m 0 c).before 13 t d = iblk m c 13 t := before0_13_of m (dats m 0 c) (A_eq m c 13) (fun _ => by dsimp only [dats]) t d
theorem before14 (c : Dev nD) (t : Fin cfg0.N) (d) : (dats m 0 c).before 14 t d = iblk m c 14 t := before0_14_of m (dats m 0 c) (A_eq m c 14) (fun _ => by dsimp only [dats]) t d
theorem before15 (c : Dev nD) (t : Fin cfg0.N) (d) : (dats m 0 c).before 15 t d = iblk m c 15 t := before0_15_of m (dats m 0 c) (A_eq m c 15) (fun _ => by dsimp only [dats]) t d
theorem before16 (c : Dev nD) (t : Fin cfg0.N) (d) : (dats m 0 c).before 16 t d = iblk m c 16 t := before0_16_of m (dats m 0 c) (A_eq m c 16) (fun _ => by dsimp only [dats]) t d
theorem before17 (c : Dev nD) (t : Fin cfg0.N) (d) : (dats m 0 c).before 17 t d = iblk m c 17 t := before0_17_of m (dats m 0 c) (A_eq m c 17) (fun _ => by dsimp only [dats]) t d
theorem before18 (c : Dev nD) (t : Fin cfg0.N) (d) : (dats m 0 c).before 18 t d = iblk m c 18 t := before0_18_of m (dats m 0 c) (A_eq m c 18) (fun _ => by dsimp only [dats]) t d

/-! ## Which windows are idle where -/

theorem idle19 : ∀ t : Fin cfg0.N, cfg0.idle 19 (cfg0.grid.coords t) = decide (t.val = 0) := by decide +kernel
theorem idle20 : ∀ t : Fin cfg0.N, cfg0.idle 20 (cfg0.grid.coords t) = decide (t.val = 33) := by decide +kernel
theorem idle21 : ∀ t : Fin cfg0.N, cfg0.idle 21 (cfg0.grid.coords t) = decide (t.val = 33) := by decide +kernel
theorem idle22 : ∀ t : Fin cfg0.N, cfg0.idle 22 (cfg0.grid.coords t) = decide (t.val = 33) := by decide +kernel
theorem idle23 : ∀ t : Fin cfg0.N, cfg0.idle 23 (cfg0.grid.coords t) = false := by decide +kernel
theorem flush19 : (cfg0.win 19).flush ⟨0, by decide⟩ = false := by rw [Pipeline.Window.flush_eq_flushF]; decide +kernel
theorem fresh20 : cfg0.fresh 20 33 = false := by decide +kernel
theorem fresh21 : cfg0.fresh 21 33 = false := by decide +kernel
theorem fresh22 : cfg0.fresh 22 33 = false := by decide +kernel
theorem fresh23 : ∀ t : Fin cfg0.N, cfg0.fresh 23 t.val = decide (t.val = 0) := by decide +kernel
theorem flush33 : (cfg0.win 20).flush ⟨33, by decide⟩ = true ∧ (cfg0.win 21).flush ⟨33, by decide⟩ = true ∧ (cfg0.win 22).flush ⟨33, by decide⟩ = true := by decide +kernel

theorem lt34 (t : Fin cfg0.N) : t.val ≤ 33 := by have := t.2; have h : cfg0.N = 34 := by decide
                                                 omega

theorem before23 (c : Dev nD) (t : Fin cfg0.N) (ht : t.val ≠ 0) (d) : (dats m 0 c).before 23 t d = oSmall (XN m c) (t.val - 1) := by
  refine ((dats m 0 c).before_out_traj 23 rfl (by decide +kernel) (fun t _ hi _ => absurd hi (by rw [idle23]; decide)) t.val t rfl d).trans ?_
  rw [if_neg (by rw [fresh23, decide_eq_true_eq]; exact ht)]
  rfl

theorem before20 (c : Dev nD) (t : Fin cfg0.N) (ht : t.val = 33) (d) : (dats m 0 c).before 20 t d = oDs (XN m c) t.val := by
  refine ((dats m 0 c).before_out_traj 20 rfl (by decide +kernel) (fun t _ hi _ => ?_) t.val t rfl d).trans ?_
  · rw [idle20, decide_eq_true_eq] at hi
    show oDs (XN m c) t.val = oDs (XN m c) (t.val - 1)
    rw [hi]; rfl
  · rw [if_neg (by rw [ht, fresh20]; decide)]
    show oDs (XN m c) (t.val - 1) = oDs (XN m c) t.val
    rw [ht]; rfl

theorem before21 (c : Dev nD) (t : Fin cfg0.N) (ht : t.val = 33) (d) : (dats m 0 c).before 21 t d = oLhs (XN m c) t.val := by
  refine ((dats m 0 c).before_out_traj 21 rfl (by decide +kernel) (fun t _ hi _ => ?_) t.val t rfl d).trans ?_
  · rw [idle21, decide_eq_true_eq] at hi
    show oLhs (XN m c) t.val = oLhs (XN m c) (t.val - 1)
    rw [hi]; rfl
  · rw [if_neg (by rw [ht, fresh21]; decide)]
    show oLhs (XN m c) (t.val - 1) = oLhs (XN m c) t.val
    rw [ht]; rfl

theorem before22 (c : Dev nD) (t : Fin cfg0.N) (ht : t.val = 33) (d) : (dats m 0 c).before 22 t d = oRhs (XN m c) t.val := by
  refine ((dats m 0 c).before_out_traj 22 rfl (by decide +kernel) (fun t _ hi _ => ?_) t.val t rfl d).trans ?_
  · rw [idle22, decide_eq_true_eq] at hi
    show oRhs (XN m c) t.val = oRhs (XN m c) (t.val - 1)
    rw [hi]; rfl
  · rw [if_neg (by rw [ht, fresh22]; decide)]
    show oRhs (XN m c) (t.val - 1) = oRhs (XN m c) t.val
    rw [ht]; rfl

/-- A window at work leaves the contents of its `after`. -/
theorem leaves_live (c : Dev nD) (w : Fin cfg0.W) (t : Fin cfg0.N) (hi : cfg0.idle w (cfg0.grid.coords t) = false) (hw : cfg0.loose w = false) :
    (dats m 0 c).leaves w t = owns (c : Thread nD τ) ((cfg0.win w).stage (cfg0.slots t w)) fullShare ((dats m 0 c).after w t) := by
  unfold Dat.leaves; rw [hi, hw]

/-- An idle window that is written back leaves the contents of its `after` too. -/
theorem leaves_last (c : Dev nD) (w : Fin cfg0.W) (t : Fin cfg0.N) (hf : (cfg0.win w).flush t = true) (hw : cfg0.loose w = false) :
    (dats m 0 c).leaves w t = owns (c : Thread nD τ) ((cfg0.win w).stage (cfg0.slots t w)) fullShare ((dats m 0 c).after w t) := by
  unfold Dat.leaves; rw [hf, hw]; cases cfg0.idle w (cfg0.grid.coords t) <;> rfl

theorem coords_val : ∀ t : Fin cfg0.N, (grid0.coords t 0).val = t.val := by decide +kernel

/-- The invariant speaks of the scratch only. -/
theorem Inv.outs {Xs : ℕ → Ins Ideal} {t : ℕ} {s : St Ideal} (h : Inv Xs t s) (a b e f g) :
    Inv Xs t ⟨a, b, e, f, g, s.ua0, s.cb, s.dua1, s.dc3, s.stage, s.ua1, s.c3, s.dpa, s.dpb, s.dcaw, s.dcbw, s.shift⟩ :=
  ⟨h.ua0, h.cb, h.dua1, h.dc3, h.stage, h.dcaw, h.dcbw⟩

theorem ds_mk (c : Dev nD) (t : Fin cfg0.N) {s s' : St Ideal} (h : Outs (XN m c) t.val s s') (ht : t.val < 33) : s'.ds = oDs (XN m c) t.val :=
  eq_mk2 (fun a b ha hb => by rw [h.ds ht a b ha hb, Nat.min_eq_left (by omega)])

theorem lhs_mk (c : Dev nD) (t : Fin cfg0.N) {s s' : St Ideal} (h : Outs (XN m c) t.val s s') (ht : t.val < 33) : s'.lhs = oLhs (XN m c) t.val :=
  eq_mk3 (fun k a b hk ha hb => by
    obtain ⟨h0, h1, h2⟩ := h.lhs ht a b ha hb
    rw [Nat.min_eq_left (by omega)]
    interval_cases k
    · exact h0
    · exact h1
    · exact h2)

theorem rhs_mk (c : Dev nD) (t : Fin cfg0.N) {s s' : St Ideal} (h : Outs (XN m c) t.val s s') (ht : t.val < 33) : s'.rhs = oRhs (XN m c) t.val :=
  eq_mk3 (fun k a b hk ha hb => by
    obtain ⟨h0, h1, h2⟩ := h.rhs ht a b ha hb
    rw [Nat.min_eq_left (by omega)]
    interval_cases k
    · exact h0
    · exact h1
    · exact h2)

theorem leaves_in1 (c : Dev nD) (t : Fin cfg0.N) : (owns (c : Thread nD τ) ((cfg0.win 1).stage (cfg0.slots t 1)) fullShare (XF m c t).aprev : sProp 𝕄) ⊢ (dats m 0 c).leaves 1 t := by
  dsimp only [XF]
  have e : (dats m 0 c).leaves 1 t = iprop(∃ d, owns (c : Thread nD τ) ((cfg0.win 1).stage (cfg0.slots t 1)) fullShare ((cfg0.win 1).fill (cfg0.grid.coords t) d ((cfg0.win 1).cut (cfg0.grid.coords t) ((dats m 0 c).after 1 t)))) := by
    unfold Dat.leaves; rfl
  rw [e, show (dats m 0 c).after 1 t = X0_1 m c t by dsimp only [dats]]
  iintro H; iexists dflt0_1
  rw [show (cfg0.win 1).fill (cfg0.grid.coords t) dflt0_1 ((cfg0.win 1).cut (cfg0.grid.coords t) (X0_1 m c t)) = X0_1 m c t by unfold X0_1; rw [Pipeline.Window.cut_fill]]
  iexact H

theorem leaves_in2 (c : Dev nD) (t : Fin cfg0.N) : (owns (c : Thread nD τ) ((cfg0.win 2).stage (cfg0.slots t 2)) fullShare (XF m c t).cprev : sProp 𝕄) ⊢ (dats m 0 c).leaves 2 t := by
  dsimp only [XF]
  have e : (dats m 0 c).leaves 2 t = iprop(∃ d, owns (c : Thread nD τ) ((cfg0.win 2).stage (cfg0.slots t 2)) fullShare ((cfg0.win 2).fill (cfg0.grid.coords t) d ((cfg0.win 2).cut (cfg0.grid.coords t) ((dats m 0 c).after 2 t)))) := by
    unfold Dat.leaves; rfl
  rw [e, show (dats m 0 c).after 2 t = X0_2 m c t by dsimp only [dats]]
  iintro H; iexists dflt0_2
  rw [show (cfg0.win 2).fill (cfg0.grid.coords t) dflt0_2 ((cfg0.win 2).cut (cfg0.grid.coords t) (X0_2 m c t)) = X0_2 m c t by unfold X0_2; rw [Pipeline.Window.cut_fill]]
  iexact H

theorem leaves_in0 (c : Dev nD) (t : Fin cfg0.N) : (owns (c : Thread nD τ) ((cfg0.win 0).stage (cfg0.slots t 0)) fullShare (XF m c t).proj : sProp 𝕄) ⊢ (dats m 0 c).leaves 0 t := by
  dsimp only [XF]
  rw [leaves_live m c 0 t rfl rfl]; exact .rfl

theorem leaves_in3 (c : Dev nD) (t : Fin cfg0.N) : (owns (c : Thread nD τ) ((cfg0.win 3).stage (cfg0.slots t 3)) fullShare (XF m c t).xt : sProp 𝕄) ⊢ (dats m 0 c).leaves 3 t := by
  dsimp only [XF]
  rw [leaves_live m c 3 t rfl rfl]; exact .rfl

theorem leaves_in4 (c : Dev nD) (t : Fin cfg0.N) : (owns (c : Thread nD τ) ((cfg0.win 4).stage (cfg0.slots t 4)) fullShare (XF m c t).tgt : sProp 𝕄) ⊢ (dats m 0 c).leaves 4 t := by
  dsimp only [XF]
  rw [leaves_live m c 4 t rfl rfl]; exact .rfl

theorem leaves_in5 (c : Dev nD) (t : Fin cfg0.N) : (owns (c : Thread nD τ) ((cfg0.win 5).stage (cfg0.slots t 5)) fullShare (XF m c t).mtok : sProp 𝕄) ⊢ (dats m 0 c).leaves 5 t := by
  dsimp only [XF]
  rw [leaves_live m c 5 t rfl rfl]; exact .rfl

theorem leaves_in6 (c : Dev nD) (t : Fin cfg0.N) : (owns (c : Thread nD τ) ((cfg0.win 6).stage (cfg0.slots t 6)) fullShare (XF m c t).caw : sProp 𝕄) ⊢ (dats m 0 c).leaves 6 t := by
  dsimp only [XF]
  rw [leaves_live m c 6 t rfl rfl]; exact .rfl

theorem leaves_in7 (c : Dev nD) (t : Fin cfg0.N) : (owns (c : Thread nD τ) ((cfg0.win 7).stage (cfg0.slots t 7)) fullShare (XF m c t).cab : sProp 𝕄) ⊢ (dats m 0 c).leaves 7 t := by
  dsimp only [XF]
  rw [leaves_live m c 7 t rfl rfl]; exact .rfl

theorem leaves_in8 (c : Dev nD) (t : Fin cfg0.N) : (owns (c : Thread nD τ) ((cfg0.win 8).stage (cfg0.slots t 8)) fullShare (XF m c t).lng : sProp 𝕄) ⊢ (dats m 0 c).leaves 8 t := by
  dsimp only [XF]
  rw [leaves_live m c 8 t rfl rfl]; exact .rfl

theorem leaves_in9 (c : Dev nD) (t : Fin cfg0.N) : (owns (c : Thread nD τ) ((cfg0.win 9).stage (cfg0.slots t 9)) fullShare (XF m c t).lnb : sProp 𝕄) ⊢ (dats m 0 c).leaves 9 t := by
  dsimp only [XF]
  rw [leaves_live m c 9 t rfl rfl]; exact .rfl

theorem leaves_in10 (c : Dev nD) (t : Fin cfg0.N) : (owns (c : Thread nD τ) ((cfg0.win 10).stage (cfg0.slots t 10)) fullShare (XF m c t).bao : sProp 𝕄) ⊢ (dats m 0 c).leaves 10 t := by
  dsimp only [XF]
  rw [leaves_live m c 10 t rfl rfl]; exact .rfl

theorem leaves_in11 (c : Dev nD) (t : Fin cfg0.N) : (owns (c : Thread nD τ) ((cfg0.win 11).stage (cfg0.slots t 11)) fullShare (XF m c t).cbw : sProp 𝕄) ⊢ (dats m 0 c).leaves 11 t := by
  dsimp only [XF]
  rw [leaves_live m c 11 t rfl rfl]; exact .rfl

theorem leaves_in12 (c : Dev nD) (t : Fin cfg0.N) : (owns (c : Thread nD τ) ((cfg0.win 12).stage (cfg0.slots t 12)) fullShare (XF m c t).fng : sProp 𝕄) ⊢ (dats m 0 c).leaves 12 t := by
  dsimp only [XF]
  rw [leaves_live m c 12 t rfl rfl]; exact .rfl

theorem leaves_in13 (c : Dev nD) (t : Fin cfg0.N) : (owns (c : Thread nD τ) ((cfg0.win 13).stage (cfg0.slots t 13)) fullShare (XF m c t).wA : sProp 𝕄) ⊢ (dats m 0 c).leaves 13 t := by
  dsimp only [XF]
  rw [leaves_live m c 13 t rfl rfl]; exact .rfl

theorem leaves_in14 (c : Dev nD) (t : Fin cfg0.N) : (owns (c : Thread nD τ) ((cfg0.win 14).stage (cfg0.slots t 14)) fullShare (XF m c t).wAt : sProp 𝕄) ⊢ (dats m 0 c).leaves 14 t := by
  dsimp only [XF]
  rw [leaves_live m c 14 t rfl rfl]; exact .rfl

theorem leaves_in15 (c : Dev nD) (t : Fin cfg0.N) : (owns (c : Thread nD τ) ((cfg0.win 15).stage (cfg0.slots t 15)) fullShare (XF m c t).wB : sProp 𝕄) ⊢ (dats m 0 c).leaves 15 t := by
  dsimp only [XF]
  rw [leaves_live m c 15 t rfl rfl]; exact .rfl

theorem leaves_in16 (c : Dev nD) (t : Fin cfg0.N) : (owns (c : Thread nD τ) ((cfg0.win 16).stage (cfg0.slots t 16)) fullShare (XF m c t).wBt : sProp 𝕄) ⊢ (dats m 0 c).leaves 16 t := by
  dsimp only [XF]
  rw [leaves_live m c 16 t rfl rfl]; exact .rfl

theorem leaves_in17 (c : Dev nD) (t : Fin cfg0.N) : (owns (c : Thread nD τ) ((cfg0.win 17).stage (cfg0.slots t 17)) fullShare (XF m c t).wO : sProp 𝕄) ⊢ (dats m 0 c).leaves 17 t := by
  dsimp only [XF]
  rw [leaves_live m c 17 t rfl rfl]; exact .rfl

theorem leaves_in18 (c : Dev nD) (t : Fin cfg0.N) : (owns (c : Thread nD τ) ((cfg0.win 18).stage (cfg0.slots t 18)) fullShare (XF m c t).wOt : sProp 𝕄) ⊢ (dats m 0 c).leaves 18 t := by
  dsimp only [XF]
  rw [leaves_live m c 18 t rfl rfl]; exact .rfl

/-- One point of the trace. -/
theorem step_all (t : ℕ) (ht : t ≤ 33) {s s' : St Ideal} (hI : 1 ≤ t → t ≤ 33 → Inv Xs (t - 1) s)
    (hs : t ≠ 0 → s.small = oSmall Xs (t - 1)) (h : BodyStep (Xs t) t s s') : (1 ≤ t + 1 → t + 1 ≤ 33 → Inv Xs (t + 1 - 1) s') ∧ Outs Xs t s s' := by
  rcases t with _ | t
  · exact ⟨fun _ _ => (step_first Xs h).1, (step_first Xs h).2⟩
  · have hs' : ∀ p d, p < 48 → d < 1024 → at2 s.small p d = smT Xs t p d := fun p d hp hd => by
      rw [hs (by omega)]; exact at2_mk2 _ hp hd
    by_cases h1 : t + 1 < 33
    · exact ⟨fun _ _ => (step_mid Xs h1 (hI (by omega) ht) hs' h).1, (step_mid Xs h1 (hI (by omega) ht) hs' h).2⟩
    · obtain rfl : t = 32 := by omega
      exact ⟨fun _ h => absurd h (by omega), step_last Xs (hI (by omega) ht) hs' h⟩

theorem post19 (c : Dev nD) (t : Fin cfg0.N) (d19) {s s' : St Ideal} (hd : s.dproj = (dats m 0 c).before 19 t d19) (h : Outs (XN m c) t.val s s') :
    (owns (c : Thread nD τ) ((cfg0.win 19).stage (cfg0.slots t 19)) fullShare s'.dproj : sProp 𝕄) ⊢ (dats m 0 c).leaves 19 t := by
  by_cases ht : t.val = 0
  · rw [Dat.leaves_idle (dats m 0 c) 19 t (by rw [idle19]; exact decide_eq_true ht) (by rw [show t = ⟨0, by decide⟩ from Fin.ext ht]; exact flush19), h.dproj0 ht, hd]
    iintro H; iexists d19; iexact H
  · rw [leaves_live m c 19 t (by rw [idle19]; exact decide_eq_false ht) rfl]
    rw [show s'.dproj = oDproj (XN m c) t.val from eq_mk2 (fun a b ha hb => h.dproj ht a b ha hb)]
    exact .rfl

theorem post20 (c : Dev nD) (t : Fin cfg0.N) (d20) {s s' : St Ideal} (hd : s.ds = (dats m 0 c).before 20 t d20) (h : Outs (XN m c) t.val s s')
    (hv : t.val < 33 → s'.ds = oDs (XN m c) t.val) :
    (owns (c : Thread nD τ) ((cfg0.win 20).stage (cfg0.slots t 20)) fullShare s'.ds : sProp 𝕄) ⊢ (dats m 0 c).leaves 20 t := by
  by_cases ht : t.val = 33
  · rw [leaves_last m c 20 t (by rw [show t = ⟨33, by decide⟩ from Fin.ext ht]; exact flush33.1) rfl, (h.ds33 ht).1, hd, before20 m c t ht]
    exact .rfl
  · rw [leaves_live m c 20 t (by rw [idle20]; exact decide_eq_false ht) rfl, hv (by have := lt34 t; omega)]
    exact .rfl

theorem post21 (c : Dev nD) (t : Fin cfg0.N) (d21) {s s' : St Ideal} (hd : s.lhs = (dats m 0 c).before 21 t d21) (h : Outs (XN m c) t.val s s')
    (hv : t.val < 33 → s'.lhs = oLhs (XN m c) t.val) :
    (owns (c : Thread nD τ) ((cfg0.win 21).stage (cfg0.slots t 21)) fullShare s'.lhs : sProp 𝕄) ⊢ (dats m 0 c).leaves 21 t := by
  by_cases ht : t.val = 33
  · rw [leaves_last m c 21 t (by rw [show t = ⟨33, by decide⟩ from Fin.ext ht]; exact flush33.2.1) rfl, (h.ds33 ht).2.1, hd, before21 m c t ht]
    exact .rfl
  · rw [leaves_live m c 21 t (by rw [idle21]; exact decide_eq_false ht) rfl, hv (by have := lt34 t; omega)]
    exact .rfl

theorem post22 (c : Dev nD) (t : Fin cfg0.N) (d22) {s s' : St Ideal} (hd : s.rhs = (dats m 0 c).before 22 t d22) (h : Outs (XN m c) t.val s s')
    (hv : t.val < 33 → s'.rhs = oRhs (XN m c) t.val) :
    (owns (c : Thread nD τ) ((cfg0.win 22).stage (cfg0.slots t 22)) fullShare s'.rhs : sProp 𝕄) ⊢ (dats m 0 c).leaves 22 t := by
  by_cases ht : t.val = 33
  · rw [leaves_last m c 22 t (by rw [show t = ⟨33, by decide⟩ from Fin.ext ht]; exact flush33.2.2) rfl, (h.ds33 ht).2.2, hd, before22 m c t ht]
    exact .rfl
  · rw [leaves_live m c 22 t (by rw [idle22]; exact decide_eq_false ht) rfl, hv (by have := lt34 t; omega)]
    exact .rfl

theorem post23 (c : Dev nD) (t : Fin cfg0.N) {s s' : St Ideal} (h : Outs (XN m c) t.val s s') :
    (owns (c : Thread nD τ) ((cfg0.win 23).stage (cfg0.slots t 23)) fullShare s'.small : sProp 𝕄) ⊢ (dats m 0 c).leaves 23 t := by
  rw [leaves_live m c 23 t (idle23 t) rfl, show s'.small = oSmall (XN m c) t.val from eq_mk2 (fun a b ha hb => h.small a b ha hb)]
  exact .rfl

end Cert.Kernel2Ideal.Fp

end
-- ==== Proof.Fp.Launch.lean ====
/- The kernel `_fused_pass` under its launch, over the ideal numbers: every run ends with the pipeline's arrays at what the
trace of the tiles says. -/
module

public import proofs.«01_k».proof.Proof.Fp.Dats
public import Idealize.ShloMosaic.Lib.Pipeline.TableIdle
public import Idealize.ShloMosaic.Lib.Pipeline.ValueKit
public import Idealize.ShloMosaic.Lib.VecWindow
public import Idealize.ShloMosaic.Lib.Pipeline.ReadBack

@[expose] public section

set_option maxRecDepth 16384

noncomputable section

namespace Cert.Kernel2Ideal.Fp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation BodyObligationLoose)
open Cert.Kernel2Ideal.Gen

local notation "𝕄" => MT nD τ sig Unit (Elt Ideal) ℕ (UR sig nD τ) ℕ

variable (m : (ℓ : Loc nD τ sig) → Buf (Elt Ideal) ℓ) (ρ : Dev nD → PrngReg)

set_option maxHeartbeats 1600000 in
/-- The body at a point, on the windows of the proof data. -/
theorem sound (c : Dev nD) (t : Fin cfg0.N) :
    iprop((dats m 0 c).Φ t.castSucc ∗ (dats m 0 c).owesAt () t.castSucc
    ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)) ∗ (∃ d, owns (c : Thread nD τ) ((cfg0.win 11).stage (cfg0.slots t 11)) fullShare ((dats m 0 c).before 11 t d)) ∗ (∃ d, owns (c : Thread nD τ) ((cfg0.win 12).stage (cfg0.slots t 12)) fullShare ((dats m 0 c).before 12 t d)) ∗ (∃ d, owns (c : Thread nD τ) ((cfg0.win 13).stage (cfg0.slots t 13)) fullShare ((dats m 0 c).before 13 t d)) ∗ (∃ d, owns (c : Thread nD τ) ((cfg0.win 14).stage (cfg0.slots t 14)) fullShare ((dats m 0 c).before 14 t d)) ∗ (∃ d, owns (c : Thread nD τ) ((cfg0.win 15).stage (cfg0.slots t 15)) fullShare ((dats m 0 c).before 15 t d)) ∗ (∃ d, owns (c : Thread nD τ) ((cfg0.win 16).stage (cfg0.slots t 16)) fullShare ((dats m 0 c).before 16 t d)) ∗ (∃ d, owns (c : Thread nD τ) ((cfg0.win 17).stage (cfg0.slots t 17)) fullShare ((dats m 0 c).before 17 t d)) ∗ (∃ d, owns (c : Thread nD τ) ((cfg0.win 18).stage (cfg0.slots t 18)) fullShare ((dats m 0 c).before 18 t d)) ∗ (∃ d, owns (c : Thread nD τ) ((cfg0.win 19).stage (cfg0.slots t 19)) fullShare ((dats m 0 c).before 19 t d)) ∗ (∃ d, owns (c : Thread nD τ) ((cfg0.win 20).stage (cfg0.slots t 20)) fullShare ((dats m 0 c).before 20 t d)) ∗ (∃ d, owns (c : Thread nD τ) ((cfg0.win 21).stage (cfg0.slots t 21)) fullShare ((dats m 0 c).before 21 t d)) ∗ (∃ d, owns (c : Thread nD τ) ((cfg0.win 22).stage (cfg0.slots t 22)) fullShare ((dats m 0 c).before 22 t d)) ∗ (∃ d, owns (c : Thread nD τ) ((cfg0.win 23).stage (cfg0.slots t 23)) fullShare ((dats m 0 c).before 23 t d)))
    ⊢ wp Idealize.ShloMosaic.frame (wpE (defs₀ (F := Ideal)) Variants.none c none) Set.univ (bodyAt0 t) (fun _ =>
    iprop((dats m 0 c).Φ t.succ ∗ (dats m 0 c).owesAt () t.succ
    ∗ (dats m 0 c).leaves 0 t ∗ (dats m 0 c).leaves 1 t ∗ (dats m 0 c).leaves 2 t ∗ (dats m 0 c).leaves 3 t ∗ (dats m 0 c).leaves 4 t ∗ (dats m 0 c).leaves 5 t ∗ (dats m 0 c).leaves 6 t ∗ (dats m 0 c).leaves 7 t ∗ (dats m 0 c).leaves 8 t ∗ (dats m 0 c).leaves 9 t ∗ (dats m 0 c).leaves 10 t ∗ (dats m 0 c).leaves 11 t ∗ (dats m 0 c).leaves 12 t ∗ (dats m 0 c).leaves 13 t ∗ (dats m 0 c).leaves 14 t ∗ (dats m 0 c).leaves 15 t ∗ (dats m 0 c).leaves 16 t ∗ (dats m 0 c).leaves 17 t ∗ (dats m 0 c).leaves 18 t ∗ (dats m 0 c).leaves 19 t ∗ (dats m 0 c).leaves 20 t ∗ (dats m 0 c).leaves 21 t ∗ (dats m 0 c).leaves 22 t ∗ (dats m 0 c).leaves 23 t)) := by
  rw [show (dats m 0 c).owesAt () t.succ = (dats m 0 c).owesAt () t.castSucc from rfl,
    show (dats m 0 c).Φ t.castSucc = Phi (XN m c) c t.val from rfl, show (dats m 0 c).Φ t.succ = Phi (XN m c) c (t.val + 1) from rfl]
  unfold Phi
  simp only [before0, before1, before2, before3, before4, before5, before6, before7, before8, before9, before10, before11, before12, before13, before14, before15, before16, before17, before18]
  iintro ⟨⟨%s, %hI, ⟨S0, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  iapply (body_spec c (refs t) (XF m c t) (grid0.coords t) ⟨(dats m 0 c).before 19 t d19, (dats m 0 c).before 20 t d20, (dats m 0 c).before 21 t d21, (dats m 0 c).before 22 t d22, (dats m 0 c).before 23 t d23, s.ua0, s.cb, s.dua1, s.dc3, s.stage, s.ua1, s.c3, s.dpa, s.dpb, s.dcaw, s.dcbw, s.shift⟩ _)
  simp only [own_refs]
  isplitl [S0 S1 S2 S3 S4 S5 S6 S7 S8 S9 S10 S11 H0 H1 H2 H3 H4 H5 H6 H7 H8 H9 H10 H11 H12 H13 H14 H15 H16 H17 H18 H19 H20 H21 H22 H23]
  · isplitl [H0 H1 H2 H3 H4 H5 H6 H7 H8 H9 H10 H11 H12 H13 H14 H15 H16 H17 H18]

    · isplitl [H0]
      · iexact H0
      isplitl [H1]
      · iexact H1
      isplitl [H2]
      · iexact H2
      isplitl [H3]
      · iexact H3
      isplitl [H4]
      · iexact H4
      isplitl [H5]
      · iexact H5
      isplitl [H6]
      · iexact H6
      isplitl [H7]
      · iexact H7
      isplitl [H8]
      · iexact H8
      isplitl [H9]
      · iexact H9
      isplitl [H10]
      · iexact H10
      isplitl [H11]
      · iexact H11
      isplitl [H12]
      · iexact H12
      isplitl [H13]
      · iexact H13
      isplitl [H14]
      · iexact H14
      isplitl [H15]
      · iexact H15
      isplitl [H16]
      · iexact H16
      isplitl [H17]
      · iexact H17
      iexact H18
    · isplitl [H19]
      · iexact H19
      isplitl [H20]
      · iexact H20
      isplitl [H21]
      · iexact H21
      isplitl [H22]
      · iexact H22
      isplitl [H23]
      · iexact H23
      isplitl [S0]
      · iexact S0
      isplitl [S1]
      · iexact S1
      isplitl [S2]
      · iexact S2
      isplitl [S3]
      · iexact S3
      isplitl [S4]
      · iexact S4
      isplitl [S5]
      · iexact S5
      isplitl [S6]
      · iexact S6
      isplitl [S7]
      · iexact S7
      isplitl [S8]
      · iexact S8
      isplitl [S9]
      · iexact S9
      isplitl [S10]
      · iexact S10
      iexact S11
  · iintro %r %s' %hb ⟨⟨H0, H1, H2, H3, H4, H5, H6, H7, H8, H9, H10, H11, H12, H13, H14, H15, H16, H17, H18⟩, H19, H20, H21, H22, H23, S0, S1, S2, S3, S4, S5, S6, S7, S8, S9, S10, S11⟩
    have hb' : BodyStep (XN m c t.val) t.val ⟨(dats m 0 c).before 19 t d19, (dats m 0 c).before 20 t d20, (dats m 0 c).before 21 t d21, (dats m 0 c).before 22 t d22, (dats m 0 c).before 23 t d23, s.ua0, s.cb, s.dua1, s.dc3, s.stage, s.ua1, s.c3, s.dpa, s.dpb, s.dcaw, s.dcbw, s.shift⟩ s' := by rw [XN_eq, ← coords_val]; exact hb
    have hst := step_all (XN m c) t.val (lt34 t) (fun h1 h2 => (hI h1 h2).outs _ _ _ _ _) (fun h => before23 m c t h d23) hb'
    isplitl [S0 S1 S2 S3 S4 S5 S6 S7 S8 S9 S10 S11 Hg]
    · iexists s'
      isplitr
      · ipureintro; exact hst.1
      isplitl [S0 S1 S2 S3 S4 S5 S6 S7 S8 S9 S10 S11]
      · isplitl [S0]
        · iexact S0
        isplitl [S1]
        · iexact S1
        isplitl [S2]
        · iexact S2
        isplitl [S3]
        · iexact S3
        isplitl [S4]
        · iexact S4
        isplitl [S5]
        · iexact S5
        isplitl [S6]
        · iexact S6
        isplitl [S7]
        · iexact S7
        isplitl [S8]
        · iexact S8
        isplitl [S9]
        · iexact S9
        isplitl [S10]
        · iexact S10
        iexact S11
      iexact Hg
    isplitl [Ho]
    · iexact Ho
    isplitl [H0]
    · iapply (leaves_in0 m c t); iexact H0
    isplitl [H1]
    · iapply (leaves_in1 m c t); iexact H1
    isplitl [H2]
    · iapply (leaves_in2 m c t); iexact H2
    isplitl [H3]
    · iapply (leaves_in3 m c t); iexact H3
    isplitl [H4]
    · iapply (leaves_in4 m c t); iexact H4
    isplitl [H5]
    · iapply (leaves_in5 m c t); iexact H5
    isplitl [H6]
    · iapply (leaves_in6 m c t); iexact H6
    isplitl [H7]
    · iapply (leaves_in7 m c t); iexact H7
    isplitl [H8]
    · iapply (leaves_in8 m c t); iexact H8
    isplitl [H9]
    · iapply (leaves_in9 m c t); iexact H9
    isplitl [H10]
    · iapply (leaves_in10 m c t); iexact H10
    isplitl [H11]
    · iapply (leaves_in11 m c t); iexact H11
    isplitl [H12]
    · iapply (leaves_in12 m c t); iexact H12
    isplitl [H13]
    · iapply (leaves_in13 m c t); iexact H13
    isplitl [H14]
    · iapply (leaves_in14 m c t); iexact H14
    isplitl [H15]
    · iapply (leaves_in15 m c t); iexact H15
    isplitl [H16]
    · iapply (leaves_in16 m c t); iexact H16
    isplitl [H17]
    · iapply (leaves_in17 m c t); iexact H17
    isplitl [H18]
    · iapply (leaves_in18 m c t); iexact H18
    isplitl [H19]
    · iapply (post19 m c t d19 (by rfl) hst.2); iexact H19
    isplitl [H20]
    · iapply (post20 m c t d20 (by rfl) hst.2 (ds_mk m c t hst.2)); iexact H20
    isplitl [H21]
    · iapply (post21 m c t d21 (by rfl) hst.2 (lhs_mk m c t hst.2)); iexact H21
    isplitl [H22]
    · iapply (post22 m c t d22 (by rfl) hst.2 (rhs_mk m c t hst.2)); iexact H22
    iapply (post23 m c t hst.2); iexact H23

/-- The pipeline's body obligation. -/
theorem obligation (c : Dev nD) : BodyObligationLoose (dats m 0 c) (defs₀ (F := Ideal)) Variants.none () Set.univ := fun t => by
  rw [bigSep_W0, defs₀_row]
  refine (sound m c t).trans ?_
  rw [show (bigSep Finset.univ (fun w => (dats m 0 c).leaves w t) : sProp 𝕄) = _ from bigSep_W0 _]

/-- The scratch as the launch hands it over. -/
theorem phi_in (c : Dev nD) : (Pipeline.ΦA spec0 c : sProp 𝕄) ⊢ (dats m 0 c).Φ 0 := by
  rw [show (dats m 0 c).Φ 0 = Phi (XN m c) c 0 from rfl, inv_eq]
  unfold Phi
  iintro ⟨⟨⟨%s0, S0⟩, ⟨%s1, S1⟩, ⟨%s2, S2⟩, ⟨%s3, S3⟩, ⟨%s4, S4⟩, ⟨%s5, S5⟩, ⟨%s6, S6⟩, ⟨%s7, S7⟩, ⟨%s8, S8⟩, ⟨%s9, S9⟩, ⟨%s10, S10⟩, ⟨%s11, S11⟩⟩, Hg⟩
  iexists ⟨fun _ => 0, fun _ => 0, fun _ => 0, fun _ => 0, fun _ => 0, s0, s1, s2, s3, s4, s5, s6, s7, s8, s9, s10, s11⟩
  isplitr
  · ipureintro; exact fun h => absurd h (by omega)
  isplitl [S0 S1 S2 S3 S4 S5 S6 S7 S8 S9 S10 S11]
  · isplitl [S0]
    · iexact S0
    isplitl [S1]
    · iexact S1
    isplitl [S2]
    · iexact S2
    isplitl [S3]
    · iexact S3
    isplitl [S4]
    · iexact S4
    isplitl [S5]
    · iexact S5
    isplitl [S6]
    · iexact S6
    isplitl [S7]
    · iexact S7
    isplitl [S8]
    · iexact S8
    isplitl [S9]
    · iexact S9
    isplitl [S10]
    · iexact S10
    iexact S11
  iexact Hg

/-- The scratch as the launch takes it back. -/
theorem phi_out (c : Dev nD) : (dats m 0 c).Φ (Fin.last cfg0.N) ⊢ (Pipeline.ΦA spec0 c : sProp 𝕄) := by
  rw [show (dats m 0 c).Φ (Fin.last cfg0.N) = Phi (XN m c) c (Fin.last cfg0.N).val from rfl, inv_eq]
  unfold Phi
  iintro ⟨%s, %_, ⟨S0, S1, S2, S3, S4, S5, S6, S7, S8, S9, S10, S11⟩, Hg⟩
  isplitl [S0 S1 S2 S3 S4 S5 S6 S7 S8 S9 S10 S11]
  · isplitl [S0]
    · iexists s.ua0; iexact S0
    isplitl [S1]
    · iexists s.cb; iexact S1
    isplitl [S2]
    · iexists s.dua1; iexact S2
    isplitl [S3]
    · iexists s.dc3; iexact S3
    isplitl [S4]
    · iexists s.stage; iexact S4
    isplitl [S5]
    · iexists s.ua1; iexact S5
    isplitl [S6]
    · iexists s.c3; iexact S6
    isplitl [S7]
    · iexists s.dpa; iexact S7
    isplitl [S8]
    · iexists s.dpb; iexact S8
    isplitl [S9]
    · iexists s.dcaw; iexact S9
    isplitl [S10]
    · iexists s.dcbw; iexact S10
    iexists s.shift; iexact S11
  iexact Hg

set_option backward.isDefEq.respectTransparency.types false in
set_option maxHeartbeats 800000 in
/-- Every run ends with the pipeline's arrays at what the proof data computes, the other buffers as the host lines leave
them, and every semaphore at zero. -/
theorem run_main : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => obligation m c) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := phi_in m) (hout := phi_out m)

end Cert.Kernel2Ideal.Fp

end
-- ==== Proof.Fp.RefFwd.lean ====
/- The reference of `_fused_pass`, read row by row over the extended reals: the forward pass, the gradient of the final
norm, and what reaches the two output projections. -/
module

public import proofs.«01_k».proof.Proof.Gen.Reference2Ideal.Read
public import proofs.«01_k».proof.Proof.In.Row
public import proofs.«01_k».proof.Proof.Fp.Row

@[expose] public section

set_option maxRecDepth 16384

noncomputable section

namespace Cert.Reference2Ideal.Fp

open Idealize.ShloMosaic Idealize.ShloMosaic.TcCoe Idealize.ShloMosaic.Tactic
open Cert.Reference2Ideal.Gen Cert.Reference2Ideal.Read
open Cert.Kernel2Ideal.Fp (at2 at3 at2_ix at3_ix Row Wts mean dotR cInv cEps)

variable (x0 : Vec Ideal S1x4096x1024 .f32) (x1 : Vec Ideal S16x1024 .f32) (x2 : Vec Ideal S1x1024 .f32) (x3 : Vec Ideal S1x1024x9216 .f32)
  (x4 : Vec Ideal S1x31x1024 .f32) (x5 x6 x7 : Vec Ideal S1x1024 .f32) (x8 : Vec Ideal S1x1024x1024 .f32) (x9 : Vec Ideal S1x1024 .f32)
  (x10 : Vec Ideal S1x3x1024 .f32) (x11 x12 : Vec Ideal S1x1024x1024 .f32) (x13 : Vec Ideal S1024 .f32) (x14 : Vec Ideal S1x4096x1024 .f32)

/-- The row `q` of the reference: both convolutions, the parts of the projection, the stream and the target. A meta row is
no token's. -/
def RQ (q : ℕ) : Row where
  u := at3 (val_main_v56 (F := Ideal) x0 x1 x2 x3 x4 x5) 0 q
  c := at3 (val_main_v113 (F := Ideal) x0 x1 x2 x3 x10) 0 q
  az d := at3 (val_main_v17 (F := Ideal) x0 x1 x2 x3) 0 q (2048 + d)
  bz d := at3 (val_main_v17 (F := Ideal) x0 x1 x2 x3) 0 q (6144 + d)
  bb d := at3 (val_main_v17 (F := Ideal) x0 x1 x2 x3) 0 q (3072 + d)
  ga d := at3 (val_main_v17 (F := Ideal) x0 x1 x2 x3) 0 q (7168 + d)
  gb d := at3 (val_main_v17 (F := Ideal) x0 x1 x2 x3) 0 q (8192 + d)
  s0 := at3 (val_main_v1 (F := Ideal) x0 x1) 0 q
  tg := at3 x14 0 (if q < 16 then 112 + q else q - 16)
  tok := if q < 16 then 0 else 1

/-- The weights. -/
def WQ : Wts where
  lng := at2 x6 0
  lnb := at2 x7 0
  bao := at2 x9 0
  fng d := if h : d < 1024 then x13 (ix1 ⟨d, h⟩) else Classical.arbitrary EReal
  wA := at3 x8 0
  wB := at3 x11 0
  wO := at3 x12 0
  wAt a b := at3 x8 0 b a
  wBt a b := at3 x11 0 b a
  wOt a b := at3 x12 0 b a

theorem mean_fin (f : ℕ → EReal) : mean f = (∑ i : Fin 1024, f i.val) * Cert.Norm.inv := by
  unfold mean; rw [Finset.sum_range]; rfl

theorem dotR_fin (f : ℕ → EReal) (m : ℕ → ℕ → EReal) (d : ℕ) : dotR f m d = ∑ i : Fin 1024, f i.val * m i.val d := by
  unfold dotR; rw [Finset.sum_range]

/-- The printed one. -/
theorem one_eq : Ideal.ofBits .f32 0x3F800000#32 = 1 := by
  have h : Ideal.ofBits .f32 0x3F800000#32 = ((1 : ℝ) : EReal) := by
    simp [Ideal.ofBits, Ideal.ieee, -EReal.coe_mul]; norm_num
  rw [h, EReal.coe_one]

/-- The printed logistic function. -/
theorem logistic_eq (x : EReal) : Ideal.div (Ideal.ofBits .f32 0x3F800000#32) (Ideal.ofBits .f32 0x3F800000#32 + Ideal.exp (-x)) = Ideal.logistic x := by
  rw [one_eq]; rfl

theorem at3_lt {n0 n1 n2 : ℕ} (x : (⟨3, ![n0, n1, n2]⟩ : Shape).Idx → EReal) {a b e : ℕ} (ha : a < n0) (hb : b < n1) (he : e < n2) :
    at3 x a b e = x (ix3 ⟨a, ha⟩ ⟨b, hb⟩ ⟨e, he⟩) := by
  unfold at3; rw [dif_pos ⟨ha, hb, he⟩]

variable (q : Fin 4112) (d : Fin 1024)

theorem u_eq : (RQ x0 x1 x2 x3 x4 x5 x10 x14 q.val).u d.val = val_main_v56 (F := Ideal) x0 x1 x2 x3 x4 x5 (ix3 0 q d) := (at3_ix (val_main_v56 (F := Ideal) x0 x1 x2 x3 x4 x5) 0 q d).symm
theorem c_eq : (RQ x0 x1 x2 x3 x4 x5 x10 x14 q.val).c d.val = val_main_v113 (F := Ideal) x0 x1 x2 x3 x10 (ix3 0 q d) := (at3_ix (val_main_v113 (F := Ideal) x0 x1 x2 x3 x10) 0 q d).symm
theorem s0_eq : (RQ x0 x1 x2 x3 x4 x5 x10 x14 q.val).s0 d.val = val_main_v1 (F := Ideal) x0 x1 (ix3 0 q d) := (at3_ix (val_main_v1 (F := Ideal) x0 x1) 0 q d).symm
theorem az_eq : (RQ x0 x1 x2 x3 x4 x5 x10 x14 q.val).az d.val = val_main_v21 (F := Ideal) x0 x1 x2 x3 (ix3 0 q d) := (at3_lt _ (by omega) q.2 (by have := d.2; omega)).trans (by pointwise [val_main_v21])
theorem bz_eq : (RQ x0 x1 x2 x3 x4 x5 x10 x14 q.val).bz d.val = val_main_v25 (F := Ideal) x0 x1 x2 x3 (ix3 0 q d) := (at3_lt _ (by omega) q.2 (by have := d.2; omega)).trans (by pointwise [val_main_v25])
theorem bb_eq : (RQ x0 x1 x2 x3 x4 x5 x10 x14 q.val).bb d.val = val_main_v22 (F := Ideal) x0 x1 x2 x3 (ix3 0 q d) := (at3_lt _ (by omega) q.2 (by have := d.2; omega)).trans (by pointwise [val_main_v22])
theorem ga_eq : (RQ x0 x1 x2 x3 x4 x5 x10 x14 q.val).ga d.val = val_main_v26 (F := Ideal) x0 x1 x2 x3 (ix3 0 q d) := (at3_lt _ (by omega) q.2 (by have := d.2; omega)).trans (by pointwise [val_main_v26])
theorem gb_eq : (RQ x0 x1 x2 x3 x4 x5 x10 x14 q.val).gb d.val = val_main_v27 (F := Ideal) x0 x1 x2 x3 (ix3 0 q d) := (at3_lt _ (by omega) q.2 (by have := d.2; omega)).trans (by pointwise [val_main_v27])

theorem v62_apply : val_main_v62 (F := Ideal) x0 x1 x2 x3 x4 x5 (ix3 0 q 0) = mean (RQ x0 x1 x2 x3 x4 x5 x10 x14 q.val).u := by
  rw [mean_fin, ← Cert.Norm.div_1024]
  simp only [u_eq]
  pointwise [val_main_v62, val_main_v61, val_main_v60, val_main_v59, val_main_cst_9, val_main_cst_10]

theorem v64_apply : val_main_v64 (F := Ideal) x0 x1 x2 x3 x4 x5 (ix3 0 q d) = (RQ x0 x1 x2 x3 x4 x5 x10 x14 q.val).xc d.val := by
  unfold Row.xc
  rw [← v62_apply, u_eq]
  pointwise [val_main_v64, val_main_v63]

theorem v73_apply : val_main_v73 (F := Ideal) x0 x1 x2 x3 x4 x5 (ix3 0 q d) = (RQ x0 x1 x2 x3 x4 x5 x10 x14 q.val).xc d.val := by
  unfold Row.xc
  rw [← v62_apply, u_eq]
  pointwise [val_main_v73, val_main_v72]

theorem v76_apply : val_main_v76 (F := Ideal) x0 x1 x2 x3 x4 x5 (ix3 0 q 0) = (RQ x0 x1 x2 x3 x4 x5 x10 x14 q.val).rstd := by
  unfold Row.rstd
  rw [mean_fin, ← Cert.Norm.div_1024]
  simp only [← v64_apply]
  pointwise [val_main_v76, val_main_v75, val_main_v74, val_main_v71, val_main_v70, val_main_v69, val_main_v68, val_main_v65, val_main_cst_12, val_main_cst_13, val_main_cst_14, cEps]

theorem v81_apply : val_main_v81 (F := Ideal) x0 x1 x2 x3 x4 x5 (ix3 0 q d) = (RQ x0 x1 x2 x3 x4 x5 x10 x14 q.val).xhat d.val := by
  unfold Row.xhat
  rw [← v73_apply, ← v76_apply]
  pointwise [val_main_v81, val_main_v80]

theorem v87_apply : val_main_v87 (F := Ideal) x0 x1 x2 x3 x4 x5 x6 x7 (ix3 0 q d) = (RQ x0 x1 x2 x3 x4 x5 x10 x14 q.val).ua2 (WQ x6 x7 x8 x9 x11 x12 x13) d.val := by
  unfold Row.ua2
  rw [← v81_apply, show (WQ x6 x7 x8 x9 x11 x12 x13).lng d.val = x6 (ix2 0 d) from (at2_ix x6 0 d).symm, show (WQ x6 x7 x8 x9 x11 x12 x13).lnb d.val = x7 (ix2 0 d) from (at2_ix x7 0 d).symm]
  pointwise [val_main_v87, val_main_v86, val_main_v85, val_main_v84, val_main_v83, val_main_v82, val_main_v58, val_main_v57]

theorem v88_apply : val_main_v88_0 (F := Ideal) x0 x1 x2 x3 x4 x5 x6 x7 (ix3 0 q d) = (RQ x0 x1 x2 x3 x4 x5 x10 x14 q.val).ua3 (WQ x6 x7 x8 x9 x11 x12 x13) d.val := by
  unfold Row.ua3 Row.sg2
  rw [← v87_apply, ← logistic_eq]
  pointwise [val_main_v88_0, val_main_v88_2, val_main_call1_v0, val_main_call1_v1, val_main_call1_v2, val_main_call1_v3, val_main_call1_v4, val_main_call1_cst, val_main_call1_cst_0]

theorem v89_apply : val_main_v89_0 (F := Ideal) x0 x1 x2 x3 (ix3 0 q d) = (RQ x0 x1 x2 x3 x4 x5 x10 x14 q.val).siluA d.val := by
  unfold Row.siluA Row.sz
  rw [az_eq, ← logistic_eq]
  pointwise [val_main_v89_0, val_main_v89_2, val_main_call2_v0, val_main_call2_v1, val_main_call2_v2, val_main_call2_v3, val_main_call2_v4, val_main_call2_cst, val_main_call2_cst_0]

theorem v90_apply : val_main_v90 (F := Ideal) x0 x1 x2 x3 x4 x5 x6 x7 (ix3 0 q d) = (RQ x0 x1 x2 x3 x4 x5 x10 x14 q.val).l0 (WQ x6 x7 x8 x9 x11 x12 x13) d.val := by
  unfold Row.l0
  rw [← v88_apply, ← v89_apply]
  pointwise [val_main_v90]

theorem v97_apply : val_main_v97 (F := Ideal) x0 x1 x2 x3 x4 x5 x6 x7 x8 x9 (ix3 0 q d) = (RQ x0 x1 x2 x3 x4 x5 x10 x14 q.val).ya (WQ x6 x7 x8 x9 x11 x12 x13) d.val := by
  unfold Row.ya
  rw [dotR_fin, show (WQ x6 x7 x8 x9 x11 x12 x13).bao d.val = x9 (ix2 0 d) from (at2_ix x9 0 d).symm]
  have hw : ∀ i : Fin 1024, (WQ x6 x7 x8 x9 x11 x12 x13).wA i.val d.val = x8 (ix3 0 i d) := fun i => (at3_ix x8 0 i d).symm
  simp only [hw, ← v90_apply]
  pointwise [val_main_v97, val_main_v96, val_main_v95, val_main_v94, val_main_v93, val_main_v92, val_main_v91, val_main_v18, val_main_cst_2]

theorem v114_apply : val_main_v114 (F := Ideal) x0 x1 x2 x3 x10 (ix3 0 q d) = (RQ x0 x1 x2 x3 x4 x5 x10 x14 q.val).ub d.val := by
  unfold Row.ub
  rw [bb_eq, c_eq]
  pointwise [val_main_v114]

theorem v115_apply : val_main_v115_0 (F := Ideal) x0 x1 x2 x3 (ix3 0 q d) = (RQ x0 x1 x2 x3 x4 x5 x10 x14 q.val).siluB d.val := by
  unfold Row.siluB Row.sbz
  rw [bz_eq, ← logistic_eq]
  pointwise [val_main_v115_0, val_main_v115_2, val_main_call4_v0, val_main_call4_v1, val_main_call4_v2, val_main_call4_v3, val_main_call4_v4, val_main_call4_cst, val_main_call4_cst_0]

theorem v116_apply : val_main_v116 (F := Ideal) x0 x1 x2 x3 x10 (ix3 0 q d) = (RQ x0 x1 x2 x3 x4 x5 x10 x14 q.val).l1 d.val := by
  unfold Row.l1
  rw [← v114_apply, ← v115_apply]
  pointwise [val_main_v116]

theorem v119_apply : val_main_v119 (F := Ideal) x0 x1 x2 x3 x10 x11 (ix3 0 q d) = (RQ x0 x1 x2 x3 x4 x5 x10 x14 q.val).yb (WQ x6 x7 x8 x9 x11 x12 x13) d.val := by
  unfold Row.yb
  rw [dotR_fin]
  have hw : ∀ i : Fin 1024, (WQ x6 x7 x8 x9 x11 x12 x13).wB i.val d.val = x11 (ix3 0 i d) := fun i => (at3_ix x11 0 i d).symm
  simp only [hw, ← v116_apply]
  pointwise [val_main_v119, val_main_v118, val_main_v117, val_main_v18, val_main_cst_2]

theorem v125_apply : val_main_v125 (F := Ideal) x0 x1 x2 x3 (ix3 0 q d) = (RQ x0 x1 x2 x3 x4 x5 x10 x14 q.val).sga d.val := by
  unfold Row.sga
  rw [ga_eq, ← logistic_eq]
  pointwise [val_main_v125, val_main_v124, val_main_v123, val_main_v122, val_main_v121, val_main_v120, val_main_cst_20, val_main_cst_21]

theorem v135_apply : val_main_v135 (F := Ideal) x0 x1 x2 x3 (ix3 0 q d) = (RQ x0 x1 x2 x3 x4 x5 x10 x14 q.val).sgb d.val := by
  unfold Row.sgb
  rw [gb_eq, ← logistic_eq]
  pointwise [val_main_v135, val_main_v134, val_main_v133, val_main_v132, val_main_v131, val_main_v130, val_main_cst_23, val_main_cst_24]

theorem v140_apply : val_main_v140 (F := Ideal) x0 x1 x2 x3 x4 x5 x6 x7 x8 x9 x10 x11 (ix3 0 q d) = (RQ x0 x1 x2 x3 x4 x5 x10 x14 q.val).l2 (WQ x6 x7 x8 x9 x11 x12 x13) d.val := by
  unfold Row.l2
  rw [← v125_apply, ← v135_apply, ← v97_apply, ← v119_apply]
  pointwise [val_main_v140, val_main_v139, val_main_v129]

theorem v144_apply : val_main_v144 (F := Ideal) x0 x1 x2 x3 x4 x5 x6 x7 x8 x9 x10 x11 x12 (ix3 0 q d) = (RQ x0 x1 x2 x3 x4 x5 x10 x14 q.val).s1 (WQ x6 x7 x8 x9 x11 x12 x13) d.val := by
  unfold Row.s1
  rw [dotR_fin, s0_eq]
  have hw : ∀ i : Fin 1024, (WQ x6 x7 x8 x9 x11 x12 x13).wO i.val d.val = x12 (ix3 0 i d) := fun i => (at3_ix x12 0 i d).symm
  simp only [hw, ← v140_apply]
  pointwise [val_main_v144, val_main_v143, val_main_v142, val_main_v141, val_main_v18, val_main_cst_2]

/-- The mean square of the final norm's row, plus the small constant. -/
theorem v151_apply : val_main_v151 (F := Ideal) x0 x1 x2 x3 x4 x5 x6 x7 x8 x9 x10 x11 x12 (ix3 0 q 0) = Cert.Norm.var (fun d => (RQ x0 x1 x2 x3 x4 x5 x10 x14 q.val).s1 (WQ x6 x7 x8 x9 x11 x12 x13) d.val) := by
  unfold Cert.Norm.var
  rw [← Cert.Norm.div_1024]
  simp only [← v144_apply]
  pointwise [val_main_v151, val_main_v150, val_main_v149, val_main_v148, val_main_v147, val_main_v146, val_main_v145, val_main_cst_26, val_main_cst_27, val_main_cst_28]

theorem v152_apply : val_main_v152 (F := Ideal) x0 x1 x2 x3 x4 x5 x6 x7 x8 x9 x10 x11 x12 (ix3 0 q 0) = (RQ x0 x1 x2 x3 x4 x5 x10 x14 q.val).r1 (WQ x6 x7 x8 x9 x11 x12 x13) := by
  have h : (RQ x0 x1 x2 x3 x4 x5 x10 x14 q.val).r1 (WQ x6 x7 x8 x9 x11 x12 x13) = Ideal.rsqrt (val_main_v151 (F := Ideal) x0 x1 x2 x3 x4 x5 x6 x7 x8 x9 x10 x11 x12 (ix3 0 q 0)) := by
    rw [v151_apply]; unfold Row.r1 Cert.Norm.var; rw [mean_fin]; rfl
  rw [h]; rfl

theorem v157_apply : val_main_v157 (F := Ideal) x0 x1 x2 x3 x4 x5 x6 x7 x8 x9 x10 x11 x12 (ix3 0 q d) = (RQ x0 x1 x2 x3 x4 x5 x10 x14 q.val).s1 (WQ x6 x7 x8 x9 x11 x12 x13) d.val * (RQ x0 x1 x2 x3 x4 x5 x10 x14 q.val).r1 (WQ x6 x7 x8 x9 x11 x12 x13) := by
  rw [← v144_apply, ← v152_apply]
  pointwise [val_main_v157, val_main_v156]

end Cert.Reference2Ideal.Fp

end
-- ==== Proof.Fp.RefGrad.lean ====
/- The reference of `_fused_pass`, read row by row over the extended reals: the loss and the gradients through the final
norm and the output projection. -/
module

public import proofs.«01_k».proof.Proof.Fp.RefFwd
public import proofs.«01_k».proof.Proof.In.RefRead

@[expose] public section

set_option maxRecDepth 16384

noncomputable section

namespace Cert.Reference2Ideal.Fp

open Idealize.ShloMosaic Idealize.ShloMosaic.TcCoe Idealize.ShloMosaic.Tactic
open Cert.Reference2Ideal.Gen Cert.Reference2Ideal.Read
open Cert.Kernel2Ideal.Fp (at2 at3 at2_ix at3_ix Row Wts mean dotR cInv cEps)

variable (x0 : Vec Ideal S1x4096x1024 .f32) (x1 : Vec Ideal S16x1024 .f32) (x2 : Vec Ideal S1x1024 .f32) (x3 : Vec Ideal S1x1024x9216 .f32)
  (x4 : Vec Ideal S1x31x1024 .f32) (x5 x6 x7 : Vec Ideal S1x1024 .f32) (x8 : Vec Ideal S1x1024x1024 .f32) (x9 : Vec Ideal S1x1024 .f32)
  (x10 : Vec Ideal S1x3x1024 .f32) (x11 x12 : Vec Ideal S1x1024x1024 .f32) (x13 : Vec Ideal S1024 .f32) (x14 : Vec Ideal S1x4096x1024 .f32)

variable (q : Fin 4112) (d : Fin 1024)

theorem fng_eq : (WQ x6 x7 x8 x9 x11 x12 x13).fng d.val = x13 (ix1 d) := dif_pos d.2

theorem half_eq : Ideal.ofBits .f32 0x3F000000#32 = (((1 : ℝ) / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

/-- The loss's two constants and the mean's make one. -/
theorem loss_const (e : EReal) : Ideal.div (Ideal.ofBits .f32 0x3F000000#32 * Ideal.ofBits .f32 0x3F800000#32) (Ideal.ofBits .f32 0x44800000#32) * (Ideal.ofBits .f32 0x40000000#32 * e)
    = e * cInv := by
  rw [Cert.Norm.div_1024, one_eq, mul_one, half_eq, two_eq, ← mul_assoc, mul_comm _ e]
  congr 1
  rw [show cInv = Cert.Norm.inv from rfl, Cert.Norm.inv_eq]
  norm_cast; norm_num

/-- The error of a token's row. -/
theorem v162_apply (p : Fin 4096) : val_main_v162 (F := Ideal) x0 x1 x2 x3 x4 x5 x6 x7 x8 x9 x10 x11 x12 x13 x14 (ix3 0 p d) = (RQ x0 x1 x2 x3 x4 x5 x10 x14 (16 + p.val)).err (WQ x6 x7 x8 x9 x11 x12 x13) d.val := by
  have hs := v157_apply x0 x1 x2 x3 x4 x5 x6 x7 x8 x9 x10 x11 x12 x13 x14 ⟨16 + p.val, by omega⟩ d
  have ht : (RQ x0 x1 x2 x3 x4 x5 x10 x14 (16 + p.val)).tg d.val = x14 (ix3 0 p d) := by
    unfold RQ; dsimp only
    rw [if_neg (by omega), Nat.add_sub_cancel_left]
    exact (at3_ix x14 0 p d).symm
  have hk : (RQ x0 x1 x2 x3 x4 x5 x10 x14 (16 + p.val)).tok = 1 := if_neg (by omega)
  unfold Row.err
  rw [ht, hk, mul_one]
  dsimp only at hs
  rw [← hs, fng_eq]
  pointwise [val_main_v162, val_main_v161, val_main_v160, val_main_v159, val_main_v158]

theorem v177_apply (p : Fin 4096) : val_main_v177 (F := Ideal) x0 x1 x2 x3 x4 x5 x6 x7 x8 x9 x10 x11 x12 x13 x14 (ix3 0 p d) = (RQ x0 x1 x2 x3 x4 x5 x10 x14 (16 + p.val)).dy (WQ x6 x7 x8 x9 x11 x12 x13) d.val := by
  unfold Row.dy
  rw [← v162_apply, ← loss_const]
  pointwise [val_main_v177, val_main_v176, val_main_v175, val_main_v174, val_main_v173, val_main_v172, val_main_v165, val_main_v164, val_main_cst_30, val_main_cst_35, val_main_cst_36, val_main_cst_37]

theorem err_meta (hq : q.val < 16) : (RQ x0 x1 x2 x3 x4 x5 x10 x14 q.val).err (WQ x6 x7 x8 x9 x11 x12 x13) d.val = 0 := by
  unfold Row.err
  rw [show (RQ x0 x1 x2 x3 x4 x5 x10 x14 q.val).tok = 0 from if_pos hq, mul_zero]

theorem v178_apply : val_main_v178 (F := Ideal) x0 x1 x2 x3 x4 x5 x6 x7 x8 x9 x10 x11 x12 x13 x14 (ix3 0 q d) = (RQ x0 x1 x2 x3 x4 x5 x10 x14 q.val).dy (WQ x6 x7 x8 x9 x11 x12 x13) d.val := by
  by_cases hq : q.val < 16
  · unfold Row.dy
    rw [err_meta _ _ _ _ _ _ _ _ _ _ _ _ _ _ _ _ _ hq, zero_mul]
    pointwise [val_main_v178, val_main_cst_38]
    exact dif_neg fun h => by omega
  · have h := v177_apply x0 x1 x2 x3 x4 x5 x6 x7 x8 x9 x10 x11 x12 x13 x14 d ⟨q.val - 16, by omega⟩
    rw [show 16 + (⟨q.val - 16, by omega⟩ : Fin 4096).val = q.val by simp only; omega] at h
    rw [← h]
    pointwise [val_main_v178, val_main_cst_38]
    exact dif_pos ⟨by omega, by omega⟩

theorem v183_apply : val_main_v183 (F := Ideal) x0 x1 x2 x3 x4 x5 x6 x7 x8 x9 x10 x11 x12 x13 x14 (ix3 0 q d) = (RQ x0 x1 x2 x3 x4 x5 x10 x14 q.val).gy (WQ x6 x7 x8 x9 x11 x12 x13) d.val := by
  unfold Row.gy
  rw [← v178_apply x0 x1 x2 x3 x4 x5 x6 x7 x8 x9 x10 x11 x12 x13 x14, fng_eq x6 x7 x8 x9 x11 x12 x13]
  pointwise [val_main_v183, val_main_v182, val_main_v158]

/-- The gradient at the stream. -/
theorem v199_apply : val_main_v199 (F := Ideal) x0 x1 x2 x3 x4 x5 x6 x7 x8 x9 x10 x11 x12 x13 x14 (ix3 0 q d) = (RQ x0 x1 x2 x3 x4 x5 x10 x14 q.val).ds1 (WQ x6 x7 x8 x9 x11 x12 x13) d.val := by
  unfold Row.ds1
  have hv : 0 < val_main_v151 (F := Ideal) x0 x1 x2 x3 x4 x5 x6 x7 x8 x9 x10 x11 x12 (ix3 0 q 0) := by rw [v151_apply (x13 := x13) (x14 := x14)]; exact Cert.Norm.var_pos _
  have hr : (RQ x0 x1 x2 x3 x4 x5 x10 x14 q.val).r1 (WQ x6 x7 x8 x9 x11 x12 x13) = Ideal.rsqrt (val_main_v151 (F := Ideal) x0 x1 x2 x3 x4 x5 x6 x7 x8 x9 x10 x11 x12 (ix3 0 q 0)) := by rw [← v152_apply (x13 := x13) (x14 := x14)]; rfl
  rw [mean_fin, ← Cert.Norm.ref_row _ _ _ _ _ hv hr]
  simp only [← v144_apply, ← v152_apply, ← v183_apply]
  pointwise [val_main_v199, val_main_v198, val_main_v197, val_main_v196, val_main_v195, val_main_v194, val_main_v193, Cert.ReferenceIdeal.In.reduce_02]
  pointwise [val_main_v192, val_main_v191, val_main_v190, val_main_v189, val_main_v188, val_main_v187, val_main_v186, val_main_v185, val_main_v155, val_main_v154, val_main_v153,
    val_main_cst_29, val_main_cst_41, val_main_cst_42, val_main_cst_43]
  simp only [mul_comm]

theorem v200_apply : val_main_v200 (F := Ideal) x0 x1 x2 x3 x4 x5 x6 x7 x8 x9 x10 x11 x12 x13 x14 (ix3 0 q d) = (RQ x0 x1 x2 x3 x4 x5 x10 x14 q.val).dm (WQ x6 x7 x8 x9 x11 x12 x13) d.val := by
  unfold Row.dm
  rw [dotR_fin]
  have hw : ∀ i : Fin 1024, (WQ x6 x7 x8 x9 x11 x12 x13).wOt i.val d.val = x12 (ix3 0 d i) := fun i => (at3_ix x12 0 d i).symm
  simp only [hw, ← v199_apply]
  pointwise [val_main_v200, val_main_v141]

theorem v201_apply : val_main_v201 (F := Ideal) x0 x1 x2 x3 x4 x5 x6 x7 x8 x9 x10 x11 x12 x13 x14 (ix3 0 q d) = (RQ x0 x1 x2 x3 x4 x5 x10 x14 q.val).dyb (WQ x6 x7 x8 x9 x11 x12 x13) d.val := by
  unfold Row.dyb
  rw [← v200_apply, ← v135_apply, mul_comm]
  pointwise [val_main_v201]

theorem v204_apply : val_main_v204 (F := Ideal) x0 x1 x2 x3 x4 x5 x6 x7 x8 x9 x10 x11 x12 x13 x14 (ix3 0 q d) = (RQ x0 x1 x2 x3 x4 x5 x10 x14 q.val).dya (WQ x6 x7 x8 x9 x11 x12 x13) d.val := by
  unfold Row.dya
  rw [← v200_apply, ← v125_apply, mul_comm]
  pointwise [val_main_v204]

/-- The final gain's gradient. -/
theorem v184_apply : val_main_v184 (F := Ideal) x0 x1 x2 x3 x4 x5 x6 x7 x8 x9 x10 x11 x12 x13 x14 (ix1 d) = ∑ q : Fin 4112, (RQ x0 x1 x2 x3 x4 x5 x10 x14 q.val).gFin (WQ x6 x7 x8 x9 x11 x12 x13) d.val := by
  unfold Row.gFin
  simp only [← v178_apply, ← v157_apply]
  pointwise [val_main_v184, Cert.ReferenceIdeal.In.reduce_01]
  pointwise [val_main_v181, val_main_v180, val_main_v179, val_main_cst_39, val_main_cst_40]
  exact Finset.sum_congr rfl fun _ _ => mul_comm _ _

/-- The bias's gradient. -/
theorem v229_apply : val_main_v229 (F := Ideal) x0 x1 x2 x3 x4 x5 x6 x7 x8 x9 x10 x11 x12 x13 x14 (ix2 0 d) = ∑ q : Fin 4112, (RQ x0 x1 x2 x3 x4 x5 x10 x14 q.val).dya (WQ x6 x7 x8 x9 x11 x12 x13) d.val := by
  simp only [← v204_apply]
  pointwise [val_main_v229, val_main_v228, Cert.ReferenceIdeal.In.reduce_01]
  pointwise [val_main_v227, val_main_v226, val_main_cst_46, val_main_cst_47]

/-- The loss. -/
theorem v170_apply (i : S_.Idx) : val_main_v170 (F := Ideal) x0 x1 x2 x3 x4 x5 x6 x7 x8 x9 x10 x11 x12 x13 x14 i = Ideal.ofBits .f32 0x3F000000#32 * ∑ p : Fin 4096, (∑ d : Fin 1024, (RQ x0 x1 x2 x3 x4 x5 x10 x14 (16 + p.val)).sq (WQ x6 x7 x8 x9 x11 x12 x13) d.val) * cInv := by
  unfold Row.sq
  simp only [← v162_apply]
  rw [show cInv = Cert.Norm.inv from rfl]
  simp only [← Cert.Norm.div_1024]
  pointwise [val_main_v170, val_main_v169]
  pointwise [val_main_v168, val_main_v167, val_main_v166, val_main_v163, val_main_cst_31, val_main_cst_32, val_main_cst_33, val_main_cst_34]
  rw [Fin.sum_univ_one]

/-- The left operands of the weights' gradients. -/
theorem v171_apply (k : Fin 3) : val_main_v171 (F := Ideal) x0 x1 x2 x3 x4 x5 x6 x7 x8 x9 x10 x11 (ix3 k q d) = if k.val = 0 then (RQ x0 x1 x2 x3 x4 x5 x10 x14 q.val).l0 (WQ x6 x7 x8 x9 x11 x12 x13) d.val else if k.val = 1 then (RQ x0 x1 x2 x3 x4 x5 x10 x14 q.val).l1 d.val else (RQ x0 x1 x2 x3 x4 x5 x10 x14 q.val).l2 (WQ x6 x7 x8 x9 x11 x12 x13) d.val := by
  rw [← v90_apply, ← v116_apply, ← v140_apply]
  fin_cases k <;> pointwise [val_main_v171]

/-- The right operands of the weights' gradients. -/
theorem v291_apply (k : Fin 3) : val_main_v291 (F := Ideal) x0 x1 x2 x3 x4 x5 x6 x7 x8 x9 x10 x11 x12 x13 x14 (ix3 k q d) = if k.val = 0 then (RQ x0 x1 x2 x3 x4 x5 x10 x14 q.val).dya (WQ x6 x7 x8 x9 x11 x12 x13) d.val else if k.val = 1 then (RQ x0 x1 x2 x3 x4 x5 x10 x14 q.val).dyb (WQ x6 x7 x8 x9 x11 x12 x13) d.val else (RQ x0 x1 x2 x3 x4 x5 x10 x14 q.val).ds1 (WQ x6 x7 x8 x9 x11 x12 x13) d.val := by
  rw [← v204_apply, ← v201_apply, ← v199_apply]
  fin_cases k <;> pointwise [val_main_v291]

/-! ## The convolutions -/

theorem v37_zero (s : Fin 4112) : val_main_v37 (F := Ideal) x0 x1 x2 x3 (ix3 0 s d) = at3 (val_main_v17 (F := Ideal) x0 x1 x2 x3) 0 s.val d.val * Ideal.logistic (at3 (val_main_v17 (F := Ideal) x0 x1 x2 x3) 0 s.val (1024 + d.val)) := by
  rw [← logistic_eq, Cert.Reference2Ideal.Fp.at3_lt _ (by omega) s.2 (show d.val < 9216 by omega), Cert.Reference2Ideal.Fp.at3_lt _ (by omega) s.2 (show 1024 + d.val < 9216 by omega)]
  pointwise [val_main_v37, val_main_v33, val_main_v32, val_main_v31, val_main_v30, val_main_v29, val_main_v28, val_main_v20, val_main_v19, val_main_cst_3, val_main_cst_4]

theorem v98_zero (s : Fin 4112) : val_main_v98 (F := Ideal) x0 x1 x2 x3 (ix3 0 s d) = at3 (val_main_v17 (F := Ideal) x0 x1 x2 x3) 0 s.val (4096 + d.val) * at3 (val_main_v17 (F := Ideal) x0 x1 x2 x3) 0 s.val (5120 + d.val) := by
  rw [Cert.Reference2Ideal.Fp.at3_lt _ (by omega) s.2 (show 4096 + d.val < 9216 by omega), Cert.Reference2Ideal.Fp.at3_lt _ (by omega) s.2 (show 5120 + d.val < 9216 by omega)]
  pointwise [val_main_v98, val_main_v23, val_main_v24]

theorem select_eq (a b : ℕ) (ha : a < 2 ^ 32) (hb : b < 2 ^ 32) :
    Scalar.select (IntOp.cmpi .eq (BitVec.ofNat 32 a) (BitVec.ofNat 32 b)) (1 : EReal) 0 = if a = b then 1 else 0 := by
  by_cases h : a = b
  · subst h; simp [Scalar.select, IntOp.cmpi]
  · have hn : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [if_neg h]; simp [Scalar.select, IntOp.cmpi, BitVec.ofBool, beq_false_of_ne hn]

theorem v46_apply (k : Fin 31) (q s : Fin 4112) : val_main_v46 (F := Ideal)  (ix3 k q s) = if s.val + 30 = q.val + k.val then 1 else 0 := by
  rw [← select_eq _ _ (by omega) (by omega), BitVec.ofNat_add, BitVec.ofNat_add]
  pointwise [val_main_v46, val_main_v45, val_main_v44, val_main_v43, val_main_v42, val_main_v41, val_main_v40, val_main_v39, val_main_c, val_main_cst_6, val_main_cst_7, val_main_call0_v0, val_main_call0_v1]
  rfl

theorem v107_apply (k : Fin 3) (q s : Fin 4112) : val_main_v107 (F := Ideal)  (ix3 k q s) = if s.val + 2 = q.val + k.val then 1 else 0 := by
  rw [← select_eq _ _ (by omega) (by omega), BitVec.ofNat_add, BitVec.ofNat_add]
  pointwise [val_main_v107, val_main_v106, val_main_v105, val_main_v104, val_main_v103, val_main_v102, val_main_v101, val_main_v100, val_main_c_16, val_main_cst_17, val_main_cst_18, val_main_call3_v0, val_main_call3_v1]
  rfl

theorem v52_sum : val_main_v52 (F := Ideal) x0 x1 x2 x3 x4 (ix3 0 q d) = ∑ k : Fin 31, x4 (ix3 0 k d) * ∑ s : Fin 4112, val_main_v37 (F := Ideal) x0 x1 x2 x3 (ix3 0 s d) * val_main_v46 (F := Ideal)  (ix3 k q s) := by
  pointwise [val_main_v52, val_main_v51, val_main_v50, val_main_v49, val_main_v48, val_main_v47, val_main_v38, val_main_cst_8]

theorem v113_sum : val_main_v113 (F := Ideal) x0 x1 x2 x3 x10 (ix3 0 q d) = ∑ k : Fin 3, x10 (ix3 0 k d) * ∑ s : Fin 4112, val_main_v98 (F := Ideal) x0 x1 x2 x3 (ix3 0 s d) * val_main_v107 (F := Ideal)  (ix3 k q s) := by
  pointwise [val_main_v113, val_main_v112, val_main_v111, val_main_v110, val_main_v109, val_main_v108, val_main_v99, val_main_cst_19]

theorem v56_apply : val_main_v56 (F := Ideal) x0 x1 x2 x3 x4 x5 (ix3 0 q d) = x5 (ix2 0 d) + val_main_v52 (F := Ideal) x0 x1 x2 x3 x4 (ix3 0 q d) := by
  rw [add_comm]
  pointwise [val_main_v56, val_main_v55, val_main_v54, val_main_v53]

/-- A sum over the rows that reads one of them. -/
theorem pick (f : ℕ → EReal) (k : ℕ) (n : ℕ) (hk : k ≤ n) :
    ∑ s : Fin 4112, f s.val * (if s.val + n = q.val + k then (1 : EReal) else 0) = if q.val + k < n then 0 else f (q.val + k - n) := by
  by_cases h : q.val + k < n
  · rw [if_pos h]
    refine Finset.sum_eq_zero fun s _ => ?_
    rw [if_neg (by omega), mul_zero]
  · rw [if_neg h, Finset.sum_eq_single ⟨q.val + k - n, by omega⟩]
    · rw [if_pos (by simp only; omega), mul_one]
    · intro b _ hb
      rw [if_neg (fun c => hb (Fin.ext (by simp only; omega))), mul_zero]
    · exact fun h => absurd (Finset.mem_univ _) h

/-- The first branch after its gate, and the second one, of a row. -/
def UA (s d : ℕ) : EReal := at3 (val_main_v17 (F := Ideal) x0 x1 x2 x3) 0 s d * Ideal.logistic (at3 (val_main_v17 (F := Ideal) x0 x1 x2 x3) 0 s (1024 + d))
def VB (s d : ℕ) : EReal := at3 (val_main_v17 (F := Ideal) x0 x1 x2 x3) 0 s (4096 + d) * at3 (val_main_v17 (F := Ideal) x0 x1 x2 x3) 0 s (5120 + d)

theorem u_conv : (RQ x0 x1 x2 x3 x4 x5 x10 x14 q.val).u d.val = x5 (ix2 0 d) + ∑ k : Fin 31, x4 (ix3 0 k d) * (if q.val + k.val < 30 then 0 else UA x0 x1 x2 x3 (q.val + k.val - 30) d.val) := by
  rw [u_eq, v56_apply, v52_sum]
  refine congrArg (x5 (ix2 0 d) + ·) (Finset.sum_congr rfl fun k _ => congrArg (x4 (ix3 0 k d) * ·) ?_)
  rw [← pick q (fun s => UA x0 x1 x2 x3 s d.val) k.val 30 (by omega)]
  exact Finset.sum_congr rfl fun s _ => by rw [v46_apply, v37_zero]; rfl

theorem c_conv : (RQ x0 x1 x2 x3 x4 x5 x10 x14 q.val).c d.val = ∑ k : Fin 3, x10 (ix3 0 k d) * (if q.val + k.val < 2 then 0 else VB x0 x1 x2 x3 (q.val + k.val - 2) d.val) := by
  rw [c_eq, v113_sum]
  refine Finset.sum_congr rfl fun k _ => congrArg (x10 (ix3 0 k d) * ·) ?_
  rw [← pick q (fun s => VB x0 x1 x2 x3 s d.val) k.val 2 (by omega)]
  exact Finset.sum_congr rfl fun s _ => by rw [v107_apply, v98_zero]; rfl

end Cert.Reference2Ideal.Fp

end
-- ==== Proof.Fp.Blocks.lean ====
/- What the body of `_fused_pass` finds in its blocks, in terms of the program's arguments. -/
module

public import proofs.«01_k».proof.Proof.Fp.Frame
public import proofs.«01_k».proof.Proof.Fp.At
public import proofs.«01_k».proof.Proof.Fp.RefGrad
public import Idealize.ShloMosaic.Lib.Pointwise
public import Idealize.ShloMosaic.Lib.Pipeline.ValueKit
public import Idealize.ShloMosaic.Lib.StableHlo.RunRead

@[expose] public section

set_option maxRecDepth 16384

noncomputable section

namespace Cert.Kernel2Ideal.Fp

open Idealize.ShloMosaic Idealize.ShloMosaic.TcCoe Idealize.ShloMosaic.Tactic
open Cert.Kernel2Ideal.Gen

variable (m : (ℓ : Loc nD τ sig) → Buf (Elt Ideal) ℓ) (c : Dev nD)

/-- The arguments. -/
abbrev a0 : Vec Ideal S1x4096x1024 .f32 := m ((c : Thread nD τ).loc main_arg0)
abbrev a1 : Vec Ideal S16x1024 .f32 := m ((c : Thread nD τ).loc main_arg1)
abbrev a2 : Vec Ideal S1x1024 .f32 := m ((c : Thread nD τ).loc main_arg2)
abbrev a3 : Vec Ideal S1x1024x9216 .f32 := m ((c : Thread nD τ).loc main_arg3)
abbrev a4 : Vec Ideal S1x31x1024 .f32 := m ((c : Thread nD τ).loc main_arg4)
abbrev a5 : Vec Ideal S1x1024 .f32 := m ((c : Thread nD τ).loc main_arg5)
abbrev a6 : Vec Ideal S1x1024 .f32 := m ((c : Thread nD τ).loc main_arg6)
abbrev a7 : Vec Ideal S1x1024 .f32 := m ((c : Thread nD τ).loc main_arg7)
abbrev a8 : Vec Ideal S1x1024x1024 .f32 := m ((c : Thread nD τ).loc main_arg8)
abbrev a9 : Vec Ideal S1x1024 .f32 := m ((c : Thread nD τ).loc main_arg9)
abbrev a10 : Vec Ideal S1x3x1024 .f32 := m ((c : Thread nD τ).loc main_arg10)
abbrev a11 : Vec Ideal S1x1024x1024 .f32 := m ((c : Thread nD τ).loc main_arg11)
abbrev a12 : Vec Ideal S1x1024x1024 .f32 := m ((c : Thread nD τ).loc main_arg12)
abbrev a13 : Vec Ideal S1024 .f32 := m ((c : Thread nD τ).loc main_arg13)
abbrev a14 : Vec Ideal S1x4096x1024 .f32 := m ((c : Thread nD τ).loc main_arg14)

/-- The projection, the stream before the block: the reference's own values. -/
abbrev pj : Vec Ideal S1x4112x9216 .f32 := Cert.Reference2Ideal.Read.val_main_v17 (F := Ideal) (a0 m c) (a1 m c) (a2 m c) (a3 m c)

theorem v17_eq : V m c main_v17 = pj m c := by
  simp only [V, V0, hostOps0, List.flatten_cons, List.flatten_nil, List.append_nil]
  after_reads_simp; rfl

/-- The projection's rows as the launch finds them: the tokens' rows, rows of zeros, the meta rows. -/
def padP (p : Vec Ideal S1x4112x9216 .f32) : Vec Ideal S4224x9216 .f32 :=
  concatenate S4224x9216 0 [⟨S4096x9216, shapeCast S4096x9216 (extractStridedSlice S1x4096x9216 ![0, 16, 0] p slices_S1x4112x9216_S1x4096x9216_0_16_0) shapeCasts_S1x4096x9216_S4096x9216⟩,
    ⟨S112x9216, broadcastInDim S112x9216 ![] bcast_S_S112x9216 (constant (F := Ideal) S_ .f32 0x00000000#32)⟩,
    ⟨S16x9216, shapeCast S16x9216 (extractStridedSlice S1x16x9216 ![0, 0, 0] p slices_S1x4112x9216_S1x16x9216_0_0_0) shapeCasts_S1x16x9216_S16x9216⟩] concatenates_S4096x9216_S112x9216_S16x9216_S4224x9216_d0

theorem v23_eq : V m c main_v23 = padP (pj m c) := by
  rw [← v17_eq]
  simp only [V, V0, hostOps0, List.flatten_cons, List.flatten_nil, List.append_nil]
  after_reads_simp; rfl

theorem padP_apply (p : Vec Ideal S1x4112x9216 .f32) (R : Fin 4224) (n : Fin 9216) : padP p (ix2 R n)
    = if h : R.val < 4096 then p (ix3 0 ⟨16 + R.val, by omega⟩ n) else if h' : R.val - 4096 < 112 then 0 else p (ix3 0 ⟨R.val - 4096 - 112, by omega⟩ n) := by
  pointwise [padP]

theorem v25_apply (r : Fin 128) (k : Fin 1024) : V m c main_v25 (ix2 r k) = if h : r.val < 112 then 0 else a1 m c (ix2 ⟨r.val - 112, by omega⟩ k) := by
  simp only [V, V0, hostOps0, List.flatten_cons, List.flatten_nil, List.append_nil]; entry_read; pointwise
theorem v32_apply (R : Fin 4096) (k : Fin 1024) : V m c main_v32 (ix2 R k) = a0 m c (ix3 0 R k) := by
  simp only [V, V0, hostOps0, List.flatten_cons, List.flatten_nil, List.append_nil]; entry_read; pointwise
theorem v33_apply (R : Fin 4096) (k : Fin 1024) : V m c main_v33 (ix2 R k) = a14 m c (ix3 0 R k) := by
  simp only [V, V0, hostOps0, List.flatten_cons, List.flatten_nil, List.append_nil]; entry_read; pointwise
theorem v36_apply (k : Fin 31) (d : Fin 1024) : V m c main_v36 (ix2 ⟨k.val, by omega⟩ d) = a4 m c (ix3 0 k d) := by
  simp only [V, V0, hostOps0, List.flatten_cons, List.flatten_nil, List.append_nil]; entry_read; pointwise
theorem v39_apply (k : Fin 3) (d : Fin 1024) : V m c main_v39 (ix2 ⟨k.val, by omega⟩ d) = a10 m c (ix3 0 k d) := by
  simp only [V, V0, hostOps0, List.flatten_cons, List.flatten_nil, List.append_nil]; entry_read; pointwise
theorem v40_apply (d : Fin 1024) : V m c main_v40 (ix2 0 d) = a13 m c (ix1 d) := by
  simp only [V, V0, hostOps0, List.flatten_cons, List.flatten_nil, List.append_nil]; entry_read; pointwise
theorem v27_apply (k d : Fin 1024) : V m c main_v27 (ix2 k d) = a8 m c (ix3 0 k d) := by
  simp only [V, V0, hostOps0, List.flatten_cons, List.flatten_nil, List.append_nil]; entry_read; pointwise
theorem v29_apply (k d : Fin 1024) : V m c main_v29 (ix2 k d) = a11 m c (ix3 0 k d) := by
  simp only [V, V0, hostOps0, List.flatten_cons, List.flatten_nil, List.append_nil]; entry_read; pointwise
theorem v31_apply (k d : Fin 1024) : V m c main_v31 (ix2 k d) = a12 m c (ix3 0 k d) := by
  simp only [V, V0, hostOps0, List.flatten_cons, List.flatten_nil, List.append_nil]; entry_read; pointwise
theorem v41_apply (k d : Fin 1024) : V m c main_v41 (ix2 k d) = a8 m c (ix3 0 d k) := by
  simp only [V, V0, hostOps0, List.flatten_cons, List.flatten_nil, List.append_nil]; entry_read; pointwise
theorem v42_apply (k d : Fin 1024) : V m c main_v42 (ix2 k d) = a11 m c (ix3 0 d k) := by
  simp only [V, V0, hostOps0, List.flatten_cons, List.flatten_nil, List.append_nil]; entry_read; pointwise
theorem v43_apply (k d : Fin 1024) : V m c main_v43 (ix2 k d) = a12 m c (ix3 0 d k) := by
  simp only [V, V0, hostOps0, List.flatten_cons, List.flatten_nil, List.append_nil]; entry_read; pointwise

/-- Each window's block index at a point. -/
theorem idx : ∀ t : Fin cfg0.N, win0_0.index t = ![(min t.val 32 + 32) % 33, 0] ∧ win0_3.index t = ![min t.val 32 - 1, 0] ∧ win0_4.index t = ![min t.val 32 - 1, 0]
    ∧ win0_5.index t = ![0, 0] ∧ win0_6.index t = ![0, 0] ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![0, 0] ∧ win0_16.index t = ![0, 0]
    ∧ win0_17.index t = ![0, 0] ∧ win0_18.index t = ![0, 0] ∧ win0_20.index t = ![(min t.val 32 + 32) % 33, 0] ∧ win0_21.index t = ![0, (min t.val 32 + 32) % 33, 0]
    ∧ win0_22.index t = ![0, (min t.val 32 + 32) % 33, 0] ∧ win0_23.index t = ![0, 0] := by decide +kernel

theorem b0_apply (t : Fin cfg0.N) (r : Fin 128) (n : Fin 9216) : iblk m c 0 t (ix2 r n) = V m c main_v23 (ix2 ⟨128 * ((min t.val 32 + 32) % 33) + r.val, by omega⟩ n) := by
  blk_ext [iblk, idx t]
theorem b3_apply (t : Fin cfg0.N) (r : Fin 128) (n : Fin 1024) : iblk m c 3 t (ix2 r n) = a0 m c (ix3 0 ⟨128 * (min t.val 32 - 1) + r.val, by omega⟩ n) := by
  rw [← v32_apply]
  blk_ext [iblk, idx t]
theorem b4_apply (t : Fin cfg0.N) (r : Fin 128) (n : Fin 1024) : iblk m c 4 t (ix2 r n) = a14 m c (ix3 0 ⟨128 * (min t.val 32 - 1) + r.val, by omega⟩ n) := by
  rw [← v33_apply]
  blk_ext [iblk, idx t]
theorem b5_eq (t : Fin cfg0.N) : iblk m c 5 t = V m c main_v25 := by
  funext y
  blk_ext [iblk, idx t]
theorem b6_eq (t : Fin cfg0.N) : iblk m c 6 t = V m c main_v36 := by
  funext y
  blk_ext [iblk, idx t]
theorem b11_eq (t : Fin cfg0.N) : iblk m c 11 t = V m c main_v39 := by
  funext y
  blk_ext [iblk, idx t]
theorem b12_eq (t : Fin cfg0.N) : iblk m c 12 t = V m c main_v40 := by
  funext y
  blk_ext [iblk, idx t]
theorem b13_eq (t : Fin cfg0.N) : iblk m c 13 t = V m c main_v27 := by
  funext y
  blk_ext [iblk, idx t]
theorem b14_eq (t : Fin cfg0.N) : iblk m c 14 t = V m c main_v29 := by
  funext y
  blk_ext [iblk, idx t]
theorem b15_eq (t : Fin cfg0.N) : iblk m c 15 t = V m c main_v31 := by
  funext y
  blk_ext [iblk, idx t]
theorem b16_eq (t : Fin cfg0.N) : iblk m c 16 t = V m c main_v41 := by
  funext y
  blk_ext [iblk, idx t]
theorem b17_eq (t : Fin cfg0.N) : iblk m c 17 t = V m c main_v42 := by
  funext y
  blk_ext [iblk, idx t]
theorem b18_eq (t : Fin cfg0.N) : iblk m c 18 t = V m c main_v43 := by
  funext y
  blk_ext [iblk, idx t]
theorem b7_eq (t : Fin cfg0.N) : iblk m c 7 t = a5 m c := by
  funext y
  blk_ext! [iblk, V, idx t]
theorem b8_eq (t : Fin cfg0.N) : iblk m c 8 t = a6 m c := by
  funext y
  blk_ext! [iblk, V, idx t]
theorem b9_eq (t : Fin cfg0.N) : iblk m c 9 t = a7 m c := by
  funext y
  blk_ext! [iblk, V, idx t]
theorem b10_eq (t : Fin cfg0.N) : iblk m c 10 t = a9 m c := by
  funext y
  blk_ext! [iblk, V, idx t]

end Cert.Kernel2Ideal.Fp

end
-- ==== Proof.Fp.Rows.lean ====
/- The rows of the launch's tiles are the reference's rows: the tiles hold 112 rows of zeros, then the meta rows, then the
tokens' rows. -/
module

public import proofs.«01_k».proof.Proof.Fp.Dats
public import proofs.«01_k».proof.Proof.Fp.Blocks

@[expose] public section

set_option maxRecDepth 16384

noncomputable section

namespace Cert.Kernel2Ideal.Fp

open Idealize.ShloMosaic Idealize.ShloMosaic.TcCoe Idealize.ShloMosaic.Tactic
open Cert.Kernel2Ideal.Gen

variable (m : (ℓ : Loc nD τ sig) → Buf (Elt Ideal) ℓ) (c : Dev nD)

/-- The reference's row and weights, on the launch's arguments. -/
abbrev rq (q : ℕ) : Row := Cert.Reference2Ideal.Fp.RQ (a0 m c) (a1 m c) (a2 m c) (a3 m c) (a4 m c) (a5 m c) (a10 m c) (a14 m c) q
@[inherit_doc rq]
abbrev wq : Wts := Cert.Reference2Ideal.Fp.WQ (a6 m c) (a7 m c) (a8 m c) (a9 m c) (a11 m c) (a12 m c) (a13 m c)

theorem at2_out {n0 n1 : ℕ} (x : (⟨2, ![n0, n1]⟩ : Shape).Idx → EReal) {a b : ℕ} (h : ¬(a < n0 ∧ b < n1)) : at2 x a b = Classical.arbitrary EReal := dif_neg h
theorem at3_out {n0 n1 n2 : ℕ} (x : (⟨3, ![n0, n1, n2]⟩ : Shape).Idx → EReal) {a b e : ℕ} (h : ¬(a < n0 ∧ b < n1 ∧ e < n2)) : at3 x a b e = Classical.arbitrary EReal := dif_neg h

/-- The point of a tile. -/
def pt (T : ℕ) (hT : T < 33) : Fin cfg0.N := ⟨T, lt_of_lt_of_eq (show T < 34 by omega) N_0.symm⟩

variable {T r : ℕ}

theorem XN_pt (hT : T < 33) : XN m c T = XF m c (pt T hT) := XN_eq m c (pt T hT)
theorem min_pt (hT : T < 33) : min (pt T hT).val 32 = T := Nat.min_eq_left (by show T ≤ 32; omega)

theorem proj_raw (hT : T < 33) (hr : r < 128) {n : ℕ} (hn : n < 9216) : at2 (XN m c T).proj r n
    = padP (pj m c) (ix2 ⟨128 * ((T + 32) % 33) + r, by omega⟩ ⟨n, hn⟩) := by
  rw [XN_pt m c hT]
  dsimp only [XF]
  rw [← v23_eq, at2_of _ hr hn]
  refine (b0_apply m c (pt T hT) ⟨r, hr⟩ ⟨n, hn⟩).trans (congrArg (V m c main_v23) (congrArg (ix2 · _) (Fin.ext ?_)))
  show 128 * ((min (pt T hT).val 32 + 32) % 33) + r = _
  rw [min_pt hT]

/-- The rows of zeros. -/
theorem proj_zero (hT : T < 33) (hr : r < 128) (h : 128 * T + r < 112) {n : ℕ} (hn : n < 9216) : at2 (XN m c T).proj r n = 0 := by
  rw [proj_raw m c hT hr hn, padP_apply]
  rw [dif_neg (by show ¬(128 * ((T + 32) % 33) + r < 4096); omega), dif_pos (by show 128 * ((T + 32) % 33) + r - 4096 < 112; omega)]

/-- The other rows. -/
theorem proj_row (hT : T < 33) (hr : r < 128) (h : 112 ≤ 128 * T + r) (n : ℕ) : at2 (XN m c T).proj r n = at3 (pj m c) 0 (128 * T + r - 112) n := by
  by_cases hn : n < 9216
  · rw [proj_raw m c hT hr hn, padP_apply, at3_of _ (by omega) (by omega) hn]
    by_cases h0 : T = 0
    · rw [dif_neg (by show ¬(128 * ((T + 32) % 33) + r < 4096); omega), dif_neg (by show ¬(128 * ((T + 32) % 33) + r - 4096 < 112); omega)]
      exact congrArg (pj m c) (congrArg (ix3 0 · _) (Fin.ext (by show 128 * ((T + 32) % 33) + r - 4096 - 112 = 128 * T + r - 112; omega)))
    · rw [dif_pos (by show 128 * ((T + 32) % 33) + r < 4096; omega)]
      exact congrArg (pj m c) (congrArg (ix3 0 · _) (Fin.ext (by show 16 + (128 * ((T + 32) % 33) + r) = 128 * T + r - 112; omega)))
  · rw [at2_out _ (by omega), at3_out _ (by omega)]

theorem v1_apply (q : Fin 4112) (d : Fin 1024) : Cert.Reference2Ideal.Read.val_main_v1 (F := Ideal) (a0 m c) (a1 m c) (ix3 0 q d)
    = if h : q.val < 16 then a1 m c (ix2 ⟨q.val, h⟩ d) else a0 m c (ix3 0 ⟨q.val - 16, by omega⟩ d) := by
  pointwise [Cert.Reference2Ideal.Read.val_main_v1, Cert.Reference2Ideal.Read.val_main_v0]

/-- The stream's rows. -/
theorem s0_row (hT : T < 33) (hr : r < 128) (h : 112 ≤ 128 * T + r) (d : ℕ) : (if T = 0 then at2 (XN m c T).mtok r d else at2 (XN m c T).xt r d)
    = at3 (Cert.Reference2Ideal.Read.val_main_v1 (F := Ideal) (a0 m c) (a1 m c)) 0 (128 * T + r - 112) d := by
  by_cases hd : d < 1024
  · rw [at3_of _ (by omega) (by omega) hd]
    refine Eq.trans ?_ (v1_apply m c ⟨128 * T + r - 112, by omega⟩ ⟨d, hd⟩).symm
    rw [XN_pt m c hT]
    dsimp only [XF]
    by_cases h0 : T = 0
    · rw [if_pos h0, dif_pos (by show 128 * T + r - 112 < 16; omega), at2_of _ hr hd, b5_eq]
      refine (v25_apply m c ⟨r, hr⟩ ⟨d, hd⟩).trans ((dif_neg (by show ¬(r < 112); omega)).trans ?_)
      exact congrArg (a1 m c) (congrArg (ix2 · _) (Fin.ext (by show r - 112 = 128 * T + r - 112; omega)))
    · rw [if_neg h0, dif_neg (by show ¬(128 * T + r - 112 < 16); omega), at2_of _ hr hd]
      refine (b3_apply m c (pt T hT) ⟨r, hr⟩ ⟨d, hd⟩).trans (congrArg (a0 m c) (congrArg (ix3 0 · _) (Fin.ext ?_)))
      show 128 * (min (pt T hT).val 32 - 1) + r = 128 * T + r - 112 - 16
      rw [min_pt hT]; omega
  · rw [at2_out _ (by omega), at2_out _ (by omega), at3_out _ (by omega), ite_self]

/-- The target's rows. -/
theorem tg_row (hT : T < 33) (hr : r < 128) (h : 112 ≤ 128 * T + r) (d : ℕ) : at2 (XN m c T).tgt r d
    = at3 (a14 m c) 0 (if 128 * T + r - 112 < 16 then 112 + (128 * T + r - 112) else 128 * T + r - 112 - 16) d := by
  by_cases hd : d < 1024
  · rw [at3_of _ (by omega) (by split_ifs <;> omega) hd]
    rw [XN_pt m c hT]
    dsimp only [XF]
    rw [at2_of _ hr hd]
    refine (b4_apply m c (pt T hT) ⟨r, hr⟩ ⟨d, hd⟩).trans (congrArg (a14 m c) (congrArg (ix3 0 · _) (Fin.ext ?_)))
    show 128 * (min (pt T hT).val 32 - 1) + r = if 128 * T + r - 112 < 16 then 112 + (128 * T + r - 112) else 128 * T + r - 112 - 16
    rw [min_pt hT]
    split_ifs <;> omega
  · rw [at2_out _ (by omega), at3_out _ (by omega)]

/-! ## The weights -/

theorem at2_eq_at3 {n0 n1 : ℕ} (x : (⟨2, ![n0, n1]⟩ : Shape).Idx → EReal) (y : (⟨3, ![1, n0, n1]⟩ : Shape).Idx → EReal) (h : ∀ k d, x (ix2 k d) = y (ix3 0 k d)) (a b : ℕ) :
    at2 x a b = at3 y 0 a b := by
  by_cases g : a < n0 ∧ b < n1
  · rw [at2_of _ g.1 g.2, at3_of _ (by omega) g.1 g.2, h]; rfl
  · rw [at2_out _ g, at3_out _ (by omega)]
theorem at2_eq_at3_t {n : ℕ} (x : (⟨2, ![n, n]⟩ : Shape).Idx → EReal) (y : (⟨3, ![1, n, n]⟩ : Shape).Idx → EReal) (h : ∀ k d, x (ix2 k d) = y (ix3 0 d k)) (a b : ℕ) :
    at2 x a b = at3 y 0 b a := by
  by_cases g : a < n ∧ b < n
  · rw [at2_of _ g.1 g.2, at3_of _ (by omega) g.2 g.1, h]; rfl
  · rw [at2_out _ g, at3_out _ (by omega)]

theorem wts_eq (hT : T < 33) : wts (XN m c T) = wq m c := by
  rw [XN_pt m c hT]
  unfold wts wq Cert.Reference2Ideal.Fp.WQ
  dsimp only [XF]
  rw [b8_eq, b9_eq, b10_eq, b12_eq, b13_eq, b14_eq, b15_eq, b16_eq, b17_eq, b18_eq]
  have e : at2 (V m c main_v40) 0 = fun d => if h : d < 1024 then a13 m c (ix1 ⟨d, h⟩) else Classical.arbitrary EReal := by
    funext d
    by_cases hd : d < 1024
    · rw [at2_of _ (by omega) hd, dif_pos hd]; exact v40_apply m c ⟨d, hd⟩
    · rw [at2_out _ (by omega), dif_neg hd]
  rw [e, show at2 (V m c main_v27) = at3 (a8 m c) 0 from funext fun _ => funext fun _ => at2_eq_at3 _ _ (v27_apply m c) _ _,
    show at2 (V m c main_v29) = at3 (a11 m c) 0 from funext fun _ => funext fun _ => at2_eq_at3 _ _ (v29_apply m c) _ _,
    show at2 (V m c main_v31) = at3 (a12 m c) 0 from funext fun _ => funext fun _ => at2_eq_at3 _ _ (v31_apply m c) _ _,
    show at2 (V m c main_v41) = fun a b => at3 (a8 m c) 0 b a from funext fun _ => funext fun _ => at2_eq_at3_t _ _ (v41_apply m c) _ _,
    show at2 (V m c main_v42) = fun a b => at3 (a11 m c) 0 b a from funext fun _ => funext fun _ => at2_eq_at3_t _ _ (v42_apply m c) _ _,
    show at2 (V m c main_v43) = fun a b => at3 (a12 m c) 0 b a from funext fun _ => funext fun _ => at2_eq_at3_t _ _ (v43_apply m c) _ _]

/-! ## The convolutions -/

/-- The reference's gated rows. -/
abbrev ua (s d : ℕ) : EReal := Cert.Reference2Ideal.Fp.UA (a0 m c) (a1 m c) (a2 m c) (a3 m c) s d
abbrev vb (s d : ℕ) : EReal := Cert.Reference2Ideal.Fp.VB (a0 m c) (a1 m c) (a2 m c) (a3 m c) s d

theorem gateU (hT : T < 33) (hr : r < 128) {d : ℕ} (hd : d < 1024) : at2 (XN m c T).proj r d * Ideal.logistic (at2 (XN m c T).proj r (1024 + d))
    = if 128 * T + r < 112 then 0 else ua m c (128 * T + r - 112) d := by
  by_cases h : 128 * T + r < 112
  · rw [if_pos h, proj_zero m c hT hr h (by omega), zero_mul]
  · rw [if_neg h, proj_row m c hT hr (by omega), proj_row m c hT hr (by omega)]; rfl
theorem gateV (hT : T < 33) (hr : r < 128) {d : ℕ} (hd : d < 1024) : at2 (XN m c T).proj r (4096 + d) * at2 (XN m c T).proj r (5120 + d)
    = if 128 * T + r < 112 then 0 else vb m c (128 * T + r - 112) d := by
  by_cases h : 128 * T + r < 112
  · rw [if_pos h, proj_zero m c hT hr h (by omega), zero_mul]
  · rw [if_neg h, proj_row m c hT hr (by omega), proj_row m c hT hr (by omega)]; rfl

theorem Uh_at {d : ℕ} (hd : d < 1024) : ∀ (T : ℕ) (_ : T < 33) (j : ℕ) (_ : j < 160), Uh (XN m c) T j d = if 128 * T + j < 144 then 0 else ua m c (128 * T + j - 144) d
  | 0, hT, j, hj => by
    show eU (XN m c 0) (fun _ _ => 0) j d = _
    unfold eU
    by_cases h : j < 32
    · rw [if_pos h, if_pos (by omega)]
    · rw [if_neg h, gateU m c hT (by omega) hd]
      by_cases g : 128 * 0 + (j - 32) < 112
      · rw [if_pos g, if_pos (by omega)]
      · rw [if_neg g, if_neg (by omega), show 128 * 0 + (j - 32) - 112 = 128 * 0 + j - 144 by omega]
  | T + 1, hT, j, hj => by
    show eU (XN m c (T + 1)) (fun j d => Uh (XN m c) T (128 + j) d) j d = _
    unfold eU
    by_cases h : j < 32
    · rw [if_pos h]; dsimp only; rw [Uh_at hd T (by omega) (128 + j) (by omega), show 128 * T + (128 + j) = 128 * (T + 1) + j by omega]
    · rw [if_neg h, gateU m c hT (by omega) hd]
      by_cases g : 128 * (T + 1) + (j - 32) < 112
      · rw [if_pos g, if_pos (by omega)]
      · rw [if_neg g, if_neg (by omega), show 128 * (T + 1) + (j - 32) - 112 = 128 * (T + 1) + j - 144 by omega]

theorem Vh_at {d : ℕ} (hd : d < 1024) : ∀ (T : ℕ) (_ : T < 33) (j : ℕ) (_ : j < 136), Vh (XN m c) T j d = if 128 * T + j < 120 then 0 else vb m c (128 * T + j - 120) d
  | 0, hT, j, hj => by
    show eV (XN m c 0) (fun _ _ => 0) j d = _
    unfold eV
    by_cases h : j < 8
    · rw [if_pos h, if_pos (by omega)]
    · rw [if_neg h, gateV m c hT (by omega) hd]
      by_cases g : 128 * 0 + (j - 8) < 112
      · rw [if_pos g, if_pos (by omega)]
      · rw [if_neg g, if_neg (by omega), show 128 * 0 + (j - 8) - 112 = 128 * 0 + j - 120 by omega]
  | T + 1, hT, j, hj => by
    show eV (XN m c (T + 1)) (fun j d => Vh (XN m c) T (128 + j) d) j d = _
    unfold eV
    by_cases h : j < 8
    · rw [if_pos h]; dsimp only; rw [Vh_at hd T (by omega) (128 + j) (by omega), show 128 * T + (128 + j) = 128 * (T + 1) + j by omega]
    · rw [if_neg h, gateV m c hT (by omega) hd]
      by_cases g : 128 * (T + 1) + (j - 8) < 112
      · rw [if_pos g, if_pos (by omega)]
      · rw [if_neg g, if_neg (by omega), show 128 * (T + 1) + (j - 8) - 112 = 128 * (T + 1) + j - 120 by omega]

/-- The first convolution's row. -/
theorem convU_row (hT : T < 33) (hr : r < 128) (h : 112 ≤ 128 * T + r) {d : ℕ} (hd : d < 1024) : convU (XN m c T) (HU (XN m c) T) r d = (rq m c (128 * T + r - 112)).u d := by
  refine Eq.trans ?_ (Cert.Reference2Ideal.Fp.u_conv (a0 m c) (a1 m c) (a2 m c) (a3 m c) (a4 m c) (a5 m c) (a10 m c) (a14 m c) ⟨128 * T + r - 112, by omega⟩ ⟨d, hd⟩).symm
  unfold convU
  rw [← Uh_eq, Finset.sum_range]
  have e1 : at2 (XN m c T).cab 0 d = a5 m c (ix2 0 ⟨d, hd⟩) := by
    rw [XN_pt m c hT]; dsimp only [XF]; rw [b7_eq, at2_of _ (by omega) hd]; rfl
  rw [e1]
  refine congrArg (_ + ·) (Finset.sum_congr rfl fun k _ => congrArg₂ (· * ·) ?_ ?_)
  · rw [XN_pt m c hT]; dsimp only [XF]; rw [b6_eq, at2_of _ (by omega) hd]; exact v36_apply m c k ⟨d, hd⟩
  · rw [Uh_at m c hd T hT _ (by omega)]
    dsimp only
    by_cases g : 128 * T + (k.val + 2 + r) < 144
    · rw [if_pos g, if_pos (by omega)]
    · rw [if_neg g, if_neg (by omega), show 128 * T + (k.val + 2 + r) - 144 = 128 * T + r - 112 + k.val - 30 by omega]

/-- The second convolution's row. -/
theorem convV_row (hT : T < 33) (hr : r < 128) (h : 112 ≤ 128 * T + r) {d : ℕ} (hd : d < 1024) : convV (XN m c T) (HV (XN m c) T) r d = (rq m c (128 * T + r - 112)).c d := by
  refine Eq.trans ?_ (Cert.Reference2Ideal.Fp.c_conv (a0 m c) (a1 m c) (a2 m c) (a3 m c) (a4 m c) (a5 m c) (a10 m c) (a14 m c) ⟨128 * T + r - 112, by omega⟩ ⟨d, hd⟩).symm
  unfold convV
  rw [← Vh_eq, Finset.sum_range]
  refine Finset.sum_congr rfl fun k _ => congrArg₂ (· * ·) ?_ ?_
  · rw [XN_pt m c hT]; dsimp only [XF]; rw [b11_eq, at2_of _ (by omega) hd]; exact v39_apply m c k ⟨d, hd⟩
  · rw [Vh_at m c hd T hT _ (by omega)]
    dsimp only
    by_cases g : 128 * T + (k.val + 6 + r) < 120
    · rw [if_pos g, if_pos (by omega)]
    · rw [if_neg g, if_neg (by omega), show 128 * T + (k.val + 6 + r) - 120 = 128 * T + r - 112 + k.val - 2 by omega]

theorem row_ext {R R' : Row} (h1 : R.u = R'.u) (h2 : R.c = R'.c) (h3 : R.az = R'.az) (h4 : R.bz = R'.bz) (h5 : R.bb = R'.bb) (h6 : R.ga = R'.ga) (h7 : R.gb = R'.gb)
    (h8 : R.s0 = R'.s0) (h9 : R.tg = R'.tg) (h10 : R.tok = R'.tok) : R = R' := by
  cases R; cases R'; dsimp only at *; subst h1 h2 h3 h4 h5 h6 h7 h8 h9 h10; rfl

/-- A tile's row is the reference's. -/
theorem RT_row (hT : T < 33) (hr : r < 128) (h : 112 ≤ 128 * T + r) : RT (XN m c) T r = rq m c (128 * T + r - 112) := by
  refine row_ext (funext fun d => ?_) (funext fun d => ?_) (funext fun d => proj_row m c hT hr h _) (funext fun d => proj_row m c hT hr h _) (funext fun d => proj_row m c hT hr h _)
    (funext fun d => proj_row m c hT hr h _) (funext fun d => proj_row m c hT hr h _) (funext fun d => s0_row m c hT hr h d) (funext fun d => tg_row m c hT hr h d) ?_
  · show clip _ r d = _
    unfold clip
    by_cases hd : d < 1024
    · rw [if_pos ⟨hr, hd⟩]; exact convU_row m c hT hr h hd
    · rw [if_neg (by omega)]; exact (at3_out _ (by omega)).symm
  · show clip _ r d = _
    unfold clip
    by_cases hd : d < 1024
    · rw [if_pos ⟨hr, hd⟩]; exact convV_row m c hT hr h hd
    · rw [if_neg (by omega)]; exact (at3_out _ (by omega)).symm
  · show (if T = 0 then (0 : EReal) else 1) = if 128 * T + r - 112 < 16 then 0 else 1
    by_cases h0 : T = 0
    · rw [if_pos h0, if_pos (by omega)]
    · rw [if_neg h0, if_neg (by omega)]

/-- A row of zeros is no token's. -/
theorem RT_zero (h : 128 * T + r < 112) : (RT (XN m c) T r).tok = 0 := if_pos (by omega)

/-! ## Rows that are no token's -/

theorem err_zero {R : Row} (w : Wts) (h : R.tok = 0) (d : ℕ) : R.err w d = 0 := by unfold Row.err; rw [h, mul_zero]
theorem dy_zero {R : Row} (w : Wts) (h : R.tok = 0) (d : ℕ) : R.dy w d = 0 := by unfold Row.dy; rw [err_zero w h, zero_mul]
theorem sq_zero {R : Row} (w : Wts) (h : R.tok = 0) (d : ℕ) : R.sq w d = 0 := by unfold Row.sq; rw [err_zero w h, zero_mul]
theorem gFin_zero {R : Row} (w : Wts) (h : R.tok = 0) (d : ℕ) : R.gFin w d = 0 := by unfold Row.gFin; rw [dy_zero w h, zero_mul]
theorem ds1_zero {R : Row} (w : Wts) (h : R.tok = 0) (d : ℕ) : R.ds1 w d = 0 := by
  have hg : ∀ d, R.gy w d = 0 := fun d => by unfold Row.gy; rw [dy_zero w h, zero_mul]
  unfold Row.ds1 mean
  simp only [hg, zero_mul, mul_zero, Finset.sum_const_zero, sub_zero]
theorem dya_zero {R : Row} (w : Wts) (h : R.tok = 0) (d : ℕ) : R.dya w d = 0 := by
  unfold Row.dya Row.dm dotR
  simp only [ds1_zero w h, zero_mul, Finset.sum_const_zero]

/-- The sum over the tiles and their rows is the sum over the reference's rows. -/
theorem sum_tiles (f : ℕ → ℕ → EReal) (g : ℕ → EReal) (h0 : ∀ T r, T < 33 → r < 128 → 128 * T + r < 112 → f T r = 0)
    (h1 : ∀ T r, T < 33 → r < 128 → 112 ≤ 128 * T + r → f T r = g (128 * T + r - 112)) :
    ∑ T ∈ Finset.range 33, ∑ r ∈ Finset.range 128, f T r = ∑ q : Fin 4112, g q.val := by
  have e : ∀ T ∈ Finset.range 33, ∑ r ∈ Finset.range 128, f T r = ∑ r : Fin 128, (if 128 * T + r.val < 112 then 0 else g (128 * T + r.val - 112)) := fun T hT => by
    rw [Finset.sum_range]
    refine Finset.sum_congr rfl fun r _ => ?_
    by_cases h : 128 * T + r.val < 112
    · rw [if_pos h]; exact h0 _ _ (Finset.mem_range.mp hT) r.2 h
    · rw [if_neg h]; exact h1 _ _ (Finset.mem_range.mp hT) r.2 (by omega)
  rw [Finset.sum_congr rfl e, Finset.sum_range]
  let F : ℕ → EReal := fun i => if i < 112 then 0 else g (i - 112)
  have h := Fin.sum_univ_univ_mul_add 33 128 F
  refine Eq.trans ?_ (h.trans ?_)
  · refine Finset.sum_congr rfl fun s _ => Finset.sum_congr rfl fun r _ => ?_
    show F (128 * s.val + r.val) = F (s.val * 128 + r.val)
    rw [mul_comm]
  · refine (Fin.sum_univ_add (a := 112) (b := 4112) (fun i => F i.val)).trans ?_
    rw [Finset.sum_eq_zero, zero_add]
    · refine Finset.sum_congr rfl fun q _ => ?_
      refine (if_neg (show ¬(112 + q.val < 112) by omega)).trans (congrArg g ?_)
      show 112 + q.val - 112 = q.val
      omega
    · exact fun q _ => if_pos q.2

end Cert.Kernel2Ideal.Fp

end
-- ==== Proof.Fp.Value.lean ====
/- The results of `_fused_pass` after the run, in terms of the program's arguments. -/
module

public import proofs.«01_k».proof.Proof.Fp.Launch
public import proofs.«01_k».proof.Proof.Fp.Rows

@[expose] public section

set_option maxRecDepth 16384

noncomputable section

namespace Cert.Kernel2Ideal.Fp

open Idealize.ShloMosaic Idealize.ShloMosaic.TcCoe Idealize.ShloMosaic.Tactic
open Cert.Kernel2Ideal.Gen

variable (m : (ℓ : Loc nD τ sig) → Buf (Elt Ideal) ℓ) (c : Dev nD)

/-- The tile a row of an output array belongs to. -/
def tl (R : ℕ) : ℕ := (R / 128 + 1) % 33

theorem tl_block (t : ℕ) (r : ℕ) (hr : r < 128) : tl (128 * ((min t 32 + 32) % 33) + r) = min t 32 ∧ (128 * ((min t 32 + 32) % 33) + r) % 128 = r := by
  unfold tl; omega

/-! ## The output arrays -/

/-- The stream's gradient. -/
def dsOut (i : S4224x1024.Idx) : EReal := (RT (XN m c) (tl (i 0).val) ((i 0).val % 128)).ds1 (wts (XN m c (tl (i 0).val))) (i 1).val
/-- The left operands. -/
def lhsOut (i : S3x4224x1024.Idx) : EReal :=
  if (i 0).val = 0 then (RT (XN m c) (tl (i 1).val) ((i 1).val % 128)).l0 (wts (XN m c (tl (i 1).val))) (i 2).val
  else if (i 0).val = 1 then (RT (XN m c) (tl (i 1).val) ((i 1).val % 128)).l1 (i 2).val
  else (RT (XN m c) (tl (i 1).val) ((i 1).val % 128)).l2 (wts (XN m c (tl (i 1).val))) (i 2).val
/-- The right operands. -/
def rhsOut (i : S3x4224x1024.Idx) : EReal :=
  if (i 0).val = 0 then (RT (XN m c) (tl (i 1).val) ((i 1).val % 128)).dya (wts (XN m c (tl (i 1).val))) (i 2).val
  else if (i 0).val = 1 then (RT (XN m c) (tl (i 1).val) ((i 1).val % 128)).dyb (wts (XN m c (tl (i 1).val))) (i 2).val
  else (RT (XN m c) (tl (i 1).val) ((i 1).val % 128)).ds1 (wts (XN m c (tl (i 1).val))) (i 2).val

theorem ds_tile (t : ℕ) (r : Fin 128) (d : Fin 1024) :
    oDs (XN m c) t (ix2 r d) = dsOut m c (ix2 ⟨128 * ((min t 32 + 32) % 33) + r.val, by omega⟩ d) := by
  unfold dsOut
  dsimp only [ix2]
  rw [(tl_block t r.val r.2).1, (tl_block t r.val r.2).2]
  rfl
theorem lhs_tile (t : ℕ) (k : Fin 3) (r : Fin 128) (d : Fin 1024) :
    oLhs (XN m c) t (ix3 k r d) = lhsOut m c (ix3 k ⟨128 * ((min t 32 + 32) % 33) + r.val, by omega⟩ d) := by
  unfold lhsOut
  dsimp only [ix3]
  rw [(tl_block t r.val r.2).1, (tl_block t r.val r.2).2]
  rfl
theorem rhs_tile (t : ℕ) (k : Fin 3) (r : Fin 128) (d : Fin 1024) :
    oRhs (XN m c) t (ix3 k r d) = rhsOut m c (ix3 k ⟨128 * ((min t 32 + 32) % 33) + r.val, by omega⟩ d) := by
  unfold rhsOut
  dsimp only [ix3]
  rw [(tl_block t r.val r.2).1, (tl_block t r.val r.2).2]
  rfl

theorem arr20 : (dats m 0 c).arrAt 20 cfg0.N = dsOut m c := by
  refine (dats m 0 c).arrAt_eq_of_covers 20 _ (by decide +kernel) fun t hf y => ?_
  blk_simp
  obtain ⟨r, d, rfl⟩ : ∃ (r : Fin 128) (d : Fin 1024), y = ix2 r d := ⟨y 0, y 1, eq_ix2 y⟩
  refine (ds_tile m c t.val r d).trans ?_
  refine congrArg _ ?_
  blk_ext [idx t]
theorem arr21 : (dats m 0 c).arrAt 21 cfg0.N = lhsOut m c := by
  refine (dats m 0 c).arrAt_eq_of_covers 21 _ (by decide +kernel) fun t hf y => ?_
  blk_simp
  obtain ⟨k, r, d, rfl⟩ : ∃ (k : Fin 3) (r : Fin 128) (d : Fin 1024), y = ix3 k r d := ⟨y 0, y 1, y 2, eq_ix3 y⟩
  refine (lhs_tile m c t.val k r d).trans ?_
  refine congrArg _ ?_
  blk_ext [idx t]
theorem arr22 : (dats m 0 c).arrAt 22 cfg0.N = rhsOut m c := by
  refine (dats m 0 c).arrAt_eq_of_covers 22 _ (by decide +kernel) fun t hf y => ?_
  blk_simp
  obtain ⟨k, r, d, rfl⟩ : ∃ (k : Fin 3) (r : Fin 128) (d : Fin 1024), y = ix3 k r d := ⟨y 0, y 1, y 2, eq_ix3 y⟩
  refine (rhs_tile m c t.val k r d).trans ?_
  refine congrArg _ ?_
  blk_ext [idx t]
theorem arr23 : (dats m 0 c).arrAt 23 cfg0.N = oSmall (XN m c) 33 := by
  refine (dats m 0 c).arrAt_eq_of_after_last 23 ⟨33, lt_of_lt_of_eq (by omega) N_0.symm⟩ (by decide +kernel) _ fun j => ?_
  blk_simp
  rfl

/-- The row of the launch's arrays that holds the reference's row `q`. -/
theorem RT_of {R q : ℕ} (hq : q < 4112) (h : R = if q < 16 then 4208 + q else q - 16) : RT (XN m c) (tl R) (R % 128) = rq m c q ∧ wts (XN m c (tl R)) = wq m c := by
  have h33 : tl R < 33 := Nat.mod_lt _ (by omega)
  have e : 128 * tl R + R % 128 = 112 + q := by unfold tl; split_ifs at h <;> omega
  refine ⟨(RT_row m c h33 (Nat.mod_lt _ (by omega)) (by omega)).trans ?_, wts_eq m c h33⟩
  rw [e, Nat.add_sub_cancel_left]

theorem dsOut_row {R : Fin 4224} (q : Fin 4112) (d : Fin 1024) (h : R.val = if q.val < 16 then 4208 + q.val else q.val - 16) : dsOut m c (ix2 R d) = (rq m c q.val).ds1 (wq m c) d.val := by
  unfold dsOut
  dsimp only [ix2]
  rw [(RT_of m c q.2 h).1, (RT_of m c q.2 h).2]
theorem lhsOut_row {R : Fin 4224} (k : Fin 3) (q : Fin 4112) (d : Fin 1024) (h : R.val = if q.val < 16 then 4208 + q.val else q.val - 16) : lhsOut m c (ix3 k R d)
    = if k.val = 0 then (rq m c q.val).l0 (wq m c) d.val else if k.val = 1 then (rq m c q.val).l1 d.val else (rq m c q.val).l2 (wq m c) d.val := by
  unfold lhsOut
  dsimp only [ix3]
  rw [(RT_of m c q.2 h).1, (RT_of m c q.2 h).2]; rfl
theorem rhsOut_row {R : Fin 4224} (k : Fin 3) (q : Fin 4112) (d : Fin 1024) (h : R.val = if q.val < 16 then 4208 + q.val else q.val - 16) : rhsOut m c (ix3 k R d)
    = if k.val = 0 then (rq m c q.val).dya (wq m c) d.val else if k.val = 1 then (rq m c q.val).dyb (wq m c) d.val else (rq m c q.val).ds1 (wq m c) d.val := by
  unfold rhsOut
  dsimp only [ix3]
  rw [(RT_of m c q.2 h).1, (RT_of m c q.2 h).2]; rfl

/-! ## The small block -/

/-- A sum over the tiles' rows of a part that vanishes for rows of no token. -/
theorem sum_part (f : Wts → Row → EReal) (hf : ∀ w R, R.tok = 0 → f w R = 0) :
    ∑ T ∈ Finset.range 33, ∑ r ∈ Finset.range 128, f (wts (XN m c T)) (RT (XN m c) T r) = ∑ q : Fin 4112, f (wq m c) (rq m c q.val) :=
  sum_tiles _ (fun q => f (wq m c) (rq m c q)) (fun T r hT hr h => hf _ _ (RT_zero m c h)) (fun T r hT hr h => by rw [RT_row m c hT hr h, wts_eq m c hT])

theorem small_at {p : ℕ} (hp : p < 8) (d : Fin 1024) : oSmall (XN m c) 33 (ix2 ⟨p, by omega⟩ d) = smF (XN m c) 33 p d.val := by
  show smT (XN m c) 33 p d.val = _
  unfold smT
  rw [if_neg (by omega), if_neg (by omega)]

theorem small0 (d : Fin 1024) : oSmall (XN m c) 33 (ix2 ⟨0, by omega⟩ d) = ∑ q : Fin 4112, (rq m c q.val).gFin (wq m c) d.val := by
  rw [small_at m c (by omega)]
  exact (if_pos rfl).trans (sum_part m c (fun w R => R.gFin w d.val) fun w R h => gFin_zero w h _)
theorem small1 (d : Fin 1024) : oSmall (XN m c) 33 (ix2 ⟨1, by omega⟩ d) = ∑ q : Fin 4112, (rq m c q.val).dya (wq m c) d.val := by
  rw [small_at m c (by omega)]
  exact (if_neg (by omega)).trans ((if_pos rfl).trans (sum_part m c (fun w R => R.dya w d.val) fun w R h => dya_zero w h _))
theorem small5 (d : Fin 1024) : oSmall (XN m c) 33 (ix2 ⟨5, by omega⟩ d)
    = ∑ T ∈ Finset.range 33, Ideal.ofBits FTy.f32 973078528#32 * ∑ r ∈ Finset.range 128, (RT (XN m c) T r).sq (wts (XN m c T)) d.val := by
  rw [small_at m c (by omega)]
  exact (if_neg (by omega)).trans ((if_neg (by omega)).trans ((if_neg (by omega)).trans ((if_neg (by omega)).trans ((if_neg (by omega)).trans (if_pos rfl)))))

/-! ## The loss -/

theorem sq_nonneg' (R : Row) (w : Wts) (d : ℕ) : 0 ≤ R.sq w d := by
  unfold Row.sq
  rcases le_total 0 (R.err w d) with h | h
  · exact EReal.mul_nonneg h h
  · exact EReal.mul_nonneg_iff.mpr (Or.inr ⟨h, h⟩)

/-- A factor moves into a sum of terms that are not negative. -/
theorem mul_sum_nonneg {ι : Type} (s : Finset ι) (k : EReal) (f : ι → EReal) (hf : ∀ i, 0 ≤ f i) : k * ∑ i ∈ s, f i = ∑ i ∈ s, k * f i := by
  classical
  induction s using Finset.induction_on with
  | empty => simp
  | insert a s ha ih =>
    rw [Finset.sum_insert ha, Finset.sum_insert ha, EReal.left_distrib_of_nonneg (hf a) (Finset.sum_nonneg fun i _ => hf i), ih]

theorem half_inv : Ideal.ofBits FTy.f32 973078528#32 = Ideal.ofBits .f32 0x3F000000#32 * cInv := by
  rw [Cert.Reference2Ideal.Fp.half_eq, show cInv = Cert.Norm.inv from rfl, Cert.Norm.inv_eq, ← EReal.coe_mul]
  have h : Ideal.ofBits FTy.f32 973078528#32 = (((1 : ℝ) / 2048 : ℝ) : EReal) := by
    simp [Ideal.ofBits, Ideal.ieee, -EReal.coe_mul]; norm_num
  rw [h]
  norm_num

/-- The sum of the small block's loss row is the loss. -/
theorem loss_sum : ∑ d : Fin 1024, oSmall (XN m c) 33 (ix2 ⟨5, by omega⟩ d)
    = Ideal.ofBits .f32 0x3F000000#32 * ∑ p : Fin 4096, (∑ d : Fin 1024, (rq m c (16 + p.val)).sq (wq m c) d.val) * cInv := by
  have hc : (0 : EReal) ≤ cInv := by
    rw [show cInv = Cert.Norm.inv from rfl, Cert.Norm.inv_eq]; exact_mod_cast (by norm_num)
  have e1 : ∀ d : Fin 1024, oSmall (XN m c) 33 (ix2 ⟨5, by omega⟩ d) = ∑ p : Fin 4096, Ideal.ofBits FTy.f32 973078528#32 * (rq m c (16 + p.val)).sq (wq m c) d.val := fun d => by
    rw [small5]
    simp only [mul_sum_nonneg _ _ _ fun r => sq_nonneg' _ _ _]
    refine (sum_part m c (fun w R => Ideal.ofBits FTy.f32 973078528#32 * R.sq w d.val) fun w R h => by rw [sq_zero w h, mul_zero]).trans ?_
    refine (Fin.sum_univ_add (a := 16) (b := 4096) (fun q => Ideal.ofBits FTy.f32 973078528#32 * (rq m c q.val).sq (wq m c) d.val)).trans ?_
    rw [Finset.sum_eq_zero, zero_add]
    · rfl
    · intro q _
      rw [sq_zero _ (if_pos (show q.val < 16 from q.2)), mul_zero]
  rw [Finset.sum_congr rfl fun d _ => e1 d, Finset.sum_comm]
  have hn : ∀ p : Fin 4096, (0 : EReal) ≤ ∑ d : Fin 1024, (rq m c (16 + p.val)).sq (wq m c) d.val := fun p => Finset.sum_nonneg fun d _ => sq_nonneg' _ _ _
  rw [mul_sum_nonneg _ _ _ fun p : Fin 4096 => EReal.mul_nonneg (hn p) hc]
  refine Finset.sum_congr rfl fun p _ => ?_
  rw [← mul_sum_nonneg _ _ _ fun d => sq_nonneg' _ _ _, half_inv, mul_assoc, mul_comm cInv]

/-! ## The results, after the host's last operations -/

theorem exit20 : Pipeline.withArrays (cfgs 0).spec c (V0 m c) (fun w => (dats m 0 c).arrAt w (cfgs 0).N) (Proc.devRef .tc main_v44_1) = dsOut m c :=
  (Pipeline.Dat.withArrays_arrAt (dats m 0 c) sharedIn0 (V0 m c) (A_eq m c) 20).trans (arr20 m c)
theorem exit21 : Pipeline.withArrays (cfgs 0).spec c (V0 m c) (fun w => (dats m 0 c).arrAt w (cfgs 0).N) (Proc.devRef .tc main_v44_2) = lhsOut m c :=
  (Pipeline.Dat.withArrays_arrAt (dats m 0 c) sharedIn0 (V0 m c) (A_eq m c) 21).trans (arr21 m c)
theorem exit22 : Pipeline.withArrays (cfgs 0).spec c (V0 m c) (fun w => (dats m 0 c).arrAt w (cfgs 0).N) (Proc.devRef .tc main_v44_3) = rhsOut m c :=
  (Pipeline.Dat.withArrays_arrAt (dats m 0 c) sharedIn0 (V0 m c) (A_eq m c) 22).trans (arr22 m c)
theorem exit23 : Pipeline.withArrays (cfgs 0).spec c (V0 m c) (fun w => (dats m 0 c).arrAt w (cfgs 0).N) (Proc.devRef .tc main_v44_4) = oSmall (XN m c) 33 :=
  (Pipeline.Dat.withArrays_arrAt (dats m 0 c) sharedIn0 (V0 m c) (A_eq m c) 23).trans (arr23 m c)

/-- What the program returns in a buffer. -/
abbrev ret (b : Ref sig .tc) := Pipeline.afterTail₀ cfgs (dats m) 0 (V0 m) [hostOps1] c b

/-- The rows in the reference's order: the meta rows first. -/
def unp (x : Vec Ideal S4224x1024 .f32) : Vec Ideal S1x4112x1024 .f32 :=
  broadcastInDim S1x4112x1024 ![1, 2] bcast_S4112x1024_S1x4112x1024_1_2 (concatenate S4112x1024 0 [⟨S16x1024, extractStridedSlice S16x1024 ![4208, 0] x slices_S4224x1024_S16x1024_4208_0⟩,
    ⟨S4096x1024, extractStridedSlice S4096x1024 ![0, 0] x slices_S4224x1024_S4096x1024_0_0⟩] concatenates_S16x1024_S4096x1024_S4112x1024_d0)
@[inherit_doc unp]
def unp3 (x : Vec Ideal S3x4224x1024 .bf16) : Vec Ideal S3x4112x1024 .f32 :=
  extf (F := Ideal) .f32 (concatenate S3x4112x1024 1 [⟨S3x16x1024, extractStridedSlice S3x16x1024 ![0, 4208, 0] x slices_S3x4224x1024_S3x16x1024_0_4208_0⟩,
    ⟨S3x4096x1024, extractStridedSlice S3x4096x1024 ![0, 0, 0] x slices_S3x4224x1024_S3x4096x1024_0_0_0⟩] concatenates_S3x16x1024_S3x4096x1024_S3x4112x1024_d1) bitsLt_bf16_f32

/-- The loss. -/
theorem out_loss (i : S_.Idx) : ret m c main_v46 i = Ideal.ofBits .f32 0x3F000000#32 * ∑ p : Fin 4096, (∑ d : Fin 1024, (rq m c (16 + p.val)).sq (wq m c) d.val) * cInv := by
  rw [← loss_sum]
  unfold ret Pipeline.afterTail₀
  simp only [hostOps1, List.flatten_cons, List.flatten_nil, List.append_nil]
  after_reads_simp
  rw [exit23]
  pointwise
  rw [Fin.sum_univ_one]

/-- The stream's gradient. -/
theorem out_ds (q : Fin 4112) (d : Fin 1024) : ret m c main_v50 (ix3 0 q d) = (rq m c q.val).ds1 (wq m c) d.val := by
  have e : ret m c main_v50 = unp (dsOut m c) := by
    rw [← exit20]
    unfold ret Pipeline.afterTail₀
    simp only [hostOps1, List.flatten_cons, List.flatten_nil, List.append_nil]
    after_reads_simp; rfl
  rw [e]
  pointwise [unp]
  by_cases h : q.val < 16
  · rw [dif_pos h]; exact dsOut_row m c q d (by rw [if_pos h])
  · rw [dif_neg h]; exact dsOut_row m c q d (by rw [if_neg h])

/-- The bias's gradient. -/
theorem out_bao (d : Fin 1024) : ret m c main_v51 (ix2 0 d) = ∑ q : Fin 4112, (rq m c q.val).dya (wq m c) d.val := by
  rw [← small1]
  unfold ret Pipeline.afterTail₀
  simp only [hostOps1, List.flatten_cons, List.flatten_nil, List.append_nil]
  after_reads_simp
  rw [exit23]
  pointwise

/-- The final gain's gradient. -/
theorem out_fng (d : Fin 1024) : ret m c main_v53 (ix1 d) = ∑ q : Fin 4112, (rq m c q.val).gFin (wq m c) d.val := by
  rw [← small0]
  unfold ret Pipeline.afterTail₀
  simp only [hostOps1, List.flatten_cons, List.flatten_nil, List.append_nil]
  after_reads_simp
  rw [exit23]
  pointwise

/-- The left operands. -/
theorem out_lhs (k : Fin 3) (q : Fin 4112) (d : Fin 1024) : ret m c main_v57 (ix3 k q d)
    = if k.val = 0 then (rq m c q.val).l0 (wq m c) d.val else if k.val = 1 then (rq m c q.val).l1 d.val else (rq m c q.val).l2 (wq m c) d.val := by
  have e : ret m c main_v57 = unp3 (lhsOut m c) := by
    rw [← exit21]
    unfold ret Pipeline.afterTail₀
    simp only [hostOps1, List.flatten_cons, List.flatten_nil, List.append_nil]
    after_reads_simp; rfl
  rw [e]
  pointwise [unp3]
  by_cases h : q.val < 16
  · rw [dif_pos h]; exact lhsOut_row m c k q d (by rw [if_pos h])
  · rw [dif_neg h]; exact lhsOut_row m c k q d (by rw [if_neg h])

/-- The right operands. -/
theorem out_rhs (k : Fin 3) (q : Fin 4112) (d : Fin 1024) : ret m c main_v61 (ix3 k q d)
    = if k.val = 0 then (rq m c q.val).dya (wq m c) d.val else if k.val = 1 then (rq m c q.val).dyb (wq m c) d.val else (rq m c q.val).ds1 (wq m c) d.val := by
  have e : ret m c main_v61 = unp3 (rhsOut m c) := by
    rw [← exit22]
    unfold ret Pipeline.afterTail₀
    simp only [hostOps1, List.flatten_cons, List.flatten_nil, List.append_nil]
    after_reads_simp; rfl
  rw [e]
  pointwise [unp3]
  by_cases h : q.val < 16
  · rw [dif_pos h]; exact rhsOut_row m c k q d (by rw [if_pos h])
  · rw [dif_neg h]; exact rhsOut_row m c k q d (by rw [if_neg h])

end Cert.Kernel2Ideal.Fp

end
-- ==== Proof.Fp.RefConv.lean ====
/- The reference of `_fused_pass`, read row by row over the extended reals: the gradients through the gates, SiLU, the
layer norm and the two convolutions, for finite arguments. -/
module

public import proofs.«01_k».proof.Proof.Fp.RefGrad
public import proofs.«01_k».proof.Proof.Fp.Real

@[expose] public section

set_option maxRecDepth 16384

noncomputable section

namespace Cert.Reference2Ideal.Fp

open Idealize.ShloMosaic Idealize.ShloMosaic.TcCoe Idealize.ShloMosaic.Tactic
open Cert.Reference2Ideal.Gen Cert.Reference2Ideal.Read
open Cert.Kernel2Ideal.Fp (at2 at3 at2_ix at3_ix Row Wts mean dotR cInv cEps Re silu_grad ln_grad)

variable (x0 : Vec Ideal S1x4096x1024 .f32) (x1 : Vec Ideal S16x1024 .f32) (x2 : Vec Ideal S1x1024 .f32) (x3 : Vec Ideal S1x1024x9216 .f32)
  (x4 : Vec Ideal S1x31x1024 .f32) (x5 x6 x7 : Vec Ideal S1x1024 .f32) (x8 : Vec Ideal S1x1024x1024 .f32) (x9 : Vec Ideal S1x1024 .f32)
  (x10 : Vec Ideal S1x3x1024 .f32) (x11 x12 : Vec Ideal S1x1024x1024 .f32) (x13 : Vec Ideal S1024 .f32) (x14 : Vec Ideal S1x4096x1024 .f32)

variable (q : Fin 4112) (d : Fin 1024)

/-! SiLU's derivative at the layer norm's result, and at the two gates. -/

theorem v88_2_apply : val_main_v88_2 (F := Ideal) x0 x1 x2 x3 x4 x5 x6 x7 (ix3 0 q d) = (RQ x0 x1 x2 x3 x4 x5 x10 x14 q.val).sg2 (WQ x6 x7 x8 x9 x11 x12 x13) d.val := by
  unfold Row.sg2
  rw [← v87_apply, ← logistic_eq]
  pointwise [val_main_v88_2, val_main_call1_v0, val_main_call1_v1, val_main_call1_cst, val_main_call1_v2, val_main_call1_v3, val_main_call1_cst_0, val_main_call1_v4, val_main_call1_cst_1, val_main_call1_v6, val_main_call1_v7]
theorem v88_1_apply : val_main_v88_1 (F := Ideal) x0 x1 x2 x3 x4 x5 x6 x7 (ix3 0 q d) = (RQ x0 x1 x2 x3 x4 x5 x10 x14 q.val).sg2 (WQ x6 x7 x8 x9 x11 x12 x13) d.val * (1 - (RQ x0 x1 x2 x3 x4 x5 x10 x14 q.val).sg2 (WQ x6 x7 x8 x9 x11 x12 x13) d.val) := by
  rw [← v88_2_apply, ← one_eq]
  pointwise [val_main_v88_1, val_main_v88_2, val_main_call1_v0, val_main_call1_v1, val_main_call1_cst, val_main_call1_v2, val_main_call1_v3, val_main_call1_cst_0, val_main_call1_v4, val_main_call1_cst_1, val_main_call1_v6, val_main_call1_v7]
theorem v89_2_apply : val_main_v89_2 (F := Ideal) x0 x1 x2 x3 (ix3 0 q d) = (RQ x0 x1 x2 x3 x4 x5 x10 x14 q.val).sz d.val := by
  unfold Row.sz
  rw [az_eq, ← logistic_eq]
  pointwise [val_main_v89_2, val_main_call2_v0, val_main_call2_v1, val_main_call2_cst, val_main_call2_v2, val_main_call2_v3, val_main_call2_cst_0, val_main_call2_v4, val_main_call2_cst_1, val_main_call2_v6, val_main_call2_v7]
theorem v89_1_apply : val_main_v89_1 (F := Ideal) x0 x1 x2 x3 (ix3 0 q d) = (RQ x0 x1 x2 x3 x4 x5 x10 x14 q.val).sz d.val * (1 - (RQ x0 x1 x2 x3 x4 x5 x10 x14 q.val).sz d.val) := by
  rw [← v89_2_apply, ← one_eq]
  pointwise [val_main_v89_1, val_main_v89_2, val_main_call2_v0, val_main_call2_v1, val_main_call2_cst, val_main_call2_v2, val_main_call2_v3, val_main_call2_cst_0, val_main_call2_v4, val_main_call2_cst_1, val_main_call2_v6, val_main_call2_v7]
theorem v115_2_apply : val_main_v115_2 (F := Ideal) x0 x1 x2 x3 (ix3 0 q d) = (RQ x0 x1 x2 x3 x4 x5 x10 x14 q.val).sbz d.val := by
  unfold Row.sbz
  rw [bz_eq, ← logistic_eq]
  pointwise [val_main_v115_2, val_main_call4_v0, val_main_call4_v1, val_main_call4_cst, val_main_call4_v2, val_main_call4_v3, val_main_call4_cst_0, val_main_call4_v4, val_main_call4_cst_1, val_main_call4_v6, val_main_call4_v7]
theorem v115_1_apply : val_main_v115_1 (F := Ideal) x0 x1 x2 x3 (ix3 0 q d) = (RQ x0 x1 x2 x3 x4 x5 x10 x14 q.val).sbz d.val * (1 - (RQ x0 x1 x2 x3 x4 x5 x10 x14 q.val).sbz d.val) := by
  rw [← v115_2_apply, ← one_eq]
  pointwise [val_main_v115_1, val_main_v115_2, val_main_call4_v0, val_main_call4_v1, val_main_call4_cst, val_main_call4_v2, val_main_call4_v3, val_main_call4_cst_0, val_main_call4_v4, val_main_call4_cst_1, val_main_call4_v6, val_main_call4_v7]

/-- The gate columns. -/
theorem v206_apply : val_main_v206 (F := Ideal) x0 x1 x2 x3 x4 x5 x6 x7 x8 x9 x10 x11 x12 x13 x14 (ix3 0 q d) = (RQ x0 x1 x2 x3 x4 x5 x10 x14 q.val).pga (WQ x6 x7 x8 x9 x11 x12 x13) d.val := by
  have h : (RQ x0 x1 x2 x3 x4 x5 x10 x14 q.val).pga (WQ x6 x7 x8 x9 x11 x12 x13) d.val = (RQ x0 x1 x2 x3 x4 x5 x10 x14 q.val).dm (WQ x6 x7 x8 x9 x11 x12 x13) d.val * (RQ x0 x1 x2 x3 x4 x5 x10 x14 q.val).ya (WQ x6 x7 x8 x9 x11 x12 x13) d.val * ((RQ x0 x1 x2 x3 x4 x5 x10 x14 q.val).sga d.val * (1 - (RQ x0 x1 x2 x3 x4 x5 x10 x14 q.val).sga d.val)) := by
    unfold Row.pga Row.dya; ac_rfl
  rw [h, ← v200_apply, ← v97_apply, ← v125_apply, ← one_eq]
  pointwise [val_main_v206, val_main_v205, val_main_v128, val_main_v127, val_main_v126, val_main_cst_22]
theorem v203_apply : val_main_v203 (F := Ideal) x0 x1 x2 x3 x4 x5 x6 x7 x8 x9 x10 x11 x12 x13 x14 (ix3 0 q d) = (RQ x0 x1 x2 x3 x4 x5 x10 x14 q.val).pgb (WQ x6 x7 x8 x9 x11 x12 x13) d.val := by
  have h : (RQ x0 x1 x2 x3 x4 x5 x10 x14 q.val).pgb (WQ x6 x7 x8 x9 x11 x12 x13) d.val = (RQ x0 x1 x2 x3 x4 x5 x10 x14 q.val).dm (WQ x6 x7 x8 x9 x11 x12 x13) d.val * (RQ x0 x1 x2 x3 x4 x5 x10 x14 q.val).yb (WQ x6 x7 x8 x9 x11 x12 x13) d.val * ((RQ x0 x1 x2 x3 x4 x5 x10 x14 q.val).sgb d.val * (1 - (RQ x0 x1 x2 x3 x4 x5 x10 x14 q.val).sgb d.val)) := by
    unfold Row.pgb Row.dyb; ac_rfl
  rw [h, ← v200_apply, ← v119_apply, ← v135_apply, ← one_eq]
  pointwise [val_main_v203, val_main_v202, val_main_v138, val_main_v137, val_main_v136, val_main_cst_25]

theorem v207_apply : val_main_v207 (F := Ideal) x0 x1 x2 x3 x4 x5 x6 x7 x8 x9 x10 x11 x12 x13 x14 (ix3 0 q d) = (RQ x0 x1 x2 x3 x4 x5 x10 x14 q.val).dpb (WQ x6 x7 x8 x9 x11 x12 x13) d.val := by
  unfold Row.dpb
  rw [dotR_fin]
  have hw : ∀ i : Fin 1024, (WQ x6 x7 x8 x9 x11 x12 x13).wBt i.val d.val = x11 (ix3 0 d i) := fun i => (at3_ix x11 0 d i).symm
  simp only [hw, ← v201_apply]
  pointwise [val_main_v207, val_main_v117]
theorem v230_apply : val_main_v230 (F := Ideal) x0 x1 x2 x3 x4 x5 x6 x7 x8 x9 x10 x11 x12 x13 x14 (ix3 0 q d) = (RQ x0 x1 x2 x3 x4 x5 x10 x14 q.val).dpa (WQ x6 x7 x8 x9 x11 x12 x13) d.val := by
  unfold Row.dpa
  rw [dotR_fin]
  have hw : ∀ i : Fin 1024, (WQ x6 x7 x8 x9 x11 x12 x13).wAt i.val d.val = x8 (ix3 0 d i) := fun i => (at3_ix x8 0 d i).symm
  simp only [hw, ← v204_apply]
  pointwise [val_main_v230, val_main_v91]

theorem v209_apply : val_main_v209 (F := Ideal) x0 x1 x2 x3 x4 x5 x6 x7 x8 x9 x10 x11 x12 x13 x14 (ix3 0 q d) = (RQ x0 x1 x2 x3 x4 x5 x10 x14 q.val).dub (WQ x6 x7 x8 x9 x11 x12 x13) d.val := by
  unfold Row.dub
  rw [← v207_apply, ← v115_apply]
  pointwise [val_main_v209]
theorem v211_apply : val_main_v211 (F := Ideal) x0 x1 x2 x3 x4 x5 x6 x7 x8 x9 x10 x11 x12 x13 x14 (ix3 0 q d) = (RQ x0 x1 x2 x3 x4 x5 x10 x14 q.val).dc3 (WQ x6 x7 x8 x9 x11 x12 x13) d.val := by
  unfold Row.dc3
  rw [← v209_apply, bb_eq, mul_comm]
  pointwise [val_main_v211]
theorem v212_apply : val_main_v212 (F := Ideal) x0 x1 x2 x3 x4 x5 x6 x7 x8 x9 x10 x11 x12 x13 x14 (ix3 0 q d) = (RQ x0 x1 x2 x3 x4 x5 x10 x14 q.val).pbb (WQ x6 x7 x8 x9 x11 x12 x13) d.val := by
  unfold Row.pbb
  rw [← v209_apply, c_eq]
  pointwise [val_main_v212]

section Finite

variable {x0 x1 x2 x3 x4 x5 x6 x7 x8 x9 x10 x11 x12 x13 x14} (hw : (WQ x6 x7 x8 x9 x11 x12 x13).Real) (hR : (RQ x0 x1 x2 x3 x4 x5 x10 x14 q.val).Real)
include hw hR

theorem v210_apply : val_main_v210 (F := Ideal) x0 x1 x2 x3 x4 x5 x6 x7 x8 x9 x10 x11 x12 x13 x14 (ix3 0 q d) = (RQ x0 x1 x2 x3 x4 x5 x10 x14 q.val).pbz (WQ x6 x7 x8 x9 x11 x12 x13) d.val := by
  have h := silu_grad ((Row.Real.ub hR d.val d.2).mul (Row.Real.dpb hw hR d.val d.2)) (hR.bz d.val d.2) (hR.sbz d.val d.2)
  unfold Row.pbz Row.siluB
  rw [mul_comm ((RQ x0 x1 x2 x3 x4 x5 x10 x14 q.val).dpb (WQ x6 x7 x8 x9 x11 x12 x13) d.val), ← h, ← v115_1_apply (x4 := x4) (x5 := x5) (x10 := x10) (x14 := x14), ← v115_2_apply (x4 := x4) (x5 := x5) (x10 := x10) (x14 := x14), ← v114_apply, ← v207_apply, bz_eq]
  pointwise [val_main_v210, val_main_call5_v0, val_main_call5_v1, val_main_call5_v2, val_main_v208]
theorem v233_apply : val_main_v233 (F := Ideal) x0 x1 x2 x3 x4 x5 x6 x7 x8 x9 x10 x11 x12 x13 x14 (ix3 0 q d) = (RQ x0 x1 x2 x3 x4 x5 x10 x14 q.val).paz (WQ x6 x7 x8 x9 x11 x12 x13) d.val := by
  have h := silu_grad ((Row.Real.ua3 hw hR d.val d.2).mul (Row.Real.dpa hw hR d.val d.2)) (hR.az d.val d.2) (hR.sz d.val d.2)
  unfold Row.paz Row.siluA
  rw [mul_comm ((RQ x0 x1 x2 x3 x4 x5 x10 x14 q.val).dpa (WQ x6 x7 x8 x9 x11 x12 x13) d.val), ← h, ← v89_1_apply (x4 := x4) (x5 := x5) (x10 := x10) (x14 := x14), ← v89_2_apply (x4 := x4) (x5 := x5) (x10 := x10) (x14 := x14), ← v88_apply, ← v230_apply, az_eq]
  pointwise [val_main_v233, val_main_call6_v0, val_main_call6_v1, val_main_call6_v2, val_main_v231]
theorem v234_apply : val_main_v234 (F := Ideal) x0 x1 x2 x3 x4 x5 x6 x7 x8 x9 x10 x11 x12 x13 x14 (ix3 0 q d) = (RQ x0 x1 x2 x3 x4 x5 x10 x14 q.val).dua2 (WQ x6 x7 x8 x9 x11 x12 x13) d.val := by
  have h := silu_grad ((Row.Real.dpa hw hR d.val d.2).mul (hR.siluA d.val d.2)) (Row.Real.ua2 hw hR d.val d.2) (Row.Real.sg2 hw hR d.val d.2)
  unfold Row.dua2 Row.ua3
  rw [← h, ← v88_1_apply, ← v88_2_apply, ← v89_apply, ← v230_apply, ← v87_apply]
  pointwise [val_main_v234, val_main_call7_v0, val_main_call7_v1, val_main_call7_v2, val_main_v232]

theorem v242_apply : val_main_v242 (F := Ideal) x0 x1 x2 x3 x4 x5 x6 x7 x8 x9 x10 x11 x12 x13 x14 (ix3 0 q d) = (RQ x0 x1 x2 x3 x4 x5 x10 x14 q.val).dxh (WQ x6 x7 x8 x9 x11 x12 x13) d.val := by
  unfold Row.dxh
  rw [← v234_apply q d hw hR, show (WQ x6 x7 x8 x9 x11 x12 x13).lng d.val = x6 (ix2 0 d) from (at2_ix x6 0 d).symm]
  pointwise [val_main_v242, val_main_v241, val_main_v82, val_main_v57]
theorem v238_apply : val_main_v238 (F := Ideal) x0 x1 x2 x3 x4 x5 x6 x7 x8 x9 x10 x11 x12 x13 x14 (ix3 0 q d) = (RQ x0 x1 x2 x3 x4 x5 x10 x14 q.val).gLn (WQ x6 x7 x8 x9 x11 x12 x13) d.val := by
  unfold Row.gLn
  rw [← v234_apply q d hw hR, ← v81_apply, mul_comm]
  pointwise [val_main_v238]

theorem v248_apply : val_main_v248 (F := Ideal) x0 x1 x2 x3 x4 x5 x6 x7 x8 x9 x10 x11 x12 x13 x14 (ix3 0 q d) = (RQ x0 x1 x2 x3 x4 x5 x10 x14 q.val).dxh (WQ x6 x7 x8 x9 x11 x12 x13) d.val * (RQ x0 x1 x2 x3 x4 x5 x10 x14 q.val).rstd := by
  rw [← v242_apply q d hw hR, ← v76_apply]
  pointwise [val_main_v248, val_main_v247]

/-- The variance's part of the layer norm's gradient. -/
theorem v254_apply : val_main_v254 (F := Ideal) x0 x1 x2 x3 x4 x5 x6 x7 x8 x9 x10 x11 x12 x13 x14 (ix3 0 q 0) = Ideal.div ((∑ i : Fin 1024, (RQ x0 x1 x2 x3 x4 x5 x10 x14 q.val).xc i.val * (RQ x0 x1 x2 x3 x4 x5 x10 x14 q.val).dxh (WQ x6 x7 x8 x9 x11 x12 x13) i.val) * (Ideal.ofBits .f32 0xBF000000#32 * ((RQ x0 x1 x2 x3 x4 x5 x10 x14 q.val).rstd * (RQ x0 x1 x2 x3 x4 x5 x10 x14 q.val).rstd * (RQ x0 x1 x2 x3 x4 x5 x10 x14 q.val).rstd))) (Ideal.ofBits .f32 0x44800000#32) := by
  have hv : val_main_v75 (F := Ideal) x0 x1 x2 x3 x4 x5 (ix3 0 q 0) = mean (fun d => (RQ x0 x1 x2 x3 x4 x5 x10 x14 q.val).xc d * (RQ x0 x1 x2 x3 x4 x5 x10 x14 q.val).xc d) + cEps := by
    rw [mean_fin, ← Cert.Norm.div_1024]
    simp only [← v64_apply]
    pointwise [val_main_v75, val_main_v74, val_main_v71, val_main_v70, val_main_v69, val_main_v68, val_main_v65, val_main_cst_12, val_main_cst_13, val_main_cst_14]
    rfl
  have hr : (RQ x0 x1 x2 x3 x4 x5 x10 x14 q.val).rstd = Ideal.rsqrt (val_main_v75 (F := Ideal) x0 x1 x2 x3 x4 x5 (ix3 0 q 0)) := by rw [hv]; rfl
  have h77 : val_main_v77 (F := Ideal) x0 x1 x2 x3 x4 x5 (ix3 0 q 0) = (RQ x0 x1 x2 x3 x4 x5 x10 x14 q.val).rstd * (RQ x0 x1 x2 x3 x4 x5 x10 x14 q.val).rstd * (RQ x0 x1 x2 x3 x4 x5 x10 x14 q.val).rstd := by
    rw [hr, ← Cert.Norm.rsqrt_div (by rw [hv]; exact Cert.Kernel2Ideal.Fp.mean_pos _)]
    pointwise [val_main_v77, val_main_v76]
  rw [← h77]
  simp only [← v242_apply q _ hw hR, ← v73_apply]
  pointwise [val_main_v254, val_main_v253, val_main_v249, val_main_v246, val_main_v245, val_main_v244, val_main_v79, val_main_v78, val_main_cst_15, val_main_cst_52, val_main_cst_54]

theorem v258_apply : val_main_v258 (F := Ideal) x0 x1 x2 x3 x4 x5 x6 x7 x8 x9 x10 x11 x12 x13 x14 (ix3 0 q d) = val_main_v254 (F := Ideal) x0 x1 x2 x3 x4 x5 x6 x7 x8 x9 x10 x11 x12 x13 x14 (ix3 0 q 0) * (Ideal.ofBits .f32 0x40000000#32 * (RQ x0 x1 x2 x3 x4 x5 x10 x14 q.val).xc d.val) := by
  rw [← v64_apply]
  pointwise [val_main_v258, val_main_v257, val_main_v256, val_main_v255, val_main_v67, val_main_v66, val_main_cst_11, val_main_cst_55, Cert.ReferenceIdeal.In.reduce_02]

theorem v269_apply : val_main_v269 (F := Ideal) x0 x1 x2 x3 x4 x5 x6 x7 x8 x9 x10 x11 x12 x13 x14 (ix3 0 q d) = (RQ x0 x1 x2 x3 x4 x5 x10 x14 q.val).dua1 (WQ x6 x7 x8 x9 x11 x12 x13) d.val := by
  rw [← ln_grad hw hR _ d (v254_apply q hw hR)]
  simp only [← v258_apply q _ hw hR, ← v248_apply q _ hw hR]
  pointwise [val_main_v269, val_main_v268, val_main_v267, val_main_v266, Cert.ReferenceIdeal.In.reduce_02]
  pointwise [val_main_v265, val_main_v264, val_main_v263, val_main_v262, val_main_v261, val_main_v260, val_main_v259, val_main_v252, val_main_v251, val_main_v250, val_main_cst_53, val_main_cst_56, val_main_cst_57, val_main_cst_58]

end Finite

/-! ## The convolutions' gradients -/

/-- The same sum read from the other side. -/
theorem pick2 (f : ℕ → EReal) (k : ℕ) (n : ℕ) (hk : k ≤ n) :
    ∑ t : Fin 4112, f t.val * (if q.val + n = t.val + k then (1 : EReal) else 0) = if q.val + n - k < 4112 then f (q.val + n - k) else 0 := by
  by_cases h : q.val + n - k < 4112
  · rw [if_pos h, Finset.sum_eq_single ⟨q.val + n - k, h⟩]
    · rw [if_pos (by simp only; omega), mul_one]
    · intro b _ hb
      rw [if_neg (fun c => hb (Fin.ext (by simp only; omega))), mul_zero]
    · exact fun h => absurd (Finset.mem_univ _) h
  · rw [if_neg h]
    refine Finset.sum_eq_zero fun s _ => ?_
    rw [if_neg (by omega), mul_zero]

/-- What each shift of the rows reads. -/
theorem v49_apply (k : Fin 31) : val_main_v49 (F := Ideal) x0 x1 x2 x3 (ix4 0 k q d) = if q.val + k.val < 30 then 0 else UA x0 x1 x2 x3 (q.val + k.val - 30) d.val := by
  rw [← pick q (fun s => UA x0 x1 x2 x3 s d.val) k.val 30 (by omega)]
  have h : val_main_v49 (F := Ideal) x0 x1 x2 x3 (ix4 0 k q d) = ∑ s : Fin 4112, val_main_v37 (F := Ideal) x0 x1 x2 x3 (ix3 0 s d) * val_main_v46 (F := Ideal)  (ix3 k q s) := by pointwise [val_main_v49, val_main_v48]
  rw [h]
  exact Finset.sum_congr rfl fun s _ => by rw [v46_apply, v37_zero]; rfl
@[inherit_doc v49_apply]
theorem v110_apply (k : Fin 3) : val_main_v110 (F := Ideal) x0 x1 x2 x3 (ix4 0 k q d) = if q.val + k.val < 2 then 0 else VB x0 x1 x2 x3 (q.val + k.val - 2) d.val := by
  rw [← pick q (fun s => VB x0 x1 x2 x3 s d.val) k.val 2 (by omega)]
  have h : val_main_v110 (F := Ideal) x0 x1 x2 x3 (ix4 0 k q d) = ∑ s : Fin 4112, val_main_v98 (F := Ideal) x0 x1 x2 x3 (ix3 0 s d) * val_main_v107 (F := Ideal)  (ix3 k q s) := by pointwise [val_main_v110, val_main_v109]
  rw [h]
  exact Finset.sum_congr rfl fun s _ => by rw [v107_apply, v98_zero]; rfl

/-- A host sum over two axes of extent one, the first and the third of four. -/
theorem reduce_02' {n l : ℕ} (h : (⟨4, ![1, n, 1, l]⟩ : Shape).ReducesTo [0, 2] ⟨2, ![n, l]⟩) (v : (⟨4, ![1, n, 1, l]⟩ : Shape).Idx → EReal) (init : EReal) (k : Fin n) (e : Fin l) :
    Ideal.hostReduceAdd h v init (ix2 k e) = init + v (ix4 0 k 0 e) := by
  refine congrArg (init + ·) (Finset.sum_eq_single_of_mem _ (Finset.mem_filter.mpr ⟨Finset.mem_univ _, ?_⟩) fun i hi hne => absurd ?_ hne)
  · funext b; apply Fin.ext
    match b with
    | ⟨0, _⟩ => rfl
    | ⟨1, _⟩ => rfl
  · have e := (Finset.mem_filter.mp hi).2
    funext a; apply Fin.ext
    match a with
    | ⟨0, _⟩ => exact Nat.lt_one_iff.mp (i 0).isLt
    | ⟨1, _⟩ => exact congrArg Fin.val (congrFun e 0)
    | ⟨2, _⟩ => exact Nat.lt_one_iff.mp (i 2).isLt
    | ⟨3, _⟩ => exact congrArg Fin.val (congrFun e 1)

/-- The narrow convolution's weights' gradient. -/
theorem v223_apply (k : Fin 3) : val_main_v223 (F := Ideal) x0 x1 x2 x3 x4 x5 x6 x7 x8 x9 x10 x11 x12 x13 x14 (ix3 0 k d) = ∑ t : Fin 4112, (RQ x0 x1 x2 x3 x4 x5 x10 x14 t.val).dc3 (WQ x6 x7 x8 x9 x11 x12 x13) d.val * (if t.val + k.val < 2 then 0 else VB x0 x1 x2 x3 (t.val + k.val - 2) d.val) := by
  simp only [← v211_apply, ← v110_apply]
  pointwise [val_main_v223, val_main_v222, reduce_02']
  pointwise [val_main_v218, val_main_v217, val_main_v216, val_main_v213, val_main_cst_44, val_main_cst_45]

/-- The transposed narrow convolution. -/
theorem v221_apply : val_main_v221 (F := Ideal) x0 x1 x2 x3 x4 x5 x6 x7 x8 x9 x10 x11 x12 x13 x14 (ix3 0 q d) = ∑ k : Fin 3, x10 (ix3 0 k d) * (if q.val + 2 - k.val < 4112 then (RQ x0 x1 x2 x3 x4 x5 x10 x14 (q.val + 2 - k.val)).dc3 (WQ x6 x7 x8 x9 x11 x12 x13) d.val else 0) := by
  have h : val_main_v221 (F := Ideal) x0 x1 x2 x3 x4 x5 x6 x7 x8 x9 x10 x11 x12 x13 x14 (ix3 0 q d) = ∑ k : Fin 3, ∑ t : Fin 4112, x10 (ix3 0 k d) * val_main_v211 (F := Ideal) x0 x1 x2 x3 x4 x5 x6 x7 x8 x9 x10 x11 x12 x13 x14 (ix3 0 t d) * val_main_v107 (F := Ideal)  (ix3 k t q) := by
    pointwise [val_main_v221, val_main_v220, val_main_v219, val_main_v215, val_main_v214, val_main_v213, val_main_v108, val_main_v99]
  rw [h]
  refine Finset.sum_congr rfl fun k _ => ?_
  have e := pick2 q (fun t => x10 (ix3 0 k d) * (RQ x0 x1 x2 x3 x4 x5 x10 x14 t).dc3 (WQ x6 x7 x8 x9 x11 x12 x13) d.val) k.val 2 (by omega)
  rw [mul_ite, mul_zero, ← e]
  exact Finset.sum_congr rfl fun s _ => by rw [v107_apply, v211_apply]

section Finite

variable {x0 x1 x2 x3 x4 x5 x6 x7 x8 x9 x10 x11 x12 x13 x14} (hw : (WQ x6 x7 x8 x9 x11 x12 x13).Real) (hR : ∀ q : Fin 4112, (RQ x0 x1 x2 x3 x4 x5 x10 x14 q.val).Real)
include hw hR

/-- The wide convolution's weights' gradient. -/
theorem v286_apply (k : Fin 31) : val_main_v286 (F := Ideal) x0 x1 x2 x3 x4 x5 x6 x7 x8 x9 x10 x11 x12 x13 x14 (ix3 0 k d) = ∑ t : Fin 4112, (RQ x0 x1 x2 x3 x4 x5 x10 x14 t.val).dua1 (WQ x6 x7 x8 x9 x11 x12 x13) d.val * (if t.val + k.val < 30 then 0 else UA x0 x1 x2 x3 (t.val + k.val - 30) d.val) := by
  simp only [← v269_apply _ _ hw (hR _), ← v49_apply]
  pointwise [val_main_v286, val_main_v285, reduce_02']
  pointwise [val_main_v281, val_main_v280, val_main_v279, val_main_v276, val_main_cst_61, val_main_cst_62]

/-- The transposed wide convolution. -/
theorem v284_apply : val_main_v284 (F := Ideal) x0 x1 x2 x3 x4 x5 x6 x7 x8 x9 x10 x11 x12 x13 x14 (ix3 0 q d) = ∑ k : Fin 31, x4 (ix3 0 k d) * (if q.val + 30 - k.val < 4112 then (RQ x0 x1 x2 x3 x4 x5 x10 x14 (q.val + 30 - k.val)).dua1 (WQ x6 x7 x8 x9 x11 x12 x13) d.val else 0) := by
  have h : val_main_v284 (F := Ideal) x0 x1 x2 x3 x4 x5 x6 x7 x8 x9 x10 x11 x12 x13 x14 (ix3 0 q d) = ∑ k : Fin 31, ∑ t : Fin 4112, x4 (ix3 0 k d) * val_main_v269 (F := Ideal) x0 x1 x2 x3 x4 x5 x6 x7 x8 x9 x10 x11 x12 x13 x14 (ix3 0 t d) * val_main_v46 (F := Ideal)  (ix3 k t q) := by
    pointwise [val_main_v284, val_main_v283, val_main_v282, val_main_v278, val_main_v277, val_main_v276, val_main_v47, val_main_v38]
  rw [h]
  refine Finset.sum_congr rfl fun k _ => ?_
  have e := pick2 q (fun t => x4 (ix3 0 k d) * (RQ x0 x1 x2 x3 x4 x5 x10 x14 t).dua1 (WQ x6 x7 x8 x9 x11 x12 x13) d.val) k.val 30 (by omega)
  rw [mul_ite, mul_zero, ← e]
  exact Finset.sum_congr rfl fun s _ => by rw [v46_apply, v269_apply _ _ hw (hR _)]

/-- The gradients of the layer norm's gain and shift and of the convolution's bias. -/
theorem v271_apply : val_main_v271 (F := Ideal) x0 x1 x2 x3 x4 x5 x6 x7 x8 x9 x10 x11 x12 x13 x14 (ix2 0 d) = ∑ t : Fin 4112, (RQ x0 x1 x2 x3 x4 x5 x10 x14 t.val).gLn (WQ x6 x7 x8 x9 x11 x12 x13) d.val := by
  simp only [← v238_apply _ _ hw (hR _)]
  pointwise [val_main_v271, val_main_v243, Cert.ReferenceIdeal.In.reduce_01]
  pointwise [val_main_v240, val_main_v239, val_main_cst_50, val_main_cst_51]
@[inherit_doc v271_apply]
theorem v270_apply : val_main_v270 (F := Ideal) x0 x1 x2 x3 x4 x5 x6 x7 x8 x9 x10 x11 x12 x13 x14 (ix2 0 d) = ∑ t : Fin 4112, (RQ x0 x1 x2 x3 x4 x5 x10 x14 t.val).dua2 (WQ x6 x7 x8 x9 x11 x12 x13) d.val := by
  simp only [← v234_apply _ _ hw (hR _)]
  pointwise [val_main_v270, val_main_v237, Cert.ReferenceIdeal.In.reduce_01]
  pointwise [val_main_v236, val_main_v235, val_main_cst_48, val_main_cst_49]
@[inherit_doc v271_apply]
theorem v275_apply : val_main_v275 (F := Ideal) x0 x1 x2 x3 x4 x5 x6 x7 x8 x9 x10 x11 x12 x13 x14 (ix2 0 d) = ∑ t : Fin 4112, (RQ x0 x1 x2 x3 x4 x5 x10 x14 t.val).dua1 (WQ x6 x7 x8 x9 x11 x12 x13) d.val := by
  simp only [← v269_apply _ _ hw (hR _)]
  pointwise [val_main_v275, val_main_v274, Cert.ReferenceIdeal.In.reduce_01]
  pointwise [val_main_v273, val_main_v272, val_main_cst_59, val_main_cst_60]

end Finite

end Cert.Reference2Ideal.Fp

end
-- ==== Proof.Fp.RefReal.lean ====
/- Finite arguments make the rows and the weights of `_fused_pass`'s reference real; and the projection's gradient, column by
column. -/
module

public import proofs.«01_k».proof.Proof.Fp.RefConv

@[expose] public section

set_option maxRecDepth 16384

noncomputable section

namespace Cert.Reference2Ideal.Fp

open Idealize.ShloMosaic Idealize.ShloMosaic.TcCoe Idealize.ShloMosaic.Tactic
open Cert.Reference2Ideal.Gen Cert.Reference2Ideal.Read
open Cert.Kernel2Ideal.Fp (at2 at3 at2_ix at3_ix at2_of at3_of Row Wts mean dotR cInv cEps Re re_inv re_eps)

variable (x0 : Vec Ideal S1x4096x1024 .f32) (x1 : Vec Ideal S16x1024 .f32) (x2 : Vec Ideal S1x1024 .f32) (x3 : Vec Ideal S1x1024x9216 .f32)
  (x4 : Vec Ideal S1x31x1024 .f32) (x5 x6 x7 : Vec Ideal S1x1024 .f32) (x8 : Vec Ideal S1x1024x1024 .f32) (x9 : Vec Ideal S1x1024 .f32)
  (x10 : Vec Ideal S1x3x1024 .f32) (x11 x12 : Vec Ideal S1x1024x1024 .f32) (x13 : Vec Ideal S1024 .f32) (x14 : Vec Ideal S1x4096x1024 .f32)

/-! ## Finite arguments -/

theorem re_at2 {n0 n1 : ℕ} {x : (⟨2, ![n0, n1]⟩ : Shape).Idx → EReal} (h : ∀ i, Re (x i)) {a b : ℕ} (ha : a < n0) (hb : b < n1) : Re (at2 x a b) := by
  rw [at2_of _ ha hb]; exact h _
theorem re_at3 {n0 n1 n2 : ℕ} {x : (⟨3, ![n0, n1, n2]⟩ : Shape).Idx → EReal} (h : ∀ i, Re (x i)) {a b c : ℕ} (ha : a < n0) (hb : b < n1) (hc : c < n2) : Re (at3 x a b c) := by
  rw [at3_of _ ha hb hc]; exact h _

/-- The weights are real. -/
theorem WQ_real (h6 : ∀ i, Re (x6 i)) (h7 : ∀ i, Re (x7 i)) (h8 : ∀ i, Re (x8 i)) (h9 : ∀ i, Re (x9 i)) (h11 : ∀ i, Re (x11 i)) (h12 : ∀ i, Re (x12 i)) (h13 : ∀ i, Re (x13 i)) :
    (WQ x6 x7 x8 x9 x11 x12 x13).Real where
  lng _ hd := re_at2 h6 (by omega) hd
  lnb _ hd := re_at2 h7 (by omega) hd
  bao _ hd := re_at2 h9 (by omega) hd
  fng d hd := by dsimp only [WQ]; rw [dif_pos hd]; exact h13 _
  wA _ hi _ hd := re_at3 h8 (by omega) hi hd
  wB _ hi _ hd := re_at3 h11 (by omega) hi hd
  wO _ hi _ hd := re_at3 h12 (by omega) hi hd
  wAt _ hi _ hd := re_at3 h8 (by omega) hd hi
  wBt _ hi _ hd := re_at3 h11 (by omega) hd hi
  wOt _ hi _ hd := re_at3 h12 (by omega) hd hi

section

variable {x0 x1 x2 x3} (h0 : ∀ i, Re (x0 i)) (h1 : ∀ i, Re (x1 i)) (h2 : ∀ i, Re (x2 i)) (h3 : ∀ i, Re (x3 i))

include h0 h1 in
theorem re_v1 (q : Fin 4112) (d : Fin 1024) : Re (val_main_v1 (F := Ideal) x0 x1 (ix3 0 q d)) := by
  pointwise [val_main_v1, val_main_v0]
  split
  · exact h1 _
  · exact h0 _

include h0 h1 in
theorem re_v10 (q : Fin 4112) : Re (val_main_v10 (F := Ideal) x0 x1 (ix3 0 q 0)) := by
  have h : val_main_v9 (F := Ideal) x0 x1 (ix3 0 q 0) = Cert.Norm.var (fun d => val_main_v1 (F := Ideal) x0 x1 (ix3 0 q d)) := by
    have h : val_main_v9 (F := Ideal) x0 x1 (ix3 0 q 0) = Ideal.div (∑ k : Fin 1024, val_main_v1 (F := Ideal) x0 x1 (ix3 0 q k) * val_main_v1 (F := Ideal) x0 x1 (ix3 0 q k)) (Ideal.ofBits .f32 0x44800000#32) + Cert.Norm.eps := by
      pointwise [val_main_v9, val_main_v8, val_main_v7, val_main_v6, val_main_v5, val_main_v4, val_main_v3, val_main_cst, val_main_cst_0, val_main_cst_1]
    rw [h, Cert.Norm.div_1024]; rfl
  show Re (Ideal.rsqrt (val_main_v9 (F := Ideal) x0 x1 (ix3 0 q 0)))
  rw [h]
  refine Re.rsqrt (Cert.Norm.var_pos _) ?_
  exact ((Re.sum fun k _ => (re_v1 h0 h1 q k).mul (re_v1 h0 h1 q k)).mul re_inv).add re_eps

include h0 h1 h2 h3 in
/-- The projection is real. -/
theorem re_v17 (q : Fin 4112) (n : Fin 9216) : Re (val_main_v17 (F := Ideal) x0 x1 x2 x3 (ix3 0 q n)) := by
  have h : val_main_v17 (F := Ideal) x0 x1 x2 x3 (ix3 0 q n) = ∑ k : Fin 1024, val_main_v1 (F := Ideal) x0 x1 (ix3 0 q k) * val_main_v10 (F := Ideal) x0 x1 (ix3 0 q 0) * x2 (ix2 0 k) * x3 (ix3 0 k n) := by
    pointwise [val_main_v17, val_main_v16, val_main_v15, val_main_v14, val_main_v13, val_main_v12, val_main_v11, val_main_v2]
  rw [h]
  exact Re.sum fun k _ => (((re_v1 h0 h1 q k).mul (re_v10 h0 h1 q)).mul (h2 _)).mul (h3 _)

include h0 h1 h2 h3 in
theorem re_proj {s n : ℕ} (hs : s < 4112) (hn : n < 9216) : Re (at3 (val_main_v17 (F := Ideal) x0 x1 x2 x3) 0 s n) := by
  rw [at3_of _ (by omega) hs hn]; exact re_v17 h0 h1 h2 h3 ⟨s, hs⟩ ⟨n, hn⟩

include h0 h1 h2 h3 in
/-- The rows are real. -/
theorem RQ_real (h4 : ∀ i, Re (x4 i)) (h5 : ∀ i, Re (x5 i)) (h10 : ∀ i, Re (x10 i)) (h14 : ∀ i, Re (x14 i)) (q : Fin 4112) : (RQ x0 x1 x2 x3 x4 x5 x10 x14 q.val).Real where
  u d hd := by
    rw [u_conv x0 x1 x2 x3 x4 x5 x10 x14 q ⟨d, hd⟩]
    refine (h5 _).add (Re.sum fun k _ => (h4 _).mul ?_)
    by_cases h : q.val + k.val < 30
    · rw [if_pos h]; exact Re.zero
    · rw [if_neg h]
      exact (re_proj h0 h1 h2 h3 (by omega) (by show d < 9216; omega)).mul (re_proj h0 h1 h2 h3 (by omega) (by show 1024 + d < 9216; omega)).logistic
  c d hd := by
    rw [c_conv x0 x1 x2 x3 x4 x5 x10 x14 q ⟨d, hd⟩]
    refine Re.sum fun k _ => (h10 _).mul ?_
    by_cases h : q.val + k.val < 2
    · rw [if_pos h]; exact Re.zero
    · rw [if_neg h]
      exact (re_proj h0 h1 h2 h3 (by omega) (by show 4096 + d < 9216; omega)).mul (re_proj h0 h1 h2 h3 (by omega) (by show 5120 + d < 9216; omega))
  az d hd := re_proj h0 h1 h2 h3 q.2 (by omega)
  bz d hd := re_proj h0 h1 h2 h3 q.2 (by omega)
  bb d hd := re_proj h0 h1 h2 h3 q.2 (by omega)
  ga d hd := re_proj h0 h1 h2 h3 q.2 (by omega)
  gb d hd := re_proj h0 h1 h2 h3 q.2 (by omega)
  s0 d hd := by
    show Re (at3 (val_main_v1 (F := Ideal) x0 x1) 0 q.val d)
    rw [at3_of _ (by omega) q.2 hd]; exact re_v1 h0 h1 q ⟨d, hd⟩
  tg d hd := re_at3 h14 (by omega) (by have := q.2; split_ifs <;> omega) hd
  tok := by
    show Re (if q.val < 16 then 0 else 1)
    exact Re.ite Re.zero Re.one

end

/-! ## The projection's gradient -/

/-- The transposed first convolution. -/
def TU (q d : ℕ) : EReal := ∑ k : Fin 31, at3 x4 0 k.val d * (if q + 30 - k.val < 4112 then (RQ x0 x1 x2 x3 x4 x5 x10 x14 (q + 30 - k.val)).dua1 (WQ x6 x7 x8 x9 x11 x12 x13) d else 0)
/-- The transposed second convolution. -/
def TV (q d : ℕ) : EReal := ∑ k : Fin 3, at3 x10 0 k.val d * (if q + 2 - k.val < 4112 then (RQ x0 x1 x2 x3 x4 x5 x10 x14 (q + 2 - k.val)).dc3 (WQ x6 x7 x8 x9 x11 x12 x13) d else 0)
/-- The gradient of the projection at row `q`, column `n`. -/
def DP (q n : ℕ) : EReal :=
  if n < 1024 then TU x0 x1 x2 x3 x4 x5 x6 x7 x8 x9 x10 x11 x12 x13 x14 q n * Ideal.logistic (at3 (val_main_v17 (F := Ideal) x0 x1 x2 x3) 0 q (1024 + n))
  else if n < 2048 then TU x0 x1 x2 x3 x4 x5 x6 x7 x8 x9 x10 x11 x12 x13 x14 q (n - 1024) * at3 (val_main_v17 (F := Ideal) x0 x1 x2 x3) 0 q (0 + (n - 1024))
    * (Ideal.logistic (at3 (val_main_v17 (F := Ideal) x0 x1 x2 x3) 0 q (1024 + (n - 1024))) * (1 - Ideal.logistic (at3 (val_main_v17 (F := Ideal) x0 x1 x2 x3) 0 q (1024 + (n - 1024)))))
  else if n < 3072 then (RQ x0 x1 x2 x3 x4 x5 x10 x14 q).paz (WQ x6 x7 x8 x9 x11 x12 x13) (n - 2048)
  else if n < 4096 then (RQ x0 x1 x2 x3 x4 x5 x10 x14 q).pbb (WQ x6 x7 x8 x9 x11 x12 x13) (n - 3072)
  else if n < 5120 then TV x0 x1 x2 x3 x4 x5 x6 x7 x8 x9 x10 x11 x12 x13 x14 q (n - 4096) * at3 (val_main_v17 (F := Ideal) x0 x1 x2 x3) 0 q (4096 + (1024 + (n - 4096)))
  else if n < 6144 then TV x0 x1 x2 x3 x4 x5 x6 x7 x8 x9 x10 x11 x12 x13 x14 q (n - 5120) * at3 (val_main_v17 (F := Ideal) x0 x1 x2 x3) 0 q (4096 + (0 + (n - 5120)))
  else if n < 7168 then (RQ x0 x1 x2 x3 x4 x5 x10 x14 q).pbz (WQ x6 x7 x8 x9 x11 x12 x13) (n - 6144)
  else if n < 8192 then (RQ x0 x1 x2 x3 x4 x5 x10 x14 q).pga (WQ x6 x7 x8 x9 x11 x12 x13) (n - 7168)
  else (RQ x0 x1 x2 x3 x4 x5 x10 x14 q).pgb (WQ x6 x7 x8 x9 x11 x12 x13) (n - 8192)

variable {x0 x1 x2 x3 x4 x5 x6 x7 x8 x9 x10 x11 x12 x13 x14} (hw : (WQ x6 x7 x8 x9 x11 x12 x13).Real) (hR : ∀ q : Fin 4112, (RQ x0 x1 x2 x3 x4 x5 x10 x14 q.val).Real)

variable (q : Fin 4112) (d : Fin 1024)

theorem v33_apply : val_main_v33 (F := Ideal) x0 x1 x2 x3 (ix3 0 q d) = Ideal.logistic (at3 (val_main_v17 (F := Ideal) x0 x1 x2 x3) 0 q.val (1024 + d.val)) := by
  rw [at3_lt _ (by omega) q.2 (by have := d.2; omega), ← logistic_eq]
  pointwise [val_main_v33, val_main_v32, val_main_v31, val_main_v30, val_main_v29, val_main_v28, val_main_v20, val_main_cst_3, val_main_cst_4]
theorem v36_apply : val_main_v36 (F := Ideal) x0 x1 x2 x3 (ix3 0 q d) = Ideal.logistic (at3 (val_main_v17 (F := Ideal) x0 x1 x2 x3) 0 q.val (1024 + d.val)) * (1 - Ideal.logistic (at3 (val_main_v17 (F := Ideal) x0 x1 x2 x3) 0 q.val (1024 + d.val))) := by
  rw [← v33_apply, ← one_eq]
  pointwise [val_main_v36, val_main_v35, val_main_v34, val_main_cst_5]
theorem v19_apply : val_main_v19 (F := Ideal) x0 x1 x2 x3 (ix3 0 q d) = at3 (val_main_v17 (F := Ideal) x0 x1 x2 x3) 0 q.val (0 + d.val) := by
  rw [at3_lt _ (by omega) q.2 (by have := d.2; omega)]
  pointwise [val_main_v19]
theorem v23_apply : val_main_v23 (F := Ideal) x0 x1 x2 x3 (ix3 0 q d) = at3 (val_main_v17 (F := Ideal) x0 x1 x2 x3) 0 q.val (4096 + (0 + d.val)) := by
  rw [at3_lt _ (by omega) q.2 (by have := d.2; omega)]
  pointwise [val_main_v23]
theorem v24_apply : val_main_v24 (F := Ideal) x0 x1 x2 x3 (ix3 0 q d) = at3 (val_main_v17 (F := Ideal) x0 x1 x2 x3) 0 q.val (4096 + (1024 + d.val)) := by
  rw [at3_lt _ (by omega) q.2 (by have := d.2; omega)]
  pointwise [val_main_v24]
  exact congrArg (fun k => val_main_v17 (F := Ideal) x0 x1 x2 x3 (ix3 0 q k)) (Fin.ext (by show 5120 + d.val = 4096 + (1024 + d.val); omega))

theorem v221_TV : val_main_v221 (F := Ideal) x0 x1 x2 x3 x4 x5 x6 x7 x8 x9 x10 x11 x12 x13 x14 (ix3 0 q d) = TV x0 x1 x2 x3 x4 x5 x6 x7 x8 x9 x10 x11 x12 x13 x14 q.val d.val := by
  rw [v221_apply]; unfold TV
  exact Finset.sum_congr rfl fun k _ => by rw [at3_ix x10 0 k d]; rfl
include hw hR in
theorem v284_TU : val_main_v284 (F := Ideal) x0 x1 x2 x3 x4 x5 x6 x7 x8 x9 x10 x11 x12 x13 x14 (ix3 0 q d) = TU x0 x1 x2 x3 x4 x5 x6 x7 x8 x9 x10 x11 x12 x13 x14 q.val d.val := by
  rw [v284_apply q d hw hR]; unfold TU
  exact Finset.sum_congr rfl fun k _ => by rw [at3_ix x4 0 k d]; rfl

theorem v225_apply : val_main_v225 (F := Ideal) x0 x1 x2 x3 x4 x5 x6 x7 x8 x9 x10 x11 x12 x13 x14 (ix3 0 q d) = TV x0 x1 x2 x3 x4 x5 x6 x7 x8 x9 x10 x11 x12 x13 x14 q.val d.val * at3 (val_main_v17 (F := Ideal) x0 x1 x2 x3) 0 q.val (4096 + (1024 + d.val)) := by
  rw [← v221_TV, ← v24_apply]; rfl
theorem v224_apply : val_main_v224 (F := Ideal) x0 x1 x2 x3 x4 x5 x6 x7 x8 x9 x10 x11 x12 x13 x14 (ix3 0 q d) = TV x0 x1 x2 x3 x4 x5 x6 x7 x8 x9 x10 x11 x12 x13 x14 q.val d.val * at3 (val_main_v17 (F := Ideal) x0 x1 x2 x3) 0 q.val (4096 + (0 + d.val)) := by
  rw [← v221_TV, ← v23_apply, mul_comm]; rfl
include hw hR in
theorem v288_apply : val_main_v288 (F := Ideal) x0 x1 x2 x3 x4 x5 x6 x7 x8 x9 x10 x11 x12 x13 x14 (ix3 0 q d) = TU x0 x1 x2 x3 x4 x5 x6 x7 x8 x9 x10 x11 x12 x13 x14 q.val d.val * Ideal.logistic (at3 (val_main_v17 (F := Ideal) x0 x1 x2 x3) 0 q.val (1024 + d.val)) := by
  rw [← v284_TU hw hR, ← v33_apply]; rfl
include hw hR in
theorem v289_apply : val_main_v289 (F := Ideal) x0 x1 x2 x3 x4 x5 x6 x7 x8 x9 x10 x11 x12 x13 x14 (ix3 0 q d) = TU x0 x1 x2 x3 x4 x5 x6 x7 x8 x9 x10 x11 x12 x13 x14 q.val d.val * at3 (val_main_v17 (F := Ideal) x0 x1 x2 x3) 0 q.val (0 + d.val)
    * (Ideal.logistic (at3 (val_main_v17 (F := Ideal) x0 x1 x2 x3) 0 q.val (1024 + d.val)) * (1 - Ideal.logistic (at3 (val_main_v17 (F := Ideal) x0 x1 x2 x3) 0 q.val (1024 + d.val)))) := by
  rw [← v284_TU hw hR, ← v36_apply, ← v19_apply, mul_comm (val_main_v284 (F := Ideal) x0 x1 x2 x3 x4 x5 x6 x7 x8 x9 x10 x11 x12 x13 x14 _)]; rfl

include hw hR in
/-- The gradient of the projection. -/
theorem v290_apply (n : Fin 9216) : val_main_v290 (F := Ideal) x0 x1 x2 x3 x4 x5 x6 x7 x8 x9 x10 x11 x12 x13 x14 (ix3 0 q n) = DP x0 x1 x2 x3 x4 x5 x6 x7 x8 x9 x10 x11 x12 x13 x14 q.val n.val := by
  have hn := n.2
  pointwise [val_main_v290]
  unfold DP
  by_cases h1 : n.val < 1024
  · have g : n.val < 1024 := by omega
    rw [dif_pos g, if_pos h1]
    obtain ⟨a, ha⟩ : ∃ a : Fin 1024, a.val = n.val := ⟨⟨n.val, by omega⟩, rfl⟩
    rw [show (⟨n.val, g⟩ : Fin 1024) = a from Fin.ext (by rw [ha]), v288_apply hw hR q a, ha]
  rw [dif_neg (by omega), if_neg h1]
  by_cases h2 : n.val < 2048
  · have g : n.val - 1024 < 1024 := by omega
    rw [dif_pos g, if_pos h2]
    obtain ⟨a, ha⟩ : ∃ a : Fin 1024, a.val = n.val - 1024 := ⟨⟨n.val - 1024, by omega⟩, rfl⟩
    rw [show (⟨n.val - 1024, g⟩ : Fin 1024) = a from Fin.ext (by rw [ha]), v289_apply hw hR q a, ha]
  rw [dif_neg (by omega), if_neg h2]
  by_cases h3 : n.val < 3072
  · have g : n.val - 1024 - 1024 < 1024 := by omega
    rw [dif_pos g, if_pos h3]
    obtain ⟨a, ha⟩ : ∃ a : Fin 1024, a.val = n.val - 2048 := ⟨⟨n.val - 2048, by omega⟩, rfl⟩
    rw [show (⟨n.val - 1024 - 1024, g⟩ : Fin 1024) = a from Fin.ext (by rw [ha]; show n.val - 1024 - 1024 = n.val - 2048; omega), v233_apply (q := q) (d := a) hw (hR q), ha]
  rw [dif_neg (by omega), if_neg h3]
  by_cases h4 : n.val < 4096
  · have g : n.val - 1024 - 1024 - 1024 < 1024 := by omega
    rw [dif_pos g, if_pos h4]
    obtain ⟨a, ha⟩ : ∃ a : Fin 1024, a.val = n.val - 3072 := ⟨⟨n.val - 3072, by omega⟩, rfl⟩
    rw [show (⟨n.val - 1024 - 1024 - 1024, g⟩ : Fin 1024) = a from Fin.ext (by rw [ha]; show n.val - 1024 - 1024 - 1024 = n.val - 3072; omega), v212_apply x0 x1 x2 x3 x4 x5 x6 x7 x8 x9 x10 x11 x12 x13 x14 q a, ha]
  rw [dif_neg (by omega), if_neg h4]
  by_cases h5 : n.val < 5120
  · have g : n.val - 1024 - 1024 - 1024 - 1024 < 1024 := by omega
    rw [dif_pos g, if_pos h5]
    obtain ⟨a, ha⟩ : ∃ a : Fin 1024, a.val = n.val - 4096 := ⟨⟨n.val - 4096, by omega⟩, rfl⟩
    rw [show (⟨n.val - 1024 - 1024 - 1024 - 1024, g⟩ : Fin 1024) = a from Fin.ext (by rw [ha]; show n.val - 1024 - 1024 - 1024 - 1024 = n.val - 4096; omega), v225_apply (x4 := x4) q a, ha]
  rw [dif_neg (by omega), if_neg h5]
  by_cases h6 : n.val < 6144
  · have g : n.val - 1024 - 1024 - 1024 - 1024 - 1024 < 1024 := by omega
    rw [dif_pos g, if_pos h6]
    obtain ⟨a, ha⟩ : ∃ a : Fin 1024, a.val = n.val - 5120 := ⟨⟨n.val - 5120, by omega⟩, rfl⟩
    rw [show (⟨n.val - 1024 - 1024 - 1024 - 1024 - 1024, g⟩ : Fin 1024) = a from Fin.ext (by rw [ha]; show n.val - 1024 - 1024 - 1024 - 1024 - 1024 = n.val - 5120; omega), v224_apply (x4 := x4) q a, ha]
  rw [dif_neg (by omega), if_neg h6]
  by_cases h7 : n.val < 7168
  · have g : n.val - 1024 - 1024 - 1024 - 1024 - 1024 - 1024 < 1024 := by omega
    rw [dif_pos g, if_pos h7]
    obtain ⟨a, ha⟩ : ∃ a : Fin 1024, a.val = n.val - 6144 := ⟨⟨n.val - 6144, by omega⟩, rfl⟩
    rw [show (⟨n.val - 1024 - 1024 - 1024 - 1024 - 1024 - 1024, g⟩ : Fin 1024) = a from Fin.ext (by rw [ha]; show n.val - 1024 - 1024 - 1024 - 1024 - 1024 - 1024 = n.val - 6144; omega), v210_apply (q := q) (d := a) hw (hR q), ha]
  rw [dif_neg (by omega), if_neg h7]
  by_cases h8 : n.val < 8192
  · have g : n.val - 1024 - 1024 - 1024 - 1024 - 1024 - 1024 - 1024 < 1024 := by omega
    rw [dif_pos g, if_pos h8]
    obtain ⟨a, ha⟩ : ∃ a : Fin 1024, a.val = n.val - 7168 := ⟨⟨n.val - 7168, by omega⟩, rfl⟩
    rw [show (⟨n.val - 1024 - 1024 - 1024 - 1024 - 1024 - 1024 - 1024, g⟩ : Fin 1024) = a from Fin.ext (by rw [ha]; show n.val - 1024 - 1024 - 1024 - 1024 - 1024 - 1024 - 1024 = n.val - 7168; omega), v206_apply x0 x1 x2 x3 x4 x5 x6 x7 x8 x9 x10 x11 x12 x13 x14 q a, ha]
  rw [dif_neg (by omega), if_neg h8]
  have g : n.val - 1024 - 1024 - 1024 - 1024 - 1024 - 1024 - 1024 - 1024 < 1024 := by omega
  obtain ⟨a, ha⟩ : ∃ a : Fin 1024, a.val = n.val - 8192 := ⟨⟨n.val - 8192, by omega⟩, rfl⟩
  rw [show (⟨n.val - 1024 - 1024 - 1024 - 1024 - 1024 - 1024 - 1024 - 1024, g⟩ : Fin 1024) = a from Fin.ext (by rw [ha]; show n.val - 1024 - 1024 - 1024 - 1024 - 1024 - 1024 - 1024 - 1024 = n.val - 8192; omega), v203_apply x0 x1 x2 x3 x4 x5 x6 x7 x8 x9 x10 x11 x12 x13 x14 q a, ha]

end Cert.Reference2Ideal.Fp

end
-- ==== Proof.Fp.Grad.lean ====
/- The gradients that pass through the layer norm and the two convolutions, as `_fused_pass` leaves them: sums over the
tiles' rows become sums over the reference's rows, and the transposed convolutions read the gradient's later rows. -/
module

public import proofs.«01_k».proof.Proof.Fp.Value
public import proofs.«01_k».proof.Proof.Fp.RefReal

@[expose] public section

set_option maxRecDepth 16384

noncomputable section

namespace Cert.Kernel2Ideal.Fp

open Idealize.ShloMosaic Idealize.ShloMosaic.TcCoe Idealize.ShloMosaic.Tactic
open Cert.Kernel2Ideal.Gen

/-! ## Rows that are no token's -/

theorem dyb_zero {R : Row} (w : Wts) (h : R.tok = 0) (d : ℕ) : R.dyb w d = 0 := by
  unfold Row.dyb Row.dm dotR
  simp only [ds1_zero w h, zero_mul, Finset.sum_const_zero]
theorem dpa_zero {R : Row} (w : Wts) (h : R.tok = 0) (d : ℕ) : R.dpa w d = 0 := by
  unfold Row.dpa dotR
  simp only [dya_zero w h, zero_mul, Finset.sum_const_zero]
theorem dpb_zero {R : Row} (w : Wts) (h : R.tok = 0) (d : ℕ) : R.dpb w d = 0 := by
  unfold Row.dpb dotR
  simp only [dyb_zero w h, zero_mul, Finset.sum_const_zero]
theorem dua2_zero {R : Row} (w : Wts) (h : R.tok = 0) (d : ℕ) : R.dua2 w d = 0 := by
  unfold Row.dua2; rw [dpa_zero w h, zero_mul, zero_mul]
theorem dxh_zero {R : Row} (w : Wts) (h : R.tok = 0) (d : ℕ) : R.dxh w d = 0 := by
  unfold Row.dxh; rw [dua2_zero w h, zero_mul]
theorem dua1_zero {R : Row} (w : Wts) (h : R.tok = 0) (d : ℕ) : R.dua1 w d = 0 := by
  unfold Row.dua1 mean
  simp only [dxh_zero w h, zero_mul, mul_zero, Finset.sum_const_zero, sub_zero]
theorem gLn_zero {R : Row} (w : Wts) (h : R.tok = 0) (d : ℕ) : R.gLn w d = 0 := by
  unfold Row.gLn; rw [dua2_zero w h, zero_mul]
theorem dc3_zero {R : Row} (w : Wts) (h : R.tok = 0) (d : ℕ) : R.dc3 w d = 0 := by
  unfold Row.dc3 Row.dub; rw [dpb_zero w h, zero_mul, zero_mul]

/-- A sum over the rows that meet later rows is one over the rows that meet earlier rows. -/
theorem sum_swap (f g : ℕ → EReal) (k n : ℕ) (hk : k ≤ n) : ∑ s : Fin 4112, f s.val * (if s.val + n - k < 4112 then g (s.val + n - k) else 0)
    = ∑ t : Fin 4112, g t.val * (if t.val + k < n then 0 else f (t.val + k - n)) := by
  have e1 : ∀ s : Fin 4112, f s.val * (if s.val + n - k < 4112 then g (s.val + n - k) else 0) = ∑ t : Fin 4112, f s.val * g t.val * (if s.val + n = t.val + k then (1 : EReal) else 0) := fun s => by
    rw [Cert.Reference2Ideal.Fp.pick2 s (fun t => f s.val * g t) k n hk, mul_ite, mul_zero]
  have e2 : ∀ t : Fin 4112, g t.val * (if t.val + k < n then 0 else f (t.val + k - n)) = ∑ s : Fin 4112, f s.val * g t.val * (if s.val + n = t.val + k then (1 : EReal) else 0) := fun t => by
    rw [Cert.Reference2Ideal.Fp.pick t (fun s => f s * g t.val) k n hk, mul_ite, mul_zero, mul_comm]
  rw [Finset.sum_congr rfl fun s _ => e1 s, Finset.sum_comm, Finset.sum_congr rfl fun t _ => e2 t]

/-- The eight sums of a tile's rows are one sum over its rows. -/
theorem fold_sum (U L : ℕ → ℕ → EReal) (h j d : ℕ) : ∑ e ∈ Finset.range 8, fold8 U L h j e d = ∑ r ∈ Finset.range 128, U (h + r) d * L (j + r) d := by
  unfold fold8
  rw [Finset.sum_comm, Finset.sum_range, Finset.sum_range]
  refine Eq.trans ?_ (Fin.sum_univ_univ_mul_add 16 8 fun r => U (h + r) d * L (j + r) d)
  refine Finset.sum_congr rfl fun q _ => ?_
  rw [Finset.sum_range]
  refine Finset.sum_congr rfl fun e _ => ?_
  rw [mul_comm 8 q.val]

variable (m : (ℓ : Loc nD τ sig) → Buf (Elt Ideal) ℓ) (c : Dev nD)

variable {T r : ℕ}

/-! ## The small block's rows -/

theorem small2 (d : Fin 1024) : oSmall (XN m c) 33 (ix2 ⟨2, by omega⟩ d) = ∑ q : Fin 4112, (rq m c q.val).gLn (wq m c) d.val := by
  rw [small_at m c (by omega)]
  exact (if_neg (by omega)).trans ((if_neg (by omega)).trans ((if_pos rfl).trans (sum_part m c (fun w R => R.gLn w d.val) fun w R h => gLn_zero w h _)))
theorem small3 (d : Fin 1024) : oSmall (XN m c) 33 (ix2 ⟨3, by omega⟩ d) = ∑ q : Fin 4112, (rq m c q.val).dua2 (wq m c) d.val := by
  rw [small_at m c (by omega)]
  exact (if_neg (by omega)).trans ((if_neg (by omega)).trans ((if_neg (by omega)).trans ((if_pos rfl).trans (sum_part m c (fun w R => R.dua2 w d.val) fun w R h => dua2_zero w h _))))
theorem small4 (d : Fin 1024) : oSmall (XN m c) 33 (ix2 ⟨4, by omega⟩ d) = ∑ q : Fin 4112, (rq m c q.val).dua1 (wq m c) d.val := by
  rw [small_at m c (by omega)]
  exact (if_neg (by omega)).trans ((if_neg (by omega)).trans ((if_neg (by omega)).trans ((if_neg (by omega)).trans ((if_pos rfl).trans (sum_part m c (fun w R => R.dua1 w d.val) fun w R h => dua1_zero w h _)))))

/-- The gradient at the first convolution's output: a tile and the rows after it. -/
theorem DU_at (d : ℕ) (hT : T < 33) {j : ℕ} (hj : j < 160) : DU (XN m c) T j d
    = if 128 * T + j < 112 then 0 else if 128 * T + j - 112 < 4112 then (rq m c (128 * T + j - 112)).dua1 (wq m c) d else 0 := by
  unfold DU
  by_cases h : j < 128
  · rw [if_pos h]
    by_cases g : 128 * T + j < 112
    · rw [if_pos g, dua1_zero _ (RT_zero m c g)]
    · rw [if_neg g, if_pos (by omega), RT_row m c hT h (by omega), wts_eq m c hT]
  · rw [if_neg h, if_neg (show ¬128 * T + j < 112 by omega)]
    by_cases g : T + 1 < 33
    · rw [if_pos g, if_pos (show 128 * T + j - 112 < 4112 by omega), RT_row m c g (by omega) (by omega), wts_eq m c g, show 128 * (T + 1) + (j - 128) - 112 = 128 * T + j - 112 by omega]
    · rw [if_neg g, if_neg (show ¬128 * T + j - 112 < 4112 by omega)]

/-- The gradient at the second convolution's output: a tile and the rows after it. -/
theorem DV_at (d : ℕ) (hT : T < 33) {j : ℕ} (hj : j < 160) : DV (XN m c) T j d
    = if 128 * T + j < 112 then 0 else if 128 * T + j - 112 < 4112 then (rq m c (128 * T + j - 112)).dc3 (wq m c) d else 0 := by
  unfold DV
  by_cases h : j < 128
  · rw [if_pos h]
    by_cases g : 128 * T + j < 112
    · rw [if_pos g, dc3_zero _ (RT_zero m c g)]
    · rw [if_neg g, if_pos (by omega), RT_row m c hT h (by omega), wts_eq m c hT]
  · rw [if_neg h, if_neg (show ¬128 * T + j < 112 by omega)]
    by_cases g : T + 1 < 33
    · rw [if_pos g, if_pos (show 128 * T + j - 112 < 4112 by omega), RT_row m c g (by omega) (by omega), wts_eq m c g, show 128 * (T + 1) + (j - 128) - 112 = 128 * T + j - 112 by omega]
    · rw [if_neg g, if_neg (show ¬128 * T + j - 112 < 4112 by omega)]

/-- The gradient of a tap of the first convolution. -/
theorem smallGA (k : Fin 31) (d : Fin 1024) : oSmall (XN m c) 33 (ix2 ⟨8 + k.val, by omega⟩ d)
    = ∑ t : Fin 4112, (rq m c t.val).dua1 (wq m c) d.val * (if t.val + k.val < 30 then 0 else ua m c (t.val + k.val - 30) d.val) := by
  show smT (XN m c) 33 (8 + k.val) d.val = _
  unfold smT
  rw [if_neg (by omega), if_pos (by omega), if_pos (by omega)]
  have e : ∀ x ∈ Finset.range 8, GAs (XN m c) 33 (8 * (8 + k.val - 8) + x) d.val = ∑ T ∈ Finset.range 33, fold8 (Uh (XN m c) T) (DU (XN m c) T) 32 (30 - k.val) x d.val := fun x hx => by
    have hx := Finset.mem_range.mp hx
    unfold GAs GA
    rw [show (8 * (8 + k.val - 8) + x) / 8 = k.val by omega, show (8 * (8 + k.val - 8) + x) % 8 = x by omega]
  rw [Finset.sum_congr rfl e, Finset.sum_comm, Finset.sum_congr rfl fun T _ => fold_sum _ _ _ _ _]
  rw [← sum_swap (fun s => ua m c s d.val) (fun t => (rq m c t).dua1 (wq m c) d.val) k.val 30 (by omega)]
  refine sum_tiles _ (fun s => ua m c s d.val * (if s + 30 - k.val < 4112 then (rq m c (s + 30 - k.val)).dua1 (wq m c) d.val else 0)) (fun T r hT hr g => ?_) (fun T r hT hr g => ?_)
  · rw [Uh_at m c d.2 T hT _ (by omega), if_pos (by omega), zero_mul]
  · rw [Uh_at m c d.2 T hT _ (by omega), if_neg (by omega), DU_at m c d.val hT (by omega), if_neg (by omega),
      show 128 * T + (32 + r) - 144 = 128 * T + r - 112 by omega, show 128 * T + (30 - k.val + r) - 112 = 128 * T + r - 112 + 30 - k.val by omega]

/-- The gradient of a tap of the second convolution. -/
theorem smallGB (k : Fin 3) (d : Fin 1024) : oSmall (XN m c) 33 (ix2 ⟨40 + k.val, by omega⟩ d)
    = ∑ t : Fin 4112, (rq m c t.val).dc3 (wq m c) d.val * (if t.val + k.val < 2 then 0 else vb m c (t.val + k.val - 2) d.val) := by
  show smT (XN m c) 33 (40 + k.val) d.val = _
  unfold smT
  rw [if_neg (by omega), if_pos (by omega), if_neg (by omega)]
  have e : ∀ x ∈ Finset.range 8, GBs (XN m c) 33 (8 * (40 + k.val - 40) + x) d.val = ∑ T ∈ Finset.range 33, fold8 (Vh (XN m c) T) (DV (XN m c) T) 8 (2 - k.val) x d.val := fun x hx => by
    have hx := Finset.mem_range.mp hx
    unfold GBs GB
    rw [show (8 * (40 + k.val - 40) + x) / 8 = k.val by omega, show (8 * (40 + k.val - 40) + x) % 8 = x by omega]
  rw [Finset.sum_congr rfl e, Finset.sum_comm, Finset.sum_congr rfl fun T _ => fold_sum _ _ _ _ _]
  rw [← sum_swap (fun s => vb m c s d.val) (fun t => (rq m c t).dc3 (wq m c) d.val) k.val 2 (by omega)]
  refine sum_tiles _ (fun s => vb m c s d.val * (if s + 2 - k.val < 4112 then (rq m c (s + 2 - k.val)).dc3 (wq m c) d.val else 0)) (fun T r hT hr g => ?_) (fun T r hT hr g => ?_)
  · rw [Vh_at m c d.2 T hT _ (by omega), if_pos (by omega), zero_mul]
  · rw [Vh_at m c d.2 T hT _ (by omega), if_neg (by omega), DV_at m c d.val hT (by omega), if_neg (by omega),
      show 128 * T + (8 + r) - 120 = 128 * T + r - 112 by omega, show 128 * T + (2 - k.val + r) - 112 = 128 * T + r - 112 + 2 - k.val by omega]

/-! ## The transposed convolutions -/

/-- The point after a tile's. -/
def pt1 (T : ℕ) (hT : T < 33) : Fin cfg0.N := ⟨T + 1, lt_of_lt_of_eq (show T + 1 < 34 by omega) N_0.symm⟩
theorem XN_pt1 (hT : T < 33) : XN m c (T + 1) = XF m c (pt1 T hT) := XN_eq m c (pt1 T hT)

theorem caw_at (hT : T < 33) {k d : ℕ} (hk : k < 31) (hd : d < 1024) : at2 (XN m c (T + 1)).caw k d = at3 (a4 m c) 0 k d := by
  rw [XN_pt1 m c hT]; dsimp only [XF]; rw [b6_eq, at2_of _ (by omega) hd, at3_of _ (by omega) hk hd]; exact v36_apply m c ⟨k, hk⟩ ⟨d, hd⟩
theorem cbw_at (hT : T < 33) {k d : ℕ} (hk : k < 3) (hd : d < 1024) : at2 (XN m c (T + 1)).cbw k d = at3 (a10 m c) 0 k d := by
  rw [XN_pt1 m c hT]; dsimp only [XF]; rw [b11_eq, at2_of _ (by omega) hd, at3_of _ (by omega) hk hd]; exact v39_apply m c ⟨k, hk⟩ ⟨d, hd⟩

theorem tU_row (hT : T < 33) (hr : r < 128) {q d : ℕ} (hd : d < 1024) (h : 128 * T + r = 112 + q) : tU (XN m c (T + 1)) (DU (XN m c) T) r d
    = Cert.Reference2Ideal.Fp.TU (a0 m c) (a1 m c) (a2 m c) (a3 m c) (a4 m c) (a5 m c) (a6 m c) (a7 m c) (a8 m c) (a9 m c) (a10 m c) (a11 m c) (a12 m c) (a13 m c) (a14 m c) q d := by
  unfold tU Cert.Reference2Ideal.Fp.TU
  rw [← Finset.sum_range_reflect, Finset.sum_range]
  refine Finset.sum_congr rfl fun k _ => ?_
  rw [show 30 - (31 - 1 - k.val) = k.val by omega, caw_at m c hT k.2 hd, DU_at m c d hT (by omega), if_neg (by omega),
    show 128 * T + (31 - 1 - k.val + r) - 112 = q + 30 - k.val by omega]

theorem tV_row (hT : T < 33) (hr : r < 128) {q d : ℕ} (hd : d < 1024) (h : 128 * T + r = 112 + q) : tV (XN m c (T + 1)) (DV (XN m c) T) r d
    = Cert.Reference2Ideal.Fp.TV (a0 m c) (a1 m c) (a2 m c) (a3 m c) (a4 m c) (a5 m c) (a6 m c) (a7 m c) (a8 m c) (a9 m c) (a10 m c) (a11 m c) (a12 m c) (a13 m c) (a14 m c) q d := by
  unfold tV Cert.Reference2Ideal.Fp.TV
  rw [← Finset.sum_range_reflect, Finset.sum_range]
  refine Finset.sum_congr rfl fun k _ => ?_
  rw [show 2 - (3 - 1 - k.val) = k.val by omega, cbw_at m c hT k.2 hd, DV_at m c d hT (by omega), if_neg (by omega),
    show 128 * T + (3 - 1 - k.val + r) - 112 = q + 2 - k.val by omega]

/-! ## The projection's columns read one point later -/

theorem idx2 : ∀ t : Fin cfg0.N, win0_1.index t = ![(t.val - 1 + 32) % 33, 0] ∧ win0_2.index t = ![(t.val - 1 + 32) % 33, 2] ∧ win0_19.index t = ![(t.val - 1 + 32) % 33, 0] := by decide +kernel

theorem b1_apply (t : Fin cfg0.N) (r : Fin 128) (n : Fin 2048) : X0_1 m c t (ix2 r n) = V m c main_v23 (ix2 ⟨128 * ((t.val - 1 + 32) % 33) + r.val, by omega⟩ ⟨n.val, by omega⟩) := by
  unfold X0_1 Pipeline.Window.fill
  rw [dif_pos (moved0_1 t _)]
  blk_ext [iblk, idx2 t]
theorem b2_apply (t : Fin cfg0.N) (r : Fin 128) (n : Fin 2048) : X0_2 m c t (ix2 r n) = V m c main_v23 (ix2 ⟨128 * ((t.val - 1 + 32) % 33) + r.val, by omega⟩ ⟨4096 + n.val, by omega⟩) := by
  unfold X0_2 Pipeline.Window.fill
  rw [dif_pos (moved0_2 t _)]
  blk_ext [iblk, idx2 t]

theorem aprev_row (hT : T < 33) (hr : r < 128) {q : ℕ} (h : 128 * T + r = 112 + q) {n : ℕ} (hn : n < 2048) : at2 (XN m c (T + 1)).aprev r n = at3 (pj m c) 0 q n := by
  have e : at2 (XN m c (T + 1)).aprev r n = at2 (XN m c T).proj r n := by
    rw [proj_raw m c hT hr (by omega), XN_pt1 m c hT]
    dsimp only [XF]
    rw [← v23_eq, at2_of _ hr hn]
    exact b1_apply m c (pt1 T hT) ⟨r, hr⟩ ⟨n, hn⟩
  rw [e, proj_row m c hT hr (by omega), h, Nat.add_sub_cancel_left]
theorem cprev_row (hT : T < 33) (hr : r < 128) {q : ℕ} (h : 128 * T + r = 112 + q) {n : ℕ} (hn : n < 2048) : at2 (XN m c (T + 1)).cprev r n = at3 (pj m c) 0 q (4096 + n) := by
  have e : at2 (XN m c (T + 1)).cprev r n = at2 (XN m c T).proj r (4096 + n) := by
    rw [proj_raw m c hT hr (by omega), XN_pt1 m c hT]
    dsimp only [XF]
    rw [← v23_eq, at2_of _ hr hn]
    exact b2_apply m c (pt1 T hT) ⟨r, hr⟩ ⟨n, hn⟩
  rw [e, proj_row m c hT hr (by omega), h, Nat.add_sub_cancel_left]

/-! ## The projection's gradient -/

/-- A row of the projection's gradient is the reference's. -/
theorem dpF_row (hT : T < 33) (hr : r < 128) {q : ℕ} (h : 128 * T + r = 112 + q) {n : ℕ} (hn : n < 9216) : dpF (XN m c) T r n = Cert.Reference2Ideal.Fp.DP (a0 m c) (a1 m c) (a2 m c) (a3 m c) (a4 m c) (a5 m c) (a6 m c) (a7 m c) (a8 m c) (a9 m c) (a10 m c) (a11 m c) (a12 m c) (a13 m c) (a14 m c) q n := by
  have hR : RT (XN m c) T r = rq m c q := by rw [RT_row m c hT hr (by omega), h, Nat.add_sub_cancel_left]
  have hw := wts_eq m c hT
  unfold dpF Cert.Reference2Ideal.Fp.DP
  by_cases h1 : n < 1024
  · rw [if_pos h1, if_pos h1]; unfold pAval sgA
    rw [tU_row m c hT hr h1 h, aprev_row m c hT hr h (by omega)]
  rw [if_neg h1, if_neg h1]
  by_cases h2 : n < 2048
  · rw [if_pos h2, if_pos h2]; unfold pAglu sgA
    rw [tU_row m c hT hr (by omega) h, aprev_row m c hT hr h (by omega), aprev_row m c hT hr h (by omega)]
  rw [if_neg h2, if_neg h2]
  by_cases h4 : n < 4096
  · rw [if_pos h4]; unfold stF; rw [hR, hw]
    by_cases h3 : n < 3072
    · rw [if_pos (by omega), if_pos h3]
    · rw [if_neg (by omega), if_pos (by omega), if_neg h3, if_pos h4, show n - 2048 - 1024 = n - 3072 by omega]
  rw [if_neg h4, if_neg (show ¬n < 3072 by omega), if_neg h4]
  by_cases h5 : n < 5120
  · rw [if_pos h5, if_pos h5]; unfold pBc
    rw [tV_row m c hT hr (by omega) h, cprev_row m c hT hr h (by omega)]
  rw [if_neg h5, if_neg h5]
  by_cases h6 : n < 6144
  · rw [if_pos h6, if_pos h6]; unfold pBx
    rw [tV_row m c hT hr (by omega) h, cprev_row m c hT hr h (by omega)]
  rw [if_neg h6, if_neg h6]
  unfold stF
  rw [hR, hw, if_neg (by omega), if_neg (by omega)]
  by_cases h7 : n < 7168
  · rw [if_pos (by omega), if_pos h7, show n - 4096 - 2048 = n - 6144 by omega]
  rw [if_neg (by omega), if_neg h7]
  by_cases h8 : n < 8192
  · rw [if_pos (by omega), if_pos h8, show n - 4096 - 3072 = n - 7168 by omega]
  rw [if_neg (by omega), if_neg h8, show n - 4096 - 4096 = n - 8192 by omega]

/-- The projection's gradient, as the launch leaves it. -/
def dpOut (i : S4224x9216.Idx) : EReal := dpF (XN m c) (tl (i 0).val) ((i 0).val % 128) (i 1).val

theorem dp_tile (t : ℕ) (ht : t < 34) (r : Fin 128) (d : Fin 9216) :
    oDproj (XN m c) t (ix2 r d) = dpOut m c (ix2 ⟨128 * ((t - 1 + 32) % 33) + r.val, by omega⟩ d) := by
  unfold dpOut
  dsimp only [ix2]
  rw [show tl (128 * ((t - 1 + 32) % 33) + r.val) = t - 1 by unfold tl; omega, show (128 * ((t - 1 + 32) % 33) + r.val) % 128 = r.val by omega]
  rfl

theorem arr19 : (dats m 0 c).arrAt 19 cfg0.N = dpOut m c := by
  refine (dats m 0 c).arrAt_eq_of_covers 19 _ (by decide +kernel) fun t hf y => ?_
  blk_simp
  obtain ⟨r, d, rfl⟩ : ∃ (r : Fin 128) (d : Fin 9216), y = ix2 r d := ⟨y 0, y 1, eq_ix2 y⟩
  refine (dp_tile m c t.val (lt_of_lt_of_eq t.2 N_0) r d).trans ?_
  refine congrArg _ ?_
  blk_ext [idx2 t]

theorem dpOut_row {R : Fin 4224} (q : Fin 4112) (n : Fin 9216) (h : R.val = if q.val < 16 then 4208 + q.val else q.val - 16) : dpOut m c (ix2 R n) = Cert.Reference2Ideal.Fp.DP (a0 m c) (a1 m c) (a2 m c) (a3 m c) (a4 m c) (a5 m c) (a6 m c) (a7 m c) (a8 m c) (a9 m c) (a10 m c) (a11 m c) (a12 m c) (a13 m c) (a14 m c) q.val n.val := by
  unfold dpOut
  dsimp only [ix2]
  refine dpF_row m c (Nat.mod_lt _ (by omega)) (Nat.mod_lt _ (by omega)) ?_ n.2
  have := q.2
  split_ifs at h <;> omega

theorem exit19 : Pipeline.withArrays (cfgs 0).spec c (V0 m c) (fun w => (dats m 0 c).arrAt w (cfgs 0).N) (Proc.devRef .tc main_v44_0) = dpOut m c :=
  (Pipeline.Dat.withArrays_arrAt (dats m 0 c) sharedIn0 (V0 m c) (A_eq m c) 19).trans (arr19 m c)

@[inherit_doc unp]
def unpW (x : Vec Ideal S4224x9216 .bf16) : Vec Ideal S1x4112x9216 .f32 :=
  extf (F := Ideal) .f32 (broadcastInDim S1x4112x9216 ![1, 2] bcast_S4112x9216_S1x4112x9216_1_2 (concatenate S4112x9216 0 [⟨S16x9216, extractStridedSlice S16x9216 ![4208, 0] x slices_S4224x9216_S16x9216_4208_0⟩,
    ⟨S4096x9216, extractStridedSlice S4096x9216 ![0, 0] x slices_S4224x9216_S4096x9216_0_0⟩] concatenates_S16x9216_S4096x9216_S4112x9216_d0)) bitsLt_bf16_f32

/-- The projection's gradient. -/
theorem out_dproj (q : Fin 4112) (n : Fin 9216) : ret m c main_v66 (ix3 0 q n) = Cert.Reference2Ideal.Fp.DP (a0 m c) (a1 m c) (a2 m c) (a3 m c) (a4 m c) (a5 m c) (a6 m c) (a7 m c) (a8 m c) (a9 m c) (a10 m c) (a11 m c) (a12 m c) (a13 m c) (a14 m c) q.val n.val := by
  have e : ret m c main_v66 = unpW (dpOut m c) := by
    rw [← exit19]
    unfold ret Pipeline.afterTail₀
    simp only [hostOps1, List.flatten_cons, List.flatten_nil, List.append_nil]
    after_reads_simp; rfl
  rw [e]
  pointwise [unpW]
  by_cases h : q.val < 16
  · rw [dif_pos h]; exact dpOut_row m c q n (by rw [if_pos h])
  · rw [dif_neg h]; exact dpOut_row m c q n (by rw [if_neg h])

/-! ## The small results -/

/-- The first convolution's weight's gradient. -/
theorem out_caw (k : Fin 31) (d : Fin 1024) : ret m c main_v68 (ix3 0 k d) = ∑ t : Fin 4112, (rq m c t.val).dua1 (wq m c) d.val * (if t.val + k.val < 30 then 0 else ua m c (t.val + k.val - 30) d.val) := by
  rw [← smallGA]
  unfold ret Pipeline.afterTail₀
  simp only [hostOps1, List.flatten_cons, List.flatten_nil, List.append_nil]
  after_reads_simp
  rw [exit23]
  pointwise

/-- The first convolution's bias's gradient. -/
theorem out_cab (d : Fin 1024) : ret m c main_v69 (ix2 0 d) = ∑ q : Fin 4112, (rq m c q.val).dua1 (wq m c) d.val := by
  rw [← small4]
  unfold ret Pipeline.afterTail₀
  simp only [hostOps1, List.flatten_cons, List.flatten_nil, List.append_nil]
  after_reads_simp
  rw [exit23]
  pointwise

/-- The layer norm's gain's gradient. -/
theorem out_lng (d : Fin 1024) : ret m c main_v70 (ix2 0 d) = ∑ q : Fin 4112, (rq m c q.val).gLn (wq m c) d.val := by
  rw [← small2]
  unfold ret Pipeline.afterTail₀
  simp only [hostOps1, List.flatten_cons, List.flatten_nil, List.append_nil]
  after_reads_simp
  rw [exit23]
  pointwise

/-- The layer norm's bias's gradient. -/
theorem out_lnb (d : Fin 1024) : ret m c main_v71 (ix2 0 d) = ∑ q : Fin 4112, (rq m c q.val).dua2 (wq m c) d.val := by
  rw [← small3]
  unfold ret Pipeline.afterTail₀
  simp only [hostOps1, List.flatten_cons, List.flatten_nil, List.append_nil]
  after_reads_simp
  rw [exit23]
  pointwise

/-- The second convolution's weight's gradient. -/
theorem out_cbw (k : Fin 3) (d : Fin 1024) : ret m c main_v73 (ix3 0 k d) = ∑ t : Fin 4112, (rq m c t.val).dc3 (wq m c) d.val * (if t.val + k.val < 2 then 0 else vb m c (t.val + k.val - 2) d.val) := by
  rw [← smallGB]
  unfold ret Pipeline.afterTail₀
  simp only [hostOps1, List.flatten_cons, List.flatten_nil, List.append_nil]
  after_reads_simp
  rw [exit23]
  pointwise

end Cert.Kernel2Ideal.Fp

end
-- ==== Proof.Fp.Claims.lean ====
/- The claims on `_fused_pass`: the frames of the kernel and of the reference, and the equality of their results over
the extended reals. -/
module

public import proofs.«01_k».proof.Defs
public import proofs.«01_k».proof.Proof.Gen.Kernel2
public import proofs.«01_k».proof.Proof.Fp.Frame
public import proofs.«01_k».proof.Proof.Gen.Reference2Ideal
public import proofs.«01_k».proof.Proof.Gen.Reference2Ideal.Run
public import proofs.«01_k».proof.Proof.Gen.Reference2Ideal.Read
public import proofs.«01_k».proof.Proof.Fp.Pre
public import proofs.«01_k».proof.Proof.Fp.Grad

@[expose] public section

set_option maxRecDepth 16384

noncomputable section

namespace Cert.Proof.Fp

open Idealize.ShloMosaic Idealize.ShloMosaic.Tactic Idealize.SL.Sem Cert.Kernel2Ideal.Fp

set_option maxHeartbeats 4000000 in
/-- The printed kernel and its idealization are one program, run here at the words. -/
theorem frame_kernel : Cert.quiescent_Kernel2 (hKernel2 := Cert.Kernel2.Gen.facts) := by
  intro m g _
  exact Eq.mp (by sl_kernel_rfl) (frame (F := Bits) m g)

set_option maxHeartbeats 4000000 in
/-- The idealized kernel's frame. -/
theorem frame_ideal : Cert.quiescent_Kernel2Ideal (hKernel2Ideal := Cert.Kernel2Ideal.Gen.facts) := fun m g _ => frame (F := Ideal) m g

set_option maxHeartbeats 4000000 in
/-- The reference's frame. -/
theorem frame_ref : Cert.quiescent_Reference2Ideal (hReference2Ideal := Cert.Reference2Ideal.Gen.facts) := by
  intro m g _
  exact (θ_run Cert.Reference2Ideal.defs _ _).mono (fun r h => ⟨fun c => (h c).2.2.2.2.2.2.2.2.2.2.2.2, sem_eq_zero_of_no_sems (by decide) r.2⟩)
    (Cert.Reference2Ideal.Value.run m g)

/-- The idealized kernel's frame again, of arguments that are all finite. -/
theorem frame_ideal_finite : Cert.quiescent_Kernel2Ideal_pre_finite (hKernel2Ideal := Cert.Kernel2Ideal.Gen.facts) (hPre_finite := Cert.Pre_finite.Gen.facts) :=
  fun m g _ => frame_ideal m g trivial

/-- The reference's frame again, of arguments that are all finite. -/
theorem frame_ref_finite : Cert.quiescent_Reference2Ideal_pre_finite (hReference2Ideal := Cert.Reference2Ideal.Gen.facts) (hPre_finite := Cert.Pre_finite.Gen.facts) :=
  fun m g _ => frame_ref m g trivial

set_option maxHeartbeats 8000000 in
/-- Of finite arguments the loss and the gradients are the reference's. -/
theorem algebraic : Cert.algebraic_Kernel2Ideal_Reference2Ideal_pre_finite (hKernel2Ideal := Cert.Kernel2Ideal.Gen.facts) (hReference2Ideal := Cert.Reference2Ideal.Gen.facts) (hPre_finite := Cert.Pre_finite.Gen.facts) := by
  intro m g m' g' hpre hagree
  refine ⟨fun c => ret m c Cert.Kernel2Ideal.main_v46, fun c => ret m c Cert.Kernel2Ideal.main_v50, fun c => ret m c Cert.Kernel2Ideal.main_v51, fun c => ret m c Cert.Kernel2Ideal.main_v53, fun c => ret m c Cert.Kernel2Ideal.main_v57, fun c => ret m c Cert.Kernel2Ideal.main_v61, fun c => ret m c Cert.Kernel2Ideal.main_v66, fun c => ret m c Cert.Kernel2Ideal.main_v68, fun c => ret m c Cert.Kernel2Ideal.main_v69, fun c => ret m c Cert.Kernel2Ideal.main_v70, fun c => ret m c Cert.Kernel2Ideal.main_v71, fun c => ret m c Cert.Kernel2Ideal.main_v73, ?_, ?_⟩
  · refine (θ_run _ _ _).mono (fun r h c => ⟨?_, ?_, ?_, ?_, ?_, ?_, ?_, ?_, ?_, ?_, ?_, ?_, h.2.1 c⟩) (θ_run_and (run_main m g) (frame (F := Ideal) m g)) <;> exact (h.1.1 c).2 _ (by decide)
  · refine (θ_run _ _ _).mono (fun r h c => ?_) (Cert.Reference2Ideal.Value.run m' g')
    obtain ⟨h0, h1, h2, h3, h4, h5, h6, h7, h8, h9, h10, h11, hargs⟩ := h c
    obtain ⟨p0, p1, p2, p3, p4, p5, p6, p7, p8, p9, p10, p11, p12, p13, p14⟩ := finite_re (a0 m c) (a1 m c) (a2 m c) (a3 m c) (a4 m c) (a5 m c) (a6 m c) (a7 m c) (a8 m c) (a9 m c) (a10 m c) (a11 m c) (a12 m c) (a13 m c) (a14 m c) (hpre c)
    have hw : (wq m c).Real := Cert.Reference2Ideal.Fp.WQ_real _ _ _ _ _ _ _ p6 p7 p8 p9 p11 p12 p13
    have hR : ∀ q : Fin 4112, (rq m c q.val).Real := fun q => Cert.Reference2Ideal.Fp.RQ_real _ _ _ _ p0 p1 p2 p3 p4 p5 p10 p14 q
    obtain ⟨e0, e1, e2, e3, e4, e5, e6, e7, e8, e9, e10, e11, e12, e13, e14⟩ := hagree c
    refine ⟨h0.trans ?_, h1.trans ?_, h2.trans ?_, h3.trans ?_, h4.trans ?_, h5.trans ?_, h6.trans ?_, h7.trans ?_, h8.trans ?_, h9.trans ?_, h10.trans ?_, h11.trans ?_, hargs⟩
    · refine (Cert.Reference2Ideal.Read.val_main_v170_eq _).trans ?_
      show Cert.Reference2Ideal.Read.val_main_v170 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      exact (Cert.Reference2Ideal.Fp.v170_apply (a0 m c) (a1 m c) (a2 m c) (a3 m c) (a4 m c) (a5 m c) (a6 m c) (a7 m c) (a8 m c) (a9 m c) (a10 m c) (a11 m c) (a12 m c) (a13 m c) (a14 m c) y).trans (out_loss m c y).symm
    · refine (Cert.Reference2Ideal.Read.val_main_v199_eq _).trans ?_
      show Cert.Reference2Ideal.Read.val_main_v199 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, r, k, rfl⟩ : ∃ (a : Fin 1) (r : Fin 4112) (k : Fin 1024), y = ix3 a r k := ⟨y 0, y 1, y 2, eq_ix3 y⟩
      obtain rfl : a = 0 := Subsingleton.elim _ _
      exact (Cert.Reference2Ideal.Fp.v199_apply (a0 m c) (a1 m c) (a2 m c) (a3 m c) (a4 m c) (a5 m c) (a6 m c) (a7 m c) (a8 m c) (a9 m c) (a10 m c) (a11 m c) (a12 m c) (a13 m c) (a14 m c) r k).trans (out_ds m c r k).symm
    · refine (Cert.Reference2Ideal.Read.val_main_v229_eq _).trans ?_
      show Cert.Reference2Ideal.Read.val_main_v229 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, k, rfl⟩ : ∃ (a : Fin 1) (k : Fin 1024), y = ix2 a k := ⟨y 0, y 1, eq_ix2 y⟩
      obtain rfl : a = 0 := Subsingleton.elim _ _
      exact (Cert.Reference2Ideal.Fp.v229_apply (a0 m c) (a1 m c) (a2 m c) (a3 m c) (a4 m c) (a5 m c) (a6 m c) (a7 m c) (a8 m c) (a9 m c) (a10 m c) (a11 m c) (a12 m c) (a13 m c) (a14 m c) k).trans (out_bao m c k).symm
    · refine (Cert.Reference2Ideal.Read.val_main_v184_eq _).trans ?_
      show Cert.Reference2Ideal.Read.val_main_v184 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨k, rfl⟩ : ∃ (k : Fin 1024), y = ix1 k := ⟨y 0, eq_ix1 y⟩
      exact (Cert.Reference2Ideal.Fp.v184_apply (a0 m c) (a1 m c) (a2 m c) (a3 m c) (a4 m c) (a5 m c) (a6 m c) (a7 m c) (a8 m c) (a9 m c) (a10 m c) (a11 m c) (a12 m c) (a13 m c) (a14 m c) k).trans (out_fng m c k).symm
    · refine (Cert.Reference2Ideal.Read.val_main_v171_eq _).trans ?_
      show Cert.Reference2Ideal.Read.val_main_v171 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) = _
      rw [e0, e1, e2, e3, e4, e5, e6, e7, e8, e9, e10, e11]
      funext y
      obtain ⟨a, r, k, rfl⟩ : ∃ (a : Fin 3) (r : Fin 4112) (k : Fin 1024), y = ix3 a r k := ⟨y 0, y 1, y 2, eq_ix3 y⟩
      exact (Cert.Reference2Ideal.Fp.v171_apply (a0 m c) (a1 m c) (a2 m c) (a3 m c) (a4 m c) (a5 m c) (a6 m c) (a7 m c) (a8 m c) (a9 m c) (a10 m c) (a11 m c) (a12 m c) (a13 m c) (a14 m c) r k a).trans (out_lhs m c a r k).symm
    · refine (Cert.Reference2Ideal.Read.val_main_v291_eq _).trans ?_
      show Cert.Reference2Ideal.Read.val_main_v291 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, r, k, rfl⟩ : ∃ (a : Fin 3) (r : Fin 4112) (k : Fin 1024), y = ix3 a r k := ⟨y 0, y 1, y 2, eq_ix3 y⟩
      exact (Cert.Reference2Ideal.Fp.v291_apply (a0 m c) (a1 m c) (a2 m c) (a3 m c) (a4 m c) (a5 m c) (a6 m c) (a7 m c) (a8 m c) (a9 m c) (a10 m c) (a11 m c) (a12 m c) (a13 m c) (a14 m c) r k a).trans (out_rhs m c a r k).symm
    · refine (Cert.Reference2Ideal.Read.val_main_v290_eq _).trans ?_
      show Cert.Reference2Ideal.Read.val_main_v290 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, r, k, rfl⟩ : ∃ (a : Fin 1) (r : Fin 4112) (k : Fin 9216), y = ix3 a r k := ⟨y 0, y 1, y 2, eq_ix3 y⟩
      obtain rfl : a = 0 := Subsingleton.elim _ _
      exact (Cert.Reference2Ideal.Fp.v290_apply hw hR r k).trans (out_dproj m c r k).symm
    · refine (Cert.Reference2Ideal.Read.val_main_v286_eq _).trans ?_
      show Cert.Reference2Ideal.Read.val_main_v286 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, r, k, rfl⟩ : ∃ (a : Fin 1) (r : Fin 31) (k : Fin 1024), y = ix3 a r k := ⟨y 0, y 1, y 2, eq_ix3 y⟩
      obtain rfl : a = 0 := Subsingleton.elim _ _
      exact (Cert.Reference2Ideal.Fp.v286_apply k hw hR r).trans (out_caw m c r k).symm
    · refine (Cert.Reference2Ideal.Read.val_main_v275_eq _).trans ?_
      show Cert.Reference2Ideal.Read.val_main_v275 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, k, rfl⟩ : ∃ (a : Fin 1) (k : Fin 1024), y = ix2 a k := ⟨y 0, y 1, eq_ix2 y⟩
      obtain rfl : a = 0 := Subsingleton.elim _ _
      exact (Cert.Reference2Ideal.Fp.v275_apply k hw hR).trans (out_cab m c k).symm
    · refine (Cert.Reference2Ideal.Read.val_main_v271_eq _).trans ?_
      show Cert.Reference2Ideal.Read.val_main_v271 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, k, rfl⟩ : ∃ (a : Fin 1) (k : Fin 1024), y = ix2 a k := ⟨y 0, y 1, eq_ix2 y⟩
      obtain rfl : a = 0 := Subsingleton.elim _ _
      exact (Cert.Reference2Ideal.Fp.v271_apply k hw hR).trans (out_lng m c k).symm
    · refine (Cert.Reference2Ideal.Read.val_main_v270_eq _).trans ?_
      show Cert.Reference2Ideal.Read.val_main_v270 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, k, rfl⟩ : ∃ (a : Fin 1) (k : Fin 1024), y = ix2 a k := ⟨y 0, y 1, eq_ix2 y⟩
      obtain rfl : a = 0 := Subsingleton.elim _ _
      exact (Cert.Reference2Ideal.Fp.v270_apply k hw hR).trans (out_lnb m c k).symm
    · refine (Cert.Reference2Ideal.Read.val_main_v223_eq _).trans ?_
      show Cert.Reference2Ideal.Read.val_main_v223 (F := Ideal) (m' ((c.tc : Thread Cert.Reference2Ideal.nD Cert.Reference2Ideal.τ).loc Cert.Reference2Ideal.main_arg0)) (m' ((c.tc : Thread Cert.Reference2Ideal.nD Cert.Reference2Ideal.τ).loc Cert.Reference2Ideal.main_arg1)) (m' ((c.tc : Thread Cert.Reference2Ideal.nD Cert.Reference2Ideal.τ).loc Cert.Reference2Ideal.main_arg2)) (m' ((c.tc : Thread Cert.Reference2Ideal.nD Cert.Reference2Ideal.τ).loc Cert.Reference2Ideal.main_arg3)) (m' ((c.tc : Thread Cert.Reference2Ideal.nD Cert.Reference2Ideal.τ).loc Cert.Reference2Ideal.main_arg4)) (m' ((c.tc : Thread Cert.Reference2Ideal.nD Cert.Reference2Ideal.τ).loc Cert.Reference2Ideal.main_arg5)) (m' ((c.tc : Thread Cert.Reference2Ideal.nD Cert.Reference2Ideal.τ).loc Cert.Reference2Ideal.main_arg6)) (m' ((c.tc : Thread Cert.Reference2Ideal.nD Cert.Reference2Ideal.τ).loc Cert.Reference2Ideal.main_arg7)) (m' ((c.tc : Thread Cert.Reference2Ideal.nD Cert.Reference2Ideal.τ).loc Cert.Reference2Ideal.main_arg8)) (m' ((c.tc : Thread Cert.Reference2Ideal.nD Cert.Reference2Ideal.τ).loc Cert.Reference2Ideal.main_arg9)) (m' ((c.tc : Thread Cert.Reference2Ideal.nD Cert.Reference2Ideal.τ).loc Cert.Reference2Ideal.main_arg10)) (m' ((c.tc : Thread Cert.Reference2Ideal.nD Cert.Reference2Ideal.τ).loc Cert.Reference2Ideal.main_arg11)) (m' ((c.tc : Thread Cert.Reference2Ideal.nD Cert.Reference2Ideal.τ).loc Cert.Reference2Ideal.main_arg12)) (m' ((c.tc : Thread Cert.Reference2Ideal.nD Cert.Reference2Ideal.τ).loc Cert.Reference2Ideal.main_arg13)) (m' ((c.tc : Thread Cert.Reference2Ideal.nD Cert.Reference2Ideal.τ).loc Cert.Reference2Ideal.main_arg14)) = _
      rw [e0, e1, e2, e3, e4, e5, e6, e7, e8, e9, e10, e11, e12, e13, e14]
      funext y
      obtain ⟨a, r, k, rfl⟩ : ∃ (a : Fin 1) (r : Fin 3) (k : Fin 1024), y = ix3 a r k := ⟨y 0, y 1, y 2, eq_ix3 y⟩
      obtain rfl : a = 0 := Subsingleton.elim _ _
      exact (Cert.Reference2Ideal.Fp.v223_apply (a0 m c) (a1 m c) (a2 m c) (a3 m c) (a4 m c) (a5 m c) (a6 m c) (a7 m c) (a8 m c) (a9 m c) (a10 m c) (a11 m c) (a12 m c) (a13 m c) (a14 m c) k r).trans (out_cbw m c r k).symm

end Cert.Proof.Fp

end
-- ==== Proof.Go.Arr.lean ====
/- The result array of `_grad_w_out`: at a weight, a row and a column the sum over all padded rows of the two operands'
products. -/
module

public import proofs.«01_k».proof.Proof.Gen.Kernel3Ideal.Frame
public import proofs.«01_k».proof.Proof.Gen.Kernel3Ideal.Skeleton
public import Idealize.ShloMosaic.Lib.Pipeline.ValueKit
public import Idealize.ShloMosaic.Lib.Pointwise

@[expose] public section

set_option maxRecDepth 16384

noncomputable section

namespace Cert.Kernel3Ideal.Go

open Idealize.ShloMosaic Idealize.ShloMosaic.TcCoe Idealize.ShloMosaic.Tactic
open Cert.Kernel3Ideal.Gen

/-- The row of a weight's gradient that device `a` holds as its row `b`. -/
abbrev col (a : Fin 8) (b : Fin 128) : Fin 1024 := ⟨a.val * 128 + b.val, by omega⟩

variable (m : (ℓ : Loc nD τ sig) → Buf (Elt Ideal) ℓ) (c : Dev nD)

/-- A tile's product, added to the block. -/
theorem pay_apply (o : Vec Ideal S8x1x128x1024 .f32) (x0 x1 : Vec Ideal S1x1408x1024 .bf16) (a : Fin 8) (b : Fin 128) (k : Fin 1024) :
    k0_pay2 o x0 x1 (ix4 a 0 b k)
      = o (ix4 a 0 b k) + ∑ r : Fin 1408, x0 (ix3 0 r (col a b)) * x1 (ix3 0 r k) := by
  pointwise [k0_pay2]

/-- The block is set to zeros. -/
theorem zero_apply (i : S8x1x128x1024.Idx) : k0_pay1 (F := Ideal) i = (0 : EReal) := by
  pointwise [k0_pay1]

theorem lt_9 (t : Fin cfg0.N) : t.val < 9 := lt_of_lt_of_eq t.isLt N_0

/-- Each window's block index at a point. -/
theorem idx : ∀ t : Fin cfg0.N, win0_0.index t = ![t.val / 3, t.val % 3, 0] ∧ win0_1.index t = ![t.val / 3, t.val % 3, 0]
    ∧ win0_2.index t = ![0, t.val / 3, 0, 0] := by decide +kernel

theorem b0_apply (t : Fin cfg0.N) (r : Fin 1408) (k : Fin 1024) : iblk m c 0 t (ix3 0 r k)
    = V m c main_v138 (ix3 ⟨t.val / 3, by have := lt_9 t; omega⟩ ⟨t.val % 3 * 1408 + r.val, by omega⟩ k) := by
  have := lt_9 t
  blk_ext [iblk, idx t]
theorem b1_apply (t : Fin cfg0.N) (r : Fin 1408) (k : Fin 1024) : iblk m c 1 t (ix3 0 r k)
    = V m c main_v143 (ix3 ⟨t.val / 3, by have := lt_9 t; omega⟩ ⟨t.val % 3 * 1408 + r.val, by omega⟩ k) := by
  have := lt_9 t
  blk_ext [iblk, idx t]

/-- The operands. -/
abbrev lhs : Vec Ideal S3x4224x1024 .bf16 := V m c main_v138
abbrev rhs : Vec Ideal S3x4224x1024 .bf16 := V m c main_v143

/-- The product over all padded rows, at an index of the result array. -/
def prod (i : S8x3x128x1024.Idx) : EReal :=
  ∑ r : Fin 4224, (lhs m c (ix3 (i 1) r (col (i 0) (i 2))) : EReal) * rhs m c (ix3 (i 1) r (i 3))

/-- A tile's term at an index of the block. -/
def term (t : Fin cfg0.N) (i : S8x1x128x1024.Idx) : EReal :=
  ∑ r : Fin 1408, @HMul.hMul EReal EReal EReal _ (iblk m c 0 t (ix3 0 r (col (i 0) (i 2)))) (iblk m c 1 t (ix3 0 r (i 3)))

theorem pay_term (o : Vec Ideal S8x1x128x1024 .f32) (t : Fin cfg0.N) (i : S8x1x128x1024.Idx) :
    k0_pay2 o (iblk m c 0 t) (iblk m c 1 t) i = (o i : EReal) + term m c t i := by
  obtain ⟨a, z, b, k, rfl⟩ : ∃ (a : Fin 8) (z : Fin 1) (b : Fin 128) (k : Fin 1024), i = ix4 a z b k := ⟨i 0, i 1, i 2, i 3, eq_ix4 i⟩
  obtain rfl : z = 0 := Subsingleton.elim _ _
  exact pay_apply o _ _ a b k

/-- A block when it is written back: the sum over its three tiles. -/
theorem out_eq (t : Fin cfg0.N) (h : t.val % 3 = 2) (a : Fin 8) (b : Fin 128) (k : Fin 1024) :
    outsAt0 m c t.val t.isLt (ix4 a 0 b k) = prod m c (ix4 a ⟨t.val / 3, by have := lt_9 t; omega⟩ b k) := by
  have ht := lt_9 t
  rw [Pipeline.eq_sum_fin_of_reset_step_apply_of_flush (M := EReal) (fun n h => outsAt0 m c n h) 3 (fun _ => 0) (term m c)
    (fun t h j => by rw [outsAt0_A m c t h]; frame_out; rw [pay_term, zero_apply])
    (fun t h j => by rw [outsAt0_B m c t h]; frame_out; rw [pay_term]) t h (ix4 a 0 b k), zero_add]
  refine Fin.sum_mul_add_congr fun s r hl => ?_
  have e1 : (3 * (t.val / 3) + s.val) / 3 = t.val / 3 := by omega
  have e2 : (3 * (t.val / 3) + s.val) % 3 = s.val := by omega
  refine congrArg₂ (· * ·) ((b0_apply m c _ r (col a b)).trans (congrArg _ ?_)) ((b1_apply m c _ r k).trans (congrArg _ ?_)) <;>
  exact congr (congr (congrArg ix3 (Fin.ext e1)) (Fin.ext (by simp only [e2]))) rfl

/-- The result array. -/
theorem arr2 : (dats m 0 c).arrAt 2 cfg0.N = prod m c := by
  refine (dats m 0 c).arrAt_eq_of_covers 2 _ (by decide +kernel) fun t hf y => ?_
  blk_simp
  rw [after0_2]
  obtain ⟨a, z, b, k, rfl⟩ : ∃ (a : Fin 8) (z : Fin 1) (b : Fin 128) (k : Fin 1024), y = ix4 a z b k := ⟨y 0, y 1, y 2, y 3, eq_ix4 y⟩
  obtain rfl : z = 0 := Subsingleton.elim _ _
  rw [out_eq m c t ((flush0_2 t).mp hf)]
  refine congrArg _ ?_
  blk_ext [idx t]

end Cert.Kernel3Ideal.Go

end
-- ==== Proof.Go.Host.lean ====
/- The rows that the three products of `_grad_w_out` take: the kernel's host lines leave in each buffer the reference's own
value of the same forward line. -/
module

public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pointwise
public import Idealize.ShloMosaic.Lib.StableHlo.RunRead

@[expose] public section

set_option maxRecDepth 16384

noncomputable section

namespace Cert.Kernel3Ideal.Go

open Idealize.ShloMosaic Idealize.ShloMosaic.TcCoe Idealize.ShloMosaic.Tactic
open Cert.Kernel3Ideal.Gen

variable (m : (ℓ : Loc nD τ sig) → Buf (Elt Ideal) ℓ) (c : Dev nD)

abbrev a0 : Vec Ideal S1x4096x1024 .f32 := m ((c : Thread nD τ).loc main_arg0)
abbrev a1 : Vec Ideal S16x1024 .f32 := m ((c : Thread nD τ).loc main_arg1)
abbrev a2 : Vec Ideal S1x1024 .f32 := m ((c : Thread nD τ).loc main_arg2)
abbrev a3 : Vec Ideal S1x1024x9216 .f32 := m ((c : Thread nD τ).loc main_arg3)
abbrev a4 : Vec Ideal S1x31x1024 .f32 := m ((c : Thread nD τ).loc main_arg4)
abbrev a5 : Vec Ideal S1x1024 .f32 := m ((c : Thread nD τ).loc main_arg5)
abbrev a6 : Vec Ideal S1x1024 .f32 := m ((c : Thread nD τ).loc main_arg6)
abbrev a7 : Vec Ideal S1x1024 .f32 := m ((c : Thread nD τ).loc main_arg7)
abbrev a8 : Vec Ideal S1x1024x1024 .f32 := m ((c : Thread nD τ).loc main_arg8)
abbrev a9 : Vec Ideal S1x1024 .f32 := m ((c : Thread nD τ).loc main_arg9)
abbrev a10 : Vec Ideal S1x3x1024 .f32 := m ((c : Thread nD τ).loc main_arg10)
abbrev a11 : Vec Ideal S1x1024x1024 .f32 := m ((c : Thread nD τ).loc main_arg11)
abbrev a13 : Vec Ideal S1x4112x1024 .f32 := m ((c : Thread nD τ).loc main_arg13)
abbrev a14 : Vec Ideal S1x4112x1024 .f32 := m ((c : Thread nD τ).loc main_arg14)
abbrev a15 : Vec Ideal S1x4112x1024 .f32 := m ((c : Thread nD τ).loc main_arg15)

/-- The first mixer's gated rows. -/
abbrev pa : Vec Ideal S1x4112x1024 .f32 := Cert.Reference3Ideal.Read.val_main_v83 (F := Ideal) (a0 m c) (a1 m c) (a2 m c) (a3 m c) (a4 m c) (a5 m c) (a6 m c) (a7 m c)

set_option maxHeartbeats 2000000 in
theorem v83_eq : V m c main_v83 = pa m c := by
  simp only [V, V0, hostOps0, hostOps0_1, hostOps0_2, hostOps0_3, hostOps0_4, hostOps0_5, List.flatten_cons, List.flatten_nil, List.append_nil]
  after_reads_simp; rfl

/-- The second mixer's gated rows. -/
abbrev pb : Vec Ideal S1x4112x1024 .f32 := Cert.Reference3Ideal.Read.val_main_v112 (F := Ideal) (a0 m c) (a1 m c) (a2 m c) (a3 m c) (a10 m c)

set_option maxHeartbeats 2000000 in
theorem v112_eq : V m c main_v112 = pb m c := by
  simp only [V, V0, hostOps0, hostOps0_1, hostOps0_2, hostOps0_3, hostOps0_4, hostOps0_5, List.flatten_cons, List.flatten_nil, List.append_nil]
  after_reads_simp; rfl

/-- The mixed rows. -/
abbrev mx : Vec Ideal S1x4112x1024 .f32 := Cert.Reference3Ideal.Read.val_main_v131 (F := Ideal) (a0 m c) (a1 m c) (a2 m c) (a3 m c) (a4 m c) (a5 m c) (a6 m c) (a7 m c) (a8 m c) (a9 m c) (a10 m c) (a11 m c)

set_option maxHeartbeats 2000000 in
theorem v131_eq : V m c main_v131 = mx m c := by
  simp only [V, V0, hostOps0, hostOps0_1, hostOps0_2, hostOps0_3, hostOps0_4, hostOps0_5, List.flatten_cons, List.flatten_nil, List.append_nil]
  after_reads_simp; rfl

/-- The three products' rows, one after the other. -/
def cat (x y z : Vec Ideal S1x4112x1024 .f32) : Vec Ideal S3x4112x1024 .f32 :=
  concatenate S3x4112x1024 0 [⟨S1x4112x1024, x⟩, ⟨S1x4112x1024, y⟩, ⟨S1x4112x1024, z⟩] concatenates_S1x4112x1024_S1x4112x1024_S1x4112x1024_S3x4112x1024_d0

/-- The rows in the kernel's order: the tokens', rows of zeros, the meta tokens'. -/
def pad (x : Vec Ideal S3x4112x1024 .f32) : Vec Ideal S3x4224x1024 .f32 :=
  concatenate S3x4224x1024 1 [⟨S3x4096x1024, extractStridedSlice S3x4096x1024 ![0, 16, 0] x slices_S3x4112x1024_S3x4096x1024_0_16_0⟩,
    ⟨S3x112x1024, broadcastInDim S3x112x1024 ![] bcast_S_S3x112x1024 (constant (F := Ideal) S_ .f32 0x00000000#32)⟩,
    ⟨S3x16x1024, extractStridedSlice S3x16x1024 ![0, 0, 0] x slices_S3x4112x1024_S3x16x1024_0_0_0⟩] concatenates_S3x4096x1024_S3x112x1024_S3x16x1024_S3x4224x1024_d1

/-- The operand is the padded rows of what the lines before it leave. -/
theorem tail138 (W : Valuation τ sig (Elt Ideal)) : StableHlo.after (hostOps0_5.drop 25) W (Proc.devRef .tc main_v138)
    = pad (cat (W (Proc.devRef .tc main_v83)) (W (Proc.devRef .tc main_v112)) (W (Proc.devRef .tc main_v131))) := by
  simp only [hostOps0_5, List.drop_succ_cons, List.drop_zero]
  after_reads_simp; rfl

/-- The host's last lines run after the others. -/
theorem V0_split : ∃ W : Valuation τ sig (Elt Ideal), V0 m c = StableHlo.after (hostOps0_5.drop 25) W := by
  refine ⟨StableHlo.after (hostOps0_5.take 25) (StableHlo.after (List.flatten [hostOps0, hostOps0_1, hostOps0_2, hostOps0_3, hostOps0_4]) (fun b => m (c, b))), ?_⟩
  rw [← StableHlo.after_append, List.take_append_drop]
  simp only [List.flatten_cons, List.flatten_nil, List.append_nil, V0, StableHlo.after_append]

theorem v138_cat : V m c main_v138 = pad (cat (V m c main_v83) (V m c main_v112) (V m c main_v131)) := by
  obtain ⟨W, h⟩ := V0_split m c
  unfold V
  rw [h, tail138]
  simp only [hostOps0_5, List.drop_succ_cons, List.drop_zero]
  after_reads_simp

/-- The first operand: the activations' rows. -/
theorem v138_eq : V m c main_v138 = pad (cat (pa m c) (pb m c) (mx m c)) := by
  rw [v138_cat, v83_eq, v112_eq, v131_eq]

theorem tail143 (W : Valuation τ sig (Elt Ideal)) : StableHlo.after (hostOps0_5.drop 25) W (Proc.devRef .tc main_v143)
    = pad (cat (W (Proc.devRef .tc main_arg13)) (W (Proc.devRef .tc main_arg14)) (W (Proc.devRef .tc main_arg15))) := by
  simp only [hostOps0_5, List.drop_succ_cons, List.drop_zero]
  after_reads_simp; rfl

theorem v143_cat : V m c main_v143 = pad (cat (V m c main_arg13) (V m c main_arg14) (V m c main_arg15)) := by
  obtain ⟨W, h⟩ := V0_split m c
  unfold V
  rw [h, tail143]
  simp only [hostOps0_5, List.drop_succ_cons, List.drop_zero]
  after_reads_simp

set_option maxHeartbeats 2000000 in
theorem arg13_eq : V m c main_arg13 = a13 m c := by
  simp only [V, V0, hostOps0, hostOps0_1, hostOps0_2, hostOps0_3, hostOps0_4, hostOps0_5, List.flatten_cons, List.flatten_nil, List.append_nil]
  after_reads_simp

set_option maxHeartbeats 2000000 in
theorem arg14_eq : V m c main_arg14 = a14 m c := by
  simp only [V, V0, hostOps0, hostOps0_1, hostOps0_2, hostOps0_3, hostOps0_4, hostOps0_5, List.flatten_cons, List.flatten_nil, List.append_nil]
  after_reads_simp

set_option maxHeartbeats 2000000 in
theorem arg15_eq : V m c main_arg15 = a15 m c := by
  simp only [V, V0, hostOps0, hostOps0_1, hostOps0_2, hostOps0_3, hostOps0_4, hostOps0_5, List.flatten_cons, List.flatten_nil, List.append_nil]
  after_reads_simp

/-- The second operand: the outputs' gradients. -/
theorem v143_eq : V m c main_v143 = pad (cat (a13 m c) (a14 m c) (a15 m c)) := by
  rw [v143_cat, arg13_eq, arg14_eq, arg15_eq]

theorem pad_apply (x : Vec Ideal S3x4112x1024 .f32) (n : Fin 3) (r : Fin 4224) (k : Fin 1024) : pad x (ix3 n r k)
    = if h : r.val < 4096 then x (ix3 n ⟨16 + r.val, by omega⟩ k) else if h' : r.val - 4096 < 112 then 0 else x (ix3 n ⟨r.val - 4096 - 112, by omega⟩ k) := by
  pointwise [pad]

/-- A sum over the padded rows of products is the sum over the rows. -/
theorem sum_pad (x y : Vec Ideal S3x4112x1024 .f32) (n : Fin 3) (p k : Fin 1024) :
    (∑ r : Fin 4224, pad x (ix3 n r p) * pad y (ix3 n r k)) = ∑ r : Fin 4112, (x (ix3 n r p) : EReal) * y (ix3 n r k) := by
  refine (Fin.sum_univ_add (a := 4096) (b := 128) _).trans ?_
  rw [Fin.sum_univ_add (a := 16) (b := 4096) (fun r => (x (ix3 n r p) : EReal) * y (ix3 n r k)), add_comm]
  refine congrArg₂ (· + ·) ((Fin.sum_univ_add (a := 112) (b := 16) _).trans ?_) (Finset.sum_congr rfl fun r _ => ?_)
  · rw [Finset.sum_eq_zero, zero_add]
    · refine Finset.sum_congr rfl fun r _ => ?_
      rw [pad_apply, pad_apply, dif_neg (by simp), dif_neg (by simp), dif_neg (by simp), dif_neg (by simp)]
      have e : (⟨(Fin.natAdd 4096 (Fin.natAdd 112 r)).val - 4096 - 112, by have := r.isLt; simp; omega⟩ : Fin 4112) = Fin.castAdd 4096 r := Fin.ext (by simp)
      rw [e]
    · intro r _
      rw [pad_apply, dif_neg (by simp), dif_pos (by simp), zero_mul]
  · rw [pad_apply, pad_apply, dif_pos (by simp), dif_pos (by simp)]
    rfl

end Cert.Kernel3Ideal.Go

end
-- ==== Proof.Go.Claims.lean ====
/- The claims on `_grad_w_out`: the frames of the kernel and of the reference, and the equality of their results over
the extended reals. -/
module

public import proofs.«01_k».proof.Defs
public import proofs.«01_k».proof.Proof.Gen.Kernel3
public import proofs.«01_k».proof.Proof.Go.Arr
public import proofs.«01_k».proof.Proof.Go.Host

@[expose] public section

set_option maxRecDepth 16384

noncomputable section

namespace Cert.Kernel3Ideal.Go

open Idealize.ShloMosaic Idealize.ShloMosaic.TcCoe Idealize.ShloMosaic.Tactic
open Cert.Kernel3Ideal.Gen

variable (m : (ℓ : Loc nD τ sig) → Buf (Elt Ideal) ℓ) (c : Dev nD)

theorem exit2 : Pipeline.withArrays (cfgs 0).spec c (V0 m c) (fun w => (dats m 0 c).arrAt w (cfgs 0).N) (Proc.devRef .tc main_v145) = prod m c :=
  (Pipeline.withArrays_arr (cfgs 0).spec (by decide) c (V0 m c) (fun w => (dats m 0 c).arrAt w (cfgs 0).N) 2).trans (arr2 m c)

/-- What the program returns. -/
abbrev ret : Vec Ideal S3x1024x1024 .f32 := Pipeline.afterTail₀ cfgs (dats m) 0 (V0 m) [hostOps1] c main_v147

/-- The kernel's result: for each weight the activations' rows against the gradients' rows. -/
theorem ret_apply (n : Fin 3) (p k : Fin 1024) : ret m c (ix3 n p k)
    = ∑ r : Fin 4112, (cat (pa m c) (pb m c) (mx m c) (ix3 n r p) : EReal) * cat (a13 m c) (a14 m c) (a15 m c) (ix3 n r k) := by
  have h : prod m c (ix4 ⟨p.val / 128, by omega⟩ n ⟨p.val % 128, by omega⟩ k)
      = ∑ r : Fin 4112, (cat (pa m c) (pb m c) (mx m c) (ix3 n r p) : EReal) * cat (a13 m c) (a14 m c) (a15 m c) (ix3 n r k) := by
    rw [← sum_pad, ← v138_eq, ← v143_eq]
    have e : col ⟨p.val / 128, by omega⟩ ⟨p.val % 128, by omega⟩ = p := Fin.ext (by show p.val / 128 * 128 + p.val % 128 = p.val; omega)
    unfold prod
    exact Finset.sum_congr rfl fun r _ => congrArg (fun q => (lhs m c (ix3 n r q) : EReal) * rhs m c (ix3 n r k)) e
  rw [← h]
  unfold ret Pipeline.afterTail₀
  simp only [hostOps1, List.flatten_cons, List.flatten_nil, List.append_nil]
  after_reads_simp
  rw [exit2]
  pointwise

/-- The rows of one product. -/
theorem cat_apply (x y z : Vec Ideal S1x4112x1024 .f32) (n : Fin 3) (r : Fin 4112) (k : Fin 1024) :
    cat x y z (ix3 n r k) = if n.val < 1 then x (ix3 0 r k) else if n.val - 1 < 1 then y (ix3 0 r k) else z (ix3 0 r k) := by
  pointwise [cat]
  split_ifs
  all_goals first
    | exact congrArg (fun q : Fin 1 => x (ix3 q r k)) (Subsingleton.elim _ _)
    | exact congrArg (fun q : Fin 1 => y (ix3 q r k)) (Subsingleton.elim _ _)
    | exact congrArg (fun q : Fin 1 => z (ix3 q r k)) (Subsingleton.elim _ _)

/-- The reference's product of one pair of operands. -/
theorem dot_apply (x y : Vec Ideal Cert.Reference3Ideal.S1x4112x1024 .f32) (p k : Fin 1024) :
    Host.dotGeneral (F := Ideal) (φ₁ := .f32) (φ₂ := .f32) Cert.Reference3Ideal.dot_S1x4112x1024_S1x4112x1024_S1024x1024_01_01_2_2_n_n none x y (ix2 k p)
      = ∑ r : Fin 4112, (y (ix3 0 r p) : EReal) * x (ix3 0 r k) := by
  pointwise []
  refine (Fin.sum_univ_one _).trans (Finset.sum_congr rfl fun r _ => ?_)
  exact mul_comm (x (ix3 0 r k) : EReal) (y (ix3 0 r p))

/-- The reference's result. -/
theorem ref_apply (n : Fin 3) (p k : Fin 1024) (x0 x1 x2 x3 x4 x5 x6 x7 x8 x9 x10 x11 x13 x14 x15) :
    Cert.Reference3Ideal.Read.val_main_v147 (F := Ideal) x0 x1 x2 x3 x4 x5 x6 x7 x8 x9 x10 x11 x13 x14 x15 (ix3 n p k)
      = if n.val < 1 then Cert.Reference3Ideal.Read.val_main_v144 (F := Ideal) x0 x1 x2 x3 x4 x5 x6 x7 x13 (ix2 k p)
        else if n.val - 1 < 1 then Cert.Reference3Ideal.Read.val_main_v141 (F := Ideal) x0 x1 x2 x3 x10 x14 (ix2 k p)
        else Cert.Reference3Ideal.Read.val_main_v138 (F := Ideal) x0 x1 x2 x3 x4 x5 x6 x7 x8 x9 x10 x11 x15 (ix2 k p) := by
  unfold Cert.Reference3Ideal.Read.val_main_v147 Cert.Reference3Ideal.Read.val_main_v146 Cert.Reference3Ideal.Read.val_main_v145
    Cert.Reference3Ideal.Read.val_main_v143 Cert.Reference3Ideal.Read.val_main_v142 Cert.Reference3Ideal.Read.val_main_v140 Cert.Reference3Ideal.Read.val_main_v139
  generalize Cert.Reference3Ideal.Read.val_main_v144 (F := Ideal) x0 x1 x2 x3 x4 x5 x6 x7 x13 = u
  generalize Cert.Reference3Ideal.Read.val_main_v141 (F := Ideal) x0 x1 x2 x3 x10 x14 = v
  generalize Cert.Reference3Ideal.Read.val_main_v138 (F := Ideal) x0 x1 x2 x3 x4 x5 x6 x7 x8 x9 x10 x11 x15 = w
  pointwise []
  simp only [dite_eq_ite]

end Cert.Kernel3Ideal.Go

namespace Cert.Proof.Go

open Idealize.ShloMosaic Idealize.ShloMosaic.Tactic Idealize.SL.Sem Cert.Kernel3Ideal.Go

/-- The printed kernel and its idealization are one program, run here at the words. -/
theorem frame_kernel : Cert.quiescent_Kernel3 (hKernel3 := Cert.Kernel3.Gen.facts) := by
  intro m g _
  exact Eq.mp (by sl_kernel_rfl) (Cert.Kernel3Ideal.Gen.frame (F := Bits) m g)

/-- The idealized kernel's frame. -/
theorem frame_ideal : Cert.quiescent_Kernel3Ideal (hKernel3Ideal := Cert.Kernel3Ideal.Gen.facts) := fun m g _ => Cert.Kernel3Ideal.Gen.frame (F := Ideal) m g

/-- The reference's frame. -/
theorem frame_ref : Cert.quiescent_Reference3Ideal (hReference3Ideal := Cert.Reference3Ideal.Gen.facts) := by
  intro m g _
  exact (θ_run Cert.Reference3Ideal.defs _ _).mono (fun r h => ⟨fun c => (h c).2, sem_eq_zero_of_no_sems (by decide) r.2⟩)
    (Cert.Reference3Ideal.Value.run m g)

set_option maxHeartbeats 4000000 in
/-- The kernel's result is the reference's. -/
theorem algebraic : Cert.algebraic_Kernel3Ideal_Reference3Ideal (hKernel3Ideal := Cert.Kernel3Ideal.Gen.facts) (hReference3Ideal := Cert.Reference3Ideal.Gen.facts) := by
  intro m g m' g' hpre hagree
  refine ⟨fun c => ret m c, ?_, ?_⟩
  · refine (θ_run _ _ _).mono (fun r h c => ⟨?_, h.2.1 c⟩) (θ_run_and (Cert.Kernel3Ideal.Gen.run_main_quiescent (F := Ideal) m g) (Cert.Kernel3Ideal.Gen.frame m g))
    exact (h.1.1 c).2 _ (by decide)
  · refine (θ_run _ _ _).mono (fun r h c => ?_) (Cert.Reference3Ideal.Value.run m' g')
    obtain ⟨h0, hargs⟩ := h c
    obtain ⟨e0, e1, e2, e3, e4, e5, e6, e7, e8, e9, e10, e11, e12, e13, e14, e15⟩ := hagree c
    refine ⟨h0.trans ?_, hargs⟩
    refine (Cert.Reference3Ideal.Read.val_main_v147_eq _).trans ?_
    change Cert.Reference3Ideal.Read.val_main_v147 (F := Ideal) (m' (c.tc.loc Cert.Reference3Ideal.main_arg0)) (m' (c.tc.loc Cert.Reference3Ideal.main_arg1)) (m' (c.tc.loc Cert.Reference3Ideal.main_arg2)) (m' (c.tc.loc Cert.Reference3Ideal.main_arg3)) (m' (c.tc.loc Cert.Reference3Ideal.main_arg4)) (m' (c.tc.loc Cert.Reference3Ideal.main_arg5)) (m' (c.tc.loc Cert.Reference3Ideal.main_arg6)) (m' (c.tc.loc Cert.Reference3Ideal.main_arg7)) (m' (c.tc.loc Cert.Reference3Ideal.main_arg8)) (m' (c.tc.loc Cert.Reference3Ideal.main_arg9)) (m' (c.tc.loc Cert.Reference3Ideal.main_arg10)) (m' (c.tc.loc Cert.Reference3Ideal.main_arg11)) (m' (c.tc.loc Cert.Reference3Ideal.main_arg13)) (m' (c.tc.loc Cert.Reference3Ideal.main_arg14)) (m' (c.tc.loc Cert.Reference3Ideal.main_arg15)) = _
    rw [e0, e1, e2, e3, e4, e5, e6, e7, e8, e9, e10, e11, e13, e14, e15]
    funext y
    obtain ⟨n, p, k, rfl⟩ : ∃ (n : Fin 3) (p k : Fin 1024), y = ix3 n p k := ⟨y 0, y 1, y 2, eq_ix3 y⟩
    refine (ref_apply n p k ..).trans (Eq.trans ?_ (ret_apply m c n p k).symm)
    simp only [cat_apply]
    split_ifs
    · exact dot_apply _ _ p k
    · exact dot_apply _ _ p k
    · exact dot_apply _ _ p k

end Cert.Proof.Go

end
-- ==== Proof.lean ====
module

public import proofs.«01_k».proof.Defs
public import proofs.«01_k».proof.Proof.In.Claims
public import proofs.«01_k».proof.Proof.Fp.Claims
public import proofs.«01_k».proof.Proof.Go.Claims

@[expose] public section

noncomputable section

namespace Cert.Proof

/-- The claims together, under the programs' side conditions. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite.Gen.facts,
  In.frame_kernel, In.frame_ideal, In.frame_ref, Fp.frame_kernel, Fp.frame_ideal, Fp.frame_ideal_finite, Fp.frame_ref, Fp.frame_ref_finite,
  Go.frame_kernel, Go.frame_ideal, Go.frame_ref, trivial, In.algebraic, trivial, Fp.algebraic, trivial, Go.algebraic⟩

end Cert.Proof

end
